-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Grads (m : (ℓ : Loc Cert.Grads.nD Cert.Grads.τ Cert.Grads.sig) → Buf (Elt Bits) ℓ) : Prop :=
  True

def Pre_GradsIdeal (m : (ℓ : Loc Cert.GradsIdeal.nD Cert.GradsIdeal.τ Cert.GradsIdeal.sig) → Buf (Elt Ideal) ℓ) : Prop :=
  True

def Pre_GradsRefIdeal (m : (ℓ : Loc Cert.GradsRefIdeal.nD Cert.GradsRefIdeal.τ Cert.GradsRefIdeal.sig) → Buf (Elt Ideal) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInRefIdeal (m : (ℓ : Loc Cert.UpdateInRefIdeal.nD Cert.UpdateInRefIdeal.τ Cert.UpdateInRefIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutRefIdeal (m : (ℓ : Loc Cert.UpdateOutRefIdeal.nD Cert.UpdateOutRefIdeal.τ Cert.UpdateOutRefIdeal.sig) → Buf (Elt Ideal) ℓ) : Prop :=
  True

def Pre_UpdateMlp (m : (ℓ : Loc Cert.UpdateMlp.nD Cert.UpdateMlp.τ Cert.UpdateMlp.sig) → Buf (Elt Bits) ℓ) : Prop :=
  True

def Pre_UpdateMlpIdeal (m : (ℓ : Loc Cert.UpdateMlpIdeal.nD Cert.UpdateMlpIdeal.τ Cert.UpdateMlpIdeal.sig) → Buf (Elt Ideal) ℓ) : Prop :=
  True

def Pre_UpdateMlpRefIdeal (m : (ℓ : Loc Cert.UpdateMlpRefIdeal.nD Cert.UpdateMlpRefIdeal.τ Cert.UpdateMlpRefIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdateSmallRefIdeal (m : (ℓ : Loc Cert.UpdateSmallRefIdeal.nD Cert.UpdateSmallRefIdeal.τ Cert.UpdateSmallRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumMlp (m : (ℓ : Loc Cert.SumMlp.nD Cert.SumMlp.τ Cert.SumMlp.sig) → Buf (Elt Bits) ℓ) : Prop :=
  True

def Pre_SumMlpIdeal (m : (ℓ : Loc Cert.SumMlpIdeal.nD Cert.SumMlpIdeal.τ Cert.SumMlpIdeal.sig) → Buf (Elt Ideal) ℓ) : Prop :=
  True

def Pre_SumMlpRefIdeal (m : (ℓ : Loc Cert.SumMlpRefIdeal.nD Cert.SumMlpRefIdeal.τ Cert.SumMlpRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_ProductDown (m : (ℓ : Loc Cert.ProductDown.nD Cert.ProductDown.τ Cert.ProductDown.sig) → Buf (Elt Bits) ℓ) : Prop :=
  True

def Pre_ProductDownIdeal (m : (ℓ : Loc Cert.ProductDownIdeal.nD Cert.ProductDownIdeal.τ Cert.ProductDownIdeal.sig) → Buf (Elt Ideal) ℓ) : Prop :=
  True

def Pre_ProductDownRefIdeal (m : (ℓ : Loc Cert.ProductDownRefIdeal.nD Cert.ProductDownRefIdeal.τ Cert.ProductDownRefIdeal.sig) → Buf (Elt Ideal) ℓ) : Prop :=
  True

def Pre_ProductUp (m : (ℓ : Loc Cert.ProductUp.nD Cert.ProductUp.τ Cert.ProductUp.sig) → Buf (Elt Bits) ℓ) : Prop :=
  True

def Pre_ProductUpIdeal (m : (ℓ : Loc Cert.ProductUpIdeal.nD Cert.ProductUpIdeal.τ Cert.ProductUpIdeal.sig) → Buf (Elt Ideal) ℓ) : Prop :=
  True

def Pre_ProductUpRefIdeal (m : (ℓ : Loc Cert.ProductUpRefIdeal.nD Cert.ProductUpRefIdeal.τ Cert.ProductUpRefIdeal.sig) → Buf (Elt Ideal) ℓ) : Prop :=
  True

def Pre_ProductOut (m : (ℓ : Loc Cert.ProductOut.nD Cert.ProductOut.τ Cert.ProductOut.sig) → Buf (Elt Bits) ℓ) : Prop :=
  True

def Pre_ProductOutIdeal (m : (ℓ : Loc Cert.ProductOutIdeal.nD Cert.ProductOutIdeal.τ Cert.ProductOutIdeal.sig) → Buf (Elt Ideal) ℓ) : Prop :=
  True

def Pre_ProductOutRefIdeal (m : (ℓ : Loc Cert.ProductOutRefIdeal.nD Cert.ProductOutRefIdeal.τ Cert.ProductOutRefIdeal.sig) → Buf (Elt Ideal) ℓ) : Prop :=
  True

def Pre_ProductHead (m : (ℓ : Loc Cert.ProductHead.nD Cert.ProductHead.τ Cert.ProductHead.sig) → Buf (Elt Bits) ℓ) : Prop :=
  True

def Pre_ProductHeadIdeal (m : (ℓ : Loc Cert.ProductHeadIdeal.nD Cert.ProductHeadIdeal.τ Cert.ProductHeadIdeal.sig) → Buf (Elt Ideal) ℓ) : Prop :=
  True

def Pre_ProductHeadRefIdeal (m : (ℓ : Loc Cert.ProductHeadRefIdeal.nD Cert.ProductHeadRefIdeal.τ Cert.ProductHeadRefIdeal.sig) → Buf (Elt Ideal) ℓ) : Prop :=
  True

def Pre_ProductRest (m : (ℓ : Loc Cert.ProductRest.nD Cert.ProductRest.τ Cert.ProductRest.sig) → Buf (Elt Bits) ℓ) : Prop :=
  True

def Pre_ProductRestIdeal (m : (ℓ : Loc Cert.ProductRestIdeal.nD Cert.ProductRestIdeal.τ Cert.ProductRestIdeal.sig) → Buf (Elt Ideal) ℓ) : Prop :=
  True

def Pre_ProductRestRefIdeal (m : (ℓ : Loc Cert.ProductRestRefIdeal.nD Cert.ProductRestRefIdeal.τ Cert.ProductRestRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Grads [hGrads : Cert.Grads.Facts] : Prop :=
  ∀ (m : (ℓ : Loc Cert.Grads.nD Cert.Grads.τ Cert.Grads.sig) → Buf (Elt Bits) ℓ) (g : Dev Cert.Grads.nD → PrngReg), Pre_Grads m →
    θ_run (Cert.Grads.defs (F := Bits)) (onTc (τ := Cert.Grads.τ) (Cert.Grads.main (F := Bits))) ⟨m, fun _ => 0, g⟩ (fun r => (∀ c : Dev Cert.Grads.nD,
      r.2.mem ((c.tc : Thread Cert.Grads.nD Cert.Grads.τ).loc Cert.Grads.main_arg0) = m ((c.tc : Thread Cert.Grads.nD Cert.Grads.τ).loc Cert.Grads.main_arg0)
      ∧ r.2.mem ((c.tc : Thread Cert.Grads.nD Cert.Grads.τ).loc Cert.Grads.main_arg1) = m ((c.tc : Thread Cert.Grads.nD Cert.Grads.τ).loc Cert.Grads.main_arg1)
      ∧ r.2.mem ((c.tc : Thread Cert.Grads.nD Cert.Grads.τ).loc Cert.Grads.main_arg2) = m ((c.tc : Thread Cert.Grads.nD Cert.Grads.τ).loc Cert.Grads.main_arg2)
      ∧ r.2.mem ((c.tc : Thread Cert.Grads.nD Cert.Grads.τ).loc Cert.Grads.main_arg3) = m ((c.tc : Thread Cert.Grads.nD Cert.Grads.τ).loc Cert.Grads.main_arg3)
      ∧ r.2.mem ((c.tc : Thread Cert.Grads.nD Cert.Grads.τ).loc Cert.Grads.main_arg4) = m ((c.tc : Thread Cert.Grads.nD Cert.Grads.τ).loc Cert.Grads.main_arg4))
      ∧ r.2.sem = fun _ => 0)

def quiescent_GradsIdeal [hGradsIdeal : Cert.GradsIdeal.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0)
      ∧ r.2.mem ((c.tc : Thread Cert.GradsIdeal.nD Cert.GradsIdeal.τ).loc Cert.GradsIdeal.main_arg1) = m ((c.tc : Thread Cert.GradsIdeal.nD Cert.GradsIdeal.τ).loc Cert.GradsIdeal.main_arg1)
      ∧ r.2.mem ((c.tc : Thread Cert.GradsIdeal.nD Cert.GradsIdeal.τ).loc Cert.GradsIdeal.main_arg2) = m ((c.tc : Thread Cert.GradsIdeal.nD Cert.GradsIdeal.τ).loc Cert.GradsIdeal.main_arg2)
      ∧ r.2.mem ((c.tc : Thread Cert.GradsIdeal.nD Cert.GradsIdeal.τ).loc Cert.GradsIdeal.main_arg3) = m ((c.tc : Thread Cert.GradsIdeal.nD Cert.GradsIdeal.τ).loc Cert.GradsIdeal.main_arg3)
      ∧ r.2.mem ((c.tc : Thread Cert.GradsIdeal.nD Cert.GradsIdeal.τ).loc Cert.GradsIdeal.main_arg4) = m ((c.tc : Thread Cert.GradsIdeal.nD Cert.GradsIdeal.τ).loc Cert.GradsIdeal.main_arg4))
      ∧ r.2.sem = fun _ => 0)

def quiescent_GradsRefIdeal [hGradsRefIdeal : Cert.GradsRefIdeal.Facts] : Prop :=
  ∀ (m : (ℓ : Loc Cert.GradsRefIdeal.nD Cert.GradsRefIdeal.τ Cert.GradsRefIdeal.sig) → Buf (Elt Ideal) ℓ) (g : Dev Cert.GradsRefIdeal.nD → PrngReg), Pre_GradsRefIdeal m →
    θ_run (Cert.GradsRefIdeal.defs (F := Ideal)) (onTc (τ := Cert.GradsRefIdeal.τ) (Cert.GradsRefIdeal.main (F := Ideal))) ⟨m, fun _ => 0, g⟩ (fun r => (∀ c : Dev Cert.GradsRefIdeal.nD,
      r.2.mem ((c.tc : Thread Cert.GradsRefIdeal.nD Cert.GradsRefIdeal.τ).loc Cert.GradsRefIdeal.main_arg0) = m ((c.tc : Thread Cert.GradsRefIdeal.nD Cert.GradsRefIdeal.τ).loc Cert.GradsRefIdeal.main_arg0)
      ∧ r.2.mem ((c.tc : Thread Cert.GradsRefIdeal.nD Cert.GradsRefIdeal.τ).loc Cert.GradsRefIdeal.main_arg1) = m ((c.tc : Thread Cert.GradsRefIdeal.nD Cert.GradsRefIdeal.τ).loc Cert.GradsRefIdeal.main_arg1)
      ∧ r.2.mem ((c.tc : Thread Cert.GradsRefIdeal.nD Cert.GradsRefIdeal.τ).loc Cert.GradsRefIdeal.main_arg2) = m ((c.tc : Thread Cert.GradsRefIdeal.nD Cert.GradsRefIdeal.τ).loc Cert.GradsRefIdeal.main_arg2)
      ∧ r.2.mem ((c.tc : Thread Cert.GradsRefIdeal.nD Cert.GradsRefIdeal.τ).loc Cert.GradsRefIdeal.main_arg3) = m ((c.tc : Thread Cert.GradsRefIdeal.nD Cert.GradsRefIdeal.τ).loc Cert.GradsRefIdeal.main_arg3)
      ∧ r.2.mem ((c.tc : Thread Cert.GradsRefIdeal.nD Cert.GradsRefIdeal.τ).loc Cert.GradsRefIdeal.main_arg4) = m ((c.tc : Thread Cert.GradsRefIdeal.nD Cert.GradsRefIdeal.τ).loc Cert.GradsRefIdeal.main_arg4))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0)
      ∧ r.2.mem ((c.tc : Thread Cert.Sibling.nD Cert.Sibling.τ).loc Cert.Sibling.main_arg1) = m ((c.tc : Thread Cert.Sibling.nD Cert.Sibling.τ).loc Cert.Sibling.main_arg1)
      ∧ r.2.mem ((c.tc : Thread Cert.Sibling.nD Cert.Sibling.τ).loc Cert.Sibling.main_arg2) = m ((c.tc : Thread Cert.Sibling.nD Cert.Sibling.τ).loc Cert.Sibling.main_arg2)
      ∧ r.2.mem ((c.tc : Thread Cert.Sibling.nD Cert.Sibling.τ).loc Cert.Sibling.main_arg3) = m ((c.tc : Thread Cert.Sibling.nD Cert.Sibling.τ).loc Cert.Sibling.main_arg3)
      ∧ r.2.mem ((c.tc : Thread Cert.Sibling.nD Cert.Sibling.τ).loc Cert.Sibling.main_arg4) = m ((c.tc : Thread Cert.Sibling.nD Cert.Sibling.τ).loc Cert.Sibling.main_arg4))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
      ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
      ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2)
      ∧ r.2.mem ((c.tc : Thread Cert.SiblingIdeal.nD Cert.SiblingIdeal.τ).loc Cert.SiblingIdeal.main_arg3) = m ((c.tc : Thread Cert.SiblingIdeal.nD Cert.SiblingIdeal.τ).loc Cert.SiblingIdeal.main_arg3)
      ∧ r.2.mem ((c.tc : Thread Cert.SiblingIdeal.nD Cert.SiblingIdeal.τ).loc Cert.SiblingIdeal.main_arg4) = m ((c.tc : Thread Cert.SiblingIdeal.nD Cert.SiblingIdeal.τ).loc Cert.SiblingIdeal.main_arg4))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0)
      ∧ r.2.mem ((c.tc : Thread Cert.SiblingRefIdeal.nD Cert.SiblingRefIdeal.τ).loc Cert.SiblingRefIdeal.main_arg1) = m ((c.tc : Thread Cert.SiblingRefIdeal.nD Cert.SiblingRefIdeal.τ).loc Cert.SiblingRefIdeal.main_arg1)
      ∧ r.2.mem ((c.tc : Thread Cert.SiblingRefIdeal.nD Cert.SiblingRefIdeal.τ).loc Cert.SiblingRefIdeal.main_arg2) = m ((c.tc : Thread Cert.SiblingRefIdeal.nD Cert.SiblingRefIdeal.τ).loc Cert.SiblingRefIdeal.main_arg2)
      ∧ r.2.mem ((c.tc : Thread Cert.SiblingRefIdeal.nD Cert.SiblingRefIdeal.τ).loc Cert.SiblingRefIdeal.main_arg3) = m ((c.tc : Thread Cert.SiblingRefIdeal.nD Cert.SiblingRefIdeal.τ).loc Cert.SiblingRefIdeal.main_arg3)
      ∧ r.2.mem ((c.tc : Thread Cert.SiblingRefIdeal.nD Cert.SiblingRefIdeal.τ).loc Cert.SiblingRefIdeal.main_arg4) = m ((c.tc : Thread Cert.SiblingRefIdeal.nD Cert.SiblingRefIdeal.τ).loc Cert.SiblingRefIdeal.main_arg4))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3)
      ∧ r.2.mem ((c.tc : Thread Cert.UpdateIn.nD Cert.UpdateIn.τ).loc Cert.UpdateIn.main_arg4) = m ((c.tc : Thread Cert.UpdateIn.nD Cert.UpdateIn.τ).loc Cert.UpdateIn.main_arg4))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
      ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ r.2.sem = fun _ => 0)

def quiescent_UpdateInRefIdeal [hUpdateInRefIdeal : Cert.UpdateInRefIdeal.Facts] : Prop :=
  ∀ (m : (ℓ : Loc Cert.UpdateInRefIdeal.nD Cert.UpdateInRefIdeal.τ Cert.UpdateInRefIdeal.sig) → Buf (Elt Ideal) ℓ) (g : Dev Cert.UpdateInRefIdeal.nD → PrngReg), Pre_UpdateInRefIdeal m →
    θ_run (Cert.UpdateInRefIdeal.defs (F := Ideal)) (onTc (τ := Cert.UpdateInRefIdeal.τ) (Cert.UpdateInRefIdeal.main (F := Ideal))) ⟨m, fun _ => 0, g⟩ (fun r => (∀ c : Dev Cert.UpdateInRefIdeal.nD,
      r.2.mem ((c.tc : Thread Cert.UpdateInRefIdeal.nD Cert.UpdateInRefIdeal.τ).loc Cert.UpdateInRefIdeal.main_arg0) = m ((c.tc : Thread Cert.UpdateInRefIdeal.nD Cert.UpdateInRefIdeal.τ).loc Cert.UpdateInRefIdeal.main_arg0)
      ∧ r.2.mem ((c.tc : Thread Cert.UpdateInRefIdeal.nD Cert.UpdateInRefIdeal.τ).loc Cert.UpdateInRefIdeal.main_arg1) = m ((c.tc : Thread Cert.UpdateInRefIdeal.nD Cert.UpdateInRefIdeal.τ).loc Cert.UpdateInRefIdeal.main_arg1)
      ∧ r.2.mem ((c.tc : Thread Cert.UpdateInRefIdeal.nD Cert.UpdateInRefIdeal.τ).loc Cert.UpdateInRefIdeal.main_arg2) = m ((c.tc : Thread Cert.UpdateInRefIdeal.nD Cert.UpdateInRefIdeal.τ).loc Cert.UpdateInRefIdeal.main_arg2)
      ∧ r.2.mem ((c.tc : Thread Cert.UpdateInRefIdeal.nD Cert.UpdateInRefIdeal.τ).loc Cert.UpdateInRefIdeal.main_arg3) = m ((c.tc : Thread Cert.UpdateInRefIdeal.nD Cert.UpdateInRefIdeal.τ).loc Cert.UpdateInRefIdeal.main_arg3)
      ∧ r.2.mem ((c.tc : Thread Cert.UpdateInRefIdeal.nD Cert.UpdateInRefIdeal.τ).loc Cert.UpdateInRefIdeal.main_arg4) = m ((c.tc : Thread Cert.UpdateInRefIdeal.nD Cert.UpdateInRefIdeal.τ).loc Cert.UpdateInRefIdeal.main_arg4))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3)
      ∧ r.2.mem ((c.tc : Thread Cert.UpdateOut.nD Cert.UpdateOut.τ).loc Cert.UpdateOut.main_arg4) = m ((c.tc : Thread Cert.UpdateOut.nD Cert.UpdateOut.τ).loc Cert.UpdateOut.main_arg4))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3)
      ∧ r.2.mem ((c.tc : Thread Cert.UpdateOutIdeal.nD Cert.UpdateOutIdeal.τ).loc Cert.UpdateOutIdeal.main_arg4) = m ((c.tc : Thread Cert.UpdateOutIdeal.nD Cert.UpdateOutIdeal.τ).loc Cert.UpdateOutIdeal.main_arg4))
      ∧ r.2.sem = fun _ => 0)

def quiescent_UpdateOutRefIdeal [hUpdateOutRefIdeal : Cert.UpdateOutRefIdeal.Facts] : Prop :=
  ∀ (m : (ℓ : Loc Cert.UpdateOutRefIdeal.nD Cert.UpdateOutRefIdeal.τ Cert.UpdateOutRefIdeal.sig) → Buf (Elt Ideal) ℓ) (g : Dev Cert.UpdateOutRefIdeal.nD → PrngReg), Pre_UpdateOutRefIdeal m →
    θ_run (Cert.UpdateOutRefIdeal.defs (F := Ideal)) (onTc (τ := Cert.UpdateOutRefIdeal.τ) (Cert.UpdateOutRefIdeal.main (F := Ideal))) ⟨m, fun _ => 0, g⟩ (fun r => (∀ c : Dev Cert.UpdateOutRefIdeal.nD,
      r.2.mem ((c.tc : Thread Cert.UpdateOutRefIdeal.nD Cert.UpdateOutRefIdeal.τ).loc Cert.UpdateOutRefIdeal.main_arg0) = m ((c.tc : Thread Cert.UpdateOutRefIdeal.nD Cert.UpdateOutRefIdeal.τ).loc Cert.UpdateOutRefIdeal.main_arg0)
      ∧ r.2.mem ((c.tc : Thread Cert.UpdateOutRefIdeal.nD Cert.UpdateOutRefIdeal.τ).loc Cert.UpdateOutRefIdeal.main_arg1) = m ((c.tc : Thread Cert.UpdateOutRefIdeal.nD Cert.UpdateOutRefIdeal.τ).loc Cert.UpdateOutRefIdeal.main_arg1)
      ∧ r.2.mem ((c.tc : Thread Cert.UpdateOutRefIdeal.nD Cert.UpdateOutRefIdeal.τ).loc Cert.UpdateOutRefIdeal.main_arg2) = m ((c.tc : Thread Cert.UpdateOutRefIdeal.nD Cert.UpdateOutRefIdeal.τ).loc Cert.UpdateOutRefIdeal.main_arg2)
      ∧ r.2.mem ((c.tc : Thread Cert.UpdateOutRefIdeal.nD Cert.UpdateOutRefIdeal.τ).loc Cert.UpdateOutRefIdeal.main_arg3) = m ((c.tc : Thread Cert.UpdateOutRefIdeal.nD Cert.UpdateOutRefIdeal.τ).loc Cert.UpdateOutRefIdeal.main_arg3)
      ∧ r.2.mem ((c.tc : Thread Cert.UpdateOutRefIdeal.nD Cert.UpdateOutRefIdeal.τ).loc Cert.UpdateOutRefIdeal.main_arg4) = m ((c.tc : Thread Cert.UpdateOutRefIdeal.nD Cert.UpdateOutRefIdeal.τ).loc Cert.UpdateOutRefIdeal.main_arg4))
      ∧ r.2.sem = fun _ => 0)

def quiescent_UpdateMlp [hUpdateMlp : Cert.UpdateMlp.Facts] : Prop :=
  ∀ (m : (ℓ : Loc Cert.UpdateMlp.nD Cert.UpdateMlp.τ Cert.UpdateMlp.sig) → Buf (Elt Bits) ℓ) (g : Dev Cert.UpdateMlp.nD → PrngReg), Pre_UpdateMlp m →
    θ_run (Cert.UpdateMlp.defs (F := Bits)) (onTc (τ := Cert.UpdateMlp.τ) (Cert.UpdateMlp.main (F := Bits))) ⟨m, fun _ => 0, g⟩ (fun r => (∀ c : Dev Cert.UpdateMlp.nD,
      r.2.mem ((c.tc : Thread Cert.UpdateMlp.nD Cert.UpdateMlp.τ).loc Cert.UpdateMlp.main_arg0) = m ((c.tc : Thread Cert.UpdateMlp.nD Cert.UpdateMlp.τ).loc Cert.UpdateMlp.main_arg0)
      ∧ r.2.mem ((c.tc : Thread Cert.UpdateMlp.nD Cert.UpdateMlp.τ).loc Cert.UpdateMlp.main_arg1) = m ((c.tc : Thread Cert.UpdateMlp.nD Cert.UpdateMlp.τ).loc Cert.UpdateMlp.main_arg1)
      ∧ r.2.mem ((c.tc : Thread Cert.UpdateMlp.nD Cert.UpdateMlp.τ).loc Cert.UpdateMlp.main_arg2) = m ((c.tc : Thread Cert.UpdateMlp.nD Cert.UpdateMlp.τ).loc Cert.UpdateMlp.main_arg2)
      ∧ r.2.mem ((c.tc : Thread Cert.UpdateMlp.nD Cert.UpdateMlp.τ).loc Cert.UpdateMlp.main_arg3) = m ((c.tc : Thread Cert.UpdateMlp.nD Cert.UpdateMlp.τ).loc Cert.UpdateMlp.main_arg3)
      ∧ r.2.mem ((c.tc : Thread Cert.UpdateMlp.nD Cert.UpdateMlp.τ).loc Cert.UpdateMlp.main_arg4) = m ((c.tc : Thread Cert.UpdateMlp.nD Cert.UpdateMlp.τ).loc Cert.UpdateMlp.main_arg4))
      ∧ r.2.sem = fun _ => 0)

def quiescent_UpdateMlpIdeal [hUpdateMlpIdeal : Cert.UpdateMlpIdeal.Facts] : Prop :=
  ∀ (m : (ℓ : Loc Cert.UpdateMlpIdeal.nD Cert.UpdateMlpIdeal.τ Cert.UpdateMlpIdeal.sig) → Buf (Elt Ideal) ℓ) (g : Dev Cert.UpdateMlpIdeal.nD → PrngReg), Pre_UpdateMlpIdeal m →
    θ_run (Cert.UpdateMlpIdeal.defs (F := Ideal)) (onTc (τ := Cert.UpdateMlpIdeal.τ) (Cert.UpdateMlpIdeal.main (F := Ideal))) ⟨m, fun _ => 0, g⟩ (fun r => (∀ c : Dev Cert.UpdateMlpIdeal.nD,
      r.2.mem ((c.tc : Thread Cert.UpdateMlpIdeal.nD Cert.UpdateMlpIdeal.τ).loc Cert.UpdateMlpIdeal.main_arg0) = m ((c.tc : Thread Cert.UpdateMlpIdeal.nD Cert.UpdateMlpIdeal.τ).loc Cert.UpdateMlpIdeal.main_arg0)
      ∧ r.2.mem ((c.tc : Thread Cert.UpdateMlpIdeal.nD Cert.UpdateMlpIdeal.τ).loc Cert.UpdateMlpIdeal.main_arg1) = m ((c.tc : Thread Cert.UpdateMlpIdeal.nD Cert.UpdateMlpIdeal.τ).loc Cert.UpdateMlpIdeal.main_arg1)
      ∧ r.2.mem ((c.tc : Thread Cert.UpdateMlpIdeal.nD Cert.UpdateMlpIdeal.τ).loc Cert.UpdateMlpIdeal.main_arg2) = m ((c.tc : Thread Cert.UpdateMlpIdeal.nD Cert.UpdateMlpIdeal.τ).loc Cert.UpdateMlpIdeal.main_arg2)
      ∧ r.2.mem ((c.tc : Thread Cert.UpdateMlpIdeal.nD Cert.UpdateMlpIdeal.τ).loc Cert.UpdateMlpIdeal.main_arg3) = m ((c.tc : Thread Cert.UpdateMlpIdeal.nD Cert.UpdateMlpIdeal.τ).loc Cert.UpdateMlpIdeal.main_arg3)
      ∧ r.2.mem ((c.tc : Thread Cert.UpdateMlpIdeal.nD Cert.UpdateMlpIdeal.τ).loc Cert.UpdateMlpIdeal.main_arg4) = m ((c.tc : Thread Cert.UpdateMlpIdeal.nD Cert.UpdateMlpIdeal.τ).loc Cert.UpdateMlpIdeal.main_arg4))
      ∧ r.2.sem = fun _ => 0)

def quiescent_UpdateMlpRefIdeal [hUpdateMlpRefIdeal : Cert.UpdateMlpRefIdeal.Facts] : Prop :=
  ∀ (m : (ℓ : Loc Cert.UpdateMlpRefIdeal.nD Cert.UpdateMlpRefIdeal.τ Cert.UpdateMlpRefIdeal.sig) → Buf (Elt Ideal) ℓ) (g : Dev Cert.UpdateMlpRefIdeal.nD → PrngReg), Pre_UpdateMlpRefIdeal m →
    θ_run (Cert.UpdateMlpRefIdeal.defs (F := Ideal)) (onTc (τ := Cert.UpdateMlpRefIdeal.τ) (Cert.UpdateMlpRefIdeal.main (F := Ideal))) ⟨m, fun _ => 0, g⟩ (fun r => (∀ c : Dev Cert.UpdateMlpRefIdeal.nD,
      r.2.mem ((c.tc : Thread Cert.UpdateMlpRefIdeal.nD Cert.UpdateMlpRefIdeal.τ).loc Cert.UpdateMlpRefIdeal.main_arg0) = m ((c.tc : Thread Cert.UpdateMlpRefIdeal.nD Cert.UpdateMlpRefIdeal.τ).loc Cert.UpdateMlpRefIdeal.main_arg0)
      ∧ r.2.mem ((c.tc : Thread Cert.UpdateMlpRefIdeal.nD Cert.UpdateMlpRefIdeal.τ).loc Cert.UpdateMlpRefIdeal.main_arg1) = m ((c.tc : Thread Cert.UpdateMlpRefIdeal.nD Cert.UpdateMlpRefIdeal.τ).loc Cert.UpdateMlpRefIdeal.main_arg1)
      ∧ r.2.mem ((c.tc : Thread Cert.UpdateMlpRefIdeal.nD Cert.UpdateMlpRefIdeal.τ).loc Cert.UpdateMlpRefIdeal.main_arg2) = m ((c.tc : Thread Cert.UpdateMlpRefIdeal.nD Cert.UpdateMlpRefIdeal.τ).loc Cert.UpdateMlpRefIdeal.main_arg2)
      ∧ r.2.mem ((c.tc : Thread Cert.UpdateMlpRefIdeal.nD Cert.UpdateMlpRefIdeal.τ).loc Cert.UpdateMlpRefIdeal.main_arg3) = m ((c.tc : Thread Cert.UpdateMlpRefIdeal.nD Cert.UpdateMlpRefIdeal.τ).loc Cert.UpdateMlpRefIdeal.main_arg3)
      ∧ r.2.mem ((c.tc : Thread Cert.UpdateMlpRefIdeal.nD Cert.UpdateMlpRefIdeal.τ).loc Cert.UpdateMlpRefIdeal.main_arg4) = m ((c.tc : Thread Cert.UpdateMlpRefIdeal.nD Cert.UpdateMlpRefIdeal.τ).loc Cert.UpdateMlpRefIdeal.main_arg4))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3)
      ∧ r.2.mem ((c.tc : Thread Cert.UpdateSmall.nD Cert.UpdateSmall.τ).loc Cert.UpdateSmall.main_arg4) = m ((c.tc : Thread Cert.UpdateSmall.nD Cert.UpdateSmall.τ).loc Cert.UpdateSmall.main_arg4))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3)
      ∧ r.2.mem ((c.tc : Thread Cert.UpdateSmallIdeal.nD Cert.UpdateSmallIdeal.τ).loc Cert.UpdateSmallIdeal.main_arg4) = m ((c.tc : Thread Cert.UpdateSmallIdeal.nD Cert.UpdateSmallIdeal.τ).loc Cert.UpdateSmallIdeal.main_arg4))
      ∧ r.2.sem = fun _ => 0)

def quiescent_UpdateSmallRefIdeal [hUpdateSmallRefIdeal : Cert.UpdateSmallRefIdeal.Facts] : Prop :=
  ∀ (m : (ℓ : Loc Cert.UpdateSmallRefIdeal.nD Cert.UpdateSmallRefIdeal.τ Cert.UpdateSmallRefIdeal.sig) → Buf (Elt Ideal) ℓ) (g : Dev Cert.UpdateSmallRefIdeal.nD → PrngReg), Pre_UpdateSmallRefIdeal m →
    θ_run (Cert.UpdateSmallRefIdeal.defs (F := Ideal)) (onTc (τ := Cert.UpdateSmallRefIdeal.τ) (Cert.UpdateSmallRefIdeal.main (F := Ideal))) ⟨m, fun _ => 0, g⟩ (fun r => (∀ c : Dev Cert.UpdateSmallRefIdeal.nD,
      r.2.mem ((c.tc : Thread Cert.UpdateSmallRefIdeal.nD Cert.UpdateSmallRefIdeal.τ).loc Cert.UpdateSmallRefIdeal.main_arg0) = m ((c.tc : Thread Cert.UpdateSmallRefIdeal.nD Cert.UpdateSmallRefIdeal.τ).loc Cert.UpdateSmallRefIdeal.main_arg0)
      ∧ r.2.mem ((c.tc : Thread Cert.UpdateSmallRefIdeal.nD Cert.UpdateSmallRefIdeal.τ).loc Cert.UpdateSmallRefIdeal.main_arg1) = m ((c.tc : Thread Cert.UpdateSmallRefIdeal.nD Cert.UpdateSmallRefIdeal.τ).loc Cert.UpdateSmallRefIdeal.main_arg1)
      ∧ r.2.mem ((c.tc : Thread Cert.UpdateSmallRefIdeal.nD Cert.UpdateSmallRefIdeal.τ).loc Cert.UpdateSmallRefIdeal.main_arg2) = m ((c.tc : Thread Cert.UpdateSmallRefIdeal.nD Cert.UpdateSmallRefIdeal.τ).loc Cert.UpdateSmallRefIdeal.main_arg2)
      ∧ r.2.mem ((c.tc : Thread Cert.UpdateSmallRefIdeal.nD Cert.UpdateSmallRefIdeal.τ).loc Cert.UpdateSmallRefIdeal.main_arg3) = m ((c.tc : Thread Cert.UpdateSmallRefIdeal.nD Cert.UpdateSmallRefIdeal.τ).loc Cert.UpdateSmallRefIdeal.main_arg3)
      ∧ r.2.mem ((c.tc : Thread Cert.UpdateSmallRefIdeal.nD Cert.UpdateSmallRefIdeal.τ).loc Cert.UpdateSmallRefIdeal.main_arg4) = m ((c.tc : Thread Cert.UpdateSmallRefIdeal.nD Cert.UpdateSmallRefIdeal.τ).loc Cert.UpdateSmallRefIdeal.main_arg4))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1)
      ∧ r.2.mem ((c.tc : Thread Cert.SumOut.nD Cert.SumOut.τ).loc Cert.SumOut.main_arg2) = m ((c.tc : Thread Cert.SumOut.nD Cert.SumOut.τ).loc Cert.SumOut.main_arg2))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
      ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1)
      ∧ r.2.mem ((c.tc : Thread Cert.SumOutRefIdeal.nD Cert.SumOutRefIdeal.τ).loc Cert.SumOutRefIdeal.main_arg2) = m ((c.tc : Thread Cert.SumOutRefIdeal.nD Cert.SumOutRefIdeal.τ).loc Cert.SumOutRefIdeal.main_arg2))
      ∧ r.2.sem = fun _ => 0)

def quiescent_SumMlp [hSumMlp : Cert.SumMlp.Facts] : Prop :=
  ∀ (m : (ℓ : Loc Cert.SumMlp.nD Cert.SumMlp.τ Cert.SumMlp.sig) → Buf (Elt Bits) ℓ) (g : Dev Cert.SumMlp.nD → PrngReg), Pre_SumMlp m →
    θ_run (Cert.SumMlp.defs (F := Bits)) (onTc (τ := Cert.SumMlp.τ) (Cert.SumMlp.main (F := Bits))) ⟨m, fun _ => 0, g⟩ (fun r => (∀ c : Dev Cert.SumMlp.nD,
      r.2.mem ((c.tc : Thread Cert.SumMlp.nD Cert.SumMlp.τ).loc Cert.SumMlp.main_arg0) = m ((c.tc : Thread Cert.SumMlp.nD Cert.SumMlp.τ).loc Cert.SumMlp.main_arg0)
      ∧ r.2.mem ((c.tc : Thread Cert.SumMlp.nD Cert.SumMlp.τ).loc Cert.SumMlp.main_arg1) = m ((c.tc : Thread Cert.SumMlp.nD Cert.SumMlp.τ).loc Cert.SumMlp.main_arg1)
      ∧ r.2.mem ((c.tc : Thread Cert.SumMlp.nD Cert.SumMlp.τ).loc Cert.SumMlp.main_arg2) = m ((c.tc : Thread Cert.SumMlp.nD Cert.SumMlp.τ).loc Cert.SumMlp.main_arg2))
      ∧ r.2.sem = fun _ => 0)

def quiescent_SumMlpIdeal [hSumMlpIdeal : Cert.SumMlpIdeal.Facts] : Prop :=
  ∀ (m : (ℓ : Loc Cert.SumMlpIdeal.nD Cert.SumMlpIdeal.τ Cert.SumMlpIdeal.sig) → Buf (Elt Ideal) ℓ) (g : Dev Cert.SumMlpIdeal.nD → PrngReg), Pre_SumMlpIdeal m →
    θ_run (Cert.SumMlpIdeal.defs (F := Ideal)) (onTc (τ := Cert.SumMlpIdeal.τ) (Cert.SumMlpIdeal.main (F := Ideal))) ⟨m, fun _ => 0, g⟩ (fun r => (∀ c : Dev Cert.SumMlpIdeal.nD,
      r.2.mem ((c.tc : Thread Cert.SumMlpIdeal.nD Cert.SumMlpIdeal.τ).loc Cert.SumMlpIdeal.main_arg0) = m ((c.tc : Thread Cert.SumMlpIdeal.nD Cert.SumMlpIdeal.τ).loc Cert.SumMlpIdeal.main_arg0)
      ∧ r.2.mem ((c.tc : Thread Cert.SumMlpIdeal.nD Cert.SumMlpIdeal.τ).loc Cert.SumMlpIdeal.main_arg1) = m ((c.tc : Thread Cert.SumMlpIdeal.nD Cert.SumMlpIdeal.τ).loc Cert.SumMlpIdeal.main_arg1)
      ∧ r.2.mem ((c.tc : Thread Cert.SumMlpIdeal.nD Cert.SumMlpIdeal.τ).loc Cert.SumMlpIdeal.main_arg2) = m ((c.tc : Thread Cert.SumMlpIdeal.nD Cert.SumMlpIdeal.τ).loc Cert.SumMlpIdeal.main_arg2))
      ∧ r.2.sem = fun _ => 0)

def quiescent_SumMlpRefIdeal [hSumMlpRefIdeal : Cert.SumMlpRefIdeal.Facts] : Prop :=
  ∀ (m : (ℓ : Loc Cert.SumMlpRefIdeal.nD Cert.SumMlpRefIdeal.τ Cert.SumMlpRefIdeal.sig) → Buf (Elt Ideal) ℓ) (g : Dev Cert.SumMlpRefIdeal.nD → PrngReg), Pre_SumMlpRefIdeal m →
    θ_run (Cert.SumMlpRefIdeal.defs (F := Ideal)) (onTc (τ := Cert.SumMlpRefIdeal.τ) (Cert.SumMlpRefIdeal.main (F := Ideal))) ⟨m, fun _ => 0, g⟩ (fun r => (∀ c : Dev Cert.SumMlpRefIdeal.nD,
      r.2.mem ((c.tc : Thread Cert.SumMlpRefIdeal.nD Cert.SumMlpRefIdeal.τ).loc Cert.SumMlpRefIdeal.main_arg0) = m ((c.tc : Thread Cert.SumMlpRefIdeal.nD Cert.SumMlpRefIdeal.τ).loc Cert.SumMlpRefIdeal.main_arg0)
      ∧ r.2.mem ((c.tc : Thread Cert.SumMlpRefIdeal.nD Cert.SumMlpRefIdeal.τ).loc Cert.SumMlpRefIdeal.main_arg1) = m ((c.tc : Thread Cert.SumMlpRefIdeal.nD Cert.SumMlpRefIdeal.τ).loc Cert.SumMlpRefIdeal.main_arg1)
      ∧ r.2.mem ((c.tc : Thread Cert.SumMlpRefIdeal.nD Cert.SumMlpRefIdeal.τ).loc Cert.SumMlpRefIdeal.main_arg2) = m ((c.tc : Thread Cert.SumMlpRefIdeal.nD Cert.SumMlpRefIdeal.τ).loc Cert.SumMlpRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2)
      ∧ r.2.mem ((c.tc : Thread Cert.ProjFwdRefIdeal.nD Cert.ProjFwdRefIdeal.τ).loc Cert.ProjFwdRefIdeal.main_arg3) = m ((c.tc : Thread Cert.ProjFwdRefIdeal.nD Cert.ProjFwdRefIdeal.τ).loc Cert.ProjFwdRefIdeal.main_arg3))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5))
      ∧ r.2.sem = fun _ => 0)

def quiescent_ProductDown [hProductDown : Cert.ProductDown.Facts] : Prop :=
  ∀ (m : (ℓ : Loc Cert.ProductDown.nD Cert.ProductDown.τ Cert.ProductDown.sig) → Buf (Elt Bits) ℓ) (g : Dev Cert.ProductDown.nD → PrngReg), Pre_ProductDown m →
    θ_run (Cert.ProductDown.defs (F := Bits)) (onTc (τ := Cert.ProductDown.τ) (Cert.ProductDown.main (F := Bits))) ⟨m, fun _ => 0, g⟩ (fun r => (∀ c : Dev Cert.ProductDown.nD,
      r.2.mem ((c.tc : Thread Cert.ProductDown.nD Cert.ProductDown.τ).loc Cert.ProductDown.main_arg0) = m ((c.tc : Thread Cert.ProductDown.nD Cert.ProductDown.τ).loc Cert.ProductDown.main_arg0)
      ∧ r.2.mem ((c.tc : Thread Cert.ProductDown.nD Cert.ProductDown.τ).loc Cert.ProductDown.main_arg1) = m ((c.tc : Thread Cert.ProductDown.nD Cert.ProductDown.τ).loc Cert.ProductDown.main_arg1))
      ∧ r.2.sem = fun _ => 0)

def quiescent_ProductDownIdeal [hProductDownIdeal : Cert.ProductDownIdeal.Facts] : Prop :=
  ∀ (m : (ℓ : Loc Cert.ProductDownIdeal.nD Cert.ProductDownIdeal.τ Cert.ProductDownIdeal.sig) → Buf (Elt Ideal) ℓ) (g : Dev Cert.ProductDownIdeal.nD → PrngReg), Pre_ProductDownIdeal m →
    θ_run (Cert.ProductDownIdeal.defs (F := Ideal)) (onTc (τ := Cert.ProductDownIdeal.τ) (Cert.ProductDownIdeal.main (F := Ideal))) ⟨m, fun _ => 0, g⟩ (fun r => (∀ c : Dev Cert.ProductDownIdeal.nD,
      r.2.mem ((c.tc : Thread Cert.ProductDownIdeal.nD Cert.ProductDownIdeal.τ).loc Cert.ProductDownIdeal.main_arg0) = m ((c.tc : Thread Cert.ProductDownIdeal.nD Cert.ProductDownIdeal.τ).loc Cert.ProductDownIdeal.main_arg0)
      ∧ r.2.mem ((c.tc : Thread Cert.ProductDownIdeal.nD Cert.ProductDownIdeal.τ).loc Cert.ProductDownIdeal.main_arg1) = m ((c.tc : Thread Cert.ProductDownIdeal.nD Cert.ProductDownIdeal.τ).loc Cert.ProductDownIdeal.main_arg1))
      ∧ r.2.sem = fun _ => 0)

def quiescent_ProductDownRefIdeal [hProductDownRefIdeal : Cert.ProductDownRefIdeal.Facts] : Prop :=
  ∀ (m : (ℓ : Loc Cert.ProductDownRefIdeal.nD Cert.ProductDownRefIdeal.τ Cert.ProductDownRefIdeal.sig) → Buf (Elt Ideal) ℓ) (g : Dev Cert.ProductDownRefIdeal.nD → PrngReg), Pre_ProductDownRefIdeal m →
    θ_run (Cert.ProductDownRefIdeal.defs (F := Ideal)) (onTc (τ := Cert.ProductDownRefIdeal.τ) (Cert.ProductDownRefIdeal.main (F := Ideal))) ⟨m, fun _ => 0, g⟩ (fun r => (∀ c : Dev Cert.ProductDownRefIdeal.nD,
      r.2.mem ((c.tc : Thread Cert.ProductDownRefIdeal.nD Cert.ProductDownRefIdeal.τ).loc Cert.ProductDownRefIdeal.main_arg0) = m ((c.tc : Thread Cert.ProductDownRefIdeal.nD Cert.ProductDownRefIdeal.τ).loc Cert.ProductDownRefIdeal.main_arg0)
      ∧ r.2.mem ((c.tc : Thread Cert.ProductDownRefIdeal.nD Cert.ProductDownRefIdeal.τ).loc Cert.ProductDownRefIdeal.main_arg1) = m ((c.tc : Thread Cert.ProductDownRefIdeal.nD Cert.ProductDownRefIdeal.τ).loc Cert.ProductDownRefIdeal.main_arg1))
      ∧ r.2.sem = fun _ => 0)

def quiescent_ProductUp [hProductUp : Cert.ProductUp.Facts] : Prop :=
  ∀ (m : (ℓ : Loc Cert.ProductUp.nD Cert.ProductUp.τ Cert.ProductUp.sig) → Buf (Elt Bits) ℓ) (g : Dev Cert.ProductUp.nD → PrngReg), Pre_ProductUp m →
    θ_run (Cert.ProductUp.defs (F := Bits)) (onTc (τ := Cert.ProductUp.τ) (Cert.ProductUp.main (F := Bits))) ⟨m, fun _ => 0, g⟩ (fun r => (∀ c : Dev Cert.ProductUp.nD,
      r.2.mem ((c.tc : Thread Cert.ProductUp.nD Cert.ProductUp.τ).loc Cert.ProductUp.main_arg0) = m ((c.tc : Thread Cert.ProductUp.nD Cert.ProductUp.τ).loc Cert.ProductUp.main_arg0)
      ∧ r.2.mem ((c.tc : Thread Cert.ProductUp.nD Cert.ProductUp.τ).loc Cert.ProductUp.main_arg1) = m ((c.tc : Thread Cert.ProductUp.nD Cert.ProductUp.τ).loc Cert.ProductUp.main_arg1))
      ∧ r.2.sem = fun _ => 0)

def quiescent_ProductUpIdeal [hProductUpIdeal : Cert.ProductUpIdeal.Facts] : Prop :=
  ∀ (m : (ℓ : Loc Cert.ProductUpIdeal.nD Cert.ProductUpIdeal.τ Cert.ProductUpIdeal.sig) → Buf (Elt Ideal) ℓ) (g : Dev Cert.ProductUpIdeal.nD → PrngReg), Pre_ProductUpIdeal m →
    θ_run (Cert.ProductUpIdeal.defs (F := Ideal)) (onTc (τ := Cert.ProductUpIdeal.τ) (Cert.ProductUpIdeal.main (F := Ideal))) ⟨m, fun _ => 0, g⟩ (fun r => (∀ c : Dev Cert.ProductUpIdeal.nD,
      r.2.mem ((c.tc : Thread Cert.ProductUpIdeal.nD Cert.ProductUpIdeal.τ).loc Cert.ProductUpIdeal.main_arg0) = m ((c.tc : Thread Cert.ProductUpIdeal.nD Cert.ProductUpIdeal.τ).loc Cert.ProductUpIdeal.main_arg0)
      ∧ r.2.mem ((c.tc : Thread Cert.ProductUpIdeal.nD Cert.ProductUpIdeal.τ).loc Cert.ProductUpIdeal.main_arg1) = m ((c.tc : Thread Cert.ProductUpIdeal.nD Cert.ProductUpIdeal.τ).loc Cert.ProductUpIdeal.main_arg1))
      ∧ r.2.sem = fun _ => 0)

def quiescent_ProductUpRefIdeal [hProductUpRefIdeal : Cert.ProductUpRefIdeal.Facts] : Prop :=
  ∀ (m : (ℓ : Loc Cert.ProductUpRefIdeal.nD Cert.ProductUpRefIdeal.τ Cert.ProductUpRefIdeal.sig) → Buf (Elt Ideal) ℓ) (g : Dev Cert.ProductUpRefIdeal.nD → PrngReg), Pre_ProductUpRefIdeal m →
    θ_run (Cert.ProductUpRefIdeal.defs (F := Ideal)) (onTc (τ := Cert.ProductUpRefIdeal.τ) (Cert.ProductUpRefIdeal.main (F := Ideal))) ⟨m, fun _ => 0, g⟩ (fun r => (∀ c : Dev Cert.ProductUpRefIdeal.nD,
      r.2.mem ((c.tc : Thread Cert.ProductUpRefIdeal.nD Cert.ProductUpRefIdeal.τ).loc Cert.ProductUpRefIdeal.main_arg0) = m ((c.tc : Thread Cert.ProductUpRefIdeal.nD Cert.ProductUpRefIdeal.τ).loc Cert.ProductUpRefIdeal.main_arg0)
      ∧ r.2.mem ((c.tc : Thread Cert.ProductUpRefIdeal.nD Cert.ProductUpRefIdeal.τ).loc Cert.ProductUpRefIdeal.main_arg1) = m ((c.tc : Thread Cert.ProductUpRefIdeal.nD Cert.ProductUpRefIdeal.τ).loc Cert.ProductUpRefIdeal.main_arg1))
      ∧ r.2.sem = fun _ => 0)

def quiescent_ProductOut [hProductOut : Cert.ProductOut.Facts] : Prop :=
  ∀ (m : (ℓ : Loc Cert.ProductOut.nD Cert.ProductOut.τ Cert.ProductOut.sig) → Buf (Elt Bits) ℓ) (g : Dev Cert.ProductOut.nD → PrngReg), Pre_ProductOut m →
    θ_run (Cert.ProductOut.defs (F := Bits)) (onTc (τ := Cert.ProductOut.τ) (Cert.ProductOut.main (F := Bits))) ⟨m, fun _ => 0, g⟩ (fun r => (∀ c : Dev Cert.ProductOut.nD,
      r.2.mem ((c.tc : Thread Cert.ProductOut.nD Cert.ProductOut.τ).loc Cert.ProductOut.main_arg0) = m ((c.tc : Thread Cert.ProductOut.nD Cert.ProductOut.τ).loc Cert.ProductOut.main_arg0)
      ∧ r.2.mem ((c.tc : Thread Cert.ProductOut.nD Cert.ProductOut.τ).loc Cert.ProductOut.main_arg1) = m ((c.tc : Thread Cert.ProductOut.nD Cert.ProductOut.τ).loc Cert.ProductOut.main_arg1))
      ∧ r.2.sem = fun _ => 0)

def quiescent_ProductOutIdeal [hProductOutIdeal : Cert.ProductOutIdeal.Facts] : Prop :=
  ∀ (m : (ℓ : Loc Cert.ProductOutIdeal.nD Cert.ProductOutIdeal.τ Cert.ProductOutIdeal.sig) → Buf (Elt Ideal) ℓ) (g : Dev Cert.ProductOutIdeal.nD → PrngReg), Pre_ProductOutIdeal m →
    θ_run (Cert.ProductOutIdeal.defs (F := Ideal)) (onTc (τ := Cert.ProductOutIdeal.τ) (Cert.ProductOutIdeal.main (F := Ideal))) ⟨m, fun _ => 0, g⟩ (fun r => (∀ c : Dev Cert.ProductOutIdeal.nD,
      r.2.mem ((c.tc : Thread Cert.ProductOutIdeal.nD Cert.ProductOutIdeal.τ).loc Cert.ProductOutIdeal.main_arg0) = m ((c.tc : Thread Cert.ProductOutIdeal.nD Cert.ProductOutIdeal.τ).loc Cert.ProductOutIdeal.main_arg0)
      ∧ r.2.mem ((c.tc : Thread Cert.ProductOutIdeal.nD Cert.ProductOutIdeal.τ).loc Cert.ProductOutIdeal.main_arg1) = m ((c.tc : Thread Cert.ProductOutIdeal.nD Cert.ProductOutIdeal.τ).loc Cert.ProductOutIdeal.main_arg1))
      ∧ r.2.sem = fun _ => 0)

def quiescent_ProductOutRefIdeal [hProductOutRefIdeal : Cert.ProductOutRefIdeal.Facts] : Prop :=
  ∀ (m : (ℓ : Loc Cert.ProductOutRefIdeal.nD Cert.ProductOutRefIdeal.τ Cert.ProductOutRefIdeal.sig) → Buf (Elt Ideal) ℓ) (g : Dev Cert.ProductOutRefIdeal.nD → PrngReg), Pre_ProductOutRefIdeal m →
    θ_run (Cert.ProductOutRefIdeal.defs (F := Ideal)) (onTc (τ := Cert.ProductOutRefIdeal.τ) (Cert.ProductOutRefIdeal.main (F := Ideal))) ⟨m, fun _ => 0, g⟩ (fun r => (∀ c : Dev Cert.ProductOutRefIdeal.nD,
      r.2.mem ((c.tc : Thread Cert.ProductOutRefIdeal.nD Cert.ProductOutRefIdeal.τ).loc Cert.ProductOutRefIdeal.main_arg0) = m ((c.tc : Thread Cert.ProductOutRefIdeal.nD Cert.ProductOutRefIdeal.τ).loc Cert.ProductOutRefIdeal.main_arg0)
      ∧ r.2.mem ((c.tc : Thread Cert.ProductOutRefIdeal.nD Cert.ProductOutRefIdeal.τ).loc Cert.ProductOutRefIdeal.main_arg1) = m ((c.tc : Thread Cert.ProductOutRefIdeal.nD Cert.ProductOutRefIdeal.τ).loc Cert.ProductOutRefIdeal.main_arg1))
      ∧ r.2.sem = fun _ => 0)

def quiescent_ProductHead [hProductHead : Cert.ProductHead.Facts] : Prop :=
  ∀ (m : (ℓ : Loc Cert.ProductHead.nD Cert.ProductHead.τ Cert.ProductHead.sig) → Buf (Elt Bits) ℓ) (g : Dev Cert.ProductHead.nD → PrngReg), Pre_ProductHead m →
    θ_run (Cert.ProductHead.defs (F := Bits)) (onTc (τ := Cert.ProductHead.τ) (Cert.ProductHead.main (F := Bits))) ⟨m, fun _ => 0, g⟩ (fun r => (∀ c : Dev Cert.ProductHead.nD,
      r.2.mem ((c.tc : Thread Cert.ProductHead.nD Cert.ProductHead.τ).loc Cert.ProductHead.main_arg0) = m ((c.tc : Thread Cert.ProductHead.nD Cert.ProductHead.τ).loc Cert.ProductHead.main_arg0)
      ∧ r.2.mem ((c.tc : Thread Cert.ProductHead.nD Cert.ProductHead.τ).loc Cert.ProductHead.main_arg1) = m ((c.tc : Thread Cert.ProductHead.nD Cert.ProductHead.τ).loc Cert.ProductHead.main_arg1))
      ∧ r.2.sem = fun _ => 0)

def quiescent_ProductHeadIdeal [hProductHeadIdeal : Cert.ProductHeadIdeal.Facts] : Prop :=
  ∀ (m : (ℓ : Loc Cert.ProductHeadIdeal.nD Cert.ProductHeadIdeal.τ Cert.ProductHeadIdeal.sig) → Buf (Elt Ideal) ℓ) (g : Dev Cert.ProductHeadIdeal.nD → PrngReg), Pre_ProductHeadIdeal m →
    θ_run (Cert.ProductHeadIdeal.defs (F := Ideal)) (onTc (τ := Cert.ProductHeadIdeal.τ) (Cert.ProductHeadIdeal.main (F := Ideal))) ⟨m, fun _ => 0, g⟩ (fun r => (∀ c : Dev Cert.ProductHeadIdeal.nD,
      r.2.mem ((c.tc : Thread Cert.ProductHeadIdeal.nD Cert.ProductHeadIdeal.τ).loc Cert.ProductHeadIdeal.main_arg0) = m ((c.tc : Thread Cert.ProductHeadIdeal.nD Cert.ProductHeadIdeal.τ).loc Cert.ProductHeadIdeal.main_arg0)
      ∧ r.2.mem ((c.tc : Thread Cert.ProductHeadIdeal.nD Cert.ProductHeadIdeal.τ).loc Cert.ProductHeadIdeal.main_arg1) = m ((c.tc : Thread Cert.ProductHeadIdeal.nD Cert.ProductHeadIdeal.τ).loc Cert.ProductHeadIdeal.main_arg1))
      ∧ r.2.sem = fun _ => 0)

def quiescent_ProductHeadRefIdeal [hProductHeadRefIdeal : Cert.ProductHeadRefIdeal.Facts] : Prop :=
  ∀ (m : (ℓ : Loc Cert.ProductHeadRefIdeal.nD Cert.ProductHeadRefIdeal.τ Cert.ProductHeadRefIdeal.sig) → Buf (Elt Ideal) ℓ) (g : Dev Cert.ProductHeadRefIdeal.nD → PrngReg), Pre_ProductHeadRefIdeal m →
    θ_run (Cert.ProductHeadRefIdeal.defs (F := Ideal)) (onTc (τ := Cert.ProductHeadRefIdeal.τ) (Cert.ProductHeadRefIdeal.main (F := Ideal))) ⟨m, fun _ => 0, g⟩ (fun r => (∀ c : Dev Cert.ProductHeadRefIdeal.nD,
      r.2.mem ((c.tc : Thread Cert.ProductHeadRefIdeal.nD Cert.ProductHeadRefIdeal.τ).loc Cert.ProductHeadRefIdeal.main_arg0) = m ((c.tc : Thread Cert.ProductHeadRefIdeal.nD Cert.ProductHeadRefIdeal.τ).loc Cert.ProductHeadRefIdeal.main_arg0)
      ∧ r.2.mem ((c.tc : Thread Cert.ProductHeadRefIdeal.nD Cert.ProductHeadRefIdeal.τ).loc Cert.ProductHeadRefIdeal.main_arg1) = m ((c.tc : Thread Cert.ProductHeadRefIdeal.nD Cert.ProductHeadRefIdeal.τ).loc Cert.ProductHeadRefIdeal.main_arg1))
      ∧ r.2.sem = fun _ => 0)

def quiescent_ProductRest [hProductRest : Cert.ProductRest.Facts] : Prop :=
  ∀ (m : (ℓ : Loc Cert.ProductRest.nD Cert.ProductRest.τ Cert.ProductRest.sig) → Buf (Elt Bits) ℓ) (g : Dev Cert.ProductRest.nD → PrngReg), Pre_ProductRest m →
    θ_run (Cert.ProductRest.defs (F := Bits)) (onTc (τ := Cert.ProductRest.τ) (Cert.ProductRest.main (F := Bits))) ⟨m, fun _ => 0, g⟩ (fun r => (∀ c : Dev Cert.ProductRest.nD,
      r.2.mem ((c.tc : Thread Cert.ProductRest.nD Cert.ProductRest.τ).loc Cert.ProductRest.main_arg0) = m ((c.tc : Thread Cert.ProductRest.nD Cert.ProductRest.τ).loc Cert.ProductRest.main_arg0)
      ∧ r.2.mem ((c.tc : Thread Cert.ProductRest.nD Cert.ProductRest.τ).loc Cert.ProductRest.main_arg1) = m ((c.tc : Thread Cert.ProductRest.nD Cert.ProductRest.τ).loc Cert.ProductRest.main_arg1))
      ∧ r.2.sem = fun _ => 0)

def quiescent_ProductRestIdeal [hProductRestIdeal : Cert.ProductRestIdeal.Facts] : Prop :=
  ∀ (m : (ℓ : Loc Cert.ProductRestIdeal.nD Cert.ProductRestIdeal.τ Cert.ProductRestIdeal.sig) → Buf (Elt Ideal) ℓ) (g : Dev Cert.ProductRestIdeal.nD → PrngReg), Pre_ProductRestIdeal m →
    θ_run (Cert.ProductRestIdeal.defs (F := Ideal)) (onTc (τ := Cert.ProductRestIdeal.τ) (Cert.ProductRestIdeal.main (F := Ideal))) ⟨m, fun _ => 0, g⟩ (fun r => (∀ c : Dev Cert.ProductRestIdeal.nD,
      r.2.mem ((c.tc : Thread Cert.ProductRestIdeal.nD Cert.ProductRestIdeal.τ).loc Cert.ProductRestIdeal.main_arg0) = m ((c.tc : Thread Cert.ProductRestIdeal.nD Cert.ProductRestIdeal.τ).loc Cert.ProductRestIdeal.main_arg0)
      ∧ r.2.mem ((c.tc : Thread Cert.ProductRestIdeal.nD Cert.ProductRestIdeal.τ).loc Cert.ProductRestIdeal.main_arg1) = m ((c.tc : Thread Cert.ProductRestIdeal.nD Cert.ProductRestIdeal.τ).loc Cert.ProductRestIdeal.main_arg1))
      ∧ r.2.sem = fun _ => 0)

def quiescent_ProductRestRefIdeal [hProductRestRefIdeal : Cert.ProductRestRefIdeal.Facts] : Prop :=
  ∀ (m : (ℓ : Loc Cert.ProductRestRefIdeal.nD Cert.ProductRestRefIdeal.τ Cert.ProductRestRefIdeal.sig) → Buf (Elt Ideal) ℓ) (g : Dev Cert.ProductRestRefIdeal.nD → PrngReg), Pre_ProductRestRefIdeal m →
    θ_run (Cert.ProductRestRefIdeal.defs (F := Ideal)) (onTc (τ := Cert.ProductRestRefIdeal.τ) (Cert.ProductRestRefIdeal.main (F := Ideal))) ⟨m, fun _ => 0, g⟩ (fun r => (∀ c : Dev Cert.ProductRestRefIdeal.nD,
      r.2.mem ((c.tc : Thread Cert.ProductRestRefIdeal.nD Cert.ProductRestRefIdeal.τ).loc Cert.ProductRestRefIdeal.main_arg0) = m ((c.tc : Thread Cert.ProductRestRefIdeal.nD Cert.ProductRestRefIdeal.τ).loc Cert.ProductRestRefIdeal.main_arg0)
      ∧ r.2.mem ((c.tc : Thread Cert.ProductRestRefIdeal.nD Cert.ProductRestRefIdeal.τ).loc Cert.ProductRestRefIdeal.main_arg1) = m ((c.tc : Thread Cert.ProductRestRefIdeal.nD Cert.ProductRestRefIdeal.τ).loc Cert.ProductRestRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 706]⟩ ⟨2, ![2048, 2824]⟩ (Layout.meshBlock [2, 2, 2] ![[], [0, 1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![2048, 1024]⟩ (Layout.meshBlock [2, 2, 2] ![[0, 1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![2048, 1024]⟩ ⟨2, ![2048, 4096]⟩ (Layout.meshBlock [2, 2, 2] ![[], [0, 1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![2048, 1024]⟩ ⟨2, ![8192, 1024]⟩ (Layout.meshBlock [2, 2, 2] ![[0, 1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![48, 1024]⟩ ⟨2, ![192, 1024]⟩ (Layout.meshBlock [2, 2, 2] ![[0, 1], []] c) (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v2)) (v2 : Buf (Elt Ideal) (((0 : Dev Cert.ReferenceIdeal.nD).tc : Thread Cert.ReferenceIdeal.nD Cert.ReferenceIdeal.τ).loc Cert.ReferenceIdeal.main_v4)) (v3 : Buf (Elt Ideal) (((0 : Dev Cert.ReferenceIdeal.nD).tc : Thread Cert.ReferenceIdeal.nD Cert.ReferenceIdeal.τ).loc Cert.ReferenceIdeal.main_v5)) (v4 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_v1_3) = v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v2) = v1
          ∧ r.2.mem (((0 : Dev Cert.ReferenceIdeal.nD).tc : Thread Cert.ReferenceIdeal.nD Cert.ReferenceIdeal.τ).loc Cert.ReferenceIdeal.main_v4) = v2
          ∧ r.2.mem (((0 : Dev Cert.ReferenceIdeal.nD).tc : Thread Cert.ReferenceIdeal.nD Cert.ReferenceIdeal.τ).loc Cert.ReferenceIdeal.main_v5) = v3
          ∧ r.2.mem (((0 : Dev Cert.ReferenceIdeal.nD).tc : Thread Cert.ReferenceIdeal.nD Cert.ReferenceIdeal.τ).loc Cert.ReferenceIdeal.main_v6) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Grads_GradsIdeal : Prop :=
  True

def algebraic_GradsIdeal_GradsRefIdeal [hGradsIdeal : Cert.GradsIdeal.Facts] [hGradsRefIdeal : Cert.GradsRefIdeal.Facts] : Prop :=
  ∀ (m : (ℓ : Loc Cert.GradsIdeal.nD Cert.GradsIdeal.τ Cert.GradsIdeal.sig) → Buf (Elt Ideal) ℓ) (g : Dev Cert.GradsIdeal.nD → PrngReg)
    (m' : (ℓ : Loc Cert.GradsRefIdeal.nD Cert.GradsRefIdeal.τ Cert.GradsRefIdeal.sig) → Buf (Elt Ideal) ℓ) (g' : Dev Cert.GradsRefIdeal.nD → PrngReg), Pre_GradsIdeal m →
    (∀ c : Dev Cert.GradsIdeal.nD,
      m ((c.tc : Thread Cert.GradsIdeal.nD Cert.GradsIdeal.τ).loc Cert.GradsIdeal.main_arg0) = Layout.block ⟨3, ![4, 2048, 706]⟩ ⟨3, ![32, 2048, 706]⟩ 0 8 c (m' (((0 : Dev Cert.GradsRefIdeal.nD).tc : Thread Cert.GradsRefIdeal.nD Cert.GradsRefIdeal.τ).loc Cert.GradsRefIdeal.main_arg0))
      ∧ m ((c.tc : Thread Cert.GradsIdeal.nD Cert.GradsIdeal.τ).loc Cert.GradsIdeal.main_arg1) = Layout.block ⟨3, ![4, 512, 1024]⟩ ⟨3, ![32, 512, 1024]⟩ 0 8 c (m' (((0 : Dev Cert.GradsRefIdeal.nD).tc : Thread Cert.GradsRefIdeal.nD Cert.GradsRefIdeal.τ).loc Cert.GradsRefIdeal.main_arg1))
      ∧ m ((c.tc : Thread Cert.GradsIdeal.nD Cert.GradsIdeal.τ).loc Cert.GradsIdeal.main_arg2) = Layout.block ⟨3, ![4, 2048, 1024]⟩ ⟨3, ![32, 2048, 1024]⟩ 0 8 c (m' (((0 : Dev Cert.GradsRefIdeal.nD).tc : Thread Cert.GradsRefIdeal.nD Cert.GradsRefIdeal.τ).loc Cert.GradsRefIdeal.main_arg2))
      ∧ m ((c.tc : Thread Cert.GradsIdeal.nD Cert.GradsIdeal.τ).loc Cert.GradsIdeal.main_arg3) = Layout.block ⟨3, ![4, 2048, 1024]⟩ ⟨3, ![32, 2048, 1024]⟩ 0 8 c (m' (((0 : Dev Cert.GradsRefIdeal.nD).tc : Thread Cert.GradsRefIdeal.nD Cert.GradsRefIdeal.τ).loc Cert.GradsRefIdeal.main_arg3))
      ∧ m ((c.tc : Thread Cert.GradsIdeal.nD Cert.GradsIdeal.τ).loc Cert.GradsIdeal.main_arg4) = Layout.block ⟨3, ![4, 48, 1024]⟩ ⟨3, ![32, 48, 1024]⟩ 0 8 c (m' (((0 : Dev Cert.GradsRefIdeal.nD).tc : Thread Cert.GradsRefIdeal.nD Cert.GradsRefIdeal.τ).loc Cert.GradsRefIdeal.main_arg4))) →
    ∃ (v0 : Buf (Elt Ideal) (((0 : Dev Cert.GradsRefIdeal.nD).tc : Thread Cert.GradsRefIdeal.nD Cert.GradsRefIdeal.τ).loc Cert.GradsRefIdeal.main_v2)) (v1 : Buf (Elt Ideal) (((0 : Dev Cert.GradsRefIdeal.nD).tc : Thread Cert.GradsRefIdeal.nD Cert.GradsRefIdeal.τ).loc Cert.GradsRefIdeal.main_v5)) (v2 : Buf (Elt Ideal) (((0 : Dev Cert.GradsRefIdeal.nD).tc : Thread Cert.GradsRefIdeal.nD Cert.GradsRefIdeal.τ).loc Cert.GradsRefIdeal.main_v8)) (v3 : Buf (Elt Ideal) (((0 : Dev Cert.GradsRefIdeal.nD).tc : Thread Cert.GradsRefIdeal.nD Cert.GradsRefIdeal.τ).loc Cert.GradsRefIdeal.main_v11)) (v4 : Buf (Elt Ideal) (((0 : Dev Cert.GradsRefIdeal.nD).tc : Thread Cert.GradsRefIdeal.nD Cert.GradsRefIdeal.τ).loc Cert.GradsRefIdeal.main_v14)),
      θ_run (Cert.GradsIdeal.defs (F := Ideal)) (onTc (τ := Cert.GradsIdeal.τ) (Cert.GradsIdeal.main (F := Ideal))) ⟨m, fun _ => 0, g⟩ (fun r => ∀ c : Dev Cert.GradsIdeal.nD,
          r.2.mem ((c.tc : Thread Cert.GradsIdeal.nD Cert.GradsIdeal.τ).loc Cert.GradsIdeal.main_v1_0) = Layout.block ⟨3, ![4, 2048, 706]⟩ ⟨3, ![32, 2048, 706]⟩ 0 8 c v0
          ∧ r.2.mem ((c.tc : Thread Cert.GradsIdeal.nD Cert.GradsIdeal.τ).loc Cert.GradsIdeal.main_v1_1) = Layout.block ⟨3, ![4, 512, 1024]⟩ ⟨3, ![32, 512, 1024]⟩ 0 8 c v1
          ∧ r.2.mem ((c.tc : Thread Cert.GradsIdeal.nD Cert.GradsIdeal.τ).loc Cert.GradsIdeal.main_v1_2) = Layout.block ⟨3, ![4, 2048, 1024]⟩ ⟨3, ![32, 2048, 1024]⟩ 0 8 c v2
          ∧ r.2.mem ((c.tc : Thread Cert.GradsIdeal.nD Cert.GradsIdeal.τ).loc Cert.GradsIdeal.main_v1_3) = Layout.block ⟨3, ![4, 2048, 1024]⟩ ⟨3, ![32, 2048, 1024]⟩ 0 8 c v3
          ∧ r.2.mem ((c.tc : Thread Cert.GradsIdeal.nD Cert.GradsIdeal.τ).loc Cert.GradsIdeal.main_v1_4) = Layout.block ⟨3, ![4, 48, 1024]⟩ ⟨3, ![32, 48, 1024]⟩ 0 8 c v4
          ∧ r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0)
          ∧ r.2.mem ((c.tc : Thread Cert.GradsIdeal.nD Cert.GradsIdeal.τ).loc Cert.GradsIdeal.main_arg1) = m ((c.tc : Thread Cert.GradsIdeal.nD Cert.GradsIdeal.τ).loc Cert.GradsIdeal.main_arg1)
          ∧ r.2.mem ((c.tc : Thread Cert.GradsIdeal.nD Cert.GradsIdeal.τ).loc Cert.GradsIdeal.main_arg2) = m ((c.tc : Thread Cert.GradsIdeal.nD Cert.GradsIdeal.τ).loc Cert.GradsIdeal.main_arg2)
          ∧ r.2.mem ((c.tc : Thread Cert.GradsIdeal.nD Cert.GradsIdeal.τ).loc Cert.GradsIdeal.main_arg3) = m ((c.tc : Thread Cert.GradsIdeal.nD Cert.GradsIdeal.τ).loc Cert.GradsIdeal.main_arg3)
          ∧ r.2.mem ((c.tc : Thread Cert.GradsIdeal.nD Cert.GradsIdeal.τ).loc Cert.GradsIdeal.main_arg4) = m ((c.tc : Thread Cert.GradsIdeal.nD Cert.GradsIdeal.τ).loc Cert.GradsIdeal.main_arg4))
      ∧ θ_run (Cert.GradsRefIdeal.defs (F := Ideal)) (onTc (τ := Cert.GradsRefIdeal.τ) (Cert.GradsRefIdeal.main (F := Ideal))) ⟨m', fun _ => 0, g'⟩ (fun r =>
          r.2.mem (((0 : Dev Cert.GradsRefIdeal.nD).tc : Thread Cert.GradsRefIdeal.nD Cert.GradsRefIdeal.τ).loc Cert.GradsRefIdeal.main_v2) = v0
          ∧ r.2.mem (((0 : Dev Cert.GradsRefIdeal.nD).tc : Thread Cert.GradsRefIdeal.nD Cert.GradsRefIdeal.τ).loc Cert.GradsRefIdeal.main_v5) = v1
          ∧ r.2.mem (((0 : Dev Cert.GradsRefIdeal.nD).tc : Thread Cert.GradsRefIdeal.nD Cert.GradsRefIdeal.τ).loc Cert.GradsRefIdeal.main_v8) = v2
          ∧ r.2.mem (((0 : Dev Cert.GradsRefIdeal.nD).tc : Thread Cert.GradsRefIdeal.nD Cert.GradsRefIdeal.τ).loc Cert.GradsRefIdeal.main_v11) = v3
          ∧ r.2.mem (((0 : Dev Cert.GradsRefIdeal.nD).tc : Thread Cert.GradsRefIdeal.nD Cert.GradsRefIdeal.τ).loc Cert.GradsRefIdeal.main_v14) = v4
          ∧ r.2.mem (((0 : Dev Cert.GradsRefIdeal.nD).tc : Thread Cert.GradsRefIdeal.nD Cert.GradsRefIdeal.τ).loc Cert.GradsRefIdeal.main_arg0) = m' (((0 : Dev Cert.GradsRefIdeal.nD).tc : Thread Cert.GradsRefIdeal.nD Cert.GradsRefIdeal.τ).loc Cert.GradsRefIdeal.main_arg0)
          ∧ r.2.mem (((0 : Dev Cert.GradsRefIdeal.nD).tc : Thread Cert.GradsRefIdeal.nD Cert.GradsRefIdeal.τ).loc Cert.GradsRefIdeal.main_arg1) = m' (((0 : Dev Cert.GradsRefIdeal.nD).tc : Thread Cert.GradsRefIdeal.nD Cert.GradsRefIdeal.τ).loc Cert.GradsRefIdeal.main_arg1)
          ∧ r.2.mem (((0 : Dev Cert.GradsRefIdeal.nD).tc : Thread Cert.GradsRefIdeal.nD Cert.GradsRefIdeal.τ).loc Cert.GradsRefIdeal.main_arg2) = m' (((0 : Dev Cert.GradsRefIdeal.nD).tc : Thread Cert.GradsRefIdeal.nD Cert.GradsRefIdeal.τ).loc Cert.GradsRefIdeal.main_arg2)
          ∧ r.2.mem (((0 : Dev Cert.GradsRefIdeal.nD).tc : Thread Cert.GradsRefIdeal.nD Cert.GradsRefIdeal.τ).loc Cert.GradsRefIdeal.main_arg3) = m' (((0 : Dev Cert.GradsRefIdeal.nD).tc : Thread Cert.GradsRefIdeal.nD Cert.GradsRefIdeal.τ).loc Cert.GradsRefIdeal.main_arg3)
          ∧ r.2.mem (((0 : Dev Cert.GradsRefIdeal.nD).tc : Thread Cert.GradsRefIdeal.nD Cert.GradsRefIdeal.τ).loc Cert.GradsRefIdeal.main_arg4) = m' (((0 : Dev Cert.GradsRefIdeal.nD).tc : Thread Cert.GradsRefIdeal.nD Cert.GradsRefIdeal.τ).loc Cert.GradsRefIdeal.main_arg4))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨2, ![2048, 706]⟩ ⟨2, ![16384, 706]⟩ 0 8 c (m' (((0 : Dev Cert.SiblingRefIdeal.nD).tc : Thread Cert.SiblingRefIdeal.nD Cert.SiblingRefIdeal.τ).loc Cert.SiblingRefIdeal.main_arg0))
      ∧ m ((c.tc : Thread Cert.SiblingIdeal.nD Cert.SiblingIdeal.τ).loc Cert.SiblingIdeal.main_arg1) = Layout.block ⟨2, ![512, 1024]⟩ ⟨2, ![4096, 1024]⟩ 0 8 c (m' (((0 : Dev Cert.SiblingRefIdeal.nD).tc : Thread Cert.SiblingRefIdeal.nD Cert.SiblingRefIdeal.τ).loc Cert.SiblingRefIdeal.main_arg1))
      ∧ m ((c.tc : Thread Cert.SiblingIdeal.nD Cert.SiblingIdeal.τ).loc Cert.SiblingIdeal.main_arg2) = Layout.block ⟨2, ![2048, 1024]⟩ ⟨2, ![16384, 1024]⟩ 0 8 c (m' (((0 : Dev Cert.SiblingRefIdeal.nD).tc : Thread Cert.SiblingRefIdeal.nD Cert.SiblingRefIdeal.τ).loc Cert.SiblingRefIdeal.main_arg2))
      ∧ m ((c.tc : Thread Cert.SiblingIdeal.nD Cert.SiblingIdeal.τ).loc Cert.SiblingIdeal.main_arg3) = Layout.block ⟨2, ![2048, 1024]⟩ ⟨2, ![16384, 1024]⟩ 0 8 c (m' (((0 : Dev Cert.SiblingRefIdeal.nD).tc : Thread Cert.SiblingRefIdeal.nD Cert.SiblingRefIdeal.τ).loc Cert.SiblingRefIdeal.main_arg3))
      ∧ m ((c.tc : Thread Cert.SiblingIdeal.nD Cert.SiblingIdeal.τ).loc Cert.SiblingIdeal.main_arg4) = Layout.block ⟨2, ![48, 1024]⟩ ⟨2, ![384, 1024]⟩ 0 8 c (m' (((0 : Dev Cert.SiblingRefIdeal.nD).tc : Thread Cert.SiblingRefIdeal.nD Cert.SiblingRefIdeal.τ).loc Cert.SiblingRefIdeal.main_arg4))) →
    ∃ (v0 : Buf (Elt Ideal) (((0 : Dev Cert.SiblingRefIdeal.nD).tc : Thread Cert.SiblingRefIdeal.nD Cert.SiblingRefIdeal.τ).loc Cert.SiblingRefIdeal.main_v2)) (v1 : Buf (Elt Ideal) (((0 : Dev Cert.SiblingRefIdeal.nD).tc : Thread Cert.SiblingRefIdeal.nD Cert.SiblingRefIdeal.τ).loc Cert.SiblingRefIdeal.main_v5)) (v2 : Buf (Elt Ideal) (((0 : Dev Cert.SiblingRefIdeal.nD).tc : Thread Cert.SiblingRefIdeal.nD Cert.SiblingRefIdeal.τ).loc Cert.SiblingRefIdeal.main_v8)) (v3 : Buf (Elt Ideal) (((0 : Dev Cert.SiblingRefIdeal.nD).tc : Thread Cert.SiblingRefIdeal.nD Cert.SiblingRefIdeal.τ).loc Cert.SiblingRefIdeal.main_v11)) (v4 : Buf (Elt Ideal) (((0 : Dev Cert.SiblingRefIdeal.nD).tc : Thread Cert.SiblingRefIdeal.nD Cert.SiblingRefIdeal.τ).loc Cert.SiblingRefIdeal.main_v14)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1_0) = Layout.block ⟨2, ![2048, 706]⟩ ⟨2, ![16384, 706]⟩ 0 8 c v0
          ∧ r.2.mem ((c.tc : Thread Cert.SiblingIdeal.nD Cert.SiblingIdeal.τ).loc Cert.SiblingIdeal.main_v1_1) = Layout.block ⟨2, ![512, 1024]⟩ ⟨2, ![4096, 1024]⟩ 0 8 c v1
          ∧ r.2.mem ((c.tc : Thread Cert.SiblingIdeal.nD Cert.SiblingIdeal.τ).loc Cert.SiblingIdeal.main_v1_2) = Layout.block ⟨2, ![2048, 1024]⟩ ⟨2, ![16384, 1024]⟩ 0 8 c v2
          ∧ r.2.mem ((c.tc : Thread Cert.SiblingIdeal.nD Cert.SiblingIdeal.τ).loc Cert.SiblingIdeal.main_v1_3) = Layout.block ⟨2, ![2048, 1024]⟩ ⟨2, ![16384, 1024]⟩ 0 8 c v3
          ∧ r.2.mem ((c.tc : Thread Cert.SiblingIdeal.nD Cert.SiblingIdeal.τ).loc Cert.SiblingIdeal.main_v1_4) = Layout.block ⟨2, ![48, 1024]⟩ ⟨2, ![384, 1024]⟩ 0 8 c v4
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
          ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
          ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2)
          ∧ r.2.mem ((c.tc : Thread Cert.SiblingIdeal.nD Cert.SiblingIdeal.τ).loc Cert.SiblingIdeal.main_arg3) = m ((c.tc : Thread Cert.SiblingIdeal.nD Cert.SiblingIdeal.τ).loc Cert.SiblingIdeal.main_arg3)
          ∧ r.2.mem ((c.tc : Thread Cert.SiblingIdeal.nD Cert.SiblingIdeal.τ).loc Cert.SiblingIdeal.main_arg4) = m ((c.tc : Thread Cert.SiblingIdeal.nD Cert.SiblingIdeal.τ).loc Cert.SiblingIdeal.main_arg4))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v2) = v0
          ∧ r.2.mem (((0 : Dev Cert.SiblingRefIdeal.nD).tc : Thread Cert.SiblingRefIdeal.nD Cert.SiblingRefIdeal.τ).loc Cert.SiblingRefIdeal.main_v5) = v1
          ∧ r.2.mem (((0 : Dev Cert.SiblingRefIdeal.nD).tc : Thread Cert.SiblingRefIdeal.nD Cert.SiblingRefIdeal.τ).loc Cert.SiblingRefIdeal.main_v8) = v2
          ∧ r.2.mem (((0 : Dev Cert.SiblingRefIdeal.nD).tc : Thread Cert.SiblingRefIdeal.nD Cert.SiblingRefIdeal.τ).loc Cert.SiblingRefIdeal.main_v11) = v3
          ∧ r.2.mem (((0 : Dev Cert.SiblingRefIdeal.nD).tc : Thread Cert.SiblingRefIdeal.nD Cert.SiblingRefIdeal.τ).loc Cert.SiblingRefIdeal.main_v14) = v4
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0)
          ∧ r.2.mem (((0 : Dev Cert.SiblingRefIdeal.nD).tc : Thread Cert.SiblingRefIdeal.nD Cert.SiblingRefIdeal.τ).loc Cert.SiblingRefIdeal.main_arg1) = m' (((0 : Dev Cert.SiblingRefIdeal.nD).tc : Thread Cert.SiblingRefIdeal.nD Cert.SiblingRefIdeal.τ).loc Cert.SiblingRefIdeal.main_arg1)
          ∧ r.2.mem (((0 : Dev Cert.SiblingRefIdeal.nD).tc : Thread Cert.SiblingRefIdeal.nD Cert.SiblingRefIdeal.τ).loc Cert.SiblingRefIdeal.main_arg2) = m' (((0 : Dev Cert.SiblingRefIdeal.nD).tc : Thread Cert.SiblingRefIdeal.nD Cert.SiblingRefIdeal.τ).loc Cert.SiblingRefIdeal.main_arg2)
          ∧ r.2.mem (((0 : Dev Cert.SiblingRefIdeal.nD).tc : Thread Cert.SiblingRefIdeal.nD Cert.SiblingRefIdeal.τ).loc Cert.SiblingRefIdeal.main_arg3) = m' (((0 : Dev Cert.SiblingRefIdeal.nD).tc : Thread Cert.SiblingRefIdeal.nD Cert.SiblingRefIdeal.τ).loc Cert.SiblingRefIdeal.main_arg3)
          ∧ r.2.mem (((0 : Dev Cert.SiblingRefIdeal.nD).tc : Thread Cert.SiblingRefIdeal.nD Cert.SiblingRefIdeal.τ).loc Cert.SiblingRefIdeal.main_arg4) = m' (((0 : Dev Cert.SiblingRefIdeal.nD).tc : Thread Cert.SiblingRefIdeal.nD Cert.SiblingRefIdeal.τ).loc Cert.SiblingRefIdeal.main_arg4))

def preserves_UpdateIn_UpdateInIdeal : Prop :=
  True

def algebraic_UpdateInIdeal_UpdateInRefIdeal [hUpdateInIdeal : Cert.UpdateInIdeal.Facts] [hUpdateInRefIdeal : Cert.UpdateInRefIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInRefIdeal.nD Cert.UpdateInRefIdeal.τ Cert.UpdateInRefIdeal.sig) → Buf (Elt Ideal) ℓ) (g' : Dev Cert.UpdateInRefIdeal.nD → PrngReg), Pre_UpdateInIdeal m →
    (∀ c : Dev Cert.UpdateInIdeal.nD,
      m' ((c.tc : Thread Cert.UpdateInRefIdeal.nD Cert.UpdateInRefIdeal.τ).loc Cert.UpdateInRefIdeal.main_arg0) = m ((c.tc : Thread Cert.UpdateInIdeal.nD Cert.UpdateInIdeal.τ).loc Cert.UpdateInIdeal.main_arg0)
      ∧ m' ((c.tc : Thread Cert.UpdateInRefIdeal.nD Cert.UpdateInRefIdeal.τ).loc Cert.UpdateInRefIdeal.main_arg1) = m ((c.tc : Thread Cert.UpdateInIdeal.nD Cert.UpdateInIdeal.τ).loc Cert.UpdateInIdeal.main_arg1)
      ∧ m' ((c.tc : Thread Cert.UpdateInRefIdeal.nD Cert.UpdateInRefIdeal.τ).loc Cert.UpdateInRefIdeal.main_arg2) = m ((c.tc : Thread Cert.UpdateInIdeal.nD Cert.UpdateInIdeal.τ).loc Cert.UpdateInIdeal.main_arg2)
      ∧ m' ((c.tc : Thread Cert.UpdateInRefIdeal.nD Cert.UpdateInRefIdeal.τ).loc Cert.UpdateInRefIdeal.main_arg3) = m ((c.tc : Thread Cert.UpdateInIdeal.nD Cert.UpdateInIdeal.τ).loc Cert.UpdateInIdeal.main_arg3)
      ∧ m' ((c.tc : Thread Cert.UpdateInRefIdeal.nD Cert.UpdateInRefIdeal.τ).loc Cert.UpdateInRefIdeal.main_arg4) = m ((c.tc : Thread Cert.UpdateInIdeal.nD Cert.UpdateInIdeal.τ).loc Cert.UpdateInIdeal.main_arg4)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)) (v3 : (c : Dev Cert.UpdateInIdeal.nD) → Buf (Elt Ideal) ((c.tc : Thread Cert.UpdateInIdeal.nD Cert.UpdateInIdeal.τ).loc Cert.UpdateInIdeal.main_v0_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_v0_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
          ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ θ_run (Cert.UpdateInRefIdeal.defs (F := Ideal)) (onTc (τ := Cert.UpdateInRefIdeal.τ) (Cert.UpdateInRefIdeal.main (F := Ideal))) ⟨m', fun _ => 0, g'⟩ (fun r => ∀ c : Dev Cert.UpdateInRefIdeal.nD,
          r.2.mem ((c.tc : Thread Cert.UpdateInRefIdeal.nD Cert.UpdateInRefIdeal.τ).loc Cert.UpdateInRefIdeal.main_v0) = v0 c
          ∧ r.2.mem ((c.tc : Thread Cert.UpdateInRefIdeal.nD Cert.UpdateInRefIdeal.τ).loc Cert.UpdateInRefIdeal.main_v24) = v1 c
          ∧ r.2.mem ((c.tc : Thread Cert.UpdateInRefIdeal.nD Cert.UpdateInRefIdeal.τ).loc Cert.UpdateInRefIdeal.main_v5) = v2 c
          ∧ r.2.mem ((c.tc : Thread Cert.UpdateInRefIdeal.nD Cert.UpdateInRefIdeal.τ).loc Cert.UpdateInRefIdeal.main_v11) = v3 c
          ∧ r.2.mem ((c.tc : Thread Cert.UpdateInRefIdeal.nD Cert.UpdateInRefIdeal.τ).loc Cert.UpdateInRefIdeal.main_arg0) = m' ((c.tc : Thread Cert.UpdateInRefIdeal.nD Cert.UpdateInRefIdeal.τ).loc Cert.UpdateInRefIdeal.main_arg0)
          ∧ r.2.mem ((c.tc : Thread Cert.UpdateInRefIdeal.nD Cert.UpdateInRefIdeal.τ).loc Cert.UpdateInRefIdeal.main_arg1) = m' ((c.tc : Thread Cert.UpdateInRefIdeal.nD Cert.UpdateInRefIdeal.τ).loc Cert.UpdateInRefIdeal.main_arg1)
          ∧ r.2.mem ((c.tc : Thread Cert.UpdateInRefIdeal.nD Cert.UpdateInRefIdeal.τ).loc Cert.UpdateInRefIdeal.main_arg2) = m' ((c.tc : Thread Cert.UpdateInRefIdeal.nD Cert.UpdateInRefIdeal.τ).loc Cert.UpdateInRefIdeal.main_arg2)
          ∧ r.2.mem ((c.tc : Thread Cert.UpdateInRefIdeal.nD Cert.UpdateInRefIdeal.τ).loc Cert.UpdateInRefIdeal.main_arg3) = m' ((c.tc : Thread Cert.UpdateInRefIdeal.nD Cert.UpdateInRefIdeal.τ).loc Cert.UpdateInRefIdeal.main_arg3)
          ∧ r.2.mem ((c.tc : Thread Cert.UpdateInRefIdeal.nD Cert.UpdateInRefIdeal.τ).loc Cert.UpdateInRefIdeal.main_arg4) = m' ((c.tc : Thread Cert.UpdateInRefIdeal.nD Cert.UpdateInRefIdeal.τ).loc Cert.UpdateInRefIdeal.main_arg4))

def preserves_UpdateOut_UpdateOutIdeal : Prop :=
  True

def algebraic_UpdateOutIdeal_UpdateOutRefIdeal [hUpdateOutIdeal : Cert.UpdateOutIdeal.Facts] [hUpdateOutRefIdeal : Cert.UpdateOutRefIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutRefIdeal.nD Cert.UpdateOutRefIdeal.τ Cert.UpdateOutRefIdeal.sig) → Buf (Elt Ideal) ℓ) (g' : Dev Cert.UpdateOutRefIdeal.nD → PrngReg), Pre_UpdateOutIdeal m →
    (∀ c : Dev Cert.UpdateOutIdeal.nD,
      m' ((c.tc : Thread Cert.UpdateOutRefIdeal.nD Cert.UpdateOutRefIdeal.τ).loc Cert.UpdateOutRefIdeal.main_arg0) = m ((c.tc : Thread Cert.UpdateOutIdeal.nD Cert.UpdateOutIdeal.τ).loc Cert.UpdateOutIdeal.main_arg0)
      ∧ m' ((c.tc : Thread Cert.UpdateOutRefIdeal.nD Cert.UpdateOutRefIdeal.τ).loc Cert.UpdateOutRefIdeal.main_arg1) = m ((c.tc : Thread Cert.UpdateOutIdeal.nD Cert.UpdateOutIdeal.τ).loc Cert.UpdateOutIdeal.main_arg1)
      ∧ m' ((c.tc : Thread Cert.UpdateOutRefIdeal.nD Cert.UpdateOutRefIdeal.τ).loc Cert.UpdateOutRefIdeal.main_arg2) = m ((c.tc : Thread Cert.UpdateOutIdeal.nD Cert.UpdateOutIdeal.τ).loc Cert.UpdateOutIdeal.main_arg2)
      ∧ m' ((c.tc : Thread Cert.UpdateOutRefIdeal.nD Cert.UpdateOutRefIdeal.τ).loc Cert.UpdateOutRefIdeal.main_arg3) = m ((c.tc : Thread Cert.UpdateOutIdeal.nD Cert.UpdateOutIdeal.τ).loc Cert.UpdateOutIdeal.main_arg3)
      ∧ m' ((c.tc : Thread Cert.UpdateOutRefIdeal.nD Cert.UpdateOutRefIdeal.τ).loc Cert.UpdateOutRefIdeal.main_arg4) = m ((c.tc : Thread Cert.UpdateOutIdeal.nD Cert.UpdateOutIdeal.τ).loc Cert.UpdateOutIdeal.main_arg4)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)) (v3 : (c : Dev Cert.UpdateOutIdeal.nD) → Buf (Elt Ideal) ((c.tc : Thread Cert.UpdateOutIdeal.nD Cert.UpdateOutIdeal.τ).loc Cert.UpdateOutIdeal.main_v0_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_v0_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3)
          ∧ r.2.mem ((c.tc : Thread Cert.UpdateOutIdeal.nD Cert.UpdateOutIdeal.τ).loc Cert.UpdateOutIdeal.main_arg4) = m ((c.tc : Thread Cert.UpdateOutIdeal.nD Cert.UpdateOutIdeal.τ).loc Cert.UpdateOutIdeal.main_arg4))
      ∧ θ_run (Cert.UpdateOutRefIdeal.defs (F := Ideal)) (onTc (τ := Cert.UpdateOutRefIdeal.τ) (Cert.UpdateOutRefIdeal.main (F := Ideal))) ⟨m', fun _ => 0, g'⟩ (fun r => ∀ c : Dev Cert.UpdateOutRefIdeal.nD,
          r.2.mem ((c.tc : Thread Cert.UpdateOutRefIdeal.nD Cert.UpdateOutRefIdeal.τ).loc Cert.UpdateOutRefIdeal.main_v0) = v0 c
          ∧ r.2.mem ((c.tc : Thread Cert.UpdateOutRefIdeal.nD Cert.UpdateOutRefIdeal.τ).loc Cert.UpdateOutRefIdeal.main_v24) = v1 c
          ∧ r.2.mem ((c.tc : Thread Cert.UpdateOutRefIdeal.nD Cert.UpdateOutRefIdeal.τ).loc Cert.UpdateOutRefIdeal.main_v5) = v2 c
          ∧ r.2.mem ((c.tc : Thread Cert.UpdateOutRefIdeal.nD Cert.UpdateOutRefIdeal.τ).loc Cert.UpdateOutRefIdeal.main_v11) = v3 c
          ∧ r.2.mem ((c.tc : Thread Cert.UpdateOutRefIdeal.nD Cert.UpdateOutRefIdeal.τ).loc Cert.UpdateOutRefIdeal.main_arg0) = m' ((c.tc : Thread Cert.UpdateOutRefIdeal.nD Cert.UpdateOutRefIdeal.τ).loc Cert.UpdateOutRefIdeal.main_arg0)
          ∧ r.2.mem ((c.tc : Thread Cert.UpdateOutRefIdeal.nD Cert.UpdateOutRefIdeal.τ).loc Cert.UpdateOutRefIdeal.main_arg1) = m' ((c.tc : Thread Cert.UpdateOutRefIdeal.nD Cert.UpdateOutRefIdeal.τ).loc Cert.UpdateOutRefIdeal.main_arg1)
          ∧ r.2.mem ((c.tc : Thread Cert.UpdateOutRefIdeal.nD Cert.UpdateOutRefIdeal.τ).loc Cert.UpdateOutRefIdeal.main_arg2) = m' ((c.tc : Thread Cert.UpdateOutRefIdeal.nD Cert.UpdateOutRefIdeal.τ).loc Cert.UpdateOutRefIdeal.main_arg2)
          ∧ r.2.mem ((c.tc : Thread Cert.UpdateOutRefIdeal.nD Cert.UpdateOutRefIdeal.τ).loc Cert.UpdateOutRefIdeal.main_arg3) = m' ((c.tc : Thread Cert.UpdateOutRefIdeal.nD Cert.UpdateOutRefIdeal.τ).loc Cert.UpdateOutRefIdeal.main_arg3)
          ∧ r.2.mem ((c.tc : Thread Cert.UpdateOutRefIdeal.nD Cert.UpdateOutRefIdeal.τ).loc Cert.UpdateOutRefIdeal.main_arg4) = m' ((c.tc : Thread Cert.UpdateOutRefIdeal.nD Cert.UpdateOutRefIdeal.τ).loc Cert.UpdateOutRefIdeal.main_arg4))

def preserves_UpdateMlp_UpdateMlpIdeal : Prop :=
  True

def algebraic_UpdateMlpIdeal_UpdateMlpRefIdeal [hUpdateMlpIdeal : Cert.UpdateMlpIdeal.Facts] [hUpdateMlpRefIdeal : Cert.UpdateMlpRefIdeal.Facts] : Prop :=
  ∀ (m : (ℓ : Loc Cert.UpdateMlpIdeal.nD Cert.UpdateMlpIdeal.τ Cert.UpdateMlpIdeal.sig) → Buf (Elt Ideal) ℓ) (g : Dev Cert.UpdateMlpIdeal.nD → PrngReg)
    (m' : (ℓ : Loc Cert.UpdateMlpRefIdeal.nD Cert.UpdateMlpRefIdeal.τ Cert.UpdateMlpRefIdeal.sig) → Buf (Elt Ideal) ℓ) (g' : Dev Cert.UpdateMlpRefIdeal.nD → PrngReg), Pre_UpdateMlpIdeal m →
    (∀ c : Dev Cert.UpdateMlpIdeal.nD,
      m' ((c.tc : Thread Cert.UpdateMlpRefIdeal.nD Cert.UpdateMlpRefIdeal.τ).loc Cert.UpdateMlpRefIdeal.main_arg0) = m ((c.tc : Thread Cert.UpdateMlpIdeal.nD Cert.UpdateMlpIdeal.τ).loc Cert.UpdateMlpIdeal.main_arg0)
      ∧ m' ((c.tc : Thread Cert.UpdateMlpRefIdeal.nD Cert.UpdateMlpRefIdeal.τ).loc Cert.UpdateMlpRefIdeal.main_arg1) = m ((c.tc : Thread Cert.UpdateMlpIdeal.nD Cert.UpdateMlpIdeal.τ).loc Cert.UpdateMlpIdeal.main_arg1)
      ∧ m' ((c.tc : Thread Cert.UpdateMlpRefIdeal.nD Cert.UpdateMlpRefIdeal.τ).loc Cert.UpdateMlpRefIdeal.main_arg2) = m ((c.tc : Thread Cert.UpdateMlpIdeal.nD Cert.UpdateMlpIdeal.τ).loc Cert.UpdateMlpIdeal.main_arg2)
      ∧ m' ((c.tc : Thread Cert.UpdateMlpRefIdeal.nD Cert.UpdateMlpRefIdeal.τ).loc Cert.UpdateMlpRefIdeal.main_arg3) = m ((c.tc : Thread Cert.UpdateMlpIdeal.nD Cert.UpdateMlpIdeal.τ).loc Cert.UpdateMlpIdeal.main_arg3)
      ∧ m' ((c.tc : Thread Cert.UpdateMlpRefIdeal.nD Cert.UpdateMlpRefIdeal.τ).loc Cert.UpdateMlpRefIdeal.main_arg4) = m ((c.tc : Thread Cert.UpdateMlpIdeal.nD Cert.UpdateMlpIdeal.τ).loc Cert.UpdateMlpIdeal.main_arg4)) →
    ∃ (v0 : (c : Dev Cert.UpdateMlpIdeal.nD) → Buf (Elt Ideal) ((c.tc : Thread Cert.UpdateMlpIdeal.nD Cert.UpdateMlpIdeal.τ).loc Cert.UpdateMlpIdeal.main_v0_0)) (v1 : (c : Dev Cert.UpdateMlpIdeal.nD) → Buf (Elt Ideal) ((c.tc : Thread Cert.UpdateMlpIdeal.nD Cert.UpdateMlpIdeal.τ).loc Cert.UpdateMlpIdeal.main_v0_1)) (v2 : (c : Dev Cert.UpdateMlpIdeal.nD) → Buf (Elt Ideal) ((c.tc : Thread Cert.UpdateMlpIdeal.nD Cert.UpdateMlpIdeal.τ).loc Cert.UpdateMlpIdeal.main_v0_2)) (v3 : (c : Dev Cert.UpdateMlpIdeal.nD) → Buf (Elt Ideal) ((c.tc : Thread Cert.UpdateMlpIdeal.nD Cert.UpdateMlpIdeal.τ).loc Cert.UpdateMlpIdeal.main_v0_3)),
      θ_run (Cert.UpdateMlpIdeal.defs (F := Ideal)) (onTc (τ := Cert.UpdateMlpIdeal.τ) (Cert.UpdateMlpIdeal.main (F := Ideal))) ⟨m, fun _ => 0, g⟩ (fun r => ∀ c : Dev Cert.UpdateMlpIdeal.nD,
          r.2.mem ((c.tc : Thread Cert.UpdateMlpIdeal.nD Cert.UpdateMlpIdeal.τ).loc Cert.UpdateMlpIdeal.main_v0_0) = v0 c
          ∧ r.2.mem ((c.tc : Thread Cert.UpdateMlpIdeal.nD Cert.UpdateMlpIdeal.τ).loc Cert.UpdateMlpIdeal.main_v0_1) = v1 c
          ∧ r.2.mem ((c.tc : Thread Cert.UpdateMlpIdeal.nD Cert.UpdateMlpIdeal.τ).loc Cert.UpdateMlpIdeal.main_v0_2) = v2 c
          ∧ r.2.mem ((c.tc : Thread Cert.UpdateMlpIdeal.nD Cert.UpdateMlpIdeal.τ).loc Cert.UpdateMlpIdeal.main_v0_3) = v3 c
          ∧ r.2.mem ((c.tc : Thread Cert.UpdateMlpIdeal.nD Cert.UpdateMlpIdeal.τ).loc Cert.UpdateMlpIdeal.main_arg0) = m ((c.tc : Thread Cert.UpdateMlpIdeal.nD Cert.UpdateMlpIdeal.τ).loc Cert.UpdateMlpIdeal.main_arg0)
          ∧ r.2.mem ((c.tc : Thread Cert.UpdateMlpIdeal.nD Cert.UpdateMlpIdeal.τ).loc Cert.UpdateMlpIdeal.main_arg1) = m ((c.tc : Thread Cert.UpdateMlpIdeal.nD Cert.UpdateMlpIdeal.τ).loc Cert.UpdateMlpIdeal.main_arg1)
          ∧ r.2.mem ((c.tc : Thread Cert.UpdateMlpIdeal.nD Cert.UpdateMlpIdeal.τ).loc Cert.UpdateMlpIdeal.main_arg2) = m ((c.tc : Thread Cert.UpdateMlpIdeal.nD Cert.UpdateMlpIdeal.τ).loc Cert.UpdateMlpIdeal.main_arg2)
          ∧ r.2.mem ((c.tc : Thread Cert.UpdateMlpIdeal.nD Cert.UpdateMlpIdeal.τ).loc Cert.UpdateMlpIdeal.main_arg3) = m ((c.tc : Thread Cert.UpdateMlpIdeal.nD Cert.UpdateMlpIdeal.τ).loc Cert.UpdateMlpIdeal.main_arg3)
          ∧ r.2.mem ((c.tc : Thread Cert.UpdateMlpIdeal.nD Cert.UpdateMlpIdeal.τ).loc Cert.UpdateMlpIdeal.main_arg4) = m ((c.tc : Thread Cert.UpdateMlpIdeal.nD Cert.UpdateMlpIdeal.τ).loc Cert.UpdateMlpIdeal.main_arg4))
      ∧ θ_run (Cert.UpdateMlpRefIdeal.defs (F := Ideal)) (onTc (τ := Cert.UpdateMlpRefIdeal.τ) (Cert.UpdateMlpRefIdeal.main (F := Ideal))) ⟨m', fun _ => 0, g'⟩ (fun r => ∀ c : Dev Cert.UpdateMlpRefIdeal.nD,
          r.2.mem ((c.tc : Thread Cert.UpdateMlpRefIdeal.nD Cert.UpdateMlpRefIdeal.τ).loc Cert.UpdateMlpRefIdeal.main_v0) = v0 c
          ∧ r.2.mem ((c.tc : Thread Cert.UpdateMlpRefIdeal.nD Cert.UpdateMlpRefIdeal.τ).loc Cert.UpdateMlpRefIdeal.main_v24) = v1 c
          ∧ r.2.mem ((c.tc : Thread Cert.UpdateMlpRefIdeal.nD Cert.UpdateMlpRefIdeal.τ).loc Cert.UpdateMlpRefIdeal.main_v5) = v2 c
          ∧ r.2.mem ((c.tc : Thread Cert.UpdateMlpRefIdeal.nD Cert.UpdateMlpRefIdeal.τ).loc Cert.UpdateMlpRefIdeal.main_v11) = v3 c
          ∧ r.2.mem ((c.tc : Thread Cert.UpdateMlpRefIdeal.nD Cert.UpdateMlpRefIdeal.τ).loc Cert.UpdateMlpRefIdeal.main_arg0) = m' ((c.tc : Thread Cert.UpdateMlpRefIdeal.nD Cert.UpdateMlpRefIdeal.τ).loc Cert.UpdateMlpRefIdeal.main_arg0)
          ∧ r.2.mem ((c.tc : Thread Cert.UpdateMlpRefIdeal.nD Cert.UpdateMlpRefIdeal.τ).loc Cert.UpdateMlpRefIdeal.main_arg1) = m' ((c.tc : Thread Cert.UpdateMlpRefIdeal.nD Cert.UpdateMlpRefIdeal.τ).loc Cert.UpdateMlpRefIdeal.main_arg1)
          ∧ r.2.mem ((c.tc : Thread Cert.UpdateMlpRefIdeal.nD Cert.UpdateMlpRefIdeal.τ).loc Cert.UpdateMlpRefIdeal.main_arg2) = m' ((c.tc : Thread Cert.UpdateMlpRefIdeal.nD Cert.UpdateMlpRefIdeal.τ).loc Cert.UpdateMlpRefIdeal.main_arg2)
          ∧ r.2.mem ((c.tc : Thread Cert.UpdateMlpRefIdeal.nD Cert.UpdateMlpRefIdeal.τ).loc Cert.UpdateMlpRefIdeal.main_arg3) = m' ((c.tc : Thread Cert.UpdateMlpRefIdeal.nD Cert.UpdateMlpRefIdeal.τ).loc Cert.UpdateMlpRefIdeal.main_arg3)
          ∧ r.2.mem ((c.tc : Thread Cert.UpdateMlpRefIdeal.nD Cert.UpdateMlpRefIdeal.τ).loc Cert.UpdateMlpRefIdeal.main_arg4) = m' ((c.tc : Thread Cert.UpdateMlpRefIdeal.nD Cert.UpdateMlpRefIdeal.τ).loc Cert.UpdateMlpRefIdeal.main_arg4))

def preserves_UpdateSmall_UpdateSmallIdeal : Prop :=
  True

def algebraic_UpdateSmallIdeal_UpdateSmallRefIdeal [hUpdateSmallIdeal : Cert.UpdateSmallIdeal.Facts] [hUpdateSmallRefIdeal : Cert.UpdateSmallRefIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdateSmallRefIdeal.nD Cert.UpdateSmallRefIdeal.τ Cert.UpdateSmallRefIdeal.sig) → Buf (Elt Ideal) ℓ) (g' : Dev Cert.UpdateSmallRefIdeal.nD → PrngReg), Pre_UpdateSmallIdeal m →
    (∀ c : Dev Cert.UpdateSmallIdeal.nD,
      m' ((c.tc : Thread Cert.UpdateSmallRefIdeal.nD Cert.UpdateSmallRefIdeal.τ).loc Cert.UpdateSmallRefIdeal.main_arg0) = m ((c.tc : Thread Cert.UpdateSmallIdeal.nD Cert.UpdateSmallIdeal.τ).loc Cert.UpdateSmallIdeal.main_arg0)
      ∧ m' ((c.tc : Thread Cert.UpdateSmallRefIdeal.nD Cert.UpdateSmallRefIdeal.τ).loc Cert.UpdateSmallRefIdeal.main_arg1) = m ((c.tc : Thread Cert.UpdateSmallIdeal.nD Cert.UpdateSmallIdeal.τ).loc Cert.UpdateSmallIdeal.main_arg1)
      ∧ m' ((c.tc : Thread Cert.UpdateSmallRefIdeal.nD Cert.UpdateSmallRefIdeal.τ).loc Cert.UpdateSmallRefIdeal.main_arg2) = m ((c.tc : Thread Cert.UpdateSmallIdeal.nD Cert.UpdateSmallIdeal.τ).loc Cert.UpdateSmallIdeal.main_arg2)
      ∧ m' ((c.tc : Thread Cert.UpdateSmallRefIdeal.nD Cert.UpdateSmallRefIdeal.τ).loc Cert.UpdateSmallRefIdeal.main_arg3) = m ((c.tc : Thread Cert.UpdateSmallIdeal.nD Cert.UpdateSmallIdeal.τ).loc Cert.UpdateSmallIdeal.main_arg3)
      ∧ m' ((c.tc : Thread Cert.UpdateSmallRefIdeal.nD Cert.UpdateSmallRefIdeal.τ).loc Cert.UpdateSmallRefIdeal.main_arg4) = m ((c.tc : Thread Cert.UpdateSmallIdeal.nD Cert.UpdateSmallIdeal.τ).loc Cert.UpdateSmallIdeal.main_arg4)) →
    ∃ (v0 : (c : Dev Cert.UpdateSmallIdeal.nD) → Buf (Elt Ideal) ((c.tc : Thread Cert.UpdateSmallIdeal.nD Cert.UpdateSmallIdeal.τ).loc Cert.UpdateSmallIdeal.main_v0_0)) (v1 : (c : Dev Cert.UpdateSmallIdeal.nD) → Buf (Elt Ideal) ((c.tc : Thread Cert.UpdateSmallIdeal.nD Cert.UpdateSmallIdeal.τ).loc Cert.UpdateSmallIdeal.main_v0_1)) (v2 : (c : Dev Cert.UpdateSmallIdeal.nD) → Buf (Elt Ideal) ((c.tc : Thread Cert.UpdateSmallIdeal.nD Cert.UpdateSmallIdeal.τ).loc Cert.UpdateSmallIdeal.main_v0_2)) (v3 : (c : Dev Cert.UpdateSmallIdeal.nD) → Buf (Elt Ideal) ((c.tc : Thread Cert.UpdateSmallIdeal.nD Cert.UpdateSmallIdeal.τ).loc Cert.UpdateSmallIdeal.main_v0_3)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v0_0) = v0 c
          ∧ r.2.mem ((c.tc : Thread Cert.UpdateSmallIdeal.nD Cert.UpdateSmallIdeal.τ).loc Cert.UpdateSmallIdeal.main_v0_1) = v1 c
          ∧ r.2.mem ((c.tc : Thread Cert.UpdateSmallIdeal.nD Cert.UpdateSmallIdeal.τ).loc Cert.UpdateSmallIdeal.main_v0_2) = v2 c
          ∧ r.2.mem ((c.tc : Thread Cert.UpdateSmallIdeal.nD Cert.UpdateSmallIdeal.τ).loc Cert.UpdateSmallIdeal.main_v0_3) = v3 c
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3)
          ∧ r.2.mem ((c.tc : Thread Cert.UpdateSmallIdeal.nD Cert.UpdateSmallIdeal.τ).loc Cert.UpdateSmallIdeal.main_arg4) = m ((c.tc : Thread Cert.UpdateSmallIdeal.nD Cert.UpdateSmallIdeal.τ).loc Cert.UpdateSmallIdeal.main_arg4))
      ∧ θ_run (Cert.UpdateSmallRefIdeal.defs (F := Ideal)) (onTc (τ := Cert.UpdateSmallRefIdeal.τ) (Cert.UpdateSmallRefIdeal.main (F := Ideal))) ⟨m', fun _ => 0, g'⟩ (fun r => ∀ c : Dev Cert.UpdateSmallRefIdeal.nD,
          r.2.mem ((c.tc : Thread Cert.UpdateSmallRefIdeal.nD Cert.UpdateSmallRefIdeal.τ).loc Cert.UpdateSmallRefIdeal.main_v0) = v0 c
          ∧ r.2.mem ((c.tc : Thread Cert.UpdateSmallRefIdeal.nD Cert.UpdateSmallRefIdeal.τ).loc Cert.UpdateSmallRefIdeal.main_v24) = v1 c
          ∧ r.2.mem ((c.tc : Thread Cert.UpdateSmallRefIdeal.nD Cert.UpdateSmallRefIdeal.τ).loc Cert.UpdateSmallRefIdeal.main_v5) = v2 c
          ∧ r.2.mem ((c.tc : Thread Cert.UpdateSmallRefIdeal.nD Cert.UpdateSmallRefIdeal.τ).loc Cert.UpdateSmallRefIdeal.main_v11) = v3 c
          ∧ r.2.mem ((c.tc : Thread Cert.UpdateSmallRefIdeal.nD Cert.UpdateSmallRefIdeal.τ).loc Cert.UpdateSmallRefIdeal.main_arg0) = m' ((c.tc : Thread Cert.UpdateSmallRefIdeal.nD Cert.UpdateSmallRefIdeal.τ).loc Cert.UpdateSmallRefIdeal.main_arg0)
          ∧ r.2.mem ((c.tc : Thread Cert.UpdateSmallRefIdeal.nD Cert.UpdateSmallRefIdeal.τ).loc Cert.UpdateSmallRefIdeal.main_arg1) = m' ((c.tc : Thread Cert.UpdateSmallRefIdeal.nD Cert.UpdateSmallRefIdeal.τ).loc Cert.UpdateSmallRefIdeal.main_arg1)
          ∧ r.2.mem ((c.tc : Thread Cert.UpdateSmallRefIdeal.nD Cert.UpdateSmallRefIdeal.τ).loc Cert.UpdateSmallRefIdeal.main_arg2) = m' ((c.tc : Thread Cert.UpdateSmallRefIdeal.nD Cert.UpdateSmallRefIdeal.τ).loc Cert.UpdateSmallRefIdeal.main_arg2)
          ∧ r.2.mem ((c.tc : Thread Cert.UpdateSmallRefIdeal.nD Cert.UpdateSmallRefIdeal.τ).loc Cert.UpdateSmallRefIdeal.main_arg3) = m' ((c.tc : Thread Cert.UpdateSmallRefIdeal.nD Cert.UpdateSmallRefIdeal.τ).loc Cert.UpdateSmallRefIdeal.main_arg3)
          ∧ r.2.mem ((c.tc : Thread Cert.UpdateSmallRefIdeal.nD Cert.UpdateSmallRefIdeal.τ).loc Cert.UpdateSmallRefIdeal.main_arg4) = m' ((c.tc : Thread Cert.UpdateSmallRefIdeal.nD Cert.UpdateSmallRefIdeal.τ).loc Cert.UpdateSmallRefIdeal.main_arg4))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)
      ∧ m' ((c.tc : Thread Cert.SumInRefIdeal.nD Cert.SumInRefIdeal.τ).loc Cert.SumInRefIdeal.main_arg2) = m ((c.tc : Thread Cert.SumInIdeal.nD Cert.SumInIdeal.τ).loc Cert.SumInIdeal.main_arg2)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v8) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1)
          ∧ r.2.mem ((c.tc : Thread Cert.SumInRefIdeal.nD Cert.SumInRefIdeal.τ).loc Cert.SumInRefIdeal.main_arg2) = m' ((c.tc : Thread Cert.SumInRefIdeal.nD Cert.SumInRefIdeal.τ).loc Cert.SumInRefIdeal.main_arg2))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)
      ∧ m' ((c.tc : Thread Cert.SumOutRefIdeal.nD Cert.SumOutRefIdeal.τ).loc Cert.SumOutRefIdeal.main_arg2) = m ((c.tc : Thread Cert.SumOutIdeal.nD Cert.SumOutIdeal.τ).loc Cert.SumOutIdeal.main_arg2)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
          ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v8) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1)
          ∧ r.2.mem ((c.tc : Thread Cert.SumOutRefIdeal.nD Cert.SumOutRefIdeal.τ).loc Cert.SumOutRefIdeal.main_arg2) = m' ((c.tc : Thread Cert.SumOutRefIdeal.nD Cert.SumOutRefIdeal.τ).loc Cert.SumOutRefIdeal.main_arg2))

def preserves_SumMlp_SumMlpIdeal : Prop :=
  True

def algebraic_SumMlpIdeal_SumMlpRefIdeal [hSumMlpIdeal : Cert.SumMlpIdeal.Facts] [hSumMlpRefIdeal : Cert.SumMlpRefIdeal.Facts] : Prop :=
  ∀ (m : (ℓ : Loc Cert.SumMlpIdeal.nD Cert.SumMlpIdeal.τ Cert.SumMlpIdeal.sig) → Buf (Elt Ideal) ℓ) (g : Dev Cert.SumMlpIdeal.nD → PrngReg)
    (m' : (ℓ : Loc Cert.SumMlpRefIdeal.nD Cert.SumMlpRefIdeal.τ Cert.SumMlpRefIdeal.sig) → Buf (Elt Ideal) ℓ) (g' : Dev Cert.SumMlpRefIdeal.nD → PrngReg), Pre_SumMlpIdeal m →
    (∀ c : Dev Cert.SumMlpIdeal.nD,
      m' ((c.tc : Thread Cert.SumMlpRefIdeal.nD Cert.SumMlpRefIdeal.τ).loc Cert.SumMlpRefIdeal.main_arg0) = m ((c.tc : Thread Cert.SumMlpIdeal.nD Cert.SumMlpIdeal.τ).loc Cert.SumMlpIdeal.main_arg0)
      ∧ m' ((c.tc : Thread Cert.SumMlpRefIdeal.nD Cert.SumMlpRefIdeal.τ).loc Cert.SumMlpRefIdeal.main_arg1) = m ((c.tc : Thread Cert.SumMlpIdeal.nD Cert.SumMlpIdeal.τ).loc Cert.SumMlpIdeal.main_arg1)
      ∧ m' ((c.tc : Thread Cert.SumMlpRefIdeal.nD Cert.SumMlpRefIdeal.τ).loc Cert.SumMlpRefIdeal.main_arg2) = m ((c.tc : Thread Cert.SumMlpIdeal.nD Cert.SumMlpIdeal.τ).loc Cert.SumMlpIdeal.main_arg2)) →
    ∃ (v0 : (c : Dev Cert.SumMlpIdeal.nD) → Buf (Elt Ideal) ((c.tc : Thread Cert.SumMlpIdeal.nD Cert.SumMlpIdeal.τ).loc Cert.SumMlpIdeal.main_v0)),
      θ_run (Cert.SumMlpIdeal.defs (F := Ideal)) (onTc (τ := Cert.SumMlpIdeal.τ) (Cert.SumMlpIdeal.main (F := Ideal))) ⟨m, fun _ => 0, g⟩ (fun r => ∀ c : Dev Cert.SumMlpIdeal.nD,
          r.2.mem ((c.tc : Thread Cert.SumMlpIdeal.nD Cert.SumMlpIdeal.τ).loc Cert.SumMlpIdeal.main_v0) = v0 c
          ∧ r.2.mem ((c.tc : Thread Cert.SumMlpIdeal.nD Cert.SumMlpIdeal.τ).loc Cert.SumMlpIdeal.main_arg0) = m ((c.tc : Thread Cert.SumMlpIdeal.nD Cert.SumMlpIdeal.τ).loc Cert.SumMlpIdeal.main_arg0)
          ∧ r.2.mem ((c.tc : Thread Cert.SumMlpIdeal.nD Cert.SumMlpIdeal.τ).loc Cert.SumMlpIdeal.main_arg1) = m ((c.tc : Thread Cert.SumMlpIdeal.nD Cert.SumMlpIdeal.τ).loc Cert.SumMlpIdeal.main_arg1)
          ∧ r.2.mem ((c.tc : Thread Cert.SumMlpIdeal.nD Cert.SumMlpIdeal.τ).loc Cert.SumMlpIdeal.main_arg2) = m ((c.tc : Thread Cert.SumMlpIdeal.nD Cert.SumMlpIdeal.τ).loc Cert.SumMlpIdeal.main_arg2))
      ∧ θ_run (Cert.SumMlpRefIdeal.defs (F := Ideal)) (onTc (τ := Cert.SumMlpRefIdeal.τ) (Cert.SumMlpRefIdeal.main (F := Ideal))) ⟨m', fun _ => 0, g'⟩ (fun r => ∀ c : Dev Cert.SumMlpRefIdeal.nD,
          r.2.mem ((c.tc : Thread Cert.SumMlpRefIdeal.nD Cert.SumMlpRefIdeal.τ).loc Cert.SumMlpRefIdeal.main_v8) = v0 c
          ∧ r.2.mem ((c.tc : Thread Cert.SumMlpRefIdeal.nD Cert.SumMlpRefIdeal.τ).loc Cert.SumMlpRefIdeal.main_arg0) = m' ((c.tc : Thread Cert.SumMlpRefIdeal.nD Cert.SumMlpRefIdeal.τ).loc Cert.SumMlpRefIdeal.main_arg0)
          ∧ r.2.mem ((c.tc : Thread Cert.SumMlpRefIdeal.nD Cert.SumMlpRefIdeal.τ).loc Cert.SumMlpRefIdeal.main_arg1) = m' ((c.tc : Thread Cert.SumMlpRefIdeal.nD Cert.SumMlpRefIdeal.τ).loc Cert.SumMlpRefIdeal.main_arg1)
          ∧ r.2.mem ((c.tc : Thread Cert.SumMlpRefIdeal.nD Cert.SumMlpRefIdeal.τ).loc Cert.SumMlpRefIdeal.main_arg2) = m' ((c.tc : Thread Cert.SumMlpRefIdeal.nD Cert.SumMlpRefIdeal.τ).loc Cert.SumMlpRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v41) = v0 c
          ∧ r.2.mem ((c.tc : Thread Cert.LossRefIdeal.nD Cert.LossRefIdeal.τ).loc Cert.LossRefIdeal.main_v42) = v1 c
          ∧ r.2.mem ((c.tc : Thread Cert.LossRefIdeal.nD Cert.LossRefIdeal.τ).loc Cert.LossRefIdeal.main_v45) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)) (v2 : (c : Dev Cert.ConvFwdIdeal.nD) → Buf (Elt Ideal) ((c.tc : Thread Cert.ConvFwdIdeal.nD Cert.ConvFwdIdeal.τ).loc Cert.ConvFwdIdeal.main_v0_2)) (v3 : (c : Dev Cert.ConvFwdIdeal.nD) → Buf (Elt Ideal) ((c.tc : Thread Cert.ConvFwdIdeal.nD Cert.ConvFwdIdeal.τ).loc Cert.ConvFwdIdeal.main_v0_3)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_v0_2) = v2 c
          ∧ r.2.mem ((c.tc : Thread Cert.ConvFwdIdeal.nD Cert.ConvFwdIdeal.τ).loc Cert.ConvFwdIdeal.main_v0_3) = v3 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v317) = v0 c
          ∧ r.2.mem ((c.tc : Thread Cert.ConvFwdRefIdeal.nD Cert.ConvFwdRefIdeal.τ).loc Cert.ConvFwdRefIdeal.main_v241) = v1 c
          ∧ r.2.mem ((c.tc : Thread Cert.ConvFwdRefIdeal.nD Cert.ConvFwdRefIdeal.τ).loc Cert.ConvFwdRefIdeal.main_v305) = v2 c
          ∧ r.2.mem ((c.tc : Thread Cert.ConvFwdRefIdeal.nD Cert.ConvFwdRefIdeal.τ).loc Cert.ConvFwdRefIdeal.main_v318) = v3 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v5) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)
      ∧ m' ((c.tc : Thread Cert.ProjFwdRefIdeal.nD Cert.ProjFwdRefIdeal.τ).loc Cert.ProjFwdRefIdeal.main_arg3) = m ((c.tc : Thread Cert.ProjFwdIdeal.nD Cert.ProjFwdIdeal.τ).loc Cert.ProjFwdIdeal.main_arg3)) →
    ∃ (v0 : (c : Dev Cert.ProjFwdIdeal.nD) → Buf (Elt Ideal) ((c.tc : Thread Cert.ProjFwdIdeal.nD Cert.ProjFwdIdeal.τ).loc Cert.ProjFwdIdeal.main_v0_0)) (v1 : (c : Dev Cert.ProjFwdIdeal.nD) → Buf (Elt Ideal) ((c.tc : Thread Cert.ProjFwdIdeal.nD Cert.ProjFwdIdeal.τ).loc Cert.ProjFwdIdeal.main_v0_1)) (v2 : (c : Dev Cert.ProjFwdIdeal.nD) → Buf (Elt Ideal) ((c.tc : Thread Cert.ProjFwdIdeal.nD Cert.ProjFwdIdeal.τ).loc Cert.ProjFwdIdeal.main_v0_2)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v0_0) = v0 c
          ∧ r.2.mem ((c.tc : Thread Cert.ProjFwdIdeal.nD Cert.ProjFwdIdeal.τ).loc Cert.ProjFwdIdeal.main_v0_1) = v1 c
          ∧ r.2.mem ((c.tc : Thread Cert.ProjFwdIdeal.nD Cert.ProjFwdIdeal.τ).loc Cert.ProjFwdIdeal.main_v0_2) = v2 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v19) = v0 c
          ∧ r.2.mem ((c.tc : Thread Cert.ProjFwdRefIdeal.nD Cert.ProjFwdRefIdeal.τ).loc Cert.ProjFwdRefIdeal.main_v20) = v1 c
          ∧ r.2.mem ((c.tc : Thread Cert.ProjFwdRefIdeal.nD Cert.ProjFwdRefIdeal.τ).loc Cert.ProjFwdRefIdeal.main_v22) = v2 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2)
          ∧ r.2.mem ((c.tc : Thread Cert.ProjFwdRefIdeal.nD Cert.ProjFwdRefIdeal.τ).loc Cert.ProjFwdRefIdeal.main_arg3) = m' ((c.tc : Thread Cert.ProjFwdRefIdeal.nD Cert.ProjFwdRefIdeal.τ).loc Cert.ProjFwdRefIdeal.main_arg3))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v0_0)) (v1 : (c : Dev Cert.MlpFwdIdeal.nD) → Buf (Elt Ideal) ((c.tc : Thread Cert.MlpFwdIdeal.nD Cert.MlpFwdIdeal.τ).loc Cert.MlpFwdIdeal.main_v0_1)) (v2 : (c : Dev Cert.MlpFwdIdeal.nD) → Buf (Elt Ideal) ((c.tc : Thread Cert.MlpFwdIdeal.nD Cert.MlpFwdIdeal.τ).loc Cert.MlpFwdIdeal.main_v0_2)) (v3 : (c : Dev Cert.MlpFwdIdeal.nD) → Buf (Elt Ideal) ((c.tc : Thread Cert.MlpFwdIdeal.nD Cert.MlpFwdIdeal.τ).loc Cert.MlpFwdIdeal.main_v0_3)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v0_0) = v0 c
          ∧ r.2.mem ((c.tc : Thread Cert.MlpFwdIdeal.nD Cert.MlpFwdIdeal.τ).loc Cert.MlpFwdIdeal.main_v0_1) = v1 c
          ∧ r.2.mem ((c.tc : Thread Cert.MlpFwdIdeal.nD Cert.MlpFwdIdeal.τ).loc Cert.MlpFwdIdeal.main_v0_2) = v2 c
          ∧ r.2.mem ((c.tc : Thread Cert.MlpFwdIdeal.nD Cert.MlpFwdIdeal.τ).loc Cert.MlpFwdIdeal.main_v0_3) = v3 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v16) = v0 c
          ∧ r.2.mem ((c.tc : Thread Cert.MlpFwdRefIdeal.nD Cert.MlpFwdRefIdeal.τ).loc Cert.MlpFwdRefIdeal.main_v13) = v1 c
          ∧ r.2.mem ((c.tc : Thread Cert.MlpFwdRefIdeal.nD Cert.MlpFwdRefIdeal.τ).loc Cert.MlpFwdRefIdeal.main_v17) = v2 c
          ∧ r.2.mem ((c.tc : Thread Cert.MlpFwdRefIdeal.nD Cert.MlpFwdRefIdeal.τ).loc Cert.MlpFwdRefIdeal.main_v20) = v3 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v3) = v0 c
          ∧ r.2.mem ((c.tc : Thread Cert.MixBwdRefIdeal.nD Cert.MixBwdRefIdeal.τ).loc Cert.MixBwdRefIdeal.main_v6) = v1 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v28) = v0 c
          ∧ r.2.mem ((c.tc : Thread Cert.InBwdRefIdeal.nD Cert.InBwdRefIdeal.τ).loc Cert.InBwdRefIdeal.main_v31) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8))

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)
      ∧ m' ((c.tc : Thread Cert.MlpBwdRefIdeal.nD Cert.MlpBwdRefIdeal.τ).loc Cert.MlpBwdRefIdeal.main_arg5) = m ((c.tc : Thread Cert.MlpBwdIdeal.nD Cert.MlpBwdIdeal.τ).loc Cert.MlpBwdIdeal.main_arg5)) →
    ∃ (v0 : (c : Dev Cert.MlpBwdIdeal.nD) → Buf (Elt Ideal) ((c.tc : Thread Cert.MlpBwdIdeal.nD Cert.MlpBwdIdeal.τ).loc Cert.MlpBwdIdeal.main_v0_0)) (v1 : (c : Dev Cert.MlpBwdIdeal.nD) → Buf (Elt Ideal) ((c.tc : Thread Cert.MlpBwdIdeal.nD Cert.MlpBwdIdeal.τ).loc Cert.MlpBwdIdeal.main_v0_1)) (v2 : (c : Dev Cert.MlpBwdIdeal.nD) → Buf (Elt Ideal) ((c.tc : Thread Cert.MlpBwdIdeal.nD Cert.MlpBwdIdeal.τ).loc Cert.MlpBwdIdeal.main_v0_2)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v0_0) = v0 c
          ∧ r.2.mem ((c.tc : Thread Cert.MlpBwdIdeal.nD Cert.MlpBwdIdeal.τ).loc Cert.MlpBwdIdeal.main_v0_1) = v1 c
          ∧ r.2.mem ((c.tc : Thread Cert.MlpBwdIdeal.nD Cert.MlpBwdIdeal.τ).loc Cert.MlpBwdIdeal.main_v0_2) = v2 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v32) = v0 c
          ∧ r.2.mem ((c.tc : Thread Cert.MlpBwdRefIdeal.nD Cert.MlpBwdRefIdeal.τ).loc Cert.MlpBwdRefIdeal.main_v33) = v1 c
          ∧ r.2.mem ((c.tc : Thread Cert.MlpBwdRefIdeal.nD Cert.MlpBwdRefIdeal.τ).loc Cert.MlpBwdRefIdeal.main_v36) = v2 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4)
          ∧ r.2.mem ((c.tc : Thread Cert.MlpBwdRefIdeal.nD Cert.MlpBwdRefIdeal.τ).loc Cert.MlpBwdRefIdeal.main_arg5) = m' ((c.tc : Thread Cert.MlpBwdRefIdeal.nD Cert.MlpBwdRefIdeal.τ).loc Cert.MlpBwdRefIdeal.main_arg5))

def preserves_ProductDown_ProductDownIdeal : Prop :=
  True

def algebraic_ProductDownIdeal_ProductDownRefIdeal [hProductDownIdeal : Cert.ProductDownIdeal.Facts] [hProductDownRefIdeal : Cert.ProductDownRefIdeal.Facts] : Prop :=
  ∀ (m : (ℓ : Loc Cert.ProductDownIdeal.nD Cert.ProductDownIdeal.τ Cert.ProductDownIdeal.sig) → Buf (Elt Ideal) ℓ) (g : Dev Cert.ProductDownIdeal.nD → PrngReg)
    (m' : (ℓ : Loc Cert.ProductDownRefIdeal.nD Cert.ProductDownRefIdeal.τ Cert.ProductDownRefIdeal.sig) → Buf (Elt Ideal) ℓ) (g' : Dev Cert.ProductDownRefIdeal.nD → PrngReg), Pre_ProductDownIdeal m →
    (∀ c : Dev Cert.ProductDownIdeal.nD,
      m' ((c.tc : Thread Cert.ProductDownRefIdeal.nD Cert.ProductDownRefIdeal.τ).loc Cert.ProductDownRefIdeal.main_arg0) = m ((c.tc : Thread Cert.ProductDownIdeal.nD Cert.ProductDownIdeal.τ).loc Cert.ProductDownIdeal.main_arg0)
      ∧ m' ((c.tc : Thread Cert.ProductDownRefIdeal.nD Cert.ProductDownRefIdeal.τ).loc Cert.ProductDownRefIdeal.main_arg1) = m ((c.tc : Thread Cert.ProductDownIdeal.nD Cert.ProductDownIdeal.τ).loc Cert.ProductDownIdeal.main_arg1)) →
    ∃ (v0 : (c : Dev Cert.ProductDownIdeal.nD) → Buf (Elt Ideal) ((c.tc : Thread Cert.ProductDownIdeal.nD Cert.ProductDownIdeal.τ).loc Cert.ProductDownIdeal.main_v0)),
      θ_run (Cert.ProductDownIdeal.defs (F := Ideal)) (onTc (τ := Cert.ProductDownIdeal.τ) (Cert.ProductDownIdeal.main (F := Ideal))) ⟨m, fun _ => 0, g⟩ (fun r => ∀ c : Dev Cert.ProductDownIdeal.nD,
          r.2.mem ((c.tc : Thread Cert.ProductDownIdeal.nD Cert.ProductDownIdeal.τ).loc Cert.ProductDownIdeal.main_v0) = v0 c
          ∧ r.2.mem ((c.tc : Thread Cert.ProductDownIdeal.nD Cert.ProductDownIdeal.τ).loc Cert.ProductDownIdeal.main_arg0) = m ((c.tc : Thread Cert.ProductDownIdeal.nD Cert.ProductDownIdeal.τ).loc Cert.ProductDownIdeal.main_arg0)
          ∧ r.2.mem ((c.tc : Thread Cert.ProductDownIdeal.nD Cert.ProductDownIdeal.τ).loc Cert.ProductDownIdeal.main_arg1) = m ((c.tc : Thread Cert.ProductDownIdeal.nD Cert.ProductDownIdeal.τ).loc Cert.ProductDownIdeal.main_arg1))
      ∧ θ_run (Cert.ProductDownRefIdeal.defs (F := Ideal)) (onTc (τ := Cert.ProductDownRefIdeal.τ) (Cert.ProductDownRefIdeal.main (F := Ideal))) ⟨m', fun _ => 0, g'⟩ (fun r => ∀ c : Dev Cert.ProductDownRefIdeal.nD,
          r.2.mem ((c.tc : Thread Cert.ProductDownRefIdeal.nD Cert.ProductDownRefIdeal.τ).loc Cert.ProductDownRefIdeal.main_v2) = v0 c
          ∧ r.2.mem ((c.tc : Thread Cert.ProductDownRefIdeal.nD Cert.ProductDownRefIdeal.τ).loc Cert.ProductDownRefIdeal.main_arg0) = m' ((c.tc : Thread Cert.ProductDownRefIdeal.nD Cert.ProductDownRefIdeal.τ).loc Cert.ProductDownRefIdeal.main_arg0)
          ∧ r.2.mem ((c.tc : Thread Cert.ProductDownRefIdeal.nD Cert.ProductDownRefIdeal.τ).loc Cert.ProductDownRefIdeal.main_arg1) = m' ((c.tc : Thread Cert.ProductDownRefIdeal.nD Cert.ProductDownRefIdeal.τ).loc Cert.ProductDownRefIdeal.main_arg1))

def preserves_ProductUp_ProductUpIdeal : Prop :=
  True

def algebraic_ProductUpIdeal_ProductUpRefIdeal [hProductUpIdeal : Cert.ProductUpIdeal.Facts] [hProductUpRefIdeal : Cert.ProductUpRefIdeal.Facts] : Prop :=
  ∀ (m : (ℓ : Loc Cert.ProductUpIdeal.nD Cert.ProductUpIdeal.τ Cert.ProductUpIdeal.sig) → Buf (Elt Ideal) ℓ) (g : Dev Cert.ProductUpIdeal.nD → PrngReg)
    (m' : (ℓ : Loc Cert.ProductUpRefIdeal.nD Cert.ProductUpRefIdeal.τ Cert.ProductUpRefIdeal.sig) → Buf (Elt Ideal) ℓ) (g' : Dev Cert.ProductUpRefIdeal.nD → PrngReg), Pre_ProductUpIdeal m →
    (∀ c : Dev Cert.ProductUpIdeal.nD,
      m' ((c.tc : Thread Cert.ProductUpRefIdeal.nD Cert.ProductUpRefIdeal.τ).loc Cert.ProductUpRefIdeal.main_arg0) = m ((c.tc : Thread Cert.ProductUpIdeal.nD Cert.ProductUpIdeal.τ).loc Cert.ProductUpIdeal.main_arg0)
      ∧ m' ((c.tc : Thread Cert.ProductUpRefIdeal.nD Cert.ProductUpRefIdeal.τ).loc Cert.ProductUpRefIdeal.main_arg1) = m ((c.tc : Thread Cert.ProductUpIdeal.nD Cert.ProductUpIdeal.τ).loc Cert.ProductUpIdeal.main_arg1)) →
    ∃ (v0 : (c : Dev Cert.ProductUpIdeal.nD) → Buf (Elt Ideal) ((c.tc : Thread Cert.ProductUpIdeal.nD Cert.ProductUpIdeal.τ).loc Cert.ProductUpIdeal.main_v0)),
      θ_run (Cert.ProductUpIdeal.defs (F := Ideal)) (onTc (τ := Cert.ProductUpIdeal.τ) (Cert.ProductUpIdeal.main (F := Ideal))) ⟨m, fun _ => 0, g⟩ (fun r => ∀ c : Dev Cert.ProductUpIdeal.nD,
          r.2.mem ((c.tc : Thread Cert.ProductUpIdeal.nD Cert.ProductUpIdeal.τ).loc Cert.ProductUpIdeal.main_v0) = v0 c
          ∧ r.2.mem ((c.tc : Thread Cert.ProductUpIdeal.nD Cert.ProductUpIdeal.τ).loc Cert.ProductUpIdeal.main_arg0) = m ((c.tc : Thread Cert.ProductUpIdeal.nD Cert.ProductUpIdeal.τ).loc Cert.ProductUpIdeal.main_arg0)
          ∧ r.2.mem ((c.tc : Thread Cert.ProductUpIdeal.nD Cert.ProductUpIdeal.τ).loc Cert.ProductUpIdeal.main_arg1) = m ((c.tc : Thread Cert.ProductUpIdeal.nD Cert.ProductUpIdeal.τ).loc Cert.ProductUpIdeal.main_arg1))
      ∧ θ_run (Cert.ProductUpRefIdeal.defs (F := Ideal)) (onTc (τ := Cert.ProductUpRefIdeal.τ) (Cert.ProductUpRefIdeal.main (F := Ideal))) ⟨m', fun _ => 0, g'⟩ (fun r => ∀ c : Dev Cert.ProductUpRefIdeal.nD,
          r.2.mem ((c.tc : Thread Cert.ProductUpRefIdeal.nD Cert.ProductUpRefIdeal.τ).loc Cert.ProductUpRefIdeal.main_v3) = v0 c
          ∧ r.2.mem ((c.tc : Thread Cert.ProductUpRefIdeal.nD Cert.ProductUpRefIdeal.τ).loc Cert.ProductUpRefIdeal.main_arg0) = m' ((c.tc : Thread Cert.ProductUpRefIdeal.nD Cert.ProductUpRefIdeal.τ).loc Cert.ProductUpRefIdeal.main_arg0)
          ∧ r.2.mem ((c.tc : Thread Cert.ProductUpRefIdeal.nD Cert.ProductUpRefIdeal.τ).loc Cert.ProductUpRefIdeal.main_arg1) = m' ((c.tc : Thread Cert.ProductUpRefIdeal.nD Cert.ProductUpRefIdeal.τ).loc Cert.ProductUpRefIdeal.main_arg1))

def preserves_ProductOut_ProductOutIdeal : Prop :=
  True

def algebraic_ProductOutIdeal_ProductOutRefIdeal [hProductOutIdeal : Cert.ProductOutIdeal.Facts] [hProductOutRefIdeal : Cert.ProductOutRefIdeal.Facts] : Prop :=
  ∀ (m : (ℓ : Loc Cert.ProductOutIdeal.nD Cert.ProductOutIdeal.τ Cert.ProductOutIdeal.sig) → Buf (Elt Ideal) ℓ) (g : Dev Cert.ProductOutIdeal.nD → PrngReg)
    (m' : (ℓ : Loc Cert.ProductOutRefIdeal.nD Cert.ProductOutRefIdeal.τ Cert.ProductOutRefIdeal.sig) → Buf (Elt Ideal) ℓ) (g' : Dev Cert.ProductOutRefIdeal.nD → PrngReg), Pre_ProductOutIdeal m →
    (∀ c : Dev Cert.ProductOutIdeal.nD,
      m' ((c.tc : Thread Cert.ProductOutRefIdeal.nD Cert.ProductOutRefIdeal.τ).loc Cert.ProductOutRefIdeal.main_arg0) = m ((c.tc : Thread Cert.ProductOutIdeal.nD Cert.ProductOutIdeal.τ).loc Cert.ProductOutIdeal.main_arg0)
      ∧ m' ((c.tc : Thread Cert.ProductOutRefIdeal.nD Cert.ProductOutRefIdeal.τ).loc Cert.ProductOutRefIdeal.main_arg1) = m ((c.tc : Thread Cert.ProductOutIdeal.nD Cert.ProductOutIdeal.τ).loc Cert.ProductOutIdeal.main_arg1)) →
    ∃ (v0 : (c : Dev Cert.ProductOutIdeal.nD) → Buf (Elt Ideal) ((c.tc : Thread Cert.ProductOutIdeal.nD Cert.ProductOutIdeal.τ).loc Cert.ProductOutIdeal.main_v0)),
      θ_run (Cert.ProductOutIdeal.defs (F := Ideal)) (onTc (τ := Cert.ProductOutIdeal.τ) (Cert.ProductOutIdeal.main (F := Ideal))) ⟨m, fun _ => 0, g⟩ (fun r => ∀ c : Dev Cert.ProductOutIdeal.nD,
          r.2.mem ((c.tc : Thread Cert.ProductOutIdeal.nD Cert.ProductOutIdeal.τ).loc Cert.ProductOutIdeal.main_v0) = v0 c
          ∧ r.2.mem ((c.tc : Thread Cert.ProductOutIdeal.nD Cert.ProductOutIdeal.τ).loc Cert.ProductOutIdeal.main_arg0) = m ((c.tc : Thread Cert.ProductOutIdeal.nD Cert.ProductOutIdeal.τ).loc Cert.ProductOutIdeal.main_arg0)
          ∧ r.2.mem ((c.tc : Thread Cert.ProductOutIdeal.nD Cert.ProductOutIdeal.τ).loc Cert.ProductOutIdeal.main_arg1) = m ((c.tc : Thread Cert.ProductOutIdeal.nD Cert.ProductOutIdeal.τ).loc Cert.ProductOutIdeal.main_arg1))
      ∧ θ_run (Cert.ProductOutRefIdeal.defs (F := Ideal)) (onTc (τ := Cert.ProductOutRefIdeal.τ) (Cert.ProductOutRefIdeal.main (F := Ideal))) ⟨m', fun _ => 0, g'⟩ (fun r => ∀ c : Dev Cert.ProductOutRefIdeal.nD,
          r.2.mem ((c.tc : Thread Cert.ProductOutRefIdeal.nD Cert.ProductOutRefIdeal.τ).loc Cert.ProductOutRefIdeal.main_v2) = v0 c
          ∧ r.2.mem ((c.tc : Thread Cert.ProductOutRefIdeal.nD Cert.ProductOutRefIdeal.τ).loc Cert.ProductOutRefIdeal.main_arg0) = m' ((c.tc : Thread Cert.ProductOutRefIdeal.nD Cert.ProductOutRefIdeal.τ).loc Cert.ProductOutRefIdeal.main_arg0)
          ∧ r.2.mem ((c.tc : Thread Cert.ProductOutRefIdeal.nD Cert.ProductOutRefIdeal.τ).loc Cert.ProductOutRefIdeal.main_arg1) = m' ((c.tc : Thread Cert.ProductOutRefIdeal.nD Cert.ProductOutRefIdeal.τ).loc Cert.ProductOutRefIdeal.main_arg1))

def preserves_ProductHead_ProductHeadIdeal : Prop :=
  True

def algebraic_ProductHeadIdeal_ProductHeadRefIdeal [hProductHeadIdeal : Cert.ProductHeadIdeal.Facts] [hProductHeadRefIdeal : Cert.ProductHeadRefIdeal.Facts] : Prop :=
  ∀ (m : (ℓ : Loc Cert.ProductHeadIdeal.nD Cert.ProductHeadIdeal.τ Cert.ProductHeadIdeal.sig) → Buf (Elt Ideal) ℓ) (g : Dev Cert.ProductHeadIdeal.nD → PrngReg)
    (m' : (ℓ : Loc Cert.ProductHeadRefIdeal.nD Cert.ProductHeadRefIdeal.τ Cert.ProductHeadRefIdeal.sig) → Buf (Elt Ideal) ℓ) (g' : Dev Cert.ProductHeadRefIdeal.nD → PrngReg), Pre_ProductHeadIdeal m →
    (∀ c : Dev Cert.ProductHeadIdeal.nD,
      m' ((c.tc : Thread Cert.ProductHeadRefIdeal.nD Cert.ProductHeadRefIdeal.τ).loc Cert.ProductHeadRefIdeal.main_arg0) = m ((c.tc : Thread Cert.ProductHeadIdeal.nD Cert.ProductHeadIdeal.τ).loc Cert.ProductHeadIdeal.main_arg0)
      ∧ m' ((c.tc : Thread Cert.ProductHeadRefIdeal.nD Cert.ProductHeadRefIdeal.τ).loc Cert.ProductHeadRefIdeal.main_arg1) = m ((c.tc : Thread Cert.ProductHeadIdeal.nD Cert.ProductHeadIdeal.τ).loc Cert.ProductHeadIdeal.main_arg1)) →
    ∃ (v0 : (c : Dev Cert.ProductHeadIdeal.nD) → Buf (Elt Ideal) ((c.tc : Thread Cert.ProductHeadIdeal.nD Cert.ProductHeadIdeal.τ).loc Cert.ProductHeadIdeal.main_v0)),
      θ_run (Cert.ProductHeadIdeal.defs (F := Ideal)) (onTc (τ := Cert.ProductHeadIdeal.τ) (Cert.ProductHeadIdeal.main (F := Ideal))) ⟨m, fun _ => 0, g⟩ (fun r => ∀ c : Dev Cert.ProductHeadIdeal.nD,
          r.2.mem ((c.tc : Thread Cert.ProductHeadIdeal.nD Cert.ProductHeadIdeal.τ).loc Cert.ProductHeadIdeal.main_v0) = v0 c
          ∧ r.2.mem ((c.tc : Thread Cert.ProductHeadIdeal.nD Cert.ProductHeadIdeal.τ).loc Cert.ProductHeadIdeal.main_arg0) = m ((c.tc : Thread Cert.ProductHeadIdeal.nD Cert.ProductHeadIdeal.τ).loc Cert.ProductHeadIdeal.main_arg0)
          ∧ r.2.mem ((c.tc : Thread Cert.ProductHeadIdeal.nD Cert.ProductHeadIdeal.τ).loc Cert.ProductHeadIdeal.main_arg1) = m ((c.tc : Thread Cert.ProductHeadIdeal.nD Cert.ProductHeadIdeal.τ).loc Cert.ProductHeadIdeal.main_arg1))
      ∧ θ_run (Cert.ProductHeadRefIdeal.defs (F := Ideal)) (onTc (τ := Cert.ProductHeadRefIdeal.τ) (Cert.ProductHeadRefIdeal.main (F := Ideal))) ⟨m', fun _ => 0, g'⟩ (fun r => ∀ c : Dev Cert.ProductHeadRefIdeal.nD,
          r.2.mem ((c.tc : Thread Cert.ProductHeadRefIdeal.nD Cert.ProductHeadRefIdeal.τ).loc Cert.ProductHeadRefIdeal.main_v3) = v0 c
          ∧ r.2.mem ((c.tc : Thread Cert.ProductHeadRefIdeal.nD Cert.ProductHeadRefIdeal.τ).loc Cert.ProductHeadRefIdeal.main_arg0) = m' ((c.tc : Thread Cert.ProductHeadRefIdeal.nD Cert.ProductHeadRefIdeal.τ).loc Cert.ProductHeadRefIdeal.main_arg0)
          ∧ r.2.mem ((c.tc : Thread Cert.ProductHeadRefIdeal.nD Cert.ProductHeadRefIdeal.τ).loc Cert.ProductHeadRefIdeal.main_arg1) = m' ((c.tc : Thread Cert.ProductHeadRefIdeal.nD Cert.ProductHeadRefIdeal.τ).loc Cert.ProductHeadRefIdeal.main_arg1))

def preserves_ProductRest_ProductRestIdeal : Prop :=
  True

def algebraic_ProductRestIdeal_ProductRestRefIdeal [hProductRestIdeal : Cert.ProductRestIdeal.Facts] [hProductRestRefIdeal : Cert.ProductRestRefIdeal.Facts] : Prop :=
  ∀ (m : (ℓ : Loc Cert.ProductRestIdeal.nD Cert.ProductRestIdeal.τ Cert.ProductRestIdeal.sig) → Buf (Elt Ideal) ℓ) (g : Dev Cert.ProductRestIdeal.nD → PrngReg)
    (m' : (ℓ : Loc Cert.ProductRestRefIdeal.nD Cert.ProductRestRefIdeal.τ Cert.ProductRestRefIdeal.sig) → Buf (Elt Ideal) ℓ) (g' : Dev Cert.ProductRestRefIdeal.nD → PrngReg), Pre_ProductRestIdeal m →
    (∀ c : Dev Cert.ProductRestIdeal.nD,
      m' ((c.tc : Thread Cert.ProductRestRefIdeal.nD Cert.ProductRestRefIdeal.τ).loc Cert.ProductRestRefIdeal.main_arg0) = m ((c.tc : Thread Cert.ProductRestIdeal.nD Cert.ProductRestIdeal.τ).loc Cert.ProductRestIdeal.main_arg0)
      ∧ m' ((c.tc : Thread Cert.ProductRestRefIdeal.nD Cert.ProductRestRefIdeal.τ).loc Cert.ProductRestRefIdeal.main_arg1) = m ((c.tc : Thread Cert.ProductRestIdeal.nD Cert.ProductRestIdeal.τ).loc Cert.ProductRestIdeal.main_arg1)) →
    ∃ (v0 : (c : Dev Cert.ProductRestIdeal.nD) → Buf (Elt Ideal) ((c.tc : Thread Cert.ProductRestIdeal.nD Cert.ProductRestIdeal.τ).loc Cert.ProductRestIdeal.main_v0)),
      θ_run (Cert.ProductRestIdeal.defs (F := Ideal)) (onTc (τ := Cert.ProductRestIdeal.τ) (Cert.ProductRestIdeal.main (F := Ideal))) ⟨m, fun _ => 0, g⟩ (fun r => ∀ c : Dev Cert.ProductRestIdeal.nD,
          r.2.mem ((c.tc : Thread Cert.ProductRestIdeal.nD Cert.ProductRestIdeal.τ).loc Cert.ProductRestIdeal.main_v0) = v0 c
          ∧ r.2.mem ((c.tc : Thread Cert.ProductRestIdeal.nD Cert.ProductRestIdeal.τ).loc Cert.ProductRestIdeal.main_arg0) = m ((c.tc : Thread Cert.ProductRestIdeal.nD Cert.ProductRestIdeal.τ).loc Cert.ProductRestIdeal.main_arg0)
          ∧ r.2.mem ((c.tc : Thread Cert.ProductRestIdeal.nD Cert.ProductRestIdeal.τ).loc Cert.ProductRestIdeal.main_arg1) = m ((c.tc : Thread Cert.ProductRestIdeal.nD Cert.ProductRestIdeal.τ).loc Cert.ProductRestIdeal.main_arg1))
      ∧ θ_run (Cert.ProductRestRefIdeal.defs (F := Ideal)) (onTc (τ := Cert.ProductRestRefIdeal.τ) (Cert.ProductRestRefIdeal.main (F := Ideal))) ⟨m', fun _ => 0, g'⟩ (fun r => ∀ c : Dev Cert.ProductRestRefIdeal.nD,
          r.2.mem ((c.tc : Thread Cert.ProductRestRefIdeal.nD Cert.ProductRestRefIdeal.τ).loc Cert.ProductRestRefIdeal.main_v3) = v0 c
          ∧ r.2.mem ((c.tc : Thread Cert.ProductRestRefIdeal.nD Cert.ProductRestRefIdeal.τ).loc Cert.ProductRestRefIdeal.main_arg0) = m' ((c.tc : Thread Cert.ProductRestRefIdeal.nD Cert.ProductRestRefIdeal.τ).loc Cert.ProductRestRefIdeal.main_arg0)
          ∧ r.2.mem ((c.tc : Thread Cert.ProductRestRefIdeal.nD Cert.ProductRestRefIdeal.τ).loc Cert.ProductRestRefIdeal.main_arg1) = m' ((c.tc : Thread Cert.ProductRestRefIdeal.nD Cert.ProductRestRefIdeal.τ).loc Cert.ProductRestRefIdeal.main_arg1))

def Claim : Prop :=
  ∃ (hKernel : Cert.Kernel.Facts) (hKernelIdeal : Cert.KernelIdeal.Facts) (hReferenceIdeal : Cert.ReferenceIdeal.Facts) (hGrads : Cert.Grads.Facts) (hGradsIdeal : Cert.GradsIdeal.Facts) (hGradsRefIdeal : Cert.GradsRefIdeal.Facts) (hSibling : Cert.Sibling.Facts) (hSiblingIdeal : Cert.SiblingIdeal.Facts) (hSiblingRefIdeal : Cert.SiblingRefIdeal.Facts) (hUpdateIn : Cert.UpdateIn.Facts) (hUpdateInIdeal : Cert.UpdateInIdeal.Facts) (hUpdateInRefIdeal : Cert.UpdateInRefIdeal.Facts) (hUpdateOut : Cert.UpdateOut.Facts) (hUpdateOutIdeal : Cert.UpdateOutIdeal.Facts) (hUpdateOutRefIdeal : Cert.UpdateOutRefIdeal.Facts) (hUpdateMlp : Cert.UpdateMlp.Facts) (hUpdateMlpIdeal : Cert.UpdateMlpIdeal.Facts) (hUpdateMlpRefIdeal : Cert.UpdateMlpRefIdeal.Facts) (hUpdateSmall : Cert.UpdateSmall.Facts) (hUpdateSmallIdeal : Cert.UpdateSmallIdeal.Facts) (hUpdateSmallRefIdeal : Cert.UpdateSmallRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumMlp : Cert.SumMlp.Facts) (hSumMlpIdeal : Cert.SumMlpIdeal.Facts) (hSumMlpRefIdeal : Cert.SumMlpRefIdeal.Facts) (hSumSmall : Cert.SumSmall.Facts) (hSumSmallIdeal : Cert.SumSmallIdeal.Facts) (hSumSmallRefIdeal : Cert.SumSmallRefIdeal.Facts) (hLoss : Cert.Loss.Facts) (hLossIdeal : Cert.LossIdeal.Facts) (hLossRefIdeal : Cert.LossRefIdeal.Facts) (hConvFwd : Cert.ConvFwd.Facts) (hConvFwdIdeal : Cert.ConvFwdIdeal.Facts) (hConvFwdRefIdeal : Cert.ConvFwdRefIdeal.Facts) (hMixOut : Cert.MixOut.Facts) (hMixOutIdeal : Cert.MixOutIdeal.Facts) (hMixOutRefIdeal : Cert.MixOutRefIdeal.Facts) (hProjFwd : Cert.ProjFwd.Facts) (hProjFwdIdeal : Cert.ProjFwdIdeal.Facts) (hProjFwdRefIdeal : Cert.ProjFwdRefIdeal.Facts) (hMlpFwd : Cert.MlpFwd.Facts) (hMlpFwdIdeal : Cert.MlpFwdIdeal.Facts) (hMlpFwdRefIdeal : Cert.MlpFwdRefIdeal.Facts) (hMixBwd : Cert.MixBwd.Facts) (hMixBwdIdeal : Cert.MixBwdIdeal.Facts) (hMixBwdRefIdeal : Cert.MixBwdRefIdeal.Facts) (hInBwd : Cert.InBwd.Facts) (hInBwdIdeal : Cert.InBwdIdeal.Facts) (hInBwdRefIdeal : Cert.InBwdRefIdeal.Facts) (hMlpBwd : Cert.MlpBwd.Facts) (hMlpBwdIdeal : Cert.MlpBwdIdeal.Facts) (hMlpBwdRefIdeal : Cert.MlpBwdRefIdeal.Facts) (hProductDown : Cert.ProductDown.Facts) (hProductDownIdeal : Cert.ProductDownIdeal.Facts) (hProductDownRefIdeal : Cert.ProductDownRefIdeal.Facts) (hProductUp : Cert.ProductUp.Facts) (hProductUpIdeal : Cert.ProductUpIdeal.Facts) (hProductUpRefIdeal : Cert.ProductUpRefIdeal.Facts) (hProductOut : Cert.ProductOut.Facts) (hProductOutIdeal : Cert.ProductOutIdeal.Facts) (hProductOutRefIdeal : Cert.ProductOutRefIdeal.Facts) (hProductHead : Cert.ProductHead.Facts) (hProductHeadIdeal : Cert.ProductHeadIdeal.Facts) (hProductHeadRefIdeal : Cert.ProductHeadRefIdeal.Facts) (hProductRest : Cert.ProductRest.Facts) (hProductRestIdeal : Cert.ProductRestIdeal.Facts) (hProductRestRefIdeal : Cert.ProductRestRefIdeal.Facts),
    quiescent_Kernel (hKernel := hKernel)
    ∧ quiescent_KernelIdeal (hKernelIdeal := hKernelIdeal)
    ∧ quiescent_ReferenceIdeal (hReferenceIdeal := hReferenceIdeal)
    ∧ quiescent_Grads (hGrads := hGrads)
    ∧ quiescent_GradsIdeal (hGradsIdeal := hGradsIdeal)
    ∧ quiescent_GradsRefIdeal (hGradsRefIdeal := hGradsRefIdeal)
    ∧ quiescent_Sibling (hSibling := hSibling)
    ∧ quiescent_SiblingIdeal (hSiblingIdeal := hSiblingIdeal)
    ∧ quiescent_SiblingRefIdeal (hSiblingRefIdeal := hSiblingRefIdeal)
    ∧ quiescent_UpdateIn (hUpdateIn := hUpdateIn)
    ∧ quiescent_UpdateInIdeal (hUpdateInIdeal := hUpdateInIdeal)
    ∧ quiescent_UpdateInRefIdeal (hUpdateInRefIdeal := hUpdateInRefIdeal)
    ∧ quiescent_UpdateOut (hUpdateOut := hUpdateOut)
    ∧ quiescent_UpdateOutIdeal (hUpdateOutIdeal := hUpdateOutIdeal)
    ∧ quiescent_UpdateOutRefIdeal (hUpdateOutRefIdeal := hUpdateOutRefIdeal)
    ∧ quiescent_UpdateMlp (hUpdateMlp := hUpdateMlp)
    ∧ quiescent_UpdateMlpIdeal (hUpdateMlpIdeal := hUpdateMlpIdeal)
    ∧ quiescent_UpdateMlpRefIdeal (hUpdateMlpRefIdeal := hUpdateMlpRefIdeal)
    ∧ quiescent_UpdateSmall (hUpdateSmall := hUpdateSmall)
    ∧ quiescent_UpdateSmallIdeal (hUpdateSmallIdeal := hUpdateSmallIdeal)
    ∧ quiescent_UpdateSmallRefIdeal (hUpdateSmallRefIdeal := hUpdateSmallRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumMlp (hSumMlp := hSumMlp)
    ∧ quiescent_SumMlpIdeal (hSumMlpIdeal := hSumMlpIdeal)
    ∧ quiescent_SumMlpRefIdeal (hSumMlpRefIdeal := hSumMlpRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Loss (hLoss := hLoss)
    ∧ quiescent_LossIdeal (hLossIdeal := hLossIdeal)
    ∧ quiescent_LossRefIdeal (hLossRefIdeal := hLossRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_ProductDown (hProductDown := hProductDown)
    ∧ quiescent_ProductDownIdeal (hProductDownIdeal := hProductDownIdeal)
    ∧ quiescent_ProductDownRefIdeal (hProductDownRefIdeal := hProductDownRefIdeal)
    ∧ quiescent_ProductUp (hProductUp := hProductUp)
    ∧ quiescent_ProductUpIdeal (hProductUpIdeal := hProductUpIdeal)
    ∧ quiescent_ProductUpRefIdeal (hProductUpRefIdeal := hProductUpRefIdeal)
    ∧ quiescent_ProductOut (hProductOut := hProductOut)
    ∧ quiescent_ProductOutIdeal (hProductOutIdeal := hProductOutIdeal)
    ∧ quiescent_ProductOutRefIdeal (hProductOutRefIdeal := hProductOutRefIdeal)
    ∧ quiescent_ProductHead (hProductHead := hProductHead)
    ∧ quiescent_ProductHeadIdeal (hProductHeadIdeal := hProductHeadIdeal)
    ∧ quiescent_ProductHeadRefIdeal (hProductHeadRefIdeal := hProductHeadRefIdeal)
    ∧ quiescent_ProductRest (hProductRest := hProductRest)
    ∧ quiescent_ProductRestIdeal (hProductRestIdeal := hProductRestIdeal)
    ∧ quiescent_ProductRestRefIdeal (hProductRestRefIdeal := hProductRestRefIdeal)
    ∧ preserves_Kernel_KernelIdeal
    ∧ algebraic_KernelIdeal_ReferenceIdeal (hKernelIdeal := hKernelIdeal) (hReferenceIdeal := hReferenceIdeal)
    ∧ preserves_Grads_GradsIdeal
    ∧ algebraic_GradsIdeal_GradsRefIdeal (hGradsIdeal := hGradsIdeal) (hGradsRefIdeal := hGradsRefIdeal)
    ∧ preserves_Sibling_SiblingIdeal
    ∧ algebraic_SiblingIdeal_SiblingRefIdeal (hSiblingIdeal := hSiblingIdeal) (hSiblingRefIdeal := hSiblingRefIdeal)
    ∧ preserves_UpdateIn_UpdateInIdeal
    ∧ algebraic_UpdateInIdeal_UpdateInRefIdeal (hUpdateInIdeal := hUpdateInIdeal) (hUpdateInRefIdeal := hUpdateInRefIdeal)
    ∧ preserves_UpdateOut_UpdateOutIdeal
    ∧ algebraic_UpdateOutIdeal_UpdateOutRefIdeal (hUpdateOutIdeal := hUpdateOutIdeal) (hUpdateOutRefIdeal := hUpdateOutRefIdeal)
    ∧ preserves_UpdateMlp_UpdateMlpIdeal
    ∧ algebraic_UpdateMlpIdeal_UpdateMlpRefIdeal (hUpdateMlpIdeal := hUpdateMlpIdeal) (hUpdateMlpRefIdeal := hUpdateMlpRefIdeal)
    ∧ preserves_UpdateSmall_UpdateSmallIdeal
    ∧ algebraic_UpdateSmallIdeal_UpdateSmallRefIdeal (hUpdateSmallIdeal := hUpdateSmallIdeal) (hUpdateSmallRefIdeal := hUpdateSmallRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumMlp_SumMlpIdeal
    ∧ algebraic_SumMlpIdeal_SumMlpRefIdeal (hSumMlpIdeal := hSumMlpIdeal) (hSumMlpRefIdeal := hSumMlpRefIdeal)
    ∧ preserves_SumSmall_SumSmallIdeal
    ∧ algebraic_SumSmallIdeal_SumSmallRefIdeal (hSumSmallIdeal := hSumSmallIdeal) (hSumSmallRefIdeal := hSumSmallRefIdeal)
    ∧ preserves_Loss_LossIdeal
    ∧ algebraic_LossIdeal_LossRefIdeal (hLossIdeal := hLossIdeal) (hLossRefIdeal := hLossRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_MixOut_MixOutIdeal
    ∧ algebraic_MixOutIdeal_MixOutRefIdeal (hMixOutIdeal := hMixOutIdeal) (hMixOutRefIdeal := hMixOutRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_MixBwd_MixBwdIdeal
    ∧ algebraic_MixBwdIdeal_MixBwdRefIdeal (hMixBwdIdeal := hMixBwdIdeal) (hMixBwdRefIdeal := hMixBwdRefIdeal)
    ∧ preserves_InBwd_InBwdIdeal
    ∧ algebraic_InBwdIdeal_InBwdRefIdeal (hInBwdIdeal := hInBwdIdeal) (hInBwdRefIdeal := hInBwdRefIdeal)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_ProductDown_ProductDownIdeal
    ∧ algebraic_ProductDownIdeal_ProductDownRefIdeal (hProductDownIdeal := hProductDownIdeal) (hProductDownRefIdeal := hProductDownRefIdeal)
    ∧ preserves_ProductUp_ProductUpIdeal
    ∧ algebraic_ProductUpIdeal_ProductUpRefIdeal (hProductUpIdeal := hProductUpIdeal) (hProductUpRefIdeal := hProductUpRefIdeal)
    ∧ preserves_ProductOut_ProductOutIdeal
    ∧ algebraic_ProductOutIdeal_ProductOutRefIdeal (hProductOutIdeal := hProductOutIdeal) (hProductOutRefIdeal := hProductOutRefIdeal)
    ∧ preserves_ProductHead_ProductHeadIdeal
    ∧ algebraic_ProductHeadIdeal_ProductHeadRefIdeal (hProductHeadIdeal := hProductHeadIdeal) (hProductHeadRefIdeal := hProductHeadRefIdeal)
    ∧ preserves_ProductRest_ProductRestIdeal
    ∧ algebraic_ProductRestIdeal_ProductRestRefIdeal (hProductRestIdeal := hProductRestIdeal) (hProductRestRefIdeal := hProductRestRefIdeal)
-- ==== Kernel.lean ====
abbrev S2048x706 : Shape := ⟨2, ![2048, 706]⟩
abbrev S512x1024 : Shape := ⟨2, ![512, 1024]⟩
abbrev S2048x1024 : Shape := ⟨2, ![2048, 1024]⟩
abbrev S48x1024 : Shape := ⟨2, ![48, 1024]⟩
abbrev S4x2048x706 : Shape := ⟨3, ![4, 2048, 706]⟩
abbrev S4x512x1024 : Shape := ⟨3, ![4, 512, 1024]⟩
abbrev S4x2048x1024 : Shape := ⟨3, ![4, 2048, 1024]⟩
abbrev S4x48x1024 : Shape := ⟨3, ![4, 48, 1024]⟩
abbrev S15 : Shape := ⟨1, ![15]⟩
abbrev S5 : Shape := ⟨1, ![5]⟩
abbrev S1 : Shape := ⟨1, ![1]⟩
abbrev S_ : Shape := ⟨0, ![]⟩
abbrev S1x2048x706 : Shape := ⟨3, ![1, 2048, 706]⟩
abbrev S1x512x1024 : Shape := ⟨3, ![1, 512, 1024]⟩
abbrev S1x2048x1024 : Shape := ⟨3, ![1, 2048, 1024]⟩
abbrev S1x48x1024 : Shape := ⟨3, ![1, 48, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x706, .bf16⟩
  | .hbm, ⟨1, _⟩ => ⟨S512x1024, .bf16⟩
  | .hbm, ⟨2, _⟩ => ⟨S2048x1024, .bf16⟩
  | .hbm, ⟨3, _⟩ => ⟨S2048x1024, .bf16⟩
  | .hbm, ⟨4, _⟩ => ⟨S48x1024, .f32⟩
  | .hbm, ⟨5, _⟩ => ⟨S4x2048x706, .bf16⟩
  | .hbm, ⟨6, _⟩ => ⟨S4x512x1024, .bf16⟩
  | .hbm, ⟨7, _⟩ => ⟨S4x2048x1024, .bf16⟩
  | .hbm, ⟨8, _⟩ => ⟨S4x2048x1024, .bf16⟩
  | .hbm, ⟨9, _⟩ => ⟨S4x48x1024, .f32⟩
  | _, _ => ⟨S2048x706, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_23 : BitVec 32 := 0#32
  let c0_i32_24 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_26 : BitVec 32 := 0#32
  let c0_i32_27 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_29 : BitVec 32 := 0#32
  let c0_i32_30 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_34 : BitVec 32 := 0#32
  let c0_i32_35 : BitVec 32 := 0#32
  ![v10.toNat, 0, 0]
def k0_dev1 (d0 : Dev nD) : Nat :=
  let c0_i32_39 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_38 : BitVec 32 := 4#32
  let v65 : BitVec 32 := Scalar.muli v11 c4_i32_38
  let v66 : BitVec 32 := Scalar.addi c0_i32_39 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v67 : BitVec 32 := Scalar.muli v5 c2_i32_40
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v69 : BitVec 32 := Scalar.muli v8 c1_i32_41
  let v70 : BitVec 32 := Scalar.addi v68 v69
  v70.toNat
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v77 : BitVec 32 := Scalar.muli v2 c4_i32_46
  let v78 : BitVec 32 := Scalar.addi c0_i32_47 v77
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_48 : BitVec 32 := 2#32
  let v79 : BitVec 32 := Scalar.muli v12 c2_i32_48
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v81 : BitVec 32 := Scalar.muli v8 c1_i32_49
  let v82 : BitVec 32 := Scalar.addi v80 v81
  v82.toNat
def k0_dev3 (d0 : Dev nD) : Nat :=
  let c0_i32_55 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_54 : BitVec 32 := 4#32
  let v89 : BitVec 32 := Scalar.muli v13 c4_i32_54
  let v90 : BitVec 32 := Scalar.addi c0_i32_55 v89
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_56 : BitVec 32 := 2#32
  let v91 : BitVec 32 := Scalar.muli v14 c2_i32_56
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v93 : BitVec 32 := Scalar.muli v8 c1_i32_57
  let v94 : BitVec 32 := Scalar.addi v92 v93
  v94.toNat
def k0_dev4 (d0 : Dev nD) : Nat :=
  let c0_i32_63 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_62 : BitVec 32 := 4#32
  let v101 : BitVec 32 := Scalar.muli v11 c4_i32_62
  let v102 : BitVec 32 := Scalar.addi c0_i32_63 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v103 : BitVec 32 := Scalar.muli v5 c2_i32_64
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v105 : BitVec 32 := Scalar.muli v8 c1_i32_65
  let v106 : BitVec 32 := Scalar.addi v104 v105
  v106.toNat
def k0_dev5 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v113 : BitVec 32 := Scalar.muli v2 c4_i32_70
  let v114 : BitVec 32 := Scalar.addi c0_i32_71 v113
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_72 : BitVec 32 := 2#32
  let v115 : BitVec 32 := Scalar.muli v12 c2_i32_72
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v117 : BitVec 32 := Scalar.muli v8 c1_i32_73
  let v118 : BitVec 32 := Scalar.addi v116 v117
  v118.toNat
def k0_dev6 (d0 : Dev nD) : Nat :=
  let c0_i32_78 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_77 : BitVec 32 := 4#32
  let v125 : BitVec 32 := Scalar.muli v13 c4_i32_77
  let v126 : BitVec 32 := Scalar.addi c0_i32_78 v125
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_79 : BitVec 32 := 2#32
  let v127 : BitVec 32 := Scalar.muli v14 c2_i32_79
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v129 : BitVec 32 := Scalar.muli v8 c1_i32_80
  let v130 : BitVec 32 := Scalar.addi v128 v129
  v130.toNat
def k0_dev7 (d0 : Dev nD) : Nat :=
  let c0_i32_85 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_84 : BitVec 32 := 4#32
  let v137 : BitVec 32 := Scalar.muli v11 c4_i32_84
  let v138 : BitVec 32 := Scalar.addi c0_i32_85 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v139 : BitVec 32 := Scalar.muli v5 c2_i32_86
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v141 : BitVec 32 := Scalar.muli v8 c1_i32_87
  let v142 : BitVec 32 := Scalar.addi v140 v141
  v142.toNat
def k0_dev8 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v149 : BitVec 32 := Scalar.muli v2 c4_i32_91
  let v150 : BitVec 32 := Scalar.addi c0_i32_92 v149
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_93 : BitVec 32 := 2#32
  let v151 : BitVec 32 := Scalar.muli v12 c2_i32_93
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v153 : BitVec 32 := Scalar.muli v8 c1_i32_94
  let v154 : BitVec 32 := Scalar.addi v152 v153
  v154.toNat
def k0_dev9 (d0 : Dev nD) : Nat :=
  let c0_i32_99 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_98 : BitVec 32 := 4#32
  let v161 : BitVec 32 := Scalar.muli v13 c4_i32_98
  let v162 : BitVec 32 := Scalar.addi c0_i32_99 v161
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_100 : BitVec 32 := 2#32
  let v163 : BitVec 32 := Scalar.muli v14 c2_i32_100
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v165 : BitVec 32 := Scalar.muli v8 c1_i32_101
  let v166 : BitVec 32 := Scalar.addi v164 v165
  v166.toNat
def k0_dev10 (d0 : Dev nD) : Nat :=
  let c0_i32_106 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_105 : BitVec 32 := 4#32
  let v173 : BitVec 32 := Scalar.muli v11 c4_i32_105
  let v174 : BitVec 32 := Scalar.addi c0_i32_106 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v175 : BitVec 32 := Scalar.muli v5 c2_i32_107
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v177 : BitVec 32 := Scalar.muli v8 c1_i32_108
  let v178 : BitVec 32 := Scalar.addi v176 v177
  v178.toNat
def k0_dev11 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v185 : BitVec 32 := Scalar.muli v2 c4_i32_112
  let v186 : BitVec 32 := Scalar.addi c0_i32_113 v185
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_114 : BitVec 32 := 2#32
  let v187 : BitVec 32 := Scalar.muli v12 c2_i32_114
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v189 : BitVec 32 := Scalar.muli v8 c1_i32_115
  let v190 : BitVec 32 := Scalar.addi v188 v189
  v190.toNat
def k0_dev12 (d0 : Dev nD) : Nat :=
  let c0_i32_120 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_119 : BitVec 32 := 4#32
  let v197 : BitVec 32 := Scalar.muli v13 c4_i32_119
  let v198 : BitVec 32 := Scalar.addi c0_i32_120 v197
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_121 : BitVec 32 := 2#32
  let v199 : BitVec 32 := Scalar.muli v14 c2_i32_121
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v201 : BitVec 32 := Scalar.muli v8 c1_i32_122
  let v202 : BitVec 32 := Scalar.addi v200 v201
  v202.toNat
def k0_dev13 (d0 : Dev nD) : Nat :=
  let c0_i32_127 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_126 : BitVec 32 := 4#32
  let v209 : BitVec 32 := Scalar.muli v11 c4_i32_126
  let v210 : BitVec 32 := Scalar.addi c0_i32_127 v209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v211 : BitVec 32 := Scalar.muli v5 c2_i32_128
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v213 : BitVec 32 := Scalar.muli v8 c1_i32_129
  let v214 : BitVec 32 := Scalar.addi v212 v213
  v214.toNat
def k0_dev14 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v221 : BitVec 32 := Scalar.muli v2 c4_i32_133
  let v222 : BitVec 32 := Scalar.addi c0_i32_134 v221
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_135 : BitVec 32 := 2#32
  let v223 : BitVec 32 := Scalar.muli v12 c2_i32_135
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v225 : BitVec 32 := Scalar.muli v8 c1_i32_136
  let v226 : BitVec 32 := Scalar.addi v224 v225
  v226.toNat
def k0_dev15 (d0 : Dev nD) : Nat :=
  let c0_i32_141 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_140 : BitVec 32 := 4#32
  let v233 : BitVec 32 := Scalar.muli v13 c4_i32_140
  let v234 : BitVec 32 := Scalar.addi c0_i32_141 v233
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_142 : BitVec 32 := 2#32
  let v235 : BitVec 32 := Scalar.muli v14 c2_i32_142
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v237 : BitVec 32 := Scalar.muli v8 c1_i32_143
  let v238 : BitVec 32 := Scalar.addi v236 v237
  v238.toNat
def k0_off5 (d0 : Dev nD) : Fin 3 → Nat :=
  let c2_i32_8 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v15 : BitVec 32 := Scalar.muli c2_i32_8 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_152 : BitVec 32 := 0#32
  let c0_i32_153 : BitVec 32 := 0#32
  ![v16.toNat, 0, 0]
def k0_off6 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v18 : BitVec 32 := Scalar.addi v17 v12
  let c0_i32_160 : BitVec 32 := 0#32
  let c0_i32_161 : BitVec 32 := 0#32
  ![v18.toNat, 0, 0]
def k0_off7 (d0 : Dev nD) : Fin 3 → Nat :=
  let c2_i32_10 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v19 : BitVec 32 := Scalar.muli c2_i32_10 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v20 : BitVec 32 := Scalar.addi v19 v14
  let c0_i32_168 : BitVec 32 := 0#32
  let c0_i32_169 : BitVec 32 := 0#32
  ![v20.toNat, 0, 0]
def k0_off8 (d0 : Dev nD) : Fin 3 → Nat :=
  let c2_i32_11 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v21 : BitVec 32 := Scalar.muli c2_i32_11 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.addi v21 v5
  let c0_i32_176 : BitVec 32 := 0#32
  let c0_i32_177 : BitVec 32 := 0#32
  ![v22.toNat, 0, 0]
def k0_off9 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c2_i32_12 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v24 : BitVec 32 := Scalar.addi v23 v12
  let c0_i32_184 : BitVec 32 := 0#32
  let c0_i32_185 : BitVec 32 := 0#32
  ![v24.toNat, 0, 0]
def k0_off10 (d0 : Dev nD) : Fin 3 → Nat :=
  let c2_i32_13 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v25 : BitVec 32 := Scalar.muli c2_i32_13 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v26 : BitVec 32 := Scalar.addi v25 v14
  let c0_i32_192 : BitVec 32 := 0#32
  let c0_i32_193 : BitVec 32 := 0#32
  ![v26.toNat, 0, 0]
def k0_off11 (d0 : Dev nD) : Fin 3 → Nat :=
  let c2_i32_14 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v27 : BitVec 32 := Scalar.muli c2_i32_14 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v27 v5
  let c0_i32_200 : BitVec 32 := 0#32
  let c0_i32_201 : BitVec 32 := 0#32
  ![v28.toNat, 0, 0]
def k0_off12 (d0 : Dev nD) : Fin 3 → Nat :=
  let c2_i32_15 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c2_i32_15 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v30 : BitVec 32 := Scalar.addi v29 v12
  let c0_i32_208 : BitVec 32 := 0#32
  let c0_i32_209 : BitVec 32 := 0#32
  ![v30.toNat, 0, 0]
def k0_off13 (d0 : Dev nD) : Fin 3 → Nat :=
  let c2_i32_16 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v31 : BitVec 32 := Scalar.muli c2_i32_16 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v32 : BitVec 32 := Scalar.addi v31 v14
  let c0_i32_216 : BitVec 32 := 0#32
  let c0_i32_217 : BitVec 32 := 0#32
  ![v32.toNat, 0, 0]
def k0_off14 (d0 : Dev nD) : Fin 3 → Nat :=
  let c2_i32_20 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v39 : BitVec 32 := Scalar.muli c2_i32_20 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c0_i32_248 : BitVec 32 := 0#32
  let c0_i32_249 : BitVec 32 := 0#32
  ![v40.toNat, 0, 0]
def k0_off15 (d0 : Dev nD) : Fin 3 → Nat :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_21 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v42 : BitVec 32 := Scalar.addi v41 v12
  let c0_i32_256 : BitVec 32 := 0#32
  let c0_i32_257 : BitVec 32 := 0#32
  ![v42.toNat, 0, 0]
def k0_off16 (d0 : Dev nD) : Fin 3 → Nat :=
  let c2_i32_22 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v43 : BitVec 32 := Scalar.muli c2_i32_22 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v44 : BitVec 32 := Scalar.addi v43 v14
  let c0_i32_264 : BitVec 32 := 0#32
  let c0_i32_265 : BitVec 32 := 0#32
  ![v44.toNat, 0, 0]
-- ==== ReferenceIdeal.lean ====
abbrev S2048x2824 : Shape := ⟨2, ![2048, 2824]⟩
abbrev S2048x1024 : Shape := ⟨2, ![2048, 1024]⟩
abbrev S2048x4096 : Shape := ⟨2, ![2048, 4096]⟩
abbrev S8192x1024 : Shape := ⟨2, ![8192, 1024]⟩
abbrev S192x1024 : Shape := ⟨2, ![192, 1024]⟩
abbrev S2048x4x706 : Shape := ⟨3, ![2048, 4, 706]⟩
abbrev S4x2048x706 : Shape := ⟨3, ![4, 2048, 706]⟩
abbrev S4x512x1024 : Shape := ⟨3, ![4, 512, 1024]⟩
abbrev S2048x4x1024 : Shape := ⟨3, ![2048, 4, 1024]⟩
abbrev S4x2048x1024 : Shape := ⟨3, ![4, 2048, 1024]⟩
abbrev S4x48x1024 : Shape := ⟨3, ![4, 48, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2824, .bf16⟩
  | .hbm, ⟨1, _⟩ => ⟨S2048x1024, .bf16⟩
  | .hbm, ⟨2, _⟩ => ⟨S2048x4096, .bf16⟩
  | .hbm, ⟨3, _⟩ => ⟨S8192x1024, .bf16⟩
  | .hbm, ⟨4, _⟩ => ⟨S192x1024, .f32⟩
  | .hbm, ⟨5, _⟩ => ⟨S2048x4x706, .bf16⟩
  | .hbm, ⟨6, _⟩ => ⟨S4x2048x706, .bf16⟩
  | .hbm, ⟨7, _⟩ => ⟨S4x512x1024, .bf16⟩
  | .hbm, ⟨8, _⟩ => ⟨S2048x4x1024, .bf16⟩
  | .hbm, ⟨9, _⟩ => ⟨S4x2048x1024, .bf16⟩
  | .hbm, ⟨10, _⟩ => ⟨S4x2048x1024, .bf16⟩
  | .hbm, ⟨11, _⟩ => ⟨S4x48x1024, .f32⟩
  | _, _ => ⟨S2048x2824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Grads.lean ====
abbrev S4x2048x706 : Shape := ⟨3, ![4, 2048, 706]⟩
abbrev S4x512x1024 : Shape := ⟨3, ![4, 512, 1024]⟩
abbrev S4x2048x1024 : Shape := ⟨3, ![4, 2048, 1024]⟩
abbrev S4x48x1024 : Shape := ⟨3, ![4, 48, 1024]⟩
abbrev S15 : Shape := ⟨1, ![15]⟩
abbrev S5 : Shape := ⟨1, ![5]⟩
abbrev S1 : Shape := ⟨1, ![1]⟩
abbrev S_ : Shape := ⟨0, ![]⟩
abbrev S1x2048x706 : Shape := ⟨3, ![1, 2048, 706]⟩
abbrev S2048x706 : Shape := ⟨2, ![2048, 706]⟩
abbrev S1x512x1024 : Shape := ⟨3, ![1, 512, 1024]⟩
abbrev S512x1024 : Shape := ⟨2, ![512, 1024]⟩
abbrev S1x2048x1024 : Shape := ⟨3, ![1, 2048, 1024]⟩
abbrev S2048x1024 : Shape := ⟨2, ![2048, 1024]⟩
abbrev S1x48x1024 : Shape := ⟨3, ![1, 48, 1024]⟩
abbrev S48x1024 : Shape := ⟨2, ![48, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x706, .bf16⟩
  | .hbm, ⟨1, _⟩ => ⟨S4x512x1024, .bf16⟩
  | .hbm, ⟨2, _⟩ => ⟨S4x2048x1024, .bf16⟩
  | .hbm, ⟨3, _⟩ => ⟨S4x2048x1024, .bf16⟩
  | .hbm, ⟨4, _⟩ => ⟨S4x48x1024, .f32⟩
  | .hbm, ⟨5, _⟩ => ⟨S4x2048x706, .bf16⟩
  | .hbm, ⟨6, _⟩ => ⟨S4x512x1024, .bf16⟩
  | .hbm, ⟨7, _⟩ => ⟨S4x2048x1024, .bf16⟩
  | .hbm, ⟨8, _⟩ => ⟨S4x2048x1024, .bf16⟩
  | .hbm, ⟨9, _⟩ => ⟨S4x48x1024, .f32⟩
  | _, _ => ⟨S4x2048x706, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_23 : BitVec 32 := 0#32
  let c0_i32_24 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_28 : BitVec 32 := 0#32
  let c0_i32_29 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_33 : BitVec 32 := 0#32
  let c0_i32_34 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_42 : BitVec 32 := 0#32
  let c0_i32_43 : BitVec 32 := 0#32
  ![v10.toNat, 0, 0]
def k0_off5 (d0 : Dev nD) : Fin 3 → Nat :=
  let c2_i32_8 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v15 : BitVec 32 := Scalar.muli c2_i32_8 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_54 : BitVec 32 := 0#32
  let c0_i32_55 : BitVec 32 := 0#32
  ![v16.toNat, 0, 0]
def k0_dev1 (d0 : Dev nD) : Nat :=
  let c0_i32_49 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_48 : BitVec 32 := 4#32
  let v75 : BitVec 32 := Scalar.muli v11 c4_i32_48
  let v76 : BitVec 32 := Scalar.addi c0_i32_49 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v77 : BitVec 32 := Scalar.muli v5 c2_i32_50
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v79 : BitVec 32 := Scalar.muli v8 c1_i32_51
  let v80 : BitVec 32 := Scalar.addi v78 v79
  v80.toNat
def k0_off6 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v18 : BitVec 32 := Scalar.addi v17 v12
  let c0_i32_64 : BitVec 32 := 0#32
  let c0_i32_65 : BitVec 32 := 0#32
  ![v18.toNat, 0, 0]
def k0_dev2 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v89 : BitVec 32 := Scalar.muli v2 c4_i32_58
  let v90 : BitVec 32 := Scalar.addi c0_i32_59 v89
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_60 : BitVec 32 := 2#32
  let v91 : BitVec 32 := Scalar.muli v12 c2_i32_60
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v93 : BitVec 32 := Scalar.muli v8 c1_i32_61
  let v94 : BitVec 32 := Scalar.addi v92 v93
  v94.toNat
def k0_off7 (d0 : Dev nD) : Fin 3 → Nat :=
  let c2_i32_10 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v19 : BitVec 32 := Scalar.muli c2_i32_10 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v20 : BitVec 32 := Scalar.addi v19 v14
  let c0_i32_74 : BitVec 32 := 0#32
  let c0_i32_75 : BitVec 32 := 0#32
  ![v20.toNat, 0, 0]
def k0_dev3 (d0 : Dev nD) : Nat :=
  let c0_i32_69 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_68 : BitVec 32 := 4#32
  let v103 : BitVec 32 := Scalar.muli v13 c4_i32_68
  let v104 : BitVec 32 := Scalar.addi c0_i32_69 v103
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_70 : BitVec 32 := 2#32
  let v105 : BitVec 32 := Scalar.muli v14 c2_i32_70
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v107 : BitVec 32 := Scalar.muli v8 c1_i32_71
  let v108 : BitVec 32 := Scalar.addi v106 v107
  v108.toNat
def k0_off8 (d0 : Dev nD) : Fin 3 → Nat :=
  let c2_i32_11 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v21 : BitVec 32 := Scalar.muli c2_i32_11 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.addi v21 v5
  let c0_i32_84 : BitVec 32 := 0#32
  let c0_i32_85 : BitVec 32 := 0#32
  ![v22.toNat, 0, 0]
def k0_dev4 (d0 : Dev nD) : Nat :=
  let c0_i32_79 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_78 : BitVec 32 := 4#32
  let v117 : BitVec 32 := Scalar.muli v11 c4_i32_78
  let v118 : BitVec 32 := Scalar.addi c0_i32_79 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v119 : BitVec 32 := Scalar.muli v5 c2_i32_80
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v121 : BitVec 32 := Scalar.muli v8 c1_i32_81
  let v122 : BitVec 32 := Scalar.addi v120 v121
  v122.toNat
def k0_off9 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c2_i32_12 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v24 : BitVec 32 := Scalar.addi v23 v12
  let c0_i32_94 : BitVec 32 := 0#32
  let c0_i32_95 : BitVec 32 := 0#32
  ![v24.toNat, 0, 0]
def k0_dev5 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v131 : BitVec 32 := Scalar.muli v2 c4_i32_88
  let v132 : BitVec 32 := Scalar.addi c0_i32_89 v131
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_90 : BitVec 32 := 2#32
  let v133 : BitVec 32 := Scalar.muli v12 c2_i32_90
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v135 : BitVec 32 := Scalar.muli v8 c1_i32_91
  let v136 : BitVec 32 := Scalar.addi v134 v135
  v136.toNat
def k0_off10 (d0 : Dev nD) : Fin 3 → Nat :=
  let c2_i32_13 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v25 : BitVec 32 := Scalar.muli c2_i32_13 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v26 : BitVec 32 := Scalar.addi v25 v14
  let c0_i32_103 : BitVec 32 := 0#32
  let c0_i32_104 : BitVec 32 := 0#32
  ![v26.toNat, 0, 0]
def k0_dev6 (d0 : Dev nD) : Nat :=
  let c0_i32_98 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_97 : BitVec 32 := 4#32
  let v145 : BitVec 32 := Scalar.muli v13 c4_i32_97
  let v146 : BitVec 32 := Scalar.addi c0_i32_98 v145
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_99 : BitVec 32 := 2#32
  let v147 : BitVec 32 := Scalar.muli v14 c2_i32_99
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v149 : BitVec 32 := Scalar.muli v8 c1_i32_100
  let v150 : BitVec 32 := Scalar.addi v148 v149
  v150.toNat
def k0_off11 (d0 : Dev nD) : Fin 3 → Nat :=
  let c2_i32_14 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v27 : BitVec 32 := Scalar.muli c2_i32_14 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v27 v5
  let c0_i32_112 : BitVec 32 := 0#32
  let c0_i32_113 : BitVec 32 := 0#32
  ![v28.toNat, 0, 0]
def k0_dev7 (d0 : Dev nD) : Nat :=
  let c0_i32_107 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_106 : BitVec 32 := 4#32
  let v159 : BitVec 32 := Scalar.muli v11 c4_i32_106
  let v160 : BitVec 32 := Scalar.addi c0_i32_107 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v161 : BitVec 32 := Scalar.muli v5 c2_i32_108
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v163 : BitVec 32 := Scalar.muli v8 c1_i32_109
  let v164 : BitVec 32 := Scalar.addi v162 v163
  v164.toNat
def k0_off12 (d0 : Dev nD) : Fin 3 → Nat :=
  let c2_i32_15 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c2_i32_15 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v30 : BitVec 32 := Scalar.addi v29 v12
  let c0_i32_121 : BitVec 32 := 0#32
  let c0_i32_122 : BitVec 32 := 0#32
  ![v30.toNat, 0, 0]
def k0_dev8 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v173 : BitVec 32 := Scalar.muli v2 c4_i32_115
  let v174 : BitVec 32 := Scalar.addi c0_i32_116 v173
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_117 : BitVec 32 := 2#32
  let v175 : BitVec 32 := Scalar.muli v12 c2_i32_117
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v177 : BitVec 32 := Scalar.muli v8 c1_i32_118
  let v178 : BitVec 32 := Scalar.addi v176 v177
  v178.toNat
def k0_off13 (d0 : Dev nD) : Fin 3 → Nat :=
  let c2_i32_16 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v31 : BitVec 32 := Scalar.muli c2_i32_16 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v32 : BitVec 32 := Scalar.addi v31 v14
  let c0_i32_130 : BitVec 32 := 0#32
  let c0_i32_131 : BitVec 32 := 0#32
  ![v32.toNat, 0, 0]
def k0_dev9 (d0 : Dev nD) : Nat :=
  let c0_i32_125 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_124 : BitVec 32 := 4#32
  let v187 : BitVec 32 := Scalar.muli v13 c4_i32_124
  let v188 : BitVec 32 := Scalar.addi c0_i32_125 v187
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_126 : BitVec 32 := 2#32
  let v189 : BitVec 32 := Scalar.muli v14 c2_i32_126
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_127 : BitVec 32 := 1#32
  let v191 : BitVec 32 := Scalar.muli v8 c1_i32_127
  let v192 : BitVec 32 := Scalar.addi v190 v191
  v192.toNat
def k0_dev10 (d0 : Dev nD) : Nat :=
  let c0_i32_134 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_133 : BitVec 32 := 4#32
  let v201 : BitVec 32 := Scalar.muli v11 c4_i32_133
  let v202 : BitVec 32 := Scalar.addi c0_i32_134 v201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v203 : BitVec 32 := Scalar.muli v5 c2_i32_135
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v205 : BitVec 32 := Scalar.muli v8 c1_i32_136
  let v206 : BitVec 32 := Scalar.addi v204 v205
  v206.toNat
def k0_dev11 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v215 : BitVec 32 := Scalar.muli v2 c4_i32_142
  let v216 : BitVec 32 := Scalar.addi c0_i32_143 v215
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_144 : BitVec 32 := 2#32
  let v217 : BitVec 32 := Scalar.muli v12 c2_i32_144
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v219 : BitVec 32 := Scalar.muli v8 c1_i32_145
  let v220 : BitVec 32 := Scalar.addi v218 v219
  v220.toNat
def k0_dev12 (d0 : Dev nD) : Nat :=
  let c0_i32_152 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_151 : BitVec 32 := 4#32
  let v229 : BitVec 32 := Scalar.muli v13 c4_i32_151
  let v230 : BitVec 32 := Scalar.addi c0_i32_152 v229
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_153 : BitVec 32 := 2#32
  let v231 : BitVec 32 := Scalar.muli v14 c2_i32_153
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v233 : BitVec 32 := Scalar.muli v8 c1_i32_154
  let v234 : BitVec 32 := Scalar.addi v232 v233
  v234.toNat
def k0_off14 (d0 : Dev nD) : Fin 3 → Nat :=
  let c2_i32_20 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v39 : BitVec 32 := Scalar.muli c2_i32_20 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c0_i32_166 : BitVec 32 := 0#32
  let c0_i32_167 : BitVec 32 := 0#32
  ![v40.toNat, 0, 0]
def k0_dev13 (d0 : Dev nD) : Nat :=
  let c0_i32_161 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_160 : BitVec 32 := 4#32
  let v243 : BitVec 32 := Scalar.muli v11 c4_i32_160
  let v244 : BitVec 32 := Scalar.addi c0_i32_161 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v245 : BitVec 32 := Scalar.muli v5 c2_i32_162
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v247 : BitVec 32 := Scalar.muli v8 c1_i32_163
  let v248 : BitVec 32 := Scalar.addi v246 v247
  v248.toNat
def k0_off15 (d0 : Dev nD) : Fin 3 → Nat :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_21 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v42 : BitVec 32 := Scalar.addi v41 v12
  let c0_i32_175 : BitVec 32 := 0#32
  let c0_i32_176 : BitVec 32 := 0#32
  ![v42.toNat, 0, 0]
def k0_dev14 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v257 : BitVec 32 := Scalar.muli v2 c4_i32_169
  let v258 : BitVec 32 := Scalar.addi c0_i32_170 v257
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_171 : BitVec 32 := 2#32
  let v259 : BitVec 32 := Scalar.muli v12 c2_i32_171
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v261 : BitVec 32 := Scalar.muli v8 c1_i32_172
  let v262 : BitVec 32 := Scalar.addi v260 v261
  v262.toNat
def k0_off16 (d0 : Dev nD) : Fin 3 → Nat :=
  let c2_i32_22 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v43 : BitVec 32 := Scalar.muli c2_i32_22 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v44 : BitVec 32 := Scalar.addi v43 v14
  let c0_i32_184 : BitVec 32 := 0#32
  let c0_i32_185 : BitVec 32 := 0#32
  ![v44.toNat, 0, 0]
def k0_dev15 (d0 : Dev nD) : Nat :=
  let c0_i32_179 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_178 : BitVec 32 := 4#32
  let v271 : BitVec 32 := Scalar.muli v13 c4_i32_178
  let v272 : BitVec 32 := Scalar.addi c0_i32_179 v271
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_180 : BitVec 32 := 2#32
  let v273 : BitVec 32 := Scalar.muli v14 c2_i32_180
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v275 : BitVec 32 := Scalar.muli v8 c1_i32_181
  let v276 : BitVec 32 := Scalar.addi v274 v275
  v276.toNat
-- ==== GradsRefIdeal.lean ====
abbrev S32x2048x706 : Shape := ⟨3, ![32, 2048, 706]⟩
abbrev S32x512x1024 : Shape := ⟨3, ![32, 512, 1024]⟩
abbrev S32x2048x1024 : Shape := ⟨3, ![32, 2048, 1024]⟩
abbrev S32x48x1024 : Shape := ⟨3, ![32, 48, 1024]⟩
abbrev S4x2x4x2048x706 : Shape := ⟨5, ![4, 2, 4, 2048, 706]⟩
abbrev S4x2x4x512x1024 : Shape := ⟨5, ![4, 2, 4, 512, 1024]⟩
abbrev S4x2x4x2048x1024 : Shape := ⟨5, ![4, 2, 4, 2048, 1024]⟩
abbrev S4x2x4x48x1024 : Shape := ⟨5, ![4, 2, 4, 48, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32x2048x706, .bf16⟩
  | .hbm, ⟨1, _⟩ => ⟨S32x512x1024, .bf16⟩
  | .hbm, ⟨2, _⟩ => ⟨S32x2048x1024, .bf16⟩
  | .hbm, ⟨3, _⟩ => ⟨S32x2048x1024, .bf16⟩
  | .hbm, ⟨4, _⟩ => ⟨S32x48x1024, .f32⟩
  | .hbm, ⟨5, _⟩ => ⟨S4x2x4x2048x706, .bf16⟩
  | .hbm, ⟨6, _⟩ => ⟨S4x2x4x2048x706, .bf16⟩
  | .hbm, ⟨7, _⟩ => ⟨S32x2048x706, .bf16⟩
  | .hbm, ⟨8, _⟩ => ⟨S4x2x4x512x1024, .bf16⟩
  | .hbm, ⟨9, _⟩ => ⟨S4x2x4x512x1024, .bf16⟩
  | .hbm, ⟨10, _⟩ => ⟨S32x512x1024, .bf16⟩
  | .hbm, ⟨11, _⟩ => ⟨S4x2x4x2048x1024, .bf16⟩
  | .hbm, ⟨12, _⟩ => ⟨S4x2x4x2048x1024, .bf16⟩
  | .hbm, ⟨13, _⟩ => ⟨S32x2048x1024, .bf16⟩
  | .hbm, ⟨14, _⟩ => ⟨S4x2x4x2048x1024, .bf16⟩
  | .hbm, ⟨15, _⟩ => ⟨S4x2x4x2048x1024, .bf16⟩
  | .hbm, ⟨16, _⟩ => ⟨S32x2048x1024, .bf16⟩
  | .hbm, ⟨17, _⟩ => ⟨S4x2x4x48x1024, .f32⟩
  | .hbm, ⟨18, _⟩ => ⟨S4x2x4x48x1024, .f32⟩
  | .hbm, ⟨19, _⟩ => ⟨S32x48x1024, .f32⟩
  | _, _ => ⟨S32x2048x706, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Sibling.lean ====
abbrev S2048x706 : Shape := ⟨2, ![2048, 706]⟩
abbrev S512x1024 : Shape := ⟨2, ![512, 1024]⟩
abbrev S2048x1024 : Shape := ⟨2, ![2048, 1024]⟩
abbrev S48x1024 : Shape := ⟨2, ![48, 1024]⟩
abbrev S5 : Shape := ⟨1, ![5]⟩
abbrev S1 : Shape := ⟨1, ![1]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x706, .f32⟩
  | .hbm, ⟨1, _⟩ => ⟨S512x1024, .f32⟩
  | .hbm, ⟨2, _⟩ => ⟨S2048x1024, .f32⟩
  | .hbm, ⟨3, _⟩ => ⟨S2048x1024, .f32⟩
  | .hbm, ⟨4, _⟩ => ⟨S48x1024, .f32⟩
  | .hbm, ⟨5, _⟩ => ⟨S2048x706, .f32⟩
  | .hbm, ⟨6, _⟩ => ⟨S512x1024, .f32⟩
  | .hbm, ⟨7, _⟩ => ⟨S2048x1024, .f32⟩
  | .hbm, ⟨8, _⟩ => ⟨S2048x1024, .f32⟩
  | .hbm, ⟨9, _⟩ => ⟨S48x1024, .f32⟩
  | _, _ => ⟨S2048x706, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v10 : BitVec 32 := Scalar.muli v2 c4_i32_5
  let v11 : BitVec 32 := Scalar.addi c0_i32_6 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v12 : BitVec 32 := Scalar.muli v5 c2_i32_7
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v14 : BitVec 32 := Scalar.muli v9 c1_i32_8
  let v15 : BitVec 32 := Scalar.addi v13 v14
  v15.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v20 : BitVec 32 := Scalar.muli v2 c4_i32_11
  let v21 : BitVec 32 := Scalar.addi c0_i32_12 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v22 : BitVec 32 := Scalar.muli v5 c2_i32_13
  let v23 : BitVec 32 := Scalar.addi v21 v22
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_14 : BitVec 32 := 1#32
  let v24 : BitVec 32 := Scalar.muli v9 c1_i32_14
  let v25 : BitVec 32 := Scalar.addi v23 v24
  v25.toNat
def k0_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v30 : BitVec 32 := Scalar.muli v2 c4_i32_17
  let v31 : BitVec 32 := Scalar.addi c0_i32_18 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v32 : BitVec 32 := Scalar.muli v5 c2_i32_19
  let v33 : BitVec 32 := Scalar.addi v31 v32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v34 : BitVec 32 := Scalar.muli v9 c1_i32_20
  let v35 : BitVec 32 := Scalar.addi v33 v34
  v35.toNat
def k0_dev4 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v40 : BitVec 32 := Scalar.muli v2 c4_i32_22
  let v41 : BitVec 32 := Scalar.addi c0_i32_23 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v42 : BitVec 32 := Scalar.muli v5 c2_i32_24
  let v43 : BitVec 32 := Scalar.addi v41 v42
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v44 : BitVec 32 := Scalar.muli v9 c1_i32_25
  let v45 : BitVec 32 := Scalar.addi v43 v44
  v45.toNat
def k0_dev5 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v50 : BitVec 32 := Scalar.muli v2 c4_i32_28
  let v51 : BitVec 32 := Scalar.addi c0_i32_29 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v52 : BitVec 32 := Scalar.muli v5 c2_i32_30
  let v53 : BitVec 32 := Scalar.addi v51 v52
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_31 : BitVec 32 := 1#32
  let v54 : BitVec 32 := Scalar.muli v9 c1_i32_31
  let v55 : BitVec 32 := Scalar.addi v53 v54
  v55.toNat
-- ==== SiblingRefIdeal.lean ====
abbrev S16384x706 : Shape := ⟨2, ![16384, 706]⟩
abbrev S4096x1024 : Shape := ⟨2, ![4096, 1024]⟩
abbrev S16384x1024 : Shape := ⟨2, ![16384, 1024]⟩
abbrev S384x1024 : Shape := ⟨2, ![384, 1024]⟩
abbrev S4x2x2048x706 : Shape := ⟨4, ![4, 2, 2048, 706]⟩
abbrev S4x2x512x1024 : Shape := ⟨4, ![4, 2, 512, 1024]⟩
abbrev S4x2x2048x1024 : Shape := ⟨4, ![4, 2, 2048, 1024]⟩
abbrev S4x2x48x1024 : Shape := ⟨4, ![4, 2, 48, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x706, .f32⟩
  | .hbm, ⟨1, _⟩ => ⟨S4096x1024, .f32⟩
  | .hbm, ⟨2, _⟩ => ⟨S16384x1024, .f32⟩
  | .hbm, ⟨3, _⟩ => ⟨S16384x1024, .f32⟩
  | .hbm, ⟨4, _⟩ => ⟨S384x1024, .f32⟩
  | .hbm, ⟨5, _⟩ => ⟨S4x2x2048x706, .f32⟩
  | .hbm, ⟨6, _⟩ => ⟨S4x2x2048x706, .f32⟩
  | .hbm, ⟨7, _⟩ => ⟨S16384x706, .f32⟩
  | .hbm, ⟨8, _⟩ => ⟨S4x2x512x1024, .f32⟩
  | .hbm, ⟨9, _⟩ => ⟨S4x2x512x1024, .f32⟩
  | .hbm, ⟨10, _⟩ => ⟨S4096x1024, .f32⟩
  | .hbm, ⟨11, _⟩ => ⟨S4x2x2048x1024, .f32⟩
  | .hbm, ⟨12, _⟩ => ⟨S4x2x2048x1024, .f32⟩
  | .hbm, ⟨13, _⟩ => ⟨S16384x1024, .f32⟩
  | .hbm, ⟨14, _⟩ => ⟨S4x2x2048x1024, .f32⟩
  | .hbm, ⟨15, _⟩ => ⟨S4x2x2048x1024, .f32⟩
  | .hbm, ⟨16, _⟩ => ⟨S16384x1024, .f32⟩
  | .hbm, ⟨17, _⟩ => ⟨S4x2x48x1024, .f32⟩
  | .hbm, ⟨18, _⟩ => ⟨S4x2x48x1024, .f32⟩
  | .hbm, ⟨19, _⟩ => ⟨S384x1024, .f32⟩
  | _, _ => ⟨S16384x706, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== UpdateIn.lean ====
abbrev S2048x706 : Shape := ⟨2, ![2048, 706]⟩
abbrev S256x706 : Shape := ⟨2, ![256, 706]⟩

abbrev nBuf : Space → Nat
  | .hbm => 9
  | .vmem => 18
  | .smem => 0
  | _ => 0

abbrev bufTy : (tb : Table) → Fin (tcTables nBuf tb) → BufTy
  | .hbm, ⟨0, _⟩ => ⟨S2048x706, .f32⟩
  | .hbm, ⟨1, _⟩ => ⟨S2048x706, .f32⟩
  | .hbm, ⟨2, _⟩ => ⟨S2048x706, .f32⟩
  | .hbm, ⟨3, _⟩ => ⟨S2048x706, .f32⟩
  | .hbm, ⟨4, _⟩ => ⟨S2048x706, .f32⟩
  | .hbm, ⟨5, _⟩ => ⟨S2048x706, .f32⟩
  | .hbm, ⟨6, _⟩ => ⟨S2048x706, .f32⟩
  | .hbm, ⟨7, _⟩ => ⟨S2048x706, .f32⟩
  | .hbm, ⟨8, _⟩ => ⟨S2048x706, .f32⟩
  | .local _ .vmem, ⟨0, _⟩ => ⟨S256x706, .f32⟩
  | .local _ .vmem, ⟨1, _⟩ => ⟨S256x706, .f32⟩
  | .local _ .vmem, ⟨2, _⟩ => ⟨S256x706, .f32⟩
  | .local _ .vmem, ⟨3, _⟩ => ⟨S256x706, .f32⟩
  | .local _ .vmem, ⟨4, _⟩ => ⟨S256x706, .f32⟩
  | .local _ .vmem, ⟨5, _⟩ => ⟨S256x706, .f32⟩
  | .local _ .vmem, ⟨6, _⟩ => ⟨S256x706, .f32⟩
  | .local _ .vmem, ⟨7, _⟩ => ⟨S256x706, .f32⟩
  | .local _ .vmem, ⟨8, _⟩ => ⟨S256x706, .f32⟩
  | .local _ .vmem, ⟨9, _⟩ => ⟨S256x706, .f32⟩
  | .local _ .vmem, ⟨10, _⟩ => ⟨S256x706, .f32⟩
  | .local _ .vmem, ⟨11, _⟩ => ⟨S256x706, .f32⟩
  | .local _ .vmem, ⟨12, _⟩ => ⟨S256x706, .f32⟩
  | .local _ .vmem, ⟨13, _⟩ => ⟨S256x706, .f32⟩
  | .local _ .vmem, ⟨14, _⟩ => ⟨S256x706, .f32⟩
  | .local _ .vmem, ⟨15, _⟩ => ⟨S256x706, .f32⟩
  | .local _ .vmem, ⟨16, _⟩ => ⟨S256x706, .f32⟩
  | .local _ .vmem, ⟨17, _⟩ => ⟨S256x706, .f32⟩
  | _, _ => ⟨S2048x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x706 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x706 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x706 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x706 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x706 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x706 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x706 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x706 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x706 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateInIdeal.lean ====
abbrev S2048x706 : Shape := ⟨2, ![2048, 706]⟩
abbrev S256x706 : Shape := ⟨2, ![256, 706]⟩

abbrev nBuf : Space → Nat
  | .hbm => 9
  | .vmem => 18
  | .smem => 0
  | _ => 0

abbrev bufTy : (tb : Table) → Fin (tcTables nBuf tb) → BufTy
  | .hbm, ⟨0, _⟩ => ⟨S2048x706, .f32⟩
  | .hbm, ⟨1, _⟩ => ⟨S2048x706, .f32⟩
  | .hbm, ⟨2, _⟩ => ⟨S2048x706, .f32⟩
  | .hbm, ⟨3, _⟩ => ⟨S2048x706, .f32⟩
  | .hbm, ⟨4, _⟩ => ⟨S2048x706, .f32⟩
  | .hbm, ⟨5, _⟩ => ⟨S2048x706, .f32⟩
  | .hbm, ⟨6, _⟩ => ⟨S2048x706, .f32⟩
  | .hbm, ⟨7, _⟩ => ⟨S2048x706, .f32⟩
  | .hbm, ⟨8, _⟩ => ⟨S2048x706, .f32⟩
  | .local _ .vmem, ⟨0, _⟩ => ⟨S256x706, .f32⟩
  | .local _ .vmem, ⟨1, _⟩ => ⟨S256x706, .f32⟩
  | .local _ .vmem, ⟨2, _⟩ => ⟨S256x706, .f32⟩
  | .local _ .vmem, ⟨3, _⟩ => ⟨S256x706, .f32⟩
  | .local _ .vmem, ⟨4, _⟩ => ⟨S256x706, .f32⟩
  | .local _ .vmem, ⟨5, _⟩ => ⟨S256x706, .f32⟩
  | .local _ .vmem, ⟨6, _⟩ => ⟨S256x706, .f32⟩
  | .local _ .vmem, ⟨7, _⟩ => ⟨S256x706, .f32⟩
  | .local _ .vmem, ⟨8, _⟩ => ⟨S256x706, .f32⟩
  | .local _ .vmem, ⟨9, _⟩ => ⟨S256x706, .f32⟩
  | .local _ .vmem, ⟨10, _⟩ => ⟨S256x706, .f32⟩
  | .local _ .vmem, ⟨11, _⟩ => ⟨S256x706, .f32⟩
  | .local _ .vmem, ⟨12, _⟩ => ⟨S256x706, .f32⟩
  | .local _ .vmem, ⟨13, _⟩ => ⟨S256x706, .f32⟩
  | .local _ .vmem, ⟨14, _⟩ => ⟨S256x706, .f32⟩
  | .local _ .vmem, ⟨15, _⟩ => ⟨S256x706, .f32⟩
  | .local _ .vmem, ⟨16, _⟩ => ⟨S256x706, .f32⟩
  | .local _ .vmem, ⟨17, _⟩ => ⟨S256x706, .f32⟩
  | _, _ => ⟨S2048x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x706 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x706 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x706 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x706 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x706 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x706 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x706 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x706 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x706 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateInRefIdeal.lean ====
abbrev S2048x706 : Shape := ⟨2, ![2048, 706]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x706, .f32⟩
  | .hbm, ⟨1, _⟩ => ⟨S2048x706, .f32⟩
  | .hbm, ⟨2, _⟩ => ⟨S2048x706, .f32⟩
  | .hbm, ⟨3, _⟩ => ⟨S2048x706, .f32⟩
  | .hbm, ⟨4, _⟩ => ⟨S2048x706, .f32⟩
  | .hbm, ⟨5, _⟩ => ⟨S2048x706, .f32⟩
  | .hbm, ⟨6, _⟩ => ⟨S_, .f32⟩
  | .hbm, ⟨7, _⟩ => ⟨S2048x706, .f32⟩
  | .hbm, ⟨8, _⟩ => ⟨S2048x706, .f32⟩
  | .hbm, ⟨9, _⟩ => ⟨S_, .f32⟩
  | .hbm, ⟨10, _⟩ => ⟨S2048x706, .f32⟩
  | .hbm, ⟨11, _⟩ => ⟨S2048x706, .f32⟩
  | .hbm, ⟨12, _⟩ => ⟨S2048x706, .f32⟩
  | .hbm, ⟨13, _⟩ => ⟨S_, .f32⟩
  | .hbm, ⟨14, _⟩ => ⟨S2048x706, .f32⟩
  | .hbm, ⟨15, _⟩ => ⟨S2048x706, .f32⟩
  | .hbm, ⟨16, _⟩ => ⟨S2048x706, .f32⟩
  | .hbm, ⟨17, _⟩ => ⟨S_, .f32⟩
  | .hbm, ⟨18, _⟩ => ⟨S2048x706, .f32⟩
  | .hbm, ⟨19, _⟩ => ⟨S2048x706, .f32⟩
  | .hbm, ⟨20, _⟩ => ⟨S2048x706, .f32⟩
  | .hbm, ⟨21, _⟩ => ⟨S_, .f32⟩
  | .hbm, ⟨22, _⟩ => ⟨S2048x706, .f32⟩
  | .hbm, ⟨23, _⟩ => ⟨S2048x706, .f32⟩
  | .hbm, ⟨24, _⟩ => ⟨S_, .f32⟩
  | .hbm, ⟨25, _⟩ => ⟨S2048x706, .f32⟩
  | .hbm, ⟨26, _⟩ => ⟨S2048x706, .f32⟩
  | .hbm, ⟨27, _⟩ => ⟨S2048x706, .f32⟩
  | .hbm, ⟨28, _⟩ => ⟨S_, .f32⟩
  | .hbm, ⟨29, _⟩ => ⟨S2048x706, .f32⟩
  | .hbm, ⟨30, _⟩ => ⟨S2048x706, .f32⟩
  | .hbm, ⟨31, _⟩ => ⟨S2048x706, .f32⟩
  | .hbm, ⟨32, _⟩ => ⟨S_, .f32⟩
  | .hbm, ⟨33, _⟩ => ⟨S2048x706, .f32⟩
  | .hbm, ⟨34, _⟩ => ⟨S2048x706, .f32⟩
  | .hbm, ⟨35, _⟩ => ⟨S2048x706, .f32⟩
  | .hbm, ⟨36, _⟩ => ⟨S_, .f32⟩
  | .hbm, ⟨37, _⟩ => ⟨S2048x706, .f32⟩
  | .hbm, ⟨38, _⟩ => ⟨S2048x706, .f32⟩
  | _, _ => ⟨S2048x706, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateOut.lean ====
abbrev S512x1024 : Shape := ⟨2, ![512, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateOutIdeal.lean ====
abbrev S512x1024 : Shape := ⟨2, ![512, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateOutRefIdeal.lean ====
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateMlp.lean ====
abbrev S2048x1024 : Shape := ⟨2, ![2048, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateMlpIdeal.lean ====
abbrev S2048x1024 : Shape := ⟨2, ![2048, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateMlpRefIdeal.lean ====
abbrev S2048x1024 : Shape := ⟨2, ![2048, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateSmall.lean ====
abbrev S48x1024 : Shape := ⟨2, ![48, 1024]⟩

abbrev nBuf : Space → Nat
  | .hbm => 9
  | .vmem => 9
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .hbm, ⟨7, _⟩ => ⟨S48x1024, .f32⟩
  | .hbm, ⟨8, _⟩ => ⟨S48x1024, .f32⟩
  | .local _ .vmem, ⟨0, _⟩ => ⟨S48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | .local _ .vmem, ⟨7, _⟩ => ⟨S48x1024, .f32⟩
  | .local _ .vmem, ⟨8, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S48x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== UpdateSmallRefIdeal.lean ====
abbrev S48x1024 : Shape := ⟨2, ![48, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S_, .f32⟩
  | .hbm, ⟨7, _⟩ => ⟨S48x1024, .f32⟩
  | .hbm, ⟨8, _⟩ => ⟨S48x1024, .f32⟩
  | .hbm, ⟨9, _⟩ => ⟨S_, .f32⟩
  | .hbm, ⟨10, _⟩ => ⟨S48x1024, .f32⟩
  | .hbm, ⟨11, _⟩ => ⟨S48x1024, .f32⟩
  | .hbm, ⟨12, _⟩ => ⟨S48x1024, .f32⟩
  | .hbm, ⟨13, _⟩ => ⟨S_, .f32⟩
  | .hbm, ⟨14, _⟩ => ⟨S48x1024, .f32⟩
  | .hbm, ⟨15, _⟩ => ⟨S48x1024, .f32⟩
  | .hbm, ⟨16, _⟩ => ⟨S48x1024, .f32⟩
  | .hbm, ⟨17, _⟩ => ⟨S_, .f32⟩
  | .hbm, ⟨18, _⟩ => ⟨S48x1024, .f32⟩
  | .hbm, ⟨19, _⟩ => ⟨S48x1024, .f32⟩
  | .hbm, ⟨20, _⟩ => ⟨S48x1024, .f32⟩
  | .hbm, ⟨21, _⟩ => ⟨S_, .f32⟩
  | .hbm, ⟨22, _⟩ => ⟨S48x1024, .f32⟩
  | .hbm, ⟨23, _⟩ => ⟨S48x1024, .f32⟩
  | .hbm, ⟨24, _⟩ => ⟨S_, .f32⟩
  | .hbm, ⟨25, _⟩ => ⟨S48x1024, .f32⟩
  | .hbm, ⟨26, _⟩ => ⟨S48x1024, .f32⟩
  | .hbm, ⟨27, _⟩ => ⟨S48x1024, .f32⟩
  | .hbm, ⟨28, _⟩ => ⟨S_, .f32⟩
  | .hbm, ⟨29, _⟩ => ⟨S48x1024, .f32⟩
  | .hbm, ⟨30, _⟩ => ⟨S48x1024, .f32⟩
  | .hbm, ⟨31, _⟩ => ⟨S48x1024, .f32⟩
  | .hbm, ⟨32, _⟩ => ⟨S_, .f32⟩
  | .hbm, ⟨33, _⟩ => ⟨S48x1024, .f32⟩
  | .hbm, ⟨34, _⟩ => ⟨S48x1024, .f32⟩
  | .hbm, ⟨35, _⟩ => ⟨S48x1024, .f32⟩
  | .hbm, ⟨36, _⟩ => ⟨S_, .f32⟩
  | .hbm, ⟨37, _⟩ => ⟨S48x1024, .f32⟩
  | .hbm, ⟨38, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumIn.lean ====
abbrev S1 : Shape := ⟨1, ![1]⟩
abbrev S2048x706 : Shape := ⟨2, ![2048, 706]⟩
abbrev S4x2048x706 : Shape := ⟨3, ![4, 2048, 706]⟩
abbrev S512x706 : Shape := ⟨2, ![512, 706]⟩
abbrev S4x512x706 : Shape := ⟨3, ![4, 512, 706]⟩
abbrev S1x512x706 : Shape := ⟨3, ![1, 512, 706]⟩

abbrev nBuf : Space → Nat
  | .hbm => 3
  | .vmem => 6
  | .smem => 1
  | _ => 0

abbrev bufTy : (tb : Table) → Fin (tcTables nBuf tb) → BufTy
  | .hbm, ⟨0, _⟩ => ⟨S2048x706, .f32⟩
  | .hbm, ⟨1, _⟩ => ⟨S4x2048x706, .bf16⟩
  | .hbm, ⟨2, _⟩ => ⟨S2048x706, .f32⟩
  | .local _ .vmem, ⟨0, _⟩ => ⟨S512x706, .f32⟩
  | .local _ .vmem, ⟨1, _⟩ => ⟨S512x706, .f32⟩
  | .local _ .vmem, ⟨2, _⟩ => ⟨S4x512x706, .bf16⟩
  | .local _ .vmem, ⟨3, _⟩ => ⟨S4x512x706, .bf16⟩
  | .local _ .vmem, ⟨4, _⟩ => ⟨S512x706, .f32⟩
  | .local _ .vmem, ⟨5, _⟩ => ⟨S512x706, .f32⟩
  | .local _ .smem, ⟨0, _⟩ => ⟨S1, .i32⟩
  | _, _ => ⟨S2048x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x706 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x706 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x706 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInIdeal.lean ====
abbrev S1 : Shape := ⟨1, ![1]⟩
abbrev S2048x706 : Shape := ⟨2, ![2048, 706]⟩
abbrev S4x2048x706 : Shape := ⟨3, ![4, 2048, 706]⟩
abbrev S512x706 : Shape := ⟨2, ![512, 706]⟩
abbrev S4x512x706 : Shape := ⟨3, ![4, 512, 706]⟩
abbrev S1x512x706 : Shape := ⟨3, ![1, 512, 706]⟩

abbrev nBuf : Space → Nat
  | .hbm => 3
  | .vmem => 6
  | .smem => 1
  | _ => 0

abbrev bufTy : (tb : Table) → Fin (tcTables nBuf tb) → BufTy
  | .hbm, ⟨0, _⟩ => ⟨S2048x706, .f32⟩
  | .hbm, ⟨1, _⟩ => ⟨S4x2048x706, .bf16⟩
  | .hbm, ⟨2, _⟩ => ⟨S2048x706, .f32⟩
  | .local _ .vmem, ⟨0, _⟩ => ⟨S512x706, .f32⟩
  | .local _ .vmem, ⟨1, _⟩ => ⟨S512x706, .f32⟩
  | .local _ .vmem, ⟨2, _⟩ => ⟨S4x512x706, .bf16⟩
  | .local _ .vmem, ⟨3, _⟩ => ⟨S4x512x706, .bf16⟩
  | .local _ .vmem, ⟨4, _⟩ => ⟨S512x706, .f32⟩
  | .local _ .vmem, ⟨5, _⟩ => ⟨S512x706, .f32⟩
  | .local _ .smem, ⟨0, _⟩ => ⟨S1, .i32⟩
  | _, _ => ⟨S2048x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x706 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x706 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x706 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInRefIdeal.lean ====
abbrev S1 : Shape := ⟨1, ![1]⟩
abbrev S2048x706 : Shape := ⟨2, ![2048, 706]⟩
abbrev S4x2048x706 : Shape := ⟨3, ![4, 2048, 706]⟩
abbrev S4 : Shape := ⟨1, ![4]⟩
abbrev S4x1x1 : Shape := ⟨3, ![4, 1, 1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x706, .f32⟩
  | .hbm, ⟨2, _⟩ => ⟨S4x2048x706, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x2048x706, .f32⟩
  | .hbm, ⟨9, _⟩ => ⟨S_, .f32⟩
  | .hbm, ⟨10, _⟩ => ⟨S_, .f32⟩
  | .hbm, ⟨11, _⟩ => ⟨S4x2048x706, .i1⟩
  | .hbm, ⟨12, _⟩ => ⟨S4x2048x706, .f32⟩
  | .hbm, ⟨13, _⟩ => ⟨S4x2048x706, .f32⟩
  | .hbm, ⟨14, _⟩ => ⟨S_, .f32⟩
  | .hbm, ⟨15, _⟩ => ⟨S2048x706, .f32⟩
  | .hbm, ⟨16, _⟩ => ⟨S2048x706, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== SumOut.lean ====
abbrev S1 : Shape := ⟨1, ![1]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 3
  | .vmem => 3
  | .smem => 1
  | _ => 0

abbrev bufTy : (tb : Table) → Fin (tcTables nBuf tb) → BufTy
  | .hbm, ⟨0, _⟩ => ⟨S512x1024, .f32⟩
  | .hbm, ⟨1, _⟩ => ⟨S4x512x1024, .bf16⟩
  | .hbm, ⟨2, _⟩ => ⟨S512x1024, .f32⟩
  | .local _ .vmem, ⟨0, _⟩ => ⟨S512x1024, .f32⟩
  | .local _ .vmem, ⟨1, _⟩ => ⟨S4x512x1024, .bf16⟩
  | .local _ .vmem, ⟨2, _⟩ => ⟨S512x1024, .f32⟩
  | .local _ .smem, ⟨0, _⟩ => ⟨S1, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutIdeal.lean ====
abbrev S1 : Shape := ⟨1, ![1]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 3
  | .vmem => 3
  | .smem => 1
  | _ => 0

abbrev bufTy : (tb : Table) → Fin (tcTables nBuf tb) → BufTy
  | .hbm, ⟨0, _⟩ => ⟨S512x1024, .f32⟩
  | .hbm, ⟨1, _⟩ => ⟨S4x512x1024, .bf16⟩
  | .hbm, ⟨2, _⟩ => ⟨S512x1024, .f32⟩
  | .local _ .vmem, ⟨0, _⟩ => ⟨S512x1024, .f32⟩
  | .local _ .vmem, ⟨1, _⟩ => ⟨S4x512x1024, .bf16⟩
  | .local _ .vmem, ⟨2, _⟩ => ⟨S512x1024, .f32⟩
  | .local _ .smem, ⟨0, _⟩ => ⟨S1, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutRefIdeal.lean ====
abbrev S1 : Shape := ⟨1, ![1]⟩
abbrev S512x1024 : Shape := ⟨2, ![512, 1024]⟩
abbrev S4x512x1024 : Shape := ⟨3, ![4, 512, 1024]⟩
abbrev S4 : Shape := ⟨1, ![4]⟩
abbrev S4x1x1 : Shape := ⟨3, ![4, 1, 1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x1024, .f32⟩
  | .hbm, ⟨2, _⟩ => ⟨S4x512x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x512x1024, .f32⟩
  | .hbm, ⟨9, _⟩ => ⟨S_, .f32⟩
  | .hbm, ⟨10, _⟩ => ⟨S_, .f32⟩
  | .hbm, ⟨11, _⟩ => ⟨S4x512x1024, .i1⟩
  | .hbm, ⟨12, _⟩ => ⟨S4x512x1024, .f32⟩
  | .hbm, ⟨13, _⟩ => ⟨S4x512x1024, .f32⟩
  | .hbm, ⟨14, _⟩ => ⟨S_, .f32⟩
  | .hbm, ⟨15, _⟩ => ⟨S512x1024, .f32⟩
  | .hbm, ⟨16, _⟩ => ⟨S512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== SumMlp.lean ====
abbrev S1 : Shape := ⟨1, ![1]⟩
abbrev S2048x1024 : Shape := ⟨2, ![2048, 1024]⟩
abbrev S4x2048x1024 : Shape := ⟨3, ![4, 2048, 1024]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 3
  | .vmem => 6
  | .smem => 1
  | _ => 0

abbrev bufTy : (tb : Table) → Fin (tcTables nBuf tb) → BufTy
  | .hbm, ⟨0, _⟩ => ⟨S2048x1024, .f32⟩
  | .hbm, ⟨1, _⟩ => ⟨S4x2048x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S512x1024, .f32⟩
  | .local _ .vmem, ⟨5, _⟩ => ⟨S512x1024, .f32⟩
  | .local _ .smem, ⟨0, _⟩ => ⟨S1, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumMlpRefIdeal.lean ====
abbrev S1 : Shape := ⟨1, ![1]⟩
abbrev S2048x1024 : Shape := ⟨2, ![2048, 1024]⟩
abbrev S4x2048x1024 : Shape := ⟨3, ![4, 2048, 1024]⟩
abbrev S4 : Shape := ⟨1, ![4]⟩
abbrev S4x1x1 : Shape := ⟨3, ![4, 1, 1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x1024, .f32⟩
  | .hbm, ⟨2, _⟩ => ⟨S4x2048x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x2048x1024, .f32⟩
  | .hbm, ⟨9, _⟩ => ⟨S_, .f32⟩
  | .hbm, ⟨10, _⟩ => ⟨S_, .f32⟩
  | .hbm, ⟨11, _⟩ => ⟨S4x2048x1024, .i1⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S2048x1024, .f32⟩
  | .hbm, ⟨16, _⟩ => ⟨S2048x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== SumSmall.lean ====
abbrev S1 : Shape := ⟨1, ![1]⟩
abbrev S48x1024 : Shape := ⟨2, ![48, 1024]⟩
abbrev S4x48x1024 : Shape := ⟨3, ![4, 48, 1024]⟩
abbrev S1x48x1024 : Shape := ⟨3, ![1, 48, 1024]⟩

abbrev nBuf : Space → Nat
  | .hbm => 3
  | .vmem => 3
  | .smem => 1
  | _ => 0

abbrev bufTy : (tb : Table) → Fin (tcTables nBuf tb) → BufTy
  | .hbm, ⟨0, _⟩ => ⟨S48x1024, .f32⟩
  | .hbm, ⟨1, _⟩ => ⟨S4x48x1024, .f32⟩
  | .hbm, ⟨2, _⟩ => ⟨S48x1024, .f32⟩
  | .local _ .vmem, ⟨0, _⟩ => ⟨S48x1024, .f32⟩
  | .local _ .vmem, ⟨1, _⟩ => ⟨S4x48x1024, .f32⟩
  | .local _ .vmem, ⟨2, _⟩ => ⟨S48x1024, .f32⟩
  | .local _ .smem, ⟨0, _⟩ => ⟨S1, .i32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumSmallRefIdeal.lean ====
abbrev S1 : Shape := ⟨1, ![1]⟩
abbrev S48x1024 : Shape := ⟨2, ![48, 1024]⟩
abbrev S4x48x1024 : Shape := ⟨3, ![4, 48, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S1, .i32⟩
  | .hbm, ⟨1, _⟩ => ⟨S48x1024, .f32⟩
  | .hbm, ⟨2, _⟩ => ⟨S4x48x1024, .f32⟩
  | .hbm, ⟨3, _⟩ => ⟨S_, .f32⟩
  | .hbm, ⟨4, _⟩ => ⟨S48x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩

abbrev nD : Nat := 1
abbrev τ : Topo := Topo.v7x

variable {F : FTy → Type} [FloatOps F]
-- ==== Loss.lean ====
abbrev S8320x1024 : Shape := ⟨2, ![8320, 1024]⟩
abbrev S1x1024 : Shape := ⟨2, ![1, 1024]⟩
abbrev S1x1 : Shape := ⟨2, ![1, 1]⟩
abbrev S640x1024 : Shape := ⟨2, ![640, 1024]⟩
abbrev S640 : Shape := ⟨1, ![640]⟩
abbrev S640x1 : Shape := ⟨2, ![640, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8320x1024, .f32⟩
  | .hbm, ⟨4, _⟩ => ⟨S1x1, .f32⟩
  | .hbm, ⟨5, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S640x1024, .f32⟩
  | .local _ .vmem, ⟨6, _⟩ => ⟨S640x1024, .f32⟩
  | .local _ .vmem, ⟨7, _⟩ => ⟨S1x1, .f32⟩
  | .local _ .vmem, ⟨8, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S8192x1024 : Shape := ⟨2, ![8192, 1024]⟩
abbrev S8192 : Shape := ⟨1, ![8192]⟩
abbrev S1x1 : Shape := ⟨2, ![1, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8320, .i32⟩
  | .hbm, ⟨31, _⟩ => ⟨S8320x1, .i32⟩
  | .hbm, ⟨32, _⟩ => ⟨S_, .i32⟩
  | .hbm, ⟨33, _⟩ => ⟨S8320x1, .i32⟩
  | .hbm, ⟨34, _⟩ => ⟨S8320x1, .i1⟩
  | .hbm, ⟨35, _⟩ => ⟨S_, .i32⟩
  | .hbm, ⟨36, _⟩ => ⟨S8320x1, .i32⟩
  | .hbm, ⟨37, _⟩ => ⟨S8320x1, .i1⟩
  | .hbm, ⟨38, _⟩ => ⟨S8320x1, .i1⟩
  | .hbm, ⟨39, _⟩ => ⟨S_, .f32⟩
  | .hbm, ⟨40, _⟩ => ⟨S8320x1024, .f32⟩
  | .hbm, ⟨41, _⟩ => ⟨S8320x1024, .f32⟩
  | .hbm, ⟨42, _⟩ => ⟨S_, .f32⟩
  | .hbm, ⟨43, _⟩ => ⟨S_, .f32⟩
  | .hbm, ⟨44, _⟩ => ⟨S8320x1024, .i1⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S_, .f32⟩
  | .hbm, ⟨51, _⟩ => ⟨S8320, .f32⟩
  | .hbm, ⟨52, _⟩ => ⟨S8320x1, .f32⟩
  | .hbm, ⟨53, _⟩ => ⟨S_, .f32⟩
  | .hbm, ⟨54, _⟩ => ⟨S8320x1, .f32⟩
  | .hbm, ⟨55, _⟩ => ⟨S8320x1, .f32⟩
  | .hbm, ⟨56, _⟩ => ⟨S8320x1024, .f32⟩
  | .hbm, ⟨57, _⟩ => ⟨S8320x1024, .f32⟩
  | .hbm, ⟨58, _⟩ => ⟨S8320x1024, .f32⟩
  | .hbm, ⟨59, _⟩ => ⟨S8320x1024, .f32⟩
  | .hbm, ⟨60, _⟩ => ⟨S8320x1024, .f32⟩
  | .hbm, ⟨61, _⟩ => ⟨S1x1, .f32⟩
  | .hbm, ⟨62, _⟩ => ⟨S8320x1024, .f32⟩
  | .hbm, ⟨63, _⟩ => ⟨S_, .f32⟩
  | .hbm, ⟨64, _⟩ => ⟨S1024, .f32⟩
  | .hbm, ⟨65, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== ConvFwd.lean ====
abbrev S8320x1408 : Shape := ⟨2, ![8320, 1408]⟩
abbrev S32x256 : Shape := ⟨2, ![32, 256]⟩
abbrev S8x256 : Shape := ⟨2, ![8, 256]⟩
abbrev S256x256 : Shape := ⟨2, ![256, 256]⟩
abbrev S8320x512 : Shape := ⟨2, ![8320, 512]⟩
abbrev S8320x256 : Shape := ⟨2, ![8320, 256]⟩
abbrev S8320x128 : Shape := ⟨2, ![8320, 128]⟩
abbrev S640x256 : Shape := ⟨2, ![640, 256]⟩
abbrev S640x128 : Shape := ⟨2, ![640, 128]⟩
abbrev S640x512 : Shape := ⟨2, ![640, 512]⟩
abbrev S8x128 : Shape := ⟨2, ![8, 128]⟩
abbrev S672x256 : Shape := ⟨2, ![672, 256]⟩
abbrev S1x256 : Shape := ⟨2, ![1, 256]⟩
abbrev S640 : Shape := ⟨1, ![640]⟩
abbrev S640x1 : Shape := ⟨2, ![640, 1]⟩
abbrev S1x128 : Shape := ⟨2, ![1, 128]⟩
abbrev S640x640 : Shape := ⟨2, ![640, 640]⟩

abbrev nBuf : Space → Nat
  | .hbm => 9
  | .vmem => 33
  | .smem => 0
  | _ => 0

abbrev bufTy : (tb : Table) → Fin (tcTables nBuf tb) → BufTy
  | .hbm, ⟨0, _⟩ => ⟨S8320x1408, .f32⟩
  | .hbm, ⟨1, _⟩ => ⟨S32x256, .f32⟩
  | .hbm, ⟨2, _⟩ => ⟨S8x256, .f32⟩
  | .hbm, ⟨3, _⟩ => ⟨S256x256, .bf16⟩
  | .hbm, ⟨4, _⟩ => ⟨S8x256, .f32⟩
  | .hbm, ⟨5, _⟩ => ⟨S8320x512, .bf16⟩
  | .hbm, ⟨6, _⟩ => ⟨S8320x256, .f32⟩
  | .hbm, ⟨7, _⟩ => ⟨S8320x256, .f32⟩
  | .hbm, ⟨8, _⟩ => ⟨S8320x128, .f32⟩
  | .local _ .vmem, ⟨0, _⟩ => ⟨S640x256, .f32⟩
  | .local _ .vmem, ⟨1, _⟩ => ⟨S640x256, .f32⟩
  | .local _ .vmem, ⟨2, _⟩ => ⟨S640x256, .f32⟩
  | .local _ .vmem, ⟨3, _⟩ => ⟨S640x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S640x256, .f32⟩
  | .local _ .vmem, ⟨9, _⟩ => ⟨S640x256, .f32⟩
  | .local _ .vmem, ⟨10, _⟩ => ⟨S640x256, .f32⟩
  | .local _ .vmem, ⟨11, _⟩ => ⟨S640x256, .f32⟩
  | .local _ .vmem, ⟨12, _⟩ => ⟨S640x256, .f32⟩
  | .local _ .vmem, ⟨13, _⟩ => ⟨S640x256, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S32x256, .f32⟩
  | .local _ .vmem, ⟨18, _⟩ => ⟨S640x128, .f32⟩
  | .local _ .vmem, ⟨19, _⟩ => ⟨S640x128, .f32⟩
  | .local _ .vmem, ⟨20, _⟩ => ⟨S32x256, .f32⟩
  | .local _ .vmem, ⟨21, _⟩ => ⟨S8x256, .f32⟩
  | .local _ .vmem, ⟨22, _⟩ => ⟨S256x256, .bf16⟩
  | .local _ .vmem, ⟨23, _⟩ => ⟨S8x256, .f32⟩
  | .local _ .vmem, ⟨24, _⟩ => ⟨S640x512, .bf16⟩
  | .local _ .vmem, ⟨25, _⟩ => ⟨S640x512, .bf16⟩
  | .local _ .vmem, ⟨26, _⟩ => ⟨S640x256, .f32⟩
  | .local _ .vmem, ⟨27, _⟩ => ⟨S640x256, .f32⟩
  | .local _ .vmem, ⟨28, _⟩ => ⟨S640x256, .f32⟩
  | .local _ .vmem, ⟨29, _⟩ => ⟨S640x256, .f32⟩
  | .local _ .vmem, ⟨30, _⟩ => ⟨S640x128, .f32⟩
  | .local _ .vmem, ⟨31, _⟩ => ⟨S640x128, .f32⟩
  | .local _ .vmem, ⟨32, _⟩ => ⟨S8x128, .f32⟩
  | _, _ => ⟨S8320x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c20_i32 : BitVec 32 := 20#32
  let v0 : BitVec 32 := Scalar.muli arg0 c20_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c20_i32 : BitVec 32 := 20#32
  let v0 : BitVec 32 := Scalar.muli arg0 c20_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c20_i32 : BitVec 32 := 20#32
  let v0 : BitVec 32 := Scalar.muli arg0 c20_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c20_i32 : BitVec 32 := 20#32
  let v0 : BitVec 32 := Scalar.muli arg0 c20_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S640x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S640x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S640x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S640x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ConvFwdRefIdeal.lean ====
abbrev S8320x1408 : Shape := ⟨2, ![8320, 1408]⟩
abbrev S32x256 : Shape := ⟨2, ![32, 256]⟩
abbrev S8x256 : Shape := ⟨2, ![8, 256]⟩
abbrev S256x256 : Shape := ⟨2, ![256, 256]⟩
abbrev S8320x256 : Shape := ⟨2, ![8320, 256]⟩
abbrev S8320x128 : Shape := ⟨2, ![8320, 128]⟩
abbrev S1x128 : Shape := ⟨2, ![1, 128]⟩
abbrev S128 : Shape := ⟨1, ![128]⟩
abbrev S_ : Shape := ⟨0, ![]⟩
abbrev S8350x256 : Shape := ⟨2, ![8350, 256]⟩
abbrev S1x256 : Shape := ⟨2, ![1, 256]⟩
abbrev S256 : Shape := ⟨1, ![256]⟩
abbrev S8320 : Shape := ⟨1, ![8320]⟩
abbrev S8320x1 : Shape := ⟨2, ![8320, 1]⟩
abbrev S8322x256 : Shape := ⟨2, ![8322, 256]⟩
abbrev S8320x512 : Shape := ⟨2, ![8320, 512]⟩

abbrev nBuf : Space → Nat
  | .hbm => 343
  | .vmem => 0
  | .smem => 0
  | _ => 0

abbrev hbmTy0_0 (i : Nat) : BufTy := match i % 128 with
  | 0 => ⟨S8320x1408, .f32⟩
  | 1 => ⟨S32x256, .f32⟩
  | 2 => ⟨S8x256, .f32⟩
  | 3 => ⟨S256x256, .bf16⟩
  | 4 => ⟨S8x256, .f32⟩
  | 5 => ⟨S8320x256, .f32⟩
  | 6 => ⟨S8320x256, .f32⟩
  | 7 => ⟨S8320x256, .f32⟩
  | 8 => ⟨S8320x256, .f32⟩
  | 9 => ⟨S8320x256, .f32⟩
  | 10 => ⟨S8320x128, .f32⟩
  | 11 => ⟨S1x128, .f32⟩
  | 12 => ⟨S128, .f32⟩
  | 13 => ⟨S1x128, .f32⟩
  | 14 => ⟨S8320x128, .f32⟩
  | 15 => ⟨S8320x128, .f32⟩
  | 16 => ⟨S8320x256, .f32⟩
  | 17 => ⟨S8320x256, .f32⟩
  | 18 => ⟨S_, .f32⟩
  | 19 => ⟨S8320x256, .f32⟩
  | 20 => ⟨S8320x256, .f32⟩
  | 21 => ⟨S_, .f32⟩
  | 22 => ⟨S8320x256, .f32⟩
  | 23 => ⟨S8320x256, .f32⟩
  | 24 => ⟨S8320x256, .f32⟩
  | 25 => ⟨S_, .i32⟩
  | 26 => ⟨S_, .f32⟩
  | 27 => ⟨S8350x256, .f32⟩
  | 28 => ⟨S1x256, .f32⟩
  | 29 => ⟨S256, .f32⟩
  | 30 => ⟨S8320x256, .f32⟩
  | 31 => ⟨S1x256, .f32⟩
  | 32 => ⟨S8320x256, .f32⟩
  | 33 => ⟨S8320x256, .f32⟩
  | 34 => ⟨S_, .f32⟩
  | 35 => ⟨S8320x256, .f32⟩
  | 36 => ⟨S8320x256, .f32⟩
  | 37 => ⟨S1x256, .f32⟩
  | 38 => ⟨S256, .f32⟩
  | 39 => ⟨S8320x256, .f32⟩
  | 40 => ⟨S1x256, .f32⟩
  | 41 => ⟨S8320x256, .f32⟩
  | 42 => ⟨S8320x256, .f32⟩
  | 43 => ⟨S8320x256, .f32⟩
  | 44 => ⟨S1x256, .f32⟩
  | 45 => ⟨S256, .f32⟩
  | 46 => ⟨S8320x256, .f32⟩
  | 47 => ⟨S1x256, .f32⟩
  | 48 => ⟨S8320x256, .f32⟩
  | 49 => ⟨S8320x256, .f32⟩
  | 50 => ⟨S8320x256, .f32⟩
  | 51 => ⟨S1x256, .f32⟩
  | 52 => ⟨S256, .f32⟩
  | 53 => ⟨S8320x256, .f32⟩
  | 54 => ⟨S1x256, .f32⟩
  | 55 => ⟨S8320x256, .f32⟩
  | 56 => ⟨S8320x256, .f32⟩
  | 57 => ⟨S8320x256, .f32⟩
  | 58 => ⟨S1x256, .f32⟩
  | 59 => ⟨S256, .f32⟩
  | 60 => ⟨S8320x256, .f32⟩
  | 61 => ⟨S1x256, .f32⟩
  | 62 => ⟨S8320x256, .f32⟩
  | 63 => ⟨S8320x256, .f32⟩
  | 64 => ⟨S8320x256, .f32⟩
  | 65 => ⟨S1x256, .f32⟩
  | 66 => ⟨S256, .f32⟩
  | 67 => ⟨S8320x256, .f32⟩
  | 68 => ⟨S1x256, .f32⟩
  | 69 => ⟨S8320x256, .f32⟩
  | 70 => ⟨S8320x256, .f32⟩
  | 71 => ⟨S8320x256, .f32⟩
  | 72 => ⟨S1x256, .f32⟩
  | 73 => ⟨S256, .f32⟩
  | 74 => ⟨S8320x256, .f32⟩
  | 75 => ⟨S1x256, .f32⟩
  | 76 => ⟨S8320x256, .f32⟩
  | 77 => ⟨S8320x256, .f32⟩
  | 78 => ⟨S8320x256, .f32⟩
  | 79 => ⟨S1x256, .f32⟩
  | 80 => ⟨S256, .f32⟩
  | 81 => ⟨S8320x256, .f32⟩
  | 82 => ⟨S1x256, .f32⟩
  | 83 => ⟨S8320x256, .f32⟩
  | 84 => ⟨S8320x256, .f32⟩
  | 85 => ⟨S8320x256, .f32⟩
  | 86 => ⟨S1x256, .f32⟩
  | 87 => ⟨S256, .f32⟩
  | 88 => ⟨S8320x256, .f32⟩
  | 89 => ⟨S1x256, .f32⟩
  | 90 => ⟨S8320x256, .f32⟩
  | 91 => ⟨S8320x256, .f32⟩
  | 92 => ⟨S8320x256, .f32⟩
  | 93 => ⟨S1x256, .f32⟩
  | 94 => ⟨S256, .f32⟩
  | 95 => ⟨S8320x256, .f32⟩
  | 96 => ⟨S1x256, .f32⟩
  | 97 => ⟨S8320x256, .f32⟩
  | 98 => ⟨S8320x256, .f32⟩
  | 99 => ⟨S8320x256, .f32⟩
  | 100 => ⟨S1x256, .f32⟩
  | 101 => ⟨S256, .f32⟩
  | 102 => ⟨S8320x256, .f32⟩
  | 103 => ⟨S1x256, .f32⟩
  | 104 => ⟨S8320x256, .f32⟩
  | 105 => ⟨S8320x256, .f32⟩
  | 106 => ⟨S8320x256, .f32⟩
  | 107 => ⟨S1x256, .f32⟩
  | 108 => ⟨S256, .f32⟩
  | 109 => ⟨S8320x256, .f32⟩
  | 110 => ⟨S1x256, .f32⟩
  | 111 => ⟨S8320x256, .f32⟩
  | 112 => ⟨S8320x256, .f32⟩
  | 113 => ⟨S8320x256, .f32⟩
  | 114 => ⟨S1x256, .f32⟩
  | 115 => ⟨S256, .f32⟩
  | 116 => ⟨S8320x256, .f32⟩
  | 117 => ⟨S1x256, .f32⟩
  | 118 => ⟨S8320x256, .f32⟩
  | 119 => ⟨S8320x256, .f32⟩
  | 120 => ⟨S8320x256, .f32⟩
  | 121 => ⟨S1x256, .f32⟩
  | 122 => ⟨S256, .f32⟩
  | 123 => ⟨S8320x256, .f32⟩
  | 124 => ⟨S1x256, .f32⟩
  | 125 => ⟨S8320x256, .f32⟩
  | 126 => ⟨S8320x256, .f32⟩
  | 127 => ⟨S8320x256, .f32⟩
  | _ => ⟨S8320x1408, .f32⟩

abbrev hbmTy0_1 (i : Nat) : BufTy := match i % 128 with
  | 0 => ⟨S1x256, .f32⟩
  | 1 => ⟨S256, .f32⟩
  | 2 => ⟨S8320x256, .f32⟩
  | 3 => ⟨S1x256, .f32⟩
  | 4 => ⟨S8320x256, .f32⟩
  | 5 => ⟨S8320x256, .f32⟩
  | 6 => ⟨S8320x256, .f32⟩
  | 7 => ⟨S1x256, .f32⟩
  | 8 => ⟨S256, .f32⟩
  | 9 => ⟨S8320x256, .f32⟩
  | 10 => ⟨S1x256, .f32⟩
  | 11 => ⟨S8320x256, .f32⟩
  | 12 => ⟨S8320x256, .f32⟩
  | 13 => ⟨S8320x256, .f32⟩
  | 14 => ⟨S1x256, .f32⟩
  | 15 => ⟨S256, .f32⟩
  | 16 => ⟨S8320x256, .f32⟩
  | 17 => ⟨S1x256, .f32⟩
  | 18 => ⟨S8320x256, .f32⟩
  | 19 => ⟨S8320x256, .f32⟩
  | 20 => ⟨S8320x256, .f32⟩
  | 21 => ⟨S1x256, .f32⟩
  | 22 => ⟨S256, .f32⟩
  | 23 => ⟨S8320x256, .f32⟩
  | 24 => ⟨S1x256, .f32⟩
  | 25 => ⟨S8320x256, .f32⟩
  | 26 => ⟨S8320x256, .f32⟩
  | 27 => ⟨S8320x256, .f32⟩
  | 28 => ⟨S1x256, .f32⟩
  | 29 => ⟨S256, .f32⟩
  | 30 => ⟨S8320x256, .f32⟩
  | 31 => ⟨S1x256, .f32⟩
  | 32 => ⟨S8320x256, .f32⟩
  | 33 => ⟨S8320x256, .f32⟩
  | 34 => ⟨S8320x256, .f32⟩
  | 35 => ⟨S1x256, .f32⟩
  | 36 => ⟨S256, .f32⟩
  | 37 => ⟨S8320x256, .f32⟩
  | 38 => ⟨S1x256, .f32⟩
  | 39 => ⟨S8320x256, .f32⟩
  | 40 => ⟨S8320x256, .f32⟩
  | 41 => ⟨S8320x256, .f32⟩
  | 42 => ⟨S1x256, .f32⟩
  | 43 => ⟨S256, .f32⟩
  | 44 => ⟨S8320x256, .f32⟩
  | 45 => ⟨S1x256, .f32⟩
  | 46 => ⟨S8320x256, .f32⟩
  | 47 => ⟨S8320x256, .f32⟩
  | 48 => ⟨S8320x256, .f32⟩
  | 49 => ⟨S1x256, .f32⟩
  | 50 => ⟨S256, .f32⟩
  | 51 => ⟨S8320x256, .f32⟩
  | 52 => ⟨S1x256, .f32⟩
  | 53 => ⟨S8320x256, .f32⟩
  | 54 => ⟨S8320x256, .f32⟩
  | 55 => ⟨S8320x256, .f32⟩
  | 56 => ⟨S1x256, .f32⟩
  | 57 => ⟨S256, .f32⟩
  | 58 => ⟨S8320x256, .f32⟩
  | 59 => ⟨S1x256, .f32⟩
  | 60 => ⟨S8320x256, .f32⟩
  | 61 => ⟨S8320x256, .f32⟩
  | 62 => ⟨S8320x256, .f32⟩
  | 63 => ⟨S1x256, .f32⟩
  | 64 => ⟨S256, .f32⟩
  | 65 => ⟨S8320x256, .f32⟩
  | 66 => ⟨S1x256, .f32⟩
  | 67 => ⟨S8320x256, .f32⟩
  | 68 => ⟨S8320x256, .f32⟩
  | 69 => ⟨S8320x256, .f32⟩
  | 70 => ⟨S1x256, .f32⟩
  | 71 => ⟨S256, .f32⟩
  | 72 => ⟨S8320x256, .f32⟩
  | 73 => ⟨S1x256, .f32⟩
  | 74 => ⟨S8320x256, .f32⟩
  | 75 => ⟨S8320x256, .f32⟩
  | 76 => ⟨S8320x256, .f32⟩
  | 77 => ⟨S1x256, .f32⟩
  | 78 => ⟨S256, .f32⟩
  | 79 => ⟨S8320x256, .f32⟩
  | 80 => ⟨S1x256, .f32⟩
  | 81 => ⟨S8320x256, .f32⟩
  | 82 => ⟨S8320x256, .f32⟩
  | 83 => ⟨S8320x256, .f32⟩
  | 84 => ⟨S1x256, .f32⟩
  | 85 => ⟨S256, .f32⟩
  | 86 => ⟨S8320x256, .f32⟩
  | 87 => ⟨S1x256, .f32⟩
  | 88 => ⟨S8320x256, .f32⟩
  | 89 => ⟨S8320x256, .f32⟩
  | 90 => ⟨S8320x256, .f32⟩
  | 91 => ⟨S1x256, .f32⟩
  | 92 => ⟨S256, .f32⟩
  | 93 => ⟨S8320x256, .f32⟩
  | 94 => ⟨S1x256, .f32⟩
  | 95 => ⟨S8320x256, .f32⟩
  | 96 => ⟨S8320x256, .f32⟩
  | 97 => ⟨S8320x256, .f32⟩
  | 98 => ⟨S1x256, .f32⟩
  | 99 => ⟨S256, .f32⟩
  | 100 => ⟨S8320x256, .f32⟩
  | 101 => ⟨S1x256, .f32⟩
  | 102 => ⟨S8320x256, .f32⟩
  | 103 => ⟨S8320x256, .f32⟩
  | 104 => ⟨S8320x256, .f32⟩
  | 105 => ⟨S1x256, .f32⟩
  | 106 => ⟨S256, .f32⟩
  | 107 => ⟨S8320x256, .f32⟩
  | 108 => ⟨S1x256, .f32⟩
  | 109 => ⟨S8320x256, .f32⟩
  | 110 => ⟨S8320x256, .f32⟩
  | 111 => ⟨S8320x256, .f32⟩
  | 112 => ⟨S1x256, .f32⟩
  | 113 => ⟨S256, .f32⟩
  | 114 => ⟨S8320x256, .f32⟩
  | 115 => ⟨S1x256, .f32⟩
  | 116 => ⟨S8320x256, .f32⟩
  | 117 => ⟨S8320x256, .f32⟩
  | 118 => ⟨S8320x256, .f32⟩
  | 119 => ⟨S1x256, .f32⟩
  | 120 => ⟨S256, .f32⟩
  | 121 => ⟨S1x256, .f32⟩
  | 122 => ⟨S8320x256, .f32⟩
  | 123 => ⟨S8320x256, .f32⟩
  | 124 => ⟨S_, .f32⟩
  | 125 => ⟨S8320, .f32⟩
  | 126 => ⟨S8320x1, .f32⟩
  | 127 => ⟨S_, .f32⟩
  | _ => ⟨S8320x1408, .f32⟩

abbrev hbmTy0_2 (i : Nat) : BufTy := match i % 128 with
  | 0 => ⟨S8320x1, .f32⟩
  | 1 => ⟨S8320x1, .f32⟩
  | 2 => ⟨S8320x256, .f32⟩
  | 3 => ⟨S8320x256, .f32⟩
  | 4 => ⟨S8320x256, .f32⟩
  | 5 => ⟨S_, .f32⟩
  | 6 => ⟨S8320, .f32⟩
  | 7 => ⟨S8320x1, .f32⟩
  | 8 => ⟨S_, .f32⟩
  | 9 => ⟨S8320x1, .f32⟩
  | 10 => ⟨S8320x1, .f32⟩
  | 11 => ⟨S_, .f32⟩
  | 12 => ⟨S8320x1, .f32⟩
  | 13 => ⟨S8320x1, .f32⟩
  | 14 => ⟨S8320x1, .f32⟩
  | 15 => ⟨S8320x256, .f32⟩
  | 16 => ⟨S8320x256, .f32⟩
  | 17 => ⟨S1x256, .f32⟩
  | 18 => ⟨S256, .f32⟩
  | 19 => ⟨S1x256, .f32⟩
  | 20 => ⟨S8320x256, .f32⟩
  | 21 => ⟨S8320x256, .f32⟩
  | 22 => ⟨S1x256, .f32⟩
  | 23 => ⟨S256, .f32⟩
  | 24 => ⟨S1x256, .f32⟩
  | 25 => ⟨S8320x256, .f32⟩
  | 26 => ⟨S8320x256, .f32⟩
  | 27 => ⟨S8320x256, .f32⟩
  | 28 => ⟨S8320x256, .f32⟩
  | 29 => ⟨S_, .f32⟩
  | 30 => ⟨S8320x256, .f32⟩
  | 31 => ⟨S8320x256, .f32⟩
  | 32 => ⟨S_, .f32⟩
  | 33 => ⟨S8320x256, .f32⟩
  | 34 => ⟨S8320x256, .f32⟩
  | 35 => ⟨S8320x256, .f32⟩
  | 36 => ⟨S256x256, .f32⟩
  | 37 => ⟨S8320x256, .f32⟩
  | 38 => ⟨S1x256, .f32⟩
  | 39 => ⟨S256, .f32⟩
  | 40 => ⟨S1x256, .f32⟩
  | 41 => ⟨S8320x256, .f32⟩
  | 42 => ⟨S8320x256, .f32⟩
  | 43 => ⟨S8320x256, .f32⟩
  | 44 => ⟨S_, .i32⟩
  | 45 => ⟨S_, .f32⟩
  | 46 => ⟨S8322x256, .f32⟩
  | 47 => ⟨S1x256, .f32⟩
  | 48 => ⟨S256, .f32⟩
  | 49 => ⟨S8320x256, .f32⟩
  | 50 => ⟨S1x256, .f32⟩
  | 51 => ⟨S8320x256, .f32⟩
  | 52 => ⟨S8320x256, .f32⟩
  | 53 => ⟨S_, .f32⟩
  | 54 => ⟨S8320x256, .f32⟩
  | 55 => ⟨S8320x256, .f32⟩
  | 56 => ⟨S1x256, .f32⟩
  | 57 => ⟨S256, .f32⟩
  | 58 => ⟨S8320x256, .f32⟩
  | 59 => ⟨S1x256, .f32⟩
  | 60 => ⟨S8320x256, .f32⟩
  | 61 => ⟨S8320x256, .f32⟩
  | 62 => ⟨S8320x256, .f32⟩
  | 63 => ⟨S1x256, .f32⟩
  | 64 => ⟨S256, .f32⟩
  | 65 => ⟨S8320x256, .f32⟩
  | 66 => ⟨S1x256, .f32⟩
  | 67 => ⟨S8320x256, .f32⟩
  | 68 => ⟨S8320x256, .f32⟩
  | 69 => ⟨S8320x256, .f32⟩
  | 70 => ⟨S_, .f32⟩
  | 71 => ⟨S8320x128, .f32⟩
  | 72 => ⟨S8320x128, .f32⟩
  | 73 => ⟨S8320x128, .f32⟩
  | 74 => ⟨S8320x128, .f32⟩
  | 75 => ⟨S8320x128, .f32⟩
  | 76 => ⟨S_, .f32⟩
  | 77 => ⟨S8320x128, .f32⟩
  | 78 => ⟨S8320x128, .f32⟩
  | 79 => ⟨S8320x128, .f32⟩
  | 80 => ⟨S8320x128, .f32⟩
  | 81 => ⟨S8320x256, .f32⟩
  | 82 => ⟨S8320x512, .f32⟩
  | 83 => ⟨S8320x512, .bf16⟩
  | 84 => ⟨S_, .f32⟩
  | 85 => ⟨S_, .f32⟩
  | 86 => ⟨S8320x128, .f32⟩
  | _ => ⟨S8320x1408, .f32⟩

abbrev hbmTy (i : Nat) : BufTy := match i / 128 with
  | 0 => hbmTy0_0 i
  | 1 => hbmTy0_1 i
  | 2 => hbmTy0_2 i
  | _ => ⟨S8320x1408, .f32⟩

abbrev bufTy : (tb : Table) → Fin (tcTables nBuf tb) → BufTy
  | .hbm, ⟨i, _⟩ => hbmTy i
  | _, _ => ⟨S8320x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_cst_2 : Ref sig .tc := ⟨.hbm, 252, rfl⟩
abbrev main_v242 : Ref sig .tc := ⟨.hbm, 253, rfl⟩
abbrev main_v243 : Ref sig .tc := ⟨.hbm, 254, rfl⟩
abbrev main_cst_3 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_cst_4 : Ref sig .tc := ⟨.hbm, 261, rfl⟩
abbrev main_v249 : Ref sig .tc := ⟨.hbm, 262, rfl⟩
abbrev main_v250 : Ref sig .tc := ⟨.hbm, 263, rfl⟩
abbrev main_cst_5 : Ref sig .tc := ⟨.hbm, 264, rfl⟩
abbrev main_v251 : Ref sig .tc := ⟨.hbm, 265, rfl⟩
abbrev main_v252 : Ref sig .tc := ⟨.hbm, 266, rfl⟩
abbrev main_cst_6 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_cst_7 : Ref sig .tc := ⟨.hbm, 285, rfl⟩
abbrev main_v270 : Ref sig .tc := ⟨.hbm, 286, rfl⟩
abbrev main_v271 : Ref sig .tc := ⟨.hbm, 287, rfl⟩
abbrev main_cst_8 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_c_9 : Ref sig .tc := ⟨.hbm, 300, rfl⟩
abbrev main_call1_v0 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_v287 : Ref sig .tc := ⟨.hbm, 306, rfl⟩
abbrev main_v288 : Ref sig .tc := ⟨.hbm, 307, rfl⟩
abbrev main_v289 : Ref sig .tc := ⟨.hbm, 308, rfl⟩
abbrev main_cst_10 : Ref sig .tc := ⟨.hbm, 309, rfl⟩
abbrev main_v290 : Ref sig .tc := ⟨.hbm, 310, rfl⟩
abbrev main_v291 : Ref sig .tc := ⟨.hbm, 311, rfl⟩
abbrev main_v292 : Ref sig .tc := ⟨.hbm, 312, rfl⟩
abbrev main_v293 : Ref sig .tc := ⟨.hbm, 313, rfl⟩
abbrev main_v294 : Ref sig .tc := ⟨.hbm, 314, rfl⟩
abbrev main_v295 : Ref sig .tc := ⟨.hbm, 315, rfl⟩
abbrev main_v296 : Ref sig .tc := ⟨.hbm, 316, rfl⟩
abbrev main_v297 : Ref sig .tc := ⟨.hbm, 317, rfl⟩
abbrev main_v298 : Ref sig .tc := ⟨.hbm, 318, rfl⟩
abbrev main_v299 : Ref sig .tc := ⟨.hbm, 319, rfl⟩
abbrev main_v300 : Ref sig .tc := ⟨.hbm, 320, rfl⟩
abbrev main_v301 : Ref sig .tc := ⟨.hbm, 321, rfl⟩
abbrev main_v302 : Ref sig .tc := ⟨.hbm, 322, rfl⟩
abbrev main_v303 : Ref sig .tc := ⟨.hbm, 323, rfl⟩
abbrev main_v304 : Ref sig .tc := ⟨.hbm, 324, rfl⟩
abbrev main_v305 : Ref sig .tc := ⟨.hbm, 325, rfl⟩
abbrev main_cst_11 : Ref sig .tc := ⟨.hbm, 326, rfl⟩
abbrev main_v306 : Ref sig .tc := ⟨.hbm, 327, rfl⟩
abbrev main_v307 : Ref sig .tc := ⟨.hbm, 328, rfl⟩
abbrev main_v308 : Ref sig .tc := ⟨.hbm, 329, rfl⟩
abbrev main_v309 : Ref sig .tc := ⟨.hbm, 330, rfl⟩
abbrev main_v310 : Ref sig .tc := ⟨.hbm, 331, rfl⟩
abbrev main_cst_12 : Ref sig .tc := ⟨.hbm, 332, rfl⟩
abbrev main_v311 : Ref sig .tc := ⟨.hbm, 333, rfl⟩
abbrev main_v312 : Ref sig .tc := ⟨.hbm, 334, rfl⟩
abbrev main_v313 : Ref sig .tc := ⟨.hbm, 335, rfl⟩
abbrev main_v314 : Ref sig .tc := ⟨.hbm, 336, rfl⟩
abbrev main_v315 : Ref sig .tc := ⟨.hbm, 337, rfl⟩
abbrev main_v316 : Ref sig .tc := ⟨.hbm, 338, rfl⟩
abbrev main_v317 : Ref sig .tc := ⟨.hbm, 339, rfl⟩
abbrev main_call2_call0_cst : Ref sig .tc := ⟨.hbm, 340, rfl⟩
abbrev main_call2_call0_v0 : Ref sig .tc := ⟨.hbm, 341, rfl⟩
abbrev main_v318 : Ref sig .tc := ⟨.hbm, 342, rfl⟩

abbrev nD : Nat := 1
abbrev τ : Topo := Topo.v7x

variable {F : FTy → Type} [FloatOps F]
-- ==== MixOut.lean ====
abbrev S8320x1024 : Shape := ⟨2, ![8320, 1024]⟩
abbrev S8320x512 : Shape := ⟨2, ![8320, 512]⟩
abbrev S512x1024 : Shape := ⟨2, ![512, 1024]⟩
abbrev S640x1024 : Shape := ⟨2, ![640, 1024]⟩
abbrev S640x512 : Shape := ⟨2, ![640, 512]⟩

abbrev nBuf : Space → Nat
  | .hbm => 6
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S8320x512, .bf16⟩
  | .hbm, ⟨2, _⟩ => ⟨S8320x512, .bf16⟩
  | .hbm, ⟨3, _⟩ => ⟨S512x1024, .bf16⟩
  | .hbm, ⟨4, _⟩ => ⟨S512x1024, .bf16⟩
  | .hbm, ⟨5, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S640x512, .bf16⟩
  | .local _ .vmem, ⟨3, _⟩ => ⟨S640x512, .bf16⟩
  | .local _ .vmem, ⟨4, _⟩ => ⟨S640x512, .bf16⟩
  | .local _ .vmem, ⟨5, _⟩ => ⟨S640x512, .bf16⟩
  | .local _ .vmem, ⟨6, _⟩ => ⟨S512x1024, .bf16⟩
  | .local _ .vmem, ⟨7, _⟩ => ⟨S512x1024, .bf16⟩
  | .local _ .vmem, ⟨8, _⟩ => ⟨S640x1024, .f32⟩
  | .local _ .vmem, ⟨9, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutRefIdeal.lean ====
abbrev S8320x1024 : Shape := ⟨2, ![8320, 1024]⟩
abbrev S8320x512 : Shape := ⟨2, ![8320, 512]⟩
abbrev S512x1024 : Shape := ⟨2, ![512, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x512, .bf16⟩
  | .hbm, ⟨2, _⟩ => ⟨S8320x512, .bf16⟩
  | .hbm, ⟨3, _⟩ => ⟨S512x1024, .bf16⟩
  | .hbm, ⟨4, _⟩ => ⟨S512x1024, .bf16⟩
  | .hbm, ⟨5, _⟩ => ⟨S8320x1024, .bf16⟩
  | .hbm, ⟨6, _⟩ => ⟨S8320x1024, .f32⟩
  | .hbm, ⟨7, _⟩ => ⟨S1024x1024, .bf16⟩
  | .hbm, ⟨8, _⟩ => ⟨S1024x1024, .f32⟩
  | .hbm, ⟨9, _⟩ => ⟨S8320x1024, .f32⟩
  | .hbm, ⟨10, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== ProjFwd.lean ====
abbrev S8320x1024 : Shape := ⟨2, ![8320, 1024]⟩
abbrev S1x1024 : Shape := ⟨2, ![1, 1024]⟩
abbrev S1024x1536 : Shape := ⟨2, ![1024, 1536]⟩
abbrev S1024x1408 : Shape := ⟨2, ![1024, 1408]⟩
abbrev S8320x1536 : Shape := ⟨2, ![8320, 1536]⟩
abbrev S8320x1408 : Shape := ⟨2, ![8320, 1408]⟩
abbrev S640x1024 : Shape := ⟨2, ![640, 1024]⟩
abbrev S640x1536 : Shape := ⟨2, ![640, 1536]⟩
abbrev S640x1408 : Shape := ⟨2, ![640, 1408]⟩
abbrev S640 : Shape := ⟨1, ![640]⟩
abbrev S640x1 : Shape := ⟨2, ![640, 1]⟩
abbrev S640x512 : Shape := ⟨2, ![640, 512]⟩

abbrev nBuf : Space → Nat
  | .hbm => 7
  | .vmem => 11
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x1536, .bf16⟩
  | .hbm, ⟨3, _⟩ => ⟨S1024x1408, .bf16⟩
  | .hbm, ⟨4, _⟩ => ⟨S8320x1024, .bf16⟩
  | .hbm, ⟨5, _⟩ => ⟨S8320x1536, .bf16⟩
  | .hbm, ⟨6, _⟩ => ⟨S8320x1408, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1408, .bf16⟩
  | .local _ .vmem, ⟨5, _⟩ => ⟨S640x1024, .bf16⟩
  | .local _ .vmem, ⟨6, _⟩ => ⟨S640x1024, .bf16⟩
  | .local _ .vmem, ⟨7, _⟩ => ⟨S640x1536, .bf16⟩
  | .local _ .vmem, ⟨8, _⟩ => ⟨S640x1536, .bf16⟩
  | .local _ .vmem, ⟨9, _⟩ => ⟨S640x1408, .f32⟩
  | .local _ .vmem, ⟨10, _⟩ => ⟨S640x1408, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjFwdRefIdeal.lean ====
abbrev S8320x1024 : Shape := ⟨2, ![8320, 1024]⟩
abbrev S1x1024 : Shape := ⟨2, ![1, 1024]⟩
abbrev S1024x1536 : Shape := ⟨2, ![1024, 1536]⟩
abbrev S1024x1408 : Shape := ⟨2, ![1024, 1408]⟩
abbrev S_ : Shape := ⟨0, ![]⟩
abbrev S8320 : Shape := ⟨1, ![8320]⟩
abbrev S8320x1 : Shape := ⟨2, ![8320, 1]⟩
abbrev S8320x1536 : Shape := ⟨2, ![8320, 1536]⟩
abbrev S8320x512 : Shape := ⟨2, ![8320, 512]⟩
abbrev S8320x1408 : Shape := ⟨2, ![8320, 1408]⟩

abbrev nBuf : Space → Nat
  | .hbm => 31
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x1536, .bf16⟩
  | .hbm, ⟨3, _⟩ => ⟨S1024x1408, .bf16⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S1024x1536, .f32⟩
  | .hbm, ⟨20, _⟩ => ⟨S8320x1536, .f32⟩
  | .hbm, ⟨21, _⟩ => ⟨S8320x512, .f32⟩
  | .hbm, ⟨22, _⟩ => ⟨S8320x1024, .f32⟩
  | .hbm, ⟨23, _⟩ => ⟨S_, .f32⟩
  | .hbm, ⟨24, _⟩ => ⟨S8320x512, .f32⟩
  | .hbm, ⟨25, _⟩ => ⟨S8320x512, .f32⟩
  | .hbm, ⟨26, _⟩ => ⟨S8320x1536, .f32⟩
  | .hbm, ⟨27, _⟩ => ⟨S8320x1024, .bf16⟩
  | .hbm, ⟨28, _⟩ => ⟨S8320x1536, .bf16⟩
  | .hbm, ⟨29, _⟩ => ⟨S1024x1408, .f32⟩
  | .hbm, ⟨30, _⟩ => ⟨S8320x1408, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== MlpFwd.lean ====
abbrev S8320x1024 : Shape := ⟨2, ![8320, 1024]⟩
abbrev S1x1024 : Shape := ⟨2, ![1, 1024]⟩
abbrev S1024x4096 : Shape := ⟨2, ![1024, 4096]⟩
abbrev S4096x1024 : Shape := ⟨2, ![4096, 1024]⟩
abbrev S8320x4096 : Shape := ⟨2, ![8320, 4096]⟩
abbrev S320x1024 : Shape := ⟨2, ![320, 1024]⟩
abbrev S320x4096 : Shape := ⟨2, ![320, 4096]⟩
abbrev S320 : Shape := ⟨1, ![320]⟩
abbrev S320x1 : Shape := ⟨2, ![320, 1]⟩

abbrev nBuf : Space → Nat
  | .hbm => 8
  | .vmem => 13
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S8320x1024, .bf16⟩
  | .hbm, ⟨5, _⟩ => ⟨S8320x4096, .f32⟩
  | .hbm, ⟨6, _⟩ => ⟨S8320x4096, .bf16⟩
  | .hbm, ⟨7, _⟩ => ⟨S8320x1024, .f32⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S320x1024, .bf16⟩
  | .local _ .vmem, ⟨6, _⟩ => ⟨S320x1024, .bf16⟩
  | .local _ .vmem, ⟨7, _⟩ => ⟨S320x4096, .f32⟩
  | .local _ .vmem, ⟨8, _⟩ => ⟨S320x4096, .f32⟩
  | .local _ .vmem, ⟨9, _⟩ => ⟨S320x4096, .bf16⟩
  | .local _ .vmem, ⟨10, _⟩ => ⟨S320x4096, .bf16⟩
  | .local _ .vmem, ⟨11, _⟩ => ⟨S320x1024, .f32⟩
  | .local _ .vmem, ⟨12, _⟩ => ⟨S320x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpFwdRefIdeal.lean ====
abbrev S8320x1024 : Shape := ⟨2, ![8320, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8320 : Shape := ⟨1, ![8320]⟩
abbrev S8320x1 : Shape := ⟨2, ![8320, 1]⟩
abbrev S8320x4096 : Shape := ⟨2, ![8320, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S1024x4096, .f32⟩
  | .hbm, ⟨20, _⟩ => ⟨S8320x4096, .f32⟩
  | .hbm, ⟨21, _⟩ => ⟨S_, .f32⟩
  | .hbm, ⟨22, _⟩ => ⟨S8320x4096, .f32⟩
  | .hbm, ⟨23, _⟩ => ⟨S8320x4096, .f32⟩
  | .hbm, ⟨24, _⟩ => ⟨S8320x4096, .f32⟩
  | .hbm, ⟨25, _⟩ => ⟨S8320x1024, .bf16⟩
  | .hbm, ⟨26, _⟩ => ⟨S8320x4096, .bf16⟩
  | .hbm, ⟨27, _⟩ => ⟨S4096x1024, .f32⟩
  | .hbm, ⟨28, _⟩ => ⟨S8320x1024, .f32⟩
  | .hbm, ⟨29, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== MixBwd.lean ====
abbrev S8320x1024 : Shape := ⟨2, ![8320, 1024]⟩
abbrev S512x1024 : Shape := ⟨2, ![512, 1024]⟩
abbrev S8320x512 : Shape := ⟨2, ![8320, 512]⟩
abbrev S640x1024 : Shape := ⟨2, ![640, 1024]⟩
abbrev S640x512 : Shape := ⟨2, ![640, 512]⟩

abbrev nBuf : Space → Nat
  | .hbm => 5
  | .vmem => 8
  | .smem => 0
  | _ => 0

abbrev bufTy : (tb : Table) → Fin (tcTables nBuf tb) → BufTy
  | .hbm, ⟨0, _⟩ => ⟨S8320x1024, .f32⟩
  | .hbm, ⟨1, _⟩ => ⟨S512x1024, .bf16⟩
  | .hbm, ⟨2, _⟩ => ⟨S512x1024, .bf16⟩
  | .hbm, ⟨3, _⟩ => ⟨S8320x512, .bf16⟩
  | .hbm, ⟨4, _⟩ => ⟨S8320x512, .f32⟩
  | .local _ .vmem, ⟨0, _⟩ => ⟨S640x1024, .f32⟩
  | .local _ .vmem, ⟨1, _⟩ => ⟨S640x1024, .f32⟩
  | .local _ .vmem, ⟨2, _⟩ => ⟨S512x1024, .bf16⟩
  | .local _ .vmem, ⟨3, _⟩ => ⟨S512x1024, .bf16⟩
  | .local _ .vmem, ⟨4, _⟩ => ⟨S640x512, .bf16⟩
  | .local _ .vmem, ⟨5, _⟩ => ⟨S640x512, .bf16⟩
  | .local _ .vmem, ⟨6, _⟩ => ⟨S640x512, .f32⟩
  | .local _ .vmem, ⟨7, _⟩ => ⟨S640x512, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixBwdRefIdeal.lean ====
abbrev S8320x1024 : Shape := ⟨2, ![8320, 1024]⟩
abbrev S512x1024 : Shape := ⟨2, ![512, 1024]⟩
abbrev S1024x512 : Shape := ⟨2, ![1024, 512]⟩
abbrev S8320x512 : Shape := ⟨2, ![8320, 512]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S512x1024, .bf16⟩
  | .hbm, ⟨2, _⟩ => ⟨S512x1024, .bf16⟩
  | .hbm, ⟨3, _⟩ => ⟨S512x1024, .f32⟩
  | .hbm, ⟨4, _⟩ => ⟨S1024x512, .f32⟩
  | .hbm, ⟨5, _⟩ => ⟨S8320x512, .f32⟩
  | .hbm, ⟨6, _⟩ => ⟨S8320x512, .bf16⟩
  | .hbm, ⟨7, _⟩ => ⟨S512x1024, .f32⟩
  | .hbm, ⟨8, _⟩ => ⟨S1024x512, .f32⟩
  | .hbm, ⟨9, _⟩ => ⟨S8320x512, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InBwd.lean ====
abbrev S8320x1024 : Shape := ⟨2, ![8320, 1024]⟩
abbrev S1x1024 : Shape := ⟨2, ![1, 1024]⟩
abbrev S8320x512 : Shape := ⟨2, ![8320, 512]⟩
abbrev S8320x1408 : Shape := ⟨2, ![8320, 1408]⟩
abbrev S1024x1536 : Shape := ⟨2, ![1024, 1536]⟩
abbrev S1024x1408 : Shape := ⟨2, ![1024, 1408]⟩
abbrev S640x1024 : Shape := ⟨2, ![640, 1024]⟩
abbrev S640x512 : Shape := ⟨2, ![640, 512]⟩
abbrev S640x1408 : Shape := ⟨2, ![640, 1408]⟩
abbrev S1024x512 : Shape := ⟨2, ![1024, 512]⟩
abbrev S640 : Shape := ⟨1, ![640]⟩
abbrev S640x1 : Shape := ⟨2, ![640, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8320x512, .bf16⟩
  | .hbm, ⟨4, _⟩ => ⟨S8320x512, .bf16⟩
  | .hbm, ⟨5, _⟩ => ⟨S8320x512, .bf16⟩
  | .hbm, ⟨6, _⟩ => ⟨S8320x1408, .bf16⟩
  | .hbm, ⟨7, _⟩ => ⟨S1024x1536, .bf16⟩
  | .hbm, ⟨8, _⟩ => ⟨S1024x1408, .bf16⟩
  | .hbm, ⟨9, _⟩ => ⟨S8320x1024, .f32⟩
  | .hbm, ⟨10, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S640x512, .bf16⟩
  | .local _ .vmem, ⟨6, _⟩ => ⟨S640x512, .bf16⟩
  | .local _ .vmem, ⟨7, _⟩ => ⟨S640x512, .bf16⟩
  | .local _ .vmem, ⟨8, _⟩ => ⟨S640x512, .bf16⟩
  | .local _ .vmem, ⟨9, _⟩ => ⟨S640x512, .bf16⟩
  | .local _ .vmem, ⟨10, _⟩ => ⟨S640x512, .bf16⟩
  | .local _ .vmem, ⟨11, _⟩ => ⟨S640x1408, .bf16⟩
  | .local _ .vmem, ⟨12, _⟩ => ⟨S640x1408, .bf16⟩
  | .local _ .vmem, ⟨13, _⟩ => ⟨S1024x1536, .bf16⟩
  | .local _ .vmem, ⟨14, _⟩ => ⟨S1024x1408, .bf16⟩
  | .local _ .vmem, ⟨15, _⟩ => ⟨S640x1024, .f32⟩
  | .local _ .vmem, ⟨16, _⟩ => ⟨S640x1024, .f32⟩
  | .local _ .vmem, ⟨17, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1408 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InBwdRefIdeal.lean ====
abbrev S8320x1024 : Shape := ⟨2, ![8320, 1024]⟩
abbrev S1x1024 : Shape := ⟨2, ![1, 1024]⟩
abbrev S8320x512 : Shape := ⟨2, ![8320, 512]⟩
abbrev S8320x1408 : Shape := ⟨2, ![8320, 1408]⟩
abbrev S1024x1536 : Shape := ⟨2, ![1024, 1536]⟩
abbrev S1024x1408 : Shape := ⟨2, ![1024, 1408]⟩
abbrev S8320x2944 : Shape := ⟨2, ![8320, 2944]⟩
abbrev S1024x2944 : Shape := ⟨2, ![1024, 2944]⟩
abbrev S2944x1024 : Shape := ⟨2, ![2944, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8320x512, .bf16⟩
  | .hbm, ⟨4, _⟩ => ⟨S8320x512, .bf16⟩
  | .hbm, ⟨5, _⟩ => ⟨S8320x512, .bf16⟩
  | .hbm, ⟨6, _⟩ => ⟨S8320x1408, .bf16⟩
  | .hbm, ⟨7, _⟩ => ⟨S1024x1536, .bf16⟩
  | .hbm, ⟨8, _⟩ => ⟨S1024x1408, .bf16⟩
  | .hbm, ⟨9, _⟩ => ⟨S8320x2944, .bf16⟩
  | .hbm, ⟨10, _⟩ => ⟨S8320x2944, .f32⟩
  | .hbm, ⟨11, _⟩ => ⟨S1024x2944, .bf16⟩
  | .hbm, ⟨12, _⟩ => ⟨S1024x2944, .f32⟩
  | .hbm, ⟨13, _⟩ => ⟨S2944x1024, .f32⟩
  | .hbm, ⟨14, _⟩ => ⟨S8320x1024, .f32⟩
  | .hbm, ⟨15, _⟩ => ⟨S8320x1024, .f32⟩
  | .hbm, ⟨16, _⟩ => ⟨S_, .f32⟩
  | .hbm, ⟨17, _⟩ => ⟨S8320, .f32⟩
  | .hbm, ⟨18, _⟩ => ⟨S8320x1, .f32⟩
  | .hbm, ⟨19, _⟩ => ⟨S_, .f32⟩
  | .hbm, ⟨20, _⟩ => ⟨S8320x1, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x1, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S_, .f32⟩
  | .hbm, ⟨32, _⟩ => ⟨S8320, .f32⟩
  | .hbm, ⟨33, _⟩ => ⟨S8320x1, .f32⟩
  | .hbm, ⟨34, _⟩ => ⟨S_, .f32⟩
  | .hbm, ⟨35, _⟩ => ⟨S8320x1, .f32⟩
  | .hbm, ⟨36, _⟩ => ⟨S8320x1, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S_, .f32⟩
  | .hbm, ⟨45, _⟩ => ⟨S1024, .f32⟩
  | .hbm, ⟨46, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== MlpBwd.lean ====
abbrev S8320x1024 : Shape := ⟨2, ![8320, 1024]⟩
abbrev S1x1024 : Shape := ⟨2, ![1, 1024]⟩
abbrev S8320x4096 : Shape := ⟨2, ![8320, 4096]⟩
abbrev S1024x4096 : Shape := ⟨2, ![1024, 4096]⟩
abbrev S4096x1024 : Shape := ⟨2, ![4096, 1024]⟩
abbrev S320x1024 : Shape := ⟨2, ![320, 1024]⟩
abbrev S320x4096 : Shape := ⟨2, ![320, 4096]⟩
abbrev S320 : Shape := ⟨1, ![320]⟩
abbrev S320x1 : Shape := ⟨2, ![320, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8320x4096, .f32⟩
  | .hbm, ⟨4, _⟩ => ⟨S1024x4096, .bf16⟩
  | .hbm, ⟨5, _⟩ => ⟨S4096x1024, .bf16⟩
  | .hbm, ⟨6, _⟩ => ⟨S8320x4096, .bf16⟩
  | .hbm, ⟨7, _⟩ => ⟨S8320x1024, .f32⟩
  | .hbm, ⟨8, _⟩ => ⟨S1x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S1x1024, .f32⟩
  | .local _ .vmem, ⟨5, _⟩ => ⟨S320x4096, .f32⟩
  | .local _ .vmem, ⟨6, _⟩ => ⟨S320x4096, .f32⟩
  | .local _ .vmem, ⟨7, _⟩ => ⟨S1024x4096, .bf16⟩
  | .local _ .vmem, ⟨8, _⟩ => ⟨S4096x1024, .bf16⟩
  | .local _ .vmem, ⟨9, _⟩ => ⟨S320x4096, .bf16⟩
  | .local _ .vmem, ⟨10, _⟩ => ⟨S320x4096, .bf16⟩
  | .local _ .vmem, ⟨11, _⟩ => ⟨S320x1024, .f32⟩
  | .local _ .vmem, ⟨12, _⟩ => ⟨S320x1024, .f32⟩
  | .local _ .vmem, ⟨13, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpBwdRefIdeal.lean ====
abbrev S8320x1024 : Shape := ⟨2, ![8320, 1024]⟩
abbrev S1x1024 : Shape := ⟨2, ![1, 1024]⟩
abbrev S8320x4096 : Shape := ⟨2, ![8320, 4096]⟩
abbrev S1024x4096 : Shape := ⟨2, ![1024, 4096]⟩
abbrev S4096x1024 : Shape := ⟨2, ![4096, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S8320x4096, .f32⟩
  | .hbm, ⟨4, _⟩ => ⟨S1024x4096, .bf16⟩
  | .hbm, ⟨5, _⟩ => ⟨S4096x1024, .bf16⟩
  | .hbm, ⟨6, _⟩ => ⟨S4096x1024, .f32⟩
  | .hbm, ⟨7, _⟩ => ⟨S1024x4096, .f32⟩
  | .hbm, ⟨8, _⟩ => ⟨S8320x4096, .f32⟩
  | .hbm, ⟨9, _⟩ => ⟨S_, .f32⟩
  | .hbm, ⟨10, _⟩ => ⟨S8320x4096, .f32⟩
  | .hbm, ⟨11, _⟩ => ⟨S8320x4096, .f32⟩
  | .hbm, ⟨12, _⟩ => ⟨S_, .f32⟩
  | .hbm, ⟨13, _⟩ => ⟨S8320x4096, .f32⟩
  | .hbm, ⟨14, _⟩ => ⟨S8320x4096, .f32⟩
  | .hbm, ⟨15, _⟩ => ⟨S8320x4096, .f32⟩
  | .hbm, ⟨16, _⟩ => ⟨S1024x4096, .f32⟩
  | .hbm, ⟨17, _⟩ => ⟨S4096x1024, .f32⟩
  | .hbm, ⟨18, _⟩ => ⟨S8320x1024, .f32⟩
  | .hbm, ⟨19, _⟩ => ⟨S8320x1024, .f32⟩
  | .hbm, ⟨20, _⟩ => ⟨S_, .f32⟩
  | .hbm, ⟨21, _⟩ => ⟨S8320, .f32⟩
  | .hbm, ⟨22, _⟩ => ⟨S8320x1, .f32⟩
  | .hbm, ⟨23, _⟩ => ⟨S_, .f32⟩
  | .hbm, ⟨24, _⟩ => ⟨S8320x1, .f32⟩
  | .hbm, ⟨25, _⟩ => ⟨S8320x1, .f32⟩
  | .hbm, ⟨26, _⟩ => ⟨S_, .f32⟩
  | .hbm, ⟨27, _⟩ => ⟨S8320x1, .f32⟩
  | .hbm, ⟨28, _⟩ => ⟨S8320x1, .f32⟩
  | .hbm, ⟨29, _⟩ => ⟨S8320x1, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S_, .f32⟩
  | .hbm, ⟨36, _⟩ => ⟨S8320, .f32⟩
  | .hbm, ⟨37, _⟩ => ⟨S8320x1, .f32⟩
  | .hbm, ⟨38, _⟩ => ⟨S_, .f32⟩
  | .hbm, ⟨39, _⟩ => ⟨S8320x1, .f32⟩
  | .hbm, ⟨40, _⟩ => ⟨S8320x1, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x4096, .bf16⟩
  | .hbm, ⟨47, _⟩ => ⟨S8320x1024, .f32⟩
  | .hbm, ⟨48, _⟩ => ⟨S8320x1024, .f32⟩
  | .hbm, ⟨49, _⟩ => ⟨S_, .f32⟩
  | .hbm, ⟨50, _⟩ => ⟨S1024, .f32⟩
  | .hbm, ⟨51, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== ProductDown.lean ====
abbrev S8320x4096 : Shape := ⟨2, ![8320, 4096]⟩
abbrev S8320x1024 : Shape := ⟨2, ![8320, 1024]⟩
abbrev S4096x1024 : Shape := ⟨2, ![4096, 1024]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S8320x1024, .f32⟩
  | .hbm, ⟨2, _⟩ => ⟨S4096x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .f32⟩
  | .local _ .vmem, ⟨3, _⟩ => ⟨S640x1024, .f32⟩
  | .local _ .vmem, ⟨4, _⟩ => ⟨S1024x1024, .f32⟩
  | .local _ .vmem, ⟨5, _⟩ => ⟨S1024x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductDownIdeal.lean ====
abbrev S8320x4096 : Shape := ⟨2, ![8320, 4096]⟩
abbrev S8320x1024 : Shape := ⟨2, ![8320, 1024]⟩
abbrev S4096x1024 : Shape := ⟨2, ![4096, 1024]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S8320x1024, .f32⟩
  | .hbm, ⟨2, _⟩ => ⟨S4096x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .f32⟩
  | .local _ .vmem, ⟨3, _⟩ => ⟨S640x1024, .f32⟩
  | .local _ .vmem, ⟨4, _⟩ => ⟨S1024x1024, .f32⟩
  | .local _ .vmem, ⟨5, _⟩ => ⟨S1024x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductDownRefIdeal.lean ====
abbrev S8320x4096 : Shape := ⟨2, ![8320, 4096]⟩
abbrev S8320x1024 : Shape := ⟨2, ![8320, 1024]⟩
abbrev S4096x8320 : Shape := ⟨2, ![4096, 8320]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S8320x1024, .f32⟩
  | .hbm, ⟨2, _⟩ => ⟨S8320x4096, .f32⟩
  | .hbm, ⟨3, _⟩ => ⟨S4096x8320, .f32⟩
  | .hbm, ⟨4, _⟩ => ⟨S4096x1024, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductUp.lean ====
abbrev S8320x1024 : Shape := ⟨2, ![8320, 1024]⟩
abbrev S8320x4096 : Shape := ⟨2, ![8320, 4096]⟩
abbrev S1024x4096 : Shape := ⟨2, ![1024, 4096]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x4096, .bf16⟩
  | .hbm, ⟨2, _⟩ => ⟨S1024x4096, .f32⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductUpIdeal.lean ====
abbrev S8320x1024 : Shape := ⟨2, ![8320, 1024]⟩
abbrev S8320x4096 : Shape := ⟨2, ![8320, 4096]⟩
abbrev S1024x4096 : Shape := ⟨2, ![1024, 4096]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x4096, .bf16⟩
  | .hbm, ⟨2, _⟩ => ⟨S1024x4096, .f32⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductUpRefIdeal.lean ====
abbrev S8320x1024 : Shape := ⟨2, ![8320, 1024]⟩
abbrev S8320x4096 : Shape := ⟨2, ![8320, 4096]⟩
abbrev S1024x8320 : Shape := ⟨2, ![1024, 8320]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x4096, .bf16⟩
  | .hbm, ⟨2, _⟩ => ⟨S8320x1024, .f32⟩
  | .hbm, ⟨3, _⟩ => ⟨S1024x8320, .f32⟩
  | .hbm, ⟨4, _⟩ => ⟨S8320x4096, .f32⟩
  | .hbm, ⟨5, _⟩ => ⟨S1024x4096, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductOut.lean ====
abbrev S8320x512 : Shape := ⟨2, ![8320, 512]⟩
abbrev S8320x1024 : Shape := ⟨2, ![8320, 1024]⟩
abbrev S512x1024 : Shape := ⟨2, ![512, 1024]⟩
abbrev S640x512 : Shape := ⟨2, ![640, 512]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x512, .bf16⟩
  | .hbm, ⟨1, _⟩ => ⟨S8320x1024, .f32⟩
  | .hbm, ⟨2, _⟩ => ⟨S512x1024, .f32⟩
  | .local _ .vmem, ⟨0, _⟩ => ⟨S640x512, .bf16⟩
  | .local _ .vmem, ⟨1, _⟩ => ⟨S640x512, .bf16⟩
  | .local _ .vmem, ⟨2, _⟩ => ⟨S640x1024, .f32⟩
  | .local _ .vmem, ⟨3, _⟩ => ⟨S640x1024, .f32⟩
  | .local _ .vmem, ⟨4, _⟩ => ⟨S512x1024, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProductOutIdeal.lean ====
abbrev S8320x512 : Shape := ⟨2, ![8320, 512]⟩
abbrev S8320x1024 : Shape := ⟨2, ![8320, 1024]⟩
abbrev S512x1024 : Shape := ⟨2, ![512, 1024]⟩
abbrev S640x512 : Shape := ⟨2, ![640, 512]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x512, .bf16⟩
  | .hbm, ⟨1, _⟩ => ⟨S8320x1024, .f32⟩
  | .hbm, ⟨2, _⟩ => ⟨S512x1024, .f32⟩
  | .local _ .vmem, ⟨0, _⟩ => ⟨S640x512, .bf16⟩
  | .local _ .vmem, ⟨1, _⟩ => ⟨S640x512, .bf16⟩
  | .local _ .vmem, ⟨2, _⟩ => ⟨S640x1024, .f32⟩
  | .local _ .vmem, ⟨3, _⟩ => ⟨S640x1024, .f32⟩
  | .local _ .vmem, ⟨4, _⟩ => ⟨S512x1024, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProductOutRefIdeal.lean ====
abbrev S8320x512 : Shape := ⟨2, ![8320, 512]⟩
abbrev S8320x1024 : Shape := ⟨2, ![8320, 1024]⟩
abbrev S512x8320 : Shape := ⟨2, ![512, 8320]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S8320x1024, .f32⟩
  | .hbm, ⟨2, _⟩ => ⟨S8320x512, .f32⟩
  | .hbm, ⟨3, _⟩ => ⟨S512x8320, .f32⟩
  | .hbm, ⟨4, _⟩ => ⟨S512x1024, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductHead.lean ====
abbrev S8320x1024 : Shape := ⟨2, ![8320, 1024]⟩
abbrev S8320x512 : Shape := ⟨2, ![8320, 512]⟩
abbrev S1024x512 : Shape := ⟨2, ![1024, 512]⟩
abbrev S640x1024 : Shape := ⟨2, ![640, 1024]⟩
abbrev S640x512 : Shape := ⟨2, ![640, 512]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S1024x512, .f32⟩
  | .local _ .vmem, ⟨0, _⟩ => ⟨S640x1024, .bf16⟩
  | .local _ .vmem, ⟨1, _⟩ => ⟨S640x1024, .bf16⟩
  | .local _ .vmem, ⟨2, _⟩ => ⟨S640x512, .bf16⟩
  | .local _ .vmem, ⟨3, _⟩ => ⟨S640x512, .bf16⟩
  | .local _ .vmem, ⟨4, _⟩ => ⟨S1024x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProductHeadIdeal.lean ====
abbrev S8320x1024 : Shape := ⟨2, ![8320, 1024]⟩
abbrev S8320x512 : Shape := ⟨2, ![8320, 512]⟩
abbrev S1024x512 : Shape := ⟨2, ![1024, 512]⟩
abbrev S640x1024 : Shape := ⟨2, ![640, 1024]⟩
abbrev S640x512 : Shape := ⟨2, ![640, 512]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S1024x512, .f32⟩
  | .local _ .vmem, ⟨0, _⟩ => ⟨S640x1024, .bf16⟩
  | .local _ .vmem, ⟨1, _⟩ => ⟨S640x1024, .bf16⟩
  | .local _ .vmem, ⟨2, _⟩ => ⟨S640x512, .bf16⟩
  | .local _ .vmem, ⟨3, _⟩ => ⟨S640x512, .bf16⟩
  | .local _ .vmem, ⟨4, _⟩ => ⟨S1024x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProductHeadRefIdeal.lean ====
abbrev S8320x1024 : Shape := ⟨2, ![8320, 1024]⟩
abbrev S8320x512 : Shape := ⟨2, ![8320, 512]⟩
abbrev S1024x8320 : Shape := ⟨2, ![1024, 8320]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S8320x1024, .f32⟩
  | .hbm, ⟨3, _⟩ => ⟨S1024x8320, .f32⟩
  | .hbm, ⟨4, _⟩ => ⟨S8320x512, .f32⟩
  | .hbm, ⟨5, _⟩ => ⟨S1024x512, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductRest.lean ====
abbrev S8320x1024 : Shape := ⟨2, ![8320, 1024]⟩
abbrev S8320x1408 : Shape := ⟨2, ![8320, 1408]⟩
abbrev S1024x1408 : Shape := ⟨2, ![1024, 1408]⟩
abbrev S640x1024 : Shape := ⟨2, ![640, 1024]⟩
abbrev S640x1408 : Shape := ⟨2, ![640, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S8320x1408, .bf16⟩
  | .hbm, ⟨2, _⟩ => ⟨S1024x1408, .f32⟩
  | .local _ .vmem, ⟨0, _⟩ => ⟨S640x1024, .bf16⟩
  | .local _ .vmem, ⟨1, _⟩ => ⟨S640x1024, .bf16⟩
  | .local _ .vmem, ⟨2, _⟩ => ⟨S640x1408, .bf16⟩
  | .local _ .vmem, ⟨3, _⟩ => ⟨S640x1408, .bf16⟩
  | .local _ .vmem, ⟨4, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProductRestRefIdeal.lean ====
abbrev S8320x1024 : Shape := ⟨2, ![8320, 1024]⟩
abbrev S8320x1408 : Shape := ⟨2, ![8320, 1408]⟩
abbrev S1024x8320 : Shape := ⟨2, ![1024, 8320]⟩
abbrev S1024x1408 : Shape := ⟨2, ![1024, 1408]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1408, .bf16⟩
  | .hbm, ⟨2, _⟩ => ⟨S8320x1024, .f32⟩
  | .hbm, ⟨3, _⟩ => ⟨S1024x8320, .f32⟩
  | .hbm, ⟨4, _⟩ => ⟨S8320x1408, .f32⟩
  | .hbm, ⟨5, _⟩ => ⟨S1024x1408, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Start.lean ====
/-
The start of a program whose FIRST pallas_call exchanges data between the devices: before @main runs, one step sees
every device's arrays, semaphore counters and credit together and may regroup them across the devices — a peer's
landing buffer goes to the device that will write it. The library's launch theorems hand the semaphores of a region and
the arrays to different steps; here they come together.
-/
module

public import Idealize.ShloMosaic.Lib.Pipeline.Launch
public import Idealize.ShloMosaic.Lib.Pipeline.Kit
public import Idealize.ShloMosaic.Lib.Pipeline.Regions

@[expose] public section

set_option Elab.async false

noncomputable section

namespace Cert.Start

open Idealize.ShloMosaic
open Idealize.SL
open Idealize.SL.BI
open scoped Idealize.SL.BI
open Idealize.SL.BI.BIBase Idealize.SL.BI.Laws Idealize.SL.Sem Idealize.SL.ProofMode
open Idealize.SL.RA
open Idealize.ShloMosaic.Rounds
open Idealize.ShloMosaic.Pipeline Idealize.ShloMosaic.Pipeline.PerCore
open TcCoe

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- What device `c`'s TensorCore holds when the machine starts, its own contribution `G` to the ghost state included. -/
def holdings (O₀ : Dev nD → CellTallies nD τ sig Ix) (m : (ℓ : Loc nD τ sig) → Buf Val ℓ) (g : Dev nD → PrngReg)
    (G : Dev nD → sProp 𝕄) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c) ∗ G c)

theorem bigSep_six {I : Type} [DecidableEq I] (S : Finset I) (A B C D E H : I → sProp 𝕄) :
    (bigSep S fun i => iprop(A i ∗ B i ∗ C i ∗ D i ∗ E i ∗ H i))
      = iprop(bigSep S A ∗ bigSep S B ∗ bigSep S C ∗ bigSep S D ∗ bigSep S E ∗ bigSep S H) := by
  rw [bigSep_sep', bigSep_sep', bigSep_sep', bigSep_sep', bigSep_sep']

section

variable [Preorder Lvl] {Λ₀ : Labels} {P : Type} [Fintype P] [DecidableEq P]
variable (pcs : P → PCfg sig Λ₀ Val) (a : Dev nD → (p : P) → (pcs p).Adm)
  (phinj : Function.Injective (PerCore.cellOf (nD := nD) (τ := τ) (pinD pcs a)))
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- With no level assigned, the level rights are simply given back as the (empty) level facts. -/
theorem noLevels (lv : GSem nD τ sig → Ix → Lvl) : (BI.emp : sProp 𝕄) ⊢ levAts (fun _ => ∅) lv := by
  unfold levAts
  rw [bigSep_congr (Ψ := fun _ => (BI.emp : sProp 𝕄)) fun g _ => BI.bigSep_empty, BI.bigSep_emp_const]

include phinj in
/-- Every fair run of `main` from memory `m` with all counters zero ends, in a memory with `Q`: `hinit` regroups what all
    the devices hold at the start into each device's share `T₀`, from which its own `main` runs. -/
theorem run [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Ix)
    (G : Dev nD → sProp 𝕄) (u₀ : U)
    (hu₀ : (ownU u₀ : sProp 𝕄)
      ⊢ |={Set.univ}=> iprop(BI.own (EP (initOf (cells (pinD pcs a) phinj) (launchToks (pinD pcs a) phinj))) ∗ bigSep Finset.univ G))
    (T₀ Tₙ : Dev nD → sProp 𝕄)
    (hinit : (bigSep Finset.univ (holdings O₀ m g G)) ⊢ |={Set.univ}=> bigSep Finset.univ T₀)
    (hrun : ∀ c, iprop(T₀ c ∗ ghostOn pcs a EP Finset.univ c)
      ⊢ wp frame (wpE 𝔻 𝕍 (c.tc : Thread nD τ) none) Set.univ (main c)
          (fun _ => iprop((Tₙ c ∗ boundary (c.tc : Thread nD τ)) ∗ ∃ W, owes (c.tc : Thread nD τ) (0 : CellTallies nD τ sig Ix) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop(T₀ c ∗ ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ bigSep Finset.univ fun c : Dev nD => (iprop(boundary (c.tc : Thread nD τ) ∗ unscopedBufs c (fun b => m ((c.tc : Thread nD τ).loc b))
            ∗ unscopedSems0 c ∗ owes (c.tc : Thread nD τ) (O₀ c) ∅ ∗ launchCred O₀ c ∗ prngReg c (g c)) : sProp 𝕄) :=
      bigSep_mono fun c _ => (coreInit_boundary_owing O₀ m g c).trans (by
        iintro ⟨Hb, Hub, Hus, HL, -, Hpr, Hcr⟩
        isplitl [Hb]; · iexact Hb
        isplitl [Hub]; · iexact Hub
        isplitl [Hus]; · iexact Hus
        isplitl [HL]; · iexact HL
        isplitl [Hcr] <;> iassumption)
    have hghost : iprop((bigSep Finset.univ fun c : Dev nD => bigSep Finset.univ fun p => cellsGhost (pinD pcs a) EP p c)
          ∗ (bigSep Finset.univ fun c : Dev nD => bigSep Finset.univ fun p => (toksInit (pinD pcs a) EP p c : sProp 𝕄)))
        ⊢ bigSep Finset.univ fun c : Dev nD => ghostOn pcs a EP Finset.univ c := by
      rw [← bigSep_sep']
      exact bigSep_mono fun c _ => show iprop((bigSep Finset.univ fun p => cellsGhost (pinD pcs a) EP p c)
          ∗ bigSep Finset.univ fun p => (toksInit (pinD pcs a) EP p c : sProp 𝕄)) ⊢ ghostOn pcs a EP Finset.univ c
        from Entails.of_eq (by unfold PerCore.ghostOn; rw [bigSep_sep'])
    have hjoin : iprop((bigSep Finset.univ fun c : Dev nD => (iprop(boundary (c.tc : Thread nD τ) ∗ unscopedBufs c (fun b => m ((c.tc : Thread nD τ).loc b))
            ∗ unscopedSems0 c ∗ owes (c.tc : Thread nD τ) (O₀ c) ∅ ∗ launchCred O₀ c ∗ prngReg c (g c)) : sProp 𝕄)) ∗ bigSep Finset.univ G)
        ⊢ bigSep Finset.univ (holdings O₀ m g G) := by
      rw [← bigSep_sep']
      refine bigSep_mono fun c _ => ?_
      unfold holdings
      refine show iprop(iprop(boundary (c.tc : Thread nD τ) ∗ unscopedBufs c (fun b => m ((c.tc : Thread nD τ).loc b))
            ∗ unscopedSems0 c ∗ owes (c.tc : Thread nD τ) (O₀ c) ∅ ∗ launchCred O₀ c ∗ prngReg c (g c)) ∗ G c) ⊢ _ from ?_
      iintro ⟨⟨Hb, Hub, Hus, HL, Hcr, Hpr⟩, HG⟩
      isplitl [Hb]; · iexact Hb
      isplitl [Hub]; · iexact Hub
      isplitl [Hus]; · iexact Hus
      isplitl [HL]; · iexact HL
      isplitl [Hcr]; · iexact Hcr
      isplitl [Hpr] <;> iassumption
    iintro ⟨Hcores, Hu⟩
    ihave Hc := hcores $$ Hcores
    imod hu₀ $$ Hu with ⟨HP, HG⟩
    imod (fund_ghost (pinD pcs a) EP phinj) $$ HP with ⟨Hg, Ht⟩
    ihave Hh := hjoin $$ [Hc HG]
    · isplitl [Hc] <;> iassumption
    imod hinit $$ Hh with HT
    imodintro
    iexists ()
    isplitr []
    · simp only [pre, bigSep_sep']
      isplitl [HT]; · iexact HT
      iapply hghost
      isplitl [Hg] <;> iassumption
    · iempintro
  · refine (hrun c).trans (wp_mono _ _ _ fun _ => ?_)
    unfold post; simp only [liftTc_tc, fin]
    exact .rfl
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end

end Cert.Start

end
-- ==== Proof.Exchange.lean ====
/-
An exchange of blocks between the devices, in four phases: every device starts its local copies and its remote copies,
waits for the blocks its peers send it, for its own remote copies to have left, and for its local copies. Each semaphore
of the call counts one copy. A `Plan` names the copies' semaphores and peers and what each copy takes and leaves; from it
this module builds the semaphores' schedule, the state of a device after `n` of its operations, and the rule that takes
each operation from one state to the next.
-/
module

public import Idealize.ShloMosaic.Lib.Rounds
public import Idealize.ShloMosaic.Lib.Pipeline.Launch
public import Idealize.ShloMosaic.Lib.Pipeline.Kit
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

abbrev UU (nD : ℕ) (τ : Topo) (sig : RefSig) : Type := UR sig nD τ × UR sig nD τ

/-- What the devices' logic speaks about: the machine, the pipelines' ghost state and the exchange's. -/
abbrev Res (nD : ℕ) (τ : Topo) (sig : RefSig) (Val : EltTy → Type) := MT nD τ sig Unit Val ℕ (UU nD τ sig) ℕ

/-- The copies of an exchange: `nr` remote ones and `nl` local ones. A remote copy `t` takes `srcP t c` on its device `c`
    and `openP t d` on the device `d = peer t c` it writes, and leaves `srcP t c` and `landP t d`; a local copy `l` turns
    `rawP l c` into `locP l c`. -/
structure Plan (nD : ℕ) (τ : Topo) (sig : RefSig) (Val : EltTy → Type) where
  nr : ℕ
  nl : ℕ
  send : Fin nr → SemLoc sig
  recv : Fin nr → SemLoc sig
  loc : Fin nl → SemLoc sig
  inj : Function.Injective (Sum.elim send (Sum.elim recv loc))
  routes : ∀ c d : Dev nD, τ.routes (c.tc : Thread nD τ) (d.tc : Thread nD τ) = true
  peer : Fin nr → Dev nD → Dev nD
  peer_peer : ∀ t c, peer t (peer t c) = c
  amt : Fin nr → ℕ
  amt_pos : ∀ t, 0 < amt t
  amtL : Fin nl → ℕ
  amtL_pos : ∀ l, 0 < amtL l
  srcP : Fin nr → Dev nD → sProp (Res nD τ sig Val)
  openP : Fin nr → Dev nD → sProp (Res nD τ sig Val)
  landP : Fin nr → Dev nD → sProp (Res nD τ sig Val)
  rawP : Fin nl → Dev nD → sProp (Res nD τ sig Val)
  locP : Fin nl → Dev nD → sProp (Res nD τ sig Val)
  srcS : ∀ t c, BI.Storable (upEmb : UEmb _ (Res nD τ sig Val)) (srcP t c)
  landS : ∀ t c, BI.Storable (upEmb : UEmb _ (Res nD τ sig Val)) (landP t c)
  locS : ∀ l c, BI.Storable (upEmb : UEmb _ (Res nD τ sig Val)) (locP l c)

variable {nD : ℕ} {τ : Topo} {sig : RefSig} {Val : EltTy → Type}

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

namespace Plan

variable (P : Plan nD τ sig Val)

/-- The exchange's semaphores: a send and a receive semaphore per remote copy, one per local copy. -/
abbrev J : Type := Fin P.nr ⊕ (Fin P.nr ⊕ Fin P.nl)

def osem : P.J → SemLoc sig := Sum.elim P.send (Sum.elim P.recv P.loc)

abbrev cell (c : Dev nD) (j : P.J) : GSem nD τ sig := ((c.tc : Thread nD τ), P.osem j)

def amtJ : P.J → ℕ := Sum.elim P.amt (Sum.elim P.amt P.amtL)

theorem amtJ_pos (j : P.J) : 0 < P.amtJ j := by
  rcases j with t | t | l
  · exact P.amt_pos t
  · exact P.amt_pos t
  · exact P.amtL_pos l

/-- What the copy counted by a semaphore leaves at that semaphore's device. -/
def payJ (c : Dev nD) : P.J → sProp 𝕄
  | .inl t => P.srcP t c
  | .inr (.inl t) => P.landP t c
  | .inr (.inr l) => P.locP l c

open Classical in
/-- The copy a semaphore counts. -/
def find (s : SemLoc sig) : Option P.J := if h : ∃ j, P.osem j = s then some h.choose else none

theorem find_osem (j : P.J) : P.find (P.osem j) = some j := by
  have h : ∃ j', P.osem j' = P.osem j := ⟨j, rfl⟩
  unfold find; rw [dif_pos h]
  exact congrArg some (P.inj h.choose_spec)

/-- Every semaphore of the exchange has one round, of one copy. -/
def sched : Rounds.Schedule (GSem nD τ sig) Unit 𝕄 where
  duties g r := if r = 0 ∧ g.1.2 = .tc ∧ (P.find g.2).isSome = true then {()} else ∅
  unitless _ := False
  amount g _ _ := match P.find g.2 with | some j => P.amtJ j | none => 1
  payload g _ _ := match P.find g.2 with | some j => P.payJ g.1.1 j | none => iprop(emp)
  amount_pos g _ _ _ := by
    cases P.find g.2 with
    | none => exact Nat.one_pos
    | some j => exact P.amtJ_pos j

instance sched_storable (g : GSem nD τ sig) (r : ℕ) (d : Unit) : BI.Storable (upEmb : UEmb _ 𝕄) (P.sched.payload g r d) := by
  show BI.Storable upEmb (match P.find g.2 with | some j => P.payJ g.1.1 j | none => iprop(emp))
  cases P.find g.2 with
  | none => infer_instance
  | some j =>
    rcases j with t | t | l
    · exact P.srcS t _
    · exact P.landS t _
    · exact P.locS l _

theorem duties_cell (c : Dev nD) (j : P.J) : P.sched.duties (P.cell c j) 0 = {()} := by
  dsimp only [sched]; exact if_pos ⟨rfl, rfl, by rw [P.find_osem]; rfl⟩

theorem mem_duties (c : Dev nD) (j : P.J) : () ∈ P.sched.duties (P.cell c j) 0 := by
  rw [P.duties_cell]; exact Finset.mem_singleton_self _

theorem duties_later (g : GSem nD τ sig) : ∀ r, 1 ≤ r → P.sched.duties g r = ∅ :=
  fun r hr => by dsimp only [sched]; exact if_neg fun h => by omega

theorem amount_cell (c : Dev nD) (j : P.J) (u : Unit) : P.sched.amount (P.cell c j) 0 u = P.amtJ j := by
  dsimp only [sched]; rw [P.find_osem]

theorem payload_cell (c : Dev nD) (j : P.J) (u : Unit) : P.sched.payload (P.cell c j) 0 u = P.payJ c j := by
  dsimp only [sched]; rw [P.find_osem]

theorem expect_cell (c : Dev nD) (j : P.J) : P.sched.expect (P.cell c j) 0 = P.amtJ j := by
  unfold Schedule.expect Schedule.amountOf; rw [P.duties_cell, Finset.sum_singleton, P.amount_cell]

theorem rest_cell (c : Dev nD) (j : P.J) :
    bigSep (P.sched.duties (P.cell c j) 0 \ ∅) (fun u => P.sched.payload (P.cell c j) 0 u) = P.payJ c j := by
  rw [Finset.sdiff_empty, P.duties_cell, bigSep_singleton, P.payload_cell]

/-- The semaphores' invariants and that each has reached its round, on every device. -/
def records (K : Dev nD × P.J → ℕ) : sProp 𝕄 :=
  iprop((bigSep Finset.univ fun x : Dev nD × P.J => cellInv ER P.sched (K x) (P.cell x.1 x.2))
    ∗ bigSep Finset.univ fun x : Dev nD × P.J => reached ER (P.cell x.1 x.2) 0)

instance records_persistent (K : Dev nD × P.J → ℕ) : BI.Persistent (P.records K) := by unfold records; infer_instance

theorem records_at (K : Dev nD × P.J → ℕ) (c : Dev nD) (j : P.J) :
    P.records K ⊢ iprop(cellInv ER P.sched (K (c, j)) (P.cell c j) ∗ reached ER (P.cell c j) 0) := by
  unfold records
  exact BI.sep_mono (bigSep_elim (Finset.mem_univ (c, j))) (bigSep_elim (Finset.mem_univ (c, j)))

/-! ## A device's state after `n` operations -/

abbrev S (t : Fin P.nr) : P.J := .inl t
abbrev V (t : Fin P.nr) : P.J := .inr (.inl t)
abbrev H (l : Fin P.nl) : P.J := .inr (.inr l)

/-- What device `c` holds for remote copy `t`: not started; started; its peer's block arrived; left. -/
def res (t : Fin P.nr) (c : Dev nD) : ℕ → sProp 𝕄
  | 0 => iprop(P.srcP t c ∗ P.openP t (P.peer t c) ∗ dutyTok ER (P.cell c (P.S t)) 0 () ∗ dutyTok ER (P.cell (P.peer t c) (P.V t)) 0 ()
      ∗ atPos ER (P.cell c (P.S t)) 0 ∅ 0 ∗ atPos ER (P.cell c (P.V t)) 0 ∅ 0 ∗ cred (tallyAt (P.cell c (P.V t)) () (P.amt t)))
  | 1 => iprop(atPos ER (P.cell c (P.S t)) 0 ∅ 0 ∗ cred (tallyAt (P.cell c (P.S t)) () (P.amt t))
      ∗ atPos ER (P.cell c (P.V t)) 0 ∅ 0 ∗ cred (tallyAt (P.cell c (P.V t)) () (P.amt t)))
  | 2 => iprop((atPos ER (P.cell c (P.S t)) 0 ∅ 0 ∗ cred (tallyAt (P.cell c (P.S t)) () (P.amt t)))
      ∗ atPos ER (P.cell c (P.V t)) 1 ∅ 0 ∗ P.landP t c)
  | _ => iprop((atPos ER (P.cell c (P.S t)) 1 ∅ 0 ∗ P.srcP t c) ∗ atPos ER (P.cell c (P.V t)) 1 ∅ 0 ∗ P.landP t c)

/-- What device `c` holds for local copy `l`: not started; started; done. -/
def resL (l : Fin P.nl) (c : Dev nD) : ℕ → sProp 𝕄
  | 0 => iprop(P.rawP l c ∗ dutyTok ER (P.cell c (P.H l)) 0 () ∗ atPos ER (P.cell c (P.H l)) 0 ∅ 0)
  | 1 => iprop(atPos ER (P.cell c (P.H l)) 0 ∅ 0 ∗ cred (tallyAt (P.cell c (P.H l)) () (P.amtL l)))
  | _ => iprop(atPos ER (P.cell c (P.H l)) 1 ∅ 0 ∗ P.locP l c)

def ph (n : ℕ) (t : Fin P.nr) : ℕ :=
  (if P.nl + t < n then 1 else 0) + (if P.nl + P.nr + t < n then 1 else 0) + (if P.nl + 2 * P.nr + t < n then 1 else 0)
def phL (n : ℕ) (l : Fin P.nl) : ℕ := (if l.val < n then 1 else 0) + (if P.nl + 3 * P.nr + l < n then 1 else 0)

/-- What device `c` has still to send to the peers' receive semaphores. -/
def owed (n : ℕ) (c : Dev nD) : CellTallies nD τ sig Unit :=
  ∑ t : Fin P.nr, if P.nl + t < n then 0 else tallyAt (P.cell (P.peer t c) (P.V t)) () (P.amt t)

def core (n : ℕ) (c : Dev nD) : sProp 𝕄 :=
  iprop((bigSep Finset.univ fun t => P.res t c (P.ph n t)) ∗ bigSep Finset.univ fun l => P.resL l c (P.phL n l))

def st (K : Dev nD × P.J → ℕ) (n : ℕ) (c : Dev nD) : sProp 𝕄 :=
  iprop(P.records K ∗ P.core n c ∗ ∃ W, owes (c.tc : Thread nD τ) (P.owed n c) W)

/-- Remote copy `t` moves from phase `a` to `b` between `n` and `n + 1`, everything else stays. -/
theorem core_remote (n : ℕ) (c : Dev nD) (t : Fin P.nr) (a b : ℕ) (ha : P.ph n t = a) (hb : P.ph (n + 1) t = b)
    (hne : ∀ t', t' ≠ t → P.ph (n + 1) t' = P.ph n t') (hL : ∀ l, P.phL (n + 1) l = P.phL n l) :
    P.core n c ⊢ iprop(P.res t c a ∗ (P.res t c b -∗ P.core (n + 1) c)) := by
  unfold core
  rw [bigSep_univ_at (fun t => P.res t c (P.ph n t)) t, bigSep_univ_at (fun t => P.res t c (P.ph (n + 1) t)) t, ha, hb,
    bigSep_congr (s := Finset.univ.erase t) (Φ := fun t => P.res t c (P.ph (n + 1) t)) (Ψ := fun t => P.res t c (P.ph n t))
      (fun t' ht' => by rw [hne t' (Finset.ne_of_mem_erase ht')]),
    bigSep_congr (s := Finset.univ) (Φ := fun l => P.resL l c (P.phL (n + 1) l)) (Ψ := fun l => P.resL l c (P.phL n l)) (fun l _ => by rw [hL l])]
  iintro ⟨⟨H1, H2⟩, H3⟩
  isplitl [H1]; · iexact H1
  iintro H
  isplitl [H H2]
  · isplitl [H] <;> iassumption
  iexact H3

theorem core_local (n : ℕ) (c : Dev nD) (l : Fin P.nl) (a b : ℕ) (ha : P.phL n l = a) (hb : P.phL (n + 1) l = b)
    (hne : ∀ l', l' ≠ l → P.phL (n + 1) l' = P.phL n l') (hR : ∀ t, P.ph (n + 1) t = P.ph n t) :
    P.core n c ⊢ iprop(P.resL l c a ∗ (P.resL l c b -∗ P.core (n + 1) c)) := by
  unfold core
  rw [bigSep_univ_at (fun l => P.resL l c (P.phL n l)) l, bigSep_univ_at (fun l => P.resL l c (P.phL (n + 1) l)) l, ha, hb,
    bigSep_congr (s := Finset.univ.erase l) (Φ := fun l => P.resL l c (P.phL (n + 1) l)) (Ψ := fun l => P.resL l c (P.phL n l))
      (fun l' hl' => by rw [hne l' (Finset.ne_of_mem_erase hl')]),
    bigSep_congr (s := Finset.univ) (Φ := fun t => P.res t c (P.ph (n + 1) t)) (Ψ := fun t => P.res t c (P.ph n t)) (fun t _ => by rw [hR t])]
  iintro ⟨H3, ⟨H1, H2⟩⟩
  isplitl [H1]; · iexact H1
  iintro H
  isplitl [H3]; · iexact H3
  isplitl [H] <;> iassumption

theorem ne_val {k : ℕ} {a b : Fin k} (h : a ≠ b) : a.val ≠ b.val := fun h' => h (Fin.ext h')

theorem owed_send (c : Dev nD) (t : Fin P.nr) :
    P.owed (P.nl + t) c = P.owed (P.nl + t + 1) c + tallyAt (P.cell (P.peer t c) (P.V t)) () (P.amt t) := by
  unfold owed
  rw [← Finset.sum_erase_add Finset.univ _ (Finset.mem_univ t), ← Finset.sum_erase_add (a := t) Finset.univ (fun t' : Fin P.nr => if P.nl + t' < P.nl + t + 1 then 0 else _) (Finset.mem_univ t),
    if_neg (by omega), if_pos (by omega), add_zero]
  refine congrArg (· + _) (Finset.sum_congr rfl fun t' ht' => ?_)
  have := ne_val (Finset.ne_of_mem_erase ht')
  by_cases h : P.nl + t'.val < P.nl + t.val
  · rw [if_pos h, if_pos (by omega)]
  · rw [if_neg h, if_neg (by omega)]

theorem owed_none (n : ℕ) (h : P.nl + P.nr ≤ n) (c : Dev nD) : P.owed n c = 0 := by
  unfold owed
  exact Finset.sum_eq_zero fun t _ => if_pos (by have := t.isLt; omega)

theorem owed_all (n : ℕ) (h : n ≤ P.nl) (c : Dev nD) : P.owed n c = P.owed 0 c := by
  unfold owed
  exact Finset.sum_congr rfl fun t _ => by rw [if_neg (by omega), if_neg (by omega)]

/-! ## The operations -/

variable {Λ : Labels} (defs : Defs nD τ sig Val Λ) (𝒱 : Variants) (K : Dev nD × P.J → ℕ) (c : Dev nD)
variable {sp sp' : Space} {s : Shape} {e : EltTy}

/-- A local copy starts. -/
theorem start_local (l : Fin P.nl) (n : ℕ) (hn : n = l)
    {src : Memref sig .tc sp s e} {dst : Memref sig .tc sp' s e} {sem : SemLoc sig}
    {hsrc : src.view.WordExact} {hdst : dst.view.WordExact} {hsem : DmaTarget.Typed (nD := nD) (p := (Proc.tc : Proc τ)) sp sem (.here dst)}
    (hs : sem = P.loc l) (hN : dst.view.amount sem = P.amtL l)
    {q : PosShare TreeShare} {fs : Buf Val (src.view.loc (c.tc : Thread nD τ))} {fd : Buf Val (dst.view.loc (c.tc : Thread nD τ))}
    (hraw : P.rawP l c ⊢ iprop((src.view.loc (c.tc : Thread nD τ) ↦[src.view.set]{q} fs) ∗ (dst.view.loc (c.tc : Thread nD τ) ↦[dst.view.set]{fullShare} fd)))
    (hloc : iprop((dst.view.loc (c.tc : Thread nD τ) ↦[dst.view.set]{fullShare} (dst.view.write Val fd (src.view.read Val fs) Finset.univ)) ∗ (src.view.loc (c.tc : Thread nD τ) ↦[src.view.set]{q} fs)) ⊢ P.locP l c)
    {α : Type} {Q : α → sProp 𝕄} {k : PUnit → Prog (TpuEff nD τ sig Val Λ .tc) α}
    (hk : P.st K (n + 1) c ⊢ wp frame (wpE defs 𝒱 (c.tc : Thread nD τ) none) Set.univ (k ⟨⟩) Q) :
    P.st K n c ⊢ wp frame (wpE defs 𝒱 (c.tc : Thread nD τ) none) Set.univ (.op (.enqueueDma src (.here dst) sem hsrc hdst hsem) k) Q := by
  subst hs; subst hn
  have hc := P.core_local l c l 0 1 (by unfold phL; (repeat' split) <;> omega) (by unfold phL; (repeat' split) <;> omega)
    (fun l' h => by have := ne_val h; have := l.isLt; unfold phL; (repeat' split) <;> omega)
    (fun t => by have := l.isLt; unfold ph; (repeat' split) <;> omega)
  have ho : P.owed (l.val + 1) c = P.owed l c := by rw [P.owed_all (l + 1) l.isLt, P.owed_all l l.isLt.le]
  refine (show P.st K l.val c ⊢ iprop((P.st K (l.val + 1) c -∗ wp frame (wpE defs 𝒱 (c.tc : Thread nD τ) none) Set.univ (k ⟨⟩) Q) ∗ P.st K l.val c) from ?_).trans ?_
  · iintro H
    isplitr; · iintro H'; iapply hk; iexact H'
    iexact H
  unfold st
  rw [ho]
  iintro ⟨Hk, #HR, Hc, ⟨%W, HO⟩⟩
  ihave Hc := hc $$ Hc
  icases Hc with ⟨Hr, Hc⟩
  simp only [resL]
  icases Hr with ⟨Hraw, Htok, Hat⟩
  ihave Hraw := hraw $$ Hraw
  icases Hraw with ⟨Hs, Hd⟩
  ihave HI := (P.records_at K c (P.H l)) $$ HR
  icases HI with ⟨#HI, #Hre⟩
  iapply (Rounds.wp_copy_pointsTo 𝒱 ER P.sched (c.tc : Thread nD τ) none (κ := K (c, P.H l)) (r := 0) (d := ())
    (P.mem_duties c (P.H l))
    () (P.amtL l) hN (P.amount_cell c (P.H l) ()) (hloc.trans (Entails.of_eq (P.payload_cell c (P.H l) ()).symm))) $$ [Hs Hd Htok]
  · isplitr; · iexact HI
    isplitl [Hs]; · iexact Hs
    isplitl [Hd]; · iexact Hd
    isplitl [Htok]; · iexact Htok
    iexact Hre
  iintro Hcr
  iapply Hk
  isplitr; · iexact HR
  isplitr [HO]
  · iapply Hc
    isplitl [Hat]; · iexact Hat
    iexact Hcr
  iexists _; iexact HO

/-- A remote copy starts: what is still owed shrinks by its blocks. -/
theorem start_remote (t : Fin P.nr) (n : ℕ) (hn : n = P.nl + t) {d : Dev nD} (hd : d = P.peer t c)
    {src : Memref sig .tc sp s e} {dst : Memref sig .tc sp' s e} {sS sem : SemLoc sig}
    {hsc : (dst : Memref sig (Dev.tc d : Thread nD τ).2.kind sp' s e).view.ref.isScScratch = false}
    {hsrc : src.view.WordExact} {hdst : dst.view.WordExact}
    {hsem : DmaTarget.Typed (nD := nD) (p := (Proc.tc : Proc τ)) sp sem (.remote (Dev.tc d : Thread nD τ) dst sS hsc)}
    (hs : sS = P.send t) (hv : sem = P.recv t) (hN : dst.view.amount sem = P.amt t)
    {q : PosShare TreeShare} {fs : Buf Val (src.view.loc (c.tc : Thread nD τ))} {fd : Buf Val (dst.view.loc (d.tc : Thread nD τ))}
    (hraw : P.srcP t c ⊢ (src.view.loc (c.tc : Thread nD τ) ↦[src.view.set]{q} fs)) (hopen : P.openP t d ⊢ (dst.view.loc (d.tc : Thread nD τ) ↦[dst.view.set]{fullShare} fd))
    (hback : (src.view.loc (c.tc : Thread nD τ) ↦[src.view.set]{q} fs) ⊢ P.srcP t c)
    (hland : (dst.view.loc (d.tc : Thread nD τ) ↦[dst.view.set]{fullShare} (dst.view.write Val fd (src.view.read Val fs) Finset.univ)) ⊢ P.landP t d)
    {α : Type} {Q : α → sProp 𝕄} {k : PUnit → Prog (TpuEff nD τ sig Val Λ .tc) α}
    (hk : P.st K (n + 1) c ⊢ wp frame (wpE defs 𝒱 (c.tc : Thread nD τ) none) Set.univ (k ⟨⟩) Q) :
    P.st K n c ⊢ wp frame (wpE defs 𝒱 (c.tc : Thread nD τ) none) Set.univ (.op (.enqueueDma src (.remote (Dev.tc d : Thread nD τ) dst sS hsc) sem hsrc hdst hsem) k) Q := by
  subst hs; subst hv; subst hn; subst hd
  have hc := P.core_remote (P.nl + t) c t 0 1 (by have := t.isLt; unfold ph; (repeat' split) <;> omega) (by have := t.isLt; unfold ph; (repeat' split) <;> omega)
    (fun t' h => by have := ne_val h; have := t.isLt; unfold ph; (repeat' split) <;> omega)
    (fun l => by have := t.isLt; have := l.isLt; unfold phL; (repeat' split) <;> omega)
  have ho := P.owed_send c t
  refine (show P.st K (P.nl + t) c ⊢ iprop((P.st K ((P.nl + t) + 1) c -∗ wp frame (wpE defs 𝒱 (c.tc : Thread nD τ) none) Set.univ (k ⟨⟩) Q) ∗ P.st K (P.nl + t) c) from ?_).trans ?_
  · iintro H
    isplitr; · iintro H'; iapply hk; iexact H'
    iexact H
  unfold st
  rw [ho]
  iintro ⟨Hk, #HR, Hc, ⟨%W, HO⟩⟩
  ihave Hc := hc $$ Hc
  icases Hc with ⟨Hr, Hc⟩
  simp only [res]
  icases Hr with ⟨Hs, Hd, HtS, HtV, HaS, HaV, HcV⟩
  ihave Hs := hraw $$ Hs
  ihave Hd := hopen $$ Hd
  ihave HI := (P.records_at K c (P.S t)) $$ HR
  icases HI with ⟨#HI, #Hre⟩
  ihave HI2 := (P.records_at K (P.peer t c) (P.V t)) $$ HR
  icases HI2 with ⟨#HI2, #Hre2⟩
  iapply (Rounds.wp_send_pointsTo 𝒱 ER P.sched (c.tc : Thread nD τ) none (κ₁ := K (c, P.S t)) (κ₂ := K (P.peer t c, P.V t))
    (r₁ := 0) (r₂ := 0) (d₁ := ()) (d₂ := ())
    (P.mem_duties c (P.S t))
    (P.mem_duties (P.peer t c) (P.V t))
    () () (P.amt t) hN (P.amount_cell c (P.S t) ()) (P.amount_cell (P.peer t c) (P.V t) ()) (P.owed (P.nl + t + 1) c) rfl
    (hback.trans (Entails.of_eq (P.payload_cell c (P.S t) ()).symm))
    (hland.trans (Entails.of_eq (P.payload_cell (P.peer t c) (P.V t) ()).symm)) (hr := P.routes c (P.peer t c))) $$ [Hs Hd HO HtS HtV]
  · isplitr; · iexact HI
    isplitr; · iexact HI2
    isplitl [Hs]; · iexact Hs
    isplitl [Hd]; · iexact Hd
    isplitl [HO]; · iexact HO
    isplitl [HtS]; · iexact HtS
    isplitr; · iexact Hre
    isplitl [HtV]; · iexact HtV
    iexact Hre2
  iintro ⟨Hcr, HO⟩
  iapply Hk
  isplitr; · iexact HR
  isplitr [HO]
  · iapply Hc
    isplitl [HaS]; · iexact HaS
    isplitl [Hcr]; · iexact Hcr
    isplitl [HaV]; · iexact HaV
    iexact HcV
  iexists _; iexact HO

/-- A wait for the one copy a semaphore counts, nothing being owed. -/
theorem wait_one (j : P.J) {sp₀ : Space} {s₀ : Shape} {e₀ : EltTy}
    {src : Memref sig .tc sp₀ s₀ e₀} {κ' : Kind} {dst : Memref sig κ' sp s e} {sem : DmaSem sig}
    {hsrc : src.view.WordExact} {hdst : dst.view.WordExact}
    (hs : SemLoc.dma sem = P.osem j) (hN : dst.view.dmaCredit = P.amtJ j) {W : Waits sig Unit}
    {α : Type} {Q : α → sProp 𝕄} {k : PUnit → Prog (TpuEff nD τ sig Val Λ .tc) α} :
    iprop(cellInv ER P.sched (K (c, j)) (P.cell c j) ∗ cred (tallyAt (P.cell c j) () (P.amtJ j)) ∗ owes (c.tc : Thread nD τ) 0 W
        ∗ atPos ER (P.cell c j) 0 ∅ 0)
      ⊢ iprop((iprop(owes (c.tc : Thread nD τ) 0 (insert (P.osem j, ()) W) ∗ atPos ER (P.cell c j) 1 ∅ 0 ∗ P.payJ c j)
            -∗ wp frame (wpE defs 𝒱 (c.tc : Thread nD τ) none) Set.univ (k ⟨⟩) Q)
          -∗ wp frame (wpE defs 𝒱 (c.tc : Thread nD τ) none) Set.univ (.op (.waitDma2 sem src dst hsrc hdst) k) Q) := by
  iintro ⟨HI, Hcr, HO, Hat⟩ Hk
  iapply (Rounds.wp_wait_rest_token 𝒱 ER P.sched (c.tc : Thread nD τ) none (κ := K (c, j)) (sm := P.osem j)
    (fun K => by rw [← hs, ← hN]; exact wpE_waitDma2_eq 𝒱 (c.tc : Thread nD τ) none Set.univ K) (Set.mem_univ _) () (O := 0) (W := W) (R := 0) (m := 0) (T := ∅)
    (k' := P.amtJ j) (by rw [Nat.zero_add]; exact (P.expect_cell c j).symm)) $$ [HI Hcr HO Hat]
  · isplitl [HI]; · iexact HI
    isplitl [Hcr]; · iexact Hcr
    isplitl [HO]; · iexact HO
    isplitr; · rw [MayWait_zero]; iempintro
    iexact Hat
  iintro ⟨HO, Hat, -, Hpay⟩
  ihave Hpay := (Entails.of_eq (P.rest_cell c j)) $$ Hpay
  iapply Hk
  isplitl [HO]; · iexact HO
  isplitl [Hat]; · iexact Hat
  iexact Hpay

/-- A peer's block has arrived. -/
theorem wait_recv (t : Fin P.nr) (n : ℕ) (hn : n = P.nl + P.nr + t) {sp₀ : Space} {s₀ : Shape} {e₀ : EltTy}
    {src : Memref sig .tc sp₀ s₀ e₀} {κ' : Kind} {dst : Memref sig κ' sp s e} {sem : DmaSem sig}
    {hsrc : src.view.WordExact} {hdst : dst.view.WordExact}
    (hs : SemLoc.dma sem = P.osem (P.V t)) (hN : dst.view.dmaCredit = P.amt t)
    {α : Type} {Q : α → sProp 𝕄} {k : PUnit → Prog (TpuEff nD τ sig Val Λ .tc) α}
    (hk : P.st K (n + 1) c ⊢ wp frame (wpE defs 𝒱 (c.tc : Thread nD τ) none) Set.univ (k ⟨⟩) Q) :
    P.st K n c ⊢ wp frame (wpE defs 𝒱 (c.tc : Thread nD τ) none) Set.univ (.op (.waitDma2 sem src dst hsrc hdst) k) Q := by
  subst hn
  have hlt := t.isLt
  have hc := P.core_remote (P.nl + P.nr + t) c t 1 2 (by unfold ph; (repeat' split) <;> omega) (by unfold ph; (repeat' split) <;> omega)
    (fun x h => by have := ne_val h; have := x.isLt; unfold ph; (repeat' split) <;> omega)
    (fun x => by have := x.isLt; unfold phL; (repeat' split) <;> omega)
  have ho : P.owed (P.nl + P.nr + t) c = 0 := P.owed_none _ (by omega) c
  have ho' : P.owed (P.nl + P.nr + t + 1) c = 0 := P.owed_none _ (by omega) c
  refine (show P.st K (P.nl + P.nr + t) c ⊢ iprop((P.st K ((P.nl + P.nr + t) + 1) c -∗ wp frame (wpE defs 𝒱 (c.tc : Thread nD τ) none) Set.univ (k ⟨⟩) Q) ∗ P.st K (P.nl + P.nr + t) c) from ?_).trans ?_
  · iintro H
    isplitr; · iintro H'; iapply hk; iexact H'
    iexact H
  unfold st
  rw [ho]
  iintro ⟨Hk, #HR, Hc, ⟨%W, HO⟩⟩
  ihave Hc := hc $$ Hc
  icases Hc with ⟨Hr, Hc⟩
  rw [ho']
  simp only [res]
  icases Hr with ⟨HaS, HcS, Hat, Hcr⟩
  ihave HI := (P.records_at K c (P.V t)) $$ HR
  icases HI with ⟨#HI, #Hre⟩
  iapply (P.wait_one defs 𝒱 K c (P.V t) hs (by rw [hN]; rfl)) $$ [Hcr HO Hat]
  · isplitr; · iexact HI
    isplitl [Hcr]; · iexact Hcr
    isplitl [HO]; · iexact HO
    iexact Hat
  iintro ⟨HO, Hat, Hpay⟩
  ihave Hpay := (show P.payJ c (P.V t) ⊢ P.landP t c from .rfl) $$ Hpay
  iapply Hk
  isplitr; · iexact HR
  isplitr [HO]
  · iapply Hc
    isplitl [HaS HcS]
    · isplitl [HaS] <;> iassumption
    isplitl [Hat]; · iexact Hat
    iexact Hpay
  iexists _; iexact HO

/-- A remote copy has left. -/
theorem wait_send (t : Fin P.nr) (n : ℕ) (hn : n = P.nl + 2 * P.nr + t) {sp₀ : Space} {s₀ : Shape} {e₀ : EltTy}
    {src : Memref sig .tc sp₀ s₀ e₀} {κ' : Kind} {dst : Memref sig κ' sp s e} {sem : DmaSem sig}
    {hsrc : src.view.WordExact} {hdst : dst.view.WordExact}
    (hs : SemLoc.dma sem = P.osem (P.S t)) (hN : dst.view.dmaCredit = P.amt t)
    {α : Type} {Q : α → sProp 𝕄} {k : PUnit → Prog (TpuEff nD τ sig Val Λ .tc) α}
    (hk : P.st K (n + 1) c ⊢ wp frame (wpE defs 𝒱 (c.tc : Thread nD τ) none) Set.univ (k ⟨⟩) Q) :
    P.st K n c ⊢ wp frame (wpE defs 𝒱 (c.tc : Thread nD τ) none) Set.univ (.op (.waitDma2 sem src dst hsrc hdst) k) Q := by
  subst hn
  have hlt := t.isLt
  have hc := P.core_remote (P.nl + 2 * P.nr + t) c t 2 3 (by unfold ph; (repeat' split) <;> omega) (by unfold ph; (repeat' split) <;> omega)
    (fun x h => by have := ne_val h; have := x.isLt; unfold ph; (repeat' split) <;> omega)
    (fun x => by have := x.isLt; unfold phL; (repeat' split) <;> omega)
  have ho : P.owed (P.nl + 2 * P.nr + t) c = 0 := P.owed_none _ (by omega) c
  have ho' : P.owed (P.nl + 2 * P.nr + t + 1) c = 0 := P.owed_none _ (by omega) c
  refine (show P.st K (P.nl + 2 * P.nr + t) c ⊢ iprop((P.st K ((P.nl + 2 * P.nr + t) + 1) c -∗ wp frame (wpE defs 𝒱 (c.tc : Thread nD τ) none) Set.univ (k ⟨⟩) Q) ∗ P.st K (P.nl + 2 * P.nr + t) c) from ?_).trans ?_
  · iintro H
    isplitr; · iintro H'; iapply hk; iexact H'
    iexact H
  unfold st
  rw [ho]
  iintro ⟨Hk, #HR, Hc, ⟨%W, HO⟩⟩
  ihave Hc := hc $$ Hc
  icases Hc with ⟨Hr, Hc⟩
  rw [ho']
  simp only [res]
  icases Hr with ⟨⟨Hat, Hcr⟩, Hrest⟩
  ihave HI := (P.records_at K c (P.S t)) $$ HR
  icases HI with ⟨#HI, #Hre⟩
  iapply (P.wait_one defs 𝒱 K c (P.S t) hs (by rw [hN]; rfl)) $$ [Hcr HO Hat]
  · isplitr; · iexact HI
    isplitl [Hcr]; · iexact Hcr
    isplitl [HO]; · iexact HO
    iexact Hat
  iintro ⟨HO, Hat, Hpay⟩
  ihave Hpay := (show P.payJ c (P.S t) ⊢ P.srcP t c from .rfl) $$ Hpay
  iapply Hk
  isplitr; · iexact HR
  isplitr [HO]
  · iapply Hc
    isplitl [Hat Hpay]
    · isplitl [Hat]; · iexact Hat
      iexact Hpay
    iexact Hrest
  iexists _; iexact HO

/-- A local copy is done. -/
theorem wait_local (l : Fin P.nl) (n : ℕ) (hn : n = P.nl + 3 * P.nr + l) {sp₀ : Space} {s₀ : Shape} {e₀ : EltTy}
    {src : Memref sig .tc sp₀ s₀ e₀} {κ' : Kind} {dst : Memref sig κ' sp s e} {sem : DmaSem sig}
    {hsrc : src.view.WordExact} {hdst : dst.view.WordExact}
    (hs : SemLoc.dma sem = P.osem (P.H l)) (hN : dst.view.dmaCredit = P.amtL l)
    {α : Type} {Q : α → sProp 𝕄} {k : PUnit → Prog (TpuEff nD τ sig Val Λ .tc) α}
    (hk : P.st K (n + 1) c ⊢ wp frame (wpE defs 𝒱 (c.tc : Thread nD τ) none) Set.univ (k ⟨⟩) Q) :
    P.st K n c ⊢ wp frame (wpE defs 𝒱 (c.tc : Thread nD τ) none) Set.univ (.op (.waitDma2 sem src dst hsrc hdst) k) Q := by
  subst hn
  have hlt := l.isLt
  have hc := P.core_local (P.nl + 3 * P.nr + l) c l 1 2 (by unfold phL; (repeat' split) <;> omega) (by unfold phL; (repeat' split) <;> omega)
    (fun x h => by have := ne_val h; have := x.isLt; unfold phL; (repeat' split) <;> omega)
    (fun x => by have := x.isLt; unfold ph; (repeat' split) <;> omega)
  have ho : P.owed (P.nl + 3 * P.nr + l) c = 0 := P.owed_none _ (by omega) c
  have ho' : P.owed (P.nl + 3 * P.nr + l + 1) c = 0 := P.owed_none _ (by omega) c
  refine (show P.st K (P.nl + 3 * P.nr + l) c ⊢ iprop((P.st K ((P.nl + 3 * P.nr + l) + 1) c -∗ wp frame (wpE defs 𝒱 (c.tc : Thread nD τ) none) Set.univ (k ⟨⟩) Q) ∗ P.st K (P.nl + 3 * P.nr + l) c) from ?_).trans ?_
  · iintro H
    isplitr; · iintro H'; iapply hk; iexact H'
    iexact H
  unfold st
  rw [ho]
  iintro ⟨Hk, #HR, Hc, ⟨%W, HO⟩⟩
  ihave Hc := hc $$ Hc
  icases Hc with ⟨Hr, Hc⟩
  rw [ho']
  simp only [resL]
  icases Hr with ⟨Hat, Hcr⟩
  ihave HI := (P.records_at K c (P.H l)) $$ HR
  icases HI with ⟨#HI, #Hre⟩
  iapply (P.wait_one defs 𝒱 K c (P.H l) hs (by rw [hN]; rfl)) $$ [Hcr HO Hat]
  · isplitr; · iexact HI
    isplitl [Hcr]; · iexact Hcr
    isplitl [HO]; · iexact HO
    iexact Hat
  iintro ⟨HO, Hat, Hpay⟩
  ihave Hpay := (show P.payJ c (P.H l) ⊢ P.locP l c from .rfl) $$ Hpay
  iapply Hk
  isplitr; · iexact HR
  isplitr [HO]
  · iapply Hc
    isplitl [Hat]; · iexact Hat
    iexact Hpay
  iexists _; iexact HO

end Plan

end Cert.Exchange

end
-- ==== Proof.ExchangeRun.lean ====
/-
A program whose first pallas_call is an exchange (`Exchange.Plan`): what every device holds at the start is dealt out —
to each device its own copies' sources and semaphores, and the landing blocks and receive tokens of the peers it writes
to —, the call runs from there, and what follows the call runs from what the copies left.
-/
module

public import proofs.«01_k».proof.Proof.Start
public import proofs.«01_k».proof.Proof.Exchange
public import Idealize.ShloMosaic.Lib.Pipeline.Regions
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type}

local notation "𝕄" => MT nD τ sig Unit Val ℕ (UU nD τ sig) ℕ

/-- What holds once holds beside every member of a family. -/
theorem along {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  have h1 : R ⊢ bigSep S fun _ => R := BI.bigSep_of_persistent S R
  have h2 : iprop((bigSep S fun _ => R) ∗ bigSep S Φ) ⊢ bigSep S Ψ := by
    rw [← bigSep_sep']
    exact bigSep_mono fun i _ => h i
  exact (BI.sep_mono h1 (BI.Entails.refl _)).trans h2

namespace Plan

variable (P : Plan nD τ sig Val)

/-- All the operations of one device. -/
def total : ℕ := P.nl + 3 * P.nr + P.nl

/-- What the copies leave on device `c`. -/
def fin (c : Dev nD) : sProp 𝕄 :=
  iprop((bigSep Finset.univ fun t => iprop(P.srcP t c ∗ P.landP t c)) ∗ bigSep Finset.univ fun l => P.locP l c)

def entry (c : Dev nD) : sProp 𝕄 := iprop(∃ K, P.records K ∗ P.core 0 c)
def exit (c : Dev nD) : sProp 𝕄 := iprop(P.fin c ∗ Pipeline.ownSems0 P.osem c)

/-! ## The end: every semaphore back at zero -/

theorem close_one (K : Dev nD × P.J → ℕ) (c : Dev nD) (j : P.J) :
    iprop(P.records K ∗ atPos ER (P.cell c j) 1 ∅ 0) ⊢ iprop(|={Set.univ}=> semVal (P.cell c j) 0) := by
  iintro ⟨HR, Hat⟩
  ihave HI := (P.records_at K c j) $$ HR
  icases HI with ⟨HI, -⟩
  iapply (Rounds.cell_close ER P.sched (Set.mem_univ (K (c, j))) (fun h => h) (R := 1) (P.duties_later (P.cell c j)))
  isplitl [HI] <;> iassumption

theorem core_total (c : Dev nD) :
    P.core P.total c = iprop((bigSep Finset.univ fun t => P.res t c 3) ∗ bigSep Finset.univ fun l => P.resL l c 2) := by
  unfold core
  rw [bigSep_congr (Φ := fun t => P.res t c (P.ph P.total t)) (Ψ := fun t => P.res t c 3) fun t _ => by
      rw [show P.ph P.total t = 3 by have := t.isLt; unfold ph total; (repeat' split) <;> omega],
    bigSep_congr (Φ := fun l => P.resL l c (P.phL P.total l)) (Ψ := fun l => P.resL l c 2) fun l _ => by
      rw [show P.phL P.total l = 2 by have := l.isLt; unfold phL total; (repeat' split) <;> omega]]

theorem close (K : Dev nD × P.J → ℕ) (c : Dev nD) :
    iprop(P.records K ∗ P.core P.total c) ⊢ iprop(|={Set.univ}=> P.exit c) := by
  have hS : iprop(P.records K ∗ bigSep Finset.univ fun t => atPos ER (P.cell c (P.S t)) 1 ∅ 0)
      ⊢ iprop(|={Set.univ}=> bigSep Finset.univ fun t => semVal (P.cell c (P.S t)) 0) :=
    (along fun t => P.close_one K c (P.S t)).trans (bigSep_fupd _ _)
  have hV : iprop(P.records K ∗ bigSep Finset.univ fun t => atPos ER (P.cell c (P.V t)) 1 ∅ 0)
      ⊢ iprop(|={Set.univ}=> bigSep Finset.univ fun t => semVal (P.cell c (P.V t)) 0) :=
    (along fun t => P.close_one K c (P.V t)).trans (bigSep_fupd _ _)
  have hH : iprop(P.records K ∗ bigSep Finset.univ fun l => atPos ER (P.cell c (P.H l)) 1 ∅ 0)
      ⊢ iprop(|={Set.univ}=> bigSep Finset.univ fun l => semVal (P.cell c (P.H l)) 0) :=
    (along fun l => P.close_one K c (P.H l)).trans (bigSep_fupd _ _)
  rw [P.core_total]
  simp only [res, resL, bigSep_sep']
  iintro ⟨#HR, ⟨⟨HaS, Hs⟩, HaV, Hl⟩, HaH, Hloc⟩
  imod hS $$ [HaS] with H1
  · isplitr; · iexact HR
    iexact HaS
  imod hV $$ [HaV] with H2
  · isplitr; · iexact HR
    iexact HaV
  imod hH $$ [HaH] with H3
  · isplitr; · iexact HR
    iexact HaH
  imodintro
  unfold exit fin Pipeline.ownSems0
  isplitl [Hs Hl Hloc]
  · isplitl [Hs Hl]
    · iapply (Entails.of_eq (bigSep_sep' Finset.univ (fun t => P.srcP t c) fun t => P.landP t c).symm)
      isplitl [Hs] <;> iassumption
    iexact Hloc
  iapply (show iprop((bigSep Finset.univ fun t => semVal (P.cell c (P.S t)) 0)
      ∗ bigSep Finset.univ fun j : Fin P.nr ⊕ Fin P.nl => semVal (P.cell c (Sum.inr j)) 0) ⊢ bigSep Finset.univ fun j : P.J => (semVal (P.cell c j) 0 : sProp 𝕄)
    from Entails.of_eq (BI.bigSep_univ_sum (fun j : P.J => (semVal (P.cell c j) 0 : sProp 𝕄))).symm)
  isplitl [H1]; · iexact H1
  iapply (show iprop((bigSep Finset.univ fun t => semVal (P.cell c (P.V t)) 0) ∗ bigSep Finset.univ fun l => semVal (P.cell c (P.H l)) 0)
      ⊢ bigSep Finset.univ fun j : Fin P.nr ⊕ Fin P.nl => (semVal (P.cell c (Sum.inr j)) 0 : sProp 𝕄)
    from Entails.of_eq (BI.bigSep_univ_sum (fun j : Fin P.nr ⊕ Fin P.nl => (semVal (P.cell c (Sum.inr j)) 0 : sProp 𝕄))).symm)
  isplitl [H2]; · iexact H2
  iexact H3

/-! ## The call as the pipeline runs it: no windows, one point -/

section Body

variable {Λ₀ : Labels} (cfg : Pipeline.Cfg sig Λ₀) (hW : cfg.W = 0)

/-- `R`: the scoped buffers, which the call does not touch. -/
def dat (R : sProp 𝕄) (c : Dev nD) : Pipeline.Dat τ Val Unit ℕ (UU nD τ sig) ℕ cfg c where
  A w := absurd w.2 (by omega)
  after w := absurd w.2 (by omega)
  Φ t := if t.val = 0 then iprop(P.entry c ∗ R) else iprop(P.exit c ∗ R)
  q w := absurd w.2 (by omega)
  owed t := if t.val = 0 then P.owed 0 c else 0

theorem no_windows {n : ℕ} (h : n = 0) (Φ : Fin n → sProp 𝕄) : bigSep Finset.univ Φ = BI.emp := by
  subst h; rw [Finset.univ_eq_empty, BI.bigSep_empty]

theorem body (hN : cfg.N = 1) (defs₀ : Defs nD τ sig Val Λ₀) (𝒱₀ : Variants) (R : sProp 𝕄) (c : Dev nD)
    (hbody : ∀ (K : Dev nD × P.J → ℕ) (t : Fin cfg.N) (Q : Λ₀.Result cfg.body → sProp 𝕄), (∀ v, P.st K P.total c ⊢ iprop(|={Set.univ}=> Q v)) →
      (P.st K 0 c ⊢ wp frame (wpE defs₀ 𝒱₀ (c.tc : Thread nD τ) none) Set.univ (defs₀ .tc cfg.body (cfg.bodyArgs t (cfg.slots t))) Q)) :
    Pipeline.BodyObligationLoose (P.dat cfg hW R c) defs₀ 𝒱₀ () Set.univ := fun t => by
  rw [no_windows hW, no_windows hW]
  have ht : t.val = 0 := by have := t.isLt; omega
  rw [show (P.dat cfg hW R c).Φ t.castSucc = iprop(P.entry c ∗ R) from if_pos (e := iprop(P.exit c ∗ R)) ht, show (P.dat cfg hW R c).Φ t.succ = iprop(P.exit c ∗ R) from if_neg (t := iprop(P.entry c ∗ R)) (c := t.succ.val = 0) (by simp)]
  unfold Pipeline.Dat.owesAt Pipeline.owesWithin
  rw [show (P.dat cfg hW R c).owed t.castSucc = P.owed 0 c from if_pos (e := 0) ht, show (P.dat cfg hW R c).owed t.succ = 0 from if_neg (t := P.owed 0 c) (c := t.succ.val = 0) (by simp)]
  have h0 : ∀ K, P.st K 0 c ⊢ wp frame (wpE defs₀ 𝒱₀ (c.tc : Thread nD τ) none) Set.univ (defs₀ .tc cfg.body (cfg.bodyArgs t (cfg.slots t)))
      (fun _ => iprop(P.exit c ∗ ∃ W, owes (c.tc : Thread nD τ) 0 W)) := fun K => hbody K t _ fun _ => by
    unfold st
    rw [P.owed_none P.total (by unfold total; omega)]
    iintro ⟨HR, Hc, HO⟩
    imod (P.close K c) $$ [HR Hc] with He
    · isplitl [HR] <;> iassumption
    imodintro
    isplitl [He] <;> iassumption
  have h1 : ∀ K, iprop(P.st K 0 c ∗ R) ⊢ wp frame (wpE defs₀ 𝒱₀ (c.tc : Thread nD τ) none) Set.univ (defs₀ .tc cfg.body (cfg.bodyArgs t (cfg.slots t)))
      (fun _ => iprop((P.exit c ∗ R) ∗ (∃ W : Waits sig Unit, ⌜(↑W : Set (SemLoc sig × Unit)) ⊆ (P.dat cfg hW R c).recorded t.succ ∪ cfg.waitPairs ()⌝ ∗ owes (c.tc : Thread nD τ) 0 W) ∗ emp)) :=
    fun K => ((BI.sep_mono (h0 K) (BI.Entails.refl R)).trans (wp_frame_r _ _ _)).trans (wp_mono _ _ _ fun _ => by
      iintro ⟨⟨He, ⟨%W, HO⟩⟩, HR⟩
      isplitl [He HR]; · isplitl [He] <;> iassumption
      isplitl [HO]
      · iexists W
        isplitr; · ipureintro; exact fun _ _ => Or.inl trivial
        iexact HO
      iempintro)
  unfold entry
  iintro ⟨⟨⟨%K, HR, Hc⟩, Hrest⟩, ⟨%W, -, HO⟩, -⟩
  iapply (h1 K)
  unfold st
  isplitl [HR Hc HO]
  · isplitl [HR]; · iexact HR
    isplitl [Hc]; · iexact Hc
    iexists W; iexact HO
  iexact Hrest

end Body

/-! ## The start: the tokens and landing blocks dealt to the devices that use them -/

theorem cell_injective : Function.Injective (fun x : Dev nD × P.J => P.cell x.1 x.2) := by
  rintro ⟨c, j⟩ ⟨c', j'⟩ h
  have h1 : c = c' := congrArg (fun g : GSem nD τ sig => g.1.1) h
  have h2 : j = j' := P.inj (congrArg Prod.snd h)
  rw [h1, h2]

def cells : Finset (GSem nD τ sig) := Finset.univ.map ⟨fun x : Dev nD × P.J => P.cell x.1 x.2, P.cell_injective⟩
def toks : Finset (GSem nD τ sig × ℕ × Unit) :=
  Finset.univ.map ⟨fun x : Dev nD × P.J => (P.cell x.1 x.2, 0, ()), fun _ _ h => P.cell_injective (congrArg Prod.fst h)⟩

/-- Device `c`'s share of the exchange's ghost state. -/
def ghost (c : Dev nD) : sProp 𝕄 :=
  iprop((bigSep Finset.univ fun j : P.J => roundState ER P.sched (P.cell c j) 0)
    ∗ (bigSep Finset.univ fun j : P.J => reached ER (P.cell c j) 0)
    ∗ (bigSep Finset.univ fun j : P.J => atPos ER (P.cell c j) 0 ∅ 0)
    ∗ bigSep Finset.univ fun j : P.J => dutyTok ER (P.cell c j) 0 ())

theorem fund : BI.own (ER (initOf P.cells P.toks)) ⊢ (|==> bigSep Finset.univ P.ghost : sProp 𝕄) := by
  have hX (Φ : GSem nD τ sig → sProp 𝕄) :
      bigSep P.cells Φ = bigSep Finset.univ fun c : Dev nD => bigSep Finset.univ fun j : P.J => Φ (P.cell c j) := by
    unfold cells; rw [bigSep_map, bigSep_univ_prod]; rfl
  have hT : bigSep P.toks (fun x => (dutyTok ER x.1 x.2.1 x.2.2 : sProp 𝕄))
      = bigSep Finset.univ fun c : Dev nD => bigSep Finset.univ fun j : P.J => dutyTok ER (P.cell c j) 0 () := by
    unfold toks; rw [bigSep_map, bigSep_univ_prod]; rfl
  have hG : (bigSep Finset.univ P.ghost : sProp 𝕄)
      = iprop((bigSep Finset.univ fun c : Dev nD => bigSep Finset.univ fun j : P.J => roundState ER P.sched (P.cell c j) 0)
        ∗ (bigSep Finset.univ fun c : Dev nD => bigSep Finset.univ fun j : P.J => reached ER (P.cell c j) 0)
        ∗ (bigSep Finset.univ fun c : Dev nD => bigSep Finset.univ fun j : P.J => atPos ER (P.cell c j) 0 ∅ 0)
        ∗ bigSep Finset.univ fun c : Dev nD => bigSep Finset.univ fun j : P.J => dutyTok ER (P.cell c j) 0 ()) := by
    unfold ghost; rw [bigSep_sep', bigSep_sep', bigSep_sep']
  rw [hG]
  iintro HX
  imod (Rounds.fund ER P.sched P.cells P.toks) $$ HX with ⟨Hst, Hr, Hat, Htok⟩
  imodintro
  ihave Hst := (Entails.of_eq (hX fun g => roundState ER P.sched g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  isplitl [Hst]; · iexact Hst
  isplitl [Hr]; · iexact Hr
  isplitl [Hat] <;> iassumption

/-- A device's share of the semaphores' ghost state, their invariants allocated. -/
def ghostI (c : Dev nD) : sProp 𝕄 :=
  iprop((bigSep Finset.univ fun j : P.J => iprop(∃ κ : ℕ, cellInv ER P.sched κ (P.cell c j)))
    ∗ (bigSep Finset.univ fun j : P.J => reached ER (P.cell c j) 0)
    ∗ (bigSep Finset.univ fun j : P.J => atPos ER (P.cell c j) 0 ∅ 0)
    ∗ bigSep Finset.univ fun j : P.J => dutyTok ER (P.cell c j) 0 ())

theorem alloc (c : Dev nD) : iprop(Pipeline.ownSems0 P.osem c ∗ P.ghost c) ⊢ iprop(|={Set.univ}=> P.ghostI c) := by
  have h : iprop((bigSep Finset.univ fun j : P.J => semVal (P.cell c j) 0) ∗ bigSep Finset.univ fun j : P.J => roundState ER P.sched (P.cell c j) 0)
      ⊢ (|={Set.univ}=> bigSep Finset.univ fun j : P.J => iprop(∃ κ : ℕ, cellInv ER P.sched κ (P.cell c j)) : sProp 𝕄) := by
    rw [← bigSep_sep']
    exact (bigSep_mono fun j _ => (Rounds.body_intro ER P.sched (P.cell c j)).trans inv_alloc).trans (bigSep_fupd _ _)
  unfold ghost ghostI Pipeline.ownSems0
  iintro ⟨Hv, Hst, Hr⟩
  imod h $$ [Hv Hst] with Hinv
  · isplitl [Hv]; · iexact Hv
    iexact Hst
  imodintro
  isplitl [Hinv]; · iexact Hinv
  iexact Hr

/-- What a device holds for a copy and keeps, what it holds and hands to the copy's peer. -/
def keep (c : Dev nD) : sProp 𝕄 :=
  iprop(((bigSep Finset.univ fun t => P.srcP t c) ∗ (bigSep Finset.univ fun t => dutyTok ER (P.cell c (P.S t)) 0 ())
      ∗ (bigSep Finset.univ fun t => atPos ER (P.cell c (P.S t)) 0 ∅ 0) ∗ (bigSep Finset.univ fun t => atPos ER (P.cell c (P.V t)) 0 ∅ 0)
      ∗ (bigSep Finset.univ fun t => cred (tallyAt (P.cell c (P.V t)) () (P.amt t))))
    ∗ (bigSep Finset.univ fun l => P.rawP l c) ∗ (bigSep Finset.univ fun l => dutyTok ER (P.cell c (P.H l)) 0 ())
      ∗ bigSep Finset.univ fun l => atPos ER (P.cell c (P.H l)) 0 ∅ 0)
def give (c : Dev nD) : sProp 𝕄 := bigSep Finset.univ fun t => iprop(P.openP t c ∗ dutyTok ER (P.cell c (P.V t)) 0 ())
def got (c : Dev nD) : sProp 𝕄 := bigSep Finset.univ fun t => iprop(P.openP t (P.peer t c) ∗ dutyTok ER (P.cell (P.peer t c) (P.V t)) 0 ())

theorem core_zero (c : Dev nD) :
    P.core 0 c = iprop((bigSep Finset.univ fun t => P.res t c 0) ∗ bigSep Finset.univ fun l => P.resL l c 0) := rfl

theorem core_intro (c : Dev nD) : iprop(P.keep c ∗ P.got c) ⊢ P.core 0 c := by
  rw [core_zero]
  unfold keep got
  simp only [res, resL, bigSep_sep']
  iintro ⟨⟨⟨H1, H2, H3, H4, H5⟩, H6, H7, H8⟩, H9, H10⟩
  isplitl [H1 H2 H3 H4 H5 H9 H10]
  · isplitl [H1]; · iexact H1
    isplitl [H9]; · iexact H9
    isplitl [H2]; · iexact H2
    isplitl [H10]; · iexact H10
    isplitl [H3]; · iexact H3
    isplitl [H4] <;> iassumption
  isplitl [H6]; · iexact H6
  isplitl [H7] <;> iassumption

theorem give_got : (bigSep Finset.univ fun c : Dev nD => P.give c) ⊢ bigSep Finset.univ fun c : Dev nD => P.got c := by
  unfold give got
  rw [BI.bigSep_univ_comm, BI.bigSep_univ_comm (α := Dev nD)]
  refine Entails.of_eq (bigSep_congr fun t _ => ?_)
  exact bigSep_univ_equiv (⟨P.peer t, P.peer t, P.peer_peer t, P.peer_peer t⟩ : Dev nD ≃ Dev nD)
    (fun d => iprop(P.openP t d ∗ dutyTok ER (P.cell d (P.V t)) 0 ()))

theorem credits (c : Dev nD) : Pipeline.launchCred (P.owed 0) c ⊢ (bigSep Finset.univ fun t => cred (tallyAt (P.cell c (P.V t)) () (P.amt t)) : sProp 𝕄) := by
  rw [show P.owed 0 = fun d => ∑ t ∈ Finset.univ, tallyAt (P.cell (P.peer t d) (P.V t)) () (P.amt t) from
      funext fun d => Finset.sum_congr rfl fun t _ => if_neg (by omega), Pipeline.launchCred_sum]
  exact bigSep_mono fun t _ => Pipeline.launchCred_tallyAt (P.recv t) (P.peer t) (P.peer t) (P.peer_peer t) (P.peer_peer t) () (P.amt t) c

/-- The devices' invariants under one naming, and each device's start. -/
theorem deal (B : Dev nD → sProp 𝕄) :
    (bigSep Finset.univ fun c : Dev nD => iprop(B c ∗ ((bigSep Finset.univ fun j : P.J => iprop(∃ κ : ℕ, cellInv ER P.sched κ (P.cell c j)))
        ∗ (bigSep Finset.univ fun j : P.J => reached ER (P.cell c j) 0)) ∗ P.keep c ∗ P.give c))
      ⊢ bigSep Finset.univ fun c : Dev nD => iprop(B c ∗ P.entry c) := by
  rw [bigSep_sep', bigSep_sep', bigSep_sep', bigSep_sep', ← bigSep_univ_prod (fun x : Dev nD × P.J => iprop(∃ κ : ℕ, cellInv ER P.sched κ (P.cell x.1 x.2))),
    ← bigSep_univ_prod (fun x : Dev nD × P.J => (reached ER (P.cell x.1 x.2) 0 : sProp 𝕄)), bigSep_sep']
  iintro ⟨HB, ⟨HI, #HR⟩, Hk, Hg⟩
  ihave HK := (BI.bigSep_exists_pi Finset.univ (fun (x : Dev nD × P.J) (κ : ℕ) => (cellInv ER P.sched κ (P.cell x.1 x.2) : sProp 𝕄))) $$ HI
  icases HK with ⟨%K, #HI⟩
  ihave Hg := P.give_got $$ Hg
  isplitl [HB]; · iexact HB
  iapply (along (R := P.records K) (Φ := fun c => iprop(P.keep c ∗ P.got c)) (Ψ := P.entry) fun c => by
    unfold entry
    iintro ⟨HR, H⟩
    iexists K
    isplitl [HR]; · iexact HR
    iapply (P.core_intro c); iexact H)
  isplitr
  · unfold records; isplitl; · iexact HI
    iexact HR
  iapply (Entails.of_eq (bigSep_sep' Finset.univ P.keep P.got).symm)
  isplitl [Hk] <;> iassumption

section Launch

variable {Λ₀ : Labels} {Pn : Type} [Fintype Pn] [DecidableEq Pn]
variable (pcs : Pn → Pipeline.PCfg sig Λ₀ Val) (a : Dev nD → (p : Pn) → (pcs p).Adm)
  (phinj : Function.Injective (Pipeline.PerCore.cellOf (nD := nD) (τ := τ) (Pipeline.pinD pcs a)))
  (defs₀ : Defs nD τ sig Val Λ₀) (𝒱₀ : Variants)
  (p : Pn) (win : Pipeline.WinFacts₀ (pcs p).spec) (ho : Pipeline.OwnSemFacts (pcs p).spec P.osem)

/-- What of the boundary the exchange leaves alone. -/
def aside (c : Dev nD) : sProp 𝕄 :=
  iprop(scopedBufs (c.tc : Thread nD τ) ∗ Pipeline.PerCore.cellsSems0 (Pipeline.pinD pcs a) p c
    ∗ Pipeline.PerCore.idleSems0 (Pipeline.pinD pcs a) phinj p (fun _ => ho) c ∗ opIdle (c.tc : Thread nD τ))

include win in
theorem init (m : (ℓ : Loc nD τ sig) → Buf Val ℓ) (g : Dev nD → PrngReg) (Z : Dev nD → sProp 𝕄)
    (hsplit : ∀ c : Dev nD, unscopedBufs c (fun b => m ((c.tc : Thread nD τ).loc b))
      ⊢ iprop((bigSep Finset.univ fun t => P.srcP t c) ∗ (bigSep Finset.univ fun t => P.openP t c) ∗ (bigSep Finset.univ fun l => P.rawP l c) ∗ Z c)) :
    (bigSep Finset.univ (Start.holdings (P.owed 0) m g P.ghost))
      ⊢ iprop(|={Set.univ}=> bigSep Finset.univ fun c : Dev nD =>
          iprop((P.aside pcs a phinj p ho c ∗ owes (c.tc : Thread nD τ) (P.owed 0 c) ∅ ∗ Z c) ∗ P.entry c)) := by
  have h1 : ∀ c : Dev nD, Start.holdings (P.owed 0) m g P.ghost c ⊢ iprop(|={Set.univ}=>
      ((P.aside pcs a phinj p ho c ∗ owes (c.tc : Thread nD τ) (P.owed 0 c) ∅ ∗ Z c)
        ∗ ((bigSep Finset.univ fun j : P.J => iprop(∃ κ : ℕ, cellInv ER P.sched κ (P.cell c j)))
          ∗ (bigSep Finset.univ fun j : P.J => reached ER (P.cell c j) 0)) ∗ P.keep c ∗ P.give c)) := fun c => by
    have hss := Pipeline.PerCore.scopedSems0_split (Pipeline.pinD pcs a) phinj p (fun _ => win) (fun _ => ho)
      (Ix := Unit) (Val := Val) (Name := ℕ) (U := UU nD τ sig) (Lvl := ℕ) c
    have hbd : (boundary (c.tc : Thread nD τ) : sProp 𝕄)
        ⊢ iprop(scopedBufs (c.tc : Thread nD τ) ∗ ((Pipeline.PerCore.cellsSems0 (Pipeline.pinD pcs a) p c ∗ Pipeline.ownSems0 P.osem c)
          ∗ Pipeline.PerCore.idleSems0 (Pipeline.pinD pcs a) phinj p (fun _ => ho) c) ∗ opIdle (c.tc : Thread nD τ)) := by
      unfold boundary; rw [hss]
    have hsum : ∀ Φ : P.J → sProp 𝕄, bigSep Finset.univ Φ ⊢ iprop((bigSep Finset.univ fun t => Φ (P.S t)) ∗ (bigSep Finset.univ fun t => Φ (P.V t))
        ∗ bigSep Finset.univ fun l => Φ (P.H l)) := fun Φ => by
      rw [BI.bigSep_univ_sum, BI.bigSep_univ_sum]
      exact BI.Entails.refl _
    unfold Start.holdings
    iintro ⟨Hb, Hu, -, HO, Hcr, -, HG⟩
    ihave Hb := hbd $$ Hb
    icases Hb with ⟨Hsc, ⟨⟨Hcells, Hos⟩, Hidle⟩, Hidl⟩
    ihave Hu := (hsplit c) $$ Hu
    icases Hu with ⟨Hs, Ho, Hr, HZ⟩
    ihave Hcr := (P.credits c) $$ Hcr
    imod (P.alloc c) $$ [Hos HG] with HG
    · isplitl [Hos] <;> iassumption
    unfold ghostI
    icases HG with ⟨HI, HR, Hat, Htok⟩
    ihave Hat := (hsum fun j => atPos ER (P.cell c j) 0 ∅ 0) $$ Hat
    ihave Htok := (hsum fun j => dutyTok ER (P.cell c j) 0 ()) $$ Htok
    icases Hat with ⟨HaS, HaV, HaH⟩
    icases Htok with ⟨HtS, HtV, HtH⟩
    imodintro
    isplitl [Hsc Hcells Hidle Hidl HO HZ]
    · isplitl [Hsc Hcells Hidle Hidl]
      · unfold aside
        isplitl [Hsc]; · iexact Hsc
        isplitl [Hcells]; · iexact Hcells
        isplitl [Hidle] <;> iassumption
      isplitl [HO] <;> iassumption
    isplitl [HI HR]
    · isplitl [HI] <;> iassumption
    isplitl [Hs HtS HaS HaV Hcr Hr HtH HaH]
    · unfold keep
      isplitl [Hs HtS HaS HaV Hcr]
      · isplitl [Hs]; · iexact Hs
        isplitl [HtS]; · iexact HtS
        isplitl [HaS]; · iexact HaS
        isplitl [HaV] <;> iassumption
      isplitl [Hr]; · iexact Hr
      isplitl [HtH] <;> iassumption
    unfold give
    iapply (Entails.of_eq (bigSep_sep' Finset.univ (fun t => P.openP t c) fun t => dutyTok ER (P.cell c (P.V t)) 0 ()).symm)
    isplitl [Ho] <;> iassumption
  exact ((bigSep_mono fun c _ => h1 c).trans (bigSep_fupd _ _)).trans
    (BI.fupd_mono (P.deal fun c => iprop(P.aside pcs a phinj p ho c ∗ owes (c.tc : Thread nD τ) (P.owed 0 c) ∅ ∗ Z c)))

include win in
/-- The exchange call, on one device: from its share of the start, to what the copies leave. -/
theorem region [∀ e, Nonempty (Val e)]
    (pdats : (p : Pn) → (c : Dev nD) → Pipeline.Dat τ Val Unit ℕ (UU nD τ sig) ℕ (Pipeline.pinD pcs a c p) c)
    (stage_whole : ∀ w s, (((pcs p).spec w).stage s).IsWhole) (block_pos : ∀ c (w : Fin (Pipeline.pinD pcs a c p).W), 0 < ((Pipeline.pinD pcs a c p).win w).block.numel)
    (hW : (pcs p).W = 0) (hK : (pcs p).pre.K = 0) (c : Dev nD)
    (hdat : pdats p c = P.dat (Pipeline.pinD pcs a c p) hW (Pipeline.scopedRest (pcs p).spec c) c)
    (hN : (Pipeline.pinD pcs a c p).N = 1)
    (hbody : ∀ (K : Dev nD × P.J → ℕ) (t : Fin (Pipeline.pinD pcs a c p).N) (Q : Λ₀.Result (Pipeline.pinD pcs a c p).body → sProp 𝕄),
      (∀ v, P.st K P.total c ⊢ iprop(|={Set.univ}=> Q v)) →
      (P.st K 0 c ⊢ wp frame (wpE defs₀ 𝒱₀ (c.tc : Thread nD τ) none) Set.univ
        (defs₀ .tc (Pipeline.pinD pcs a c p).body ((Pipeline.pinD pcs a c p).bodyArgs t ((Pipeline.pinD pcs a c p).slots t))) Q))
    (S : Finset Pn) (hp : p ∈ S) (X : sProp 𝕄)
    {α : Type} (k : PUnit → Prog (TpuEff nD τ sig Val (Pipeline.Sig Λ₀ Pn fun p => (pcs p).Adm) .tc) α) (Q : α → sProp 𝕄)
    (htail : iprop(boundary (c.tc : Thread nD τ) ∗ (P.fin c ∗ X) ∗ (∃ W, owes (c.tc : Thread nD τ) (0 : CellTallies nD τ sig Unit) W)
        ∗ Pipeline.PerCore.ghostOn pcs a EP (S.erase p) c)
      ⊢ wp frame (wpE (Pipeline.defs pcs defs₀) (Variants.lift 𝒱₀) (c.tc : Thread nD τ) none) Set.univ (k ⟨⟩) Q) :
    iprop(((P.aside pcs a phinj p ho c ∗ owes (c.tc : Thread nD τ) (P.owed 0 c) ∅ ∗ X) ∗ P.entry c) ∗ Pipeline.PerCore.ghostOn pcs a EP S c)
      ⊢ wp frame (wpE (Pipeline.defs pcs defs₀) (Variants.lift 𝒱₀) (c.tc : Thread nD τ) none) Set.univ
          (.op (.customCall (Pipeline.entry p) ()) k) Q := by
  have hss := Pipeline.PerCore.scopedSems0_split (Pipeline.pinD pcs a) phinj p (fun _ => win) (fun _ => ho)
    (Ix := Unit) (Val := Val) (Name := ℕ) (U := UU nD τ sig) (Lvl := ℕ) c
  have hsb := Pipeline.PerCore.scopedBufs_split (Pipeline.pinD pcs a) p c win.stage_scoped win.stage_inj stage_whole
    (nD := nD) (τ := τ) (Ix := Unit) (Val := Val) (Name := ℕ) (U := UU nD τ sig) (Lvl := ℕ)
  have hΦ0 : (pdats p c).Φ 0 = iprop(P.entry c ∗ Pipeline.scopedRest (pcs p).spec c) := by rw [hdat]; rfl
  have hΦ1 : (pdats p c).Φ (Fin.last _) = iprop(P.exit c ∗ Pipeline.scopedRest (pcs p).spec c) := by
    rw [hdat]; exact if_neg (by rw [Fin.val_last, hN]; exact one_ne_zero)
  have ho0 : (pdats p c).owed 0 = P.owed 0 c := by rw [hdat]; rfl
  have ho1 : (pdats p c).owed (Fin.last _) = 0 := by rw [hdat]; exact if_neg (by rw [Fin.val_last, hN]; exact one_ne_zero)
  have hrec : (pdats p c).recorded 0 = Set.univ := by rw [hdat]; rfl
  have hob : Pipeline.BodyObligationLoose (pdats p c) defs₀ 𝒱₀ () Set.univ := by
    rw [hdat]; exact P.body (Pipeline.pinD pcs a c p) hW hN defs₀ 𝒱₀ _ c hbody
  have harr : ∀ G, (pdats p c).arrays G = (BI.emp : sProp 𝕄) := fun G => no_windows (n := (Pipeline.pinD pcs a c p).W) hW _
  have hwt : (Pipeline.PerCore.cellsWaits (Pipeline.pinD pcs a) pdats () p c : sProp 𝕄) = BI.emp :=
    no_windows (n := (Pipeline.pinD pcs a c p).W) hW _
  have hpf : (Pipeline.prefHeld (pcs p).pre c (fun _ => fullShare) (a c p).1 : sProp 𝕄) = BI.emp := no_windows hK _
  have hin : iprop(P.entry c ∗ Pipeline.prefHeld (pcs p).pre c (fun _ => fullShare) (a c p).1 ∗ Pipeline.scopedRest (pcs p).spec c) ⊢ (pdats p c).Φ 0 := by
    rw [hΦ0]
    iintro ⟨H1, -, H2⟩
    isplitl [H1] <;> iassumption
  have hout : iprop((pdats p c).Φ (Fin.last (Pipeline.pinD pcs a c p).N) ∗ Pipeline.PerCore.cellsSems0 (Pipeline.pinD pcs a) p c
        ∗ Pipeline.Dat.staging (Pipeline.pinD pcs a c p) c ∗ Pipeline.PerCore.idleSems0 (Pipeline.pinD pcs a) phinj p (fun _ => ho) c)
      ⊢ iprop(P.fin c ∗ scopedSems0 (c.tc : Thread nD τ) ∗ scopedBufs (c.tc : Thread nD τ)) := by
    rw [hss, hsb, hΦ1]
    unfold exit
    iintro ⟨⟨⟨HY, Hos⟩, Hrest⟩, Hcells, Hst, Hidle⟩
    isplitl [HY]; · iexact HY
    isplitl [Hcells Hos Hidle]
    · isplitl [Hcells Hos]; · isplitl [Hcells] <;> iassumption
      iexact Hidle
    isplitl [Hst] <;> iassumption
  unfold aside
  rw [Pipeline.PerCore.ghostOn_erase pcs a EP hp c]
  iintro ⟨⟨⟨⟨Hsc, Hcells, Hidle, Hidl⟩, HO, HX⟩, He⟩, ⟨Hg, Ht⟩, Hgr⟩
  iapply (fupd_wp frame (wpE (Pipeline.defs pcs defs₀) (Variants.lift 𝒱₀) (c.tc : Thread nD τ) none) Set.univ _ _)
  imod (Pipeline.PerCore.cellsInit_alloc (Pipeline.pinD pcs a) pdats EP phinj p c) $$ [Hcells Hg] with ⟨%κ, -, Hinit⟩
  · isplitl [Hcells] <;> iassumption
  imodintro
  iapply (Pipeline.PerCore.wp_customCall_entry_frame pcs a pdats () EP κ phinj p defs₀ 𝒱₀ (fun _ => fullShare) c Set.univ (fun _ _ => Set.mem_univ _)
      hob (block_pos c) none (fun _ h => by cases h) (X := P.entry c) (Y := P.fin c) (R := Pipeline.scopedRest (pcs p).spec c)
      (I := Pipeline.PerCore.idleSems0 (Pipeline.pinD pcs a) phinj p (fun _ => ho) c) (Entails.of_eq hsb) hin hout (k := k) (Q := Q)) $$ [HO Hinit Ht He Hidle Hsc]
  · isplitl [HO Hinit Ht]
    · unfold Pipeline.PerCore.EntryPre
      isplitr; · iapply (Entails.of_eq (harr _).symm); iempintro
      isplitl [HO]
      · unfold Pipeline.Dat.owesAt Pipeline.owesWithin
        iexists ∅
        isplitr; · ipureintro; exact fun _ h => absurd h (by simp)
        iapply (Entails.of_eq (congrArg (fun O => owes (c.tc : Thread nD τ) O ∅) ho0.symm)); iexact HO
      isplitr; · iapply (Entails.of_eq hwt.symm); iempintro
      isplitl [Hinit] <;> iassumption
    isplitr; · iapply (Entails.of_eq hpf.symm); iempintro
    isplitl [He]; · iexact He
    isplitl [Hidle]; · iexact Hidle
    iexact Hsc
  iintro ⟨Hpost, HY, Hss2, Hsc2⟩
  unfold Pipeline.PerCore.EntryPost
  icases Hpost with ⟨-, HO⟩
  unfold Pipeline.Dat.owesAt Pipeline.owesWithin
  icases HO with ⟨%W, -, HO⟩
  ihave HO := (Entails.of_eq (congrArg (fun O => owes (c.tc : Thread nD τ) O W) ho1)) $$ HO
  ihave Hbd2 := (show iprop(scopedBufs (c.tc : Thread nD τ) ∗ scopedSems0 (c.tc : Thread nD τ) ∗ opIdle (c.tc : Thread nD τ))
      ⊢ boundary (c.tc : Thread nD τ) from BI.Entails.refl _) $$ [Hsc2 Hss2 Hidl]
  · isplitl [Hsc2]; · iexact Hsc2
    isplitl [Hss2]; · iexact Hss2
    iexact Hidl
  iapply htail
  isplitl [Hbd2]; · iexact Hbd2
  isplitl [HY HX]; · isplitl [HY] <;> iassumption
  isplitl [HO]; · iexists W; iexact HO
  iexact Hgr

include win ho phinj in
/-- Every fair run of a program whose first call is the exchange: it ends, in a memory with `Q`. -/
theorem launch [∀ e, Nonempty (Val e)]
    (pdats : (p : Pn) → (c : Dev nD) → Pipeline.Dat τ Val Unit ℕ (UU nD τ sig) ℕ (Pipeline.pinD pcs a c p) c)
    (stage_whole : ∀ w s, (((pcs p).spec w).stage s).IsWhole) (block_pos : ∀ c (w : Fin (Pipeline.pinD pcs a c p).W), 0 < ((Pipeline.pinD pcs a c p).win w).block.numel)
    (hW : (pcs p).W = 0) (hK : (pcs p).pre.K = 0)
    (hdat : ∀ c, pdats p c = P.dat (Pipeline.pinD pcs a c p) hW (Pipeline.scopedRest (pcs p).spec c) c)
    (hN : ∀ c, (Pipeline.pinD pcs a c p).N = 1)
    (hbody : ∀ (c : Dev nD) (K : Dev nD × P.J → ℕ) (t : Fin (Pipeline.pinD pcs a c p).N) (Q : Λ₀.Result (Pipeline.pinD pcs a c p).body → sProp 𝕄),
      (∀ v, P.st K P.total c ⊢ iprop(|={Set.univ}=> Q v)) →
      (P.st K 0 c ⊢ wp frame (wpE defs₀ 𝒱₀ (c.tc : Thread nD τ) none) Set.univ
        (defs₀ .tc (Pipeline.pinD pcs a c p).body ((Pipeline.pinD pcs a c p).bodyArgs t ((Pipeline.pinD pcs a c p).slots t))) Q))
    (m : (ℓ : Loc nD τ sig) → Buf Val ℓ) (g : Dev nD → PrngReg) (Z : Dev nD → sProp 𝕄)
    (hsplit : ∀ c : Dev nD, unscopedBufs c (fun b => m ((c.tc : Thread nD τ).loc b))
      ⊢ iprop((bigSep Finset.univ fun t => P.srcP t c) ∗ (bigSep Finset.univ fun t => P.openP t c) ∗ (bigSep Finset.univ fun l => P.rawP l c) ∗ Z c))
    (main : Dev nD → Prog (TpuEff nD τ sig Val (Pipeline.Sig Λ₀ Pn fun p => (pcs p).Adm) .tc) PUnit)
    (k : Dev nD → PUnit → Prog (TpuEff nD τ sig Val (Pipeline.Sig Λ₀ Pn fun p => (pcs p).Adm) .tc) PUnit)
    (hmain : ∀ c, main c = .op (.customCall (Pipeline.entry p) ()) (k c)) (Tₙ : Dev nD → sProp 𝕄)
    (htail : ∀ c, iprop(boundary (c.tc : Thread nD τ) ∗ (P.fin c ∗ Z c) ∗ (∃ W, owes (c.tc : Thread nD τ) (0 : CellTallies nD τ sig Unit) W)
        ∗ Pipeline.PerCore.ghostOn pcs a EP (Finset.univ.erase p) c)
      ⊢ wp frame (wpE (Pipeline.defs pcs defs₀) (Variants.lift 𝒱₀) (c.tc : Thread nD τ) none) Set.univ (k c ⟨⟩)
          (fun _ => iprop((Tₙ c ∗ boundary (c.tc : Thread nD τ)) ∗ ∃ W, owes (c.tc : Thread nD τ) (0 : CellTallies nD τ sig Unit) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q :=
  Start.run pcs a phinj EP defs₀ 𝒱₀ m g main (P.owed 0) P.ghost
    (initOf (Pipeline.PerCore.cells (Pipeline.pinD pcs a) phinj) (Pipeline.PerCore.launchToks (Pipeline.pinD pcs a) phinj), initOf P.cells P.toks)
    (by
      iintro Hu
      ihave H := (ownU_pair _ _) $$ Hu
      icases H with ⟨HP, HX⟩
      imod P.fund $$ HX with HG
      imodintro
      isplitl [HP] <;> iassumption)
    (fun c => iprop((P.aside pcs a phinj p ho c ∗ owes (c.tc : Thread nD τ) (P.owed 0 c) ∅ ∗ Z c) ∗ P.entry c)) Tₙ
    (P.init pcs a phinj p win ho m g Z hsplit)
    (fun c => by
      rw [hmain c]
      exact P.region pcs a phinj defs₀ 𝒱₀ p win ho pdats stage_whole block_pos hW hK c (hdat c) (hN c) (hbody c) Finset.univ (Finset.mem_univ p)
        (Z c) (k c) _ (htail c))
    QY hfin hQ

end Launch

end Plan

end Cert.Exchange

end
-- ==== Proof.Copies.lean ====
/-
An exchange given by its copies: each remote copy by the piece it reads, the piece it opens on the receiver and the piece
it leaves there, each local copy likewise; the plan they make, its two starting rules, and what the memory is at the end.
-/
module

public import proofs.«01_k».proof.Proof.ExchangeRun

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type}

local notation "𝕄" => MT nD τ sig Unit Val ℕ (UU nD τ sig) ℕ

/-- Part of a buffer, held at a share with contents. -/
structure Piece (nD : ℕ) (τ : Topo) (sig : RefSig) (Val : EltTy → Type) where
  ℓ : Loc nD τ sig
  S : Finset (Idx ℓ)
  q : PosShare TreeShare
  f : Buf Val ℓ

def Piece.own (p : Piece nD τ sig Val) : sProp 𝕄 := p.ℓ ↦[p.S]{p.q} p.f

def Piece.Holds (p : Piece nD τ sig Val) (s : MemSt nD τ sig Val) : Prop := ∀ i ∈ p.S, s.mem p.ℓ i = p.f i

instance (p : Piece nD τ sig Val) : BI.Storable (upEmb : UEmb _ (Res nD τ sig Val)) p.own := by unfold Piece.own; infer_instance

theorem Piece.read (p : Piece nD τ sig Val) (s : Phys nD τ sig Val) : iprop(SI s ∗ p.own) ⊢ (⌜p.Holds s.mem⌝ : sProp 𝕄) :=
  SI_pointsTo_agree

section Views

variable {sp sp' : Space} {s : Shape} {e : EltTy} (m : (ℓ : Loc nD τ sig) → Buf Val ℓ)
  (src : Dev nD → Memref sig .tc sp s e) (dst : Dev nD → Memref sig .tc sp' s e)

/-- What a view of device `c` covers of its own memory, at share `q`. -/
def readPiece (q : PosShare TreeShare) (c : Dev nD) : Piece nD τ sig Val :=
  ⟨(src c).view.loc (c.tc : Thread nD τ), (src c).view.set, q, m _⟩

/-- What a view of device `c` covers of device `d`'s memory. -/
def openPiece (c d : Dev nD) : Piece nD τ sig Val :=
  ⟨(dst c).view.loc (d.tc : Thread nD τ), (dst c).view.set, fullShare, m _⟩

/-- The same after `c`'s copy to `d`. -/
def landPiece (c d : Dev nD) : Piece nD τ sig Val :=
  ⟨(dst c).view.loc (d.tc : Thread nD τ), (dst c).view.set, fullShare,
    (dst c).view.write Val (m ((dst c).view.loc (d.tc : Thread nD τ))) ((src c).view.read Val (m ((src c).view.loc (c.tc : Thread nD τ)))) Finset.univ⟩

theorem readPiece_whole (b : Ref sig .tc) (q : PosShare TreeShare) (c : Dev nD) :
    (readPiece m (fun _ => Memref.whole b) q c).own = (((c.tc : Thread nD τ).loc b) ↦{q} m ((c.tc : Thread nD τ).loc b) : sProp 𝕄) := by
  unfold readPiece Piece.own
  dsimp only
  rw [View.set_whole]

theorem openPiece_whole (b : Ref sig .tc) (c d : Dev nD) :
    (openPiece m (fun _ => Memref.whole b) c d).own = (((d.tc : Thread nD τ).loc b) ↦{fullShare} m ((d.tc : Thread nD τ).loc b) : sProp 𝕄) := by
  unfold openPiece Piece.own
  dsimp only
  rw [View.set_whole]

theorem readPiece_whole_holds {b : Ref sig .tc} {q : PosShare TreeShare} {c : Dev nD} {s : MemSt nD τ sig Val}
    (h : (readPiece m (fun _ => Memref.whole b) q c).Holds s) : s.mem ((c.tc : Thread nD τ).loc b) = m ((c.tc : Thread nD τ).loc b) :=
  funext fun i => h i (by show i ∈ (View.whole b).set; rw [View.set_whole]; exact Finset.mem_univ i)

end Views

structure Copies (nD : ℕ) (τ : Topo) (sig : RefSig) (Val : EltTy → Type) where
  nr : ℕ
  nl : ℕ
  send : Fin nr → SemLoc sig
  recv : Fin nr → SemLoc sig
  loc : Fin nl → SemLoc sig
  inj : Function.Injective (Sum.elim send (Sum.elim recv loc))
  routes : ∀ c d : Dev nD, τ.routes (c.tc : Thread nD τ) (d.tc : Thread nD τ) = true
  peer : Fin nr → Dev nD → Dev nD
  peer_peer : ∀ t c, peer t (peer t c) = c
  amt : Fin nr → ℕ
  amt_pos : ∀ t, 0 < amt t
  amtL : Fin nl → ℕ
  amtL_pos : ∀ l, 0 < amtL l
  src : Fin nr → Dev nD → Piece nD τ sig Val
  opn : Fin nr → Dev nD → Dev nD → Piece nD τ sig Val
  land : Fin nr → Dev nD → Dev nD → Piece nD τ sig Val
  lsrc : Fin nl → Dev nD → Piece nD τ sig Val
  lopn : Fin nl → Dev nD → Piece nD τ sig Val
  lland : Fin nl → Dev nD → Piece nD τ sig Val

namespace Copies

variable (C : Copies nD τ sig Val)

def plan : Plan nD τ sig Val where
  nr := C.nr
  nl := C.nl
  send := C.send
  recv := C.recv
  loc := C.loc
  inj := C.inj
  routes := C.routes
  peer := C.peer
  peer_peer := C.peer_peer
  amt := C.amt
  amt_pos := C.amt_pos
  amtL := C.amtL
  amtL_pos := C.amtL_pos
  srcP t c := (C.src t c).own
  openP t d := (C.opn t (C.peer t d) d).own
  landP t d := (C.land t (C.peer t d) d).own
  rawP l c := iprop((C.lsrc l c).own ∗ (C.lopn l c).own)
  locP l c := iprop((C.lland l c).own ∗ (C.lsrc l c).own)
  srcS t c := inferInstance
  landS t c := inferInstance
  locS l c := inferInstance

section Rules

variable {Λ : Labels} (defs : Defs nD τ sig Val Λ) (𝒱 : Variants) (K : Dev nD × C.plan.J → ℕ) (c : Dev nD)
variable {sp sp' : Space} {s : Shape} {e : EltTy} (m : (ℓ : Loc nD τ sig) → Buf Val ℓ)
  (src : Dev nD → Memref sig .tc sp s e) (dst : Dev nD → Memref sig .tc sp' s e)

theorem remote (t : Fin C.nr) (n : ℕ) (hn : n = C.nl + t) {d : Dev nD} (hd : d = C.peer t c) {sS sem : SemLoc sig}
    {hsc : (dst c : Memref sig (Dev.tc d : Thread nD τ).2.kind sp' s e).view.ref.isScScratch = false}
    {hsrc : (src c).view.WordExact} {hdst : (dst c).view.WordExact}
    {hsem : DmaTarget.Typed (nD := nD) (p := (Proc.tc : Proc τ)) sp sem (.remote (Dev.tc d : Thread nD τ) (dst c) sS hsc)}
    (hs : sS = C.send t) (hv : sem = C.recv t) (hN : (dst c).view.amount sem = C.amt t) {q : PosShare TreeShare}
    (h1 : C.src t c = readPiece m src q c) (h2 : C.opn t c d = openPiece m dst c d) (h3 : C.land t c d = landPiece m src dst c d)
    {α : Type} {Q : α → sProp 𝕄} {k : PUnit → Prog (TpuEff nD τ sig Val Λ .tc) α}
    (hk : C.plan.st K (n + 1) c ⊢ wp frame (wpE defs 𝒱 (c.tc : Thread nD τ) none) Set.univ (k ⟨⟩) Q) :
    C.plan.st K n c ⊢ wp frame (wpE defs 𝒱 (c.tc : Thread nD τ) none) Set.univ
      (.op (.enqueueDma (src c) (.remote (Dev.tc d : Thread nD τ) (dst c) sS hsc) sem hsrc hdst hsem) k) Q := by
  have hp : C.peer t d = c := by rw [hd, C.peer_peer]
  refine C.plan.start_remote defs 𝒱 K c t n hn hd hs hv hN (q := q) (fs := m _) (fd := m _) ?_ ?_ ?_ ?_ hk
  · show (C.src t c).own ⊢ _
    rw [h1]; exact BI.Entails.refl _
  · show (C.opn t (C.peer t d) d).own ⊢ _
    rw [hp, h2]; exact BI.Entails.refl _
  · show _ ⊢ (C.src t c).own
    rw [h1]; exact BI.Entails.refl _
  · show _ ⊢ (C.land t (C.peer t d) d).own
    rw [hp, h3]; exact BI.Entails.refl _

theorem here (l : Fin C.nl) (n : ℕ) (hn : n = l) {sem : SemLoc sig}
    {hsrc : (src c).view.WordExact} {hdst : (dst c).view.WordExact} {hsem : DmaTarget.Typed (nD := nD) (p := (Proc.tc : Proc τ)) sp sem (.here (dst c))}
    (hs : sem = C.loc l) (hN : (dst c).view.amount sem = C.amtL l) {q : PosShare TreeShare}
    (h1 : C.lsrc l c = readPiece m src q c) (h2 : C.lopn l c = openPiece m dst c c) (h3 : C.lland l c = landPiece m src dst c c)
    {α : Type} {Q : α → sProp 𝕄} {k : PUnit → Prog (TpuEff nD τ sig Val Λ .tc) α}
    (hk : C.plan.st K (n + 1) c ⊢ wp frame (wpE defs 𝒱 (c.tc : Thread nD τ) none) Set.univ (k ⟨⟩) Q) :
    C.plan.st K n c ⊢ wp frame (wpE defs 𝒱 (c.tc : Thread nD τ) none) Set.univ (.op (.enqueueDma (src c) (.here (dst c)) sem hsrc hdst hsem) k) Q := by
  refine C.plan.start_local defs 𝒱 K c l n hn hs hN (q := q) (fs := m _) (fd := m _) ?_ ?_ hk
  · show iprop((C.lsrc l c).own ∗ (C.lopn l c).own) ⊢ _
    rw [h1, h2]; exact BI.Entails.refl _
  · show _ ⊢ iprop((C.lland l c).own ∗ (C.lsrc l c).own)
    rw [h1, h3]; exact BI.Entails.refl _

end Rules

/-- The memory after the copies, on device `c`. -/
def Done (c : Dev nD) (s : MemSt nD τ sig Val) : Prop :=
  (∀ t, (C.src t c).Holds s ∧ (C.land t (C.peer t c) c).Holds s) ∧ ∀ l, (C.lland l c).Holds s ∧ (C.lsrc l c).Holds s

theorem with_pure {φ : Prop} {A : sProp 𝕄} (h : A ⊢ (⌜φ⌝ : sProp 𝕄)) : A ⊢ iprop(⌜φ⌝ ∗ A) :=
  Laws.pure_elim φ h fun hφ => by
    iintro H
    isplitr; · ipureintro; exact hφ
    iexact H

theorem both {φ ψ : Prop} {A : sProp 𝕄} (h : A ⊢ (⌜φ⌝ : sProp 𝕄)) (h' : A ⊢ (⌜ψ⌝ : sProp 𝕄)) : A ⊢ (⌜φ ∧ ψ⌝ : sProp 𝕄) :=
  Laws.pure_elim φ h fun a => h'.trans (Laws.pure_mono fun b => ⟨a, b⟩)

theorem read_all {I : Type} [Fintype I] [DecidableEq I] (s : Phys nD τ sig Val) (Φ : I → sProp 𝕄) (φ : I → Prop)
    (h : ∀ i, iprop(SI s ∗ Φ i) ⊢ (⌜φ i⌝ : sProp 𝕄)) : iprop(SI s ∗ bigSep Finset.univ Φ) ⊢ (⌜∀ i, φ i⌝ : sProp 𝕄) := by
  refine (forall_intro fun i => ?_).trans Laws.pure_forall.2
  iintro ⟨HS, H⟩
  ihave Hi := (show bigSep Finset.univ Φ ⊢ Φ i from bigSep_elim (Finset.mem_univ i)) $$ H
  iapply (h i)
  isplitl [HS] <;> iassumption

theorem read_two (p p' : Piece nD τ sig Val) (s : Phys nD τ sig Val) :
    iprop(SI s ∗ p.own ∗ p'.own) ⊢ (⌜p.Holds s.mem ∧ p'.Holds s.mem⌝ : sProp 𝕄) := by
  refine both ?_ ?_
  · iintro ⟨HS, Hp, -⟩
    iapply (p.read s)
    isplitl [HS] <;> iassumption
  · iintro ⟨HS, -, Hp⟩
    iapply (p'.read s)
    isplitl [HS] <;> iassumption

theorem read (c : Dev nD) (s : Phys nD τ sig Val) :
    iprop(C.plan.fin c ∗ SI s) ⊢ iprop(|={Set.univ}=> iprop(⌜C.Done c s.mem⌝ ∗ SI s)) := by
  have h : iprop(C.plan.fin c ∗ SI s) ⊢ (⌜C.Done c s.mem⌝ : sProp 𝕄) := by
    refine both ?_ ?_
    · unfold Plan.fin
      iintro ⟨⟨Hr, -⟩, HS⟩
      iapply (read_all s (fun t => iprop(C.plan.srcP t c ∗ C.plan.landP t c)) _ fun t => read_two _ _ s)
      isplitl [HS] <;> iassumption
    · unfold Plan.fin
      iintro ⟨⟨-, Hl⟩, HS⟩
      iapply (read_all s (fun l => C.plan.locP l c) _ fun l => read_two _ _ s)
      isplitl [HS] <;> iassumption
  refine (with_pure h).trans ?_
  iintro ⟨%hφ, -, HS⟩
  imodintro
  isplitr; · ipureintro; exact hφ
  iexact HS

section Run

variable {Λ₀ : Labels} (cfgs : Fin 1 → Pipeline.Cfg sig Λ₀) (defs₀ : Defs nD τ sig Val Λ₀) (𝒱₀ : Variants)

abbrev pcs : Fin 1 → Pipeline.PCfg sig Λ₀ Val := fun p => (cfgs p).toPCfg
abbrev adm : Dev nD → (p : Fin 1) → (pcs (Val := Val) cfgs p).Adm := fun _ p => (cfgs p).toPCfg_adm

/-- A program that is the call of an exchange and nothing after it. -/
theorem run [∀ e, Nonempty (Val e)] (phinj : Function.Injective (Pipeline.cellOf (nD := nD) (τ := τ) cfgs))
    (win : Pipeline.WinFacts₀ (cfgs 0).spec) (ho : Pipeline.OwnSemFacts (cfgs 0).spec C.plan.osem)
    (stage_whole : ∀ w s, (((cfgs 0).spec w).stage s).IsWhole) (block_pos : ∀ w : Fin (cfgs 0).W, 0 < ((cfgs 0).win w).block.numel)
    (hW : ∀ p, (cfgs p).W = 0) (hN : (cfgs 0).N = 1)
    (hbody : ∀ (c : Dev nD) (K : Dev nD × C.plan.J → ℕ) (t : Fin (cfgs 0).N) (Q : Λ₀.Result (cfgs 0).body → sProp 𝕄),
      (∀ v, C.plan.st K C.plan.total c ⊢ iprop(|={Set.univ}=> Q v)) →
      (C.plan.st K 0 c ⊢ wp frame (wpE defs₀ 𝒱₀ (c.tc : Thread nD τ) none) Set.univ
        (defs₀ .tc (cfgs 0).body ((cfgs 0).bodyArgs t ((cfgs 0).slots t))) Q))
    (m : (ℓ : Loc nD τ sig) → Buf Val ℓ) (g : Dev nD → PrngReg)
    (hsplit : ∀ c : Dev nD, unscopedBufs c (fun b => m ((c.tc : Thread nD τ).loc b))
      ⊢ iprop((bigSep Finset.univ fun t => C.plan.srcP t c) ∗ (bigSep Finset.univ fun t => C.plan.openP t c) ∗ bigSep Finset.univ fun l => C.plan.rawP l c))
    (main : Dev nD → Prog (TpuEff nD τ sig Val (Pipeline.Sig Λ₀ (Fin 1) fun p => (pcs (Val := Val) cfgs p).Adm) .tc) PUnit)
    (hmain : ∀ c, main c = .op (.customCall (Pipeline.entry 0) ()) fun _ => .ret ⟨⟩)
    (hsc : ∀ sm : SemLoc sig, sm.isScoped .tc = true) :
    θ_run (Pipeline.defs (pcs cfgs) defs₀) (onTc main) ⟨m, fun _ => 0, g⟩ fun r => (∀ c, C.Done c r.2) ∧ r.2.sem = fun _ => 0 :=
  C.plan.launch (pcs cfgs) (adm cfgs) phinj defs₀ 𝒱₀ 0 win ho
    (fun p c => C.plan.dat (cfgs p) (hW p) (Pipeline.scopedRest (cfgs p).spec c) c) stage_whole (fun _ => block_pos) (hW 0) rfl (fun _ => rfl) (fun _ => hN)
    (fun c K t Q h => hbody c K t Q h) m g (fun _ => BI.emp)
    (fun c => (hsplit c).trans (by
      iintro ⟨H1, H2, H3⟩
      isplitl [H1]; · iexact H1
      isplitl [H2]; · iexact H2
      isplitl [H3]; · iexact H3
      iempintro))
    main (fun _ _ => .ret ⟨⟩) hmain (fun c => C.plan.fin c)
    (fun c => by
      iintro ⟨Hb, ⟨Hf, -⟩, HO, -⟩
      rw [wp_ret]
      imodintro
      isplitl [Hf Hb]; · isplitl [Hf] <;> iassumption
      iexact HO)
    (fun c s => C.Done c s) (fun c s => C.read c s)
    (fun s h hs => ⟨h, funext fun g' => hs g' (by
      by_cases hp : g'.1.2 = .tc
      · exact .inr (by obtain ⟨⟨d, p⟩, sm⟩ := g'; cases hp; exact hsc sm)
      · exact .inl hp)⟩)

end Run

end Copies

end Cert.Exchange

end
-- ==== Proof.Slots.lean ====
/-
One slot of a stack of four arrays, as a view: what it covers, what it reads, the stack as its four slots.
-/
module

public import proofs.«01_k».proof.Proof.Copies

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type}

local notation "𝕄" => MT nD τ sig Unit Val ℕ (UU nD τ sig) ℕ

variable {sp : Space} {e : EltTy} {r w : ℕ}

/-- The slot at offset `off` of a stack of four `r × w` arrays. -/
abbrev slot (M : Memref sig .tc sp ⟨3, ![4, r, w]⟩ e) (off : Fin 3 → ℕ) (inb : ∀ a, off a + ![1, r, w] a ≤ ![4, r, w] a)
    (sq : (⟨3, ![1, r, w]⟩ : Shape).Squeezes ⟨2, ![r, w]⟩) : Memref sig .tc sp ⟨2, ![r, w]⟩ e :=
  (M.slice (Rect.unit (s := ⟨3, ![4, r, w]⟩) off ![1, r, w] inb) (fun _ => rfl)).squeeze ⟨2, ![r, w]⟩ sq

/-- `off` is the start of slot `k`. -/
def At (off : Fin 3 → ℕ) (k : ℕ) : Prop := off 0 = k ∧ off 1 = 0 ∧ off 2 = 0

instance (off : Fin 3 → ℕ) (k : ℕ) : Decidable (At off k) := inferInstanceAs (Decidable (_ ∧ _))

/-- Element `x` of slot `k`. -/
def place (k : Fin 4) (x : (⟨2, ![r, w]⟩ : Shape).Idx) : (⟨3, ![4, r, w]⟩ : Shape).Idx := fun
  | ⟨0, _⟩ => k | ⟨1, _⟩ => x 0 | ⟨2, _⟩ => x 1

variable (M : Memref sig .tc sp ⟨3, ![4, r, w]⟩ e) (off : Fin 3 → ℕ) (inb : ∀ a, off a + ![1, r, w] a ≤ ![4, r, w] a)
  (sq : (⟨3, ![1, r, w]⟩ : Shape).Squeezes ⟨2, ![r, w]⟩)

theorem slot_emb (k : Fin 4) (h : At off k) (x : (⟨2, ![r, w]⟩ : Shape).Idx) :
    (slot M off inb sq).view.emb x = M.view.emb (place k x) := by
  show M.view.emb ((Rect.unit (s := ⟨3, ![4, r, w]⟩) off ![1, r, w] inb).emb (Shape.reshapeEquiv sq.numel_eq x)) = _
  rw [Shape.reshapeEquiv_cons_one]
  refine congrArg M.view.emb (funext fun a => Fin.ext ?_)
  match a with
  | ⟨0, _⟩ => show off 0 + 1 * 0 = k.val; rw [h.1]; rfl
  | ⟨1, _⟩ => show off 1 + 1 * (x 0).val = (x 0).val; rw [h.2.1]; omega
  | ⟨2, _⟩ => show off 2 + 1 * (x 1).val = (x 1).val; rw [h.2.2]; omega

theorem slot_read (k : Fin 4) (h : At off k) (f : M.view.ty.Contents Val) (x : (⟨2, ![r, w]⟩ : Shape).Idx) :
    (slot M off inb sq).view.read Val f x = M.view.read Val f (place k x) := by
  show cast _ (f ((slot M off inb sq).view.emb x)) = cast _ (f (M.view.emb (place k x)))
  rw [slot_emb M off inb sq k h]

theorem mem_slot (k : Fin 4) (h : At off k) (y : (⟨3, ![4, r, w]⟩ : Shape).Idx) :
    M.view.emb y ∈ (slot M off inb sq).view.set ↔ y 0 = k := by
  constructor
  · intro hy
    obtain ⟨x, -, hx⟩ := Finset.mem_map.1 hy
    rw [slot_emb M off inb sq k h] at hx
    rw [← M.view.emb.injective hx]
    rfl
  · rintro rfl
    have : y = place (r := r) (w := w) (y 0) (fun | ⟨0, _⟩ => y 1 | ⟨1, _⟩ => y 2) := by
      funext a
      match a with
      | ⟨0, _⟩ => rfl
      | ⟨1, _⟩ => rfl
      | ⟨2, _⟩ => rfl
    rw [this, ← slot_emb M off inb sq (y 0) h]
    exact Finset.mem_map_of_mem _ (Finset.mem_univ _)

/-- A stack held whole is its four slots held. -/
theorem four_slots (hM : Function.Surjective M.view.emb) (off : Fin 4 → Fin 3 → ℕ)
    (inb : ∀ j, ∀ a, off j a + ![1, r, w] a ≤ ![4, r, w] a) (σ : Fin 4 → Fin 4) (hσ : Function.Injective σ) (h : ∀ j, At (off j) (σ j))
    (q : PosShare TreeShare) (d : Dev nD) (f : Buf Val (M.view.loc (d.tc : Thread nD τ))) :
    (M.view.loc (d.tc : Thread nD τ) ↦{q} f : sProp 𝕄)
      = bigSep Finset.univ fun j => M.view.loc (d.tc : Thread nD τ) ↦[(slot M (off j) (inb j) sq).view.set]{q} f := by
  have hd : ∀ j ∈ (Finset.univ : Finset (Fin 4)), ∀ j' ∈ (Finset.univ : Finset (Fin 4)), j ≠ j' →
      Disjoint (slot M (off j) (inb j) sq).view.set (slot M (off j') (inb j') sq).view.set := by
    intro j _ j' _ hne
    rw [Finset.disjoint_left]
    intro i hi hi'
    obtain ⟨y, rfl⟩ := hM i
    exact hne (hσ (((mem_slot M _ (inb j) sq _ (h j) y).1 hi).symm.trans ((mem_slot M _ (inb j') sq _ (h j') y).1 hi')))
  have hu : (M.view.loc (d.tc : Thread nD τ) ↦[(Finset.univ : Finset (Fin 4)).biUnion fun j => (slot M (off j) (inb j) sq).view.set]{q} f : sProp 𝕄)
      = bigSep Finset.univ fun j => M.view.loc (d.tc : Thread nD τ) ↦[(slot M (off j) (inb j) sq).view.set]{q} f :=
    pointsTo_biUnion _ _ hd
  refine Eq.trans ?_ hu
  have hall : ∀ i : Idx (M.view.loc (d.tc : Thread nD τ)), i ∈ (Finset.univ : Finset (Fin 4)).biUnion
      (β := Idx (M.view.loc (d.tc : Thread nD τ))) fun j => (slot M (off j) (inb j) sq).view.set := by
    intro i
    obtain ⟨y, rfl⟩ := hM i
    obtain ⟨j, hj⟩ := (Finite.injective_iff_surjective.1 hσ) (y 0)
    exact Finset.mem_biUnion.2 ⟨j, Finset.mem_univ j, (mem_slot M (off j) (inb j) sq (σ j) (h j) y).2 hj.symm⟩
  rw [Finset.eq_univ_of_forall hall]

section Land

variable {sp' : Space} {s : Shape} (m : (ℓ : Loc nD τ sig) → Buf Val ℓ)
  (src : Dev nD → Memref sig .tc sp s e) (dst : Dev nD → Memref sig .tc sp' s e)

/-- What was landed, read through the view it was landed through. -/
theorem landPiece_read {c d : Dev nD} {t : MemSt nD τ sig Val} (h : (landPiece m src dst c d).Holds t) :
    (dst c).view.read Val (t.mem ((dst c).view.loc (d.tc : Thread nD τ)))
      = (src c).view.read Val (m ((src c).view.loc (c.tc : Thread nD τ))) := by
  refine Eq.trans (funext fun x => ?_) (View.read_write_univ (v := (dst c).view) (m ((dst c).view.loc (d.tc : Thread nD τ))) _)
  show cast _ (t.mem ((dst c).view.loc (d.tc : Thread nD τ)) ((dst c).view.emb x)) = cast _ _
  exact congrArg (cast _) (h ((dst c).view.emb x) (View.emb_mem_set _ x))

/-- What was only read, read again. -/
theorem readPiece_read {q : PosShare TreeShare} {c : Dev nD} {t : MemSt nD τ sig Val} (h : (readPiece m src q c).Holds t) :
    (src c).view.read Val (t.mem ((src c).view.loc (c.tc : Thread nD τ))) = (src c).view.read Val (m ((src c).view.loc (c.tc : Thread nD τ))) := by
  funext x
  show cast _ (t.mem ((src c).view.loc (c.tc : Thread nD τ)) ((src c).view.emb x)) = cast _ _
  exact congrArg (cast _) (h ((src c).view.emb x) (View.emb_mem_set _ x))

end Land

end Cert.Exchange

end
-- ==== Proof.Stacks.lean ====
/-
Five stacks of four slots exchanged among the four chips: the partners, the pieces of the stacks counted as the copies are,
and what a stack holds once its four slots have landed.
-/
module

public import proofs.«01_k».proof.Proof.Slots
public import Idealize.ShloMosaic.Lib.Pipeline.BigSepL

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The same core of the chip across the first axis, the second, both, neither. -/
def partner (j : Fin 4) (c : Dev 8) : Dev 8 := ⟨Nat.xor c.val (![4, 2, 6, 0] j), by revert c j; decide⟩

theorem partner_partner (j : Fin 4) (c : Dev 8) : partner j (partner j c) = c := by revert c j; decide

def chip (c : Dev 8) : Fin 4 := ⟨c.val / 2, by have := c.isLt; omega⟩

theorem chip_partner_inj (c : Dev 8) : Function.Injective fun j => chip (partner j c) := by revert c; decide

theorem partner_surj (c d : Dev 8) (h : d.val % 2 = c.val % 2) : ∃ j, partner j c = d := by revert c d; decide

section Fan

variable {M : Type*} [URA M]

/-- Five wholes, each three pieces and one more, are fifteen pieces and five more. -/
theorem fan (W : Fin 5 → sProp M) (P : Fin 5 → Fin 4 → sProp M) (h : ∀ i, W i = bigSep Finset.univ (P i))
    (s : Fin 15 → sProp M) (l : Fin 5 → sProp M)
    (hs : s 0 = P 0 0 ∧ s 1 = P 0 1 ∧ s 2 = P 0 2 ∧ s 3 = P 1 0 ∧ s 4 = P 1 1 ∧ s 5 = P 1 2 ∧ s 6 = P 2 0 ∧ s 7 = P 2 1 ∧ s 8 = P 2 2 ∧ s 9 = P 3 0 ∧ s 10 = P 3 1 ∧ s 11 = P 3 2 ∧ s 12 = P 4 0 ∧ s 13 = P 4 1 ∧ s 14 = P 4 2)
    (hl : l 0 = P 0 3 ∧ l 1 = P 1 3 ∧ l 2 = P 2 3 ∧ l 3 = P 3 3 ∧ l 4 = P 4 3) :
    bigSep Finset.univ W = iprop(bigSep Finset.univ s ∗ bigSep Finset.univ l) := by
  obtain ⟨s0, s1, s2, s3, s4, s5, s6, s7, s8, s9, s10, s11, s12, s13, s14⟩ := hs
  obtain ⟨l0, l1, l2, l3, l4⟩ := hl
  have hs : ∀ i (j : Fin 3), s (finProdFinEquiv (i, j)) = P i j.castSucc := by
    intro i j
    fin_cases i <;> fin_cases j
    exacts [s0, s1, s2, s3, s4, s5, s6, s7, s8, s9, s10, s11, s12, s13, s14]
  have hl : ∀ i, l i = P i 3 := by
    intro i
    fin_cases i
    exacts [l0, l1, l2, l3, l4]
  have e1 : ∀ i, W i = iprop((bigSep Finset.univ fun j : Fin 3 => s (finProdFinEquiv (i, j))) ∗ l i) := by
    intro i
    rw [h i, bigSep_univ_equiv (finSumFinEquiv (m := 3) (n := 1)), bigSep_univ_sum, hl i,
      bigSep_univ_of_subsingleton (I := Fin 1) 0]
    congr 1
    exact bigSep_congr fun j _ => (hs i j).symm
  rw [show W = fun i => iprop((bigSep Finset.univ fun j : Fin 3 => s (finProdFinEquiv (i, j))) ∗ l i) from funext e1]
  refine (bigSep_sep Finset.univ _ l).trans ?_
  congr 1
  refine Eq.trans ?_ (bigSep_univ_equiv (finProdFinEquiv (m := 5) (n := 3)) s).symm
  exact (bigSep_univ_prod fun p : Fin 5 × Fin 3 => s (finProdFinEquiv p)).symm

end Fan

theorem regroup {M : Type*} [URA M] (A B C D : sProp M) : iprop((A ∗ B) ∗ C ∗ D) = iprop(A ∗ B ∗ C ∗ D) := by
  have h1 : iprop((A ∗ B) ∗ C ∗ D) ⊢ iprop(A ∗ B ∗ C ∗ D) := by
    iintro ⟨⟨H1, H2⟩, H3, H4⟩
    isplitl [H1]; · iexact H1
    isplitl [H2]; · iexact H2
    isplitl [H3] <;> iassumption
  have h2 : iprop(A ∗ B ∗ C ∗ D) ⊢ iprop((A ∗ B) ∗ C ∗ D) := by
    iintro ⟨H1, H2, H3, H4⟩
    isplitl [H1 H2]
    · isplitl [H1] <;> iassumption
    · isplitl [H3] <;> iassumption
  exact BI.Entails.antisymm h1 h2

/-- A quarter of a share. -/
def quarter (j : Fin 4) : PosShare TreeShare :=
  ![fullShare.left.left, fullShare.left.right, fullShare.right.left, fullShare.right.right] j

/-- A buffer held whole is held at four quarters. -/
theorem four_quarters {nD : ℕ} {τ : Topo} {sig : RefSig} {Val : EltTy → Type} (ℓ : Loc nD τ sig) (f : Buf Val ℓ) :
    (ℓ ↦{fullShare} f : sProp (MT nD τ sig Unit Val ℕ (UU nD τ sig) ℕ)) = bigSep Finset.univ fun j => ℓ ↦{quarter j} f := by
  have e : ∀ q : PosShare TreeShare, (ℓ ↦{q} f : sProp (MT nD τ sig Unit Val ℕ (UU nD τ sig) ℕ)) = iprop((ℓ ↦{q.left} f) ∗ ℓ ↦{q.right} f) :=
    fun q => BI.Entails.antisymm (pointsTo_share q.mem_left_op_right).1 (pointsTo_share q.mem_left_op_right).2
  rw [bigSep_univ_eq_bigSepL (I := Fin 4) [0, 1, 2, 3] (by decide) (by decide)]
  show _ = iprop((ℓ ↦{fullShare.left.left} f) ∗ (ℓ ↦{fullShare.left.right} f) ∗ (ℓ ↦{fullShare.right.left} f) ∗ ℓ ↦{fullShare.right.right} f)
  rw [e fullShare, e fullShare.left, e fullShare.right]
  exact regroup _ _ _ _

variable {τ : Topo} {sig : RefSig} {Val : EltTy → Type}

variable {sp sp' : Space} {e : EltTy} {r w : ℕ} (m : (ℓ : Loc 8 τ sig) → Buf Val ℓ)
  (A : Memref sig .tc sp ⟨3, ![4, r, w]⟩ e) (B : Memref sig .tc sp' ⟨3, ![4, r, w]⟩ e)
  (sq : (⟨3, ![1, r, w]⟩ : Shape).Squeezes ⟨2, ![r, w]⟩)

theorem place_eta (i : (⟨3, ![4, r, w]⟩ : Shape).Idx) : place (r := r) (w := w) (i 0) (fun | ⟨0, _⟩ => i 1 | ⟨1, _⟩ => i 2) = i := by
  funext a
  match a with
  | ⟨0, _⟩ => rfl
  | ⟨1, _⟩ => rfl
  | ⟨2, _⟩ => rfl

/-- A stack whose four slots were sent to the four chips, each from the sender's slot of the receiver. -/
theorem slots_landed (offA : Fin 4 → Dev 8 → Fin 3 → ℕ) (inbA : ∀ j c a, offA j c a + ![1, r, w] a ≤ ![4, r, w] a)
    (offB : Dev 8 → Fin 3 → ℕ) (inbB : ∀ c a, offB c a + ![1, r, w] a ≤ ![4, r, w] a)
    (hA : ∀ j c, At (offA j c) (chip (partner j c))) (hB : ∀ c, At (offB c) (chip c))
    (c : Dev 8) {t : MemSt 8 τ sig Val}
    (h : ∀ j, (landPiece m (fun c => slot A (offA j c) (inbA j c) sq) (fun c => slot B (offB c) (inbB c) sq) (partner j c) c).Holds t)
    (d : Dev 8) (hd : d.val % 2 = c.val % 2) (i i' : (⟨3, ![4, r, w]⟩ : Shape).Idx)
    (e : d.val / 2 = (i 0).val) (e0 : (i' 0).val = c.val / 2) (e1 : (i' 1).val = (i 1).val) (e2 : (i' 2).val = (i 2).val) :
    B.view.read Val (t.mem (B.view.loc (c.tc : Thread 8 τ))) i = A.view.read Val (m (A.view.loc (d.tc : Thread 8 τ))) i' := by
  obtain ⟨j, rfl⟩ := partner_surj c d hd
  have hh := congrFun (landPiece_read m _ _ (h j)) (fun | ⟨0, _⟩ => i 1 | ⟨1, _⟩ => i 2)
  rw [slot_read B _ _ sq _ (hB _), slot_read A _ _ sq _ (hA j _), partner_partner] at hh
  rw [show i = place (r := r) (w := w) (chip (partner j c)) (fun | ⟨0, _⟩ => i 1 | ⟨1, _⟩ => i 2) from
      (place_eta i).symm.trans (congrArg (place · _) (Fin.ext e.symm)),
    show i' = place (r := r) (w := w) (chip c) (fun | ⟨0, _⟩ => i 1 | ⟨1, _⟩ => i 2) from by
      funext a
      match a with
      | ⟨0, _⟩ => exact Fin.ext e0
      | ⟨1, _⟩ => exact Fin.ext e1
      | ⟨2, _⟩ => exact Fin.ext e2]
  exact hh

/-- A stack whose four slots were filled from the four chips' arrays. -/
theorem wholes_landed (A : Memref sig .tc sp ⟨2, ![r, w]⟩ e)
    (offB : Dev 8 → Fin 3 → ℕ) (inbB : ∀ c a, offB c a + ![1, r, w] a ≤ ![4, r, w] a) (hB : ∀ c, At (offB c) (chip c))
    (c : Dev 8) {t : MemSt 8 τ sig Val}
    (h : ∀ j, (landPiece m (fun _ => A) (fun c => slot B (offB c) (inbB c) sq) (partner j c) c).Holds t)
    (d : Dev 8) (hd : d.val % 2 = c.val % 2) (i : (⟨3, ![4, r, w]⟩ : Shape).Idx) (i' : (⟨2, ![r, w]⟩ : Shape).Idx)
    (e : d.val / 2 = (i 0).val) (e0 : (i' 0).val = (i 1).val) (e1 : (i' 1).val = (i 2).val) :
    B.view.read Val (t.mem (B.view.loc (c.tc : Thread 8 τ))) i = A.view.read Val (m (A.view.loc (d.tc : Thread 8 τ))) i' := by
  obtain ⟨j, rfl⟩ := partner_surj c d hd
  have hh := congrFun (landPiece_read m _ _ (h j)) i'
  rw [slot_read B _ _ sq _ (hB _)] at hh
  rw [show i = place (r := r) (w := w) (chip (partner j c)) i' from by
      funext a
      match a with
      | ⟨0, _⟩ => exact Fin.ext e.symm
      | ⟨1, _⟩ => exact Fin.ext e0.symm
      | ⟨2, _⟩ => exact Fin.ext e1.symm]
  exact hh

/-- A stack only read, slot by slot. -/
theorem slots_kept (hM : Function.Surjective A.view.emb) (offA : Fin 4 → Dev 8 → Fin 3 → ℕ) (inbA : ∀ j c a, offA j c a + ![1, r, w] a ≤ ![4, r, w] a)
    (hA : ∀ j c, At (offA j c) (chip (partner j c))) (c : Dev 8) {t : MemSt 8 τ sig Val}
    (h : ∀ j, (readPiece m (fun c => slot A (offA j c) (inbA j c) sq) fullShare c).Holds t) :
    t.mem (A.view.loc (c.tc : Thread 8 τ)) = m (A.view.loc (c.tc : Thread 8 τ)) := by
  funext i
  obtain ⟨y, rfl⟩ := hM i
  obtain ⟨j, hj⟩ := Finite.injective_iff_surjective.1 (chip_partner_inj c) (y 0)
  exact h j _ ((mem_slot A (offA j c) (inbA j c) sq _ (hA j c) y).2 hj.symm)

end Cert.Exchange

end
-- ==== Proof.GatherRun.lean ====
/-
The weights' gather: each chip's five arrays, to every chip's same core, kept on arrival in the sender's slot.
-/
module

public import proofs.«01_k».proof.Proof.Stacks
public import Idealize.ShloMosaic.Lib.Pipeline.BigSepL
public import proofs.«01_k».proof.Proof.Gen.KernelIdeal.Skeleton
public import proofs.«01_k».proof.Proof.Gen.KernelIdeal.Launch
public import proofs.«01_k».proof.Proof.Gen.KernelIdeal.Points

@[expose] public section

set_option Elab.async false

noncomputable section

namespace Cert.GatherRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Exchange

variable {F : FTy → Type} [FloatOps F]

local notation "𝕄" => MT nD τ sig Unit (Elt F) ℕ (UU nD τ sig) ℕ

variable (m : (ℓ : Loc nD τ sig) → Buf (Elt F) ℓ)

def sendSem (t : Fin 15) : DmaSem sig := ((cc0_scratch0.slice (Rect.unit (s := S15) ![t.val] S1.size (by revert t; decide))).squeeze S_ squeezes_S1_S_).sem
def recvSem (t : Fin 15) : DmaSem sig := ((cc0_scratch1.slice (Rect.unit (s := S15) ![t.val] S1.size (by revert t; decide))).squeeze S_ squeezes_S1_S_).sem
def locSem (l : Fin 5) : DmaSem sig := ((cc0_scratch2.slice (Rect.unit (s := S5) ![l.val] S1.size (by revert l; decide))).squeeze S_ squeezes_S1_S_).sem

/-! The arrays, and the slots they are kept in. -/

theorem own0_at (c : Dev nD) : At (k0_off1 c) (chip c) := by revert c; decide +kernel
def a0 (c : Dev nD) := Memref.whole main_arg0
def b0 (c : Dev nD) := slot (Memref.whole main_v1_0) (k0_off1 c) (k0_off1_inb c) squeezes_S1x2048x706_S2048x706

theorem own1_at (c : Dev nD) : At (k0_off2 c) (chip c) := by revert c; decide +kernel
def a1 (c : Dev nD) := Memref.whole main_arg1
def b1 (c : Dev nD) := slot (Memref.whole main_v1_1) (k0_off2 c) (k0_off2_inb c) squeezes_S1x512x1024_S512x1024

theorem own2_at (c : Dev nD) : At (k0_off3 c) (chip c) := by revert c; decide +kernel
def a2 (c : Dev nD) := Memref.whole main_arg2
def b2 (c : Dev nD) := slot (Memref.whole main_v1_2) (k0_off3 c) (k0_off3_inb c) squeezes_S1x2048x1024_S2048x1024

theorem own3_at (c : Dev nD) : At (k0_off3 c) (chip c) := by revert c; decide +kernel
def a3 (c : Dev nD) := Memref.whole main_arg3
def b3 (c : Dev nD) := slot (Memref.whole main_v1_3) (k0_off3 c) (k0_off3_inb c) squeezes_S1x2048x1024_S2048x1024

theorem own4_at (c : Dev nD) : At (k0_off4 c) (chip c) := by revert c; decide +kernel
def a4 (c : Dev nD) := Memref.whole main_arg4
def b4 (c : Dev nD) := slot (Memref.whole main_v1_4) (k0_off4 c) (k0_off4_inb c) squeezes_S1x48x1024_S48x1024

def copies : Copies nD τ sig (Elt F) where
  nr := 15
  nl := 5
  send t := .dma (sendSem t)
  recv t := .dma (recvSem t)
  loc l := .dma (locSem l)
  inj := by decide +kernel
  routes := by decide
  peer t := partner ⟨t.val % 3, Nat.lt_succ_of_lt (Nat.mod_lt _ (by decide))⟩
  peer_peer _ := partner_partner _
  amt := ![(b0 0).view.dmaCredit, (b0 0).view.dmaCredit, (b0 0).view.dmaCredit, (b1 0).view.dmaCredit, (b1 0).view.dmaCredit, (b1 0).view.dmaCredit, (b2 0).view.dmaCredit, (b2 0).view.dmaCredit, (b2 0).view.dmaCredit, (b3 0).view.dmaCredit, (b3 0).view.dmaCredit, (b3 0).view.dmaCredit, (b4 0).view.dmaCredit, (b4 0).view.dmaCredit, (b4 0).view.dmaCredit]
  amt_pos := by
    intro t; fin_cases t <;> exact View.dmaCredit_pos _ (by decide)
  amtL := ![(b0 0).view.dmaCredit, (b1 0).view.dmaCredit, (b2 0).view.dmaCredit, (b3 0).view.dmaCredit, (b4 0).view.dmaCredit]
  amtL_pos := by
    intro t; fin_cases t <;> exact View.dmaCredit_pos _ (by decide)
  src t c := ![readPiece m a0 (quarter 0) c, readPiece m a0 (quarter 1) c, readPiece m a0 (quarter 2) c, readPiece m a1 (quarter 0) c, readPiece m a1 (quarter 1) c, readPiece m a1 (quarter 2) c, readPiece m a2 (quarter 0) c, readPiece m a2 (quarter 1) c, readPiece m a2 (quarter 2) c, readPiece m a3 (quarter 0) c, readPiece m a3 (quarter 1) c, readPiece m a3 (quarter 2) c, readPiece m a4 (quarter 0) c, readPiece m a4 (quarter 1) c, readPiece m a4 (quarter 2) c] t
  opn t c d := ![openPiece m b0 c d, openPiece m b0 c d, openPiece m b0 c d, openPiece m b1 c d, openPiece m b1 c d, openPiece m b1 c d, openPiece m b2 c d, openPiece m b2 c d, openPiece m b2 c d, openPiece m b3 c d, openPiece m b3 c d, openPiece m b3 c d, openPiece m b4 c d, openPiece m b4 c d, openPiece m b4 c d] t
  land t c d := ![landPiece m a0 b0 c d, landPiece m a0 b0 c d, landPiece m a0 b0 c d, landPiece m a1 b1 c d, landPiece m a1 b1 c d, landPiece m a1 b1 c d, landPiece m a2 b2 c d, landPiece m a2 b2 c d, landPiece m a2 b2 c d, landPiece m a3 b3 c d, landPiece m a3 b3 c d, landPiece m a3 b3 c d, landPiece m a4 b4 c d, landPiece m a4 b4 c d, landPiece m a4 b4 c d] t
  lsrc l c := ![readPiece m a0 (quarter 3) c, readPiece m a1 (quarter 3) c, readPiece m a2 (quarter 3) c, readPiece m a3 (quarter 3) c, readPiece m a4 (quarter 3) c] l
  lopn l c := ![openPiece m b0 c c, openPiece m b1 c c, openPiece m b2 c c, openPiece m b3 c c, openPiece m b4 c c] l
  lland l c := ![landPiece m a0 b0 c c, landPiece m a1 b1 c c, landPiece m a2 b2 c c, landPiece m a3 b3 c c, landPiece m a4 b4 c c] l

theorem dev1 (c : Dev nD) : (⟨k0_dev1 c, k0_dev1_lt c⟩ : Dev nD) = partner 0 c := by revert c; decide +kernel
theorem dev2 (c : Dev nD) : (⟨k0_dev2 c, k0_dev2_lt c⟩ : Dev nD) = partner 1 c := by revert c; decide +kernel
theorem dev3 (c : Dev nD) : (⟨k0_dev3 c, k0_dev3_lt c⟩ : Dev nD) = partner 2 c := by revert c; decide +kernel
theorem dev4 (c : Dev nD) : (⟨k0_dev4 c, k0_dev4_lt c⟩ : Dev nD) = partner 0 c := by revert c; decide +kernel
theorem dev5 (c : Dev nD) : (⟨k0_dev5 c, k0_dev5_lt c⟩ : Dev nD) = partner 1 c := by revert c; decide +kernel
theorem dev6 (c : Dev nD) : (⟨k0_dev6 c, k0_dev6_lt c⟩ : Dev nD) = partner 2 c := by revert c; decide +kernel
theorem dev7 (c : Dev nD) : (⟨k0_dev7 c, k0_dev7_lt c⟩ : Dev nD) = partner 0 c := by revert c; decide +kernel
theorem dev8 (c : Dev nD) : (⟨k0_dev8 c, k0_dev8_lt c⟩ : Dev nD) = partner 1 c := by revert c; decide +kernel
theorem dev9 (c : Dev nD) : (⟨k0_dev9 c, k0_dev9_lt c⟩ : Dev nD) = partner 2 c := by revert c; decide +kernel
theorem dev10 (c : Dev nD) : (⟨k0_dev10 c, k0_dev10_lt c⟩ : Dev nD) = partner 0 c := by revert c; decide +kernel
theorem dev11 (c : Dev nD) : (⟨k0_dev11 c, k0_dev11_lt c⟩ : Dev nD) = partner 1 c := by revert c; decide +kernel
theorem dev12 (c : Dev nD) : (⟨k0_dev12 c, k0_dev12_lt c⟩ : Dev nD) = partner 2 c := by revert c; decide +kernel
theorem dev13 (c : Dev nD) : (⟨k0_dev13 c, k0_dev13_lt c⟩ : Dev nD) = partner 0 c := by revert c; decide +kernel
theorem dev14 (c : Dev nD) : (⟨k0_dev14 c, k0_dev14_lt c⟩ : Dev nD) = partner 1 c := by revert c; decide +kernel
theorem dev15 (c : Dev nD) : (⟨k0_dev15 c, k0_dev15_lt c⟩ : Dev nD) = partner 2 c := by revert c; decide +kernel

/-- One device's run of the call. -/
theorem body (𝒱 : Variants) (c : Dev nD) (K : Dev nD × (copies m).plan.J → ℕ) (Q : PUnit → sProp 𝕄)
    (hQ : ∀ v, (copies m).plan.st K (copies m).plan.total c ⊢ iprop(|={Set.univ}=> Q v)) :
    (copies m).plan.st K 0 c ⊢ wp frame (wpE (defs₀ (F := F)) 𝒱 (c.tc : Thread nD τ) none) Set.univ (bodyAt0 (F := F) t0_0) Q := by
  unfold bodyAt0
  simp only [cc0_weights_all_gather_eq_skeleton, cc0_weights_all_gather_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, Prog.lift, Prog.bind_op, Prog.bind_ret, Prog.pure_eq_ret]
  rw [wp_deviceId]
  refine (copies m).here defs₀ 𝒱 K c m a0 b0 (0 : Fin 5) 0 rfl rfl rfl (q := quarter 3) rfl rfl rfl ?_
  refine (copies m).here defs₀ 𝒱 K c m a1 b1 (1 : Fin 5) 1 rfl rfl rfl (q := quarter 3) rfl rfl rfl ?_
  refine (copies m).here defs₀ 𝒱 K c m a2 b2 (2 : Fin 5) 2 rfl rfl rfl (q := quarter 3) rfl rfl rfl ?_
  refine (copies m).here defs₀ 𝒱 K c m a3 b3 (3 : Fin 5) 3 rfl rfl rfl (q := quarter 3) rfl rfl rfl ?_
  refine (copies m).here defs₀ 𝒱 K c m a4 b4 (4 : Fin 5) 4 rfl rfl rfl (q := quarter 3) rfl rfl rfl ?_
  refine (copies m).remote defs₀ 𝒱 K c m a0 b0 (0 : Fin 15) 5 rfl (dev1 c) rfl rfl rfl (q := quarter 0) rfl rfl rfl ?_
  refine (copies m).remote defs₀ 𝒱 K c m a0 b0 (1 : Fin 15) 6 rfl (dev2 c) rfl rfl rfl (q := quarter 1) rfl rfl rfl ?_
  refine (copies m).remote defs₀ 𝒱 K c m a0 b0 (2 : Fin 15) 7 rfl (dev3 c) rfl rfl rfl (q := quarter 2) rfl rfl rfl ?_
  refine (copies m).remote defs₀ 𝒱 K c m a1 b1 (3 : Fin 15) 8 rfl (dev4 c) rfl rfl rfl (q := quarter 0) rfl rfl rfl ?_
  refine (copies m).remote defs₀ 𝒱 K c m a1 b1 (4 : Fin 15) 9 rfl (dev5 c) rfl rfl rfl (q := quarter 1) rfl rfl rfl ?_
  refine (copies m).remote defs₀ 𝒱 K c m a1 b1 (5 : Fin 15) 10 rfl (dev6 c) rfl rfl rfl (q := quarter 2) rfl rfl rfl ?_
  refine (copies m).remote defs₀ 𝒱 K c m a2 b2 (6 : Fin 15) 11 rfl (dev7 c) rfl rfl rfl (q := quarter 0) rfl rfl rfl ?_
  refine (copies m).remote defs₀ 𝒱 K c m a2 b2 (7 : Fin 15) 12 rfl (dev8 c) rfl rfl rfl (q := quarter 1) rfl rfl rfl ?_
  refine (copies m).remote defs₀ 𝒱 K c m a2 b2 (8 : Fin 15) 13 rfl (dev9 c) rfl rfl rfl (q := quarter 2) rfl rfl rfl ?_
  refine (copies m).remote defs₀ 𝒱 K c m a3 b3 (9 : Fin 15) 14 rfl (dev10 c) rfl rfl rfl (q := quarter 0) rfl rfl rfl ?_
  refine (copies m).remote defs₀ 𝒱 K c m a3 b3 (10 : Fin 15) 15 rfl (dev11 c) rfl rfl rfl (q := quarter 1) rfl rfl rfl ?_
  refine (copies m).remote defs₀ 𝒱 K c m a3 b3 (11 : Fin 15) 16 rfl (dev12 c) rfl rfl rfl (q := quarter 2) rfl rfl rfl ?_
  refine (copies m).remote defs₀ 𝒱 K c m a4 b4 (12 : Fin 15) 17 rfl (dev13 c) rfl rfl rfl (q := quarter 0) rfl rfl rfl ?_
  refine (copies m).remote defs₀ 𝒱 K c m a4 b4 (13 : Fin 15) 18 rfl (dev14 c) rfl rfl rfl (q := quarter 1) rfl rfl rfl ?_
  refine (copies m).remote defs₀ 𝒱 K c m a4 b4 (14 : Fin 15) 19 rfl (dev15 c) rfl rfl rfl (q := quarter 2) rfl rfl rfl ?_
  refine (copies m).plan.wait_recv defs₀ 𝒱 K c (0 : Fin 15) 20 rfl rfl rfl ?_
  refine (copies m).plan.wait_recv defs₀ 𝒱 K c (1 : Fin 15) 21 rfl rfl rfl ?_
  refine (copies m).plan.wait_recv defs₀ 𝒱 K c (2 : Fin 15) 22 rfl rfl rfl ?_
  refine (copies m).plan.wait_recv defs₀ 𝒱 K c (3 : Fin 15) 23 rfl rfl rfl ?_
  refine (copies m).plan.wait_recv defs₀ 𝒱 K c (4 : Fin 15) 24 rfl rfl rfl ?_
  refine (copies m).plan.wait_recv defs₀ 𝒱 K c (5 : Fin 15) 25 rfl rfl rfl ?_
  refine (copies m).plan.wait_recv defs₀ 𝒱 K c (6 : Fin 15) 26 rfl rfl rfl ?_
  refine (copies m).plan.wait_recv defs₀ 𝒱 K c (7 : Fin 15) 27 rfl rfl rfl ?_
  refine (copies m).plan.wait_recv defs₀ 𝒱 K c (8 : Fin 15) 28 rfl rfl rfl ?_
  refine (copies m).plan.wait_recv defs₀ 𝒱 K c (9 : Fin 15) 29 rfl rfl rfl ?_
  refine (copies m).plan.wait_recv defs₀ 𝒱 K c (10 : Fin 15) 30 rfl rfl rfl ?_
  refine (copies m).plan.wait_recv defs₀ 𝒱 K c (11 : Fin 15) 31 rfl rfl rfl ?_
  refine (copies m).plan.wait_recv defs₀ 𝒱 K c (12 : Fin 15) 32 rfl rfl rfl ?_
  refine (copies m).plan.wait_recv defs₀ 𝒱 K c (13 : Fin 15) 33 rfl rfl rfl ?_
  refine (copies m).plan.wait_recv defs₀ 𝒱 K c (14 : Fin 15) 34 rfl rfl rfl ?_
  refine (copies m).plan.wait_send defs₀ 𝒱 K c (0 : Fin 15) 35 rfl rfl rfl ?_
  refine (copies m).plan.wait_send defs₀ 𝒱 K c (1 : Fin 15) 36 rfl rfl rfl ?_
  refine (copies m).plan.wait_send defs₀ 𝒱 K c (2 : Fin 15) 37 rfl rfl rfl ?_
  refine (copies m).plan.wait_send defs₀ 𝒱 K c (3 : Fin 15) 38 rfl rfl rfl ?_
  refine (copies m).plan.wait_send defs₀ 𝒱 K c (4 : Fin 15) 39 rfl rfl rfl ?_
  refine (copies m).plan.wait_send defs₀ 𝒱 K c (5 : Fin 15) 40 rfl rfl rfl ?_
  refine (copies m).plan.wait_send defs₀ 𝒱 K c (6 : Fin 15) 41 rfl rfl rfl ?_
  refine (copies m).plan.wait_send defs₀ 𝒱 K c (7 : Fin 15) 42 rfl rfl rfl ?_
  refine (copies m).plan.wait_send defs₀ 𝒱 K c (8 : Fin 15) 43 rfl rfl rfl ?_
  refine (copies m).plan.wait_send defs₀ 𝒱 K c (9 : Fin 15) 44 rfl rfl rfl ?_
  refine (copies m).plan.wait_send defs₀ 𝒱 K c (10 : Fin 15) 45 rfl rfl rfl ?_
  refine (copies m).plan.wait_send defs₀ 𝒱 K c (11 : Fin 15) 46 rfl rfl rfl ?_
  refine (copies m).plan.wait_send defs₀ 𝒱 K c (12 : Fin 15) 47 rfl rfl rfl ?_
  refine (copies m).plan.wait_send defs₀ 𝒱 K c (13 : Fin 15) 48 rfl rfl rfl ?_
  refine (copies m).plan.wait_send defs₀ 𝒱 K c (14 : Fin 15) 49 rfl rfl rfl ?_
  refine (copies m).plan.wait_local defs₀ 𝒱 K c (0 : Fin 5) 50 rfl rfl rfl ?_
  refine (copies m).plan.wait_local defs₀ 𝒱 K c (1 : Fin 5) 51 rfl rfl rfl ?_
  refine (copies m).plan.wait_local defs₀ 𝒱 K c (2 : Fin 5) 52 rfl rfl rfl ?_
  refine (copies m).plan.wait_local defs₀ 𝒱 K c (3 : Fin 5) 53 rfl rfl rfl ?_
  refine (copies m).plan.wait_local defs₀ 𝒱 K c (4 : Fin 5) 54 rfl rfl rfl ?_
  rw [wp_ret]
  exact hQ _

theorem partner_three (c : Dev 8) : partner 3 c = c := by revert c; decide

section Pick

attribute [local irreducible] a0 a1 a2 a3 a4 b0 b1 b2 b3 b4

def pickA (c : Dev nD) (i : Fin 5) (j : Fin 4) : Piece nD τ sig (Elt F) :=
  ![readPiece m a0 (quarter j) c, readPiece m a1 (quarter j) c, readPiece m a2 (quarter j) c, readPiece m a3 (quarter j) c,
    readPiece m a4 (quarter j) c] i
def pickO (c : Dev nD) (i : Fin 5) (j : Fin 4) : Piece nD τ sig (Elt F) :=
  ![openPiece m b0 (partner j c) c, openPiece m b1 (partner j c) c, openPiece m b2 (partner j c) c, openPiece m b3 (partner j c) c,
    openPiece m b4 (partner j c) c] i

theorem src0 (c : Dev nD) : (copies m).src (0 : Fin 15) c = pickA m c 0 0 := rfl
theorem src1 (c : Dev nD) : (copies m).src (1 : Fin 15) c = pickA m c 0 1 := rfl
theorem src2 (c : Dev nD) : (copies m).src (2 : Fin 15) c = pickA m c 0 2 := rfl
theorem src3 (c : Dev nD) : (copies m).src (3 : Fin 15) c = pickA m c 1 0 := rfl
theorem src4 (c : Dev nD) : (copies m).src (4 : Fin 15) c = pickA m c 1 1 := rfl
theorem src5 (c : Dev nD) : (copies m).src (5 : Fin 15) c = pickA m c 1 2 := rfl
theorem src6 (c : Dev nD) : (copies m).src (6 : Fin 15) c = pickA m c 2 0 := rfl
theorem src7 (c : Dev nD) : (copies m).src (7 : Fin 15) c = pickA m c 2 1 := rfl
theorem src8 (c : Dev nD) : (copies m).src (8 : Fin 15) c = pickA m c 2 2 := rfl
theorem src9 (c : Dev nD) : (copies m).src (9 : Fin 15) c = pickA m c 3 0 := rfl
theorem src10 (c : Dev nD) : (copies m).src (10 : Fin 15) c = pickA m c 3 1 := rfl
theorem src11 (c : Dev nD) : (copies m).src (11 : Fin 15) c = pickA m c 3 2 := rfl
theorem src12 (c : Dev nD) : (copies m).src (12 : Fin 15) c = pickA m c 4 0 := rfl
theorem src13 (c : Dev nD) : (copies m).src (13 : Fin 15) c = pickA m c 4 1 := rfl
theorem src14 (c : Dev nD) : (copies m).src (14 : Fin 15) c = pickA m c 4 2 := rfl
theorem opn0 (c : Dev nD) : (copies m).opn (0 : Fin 15) (partner 0 c) c = pickO m c 0 0 := rfl
theorem opn1 (c : Dev nD) : (copies m).opn (1 : Fin 15) (partner 1 c) c = pickO m c 0 1 := rfl
theorem opn2 (c : Dev nD) : (copies m).opn (2 : Fin 15) (partner 2 c) c = pickO m c 0 2 := rfl
theorem opn3 (c : Dev nD) : (copies m).opn (3 : Fin 15) (partner 0 c) c = pickO m c 1 0 := rfl
theorem opn4 (c : Dev nD) : (copies m).opn (4 : Fin 15) (partner 1 c) c = pickO m c 1 1 := rfl
theorem opn5 (c : Dev nD) : (copies m).opn (5 : Fin 15) (partner 2 c) c = pickO m c 1 2 := rfl
theorem opn6 (c : Dev nD) : (copies m).opn (6 : Fin 15) (partner 0 c) c = pickO m c 2 0 := rfl
theorem opn7 (c : Dev nD) : (copies m).opn (7 : Fin 15) (partner 1 c) c = pickO m c 2 1 := rfl
theorem opn8 (c : Dev nD) : (copies m).opn (8 : Fin 15) (partner 2 c) c = pickO m c 2 2 := rfl
theorem opn9 (c : Dev nD) : (copies m).opn (9 : Fin 15) (partner 0 c) c = pickO m c 3 0 := rfl
theorem opn10 (c : Dev nD) : (copies m).opn (10 : Fin 15) (partner 1 c) c = pickO m c 3 1 := rfl
theorem opn11 (c : Dev nD) : (copies m).opn (11 : Fin 15) (partner 2 c) c = pickO m c 3 2 := rfl
theorem opn12 (c : Dev nD) : (copies m).opn (12 : Fin 15) (partner 0 c) c = pickO m c 4 0 := rfl
theorem opn13 (c : Dev nD) : (copies m).opn (13 : Fin 15) (partner 1 c) c = pickO m c 4 1 := rfl
theorem opn14 (c : Dev nD) : (copies m).opn (14 : Fin 15) (partner 2 c) c = pickO m c 4 2 := rfl
theorem lsrc0 (c : Dev nD) : (copies m).lsrc (0 : Fin 5) c = pickA m c 0 3 := rfl
theorem lsrc1 (c : Dev nD) : (copies m).lsrc (1 : Fin 5) c = pickA m c 1 3 := rfl
theorem lsrc2 (c : Dev nD) : (copies m).lsrc (2 : Fin 5) c = pickA m c 2 3 := rfl
theorem lsrc3 (c : Dev nD) : (copies m).lsrc (3 : Fin 5) c = pickA m c 3 3 := rfl
theorem lsrc4 (c : Dev nD) : (copies m).lsrc (4 : Fin 5) c = pickA m c 4 3 := rfl
theorem lopn0 (c : Dev nD) : (copies m).lopn (0 : Fin 5) c = pickO m c 0 3 := by
  unfold pickO; rw [partner_three]; rfl
theorem lopn1 (c : Dev nD) : (copies m).lopn (1 : Fin 5) c = pickO m c 1 3 := by
  unfold pickO; rw [partner_three]; rfl
theorem lopn2 (c : Dev nD) : (copies m).lopn (2 : Fin 5) c = pickO m c 2 3 := by
  unfold pickO; rw [partner_three]; rfl
theorem lopn3 (c : Dev nD) : (copies m).lopn (3 : Fin 5) c = pickO m c 3 3 := by
  unfold pickO; rw [partner_three]; rfl
theorem lopn4 (c : Dev nD) : (copies m).lopn (4 : Fin 5) c = pickO m c 4 3 := by
  unfold pickO; rw [partner_three]; rfl

end Pick

theorem split (c : Dev nD) : (unscopedBufs c (fun b => m ((c.tc : Thread nD τ).loc b)) : sProp 𝕄)
    ⊢ iprop((bigSep Finset.univ fun t => (copies m).plan.srcP t c) ∗ (bigSep Finset.univ fun t => (copies m).plan.openP t c)
      ∗ bigSep Finset.univ fun l => (copies m).plan.rawP l c) := by
  let W : (Fin 5 → Ref sig .tc) → Fin 5 → sProp 𝕄 := fun b i => ((c.tc : Thread nD τ).loc (b i)) ↦{fullShare} m ((c.tc : Thread nD τ).loc (b i))
  have hA : bigSep Finset.univ (W ![main_arg0, main_arg1, main_arg2, main_arg3, main_arg4])
      = iprop((bigSep Finset.univ fun t => (copies m).plan.srcP t c) ∗ bigSep Finset.univ fun l : Fin 5 => ((copies m).lsrc l c).own) := by
    refine fan _ (fun i j => (pickA m c i j).own) ?_ _ _ ?_ ?_
    · intro i
      fin_cases i
      · exact (four_quarters _ _).trans (bigSep_congr fun j _ => (readPiece_whole m main_arg0 (quarter j) c).symm)
      · exact (four_quarters _ _).trans (bigSep_congr fun j _ => (readPiece_whole m main_arg1 (quarter j) c).symm)
      · exact (four_quarters _ _).trans (bigSep_congr fun j _ => (readPiece_whole m main_arg2 (quarter j) c).symm)
      · exact (four_quarters _ _).trans (bigSep_congr fun j _ => (readPiece_whole m main_arg3 (quarter j) c).symm)
      · exact (four_quarters _ _).trans (bigSep_congr fun j _ => (readPiece_whole m main_arg4 (quarter j) c).symm)
    · exact ⟨congrArg Piece.own (src0 m c), congrArg Piece.own (src1 m c), congrArg Piece.own (src2 m c), congrArg Piece.own (src3 m c), congrArg Piece.own (src4 m c), congrArg Piece.own (src5 m c), congrArg Piece.own (src6 m c), congrArg Piece.own (src7 m c), congrArg Piece.own (src8 m c), congrArg Piece.own (src9 m c), congrArg Piece.own (src10 m c), congrArg Piece.own (src11 m c), congrArg Piece.own (src12 m c), congrArg Piece.own (src13 m c), congrArg Piece.own (src14 m c)⟩
    · exact ⟨congrArg Piece.own (lsrc0 m c), congrArg Piece.own (lsrc1 m c), congrArg Piece.own (lsrc2 m c), congrArg Piece.own (lsrc3 m c), congrArg Piece.own (lsrc4 m c)⟩
  have hO : bigSep Finset.univ (W ![main_v1_0, main_v1_1, main_v1_2, main_v1_3, main_v1_4])
      = iprop((bigSep Finset.univ fun t => (copies m).plan.openP t c) ∗ bigSep Finset.univ fun l : Fin 5 => ((copies m).lopn l c).own) := by
    refine fan _ (fun i j => (pickO m c i j).own) ?_ _ _ ?_ ?_
    · intro i
      fin_cases i
      · exact four_slots (Memref.whole main_v1_0) squeezes_S1x2048x706_S2048x706 (fun i => ⟨i, rfl⟩) (fun j => k0_off1 (partner j c))
          (fun j => k0_off1_inb (partner j c)) _ (chip_partner_inj c) (fun j => own0_at (partner j c)) fullShare c _
      · exact four_slots (Memref.whole main_v1_1) squeezes_S1x512x1024_S512x1024 (fun i => ⟨i, rfl⟩) (fun j => k0_off2 (partner j c))
          (fun j => k0_off2_inb (partner j c)) _ (chip_partner_inj c) (fun j => own1_at (partner j c)) fullShare c _
      · exact four_slots (Memref.whole main_v1_2) squeezes_S1x2048x1024_S2048x1024 (fun i => ⟨i, rfl⟩) (fun j => k0_off3 (partner j c))
          (fun j => k0_off3_inb (partner j c)) _ (chip_partner_inj c) (fun j => own2_at (partner j c)) fullShare c _
      · exact four_slots (Memref.whole main_v1_3) squeezes_S1x2048x1024_S2048x1024 (fun i => ⟨i, rfl⟩) (fun j => k0_off3 (partner j c))
          (fun j => k0_off3_inb (partner j c)) _ (chip_partner_inj c) (fun j => own3_at (partner j c)) fullShare c _
      · exact four_slots (Memref.whole main_v1_4) squeezes_S1x48x1024_S48x1024 (fun i => ⟨i, rfl⟩) (fun j => k0_off4 (partner j c))
          (fun j => k0_off4_inb (partner j c)) _ (chip_partner_inj c) (fun j => own4_at (partner j c)) fullShare c _
    · exact ⟨congrArg Piece.own (opn0 m c), congrArg Piece.own (opn1 m c), congrArg Piece.own (opn2 m c), congrArg Piece.own (opn3 m c), congrArg Piece.own (opn4 m c), congrArg Piece.own (opn5 m c), congrArg Piece.own (opn6 m c), congrArg Piece.own (opn7 m c), congrArg Piece.own (opn8 m c), congrArg Piece.own (opn9 m c), congrArg Piece.own (opn10 m c), congrArg Piece.own (opn11 m c), congrArg Piece.own (opn12 m c), congrArg Piece.own (opn13 m c), congrArg Piece.own (opn14 m c)⟩
    · exact ⟨congrArg Piece.own (lopn0 m c), congrArg Piece.own (lopn1 m c), congrArg Piece.own (lopn2 m c), congrArg Piece.own (lopn3 m c), congrArg Piece.own (lopn4 m c)⟩
  have hl : (bigSep Finset.univ fun l => (copies m).plan.rawP l c : sProp 𝕄)
      = iprop((bigSep Finset.univ fun l : Fin 5 => ((copies m).lsrc l c).own) ∗ bigSep Finset.univ fun l : Fin 5 => ((copies m).lopn l c).own) :=
    bigSep_sep Finset.univ (fun l : Fin 5 => ((copies m).lsrc l c).own) (fun l : Fin 5 => ((copies m).lopn l c).own)
  have hu : (unscopedBufs c (fun b => m ((c.tc : Thread nD τ).loc b)) : sProp 𝕄) = iprop(bigSep Finset.univ (W ![main_arg0, main_arg1, main_arg2, main_arg3, main_arg4]) ∗ bigSep Finset.univ (W ![main_v1_0, main_v1_1, main_v1_2, main_v1_3, main_v1_4])) := by
    unfold unscopedBufs
    rw [bigSep_eq_bigSepL_of_eq ([main_arg0, main_arg1, main_arg2, main_arg3, main_arg4] ++ [main_v1_0, main_v1_1, main_v1_2, main_v1_3, main_v1_4]) (by decide) (by decide), bigSepL_append]
    have e := fun v => bigSep_univ_eq_bigSepL (I := Fin 5) [0, 1, 2, 3, 4] (by decide) (by decide) (W v)
    rw [e, e]
    rfl
  rw [hl, hu, hA, hO]
  iintro ⟨⟨H, HL⟩, G, GL⟩
  isplitl [H]; · iexact H
  isplitl [G]; · iexact G
  isplitl [HL]; · iexact HL
  iexact GL

theorem sems_scoped : ∀ sm : SemLoc sig, sm.isScoped .tc = true := by decide

theorem run_copies (g : Dev nD → PrngReg) : θ_run (defs (F := F)) (onTc (τ := τ) (main (F := F))) ⟨m, fun _ => 0, g⟩ fun r =>
    (∀ c, (copies m).Done c r.2) ∧ r.2.sem = fun _ => 0 :=
  (copies m).run cfgs defs₀ Variants.none cellOf_inj winFacts0.to₀
    ⟨fun _ => sems_scoped _, (copies m).inj, fun _ w => w.elim0⟩ stage_whole0 block_pos0 (fun | 0 => rfl) N_0
    (fun c K t Q h => by rw [fin_N0 t]; exact body m _ c K Q h) m g (split m) _ (fun _ => rfl) sems_scoped

/-- The run: slot `k` of a result on device `c` is what chip `k`'s same core held; the arguments unchanged. -/
theorem run_main (g : Dev nD → PrngReg) : θ_run (defs (F := F)) (onTc (τ := τ) (main (F := F))) ⟨m, fun _ => 0, g⟩ fun r =>
    (∀ c : Dev nD, ((∀ (d : Dev nD) (i : S4x2048x706.Idx) (i' : S2048x706.Idx), d.val % 2 = c.val % 2 → d.val / 2 = (i 0).val →
          (i' 0).val = (i 1).val → (i' 1).val = (i 2).val →
          (r.2.mem ((c.tc : Thread nD τ).loc main_v1_0) : S4x2048x706.Idx → _) i = (m ((d.tc : Thread nD τ).loc main_arg0) : S2048x706.Idx → _) i')
        ∧ (∀ (d : Dev nD) (i : S4x512x1024.Idx) (i' : S512x1024.Idx), d.val % 2 = c.val % 2 → d.val / 2 = (i 0).val →
          (i' 0).val = (i 1).val → (i' 1).val = (i 2).val →
          (r.2.mem ((c.tc : Thread nD τ).loc main_v1_1) : S4x512x1024.Idx → _) i = (m ((d.tc : Thread nD τ).loc main_arg1) : S512x1024.Idx → _) i')
        ∧ (∀ (d : Dev nD) (i : S4x2048x1024.Idx) (i' : S2048x1024.Idx), d.val % 2 = c.val % 2 → d.val / 2 = (i 0).val →
          (i' 0).val = (i 1).val → (i' 1).val = (i 2).val →
          (r.2.mem ((c.tc : Thread nD τ).loc main_v1_2) : S4x2048x1024.Idx → _) i = (m ((d.tc : Thread nD τ).loc main_arg2) : S2048x1024.Idx → _) i')
        ∧ (∀ (d : Dev nD) (i : S4x2048x1024.Idx) (i' : S2048x1024.Idx), d.val % 2 = c.val % 2 → d.val / 2 = (i 0).val →
          (i' 0).val = (i 1).val → (i' 1).val = (i 2).val →
          (r.2.mem ((c.tc : Thread nD τ).loc main_v1_3) : S4x2048x1024.Idx → _) i = (m ((d.tc : Thread nD τ).loc main_arg3) : S2048x1024.Idx → _) i')
        ∧ (∀ (d : Dev nD) (i : S4x48x1024.Idx) (i' : S48x1024.Idx), d.val % 2 = c.val % 2 → d.val / 2 = (i 0).val →
          (i' 0).val = (i 1).val → (i' 1).val = (i 2).val →
          (r.2.mem ((c.tc : Thread nD τ).loc main_v1_4) : S4x48x1024.Idx → _) i = (m ((d.tc : Thread nD τ).loc main_arg4) : S48x1024.Idx → _) i'))
      ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
    ∧ r.2.sem = fun _ => 0 := by
  refine (θ_run (defs (F := F)) _ _).mono (fun r h => ⟨fun c => ?_, h.2⟩) (run_copies m g)
  have hs := fun t : Fin 15 => ((h.1 c).1 t).1
  have hl := fun t : Fin 15 => ((h.1 c).1 t).2
  have ks := fun t : Fin 5 => ((h.1 c).2 t).2
  have kl := fun t : Fin 5 => ((h.1 c).2 t).1
  have h3 := partner_three c
  refine ⟨⟨?_, ?_, ?_, ?_, ?_⟩, ?_, ?_, ?_, ?_, ?_⟩
  · refine fun d i i' hd => wholes_landed m (Memref.whole main_v1_0) squeezes_S1x2048x706_S2048x706 (Memref.whole main_arg0) k0_off1 k0_off1_inb
      own0_at c (t := r.2) (fun j => ?_) d hd i i'
    fin_cases j
    · exact hl 0
    · exact hl 1
    · exact hl 2
    · show (landPiece m a0 b0 (partner 3 c) c).Holds _
      rw [h3]
      exact kl 0
  · refine fun d i i' hd => wholes_landed m (Memref.whole main_v1_1) squeezes_S1x512x1024_S512x1024 (Memref.whole main_arg1) k0_off2 k0_off2_inb
      own1_at c (t := r.2) (fun j => ?_) d hd i i'
    fin_cases j
    · exact hl 3
    · exact hl 4
    · exact hl 5
    · show (landPiece m a1 b1 (partner 3 c) c).Holds _
      rw [h3]
      exact kl 1
  · refine fun d i i' hd => wholes_landed m (Memref.whole main_v1_2) squeezes_S1x2048x1024_S2048x1024 (Memref.whole main_arg2) k0_off3 k0_off3_inb
      own2_at c (t := r.2) (fun j => ?_) d hd i i'
    fin_cases j
    · exact hl 6
    · exact hl 7
    · exact hl 8
    · show (landPiece m a2 b2 (partner 3 c) c).Holds _
      rw [h3]
      exact kl 2
  · refine fun d i i' hd => wholes_landed m (Memref.whole main_v1_3) squeezes_S1x2048x1024_S2048x1024 (Memref.whole main_arg3) k0_off3 k0_off3_inb
      own3_at c (t := r.2) (fun j => ?_) d hd i i'
    fin_cases j
    · exact hl 9
    · exact hl 10
    · exact hl 11
    · show (landPiece m a3 b3 (partner 3 c) c).Holds _
      rw [h3]
      exact kl 3
  · refine fun d i i' hd => wholes_landed m (Memref.whole main_v1_4) squeezes_S1x48x1024_S48x1024 (Memref.whole main_arg4) k0_off4 k0_off4_inb
      own4_at c (t := r.2) (fun j => ?_) d hd i i'
    fin_cases j
    · exact hl 12
    · exact hl 13
    · exact hl 14
    · show (landPiece m a4 b4 (partner 3 c) c).Holds _
      rw [h3]
      exact kl 4
  · exact readPiece_whole_holds m (ks 0)
  · exact readPiece_whole_holds m (ks 1)
  · exact readPiece_whole_holds m (ks 2)
  · exact readPiece_whole_holds m (ks 3)
  · exact readPiece_whole_holds m (ks 4)

end Cert.GatherRun

end
-- ==== Proof.Relayout.lean ====
/-
Where the blocks of a relaid array come from: the swap of the two cores' blocks, the exchange of chips and slots, and the
stacking of the chips' columns or rows.
-/
module

public import Idealize.ShloMosaic.Lib.Layout
public import Idealize.ShloMosaic.PureOps.ShapeOps
public import Idealize.ShloMosaic.Lib.Pipeline.Value

@[expose] public section

namespace Cert.Relayout

open Idealize.ShloMosaic

variable {α : Type}

/-- The two cores' blocks of each chip swapped. -/
theorem swap {N r w : ℕ} (c d : Fin 8) (hd : d.val = c.val + 1 - 2 * (c.val % 2)) (x : (⟨2, ![N, w]⟩ : Shape).Idx → α)
    (hT : Layout.Tiles ⟨2, ![r, w]⟩ ⟨2, ![N, w]⟩ 0 8) (h1 : (⟨2, ![N, w]⟩ : Shape).ShapeCasts ⟨4, ![4, 2, r, w]⟩)
    (h2 : (⟨4, ![4, 2, r, w]⟩ : Shape).ShapeCasts ⟨2, ![N, w]⟩) :
    Layout.block ⟨2, ![r, w]⟩ ⟨2, ![N, w]⟩ 0 8 c
        (shapeCast ⟨2, ![N, w]⟩ (Host.reverse [1] (shapeCast ⟨4, ![4, 2, r, w]⟩ x h1)) h2) hT
      = Layout.block ⟨2, ![r, w]⟩ ⟨2, ![N, w]⟩ 0 8 d x hT := by
  funext i
  have h4 : c.val / 2 < 4 := by omega
  have h2c : c.val % 2 < 2 := by omega
  have h2d : d.val % 2 < 2 := by omega
  let u : (⟨4, ![4, 2, r, w]⟩ : Shape).Idx := fun
    | ⟨0, _⟩ => ⟨c.val / 2, h4⟩ | ⟨1, _⟩ => ⟨c.val % 2, h2c⟩ | ⟨2, _⟩ => i 0 | ⟨3, _⟩ => i 1
  let v : (⟨4, ![4, 2, r, w]⟩ : Shape).Idx := fun
    | ⟨0, _⟩ => ⟨c.val / 2, h4⟩ | ⟨1, _⟩ => ⟨d.val % 2, h2d⟩ | ⟨2, _⟩ => i 0 | ⟨3, _⟩ => i 1
  have hr : Host.reverse [1] (shapeCast ⟨4, ![4, 2, r, w]⟩ x h1) u = shapeCast ⟨4, ![4, 2, r, w]⟩ x h1 v := by
    refine congrArg (shapeCast ⟨4, ![4, 2, r, w]⟩ x h1) (funext fun a => Fin.ext ?_)
    match a with
    | ⟨0, _⟩ => rfl
    | ⟨1, _⟩ =>
      show 2 - (c.val % 2 + 1) = d.val % 2
      omega
    | ⟨2, _⟩ => rfl
    | ⟨3, _⟩ => rfl
  rw [Layout.block_apply, Layout.block_apply, shapeCast_apply _ h2 _ u, hr, shapeCast_apply _ h1 v (hT.idx d i)]
  · rw [Shape.rowMajor_val_four, Shape.rowMajor_val_two]
    show (d.val * r + (i 0).val) * w + (i 1).val = ((c.val / 2 * 2 + d.val % 2) * r + (i 0).val) * w + (i 1).val
    rw [show c.val / 2 * 2 + d.val % 2 = d.val by omega]
  · rw [Shape.rowMajor_val_four, Shape.rowMajor_val_two]
    show ((c.val / 2 * 2 + c.val % 2) * r + (i 0).val) * w + (i 1).val = (c.val * r + (i 0).val) * w + (i 1).val
    rw [show c.val / 2 * 2 + c.val % 2 = c.val by omega]

/-- Slot `j` of chip `a` exchanged with slot `a` of chip `j`, for each core. -/
theorem trade {r w : ℕ} (c d : Fin 8) (x : (⟨3, ![32, r, w]⟩ : Shape).Idx → α)
    (hT : Layout.Tiles ⟨3, ![4, r, w]⟩ ⟨3, ![32, r, w]⟩ 0 8)
    (h1 : (⟨3, ![32, r, w]⟩ : Shape).ShapeCasts ⟨5, ![4, 2, 4, r, w]⟩)
    (ht : (⟨5, ![4, 2, 4, r, w]⟩ : Shape).Transposes [2, 1, 0, 3, 4] ⟨5, ![4, 2, 4, r, w]⟩)
    (h2 : (⟨5, ![4, 2, 4, r, w]⟩ : Shape).ShapeCasts ⟨3, ![32, r, w]⟩) (i i' : (⟨3, ![4, r, w]⟩ : Shape).Idx)
    (hd : d.val = (i 0).val * 2 + c.val % 2) (e0 : (i' 0).val = c.val / 2) (e1 : (i' 1).val = (i 1).val)
    (e2 : (i' 2).val = (i 2).val) :
    Layout.block ⟨3, ![4, r, w]⟩ ⟨3, ![32, r, w]⟩ 0 8 c
        (shapeCast ⟨3, ![32, r, w]⟩ (transpose ⟨5, ![4, 2, 4, r, w]⟩ [2, 1, 0, 3, 4]
          (shapeCast ⟨5, ![4, 2, 4, r, w]⟩ x h1) ht) h2) hT i
      = Layout.block ⟨3, ![4, r, w]⟩ ⟨3, ![32, r, w]⟩ 0 8 d x hT i' := by
  have hc : c.val / 2 < 4 := by omega
  have hc2 : c.val % 2 < 2 := by omega
  let u : (⟨5, ![4, 2, 4, r, w]⟩ : Shape).Idx := fun
    | ⟨0, _⟩ => ⟨c.val / 2, hc⟩ | ⟨1, _⟩ => ⟨c.val % 2, hc2⟩ | ⟨2, _⟩ => i 0 | ⟨3, _⟩ => i 1 | ⟨4, _⟩ => i 2
  let v : (⟨5, ![4, 2, 4, r, w]⟩ : Shape).Idx := fun
    | ⟨0, _⟩ => i 0 | ⟨1, _⟩ => ⟨c.val % 2, hc2⟩ | ⟨2, _⟩ => ⟨c.val / 2, hc⟩ | ⟨3, _⟩ => i 1 | ⟨4, _⟩ => i 2
  rw [Layout.block_apply, Layout.block_apply, shapeCast_apply _ h2 _ u, transpose_apply _ _ ht u v,
    shapeCast_apply _ h1 v (hT.idx d i')]
  · rw [Shape.rowMajor_val_five, Shape.rowMajor_val_three]
    show ((d.val * 4 + (i' 0).val) * r + (i' 1).val) * w + (i' 2).val
      = ((((i 0).val * 2 + c.val % 2) * 4 + c.val / 2) * r + (i 1).val) * w + (i 2).val
    rw [e0, e1, e2, hd]
  · exact fun b => match b with
      | ⟨0, _⟩ => rfl | ⟨1, _⟩ => rfl | ⟨2, _⟩ => rfl | ⟨3, _⟩ => rfl | ⟨4, _⟩ => rfl
  · rw [Shape.rowMajor_val_five, Shape.rowMajor_val_three]
    show ((((c.val / 2) * 2 + c.val % 2) * 4 + (i 0).val) * r + (i 1).val) * w + (i 2).val
      = ((c.val * 4 + (i 0).val) * r + (i 1).val) * w + (i 2).val
    rw [show c.val / 2 * 2 + c.val % 2 = c.val by omega]

/-- The chips' blocks of columns, one above another. -/
theorem columns {r w W : ℕ} (d : Fin 8) (x : (⟨2, ![r, W]⟩ : Shape).Idx → α) (hW : W = 4 * w)
    (hT : Layout.TilesN ⟨2, ![r, w]⟩ ⟨2, ![r, W]⟩ fun b => Layout.cutSize [2, 2, 2] ((![[], [0, 1]] : Fin 2 → List ℕ) b))
    (h1 : (⟨2, ![r, W]⟩ : Shape).ShapeCasts ⟨3, ![r, 4, w]⟩)
    (ht : (⟨3, ![r, 4, w]⟩ : Shape).Transposes [1, 0, 2] ⟨3, ![4, r, w]⟩)
    (hc : ∀ b, ∀ i ∈ (![[], [0, 1]] : Fin 2 → List ℕ) b, 0 < [2, 2, 2].getD i 0)
    (i : (⟨3, ![4, r, w]⟩ : Shape).Idx) (i' : (⟨2, ![r, w]⟩ : Shape).Idx)
    (hd : d.val / 2 = (i 0).val) (e0 : (i' 0).val = (i 1).val) (e1 : (i' 1).val = (i 2).val) :
    transpose ⟨3, ![4, r, w]⟩ [1, 0, 2] (shapeCast ⟨3, ![r, 4, w]⟩ x h1) ht i
      = Layout.blockN ⟨2, ![r, w]⟩ ⟨2, ![r, W]⟩ (Layout.meshBlock [2, 2, 2] ![[], [0, 1]] d hc) x hT i' := by
  let v : (⟨3, ![r, 4, w]⟩ : Shape).Idx := fun
    | ⟨0, _⟩ => i 1 | ⟨1, _⟩ => i 0 | ⟨2, _⟩ => i 2
  rw [Layout.blockN_apply, transpose_apply _ _ ht i v,
    shapeCast_apply _ h1 v (hT.idx (Layout.meshBlock [2, 2, 2] ![[], [0, 1]] d hc) i')]
  · rw [Shape.rowMajor_val_two, Shape.rowMajor_val_three]
    show (0 * r + (i' 0).val) * W + ((d.val / 4 % 2 * 2 + (d.val / 2 % 2 * 1 + 0)) * w + (i' 1).val)
      = ((i 1).val * 4 + (i 0).val) * w + (i 2).val
    rw [e0, e1, hW, show d.val / 4 % 2 * 2 + (d.val / 2 % 2 * 1 + 0) = (i 0).val by omega]
    rw [Nat.zero_mul, Nat.zero_add, Nat.add_mul ((i 1).val * 4), Nat.mul_assoc, Nat.add_assoc]
  · exact fun b => match b with
      | ⟨0, _⟩ => rfl | ⟨1, _⟩ => rfl | ⟨2, _⟩ => rfl

/-- The chips' blocks of rows, one above another. -/
theorem rows {r R w : ℕ} (d : Fin 8) (x : (⟨2, ![R, w]⟩ : Shape).Idx → α)
    (hT : Layout.TilesN ⟨2, ![r, w]⟩ ⟨2, ![R, w]⟩ fun b => Layout.cutSize [2, 2, 2] ((![[0, 1], []] : Fin 2 → List ℕ) b))
    (h1 : (⟨2, ![R, w]⟩ : Shape).ShapeCasts ⟨3, ![4, r, w]⟩)
    (hc : ∀ b, ∀ i ∈ (![[0, 1], []] : Fin 2 → List ℕ) b, 0 < [2, 2, 2].getD i 0)
    (i : (⟨3, ![4, r, w]⟩ : Shape).Idx) (i' : (⟨2, ![r, w]⟩ : Shape).Idx)
    (hd : d.val / 2 = (i 0).val) (e0 : (i' 0).val = (i 1).val) (e1 : (i' 1).val = (i 2).val) :
    shapeCast ⟨3, ![4, r, w]⟩ x h1 i
      = Layout.blockN ⟨2, ![r, w]⟩ ⟨2, ![R, w]⟩ (Layout.meshBlock [2, 2, 2] ![[0, 1], []] d hc) x hT i' := by
  rw [Layout.blockN_apply, shapeCast_apply _ h1 i (hT.idx (Layout.meshBlock [2, 2, 2] ![[0, 1], []] d hc) i')]
  rw [Shape.rowMajor_val_two, Shape.rowMajor_val_three]
  show ((d.val / 4 % 2 * 2 + (d.val / 2 % 2 * 1 + 0)) * r + (i' 0).val) * w + (0 * w + (i' 1).val)
    = ((i 0).val * r + (i 1).val) * w + (i 2).val
  rw [e0, e1, show d.val / 4 % 2 * 2 + (d.val / 2 % 2 * 1 + 0) = (i 0).val by omega]
  rw [Nat.zero_mul, Nat.zero_add]

end Cert.Relayout
-- ==== Proof.GatherClaim.lean ====
/-
What is claimed of the weights' gather.
-/
module

public import proofs.«01_k».proof.Defs
public import proofs.«01_k».proof.Proof.GatherRun
public import proofs.«01_k».proof.Proof.Relayout
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.GatherClaim

open Idealize.ShloMosaic Idealize.SL.Sem
open Cert.GatherRun

theorem frame_ideal : Cert.quiescent_KernelIdeal := fun m g _ =>
  (θ_run Cert.KernelIdeal.defs _ _).mono (fun _ h => ⟨fun c => (h.1 c).2, h.2⟩) (run_main (F := Ideal) m g)

theorem frame : Cert.quiescent_Kernel := fun m g _ =>
  (θ_run Cert.KernelIdeal.defs _ _).mono (fun _ h => ⟨fun c => (h.1 c).2, h.2⟩) (run_main (F := Bits) m g)

theorem frame_ref : Cert.quiescent_ReferenceIdeal := fun m g _ =>
  (θ_run Cert.ReferenceIdeal.defs _ _).mono
    (fun r h => ⟨fun c => (h c).2.2.2.2.2, sem_eq_zero_of_no_sems (by decide) r.2⟩) (Cert.ReferenceIdeal.Value.run m g)

/-- The element of the sender's array that lands at `i`. -/
def from' {r w : ℕ} (i : (⟨3, ![4, r, w]⟩ : Shape).Idx) : (⟨2, ![r, w]⟩ : Shape).Idx := fun
  | ⟨0, _⟩ => i 1 | ⟨1, _⟩ => i 2

/-- The sender of slot `k` to device `c`. -/
def sender (c : Fin 8) (k : Fin 4) : Fin 8 := ⟨k.val * 2 + c.val % 2, by omega⟩

section Landed

variable {r w : ℕ} {α : Type} (c : Fin 8) (o : (⟨3, ![4, r, w]⟩ : Shape).Idx → α) (a : Fin 8 → (⟨2, ![r, w]⟩ : Shape).Idx → α)
  (ho : ∀ (d : Fin 8) (i : (⟨3, ![4, r, w]⟩ : Shape).Idx) (i' : (⟨2, ![r, w]⟩ : Shape).Idx), d.val % 2 = c.val % 2 → d.val / 2 = (i 0).val →
    (i' 0).val = (i 1).val → (i' 1).val = (i 2).val → o i = a d i')

include ho

theorem landed_columns {W : ℕ} (x : (⟨2, ![r, W]⟩ : Shape).Idx → α) (hW : W = 4 * w)
    (hT : Layout.TilesN ⟨2, ![r, w]⟩ ⟨2, ![r, W]⟩ fun b => Layout.cutSize [2, 2, 2] ((![[], [0, 1]] : Fin 2 → List ℕ) b))
    (h1 : (⟨2, ![r, W]⟩ : Shape).ShapeCasts ⟨3, ![r, 4, w]⟩)
    (ht : (⟨3, ![r, 4, w]⟩ : Shape).Transposes [1, 0, 2] ⟨3, ![4, r, w]⟩)
    (hc : ∀ b, ∀ i ∈ (![[], [0, 1]] : Fin 2 → List ℕ) b, 0 < [2, 2, 2].getD i 0)
    (ha : ∀ d, a d = Layout.blockN ⟨2, ![r, w]⟩ ⟨2, ![r, W]⟩ (Layout.meshBlock [2, 2, 2] ![[], [0, 1]] d hc) x hT) :
    o = transpose ⟨3, ![4, r, w]⟩ [1, 0, 2] (shapeCast ⟨3, ![r, 4, w]⟩ x h1) ht := by
  funext i
  have hk : (sender c (i 0)).val = (i 0).val * 2 + c.val % 2 := rfl
  rw [ho (sender c (i 0)) i (from' i) (by omega) (by omega) rfl rfl, ha]
  exact (Relayout.columns (sender c (i 0)) x hW hT h1 ht hc i (from' i) (by omega) rfl rfl).symm

theorem landed_rows {R : ℕ} (x : (⟨2, ![R, w]⟩ : Shape).Idx → α)
    (hT : Layout.TilesN ⟨2, ![r, w]⟩ ⟨2, ![R, w]⟩ fun b => Layout.cutSize [2, 2, 2] ((![[0, 1], []] : Fin 2 → List ℕ) b))
    (h1 : (⟨2, ![R, w]⟩ : Shape).ShapeCasts ⟨3, ![4, r, w]⟩)
    (hc : ∀ b, ∀ i ∈ (![[0, 1], []] : Fin 2 → List ℕ) b, 0 < [2, 2, 2].getD i 0)
    (ha : ∀ d, a d = Layout.blockN ⟨2, ![r, w]⟩ ⟨2, ![R, w]⟩ (Layout.meshBlock [2, 2, 2] ![[0, 1], []] d hc) x hT) :
    o = shapeCast ⟨3, ![4, r, w]⟩ x h1 := by
  funext i
  have hk : (sender c (i 0)).val = (i 0).val * 2 + c.val % 2 := rfl
  rw [ho (sender c (i 0)) i (from' i) (by omega) (by omega) rfl rfl, ha]
  exact (Relayout.rows (sender c (i 0)) x hT h1 hc i (from' i) (by omega) rfl rfl).symm

end Landed

theorem algebraic : Cert.algebraic_KernelIdeal_ReferenceIdeal := by
  intro m g m' g' _ hm
  refine ⟨_, _, _, _, _, (θ_run Cert.KernelIdeal.defs _ _).mono (fun r h c => ?_) (run_main (F := Ideal) m g),
    (θ_run Cert.ReferenceIdeal.defs _ _).mono (fun r h => h 0) (Cert.ReferenceIdeal.Value.run m' g')⟩
  obtain ⟨⟨h0, h1, h2, h3, h4⟩, hk⟩ := h.1 c
  refine ⟨?_, ?_, ?_, ?_, ?_, hk⟩
  · exact landed_columns c _ _ h0 _ rfl _ _ _ _ fun d => (hm d).1
  · exact landed_rows c _ _ h1 _ _ _ _ fun d => (hm d).2.1
  · exact landed_columns c _ _ h2 _ rfl _ _ _ _ fun d => (hm d).2.2.1
  · exact landed_rows c _ _ h3 _ _ _ _ fun d => (hm d).2.2.2.1
  · exact landed_rows c _ _ h4 _ _ _ _ fun d => (hm d).2.2.2.2

end Cert.GatherClaim

end
-- ==== Proof.GradsRun.lean ====
/-
The gradients' exchange: each chip's four slots of five stacks, one to every chip's same core, kept on arrival in the
sender's slot.
-/
module

public import proofs.«01_k».proof.Proof.Stacks
public import Idealize.ShloMosaic.Lib.Pipeline.BigSepL
public import proofs.«01_k».proof.Proof.Gen.GradsIdeal.Skeleton
public import proofs.«01_k».proof.Proof.Gen.GradsIdeal.Launch
public import proofs.«01_k».proof.Proof.Gen.GradsIdeal.Points

@[expose] public section

set_option Elab.async false

noncomputable section

namespace Cert.GradsRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.GradsIdeal Cert.GradsIdeal.Gen Cert.Exchange

variable {F : FTy → Type} [FloatOps F]

local notation "𝕄" => MT nD τ sig Unit (Elt F) ℕ (UU nD τ sig) ℕ

variable (m : (ℓ : Loc nD τ sig) → Buf (Elt F) ℓ)

def sendSem (t : Fin 15) : DmaSem sig := ((cc0_scratch0.slice (Rect.unit (s := S15) ![t.val] S1.size (by revert t; decide))).squeeze S_ squeezes_S1_S_).sem
def recvSem (t : Fin 15) : DmaSem sig := ((cc0_scratch1.slice (Rect.unit (s := S15) ![t.val] S1.size (by revert t; decide))).squeeze S_ squeezes_S1_S_).sem
def locSem (l : Fin 5) : DmaSem sig := ((cc0_scratch2.slice (Rect.unit (s := S5) ![l.val] S1.size (by revert l; decide))).squeeze S_ squeezes_S1_S_).sem

/-! The slots: of each array the partner's, the last its own. -/

def off0 : Fin 4 → Dev nD → Fin 3 → ℕ := ![k0_off5, k0_off6, k0_off7, k0_off1]
theorem off0_inb (j : Fin 4) (c : Dev nD) (a : Fin 3) : off0 j c a + ![1, 2048, 706] a ≤ ![4, 2048, 706] a := by
  fin_cases j <;> [exact k0_off5_inb c a; exact k0_off6_inb c a; exact k0_off7_inb c a; exact k0_off1_inb c a]
theorem off0_at (j : Fin 4) (c : Dev nD) : At (off0 j c) (chip (partner j c)) := by revert j c; decide +kernel
theorem own0_at (c : Dev nD) : At (off0 3 c) (chip c) := by revert c; decide +kernel
def a0 (j : Fin 4) (c : Dev nD) := slot (Memref.whole main_arg0) (off0 j c) (off0_inb j c) squeezes_S1x2048x706_S2048x706
def b0 (c : Dev nD) := slot (Memref.whole main_v1_0) (off0 3 c) (off0_inb 3 c) squeezes_S1x2048x706_S2048x706

def off1 : Fin 4 → Dev nD → Fin 3 → ℕ := ![k0_off8, k0_off9, k0_off10, k0_off2]
theorem off1_inb (j : Fin 4) (c : Dev nD) (a : Fin 3) : off1 j c a + ![1, 512, 1024] a ≤ ![4, 512, 1024] a := by
  fin_cases j <;> [exact k0_off8_inb c a; exact k0_off9_inb c a; exact k0_off10_inb c a; exact k0_off2_inb c a]
theorem off1_at (j : Fin 4) (c : Dev nD) : At (off1 j c) (chip (partner j c)) := by revert j c; decide +kernel
theorem own1_at (c : Dev nD) : At (off1 3 c) (chip c) := by revert c; decide +kernel
def a1 (j : Fin 4) (c : Dev nD) := slot (Memref.whole main_arg1) (off1 j c) (off1_inb j c) squeezes_S1x512x1024_S512x1024
def b1 (c : Dev nD) := slot (Memref.whole main_v1_1) (off1 3 c) (off1_inb 3 c) squeezes_S1x512x1024_S512x1024

def off2 : Fin 4 → Dev nD → Fin 3 → ℕ := ![k0_off11, k0_off12, k0_off13, k0_off3]
theorem off2_inb (j : Fin 4) (c : Dev nD) (a : Fin 3) : off2 j c a + ![1, 2048, 1024] a ≤ ![4, 2048, 1024] a := by
  fin_cases j <;> [exact k0_off11_inb c a; exact k0_off12_inb c a; exact k0_off13_inb c a; exact k0_off3_inb c a]
theorem off2_at (j : Fin 4) (c : Dev nD) : At (off2 j c) (chip (partner j c)) := by revert j c; decide +kernel
theorem own2_at (c : Dev nD) : At (off2 3 c) (chip c) := by revert c; decide +kernel
def a2 (j : Fin 4) (c : Dev nD) := slot (Memref.whole main_arg2) (off2 j c) (off2_inb j c) squeezes_S1x2048x1024_S2048x1024
def b2 (c : Dev nD) := slot (Memref.whole main_v1_2) (off2 3 c) (off2_inb 3 c) squeezes_S1x2048x1024_S2048x1024

def off3 : Fin 4 → Dev nD → Fin 3 → ℕ := ![k0_off11, k0_off12, k0_off13, k0_off3]
theorem off3_inb (j : Fin 4) (c : Dev nD) (a : Fin 3) : off3 j c a + ![1, 2048, 1024] a ≤ ![4, 2048, 1024] a := by
  fin_cases j <;> [exact k0_off11_inb c a; exact k0_off12_inb c a; exact k0_off13_inb c a; exact k0_off3_inb c a]
theorem off3_at (j : Fin 4) (c : Dev nD) : At (off3 j c) (chip (partner j c)) := by revert j c; decide +kernel
theorem own3_at (c : Dev nD) : At (off3 3 c) (chip c) := by revert c; decide +kernel
def a3 (j : Fin 4) (c : Dev nD) := slot (Memref.whole main_arg3) (off3 j c) (off3_inb j c) squeezes_S1x2048x1024_S2048x1024
def b3 (c : Dev nD) := slot (Memref.whole main_v1_3) (off3 3 c) (off3_inb 3 c) squeezes_S1x2048x1024_S2048x1024

def off4 : Fin 4 → Dev nD → Fin 3 → ℕ := ![k0_off14, k0_off15, k0_off16, k0_off4]
theorem off4_inb (j : Fin 4) (c : Dev nD) (a : Fin 3) : off4 j c a + ![1, 48, 1024] a ≤ ![4, 48, 1024] a := by
  fin_cases j <;> [exact k0_off14_inb c a; exact k0_off15_inb c a; exact k0_off16_inb c a; exact k0_off4_inb c a]
theorem off4_at (j : Fin 4) (c : Dev nD) : At (off4 j c) (chip (partner j c)) := by revert j c; decide +kernel
theorem own4_at (c : Dev nD) : At (off4 3 c) (chip c) := by revert c; decide +kernel
def a4 (j : Fin 4) (c : Dev nD) := slot (Memref.whole main_arg4) (off4 j c) (off4_inb j c) squeezes_S1x48x1024_S48x1024
def b4 (c : Dev nD) := slot (Memref.whole main_v1_4) (off4 3 c) (off4_inb 3 c) squeezes_S1x48x1024_S48x1024

def copies : Copies nD τ sig (Elt F) where
  nr := 15
  nl := 5
  send t := .dma (sendSem t)
  recv t := .dma (recvSem t)
  loc l := .dma (locSem l)
  inj := by decide +kernel
  routes := by decide
  peer t := partner ⟨t.val % 3, Nat.lt_succ_of_lt (Nat.mod_lt _ (by decide))⟩
  peer_peer _ := partner_partner _
  amt := ![(b0 0).view.dmaCredit, (b0 0).view.dmaCredit, (b0 0).view.dmaCredit, (b1 0).view.dmaCredit, (b1 0).view.dmaCredit, (b1 0).view.dmaCredit, (b2 0).view.dmaCredit, (b2 0).view.dmaCredit, (b2 0).view.dmaCredit, (b3 0).view.dmaCredit, (b3 0).view.dmaCredit, (b3 0).view.dmaCredit, (b4 0).view.dmaCredit, (b4 0).view.dmaCredit, (b4 0).view.dmaCredit]
  amt_pos := by
    intro t; fin_cases t <;> exact View.dmaCredit_pos _ (by decide)
  amtL := ![(b0 0).view.dmaCredit, (b1 0).view.dmaCredit, (b2 0).view.dmaCredit, (b3 0).view.dmaCredit, (b4 0).view.dmaCredit]
  amtL_pos := by
    intro t; fin_cases t <;> exact View.dmaCredit_pos _ (by decide)
  src t c := ![readPiece m (a0 0) fullShare c, readPiece m (a0 1) fullShare c, readPiece m (a0 2) fullShare c, readPiece m (a1 0) fullShare c, readPiece m (a1 1) fullShare c, readPiece m (a1 2) fullShare c, readPiece m (a2 0) fullShare c, readPiece m (a2 1) fullShare c, readPiece m (a2 2) fullShare c, readPiece m (a3 0) fullShare c, readPiece m (a3 1) fullShare c, readPiece m (a3 2) fullShare c, readPiece m (a4 0) fullShare c, readPiece m (a4 1) fullShare c, readPiece m (a4 2) fullShare c] t
  opn t c d := ![openPiece m b0 c d, openPiece m b0 c d, openPiece m b0 c d, openPiece m b1 c d, openPiece m b1 c d, openPiece m b1 c d, openPiece m b2 c d, openPiece m b2 c d, openPiece m b2 c d, openPiece m b3 c d, openPiece m b3 c d, openPiece m b3 c d, openPiece m b4 c d, openPiece m b4 c d, openPiece m b4 c d] t
  land t c d := ![landPiece m (a0 0) b0 c d, landPiece m (a0 1) b0 c d, landPiece m (a0 2) b0 c d, landPiece m (a1 0) b1 c d, landPiece m (a1 1) b1 c d, landPiece m (a1 2) b1 c d, landPiece m (a2 0) b2 c d, landPiece m (a2 1) b2 c d, landPiece m (a2 2) b2 c d, landPiece m (a3 0) b3 c d, landPiece m (a3 1) b3 c d, landPiece m (a3 2) b3 c d, landPiece m (a4 0) b4 c d, landPiece m (a4 1) b4 c d, landPiece m (a4 2) b4 c d] t
  lsrc l c := ![readPiece m (a0 3) fullShare c, readPiece m (a1 3) fullShare c, readPiece m (a2 3) fullShare c, readPiece m (a3 3) fullShare c, readPiece m (a4 3) fullShare c] l
  lopn l c := ![openPiece m b0 c c, openPiece m b1 c c, openPiece m b2 c c, openPiece m b3 c c, openPiece m b4 c c] l
  lland l c := ![landPiece m (a0 3) b0 c c, landPiece m (a1 3) b1 c c, landPiece m (a2 3) b2 c c, landPiece m (a3 3) b3 c c, landPiece m (a4 3) b4 c c] l

theorem dev1 (c : Dev nD) : (⟨k0_dev1 c, k0_dev1_lt c⟩ : Dev nD) = partner 0 c := by revert c; decide +kernel
theorem dev2 (c : Dev nD) : (⟨k0_dev2 c, k0_dev2_lt c⟩ : Dev nD) = partner 1 c := by revert c; decide +kernel
theorem dev3 (c : Dev nD) : (⟨k0_dev3 c, k0_dev3_lt c⟩ : Dev nD) = partner 2 c := by revert c; decide +kernel
theorem dev4 (c : Dev nD) : (⟨k0_dev4 c, k0_dev4_lt c⟩ : Dev nD) = partner 0 c := by revert c; decide +kernel
theorem dev5 (c : Dev nD) : (⟨k0_dev5 c, k0_dev5_lt c⟩ : Dev nD) = partner 1 c := by revert c; decide +kernel
theorem dev6 (c : Dev nD) : (⟨k0_dev6 c, k0_dev6_lt c⟩ : Dev nD) = partner 2 c := by revert c; decide +kernel
theorem dev7 (c : Dev nD) : (⟨k0_dev7 c, k0_dev7_lt c⟩ : Dev nD) = partner 0 c := by revert c; decide +kernel
theorem dev8 (c : Dev nD) : (⟨k0_dev8 c, k0_dev8_lt c⟩ : Dev nD) = partner 1 c := by revert c; decide +kernel
theorem dev9 (c : Dev nD) : (⟨k0_dev9 c, k0_dev9_lt c⟩ : Dev nD) = partner 2 c := by revert c; decide +kernel
theorem dev10 (c : Dev nD) : (⟨k0_dev10 c, k0_dev10_lt c⟩ : Dev nD) = partner 0 c := by revert c; decide +kernel
theorem dev11 (c : Dev nD) : (⟨k0_dev11 c, k0_dev11_lt c⟩ : Dev nD) = partner 1 c := by revert c; decide +kernel
theorem dev12 (c : Dev nD) : (⟨k0_dev12 c, k0_dev12_lt c⟩ : Dev nD) = partner 2 c := by revert c; decide +kernel
theorem dev13 (c : Dev nD) : (⟨k0_dev13 c, k0_dev13_lt c⟩ : Dev nD) = partner 0 c := by revert c; decide +kernel
theorem dev14 (c : Dev nD) : (⟨k0_dev14 c, k0_dev14_lt c⟩ : Dev nD) = partner 1 c := by revert c; decide +kernel
theorem dev15 (c : Dev nD) : (⟨k0_dev15 c, k0_dev15_lt c⟩ : Dev nD) = partner 2 c := by revert c; decide +kernel

/-- One device's run of the call. -/
theorem body (𝒱 : Variants) (c : Dev nD) (K : Dev nD × (copies m).plan.J → ℕ) (Q : PUnit → sProp 𝕄)
    (hQ : ∀ v, (copies m).plan.st K (copies m).plan.total c ⊢ iprop(|={Set.univ}=> Q v)) :
    (copies m).plan.st K 0 c ⊢ wp frame (wpE (defs₀ (F := F)) 𝒱 (c.tc : Thread nD τ) none) Set.univ (bodyAt0 (F := F) t0_0) Q := by
  unfold bodyAt0
  simp only [cc0_grads_exchange_eq_skeleton, cc0_grads_exchange_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, Prog.lift, Prog.bind_op, Prog.bind_ret, Prog.pure_eq_ret]
  rw [wp_deviceId]
  refine (copies m).here defs₀ 𝒱 K c m (a0 3) b0 (0 : Fin 5) 0 rfl rfl rfl (q := fullShare) rfl rfl rfl ?_
  refine (copies m).here defs₀ 𝒱 K c m (a1 3) b1 (1 : Fin 5) 1 rfl rfl rfl (q := fullShare) rfl rfl rfl ?_
  refine (copies m).here defs₀ 𝒱 K c m (a2 3) b2 (2 : Fin 5) 2 rfl rfl rfl (q := fullShare) rfl rfl rfl ?_
  refine (copies m).here defs₀ 𝒱 K c m (a3 3) b3 (3 : Fin 5) 3 rfl rfl rfl (q := fullShare) rfl rfl rfl ?_
  refine (copies m).here defs₀ 𝒱 K c m (a4 3) b4 (4 : Fin 5) 4 rfl rfl rfl (q := fullShare) rfl rfl rfl ?_
  refine (copies m).remote defs₀ 𝒱 K c m (a0 0) b0 (0 : Fin 15) 5 rfl (dev1 c) rfl rfl rfl (q := fullShare) rfl rfl rfl ?_
  refine (copies m).remote defs₀ 𝒱 K c m (a0 1) b0 (1 : Fin 15) 6 rfl (dev2 c) rfl rfl rfl (q := fullShare) rfl rfl rfl ?_
  refine (copies m).remote defs₀ 𝒱 K c m (a0 2) b0 (2 : Fin 15) 7 rfl (dev3 c) rfl rfl rfl (q := fullShare) rfl rfl rfl ?_
  refine (copies m).remote defs₀ 𝒱 K c m (a1 0) b1 (3 : Fin 15) 8 rfl (dev4 c) rfl rfl rfl (q := fullShare) rfl rfl rfl ?_
  refine (copies m).remote defs₀ 𝒱 K c m (a1 1) b1 (4 : Fin 15) 9 rfl (dev5 c) rfl rfl rfl (q := fullShare) rfl rfl rfl ?_
  refine (copies m).remote defs₀ 𝒱 K c m (a1 2) b1 (5 : Fin 15) 10 rfl (dev6 c) rfl rfl rfl (q := fullShare) rfl rfl rfl ?_
  refine (copies m).remote defs₀ 𝒱 K c m (a2 0) b2 (6 : Fin 15) 11 rfl (dev7 c) rfl rfl rfl (q := fullShare) rfl rfl rfl ?_
  refine (copies m).remote defs₀ 𝒱 K c m (a2 1) b2 (7 : Fin 15) 12 rfl (dev8 c) rfl rfl rfl (q := fullShare) rfl rfl rfl ?_
  refine (copies m).remote defs₀ 𝒱 K c m (a2 2) b2 (8 : Fin 15) 13 rfl (dev9 c) rfl rfl rfl (q := fullShare) rfl rfl rfl ?_
  refine (copies m).remote defs₀ 𝒱 K c m (a3 0) b3 (9 : Fin 15) 14 rfl (dev10 c) rfl rfl rfl (q := fullShare) rfl rfl rfl ?_
  refine (copies m).remote defs₀ 𝒱 K c m (a3 1) b3 (10 : Fin 15) 15 rfl (dev11 c) rfl rfl rfl (q := fullShare) rfl rfl rfl ?_
  refine (copies m).remote defs₀ 𝒱 K c m (a3 2) b3 (11 : Fin 15) 16 rfl (dev12 c) rfl rfl rfl (q := fullShare) rfl rfl rfl ?_
  refine (copies m).remote defs₀ 𝒱 K c m (a4 0) b4 (12 : Fin 15) 17 rfl (dev13 c) rfl rfl rfl (q := fullShare) rfl rfl rfl ?_
  refine (copies m).remote defs₀ 𝒱 K c m (a4 1) b4 (13 : Fin 15) 18 rfl (dev14 c) rfl rfl rfl (q := fullShare) rfl rfl rfl ?_
  refine (copies m).remote defs₀ 𝒱 K c m (a4 2) b4 (14 : Fin 15) 19 rfl (dev15 c) rfl rfl rfl (q := fullShare) rfl rfl rfl ?_
  refine (copies m).plan.wait_recv defs₀ 𝒱 K c (0 : Fin 15) 20 rfl rfl rfl ?_
  refine (copies m).plan.wait_recv defs₀ 𝒱 K c (1 : Fin 15) 21 rfl rfl rfl ?_
  refine (copies m).plan.wait_recv defs₀ 𝒱 K c (2 : Fin 15) 22 rfl rfl rfl ?_
  refine (copies m).plan.wait_recv defs₀ 𝒱 K c (3 : Fin 15) 23 rfl rfl rfl ?_
  refine (copies m).plan.wait_recv defs₀ 𝒱 K c (4 : Fin 15) 24 rfl rfl rfl ?_
  refine (copies m).plan.wait_recv defs₀ 𝒱 K c (5 : Fin 15) 25 rfl rfl rfl ?_
  refine (copies m).plan.wait_recv defs₀ 𝒱 K c (6 : Fin 15) 26 rfl rfl rfl ?_
  refine (copies m).plan.wait_recv defs₀ 𝒱 K c (7 : Fin 15) 27 rfl rfl rfl ?_
  refine (copies m).plan.wait_recv defs₀ 𝒱 K c (8 : Fin 15) 28 rfl rfl rfl ?_
  refine (copies m).plan.wait_recv defs₀ 𝒱 K c (9 : Fin 15) 29 rfl rfl rfl ?_
  refine (copies m).plan.wait_recv defs₀ 𝒱 K c (10 : Fin 15) 30 rfl rfl rfl ?_
  refine (copies m).plan.wait_recv defs₀ 𝒱 K c (11 : Fin 15) 31 rfl rfl rfl ?_
  refine (copies m).plan.wait_recv defs₀ 𝒱 K c (12 : Fin 15) 32 rfl rfl rfl ?_
  refine (copies m).plan.wait_recv defs₀ 𝒱 K c (13 : Fin 15) 33 rfl rfl rfl ?_
  refine (copies m).plan.wait_recv defs₀ 𝒱 K c (14 : Fin 15) 34 rfl rfl rfl ?_
  refine (copies m).plan.wait_send defs₀ 𝒱 K c (0 : Fin 15) 35 rfl rfl rfl ?_
  refine (copies m).plan.wait_send defs₀ 𝒱 K c (1 : Fin 15) 36 rfl rfl rfl ?_
  refine (copies m).plan.wait_send defs₀ 𝒱 K c (2 : Fin 15) 37 rfl rfl rfl ?_
  refine (copies m).plan.wait_send defs₀ 𝒱 K c (3 : Fin 15) 38 rfl rfl rfl ?_
  refine (copies m).plan.wait_send defs₀ 𝒱 K c (4 : Fin 15) 39 rfl rfl rfl ?_
  refine (copies m).plan.wait_send defs₀ 𝒱 K c (5 : Fin 15) 40 rfl rfl rfl ?_
  refine (copies m).plan.wait_send defs₀ 𝒱 K c (6 : Fin 15) 41 rfl rfl rfl ?_
  refine (copies m).plan.wait_send defs₀ 𝒱 K c (7 : Fin 15) 42 rfl rfl rfl ?_
  refine (copies m).plan.wait_send defs₀ 𝒱 K c (8 : Fin 15) 43 rfl rfl rfl ?_
  refine (copies m).plan.wait_send defs₀ 𝒱 K c (9 : Fin 15) 44 rfl rfl rfl ?_
  refine (copies m).plan.wait_send defs₀ 𝒱 K c (10 : Fin 15) 45 rfl rfl rfl ?_
  refine (copies m).plan.wait_send defs₀ 𝒱 K c (11 : Fin 15) 46 rfl rfl rfl ?_
  refine (copies m).plan.wait_send defs₀ 𝒱 K c (12 : Fin 15) 47 rfl rfl rfl ?_
  refine (copies m).plan.wait_send defs₀ 𝒱 K c (13 : Fin 15) 48 rfl rfl rfl ?_
  refine (copies m).plan.wait_send defs₀ 𝒱 K c (14 : Fin 15) 49 rfl rfl rfl ?_
  refine (copies m).plan.wait_local defs₀ 𝒱 K c (0 : Fin 5) 50 rfl rfl rfl ?_
  refine (copies m).plan.wait_local defs₀ 𝒱 K c (1 : Fin 5) 51 rfl rfl rfl ?_
  refine (copies m).plan.wait_local defs₀ 𝒱 K c (2 : Fin 5) 52 rfl rfl rfl ?_
  refine (copies m).plan.wait_local defs₀ 𝒱 K c (3 : Fin 5) 53 rfl rfl rfl ?_
  refine (copies m).plan.wait_local defs₀ 𝒱 K c (4 : Fin 5) 54 rfl rfl rfl ?_
  rw [wp_ret]
  exact hQ _

theorem partner_three (c : Dev 8) : partner 3 c = c := by revert c; decide

section Pick

attribute [local irreducible] a0 a1 a2 a3 a4 b0 b1 b2 b3 b4

def pickA (c : Dev nD) (i : Fin 5) (j : Fin 4) : Piece nD τ sig (Elt F) :=
  ![readPiece m (a0 j) fullShare c, readPiece m (a1 j) fullShare c, readPiece m (a2 j) fullShare c, readPiece m (a3 j) fullShare c,
    readPiece m (a4 j) fullShare c] i
def pickO (c : Dev nD) (i : Fin 5) (j : Fin 4) : Piece nD τ sig (Elt F) :=
  ![openPiece m b0 (partner j c) c, openPiece m b1 (partner j c) c, openPiece m b2 (partner j c) c, openPiece m b3 (partner j c) c,
    openPiece m b4 (partner j c) c] i

theorem src0 (c : Dev nD) : (copies m).src (0 : Fin 15) c = pickA m c 0 0 := rfl
theorem src1 (c : Dev nD) : (copies m).src (1 : Fin 15) c = pickA m c 0 1 := rfl
theorem src2 (c : Dev nD) : (copies m).src (2 : Fin 15) c = pickA m c 0 2 := rfl
theorem src3 (c : Dev nD) : (copies m).src (3 : Fin 15) c = pickA m c 1 0 := rfl
theorem src4 (c : Dev nD) : (copies m).src (4 : Fin 15) c = pickA m c 1 1 := rfl
theorem src5 (c : Dev nD) : (copies m).src (5 : Fin 15) c = pickA m c 1 2 := rfl
theorem src6 (c : Dev nD) : (copies m).src (6 : Fin 15) c = pickA m c 2 0 := rfl
theorem src7 (c : Dev nD) : (copies m).src (7 : Fin 15) c = pickA m c 2 1 := rfl
theorem src8 (c : Dev nD) : (copies m).src (8 : Fin 15) c = pickA m c 2 2 := rfl
theorem src9 (c : Dev nD) : (copies m).src (9 : Fin 15) c = pickA m c 3 0 := rfl
theorem src10 (c : Dev nD) : (copies m).src (10 : Fin 15) c = pickA m c 3 1 := rfl
theorem src11 (c : Dev nD) : (copies m).src (11 : Fin 15) c = pickA m c 3 2 := rfl
theorem src12 (c : Dev nD) : (copies m).src (12 : Fin 15) c = pickA m c 4 0 := rfl
theorem src13 (c : Dev nD) : (copies m).src (13 : Fin 15) c = pickA m c 4 1 := rfl
theorem src14 (c : Dev nD) : (copies m).src (14 : Fin 15) c = pickA m c 4 2 := rfl
theorem opn0 (c : Dev nD) : (copies m).opn (0 : Fin 15) (partner 0 c) c = pickO m c 0 0 := rfl
theorem opn1 (c : Dev nD) : (copies m).opn (1 : Fin 15) (partner 1 c) c = pickO m c 0 1 := rfl
theorem opn2 (c : Dev nD) : (copies m).opn (2 : Fin 15) (partner 2 c) c = pickO m c 0 2 := rfl
theorem opn3 (c : Dev nD) : (copies m).opn (3 : Fin 15) (partner 0 c) c = pickO m c 1 0 := rfl
theorem opn4 (c : Dev nD) : (copies m).opn (4 : Fin 15) (partner 1 c) c = pickO m c 1 1 := rfl
theorem opn5 (c : Dev nD) : (copies m).opn (5 : Fin 15) (partner 2 c) c = pickO m c 1 2 := rfl
theorem opn6 (c : Dev nD) : (copies m).opn (6 : Fin 15) (partner 0 c) c = pickO m c 2 0 := rfl
theorem opn7 (c : Dev nD) : (copies m).opn (7 : Fin 15) (partner 1 c) c = pickO m c 2 1 := rfl
theorem opn8 (c : Dev nD) : (copies m).opn (8 : Fin 15) (partner 2 c) c = pickO m c 2 2 := rfl
theorem opn9 (c : Dev nD) : (copies m).opn (9 : Fin 15) (partner 0 c) c = pickO m c 3 0 := rfl
theorem opn10 (c : Dev nD) : (copies m).opn (10 : Fin 15) (partner 1 c) c = pickO m c 3 1 := rfl
theorem opn11 (c : Dev nD) : (copies m).opn (11 : Fin 15) (partner 2 c) c = pickO m c 3 2 := rfl
theorem opn12 (c : Dev nD) : (copies m).opn (12 : Fin 15) (partner 0 c) c = pickO m c 4 0 := rfl
theorem opn13 (c : Dev nD) : (copies m).opn (13 : Fin 15) (partner 1 c) c = pickO m c 4 1 := rfl
theorem opn14 (c : Dev nD) : (copies m).opn (14 : Fin 15) (partner 2 c) c = pickO m c 4 2 := rfl
theorem lsrc0 (c : Dev nD) : (copies m).lsrc (0 : Fin 5) c = pickA m c 0 3 := rfl
theorem lsrc1 (c : Dev nD) : (copies m).lsrc (1 : Fin 5) c = pickA m c 1 3 := rfl
theorem lsrc2 (c : Dev nD) : (copies m).lsrc (2 : Fin 5) c = pickA m c 2 3 := rfl
theorem lsrc3 (c : Dev nD) : (copies m).lsrc (3 : Fin 5) c = pickA m c 3 3 := rfl
theorem lsrc4 (c : Dev nD) : (copies m).lsrc (4 : Fin 5) c = pickA m c 4 3 := rfl
theorem lopn0 (c : Dev nD) : (copies m).lopn (0 : Fin 5) c = pickO m c 0 3 := by
  unfold pickO; rw [partner_three]; rfl
theorem lopn1 (c : Dev nD) : (copies m).lopn (1 : Fin 5) c = pickO m c 1 3 := by
  unfold pickO; rw [partner_three]; rfl
theorem lopn2 (c : Dev nD) : (copies m).lopn (2 : Fin 5) c = pickO m c 2 3 := by
  unfold pickO; rw [partner_three]; rfl
theorem lopn3 (c : Dev nD) : (copies m).lopn (3 : Fin 5) c = pickO m c 3 3 := by
  unfold pickO; rw [partner_three]; rfl
theorem lopn4 (c : Dev nD) : (copies m).lopn (4 : Fin 5) c = pickO m c 4 3 := by
  unfold pickO; rw [partner_three]; rfl

end Pick

theorem split (c : Dev nD) : (unscopedBufs c (fun b => m ((c.tc : Thread nD τ).loc b)) : sProp 𝕄)
    ⊢ iprop((bigSep Finset.univ fun t => (copies m).plan.srcP t c) ∗ (bigSep Finset.univ fun t => (copies m).plan.openP t c)
      ∗ bigSep Finset.univ fun l => (copies m).plan.rawP l c) := by
  let W : (Fin 5 → Ref sig .tc) → Fin 5 → sProp 𝕄 := fun b i => ((c.tc : Thread nD τ).loc (b i)) ↦{fullShare} m ((c.tc : Thread nD τ).loc (b i))
  have hA : bigSep Finset.univ (W ![main_arg0, main_arg1, main_arg2, main_arg3, main_arg4])
      = iprop((bigSep Finset.univ fun t => (copies m).plan.srcP t c) ∗ bigSep Finset.univ fun l : Fin 5 => ((copies m).lsrc l c).own) := by
    refine fan _ (fun i j => (pickA m c i j).own) ?_ _ _ ?_ ?_
    · intro i
      fin_cases i
      · exact four_slots (Memref.whole main_arg0) squeezes_S1x2048x706_S2048x706 (fun i => ⟨i, rfl⟩) (fun j => off0 j c)
          (fun j => off0_inb j c) _ (chip_partner_inj c) (fun j => off0_at j c) fullShare c _
      · exact four_slots (Memref.whole main_arg1) squeezes_S1x512x1024_S512x1024 (fun i => ⟨i, rfl⟩) (fun j => off1 j c)
          (fun j => off1_inb j c) _ (chip_partner_inj c) (fun j => off1_at j c) fullShare c _
      · exact four_slots (Memref.whole main_arg2) squeezes_S1x2048x1024_S2048x1024 (fun i => ⟨i, rfl⟩) (fun j => off2 j c)
          (fun j => off2_inb j c) _ (chip_partner_inj c) (fun j => off2_at j c) fullShare c _
      · exact four_slots (Memref.whole main_arg3) squeezes_S1x2048x1024_S2048x1024 (fun i => ⟨i, rfl⟩) (fun j => off3 j c)
          (fun j => off3_inb j c) _ (chip_partner_inj c) (fun j => off3_at j c) fullShare c _
      · exact four_slots (Memref.whole main_arg4) squeezes_S1x48x1024_S48x1024 (fun i => ⟨i, rfl⟩) (fun j => off4 j c)
          (fun j => off4_inb j c) _ (chip_partner_inj c) (fun j => off4_at j c) fullShare c _
    · exact ⟨congrArg Piece.own (src0 m c), congrArg Piece.own (src1 m c), congrArg Piece.own (src2 m c), congrArg Piece.own (src3 m c), congrArg Piece.own (src4 m c), congrArg Piece.own (src5 m c), congrArg Piece.own (src6 m c), congrArg Piece.own (src7 m c), congrArg Piece.own (src8 m c), congrArg Piece.own (src9 m c), congrArg Piece.own (src10 m c), congrArg Piece.own (src11 m c), congrArg Piece.own (src12 m c), congrArg Piece.own (src13 m c), congrArg Piece.own (src14 m c)⟩
    · exact ⟨congrArg Piece.own (lsrc0 m c), congrArg Piece.own (lsrc1 m c), congrArg Piece.own (lsrc2 m c), congrArg Piece.own (lsrc3 m c), congrArg Piece.own (lsrc4 m c)⟩
  have hO : bigSep Finset.univ (W ![main_v1_0, main_v1_1, main_v1_2, main_v1_3, main_v1_4])
      = iprop((bigSep Finset.univ fun t => (copies m).plan.openP t c) ∗ bigSep Finset.univ fun l : Fin 5 => ((copies m).lopn l c).own) := by
    refine fan _ (fun i j => (pickO m c i j).own) ?_ _ _ ?_ ?_
    · intro i
      fin_cases i
      · exact four_slots (Memref.whole main_v1_0) squeezes_S1x2048x706_S2048x706 (fun i => ⟨i, rfl⟩) (fun j => off0 3 (partner j c))
          (fun j => off0_inb 3 (partner j c)) _ (chip_partner_inj c) (fun j => own0_at (partner j c)) fullShare c _
      · exact four_slots (Memref.whole main_v1_1) squeezes_S1x512x1024_S512x1024 (fun i => ⟨i, rfl⟩) (fun j => off1 3 (partner j c))
          (fun j => off1_inb 3 (partner j c)) _ (chip_partner_inj c) (fun j => own1_at (partner j c)) fullShare c _
      · exact four_slots (Memref.whole main_v1_2) squeezes_S1x2048x1024_S2048x1024 (fun i => ⟨i, rfl⟩) (fun j => off2 3 (partner j c))
          (fun j => off2_inb 3 (partner j c)) _ (chip_partner_inj c) (fun j => own2_at (partner j c)) fullShare c _
      · exact four_slots (Memref.whole main_v1_3) squeezes_S1x2048x1024_S2048x1024 (fun i => ⟨i, rfl⟩) (fun j => off3 3 (partner j c))
          (fun j => off3_inb 3 (partner j c)) _ (chip_partner_inj c) (fun j => own3_at (partner j c)) fullShare c _
      · exact four_slots (Memref.whole main_v1_4) squeezes_S1x48x1024_S48x1024 (fun i => ⟨i, rfl⟩) (fun j => off4 3 (partner j c))
          (fun j => off4_inb 3 (partner j c)) _ (chip_partner_inj c) (fun j => own4_at (partner j c)) fullShare c _
    · exact ⟨congrArg Piece.own (opn0 m c), congrArg Piece.own (opn1 m c), congrArg Piece.own (opn2 m c), congrArg Piece.own (opn3 m c), congrArg Piece.own (opn4 m c), congrArg Piece.own (opn5 m c), congrArg Piece.own (opn6 m c), congrArg Piece.own (opn7 m c), congrArg Piece.own (opn8 m c), congrArg Piece.own (opn9 m c), congrArg Piece.own (opn10 m c), congrArg Piece.own (opn11 m c), congrArg Piece.own (opn12 m c), congrArg Piece.own (opn13 m c), congrArg Piece.own (opn14 m c)⟩
    · exact ⟨congrArg Piece.own (lopn0 m c), congrArg Piece.own (lopn1 m c), congrArg Piece.own (lopn2 m c), congrArg Piece.own (lopn3 m c), congrArg Piece.own (lopn4 m c)⟩
  have hl : (bigSep Finset.univ fun l => (copies m).plan.rawP l c : sProp 𝕄)
      = iprop((bigSep Finset.univ fun l : Fin 5 => ((copies m).lsrc l c).own) ∗ bigSep Finset.univ fun l : Fin 5 => ((copies m).lopn l c).own) :=
    bigSep_sep Finset.univ (fun l : Fin 5 => ((copies m).lsrc l c).own) (fun l : Fin 5 => ((copies m).lopn l c).own)
  have hu : (unscopedBufs c (fun b => m ((c.tc : Thread nD τ).loc b)) : sProp 𝕄) = iprop(bigSep Finset.univ (W ![main_arg0, main_arg1, main_arg2, main_arg3, main_arg4]) ∗ bigSep Finset.univ (W ![main_v1_0, main_v1_1, main_v1_2, main_v1_3, main_v1_4])) := by
    unfold unscopedBufs
    rw [bigSep_eq_bigSepL_of_eq ([main_arg0, main_arg1, main_arg2, main_arg3, main_arg4] ++ [main_v1_0, main_v1_1, main_v1_2, main_v1_3, main_v1_4]) (by decide) (by decide), bigSepL_append]
    have e := fun v => bigSep_univ_eq_bigSepL (I := Fin 5) [0, 1, 2, 3, 4] (by decide) (by decide) (W v)
    rw [e, e]
    rfl
  rw [hl, hu, hA, hO]
  iintro ⟨⟨H, HL⟩, G, GL⟩
  isplitl [H]; · iexact H
  isplitl [G]; · iexact G
  isplitl [HL]; · iexact HL
  iexact GL

theorem sems_scoped : ∀ sm : SemLoc sig, sm.isScoped .tc = true := by decide

theorem run_copies (g : Dev nD → PrngReg) : θ_run (defs (F := F)) (onTc (τ := τ) (main (F := F))) ⟨m, fun _ => 0, g⟩ fun r =>
    (∀ c, (copies m).Done c r.2) ∧ r.2.sem = fun _ => 0 :=
  (copies m).run cfgs defs₀ Variants.none cellOf_inj winFacts0.to₀
    ⟨fun _ => sems_scoped _, (copies m).inj, fun _ w => w.elim0⟩ stage_whole0 block_pos0 (fun | 0 => rfl) N_0
    (fun c K t Q h => by rw [fin_N0 t]; exact body m _ c K Q h) m g (split m) _ (fun _ => rfl) sems_scoped

/-- The run: slot `k` of a result on device `c` is what chip `k`'s same core held in slot `c`'s chip; the arguments unchanged. -/
theorem run_main (g : Dev nD → PrngReg) : θ_run (defs (F := F)) (onTc (τ := τ) (main (F := F))) ⟨m, fun _ => 0, g⟩ fun r =>
    (∀ c : Dev nD, ((∀ (d : Dev nD) (i i' : S4x2048x706.Idx), d.val % 2 = c.val % 2 → d.val / 2 = (i 0).val → (i' 0).val = c.val / 2 →
          (i' 1).val = (i 1).val → (i' 2).val = (i 2).val →
          (r.2.mem ((c.tc : Thread nD τ).loc main_v1_0) : S4x2048x706.Idx → _) i = (m ((d.tc : Thread nD τ).loc main_arg0) : S4x2048x706.Idx → _) i')
        ∧ (∀ (d : Dev nD) (i i' : S4x512x1024.Idx), d.val % 2 = c.val % 2 → d.val / 2 = (i 0).val → (i' 0).val = c.val / 2 →
          (i' 1).val = (i 1).val → (i' 2).val = (i 2).val →
          (r.2.mem ((c.tc : Thread nD τ).loc main_v1_1) : S4x512x1024.Idx → _) i = (m ((d.tc : Thread nD τ).loc main_arg1) : S4x512x1024.Idx → _) i')
        ∧ (∀ (d : Dev nD) (i i' : S4x2048x1024.Idx), d.val % 2 = c.val % 2 → d.val / 2 = (i 0).val → (i' 0).val = c.val / 2 →
          (i' 1).val = (i 1).val → (i' 2).val = (i 2).val →
          (r.2.mem ((c.tc : Thread nD τ).loc main_v1_2) : S4x2048x1024.Idx → _) i = (m ((d.tc : Thread nD τ).loc main_arg2) : S4x2048x1024.Idx → _) i')
        ∧ (∀ (d : Dev nD) (i i' : S4x2048x1024.Idx), d.val % 2 = c.val % 2 → d.val / 2 = (i 0).val → (i' 0).val = c.val / 2 →
          (i' 1).val = (i 1).val → (i' 2).val = (i 2).val →
          (r.2.mem ((c.tc : Thread nD τ).loc main_v1_3) : S4x2048x1024.Idx → _) i = (m ((d.tc : Thread nD τ).loc main_arg3) : S4x2048x1024.Idx → _) i')
        ∧ (∀ (d : Dev nD) (i i' : S4x48x1024.Idx), d.val % 2 = c.val % 2 → d.val / 2 = (i 0).val → (i' 0).val = c.val / 2 →
          (i' 1).val = (i 1).val → (i' 2).val = (i 2).val →
          (r.2.mem ((c.tc : Thread nD τ).loc main_v1_4) : S4x48x1024.Idx → _) i = (m ((d.tc : Thread nD τ).loc main_arg4) : S4x48x1024.Idx → _) i'))
      ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
    ∧ r.2.sem = fun _ => 0 := by
  refine (θ_run (defs (F := F)) _ _).mono (fun r h => ⟨fun c => ?_, h.2⟩) (run_copies m g)
  have hs := fun t : Fin 15 => ((h.1 c).1 t).1
  have hl := fun t : Fin 15 => ((h.1 c).1 t).2
  have ks := fun t : Fin 5 => ((h.1 c).2 t).2
  have kl := fun t : Fin 5 => ((h.1 c).2 t).1
  have h3 := partner_three c
  refine ⟨⟨?_, ?_, ?_, ?_, ?_⟩, ?_, ?_, ?_, ?_, ?_⟩
  · refine fun d i i' hd => slots_landed m (Memref.whole main_arg0) (Memref.whole main_v1_0) squeezes_S1x2048x706_S2048x706 off0 off0_inb (off0 3) (off0_inb 3)
      off0_at own0_at c (t := r.2) (fun j => ?_) d hd i i'
    fin_cases j
    · exact hl 0
    · exact hl 1
    · exact hl 2
    · show (landPiece m (a0 3) b0 (partner 3 c) c).Holds _
      rw [h3]
      exact kl 0
  · refine fun d i i' hd => slots_landed m (Memref.whole main_arg1) (Memref.whole main_v1_1) squeezes_S1x512x1024_S512x1024 off1 off1_inb (off1 3) (off1_inb 3)
      off1_at own1_at c (t := r.2) (fun j => ?_) d hd i i'
    fin_cases j
    · exact hl 3
    · exact hl 4
    · exact hl 5
    · show (landPiece m (a1 3) b1 (partner 3 c) c).Holds _
      rw [h3]
      exact kl 1
  · refine fun d i i' hd => slots_landed m (Memref.whole main_arg2) (Memref.whole main_v1_2) squeezes_S1x2048x1024_S2048x1024 off2 off2_inb (off2 3) (off2_inb 3)
      off2_at own2_at c (t := r.2) (fun j => ?_) d hd i i'
    fin_cases j
    · exact hl 6
    · exact hl 7
    · exact hl 8
    · show (landPiece m (a2 3) b2 (partner 3 c) c).Holds _
      rw [h3]
      exact kl 2
  · refine fun d i i' hd => slots_landed m (Memref.whole main_arg3) (Memref.whole main_v1_3) squeezes_S1x2048x1024_S2048x1024 off3 off3_inb (off3 3) (off3_inb 3)
      off3_at own3_at c (t := r.2) (fun j => ?_) d hd i i'
    fin_cases j
    · exact hl 9
    · exact hl 10
    · exact hl 11
    · show (landPiece m (a3 3) b3 (partner 3 c) c).Holds _
      rw [h3]
      exact kl 3
  · refine fun d i i' hd => slots_landed m (Memref.whole main_arg4) (Memref.whole main_v1_4) squeezes_S1x48x1024_S48x1024 off4 off4_inb (off4 3) (off4_inb 3)
      off4_at own4_at c (t := r.2) (fun j => ?_) d hd i i'
    fin_cases j
    · exact hl 12
    · exact hl 13
    · exact hl 14
    · show (landPiece m (a4 3) b4 (partner 3 c) c).Holds _
      rw [h3]
      exact kl 4
  · refine slots_kept m (Memref.whole main_arg0) squeezes_S1x2048x706_S2048x706 (fun i => ⟨i, rfl⟩) off0 off0_inb off0_at c (fun j => ?_)
    fin_cases j
    · exact hs 0
    · exact hs 1
    · exact hs 2
    · exact ks 0
  · refine slots_kept m (Memref.whole main_arg1) squeezes_S1x512x1024_S512x1024 (fun i => ⟨i, rfl⟩) off1 off1_inb off1_at c (fun j => ?_)
    fin_cases j
    · exact hs 3
    · exact hs 4
    · exact hs 5
    · exact ks 1
  · refine slots_kept m (Memref.whole main_arg2) squeezes_S1x2048x1024_S2048x1024 (fun i => ⟨i, rfl⟩) off2 off2_inb off2_at c (fun j => ?_)
    fin_cases j
    · exact hs 6
    · exact hs 7
    · exact hs 8
    · exact ks 2
  · refine slots_kept m (Memref.whole main_arg3) squeezes_S1x2048x1024_S2048x1024 (fun i => ⟨i, rfl⟩) off3 off3_inb off3_at c (fun j => ?_)
    fin_cases j
    · exact hs 9
    · exact hs 10
    · exact hs 11
    · exact ks 3
  · refine slots_kept m (Memref.whole main_arg4) squeezes_S1x48x1024_S48x1024 (fun i => ⟨i, rfl⟩) off4 off4_inb off4_at c (fun j => ?_)
    fin_cases j
    · exact hs 12
    · exact hs 13
    · exact hs 14
    · exact ks 4

end Cert.GradsRun

end
-- ==== Proof.GradsClaim.lean ====
/-
What is claimed of the gradients' exchange.
-/
module

public import proofs.«01_k».proof.Defs
public import proofs.«01_k».proof.Proof.GradsRun
public import proofs.«01_k».proof.Proof.Relayout
public import proofs.«01_k».proof.Proof.Gen.Grads
public import proofs.«01_k».proof.Proof.Gen.GradsIdeal
public import proofs.«01_k».proof.Proof.Gen.GradsRefIdeal
public import proofs.«01_k».proof.Proof.Gen.GradsRefIdeal.Run
public import Idealize.ShloMosaic.Lib.Quiescent

@[expose] public section

noncomputable section

namespace Cert.GradsClaim

open Idealize.ShloMosaic Idealize.SL.Sem
open Cert.GradsRun

theorem frame_ideal : Cert.quiescent_GradsIdeal := fun m g _ =>
  (θ_run Cert.GradsIdeal.defs _ _).mono (fun _ h => ⟨fun c => (h.1 c).2, h.2⟩) (run_main (F := Ideal) m g)

theorem frame : Cert.quiescent_Grads := fun m g _ =>
  (θ_run Cert.GradsIdeal.defs _ _).mono (fun _ h => ⟨fun c => (h.1 c).2, h.2⟩) (run_main (F := Bits) m g)

theorem frame_ref : Cert.quiescent_GradsRefIdeal := fun m g _ =>
  (θ_run Cert.GradsRefIdeal.defs _ _).mono
    (fun r h => ⟨fun c => (h c).2.2.2.2.2, sem_eq_zero_of_no_sems (by decide) r.2⟩) (Cert.GradsRefIdeal.Value.run m g)

/-- The element of the sender's stack that lands at `i`. -/
def from' {r w : ℕ} (c : Fin 8) (i : (⟨3, ![4, r, w]⟩ : Shape).Idx) : (⟨3, ![4, r, w]⟩ : Shape).Idx := fun
  | ⟨0, _⟩ => (⟨c.val / 2, by omega⟩ : Fin 4) | ⟨1, _⟩ => i 1 | ⟨2, _⟩ => i 2

/-- The sender of slot `k` to device `c`. -/
def sender (c : Fin 8) (k : Fin 4) : Fin 8 := ⟨k.val * 2 + c.val % 2, by omega⟩

theorem landed {r w : ℕ} {α : Type} (c : Fin 8) (x : (⟨3, ![32, r, w]⟩ : Shape).Idx → α)
    (hT : Layout.Tiles ⟨3, ![4, r, w]⟩ ⟨3, ![32, r, w]⟩ 0 8)
    (h1 : (⟨3, ![32, r, w]⟩ : Shape).ShapeCasts ⟨5, ![4, 2, 4, r, w]⟩)
    (ht : (⟨5, ![4, 2, 4, r, w]⟩ : Shape).Transposes [2, 1, 0, 3, 4] ⟨5, ![4, 2, 4, r, w]⟩)
    (h2 : (⟨5, ![4, 2, 4, r, w]⟩ : Shape).ShapeCasts ⟨3, ![32, r, w]⟩)
    (o : (⟨3, ![4, r, w]⟩ : Shape).Idx → α) (a : Fin 8 → (⟨3, ![4, r, w]⟩ : Shape).Idx → α)
    (ho : ∀ (d : Fin 8) (i i' : (⟨3, ![4, r, w]⟩ : Shape).Idx), d.val % 2 = c.val % 2 → d.val / 2 = (i 0).val → (i' 0).val = c.val / 2 →
      (i' 1).val = (i 1).val → (i' 2).val = (i 2).val → o i = a d i')
    (ha : ∀ d, a d = Layout.block ⟨3, ![4, r, w]⟩ ⟨3, ![32, r, w]⟩ 0 8 d x hT) :
    o = Layout.block ⟨3, ![4, r, w]⟩ ⟨3, ![32, r, w]⟩ 0 8 c
        (shapeCast ⟨3, ![32, r, w]⟩ (transpose ⟨5, ![4, 2, 4, r, w]⟩ [2, 1, 0, 3, 4]
          (shapeCast ⟨5, ![4, 2, 4, r, w]⟩ x h1) ht) h2) hT := by
  funext i
  have hk : (sender c (i 0)).val = (i 0).val * 2 + c.val % 2 := rfl
  rw [ho (sender c (i 0)) i (from' c i) (by omega) (by omega) rfl rfl rfl, ha]
  exact (Relayout.trade c (sender c (i 0)) x hT h1 ht h2 i (from' c i) rfl rfl rfl rfl).symm

theorem algebraic : Cert.algebraic_GradsIdeal_GradsRefIdeal := by
  intro m g m' g' _ hm
  refine ⟨_, _, _, _, _, (θ_run Cert.GradsIdeal.defs _ _).mono (fun r h c => ?_) (run_main (F := Ideal) m g),
    (θ_run Cert.GradsRefIdeal.defs _ _).mono (fun r h => h 0) (Cert.GradsRefIdeal.Value.run m' g')⟩
  obtain ⟨⟨h0, h1, h2, h3, h4⟩, hk⟩ := h.1 c
  refine ⟨?_, ?_, ?_, ?_, ?_, hk⟩
  · exact landed c _ _ _ _ _ _ _ h0 fun d => (hm d).1
  · exact landed c _ _ _ _ _ _ _ h1 fun d => (hm d).2.1
  · exact landed c _ _ _ _ _ _ _ h2 fun d => (hm d).2.2.1
  · exact landed c _ _ _ _ _ _ _ h3 fun d => (hm d).2.2.2.1
  · exact landed c _ _ _ _ _ _ _ h4 fun d => (hm d).2.2.2.2

end Cert.GradsClaim

end
-- ==== Proof.SiblingRun.lean ====
/-
The siblings' swap: five arrays, each sent whole to the other core of the chip.
-/
module

public import proofs.«01_k».proof.Proof.Copies
public import Idealize.ShloMosaic.Lib.Pipeline.BigSepL
public import proofs.«01_k».proof.Proof.Gen.SiblingIdeal.Skeleton
public import proofs.«01_k».proof.Proof.Gen.SiblingIdeal.Launch
public import proofs.«01_k».proof.Proof.Gen.SiblingIdeal.Points

@[expose] public section

set_option Elab.async false

noncomputable section

namespace Cert.SiblingRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.SiblingIdeal Cert.SiblingIdeal.Gen Cert.Exchange

variable {F : FTy → Type} [FloatOps F]

local notation "𝕄" => MT nD τ sig Unit (Elt F) ℕ (UU nD τ sig) ℕ

/-- The same chip's other core. -/
def sib (c : Dev nD) : Dev nD := ⟨c.val + 1 - 2 * (c.val % 2), by have := c.isLt; simp only [nD] at *; omega⟩

theorem sib_sib (c : Dev nD) : sib (sib c) = c := by revert c; decide

variable (m : (ℓ : Loc nD τ sig) → Buf (Elt F) ℓ)

def sendSem (t : Fin 5) : DmaSem sig := ((cc0_scratch0.slice (Rect.unit (s := S5) ![t.val] S1.size (by revert t; decide))).squeeze S_ squeezes_S1_S_).sem
def recvSem (t : Fin 5) : DmaSem sig := ((cc0_scratch1.slice (Rect.unit (s := S5) ![t.val] S1.size (by revert t; decide))).squeeze S_ squeezes_S1_S_).sem

def a0 (c : Dev nD) := Memref.whole main_arg0
def a1 (c : Dev nD) := Memref.whole main_arg1
def a2 (c : Dev nD) := Memref.whole main_arg2
def a3 (c : Dev nD) := Memref.whole main_arg3
def a4 (c : Dev nD) := Memref.whole main_arg4
def b0 (c : Dev nD) := Memref.whole main_v1_0
def b1 (c : Dev nD) := Memref.whole main_v1_1
def b2 (c : Dev nD) := Memref.whole main_v1_2
def b3 (c : Dev nD) := Memref.whole main_v1_3
def b4 (c : Dev nD) := Memref.whole main_v1_4

def copies : Copies nD τ sig (Elt F) where
  nr := 5
  nl := 0
  send t := .dma (sendSem t)
  recv t := .dma (recvSem t)
  loc l := l.elim0
  inj := by decide +kernel
  routes := by decide
  peer _ := sib
  peer_peer _ := sib_sib
  amt := ![(b0 0).view.dmaCredit, (b1 0).view.dmaCredit, (b2 0).view.dmaCredit, (b3 0).view.dmaCredit, (b4 0).view.dmaCredit]
  amt_pos := by
    intro t; fin_cases t <;> exact View.dmaCredit_pos _ (by decide)
  amtL l := l.elim0
  amtL_pos l := l.elim0
  src t c := ![readPiece m a0 fullShare c, readPiece m a1 fullShare c, readPiece m a2 fullShare c, readPiece m a3 fullShare c,
    readPiece m a4 fullShare c] t
  opn t c d := ![openPiece m b0 c d, openPiece m b1 c d, openPiece m b2 c d, openPiece m b3 c d, openPiece m b4 c d] t
  land t c d := ![landPiece m a0 b0 c d, landPiece m a1 b1 c d, landPiece m a2 b2 c d, landPiece m a3 b3 c d, landPiece m a4 b4 c d] t
  lsrc l := l.elim0
  lopn l := l.elim0
  lland l := l.elim0

theorem dev1 (c : Dev nD) : (⟨k0_dev1 c, k0_dev1_lt c⟩ : Dev nD) = sib c := by revert c; decide +kernel
theorem dev2 (c : Dev nD) : (⟨k0_dev2 c, k0_dev2_lt c⟩ : Dev nD) = sib c := by revert c; decide +kernel
theorem dev3 (c : Dev nD) : (⟨k0_dev3 c, k0_dev3_lt c⟩ : Dev nD) = sib c := by revert c; decide +kernel
theorem dev4 (c : Dev nD) : (⟨k0_dev4 c, k0_dev4_lt c⟩ : Dev nD) = sib c := by revert c; decide +kernel
theorem dev5 (c : Dev nD) : (⟨k0_dev5 c, k0_dev5_lt c⟩ : Dev nD) = sib c := by revert c; decide +kernel

/-- A whole array landed in a whole array. -/
theorem landPiece_whole {sp sp' : Space} {s : Shape} {e : EltTy} {src : Dev nD → Memref sig .tc sp s e}
    (dst : Dev nD → Memref sig .tc sp' s e) {c d : Dev nD} {r : MemSt nD τ sig (Elt F)}
    (h : (landPiece m src dst c d).Holds r) (x : Buf (Elt F) ((dst c).view.loc (d.tc : Thread nD τ)))
    (hset : (dst c).view.set = Finset.univ) (hx : (dst c).view.write (Elt F) (m ((dst c).view.loc (d.tc : Thread nD τ))) ((src c).view.read (Elt F) (m ((src c).view.loc (c.tc : Thread nD τ)))) Finset.univ = x) :
    r.mem ((dst c).view.loc (d.tc : Thread nD τ)) = x := by
  subst hx
  exact funext fun i => h i (by show i ∈ (dst c).view.set; rw [hset]; exact Finset.mem_univ i)

/-- One device's run of the call. -/
theorem body (𝒱 : Variants) (c : Dev nD) (K : Dev nD × (copies m).plan.J → ℕ) (Q : PUnit → sProp 𝕄)
    (hQ : ∀ v, (copies m).plan.st K (copies m).plan.total c ⊢ iprop(|={Set.univ}=> Q v)) :
    (copies m).plan.st K 0 c ⊢ wp frame (wpE (defs₀ (F := F)) 𝒱 (c.tc : Thread nD τ) none) Set.univ (bodyAt0 (F := F) t0_0) Q := by
  unfold bodyAt0
  simp only [cc0_sibling_exchange_eq_skeleton, cc0_sibling_exchange_skel, k0_part1_eq_skeleton, k0_part1_skel, k0_part2_eq_skeleton, k0_part2_skel,
    k0_part3_eq_skeleton, k0_part3_skel, Prog.lift, Prog.bind_op, Prog.bind_ret, Prog.pure_eq_ret]
  rw [wp_deviceId]
  refine (copies m).remote defs₀ 𝒱 K c m a0 b0 (0 : Fin 5) 0 rfl (dev1 c) rfl rfl rfl (q := fullShare) rfl rfl rfl ?_
  refine (copies m).remote defs₀ 𝒱 K c m a1 b1 (1 : Fin 5) 1 rfl (dev2 c) rfl rfl rfl (q := fullShare) rfl rfl rfl ?_
  refine (copies m).remote defs₀ 𝒱 K c m a2 b2 (2 : Fin 5) 2 rfl (dev3 c) rfl rfl rfl (q := fullShare) rfl rfl rfl ?_
  refine (copies m).remote defs₀ 𝒱 K c m a3 b3 (3 : Fin 5) 3 rfl (dev4 c) rfl rfl rfl (q := fullShare) rfl rfl rfl ?_
  refine (copies m).remote defs₀ 𝒱 K c m a4 b4 (4 : Fin 5) 4 rfl (dev5 c) rfl rfl rfl (q := fullShare) rfl rfl rfl ?_
  refine (copies m).plan.wait_recv defs₀ 𝒱 K c (0 : Fin 5) 5 rfl rfl rfl ?_
  refine (copies m).plan.wait_recv defs₀ 𝒱 K c (1 : Fin 5) 6 rfl rfl rfl ?_
  refine (copies m).plan.wait_recv defs₀ 𝒱 K c (2 : Fin 5) 7 rfl rfl rfl ?_
  refine (copies m).plan.wait_recv defs₀ 𝒱 K c (3 : Fin 5) 8 rfl rfl rfl ?_
  refine (copies m).plan.wait_recv defs₀ 𝒱 K c (4 : Fin 5) 9 rfl rfl rfl ?_
  refine (copies m).plan.wait_send defs₀ 𝒱 K c (0 : Fin 5) 10 rfl rfl rfl ?_
  refine (copies m).plan.wait_send defs₀ 𝒱 K c (1 : Fin 5) 11 rfl rfl rfl ?_
  refine (copies m).plan.wait_send defs₀ 𝒱 K c (2 : Fin 5) 12 rfl rfl rfl ?_
  refine (copies m).plan.wait_send defs₀ 𝒱 K c (3 : Fin 5) 13 rfl rfl rfl ?_
  refine (copies m).plan.wait_send defs₀ 𝒱 K c (4 : Fin 5) 14 rfl rfl rfl ?_
  rw [wp_ret]
  exact hQ _

theorem split (c : Dev nD) : (unscopedBufs c (fun b => m ((c.tc : Thread nD τ).loc b)) : sProp 𝕄)
    ⊢ iprop((bigSep Finset.univ fun t => (copies m).plan.srcP t c) ∗ (bigSep Finset.univ fun t => (copies m).plan.openP t c)
      ∗ bigSep Finset.univ fun l => (copies m).plan.rawP l c) := by
  have hs : (bigSep Finset.univ fun t => (copies m).plan.srcP t c : sProp 𝕄)
      = bigSepL [main_arg0, main_arg1, main_arg2, main_arg3, main_arg4] fun b => ((c.tc : Thread nD τ).loc b) ↦{fullShare} m ((c.tc : Thread nD τ).loc b) := by
    refine (bigSep_univ_eq_bigSepL (I := Fin 5) [0, 1, 2, 3, 4] (by decide) (by decide) _).trans ?_
    simp only [bigSepL_cons_cons, bigSepL_singleton, ← readPiece_whole]
    rfl
  have ho : (bigSep Finset.univ fun t => (copies m).plan.openP t c : sProp 𝕄)
      = bigSepL [main_v1_0, main_v1_1, main_v1_2, main_v1_3, main_v1_4] fun b => ((c.tc : Thread nD τ).loc b) ↦{fullShare} m ((c.tc : Thread nD τ).loc b) := by
    refine (bigSep_univ_eq_bigSepL (I := Fin 5) [0, 1, 2, 3, 4] (by decide) (by decide) _).trans ?_
    simp only [bigSepL_cons_cons, bigSepL_singleton, ← openPiece_whole m _ (sib c)]
    rfl
  have hl : (bigSep Finset.univ fun l => (copies m).plan.rawP l c : sProp 𝕄) = BI.emp := Plan.no_windows (n := 0) rfl _
  rw [hs, ho, hl]
  unfold unscopedBufs
  rw [bigSep_eq_bigSepL_of_eq ([main_arg0, main_arg1, main_arg2, main_arg3, main_arg4] ++ [main_v1_0, main_v1_1, main_v1_2, main_v1_3, main_v1_4])
    (by decide) (by decide), bigSepL_append]
  iintro ⟨H, G⟩
  isplitl [H]; · iexact H
  isplitl [G]; · iexact G
  iempintro

theorem sems_scoped : ∀ sm : SemLoc sig, sm.isScoped .tc = true := by decide

theorem run_copies (g : Dev nD → PrngReg) : θ_run (defs (F := F)) (onTc (τ := τ) (main (F := F))) ⟨m, fun _ => 0, g⟩ fun r =>
    (∀ c, (copies m).Done c r.2) ∧ r.2.sem = fun _ => 0 :=
  (copies m).run cfgs defs₀ Variants.none cellOf_inj winFacts0.to₀
    ⟨fun _ => sems_scoped _, (copies m).inj, fun _ w => w.elim0⟩ stage_whole0 block_pos0 (fun | 0 => rfl) N_0
    (fun c K t Q h => by rw [fin_N0 t]; exact body m _ c K Q h) m g (split m) _ (fun _ => rfl) sems_scoped

/-- The run: every device ends with its sibling's arrays, its own unchanged. -/
theorem run_main (g : Dev nD → PrngReg) : θ_run (defs (F := F)) (onTc (τ := τ) (main (F := F))) ⟨m, fun _ => 0, g⟩ fun r =>
    (∀ c : Dev nD, (r.2.mem ((c.tc : Thread nD τ).loc main_v1_0) = m (((sib c).tc : Thread nD τ).loc main_arg0)
        ∧ r.2.mem ((c.tc : Thread nD τ).loc main_v1_1) = m (((sib c).tc : Thread nD τ).loc main_arg1)
        ∧ r.2.mem ((c.tc : Thread nD τ).loc main_v1_2) = m (((sib c).tc : Thread nD τ).loc main_arg2)
        ∧ r.2.mem ((c.tc : Thread nD τ).loc main_v1_3) = m (((sib c).tc : Thread nD τ).loc main_arg3)
        ∧ r.2.mem ((c.tc : Thread nD τ).loc main_v1_4) = m (((sib c).tc : Thread nD τ).loc main_arg4))
      ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
    ∧ r.2.sem = fun _ => 0 := by
  refine (θ_run (defs (F := F)) _ _).mono (fun r h => ⟨fun c => ?_, h.2⟩) (run_copies m g)
  have hs := fun t : Fin 5 => ((h.1 c).1 t).1
  have hl := fun t : Fin 5 => ((h.1 c).1 t).2
  refine ⟨⟨?_, ?_, ?_, ?_, ?_⟩, ?_, ?_, ?_, ?_, ?_⟩
  · exact landPiece_whole m b0 (hl 0) _ (View.set_whole _) (View.write_whole_univ _ _ _)
  · exact landPiece_whole m b1 (hl 1) _ (View.set_whole _) (View.write_whole_univ _ _ _)
  · exact landPiece_whole m b2 (hl 2) _ (View.set_whole _) (View.write_whole_univ _ _ _)
  · exact landPiece_whole m b3 (hl 3) _ (View.set_whole _) (View.write_whole_univ _ _ _)
  · exact landPiece_whole m b4 (hl 4) _ (View.set_whole _) (View.write_whole_univ _ _ _)
  · exact readPiece_whole_holds m (hs 0)
  · exact readPiece_whole_holds m (hs 1)
  · exact readPiece_whole_holds m (hs 2)
  · exact readPiece_whole_holds m (hs 3)
  · exact readPiece_whole_holds m (hs 4)

end Cert.SiblingRun

end
-- ==== Proof.SiblingClaim.lean ====
/-
What is claimed of the siblings' swap.
-/
module

public import proofs.«01_k».proof.Defs
public import proofs.«01_k».proof.Proof.SiblingRun
public import proofs.«01_k».proof.Proof.Relayout
public import proofs.«01_k».proof.Proof.Gen.Sibling
public import proofs.«01_k».proof.Proof.Gen.SiblingIdeal
public import proofs.«01_k».proof.Proof.Gen.SiblingRefIdeal
public import proofs.«01_k».proof.Proof.Gen.SiblingRefIdeal.Run
public import Idealize.ShloMosaic.Lib.Quiescent

@[expose] public section

noncomputable section

namespace Cert.SiblingClaim

open Idealize.ShloMosaic Idealize.SL.Sem
open Cert.SiblingRun

theorem frame_ideal : Cert.quiescent_SiblingIdeal := fun m g _ =>
  (θ_run Cert.SiblingIdeal.defs _ _).mono (fun _ h => ⟨fun c => (h.1 c).2, h.2⟩) (run_main (F := Ideal) m g)

theorem frame : Cert.quiescent_Sibling := fun m g _ =>
  (θ_run Cert.SiblingIdeal.defs _ _).mono (fun _ h => ⟨fun c => (h.1 c).2, h.2⟩) (run_main (F := Bits) m g)

theorem frame_ref : Cert.quiescent_SiblingRefIdeal := fun m g _ =>
  (θ_run Cert.SiblingRefIdeal.defs _ _).mono
    (fun r h => ⟨fun c => (h c).2.2.2.2.2, sem_eq_zero_of_no_sems (by decide) r.2⟩) (Cert.SiblingRefIdeal.Value.run m g)

theorem algebraic : Cert.algebraic_SiblingIdeal_SiblingRefIdeal := by
  intro m g m' g' _ hm
  refine ⟨_, _, _, _, _, (θ_run Cert.SiblingIdeal.defs _ _).mono (fun r h c => ?_) (run_main (F := Ideal) m g),
    (θ_run Cert.SiblingRefIdeal.defs _ _).mono (fun r h => h 0) (Cert.SiblingRefIdeal.Value.run m' g')⟩
  obtain ⟨⟨h0, h1, h2, h3, h4⟩, hk⟩ := h.1 c
  refine ⟨?_, ?_, ?_, ?_, ?_, hk⟩
  · exact (h0.trans (hm (sib c)).1).trans (Relayout.swap c (sib c) rfl _ _ _ _).symm
  · exact (h1.trans (hm (sib c)).2.1).trans (Relayout.swap c (sib c) rfl _ _ _ _).symm
  · exact (h2.trans (hm (sib c)).2.2.1).trans (Relayout.swap c (sib c) rfl _ _ _ _).symm
  · exact (h3.trans (hm (sib c)).2.2.2.1).trans (Relayout.swap c (sib c) rfl _ _ _ _).symm
  · exact (h4.trans (hm (sib c)).2.2.2.2).trans (Relayout.swap c (sib c) rfl _ _ _ _).symm

end Cert.SiblingClaim

end
-- ==== Proof.Update.lean ====
/-
One AdamW step on an array of any shape, as the update kernels spell it and as the reference does.
-/
module

public import Idealize.ShloMosaic.PureOps
public import Idealize.ShloMosaic.Lib.StableHlo
public import Idealize.ShloMosaic.PureOps.Ideal

@[expose] public section

noncomputable section

namespace Cert.Update

open Idealize.ShloMosaic

variable {F : FTy → Type} [FloatOps F] (s : Shape)

abbrev lit (b : BitVec 32) : FVec F s .f32 := broadcast s (Scalar.ofBits .f32 b)

/-- The gradient: both cores' sums. -/
abbrev grad (a b : FVec F s .f32) : FVec F s .f32 := addf a b

/-- The first moment. -/
abbrev first (m a b : FVec F s .f32) : FVec F s .f32 :=
  addf (mulf (lit s 0x3F666666#32) m) (mulf (lit s 0x3DCCCCCD#32) (addf a b))

/-- The second moment. -/
abbrev second (v a b : FVec F s .f32) : FVec F s .f32 :=
  addf (mulf (lit s 0x3F7FBE77#32) v) (mulf (lit s 0x3A83126F#32) (mulf (addf a b) (addf a b)))

/-- The weight's change. -/
abbrev change (w m v a b : FVec F s .f32) : FVec F s .f32 :=
  mulf (lit s 0xBA83126F#32)
    (addf (divf (divf (first s m a b) (lit s 0x3F26BD02#32))
        (addf (sqrt (divf (second s v a b) (lit s 0x3C231ACC#32))) (lit s 0x322BCC77#32)))
      (mulf (lit s 0x3C23D70A#32) w))

variable {s}

theorem hz : (![0, 0] : Fin 2 → Nat) = fun _ => 0 := funext fun a => by fin_cases a <;> rfl

theorem host_divf (x y : FVec Ideal s .f32) : Host.divf x y = divf x y := by
  funext i
  simp only [Host.divf, divf, Ideal.divf_def, Ideal.hostDivf_def]

theorem host_sqrt (x : FVec Ideal s .f32) : Host.sqrt x = sqrt x := by
  funext i
  rfl

end Cert.Update

end
-- ==== Proof.UpdateInClaim.lean ====
/-
What is claimed of the update of w_in.
-/
module

public import proofs.«01_k».proof.Defs
public import proofs.«01_k».proof.Proof.Update
public import proofs.«01_k».proof.Proof.Gen.UpdateIn
public import proofs.«01_k».proof.Proof.Gen.UpdateIn.Frame
public import proofs.«01_k».proof.Proof.Gen.UpdateInIdeal
public import proofs.«01_k».proof.Proof.Gen.UpdateInIdeal.Value
public import proofs.«01_k».proof.Proof.Gen.UpdateInRefIdeal
public import proofs.«01_k».proof.Proof.Gen.UpdateInRefIdeal.Run
public import Idealize.ShloMosaic.Lib.Pipeline.Value
public import Idealize.ShloMosaic.Lib.Quiescent

@[expose] public section

noncomputable section

namespace Cert.UpdateInClaim

open Idealize.ShloMosaic Idealize.ShloMosaic.TcCoe Idealize.SL.Sem
open Idealize.ShloMosaic.Pipeline (Dat)
open Cert.UpdateInIdeal Cert.UpdateInIdeal.Gen

variable {F : FTy → Type} [FloatOps F]
variable (m : (ℓ : Loc nD τ sig) → Buf (Elt F) ℓ) (g : Dev nD → PrngReg)

abbrev w (c : Dev nD) := m ((c : Thread nD τ).loc main_arg0)
abbrev m1 (c : Dev nD) := m ((c : Thread nD τ).loc main_arg1)
abbrev m2 (c : Dev nD) := m ((c : Thread nD τ).loc main_arg2)
abbrev own (c : Dev nD) := m ((c : Thread nD τ).loc main_arg3)
abbrev sib (c : Dev nD) := m ((c : Thread nD τ).loc main_arg4)

abbrev G5 (c : Dev nD) : Buf (Elt F) ((c : Thread nD τ).loc main_v0_0) := Update.grad S2048x706 (own m c) (sib m c)
abbrev G6 (c : Dev nD) : Buf (Elt F) ((c : Thread nD τ).loc main_v0_1) :=
  Update.change S2048x706 (w m c) (m1 m c) (m2 m c) (own m c) (sib m c)
abbrev G7 (c : Dev nD) : Buf (Elt F) ((c : Thread nD τ).loc main_v0_2) := Update.first S2048x706 (m1 m c) (own m c) (sib m c)
abbrev G8 (c : Dev nD) : Buf (Elt F) ((c : Thread nD τ).loc main_v0_3) := Update.second S2048x706 (m2 m c) (own m c) (sib m c)

theorem flushed5 (c : Dev nD) (t : Fin cfg0.N) :
    (dats m 0 c).flushed 5 t = (win0_5.blk t).view.read (Elt F) (G5 m c) := by
  rw [Value.flushed5]
  unfold out0_5
  rw [View.canon_unit_zero Update.hz]
  repeat rw [View.ld_unit_zero Update.hz]
  rfl

theorem mem_blk5 (t : Fin cfg0.N) (i : S2048x706.Idx) :
    i ∈ ((cfg0.win 5).blk t).view.set ↔ t.val * 256 ≤ (i 0 : Nat) ∧ (i 0 : Nat) < t.val * 256 + 256 := by
  show i ∈ ((View.whole main_v0_0).slice (win0_5.rect t)).set ↔ _
  rw [View.set_slice_whole, Rect.mem_set_unit]
  have h1 : (i 1 : Nat) < 706 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 706 := by
    revert t; exact (by decide +kernel : ∀ t : Fin grid0.N, win0_5.index t 0 * win0_5.size 0 = t.val * 256 ∧ win0_5.xsize (grid0.coords t) 0 = 256
      ∧ win0_5.index t 1 * win0_5.size 1 = 0 ∧ win0_5.xsize (grid0.coords t) 1 = 706)
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

theorem cover5 (i : S2048x706.Idx) :
    ∃ t : Fin cfg0.N, (cfg0.win 5).flush t = true ∧ i ∈ ((cfg0.win 5).blk t).view.set := by
  have h0 : (i 0 : Nat) < 2048 := (i 0).isLt
  have hN : cfg0.N = 8 := N_0
  have ht : (i 0 : Nat) / 256 < cfg0.N := by omega
  refine ⟨⟨(i 0 : Nat) / 256, ht⟩, flush0_5 _, ?_⟩
  rw [mem_blk5]
  dsimp only
  omega

theorem final5 (c : Dev nD) : (dats m 0 c).arrAt 5 cfg0.N = G5 m c :=
  (dats m 0 c).arrAt_eq_of_cover 5 (G5 m c) (fun t _ => flushed5 m c t) cover5

theorem flushed6 (c : Dev nD) (t : Fin cfg0.N) :
    (dats m 0 c).flushed 6 t = (win0_6.blk t).view.read (Elt F) (G6 m c) := by
  rw [Value.flushed6]
  unfold out0_6
  rw [View.canon_unit_zero Update.hz]
  repeat rw [View.ld_unit_zero Update.hz]
  rfl

theorem mem_blk6 (t : Fin cfg0.N) (i : S2048x706.Idx) :
    i ∈ ((cfg0.win 6).blk t).view.set ↔ t.val * 256 ≤ (i 0 : Nat) ∧ (i 0 : Nat) < t.val * 256 + 256 := by
  show i ∈ ((View.whole main_v0_1).slice (win0_6.rect t)).set ↔ _
  rw [View.set_slice_whole, Rect.mem_set_unit]
  have h1 : (i 1 : Nat) < 706 := (i 1).isLt
  have e : win0_6.index t 0 * win0_6.size 0 = t.val * 256 ∧ win0_6.xsize (grid0.coords t) 0 = 256
      ∧ win0_6.index t 1 * win0_6.size 1 = 0 ∧ win0_6.xsize (grid0.coords t) 1 = 706 := by
    revert t; exact (by decide +kernel : ∀ t : Fin grid0.N, win0_6.index t 0 * win0_6.size 0 = t.val * 256 ∧ win0_6.xsize (grid0.coords t) 0 = 256
      ∧ win0_6.index t 1 * win0_6.size 1 = 0 ∧ win0_6.xsize (grid0.coords t) 1 = 706)
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

theorem cover6 (i : S2048x706.Idx) :
    ∃ t : Fin cfg0.N, (cfg0.win 6).flush t = true ∧ i ∈ ((cfg0.win 6).blk t).view.set := by
  have h0 : (i 0 : Nat) < 2048 := (i 0).isLt
  have hN : cfg0.N = 8 := N_0
  have ht : (i 0 : Nat) / 256 < cfg0.N := by omega
  refine ⟨⟨(i 0 : Nat) / 256, ht⟩, flush0_6 _, ?_⟩
  rw [mem_blk6]
  dsimp only
  omega

theorem final6 (c : Dev nD) : (dats m 0 c).arrAt 6 cfg0.N = G6 m c :=
  (dats m 0 c).arrAt_eq_of_cover 6 (G6 m c) (fun t _ => flushed6 m c t) cover6

theorem flushed7 (c : Dev nD) (t : Fin cfg0.N) :
    (dats m 0 c).flushed 7 t = (win0_7.blk t).view.read (Elt F) (G7 m c) := by
  rw [Value.flushed7]
  unfold out0_7
  rw [View.canon_unit_zero Update.hz]
  repeat rw [View.ld_unit_zero Update.hz]
  rfl

theorem mem_blk7 (t : Fin cfg0.N) (i : S2048x706.Idx) :
    i ∈ ((cfg0.win 7).blk t).view.set ↔ t.val * 256 ≤ (i 0 : Nat) ∧ (i 0 : Nat) < t.val * 256 + 256 := by
  show i ∈ ((View.whole main_v0_2).slice (win0_7.rect t)).set ↔ _
  rw [View.set_slice_whole, Rect.mem_set_unit]
  have h1 : (i 1 : Nat) < 706 := (i 1).isLt
  have e : win0_7.index t 0 * win0_7.size 0 = t.val * 256 ∧ win0_7.xsize (grid0.coords t) 0 = 256
      ∧ win0_7.index t 1 * win0_7.size 1 = 0 ∧ win0_7.xsize (grid0.coords t) 1 = 706 := by
    revert t; exact (by decide +kernel : ∀ t : Fin grid0.N, win0_7.index t 0 * win0_7.size 0 = t.val * 256 ∧ win0_7.xsize (grid0.coords t) 0 = 256
      ∧ win0_7.index t 1 * win0_7.size 1 = 0 ∧ win0_7.xsize (grid0.coords t) 1 = 706)
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

theorem cover7 (i : S2048x706.Idx) :
    ∃ t : Fin cfg0.N, (cfg0.win 7).flush t = true ∧ i ∈ ((cfg0.win 7).blk t).view.set := by
  have h0 : (i 0 : Nat) < 2048 := (i 0).isLt
  have hN : cfg0.N = 8 := N_0
  have ht : (i 0 : Nat) / 256 < cfg0.N := by omega
  refine ⟨⟨(i 0 : Nat) / 256, ht⟩, flush0_7 _, ?_⟩
  rw [mem_blk7]
  dsimp only
  omega

theorem final7 (c : Dev nD) : (dats m 0 c).arrAt 7 cfg0.N = G7 m c :=
  (dats m 0 c).arrAt_eq_of_cover 7 (G7 m c) (fun t _ => flushed7 m c t) cover7

theorem flushed8 (c : Dev nD) (t : Fin cfg0.N) :
    (dats m 0 c).flushed 8 t = (win0_8.blk t).view.read (Elt F) (G8 m c) := by
  rw [Value.flushed8]
  unfold out0_8
  rw [View.canon_unit_zero Update.hz]
  repeat rw [View.ld_unit_zero Update.hz]
  rfl

theorem mem_blk8 (t : Fin cfg0.N) (i : S2048x706.Idx) :
    i ∈ ((cfg0.win 8).blk t).view.set ↔ t.val * 256 ≤ (i 0 : Nat) ∧ (i 0 : Nat) < t.val * 256 + 256 := by
  show i ∈ ((View.whole main_v0_3).slice (win0_8.rect t)).set ↔ _
  rw [View.set_slice_whole, Rect.mem_set_unit]
  have h1 : (i 1 : Nat) < 706 := (i 1).isLt
  have e : win0_8.index t 0 * win0_8.size 0 = t.val * 256 ∧ win0_8.xsize (grid0.coords t) 0 = 256
      ∧ win0_8.index t 1 * win0_8.size 1 = 0 ∧ win0_8.xsize (grid0.coords t) 1 = 706 := by
    revert t; exact (by decide +kernel : ∀ t : Fin grid0.N, win0_8.index t 0 * win0_8.size 0 = t.val * 256 ∧ win0_8.xsize (grid0.coords t) 0 = 256
      ∧ win0_8.index t 1 * win0_8.size 1 = 0 ∧ win0_8.xsize (grid0.coords t) 1 = 706)
  refine ⟨fun h => ?_, fun h a => ?_⟩
  · have : win0_8.index t 0 * win0_8.size 0 ≤ (i 0 : Nat) ∧ (i 0 : Nat) < win0_8.index t 0 * win0_8.size 0 + win0_8.xsize (grid0.coords t) 0 := h 0
    rw [e.1, e.2.1] at this; exact this
  · match a with
    | ⟨0, _⟩ => show win0_8.index t 0 * win0_8.size 0 ≤ (i 0 : Nat) ∧ (i 0 : Nat) < win0_8.index t 0 * win0_8.size 0 + win0_8.xsize (grid0.coords t) 0
                rw [e.1, e.2.1]; exact h
    | ⟨1, _⟩ => show win0_8.index t 1 * win0_8.size 1 ≤ (i 1 : Nat) ∧ (i 1 : Nat) < win0_8.index t 1 * win0_8.size 1 + win0_8.xsize (grid0.coords t) 1
                rw [e.2.2.1, e.2.2.2]; omega

theorem cover8 (i : S2048x706.Idx) :
    ∃ t : Fin cfg0.N, (cfg0.win 8).flush t = true ∧ i ∈ ((cfg0.win 8).blk t).view.set := by
  have h0 : (i 0 : Nat) < 2048 := (i 0).isLt
  have hN : cfg0.N = 8 := N_0
  have ht : (i 0 : Nat) / 256 < cfg0.N := by omega
  refine ⟨⟨(i 0 : Nat) / 256, ht⟩, flush0_8 _, ?_⟩
  rw [mem_blk8]
  dsimp only
  omega

theorem final8 (c : Dev nD) : (dats m 0 c).arrAt 8 cfg0.N = G8 m c :=
  (dats m 0 c).arrAt_eq_of_cover 8 (G8 m c) (fun t _ => flushed8 m c t) cover8

theorem run : θ_run defs (onTc (τ := τ) (main (F := F))) ⟨m, fun _ => 0, g⟩ fun r => ∀ c : Dev nD,
      (r.2.mem ((c : Thread nD τ).loc main_v0_0) = G5 m c
      ∧ r.2.mem ((c : Thread nD τ).loc main_v0_1) = G6 m c
      ∧ r.2.mem ((c : Thread nD τ).loc main_v0_2) = G7 m c
      ∧ r.2.mem ((c : Thread nD τ).loc main_v0_3) = G8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h5, h6, h7, h8, hk⟩ := h c
    exact ⟨⟨h5.trans (final5 m c), h6.trans (final6 m c), h7.trans (final7 m c), h8.trans (final8 m c)⟩, hk⟩)
    (Value.run_blocks m g)

theorem frame_ideal : Cert.quiescent_UpdateInIdeal := fun m g _ => Gen.frame m g

theorem frame : Cert.quiescent_UpdateIn := fun m g _ => Cert.UpdateIn.Gen.frame m g

theorem frame_ref : Cert.quiescent_UpdateInRefIdeal := fun m g _ =>
  (θ_run Cert.UpdateInRefIdeal.defs _ _).mono
    (fun r h => ⟨fun c => (h c).2.2.2.2, sem_eq_zero_of_no_sems (by decide) r.2⟩) (Cert.UpdateInRefIdeal.Value.run m g)

theorem algebraic : Cert.algebraic_UpdateInIdeal_UpdateInRefIdeal := by
  intro m g m' g' _ hm
  refine ⟨fun c => G5 m c, fun c => G6 m c, fun c => G7 m c, fun c => G8 m c,
    (θ_run defs _ _).mono (fun r h c => ⟨(h c).1.1, (h c).1.2.1, (h c).1.2.2.1, (h c).1.2.2.2, (h c).2⟩) (run (F := Ideal) m g),
    (θ_run Cert.UpdateInRefIdeal.defs _ _).mono (fun r h c => ?_) (Cert.UpdateInRefIdeal.Value.run m' g')⟩
  obtain ⟨h5, h6, h7, h8, hk⟩ := h c
  obtain ⟨a0, a1, a2, a3, a4⟩ := hm c
  refine ⟨h5.trans ?_, h6.trans ?_, h7.trans ?_, h8.trans ?_, hk⟩
  · rw [a3, a4]
  · rw [a0, a1, a2, a3, a4, Update.host_sqrt]
    simp only [Update.host_divf]
    rfl
  · rw [a1, a3, a4]
    rfl
  · rw [a2, a3, a4]
    rfl

end Cert.UpdateInClaim

end
-- ==== Proof.UpdateOutClaim.lean ====
/-
What is claimed of the update of w_out.
-/
module

public import proofs.«01_k».proof.Defs
public import proofs.«01_k».proof.Proof.Update
public import proofs.«01_k».proof.Proof.Gen.UpdateOut
public import proofs.«01_k».proof.Proof.Gen.UpdateOut.Frame
public import proofs.«01_k».proof.Proof.Gen.UpdateOutIdeal
public import proofs.«01_k».proof.Proof.Gen.UpdateOutIdeal.Value
public import proofs.«01_k».proof.Proof.Gen.UpdateOutRefIdeal
public import proofs.«01_k».proof.Proof.Gen.UpdateOutRefIdeal.Run
public import Idealize.ShloMosaic.Lib.Pipeline.Value
public import Idealize.ShloMosaic.Lib.Quiescent

@[expose] public section

noncomputable section

namespace Cert.UpdateOutClaim

open Idealize.ShloMosaic Idealize.ShloMosaic.TcCoe Idealize.SL.Sem
open Idealize.ShloMosaic.Pipeline (Dat)
open Cert.UpdateOutIdeal Cert.UpdateOutIdeal.Gen

variable {F : FTy → Type} [FloatOps F]
variable (m : (ℓ : Loc nD τ sig) → Buf (Elt F) ℓ) (g : Dev nD → PrngReg)

abbrev w (c : Dev nD) := m ((c : Thread nD τ).loc main_arg0)
abbrev m1 (c : Dev nD) := m ((c : Thread nD τ).loc main_arg1)
abbrev m2 (c : Dev nD) := m ((c : Thread nD τ).loc main_arg2)
abbrev own (c : Dev nD) := m ((c : Thread nD τ).loc main_arg3)
abbrev sib (c : Dev nD) := m ((c : Thread nD τ).loc main_arg4)

abbrev G5 (c : Dev nD) : Buf (Elt F) ((c : Thread nD τ).loc main_v0_0) := Update.grad S512x1024 (own m c) (sib m c)
abbrev G6 (c : Dev nD) : Buf (Elt F) ((c : Thread nD τ).loc main_v0_1) :=
  Update.change S512x1024 (w m c) (m1 m c) (m2 m c) (own m c) (sib m c)
abbrev G7 (c : Dev nD) : Buf (Elt F) ((c : Thread nD τ).loc main_v0_2) := Update.first S512x1024 (m1 m c) (own m c) (sib m c)
abbrev G8 (c : Dev nD) : Buf (Elt F) ((c : Thread nD τ).loc main_v0_3) := Update.second S512x1024 (m2 m c) (own m c) (sib m c)

theorem flushed5 (c : Dev nD) (t : Fin cfg0.N) :
    (dats m 0 c).flushed 5 t = (win0_5.blk t).view.read (Elt F) (G5 m c) := by
  rw [Value.flushed5]
  unfold out0_5
  rw [View.canon_unit_zero Update.hz]
  repeat rw [View.ld_unit_zero Update.hz]
  rfl

theorem mem_blk5 (t : Fin cfg0.N) (i : S512x1024.Idx) :
    i ∈ ((cfg0.win 5).blk t).view.set ↔ t.val * 256 ≤ (i 0 : Nat) ∧ (i 0 : Nat) < t.val * 256 + 256 := by
  show i ∈ ((View.whole main_v0_0).slice (win0_5.rect t)).set ↔ _
  rw [View.set_slice_whole, Rect.mem_set_unit]
  have h1 : (i 1 : Nat) < 1024 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 1024 := by
    revert t; exact (by decide +kernel : ∀ t : Fin grid0.N, win0_5.index t 0 * win0_5.size 0 = t.val * 256 ∧ win0_5.xsize (grid0.coords t) 0 = 256
      ∧ win0_5.index t 1 * win0_5.size 1 = 0 ∧ win0_5.xsize (grid0.coords t) 1 = 1024)
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

theorem cover5 (i : S512x1024.Idx) :
    ∃ t : Fin cfg0.N, (cfg0.win 5).flush t = true ∧ i ∈ ((cfg0.win 5).blk t).view.set := by
  have h0 : (i 0 : Nat) < 512 := (i 0).isLt
  have hN : cfg0.N = 2 := N_0
  have ht : (i 0 : Nat) / 256 < cfg0.N := by omega
  refine ⟨⟨(i 0 : Nat) / 256, ht⟩, flush0_5 _, ?_⟩
  rw [mem_blk5]
  dsimp only
  omega

theorem final5 (c : Dev nD) : (dats m 0 c).arrAt 5 cfg0.N = G5 m c :=
  (dats m 0 c).arrAt_eq_of_cover 5 (G5 m c) (fun t _ => flushed5 m c t) cover5

theorem flushed6 (c : Dev nD) (t : Fin cfg0.N) :
    (dats m 0 c).flushed 6 t = (win0_6.blk t).view.read (Elt F) (G6 m c) := by
  rw [Value.flushed6]
  unfold out0_6
  rw [View.canon_unit_zero Update.hz]
  repeat rw [View.ld_unit_zero Update.hz]
  rfl

theorem mem_blk6 (t : Fin cfg0.N) (i : S512x1024.Idx) :
    i ∈ ((cfg0.win 6).blk t).view.set ↔ t.val * 256 ≤ (i 0 : Nat) ∧ (i 0 : Nat) < t.val * 256 + 256 := by
  show i ∈ ((View.whole main_v0_1).slice (win0_6.rect t)).set ↔ _
  rw [View.set_slice_whole, Rect.mem_set_unit]
  have h1 : (i 1 : Nat) < 1024 := (i 1).isLt
  have e : win0_6.index t 0 * win0_6.size 0 = t.val * 256 ∧ win0_6.xsize (grid0.coords t) 0 = 256
      ∧ win0_6.index t 1 * win0_6.size 1 = 0 ∧ win0_6.xsize (grid0.coords t) 1 = 1024 := by
    revert t; exact (by decide +kernel : ∀ t : Fin grid0.N, win0_6.index t 0 * win0_6.size 0 = t.val * 256 ∧ win0_6.xsize (grid0.coords t) 0 = 256
      ∧ win0_6.index t 1 * win0_6.size 1 = 0 ∧ win0_6.xsize (grid0.coords t) 1 = 1024)
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

theorem cover6 (i : S512x1024.Idx) :
    ∃ t : Fin cfg0.N, (cfg0.win 6).flush t = true ∧ i ∈ ((cfg0.win 6).blk t).view.set := by
  have h0 : (i 0 : Nat) < 512 := (i 0).isLt
  have hN : cfg0.N = 2 := N_0
  have ht : (i 0 : Nat) / 256 < cfg0.N := by omega
  refine ⟨⟨(i 0 : Nat) / 256, ht⟩, flush0_6 _, ?_⟩
  rw [mem_blk6]
  dsimp only
  omega

theorem final6 (c : Dev nD) : (dats m 0 c).arrAt 6 cfg0.N = G6 m c :=
  (dats m 0 c).arrAt_eq_of_cover 6 (G6 m c) (fun t _ => flushed6 m c t) cover6

theorem flushed7 (c : Dev nD) (t : Fin cfg0.N) :
    (dats m 0 c).flushed 7 t = (win0_7.blk t).view.read (Elt F) (G7 m c) := by
  rw [Value.flushed7]
  unfold out0_7
  rw [View.canon_unit_zero Update.hz]
  repeat rw [View.ld_unit_zero Update.hz]
  rfl

theorem mem_blk7 (t : Fin cfg0.N) (i : S512x1024.Idx) :
    i ∈ ((cfg0.win 7).blk t).view.set ↔ t.val * 256 ≤ (i 0 : Nat) ∧ (i 0 : Nat) < t.val * 256 + 256 := by
  show i ∈ ((View.whole main_v0_2).slice (win0_7.rect t)).set ↔ _
  rw [View.set_slice_whole, Rect.mem_set_unit]
  have h1 : (i 1 : Nat) < 1024 := (i 1).isLt
  have e : win0_7.index t 0 * win0_7.size 0 = t.val * 256 ∧ win0_7.xsize (grid0.coords t) 0 = 256
      ∧ win0_7.index t 1 * win0_7.size 1 = 0 ∧ win0_7.xsize (grid0.coords t) 1 = 1024 := by
    revert t; exact (by decide +kernel : ∀ t : Fin grid0.N, win0_7.index t 0 * win0_7.size 0 = t.val * 256 ∧ win0_7.xsize (grid0.coords t) 0 = 256
      ∧ win0_7.index t 1 * win0_7.size 1 = 0 ∧ win0_7.xsize (grid0.coords t) 1 = 1024)
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

theorem cover7 (i : S512x1024.Idx) :
    ∃ t : Fin cfg0.N, (cfg0.win 7).flush t = true ∧ i ∈ ((cfg0.win 7).blk t).view.set := by
  have h0 : (i 0 : Nat) < 512 := (i 0).isLt
  have hN : cfg0.N = 2 := N_0
  have ht : (i 0 : Nat) / 256 < cfg0.N := by omega
  refine ⟨⟨(i 0 : Nat) / 256, ht⟩, flush0_7 _, ?_⟩
  rw [mem_blk7]
  dsimp only
  omega

theorem final7 (c : Dev nD) : (dats m 0 c).arrAt 7 cfg0.N = G7 m c :=
  (dats m 0 c).arrAt_eq_of_cover 7 (G7 m c) (fun t _ => flushed7 m c t) cover7

theorem flushed8 (c : Dev nD) (t : Fin cfg0.N) :
    (dats m 0 c).flushed 8 t = (win0_8.blk t).view.read (Elt F) (G8 m c) := by
  rw [Value.flushed8]
  unfold out0_8
  rw [View.canon_unit_zero Update.hz]
  repeat rw [View.ld_unit_zero Update.hz]
  rfl

theorem mem_blk8 (t : Fin cfg0.N) (i : S512x1024.Idx) :
    i ∈ ((cfg0.win 8).blk t).view.set ↔ t.val * 256 ≤ (i 0 : Nat) ∧ (i 0 : Nat) < t.val * 256 + 256 := by
  show i ∈ ((View.whole main_v0_3).slice (win0_8.rect t)).set ↔ _
  rw [View.set_slice_whole, Rect.mem_set_unit]
  have h1 : (i 1 : Nat) < 1024 := (i 1).isLt
  have e : win0_8.index t 0 * win0_8.size 0 = t.val * 256 ∧ win0_8.xsize (grid0.coords t) 0 = 256
      ∧ win0_8.index t 1 * win0_8.size 1 = 0 ∧ win0_8.xsize (grid0.coords t) 1 = 1024 := by
    revert t; exact (by decide +kernel : ∀ t : Fin grid0.N, win0_8.index t 0 * win0_8.size 0 = t.val * 256 ∧ win0_8.xsize (grid0.coords t) 0 = 256
      ∧ win0_8.index t 1 * win0_8.size 1 = 0 ∧ win0_8.xsize (grid0.coords t) 1 = 1024)
  refine ⟨fun h => ?_, fun h a => ?_⟩
  · have : win0_8.index t 0 * win0_8.size 0 ≤ (i 0 : Nat) ∧ (i 0 : Nat) < win0_8.index t 0 * win0_8.size 0 + win0_8.xsize (grid0.coords t) 0 := h 0
    rw [e.1, e.2.1] at this; exact this
  · match a with
    | ⟨0, _⟩ => show win0_8.index t 0 * win0_8.size 0 ≤ (i 0 : Nat) ∧ (i 0 : Nat) < win0_8.index t 0 * win0_8.size 0 + win0_8.xsize (grid0.coords t) 0
                rw [e.1, e.2.1]; exact h
    | ⟨1, _⟩ => show win0_8.index t 1 * win0_8.size 1 ≤ (i 1 : Nat) ∧ (i 1 : Nat) < win0_8.index t 1 * win0_8.size 1 + win0_8.xsize (grid0.coords t) 1
                rw [e.2.2.1, e.2.2.2]; omega

theorem cover8 (i : S512x1024.Idx) :
    ∃ t : Fin cfg0.N, (cfg0.win 8).flush t = true ∧ i ∈ ((cfg0.win 8).blk t).view.set := by
  have h0 : (i 0 : Nat) < 512 := (i 0).isLt
  have hN : cfg0.N = 2 := N_0
  have ht : (i 0 : Nat) / 256 < cfg0.N := by omega
  refine ⟨⟨(i 0 : Nat) / 256, ht⟩, flush0_8 _, ?_⟩
  rw [mem_blk8]
  dsimp only
  omega

theorem final8 (c : Dev nD) : (dats m 0 c).arrAt 8 cfg0.N = G8 m c :=
  (dats m 0 c).arrAt_eq_of_cover 8 (G8 m c) (fun t _ => flushed8 m c t) cover8

theorem run : θ_run defs (onTc (τ := τ) (main (F := F))) ⟨m, fun _ => 0, g⟩ fun r => ∀ c : Dev nD,
      (r.2.mem ((c : Thread nD τ).loc main_v0_0) = G5 m c
      ∧ r.2.mem ((c : Thread nD τ).loc main_v0_1) = G6 m c
      ∧ r.2.mem ((c : Thread nD τ).loc main_v0_2) = G7 m c
      ∧ r.2.mem ((c : Thread nD τ).loc main_v0_3) = G8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h5, h6, h7, h8, hk⟩ := h c
    exact ⟨⟨h5.trans (final5 m c), h6.trans (final6 m c), h7.trans (final7 m c), h8.trans (final8 m c)⟩, hk⟩)
    (Value.run_blocks m g)

theorem frame_ideal : Cert.quiescent_UpdateOutIdeal := fun m g _ => Gen.frame m g

theorem frame : Cert.quiescent_UpdateOut := fun m g _ => Cert.UpdateOut.Gen.frame m g

theorem frame_ref : Cert.quiescent_UpdateOutRefIdeal := fun m g _ =>
  (θ_run Cert.UpdateOutRefIdeal.defs _ _).mono
    (fun r h => ⟨fun c => (h c).2.2.2.2, sem_eq_zero_of_no_sems (by decide) r.2⟩) (Cert.UpdateOutRefIdeal.Value.run m g)

theorem algebraic : Cert.algebraic_UpdateOutIdeal_UpdateOutRefIdeal := by
  intro m g m' g' _ hm
  refine ⟨fun c => G5 m c, fun c => G6 m c, fun c => G7 m c, fun c => G8 m c,
    (θ_run defs _ _).mono (fun r h c => ⟨(h c).1.1, (h c).1.2.1, (h c).1.2.2.1, (h c).1.2.2.2, (h c).2⟩) (run (F := Ideal) m g),
    (θ_run Cert.UpdateOutRefIdeal.defs _ _).mono (fun r h c => ?_) (Cert.UpdateOutRefIdeal.Value.run m' g')⟩
  obtain ⟨h5, h6, h7, h8, hk⟩ := h c
  obtain ⟨a0, a1, a2, a3, a4⟩ := hm c
  refine ⟨h5.trans ?_, h6.trans ?_, h7.trans ?_, h8.trans ?_, hk⟩
  · rw [a3, a4]
  · rw [a0, a1, a2, a3, a4, Update.host_sqrt]
    simp only [Update.host_divf]
    rfl
  · rw [a1, a3, a4]
    rfl
  · rw [a2, a3, a4]
    rfl

end Cert.UpdateOutClaim

end
-- ==== Proof.UpdateMlpClaim.lean ====
/-
What is claimed of the update of w_mlp1 and w_mlp2.
-/
module

public import proofs.«01_k».proof.Defs
public import proofs.«01_k».proof.Proof.Update
public import proofs.«01_k».proof.Proof.Gen.UpdateMlp
public import proofs.«01_k».proof.Proof.Gen.UpdateMlp.Frame
public import proofs.«01_k».proof.Proof.Gen.UpdateMlpIdeal
public import proofs.«01_k».proof.Proof.Gen.UpdateMlpIdeal.Value
public import proofs.«01_k».proof.Proof.Gen.UpdateMlpRefIdeal
public import proofs.«01_k».proof.Proof.Gen.UpdateMlpRefIdeal.Run
public import Idealize.ShloMosaic.Lib.Pipeline.Value
public import Idealize.ShloMosaic.Lib.Quiescent

@[expose] public section

noncomputable section

namespace Cert.UpdateMlpClaim

open Idealize.ShloMosaic Idealize.ShloMosaic.TcCoe Idealize.SL.Sem
open Idealize.ShloMosaic.Pipeline (Dat)
open Cert.UpdateMlpIdeal Cert.UpdateMlpIdeal.Gen

variable {F : FTy → Type} [FloatOps F]
variable (m : (ℓ : Loc nD τ sig) → Buf (Elt F) ℓ) (g : Dev nD → PrngReg)

abbrev w (c : Dev nD) := m ((c : Thread nD τ).loc main_arg0)
abbrev m1 (c : Dev nD) := m ((c : Thread nD τ).loc main_arg1)
abbrev m2 (c : Dev nD) := m ((c : Thread nD τ).loc main_arg2)
abbrev own (c : Dev nD) := m ((c : Thread nD τ).loc main_arg3)
abbrev sib (c : Dev nD) := m ((c : Thread nD τ).loc main_arg4)

abbrev G5 (c : Dev nD) : Buf (Elt F) ((c : Thread nD τ).loc main_v0_0) := Update.grad S2048x1024 (own m c) (sib m c)
abbrev G6 (c : Dev nD) : Buf (Elt F) ((c : Thread nD τ).loc main_v0_1) :=
  Update.change S2048x1024 (w m c) (m1 m c) (m2 m c) (own m c) (sib m c)
abbrev G7 (c : Dev nD) : Buf (Elt F) ((c : Thread nD τ).loc main_v0_2) := Update.first S2048x1024 (m1 m c) (own m c) (sib m c)
abbrev G8 (c : Dev nD) : Buf (Elt F) ((c : Thread nD τ).loc main_v0_3) := Update.second S2048x1024 (m2 m c) (own m c) (sib m c)

theorem flushed5 (c : Dev nD) (t : Fin cfg0.N) :
    (dats m 0 c).flushed 5 t = (win0_5.blk t).view.read (Elt F) (G5 m c) := by
  rw [Value.flushed5]
  unfold out0_5
  rw [View.canon_unit_zero Update.hz]
  repeat rw [View.ld_unit_zero Update.hz]
  rfl

theorem mem_blk5 (t : Fin cfg0.N) (i : S2048x1024.Idx) :
    i ∈ ((cfg0.win 5).blk t).view.set ↔ t.val * 256 ≤ (i 0 : Nat) ∧ (i 0 : Nat) < t.val * 256 + 256 := by
  show i ∈ ((View.whole main_v0_0).slice (win0_5.rect t)).set ↔ _
  rw [View.set_slice_whole, Rect.mem_set_unit]
  have h1 : (i 1 : Nat) < 1024 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 1024 := by
    revert t; exact (by decide +kernel : ∀ t : Fin grid0.N, win0_5.index t 0 * win0_5.size 0 = t.val * 256 ∧ win0_5.xsize (grid0.coords t) 0 = 256
      ∧ win0_5.index t 1 * win0_5.size 1 = 0 ∧ win0_5.xsize (grid0.coords t) 1 = 1024)
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

theorem cover5 (i : S2048x1024.Idx) :
    ∃ t : Fin cfg0.N, (cfg0.win 5).flush t = true ∧ i ∈ ((cfg0.win 5).blk t).view.set := by
  have h0 : (i 0 : Nat) < 2048 := (i 0).isLt
  have hN : cfg0.N = 8 := N_0
  have ht : (i 0 : Nat) / 256 < cfg0.N := by omega
  refine ⟨⟨(i 0 : Nat) / 256, ht⟩, flush0_5 _, ?_⟩
  rw [mem_blk5]
  dsimp only
  omega

theorem final5 (c : Dev nD) : (dats m 0 c).arrAt 5 cfg0.N = G5 m c :=
  (dats m 0 c).arrAt_eq_of_cover 5 (G5 m c) (fun t _ => flushed5 m c t) cover5

theorem flushed6 (c : Dev nD) (t : Fin cfg0.N) :
    (dats m 0 c).flushed 6 t = (win0_6.blk t).view.read (Elt F) (G6 m c) := by
  rw [Value.flushed6]
  unfold out0_6
  rw [View.canon_unit_zero Update.hz]
  repeat rw [View.ld_unit_zero Update.hz]
  rfl

theorem mem_blk6 (t : Fin cfg0.N) (i : S2048x1024.Idx) :
    i ∈ ((cfg0.win 6).blk t).view.set ↔ t.val * 256 ≤ (i 0 : Nat) ∧ (i 0 : Nat) < t.val * 256 + 256 := by
  show i ∈ ((View.whole main_v0_1).slice (win0_6.rect t)).set ↔ _
  rw [View.set_slice_whole, Rect.mem_set_unit]
  have h1 : (i 1 : Nat) < 1024 := (i 1).isLt
  have e : win0_6.index t 0 * win0_6.size 0 = t.val * 256 ∧ win0_6.xsize (grid0.coords t) 0 = 256
      ∧ win0_6.index t 1 * win0_6.size 1 = 0 ∧ win0_6.xsize (grid0.coords t) 1 = 1024 := by
    revert t; exact (by decide +kernel : ∀ t : Fin grid0.N, win0_6.index t 0 * win0_6.size 0 = t.val * 256 ∧ win0_6.xsize (grid0.coords t) 0 = 256
      ∧ win0_6.index t 1 * win0_6.size 1 = 0 ∧ win0_6.xsize (grid0.coords t) 1 = 1024)
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

theorem cover6 (i : S2048x1024.Idx) :
    ∃ t : Fin cfg0.N, (cfg0.win 6).flush t = true ∧ i ∈ ((cfg0.win 6).blk t).view.set := by
  have h0 : (i 0 : Nat) < 2048 := (i 0).isLt
  have hN : cfg0.N = 8 := N_0
  have ht : (i 0 : Nat) / 256 < cfg0.N := by omega
  refine ⟨⟨(i 0 : Nat) / 256, ht⟩, flush0_6 _, ?_⟩
  rw [mem_blk6]
  dsimp only
  omega

theorem final6 (c : Dev nD) : (dats m 0 c).arrAt 6 cfg0.N = G6 m c :=
  (dats m 0 c).arrAt_eq_of_cover 6 (G6 m c) (fun t _ => flushed6 m c t) cover6

theorem flushed7 (c : Dev nD) (t : Fin cfg0.N) :
    (dats m 0 c).flushed 7 t = (win0_7.blk t).view.read (Elt F) (G7 m c) := by
  rw [Value.flushed7]
  unfold out0_7
  rw [View.canon_unit_zero Update.hz]
  repeat rw [View.ld_unit_zero Update.hz]
  rfl

theorem mem_blk7 (t : Fin cfg0.N) (i : S2048x1024.Idx) :
    i ∈ ((cfg0.win 7).blk t).view.set ↔ t.val * 256 ≤ (i 0 : Nat) ∧ (i 0 : Nat) < t.val * 256 + 256 := by
  show i ∈ ((View.whole main_v0_2).slice (win0_7.rect t)).set ↔ _
  rw [View.set_slice_whole, Rect.mem_set_unit]
  have h1 : (i 1 : Nat) < 1024 := (i 1).isLt
  have e : win0_7.index t 0 * win0_7.size 0 = t.val * 256 ∧ win0_7.xsize (grid0.coords t) 0 = 256
      ∧ win0_7.index t 1 * win0_7.size 1 = 0 ∧ win0_7.xsize (grid0.coords t) 1 = 1024 := by
    revert t; exact (by decide +kernel : ∀ t : Fin grid0.N, win0_7.index t 0 * win0_7.size 0 = t.val * 256 ∧ win0_7.xsize (grid0.coords t) 0 = 256
      ∧ win0_7.index t 1 * win0_7.size 1 = 0 ∧ win0_7.xsize (grid0.coords t) 1 = 1024)
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

theorem cover7 (i : S2048x1024.Idx) :
    ∃ t : Fin cfg0.N, (cfg0.win 7).flush t = true ∧ i ∈ ((cfg0.win 7).blk t).view.set := by
  have h0 : (i 0 : Nat) < 2048 := (i 0).isLt
  have hN : cfg0.N = 8 := N_0
  have ht : (i 0 : Nat) / 256 < cfg0.N := by omega
  refine ⟨⟨(i 0 : Nat) / 256, ht⟩, flush0_7 _, ?_⟩
  rw [mem_blk7]
  dsimp only
  omega

theorem final7 (c : Dev nD) : (dats m 0 c).arrAt 7 cfg0.N = G7 m c :=
  (dats m 0 c).arrAt_eq_of_cover 7 (G7 m c) (fun t _ => flushed7 m c t) cover7

theorem flushed8 (c : Dev nD) (t : Fin cfg0.N) :
    (dats m 0 c).flushed 8 t = (win0_8.blk t).view.read (Elt F) (G8 m c) := by
  rw [Value.flushed8]
  unfold out0_8
  rw [View.canon_unit_zero Update.hz]
  repeat rw [View.ld_unit_zero Update.hz]
  rfl

theorem mem_blk8 (t : Fin cfg0.N) (i : S2048x1024.Idx) :
    i ∈ ((cfg0.win 8).blk t).view.set ↔ t.val * 256 ≤ (i 0 : Nat) ∧ (i 0 : Nat) < t.val * 256 + 256 := by
  show i ∈ ((View.whole main_v0_3).slice (win0_8.rect t)).set ↔ _
  rw [View.set_slice_whole, Rect.mem_set_unit]
  have h1 : (i 1 : Nat) < 1024 := (i 1).isLt
  have e : win0_8.index t 0 * win0_8.size 0 = t.val * 256 ∧ win0_8.xsize (grid0.coords t) 0 = 256
      ∧ win0_8.index t 1 * win0_8.size 1 = 0 ∧ win0_8.xsize (grid0.coords t) 1 = 1024 := by
    revert t; exact (by decide +kernel : ∀ t : Fin grid0.N, win0_8.index t 0 * win0_8.size 0 = t.val * 256 ∧ win0_8.xsize (grid0.coords t) 0 = 256
      ∧ win0_8.index t 1 * win0_8.size 1 = 0 ∧ win0_8.xsize (grid0.coords t) 1 = 1024)
  refine ⟨fun h => ?_, fun h a => ?_⟩
  · have : win0_8.index t 0 * win0_8.size 0 ≤ (i 0 : Nat) ∧ (i 0 : Nat) < win0_8.index t 0 * win0_8.size 0 + win0_8.xsize (grid0.coords t) 0 := h 0
    rw [e.1, e.2.1] at this; exact this
  · match a with
    | ⟨0, _⟩ => show win0_8.index t 0 * win0_8.size 0 ≤ (i 0 : Nat) ∧ (i 0 : Nat) < win0_8.index t 0 * win0_8.size 0 + win0_8.xsize (grid0.coords t) 0
                rw [e.1, e.2.1]; exact h
    | ⟨1, _⟩ => show win0_8.index t 1 * win0_8.size 1 ≤ (i 1 : Nat) ∧ (i 1 : Nat) < win0_8.index t 1 * win0_8.size 1 + win0_8.xsize (grid0.coords t) 1
                rw [e.2.2.1, e.2.2.2]; omega

theorem cover8 (i : S2048x1024.Idx) :
    ∃ t : Fin cfg0.N, (cfg0.win 8).flush t = true ∧ i ∈ ((cfg0.win 8).blk t).view.set := by
  have h0 : (i 0 : Nat) < 2048 := (i 0).isLt
  have hN : cfg0.N = 8 := N_0
  have ht : (i 0 : Nat) / 256 < cfg0.N := by omega
  refine ⟨⟨(i 0 : Nat) / 256, ht⟩, flush0_8 _, ?_⟩
  rw [mem_blk8]
  dsimp only
  omega

theorem final8 (c : Dev nD) : (dats m 0 c).arrAt 8 cfg0.N = G8 m c :=
  (dats m 0 c).arrAt_eq_of_cover 8 (G8 m c) (fun t _ => flushed8 m c t) cover8

theorem run : θ_run defs (onTc (τ := τ) (main (F := F))) ⟨m, fun _ => 0, g⟩ fun r => ∀ c : Dev nD,
      (r.2.mem ((c : Thread nD τ).loc main_v0_0) = G5 m c
      ∧ r.2.mem ((c : Thread nD τ).loc main_v0_1) = G6 m c
      ∧ r.2.mem ((c : Thread nD τ).loc main_v0_2) = G7 m c
      ∧ r.2.mem ((c : Thread nD τ).loc main_v0_3) = G8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h5, h6, h7, h8, hk⟩ := h c
    exact ⟨⟨h5.trans (final5 m c), h6.trans (final6 m c), h7.trans (final7 m c), h8.trans (final8 m c)⟩, hk⟩)
    (Value.run_blocks m g)

theorem frame_ideal : Cert.quiescent_UpdateMlpIdeal := fun m g _ => Gen.frame m g

theorem frame : Cert.quiescent_UpdateMlp := fun m g _ => Cert.UpdateMlp.Gen.frame m g

theorem frame_ref : Cert.quiescent_UpdateMlpRefIdeal := fun m g _ =>
  (θ_run Cert.UpdateMlpRefIdeal.defs _ _).mono
    (fun r h => ⟨fun c => (h c).2.2.2.2, sem_eq_zero_of_no_sems (by decide) r.2⟩) (Cert.UpdateMlpRefIdeal.Value.run m g)

theorem algebraic : Cert.algebraic_UpdateMlpIdeal_UpdateMlpRefIdeal := by
  intro m g m' g' _ hm
  refine ⟨fun c => G5 m c, fun c => G6 m c, fun c => G7 m c, fun c => G8 m c,
    (θ_run defs _ _).mono (fun r h c => ⟨(h c).1.1, (h c).1.2.1, (h c).1.2.2.1, (h c).1.2.2.2, (h c).2⟩) (run (F := Ideal) m g),
    (θ_run Cert.UpdateMlpRefIdeal.defs _ _).mono (fun r h c => ?_) (Cert.UpdateMlpRefIdeal.Value.run m' g')⟩
  obtain ⟨h5, h6, h7, h8, hk⟩ := h c
  obtain ⟨a0, a1, a2, a3, a4⟩ := hm c
  refine ⟨h5.trans ?_, h6.trans ?_, h7.trans ?_, h8.trans ?_, hk⟩
  · rw [a3, a4]
  · rw [a0, a1, a2, a3, a4, Update.host_sqrt]
    simp only [Update.host_divf]
    rfl
  · rw [a1, a3, a4]
    rfl
  · rw [a2, a3, a4]
    rfl

end Cert.UpdateMlpClaim

end
-- ==== Proof.UpdateSmallClaim.lean ====
/-
What is claimed of the update of the packed small weights.
-/
module

public import proofs.«01_k».proof.Defs
public import proofs.«01_k».proof.Proof.Update
public import proofs.«01_k».proof.Proof.Gen.UpdateSmall
public import proofs.«01_k».proof.Proof.Gen.UpdateSmall.Frame
public import proofs.«01_k».proof.Proof.Gen.UpdateSmallIdeal
public import proofs.«01_k».proof.Proof.Gen.UpdateSmallIdeal.Value
public import proofs.«01_k».proof.Proof.Gen.UpdateSmallRefIdeal
public import proofs.«01_k».proof.Proof.Gen.UpdateSmallRefIdeal.Run
public import Idealize.ShloMosaic.Lib.Pipeline.Value
public import Idealize.ShloMosaic.Lib.Quiescent

@[expose] public section

noncomputable section

namespace Cert.UpdateSmallClaim

open Idealize.ShloMosaic Idealize.ShloMosaic.TcCoe Idealize.SL.Sem
open Idealize.ShloMosaic.Pipeline (Dat)
open Cert.UpdateSmallIdeal Cert.UpdateSmallIdeal.Gen

variable {F : FTy → Type} [FloatOps F]
variable (m : (ℓ : Loc nD τ sig) → Buf (Elt F) ℓ) (g : Dev nD → PrngReg)

abbrev w (c : Dev nD) := m ((c : Thread nD τ).loc main_arg0)
abbrev m1 (c : Dev nD) := m ((c : Thread nD τ).loc main_arg1)
abbrev m2 (c : Dev nD) := m ((c : Thread nD τ).loc main_arg2)
abbrev own (c : Dev nD) := m ((c : Thread nD τ).loc main_arg3)
abbrev sib (c : Dev nD) := m ((c : Thread nD τ).loc main_arg4)

abbrev G5 (c : Dev nD) : Buf (Elt F) ((c : Thread nD τ).loc main_v0_0) := Update.grad S48x1024 (own m c) (sib m c)
abbrev G6 (c : Dev nD) : Buf (Elt F) ((c : Thread nD τ).loc main_v0_1) :=
  Update.change S48x1024 (w m c) (m1 m c) (m2 m c) (own m c) (sib m c)
abbrev G7 (c : Dev nD) : Buf (Elt F) ((c : Thread nD τ).loc main_v0_2) := Update.first S48x1024 (m1 m c) (own m c) (sib m c)
abbrev G8 (c : Dev nD) : Buf (Elt F) ((c : Thread nD τ).loc main_v0_3) := Update.second S48x1024 (m2 m c) (own m c) (sib m c)

theorem flushed5 (c : Dev nD) (t : Fin cfg0.N) :
    (dats m 0 c).flushed 5 t = (win0_5.blk t).view.read (Elt F) (G5 m c) := by
  rw [Value.flushed5]
  unfold out0_5
  rw [View.canon_unit_zero Update.hz]
  repeat rw [View.ld_unit_zero Update.hz]
  rfl

theorem mem_blk5 (t : Fin cfg0.N) (i : S48x1024.Idx) :
    i ∈ ((cfg0.win 5).blk t).view.set ↔ t.val * 48 ≤ (i 0 : Nat) ∧ (i 0 : Nat) < t.val * 48 + 48 := by
  show i ∈ ((View.whole main_v0_0).slice (win0_5.rect t)).set ↔ _
  rw [View.set_slice_whole, Rect.mem_set_unit]
  have h1 : (i 1 : Nat) < 1024 := (i 1).isLt
  have e : win0_5.index t 0 * win0_5.size 0 = t.val * 48 ∧ win0_5.xsize (grid0.coords t) 0 = 48
      ∧ win0_5.index t 1 * win0_5.size 1 = 0 ∧ win0_5.xsize (grid0.coords t) 1 = 1024 := by
    revert t; exact (by decide +kernel : ∀ t : Fin grid0.N, win0_5.index t 0 * win0_5.size 0 = t.val * 48 ∧ win0_5.xsize (grid0.coords t) 0 = 48
      ∧ win0_5.index t 1 * win0_5.size 1 = 0 ∧ win0_5.xsize (grid0.coords t) 1 = 1024)
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

theorem cover5 (i : S48x1024.Idx) :
    ∃ t : Fin cfg0.N, (cfg0.win 5).flush t = true ∧ i ∈ ((cfg0.win 5).blk t).view.set := by
  have h0 : (i 0 : Nat) < 48 := (i 0).isLt
  have hN : cfg0.N = 1 := N_0
  have ht : (i 0 : Nat) / 48 < cfg0.N := by omega
  refine ⟨⟨(i 0 : Nat) / 48, ht⟩, flush0_5 _, ?_⟩
  rw [mem_blk5]
  dsimp only
  omega

theorem final5 (c : Dev nD) : (dats m 0 c).arrAt 5 cfg0.N = G5 m c :=
  (dats m 0 c).arrAt_eq_of_cover 5 (G5 m c) (fun t _ => flushed5 m c t) cover5

theorem flushed6 (c : Dev nD) (t : Fin cfg0.N) :
    (dats m 0 c).flushed 6 t = (win0_6.blk t).view.read (Elt F) (G6 m c) := by
  rw [Value.flushed6]
  unfold out0_6
  rw [View.canon_unit_zero Update.hz]
  repeat rw [View.ld_unit_zero Update.hz]
  rfl

theorem mem_blk6 (t : Fin cfg0.N) (i : S48x1024.Idx) :
    i ∈ ((cfg0.win 6).blk t).view.set ↔ t.val * 48 ≤ (i 0 : Nat) ∧ (i 0 : Nat) < t.val * 48 + 48 := by
  show i ∈ ((View.whole main_v0_1).slice (win0_6.rect t)).set ↔ _
  rw [View.set_slice_whole, Rect.mem_set_unit]
  have h1 : (i 1 : Nat) < 1024 := (i 1).isLt
  have e : win0_6.index t 0 * win0_6.size 0 = t.val * 48 ∧ win0_6.xsize (grid0.coords t) 0 = 48
      ∧ win0_6.index t 1 * win0_6.size 1 = 0 ∧ win0_6.xsize (grid0.coords t) 1 = 1024 := by
    revert t; exact (by decide +kernel : ∀ t : Fin grid0.N, win0_6.index t 0 * win0_6.size 0 = t.val * 48 ∧ win0_6.xsize (grid0.coords t) 0 = 48
      ∧ win0_6.index t 1 * win0_6.size 1 = 0 ∧ win0_6.xsize (grid0.coords t) 1 = 1024)
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

theorem cover6 (i : S48x1024.Idx) :
    ∃ t : Fin cfg0.N, (cfg0.win 6).flush t = true ∧ i ∈ ((cfg0.win 6).blk t).view.set := by
  have h0 : (i 0 : Nat) < 48 := (i 0).isLt
  have hN : cfg0.N = 1 := N_0
  have ht : (i 0 : Nat) / 48 < cfg0.N := by omega
  refine ⟨⟨(i 0 : Nat) / 48, ht⟩, flush0_6 _, ?_⟩
  rw [mem_blk6]
  dsimp only
  omega

theorem final6 (c : Dev nD) : (dats m 0 c).arrAt 6 cfg0.N = G6 m c :=
  (dats m 0 c).arrAt_eq_of_cover 6 (G6 m c) (fun t _ => flushed6 m c t) cover6

theorem flushed7 (c : Dev nD) (t : Fin cfg0.N) :
    (dats m 0 c).flushed 7 t = (win0_7.blk t).view.read (Elt F) (G7 m c) := by
  rw [Value.flushed7]
  unfold out0_7
  rw [View.canon_unit_zero Update.hz]
  repeat rw [View.ld_unit_zero Update.hz]
  rfl

theorem mem_blk7 (t : Fin cfg0.N) (i : S48x1024.Idx) :
    i ∈ ((cfg0.win 7).blk t).view.set ↔ t.val * 48 ≤ (i 0 : Nat) ∧ (i 0 : Nat) < t.val * 48 + 48 := by
  show i ∈ ((View.whole main_v0_2).slice (win0_7.rect t)).set ↔ _
  rw [View.set_slice_whole, Rect.mem_set_unit]
  have h1 : (i 1 : Nat) < 1024 := (i 1).isLt
  have e : win0_7.index t 0 * win0_7.size 0 = t.val * 48 ∧ win0_7.xsize (grid0.coords t) 0 = 48
      ∧ win0_7.index t 1 * win0_7.size 1 = 0 ∧ win0_7.xsize (grid0.coords t) 1 = 1024 := by
    revert t; exact (by decide +kernel : ∀ t : Fin grid0.N, win0_7.index t 0 * win0_7.size 0 = t.val * 48 ∧ win0_7.xsize (grid0.coords t) 0 = 48
      ∧ win0_7.index t 1 * win0_7.size 1 = 0 ∧ win0_7.xsize (grid0.coords t) 1 = 1024)
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

theorem cover7 (i : S48x1024.Idx) :
    ∃ t : Fin cfg0.N, (cfg0.win 7).flush t = true ∧ i ∈ ((cfg0.win 7).blk t).view.set := by
  have h0 : (i 0 : Nat) < 48 := (i 0).isLt
  have hN : cfg0.N = 1 := N_0
  have ht : (i 0 : Nat) / 48 < cfg0.N := by omega
  refine ⟨⟨(i 0 : Nat) / 48, ht⟩, flush0_7 _, ?_⟩
  rw [mem_blk7]
  dsimp only
  omega

theorem final7 (c : Dev nD) : (dats m 0 c).arrAt 7 cfg0.N = G7 m c :=
  (dats m 0 c).arrAt_eq_of_cover 7 (G7 m c) (fun t _ => flushed7 m c t) cover7

theorem flushed8 (c : Dev nD) (t : Fin cfg0.N) :
    (dats m 0 c).flushed 8 t = (win0_8.blk t).view.read (Elt F) (G8 m c) := by
  rw [Value.flushed8]
  unfold out0_8
  rw [View.canon_unit_zero Update.hz]
  repeat rw [View.ld_unit_zero Update.hz]
  rfl

theorem mem_blk8 (t : Fin cfg0.N) (i : S48x1024.Idx) :
    i ∈ ((cfg0.win 8).blk t).view.set ↔ t.val * 48 ≤ (i 0 : Nat) ∧ (i 0 : Nat) < t.val * 48 + 48 := by
  show i ∈ ((View.whole main_v0_3).slice (win0_8.rect t)).set ↔ _
  rw [View.set_slice_whole, Rect.mem_set_unit]
  have h1 : (i 1 : Nat) < 1024 := (i 1).isLt
  have e : win0_8.index t 0 * win0_8.size 0 = t.val * 48 ∧ win0_8.xsize (grid0.coords t) 0 = 48
      ∧ win0_8.index t 1 * win0_8.size 1 = 0 ∧ win0_8.xsize (grid0.coords t) 1 = 1024 := by
    revert t; exact (by decide +kernel : ∀ t : Fin grid0.N, win0_8.index t 0 * win0_8.size 0 = t.val * 48 ∧ win0_8.xsize (grid0.coords t) 0 = 48
      ∧ win0_8.index t 1 * win0_8.size 1 = 0 ∧ win0_8.xsize (grid0.coords t) 1 = 1024)
  refine ⟨fun h => ?_, fun h a => ?_⟩
  · have : win0_8.index t 0 * win0_8.size 0 ≤ (i 0 : Nat) ∧ (i 0 : Nat) < win0_8.index t 0 * win0_8.size 0 + win0_8.xsize (grid0.coords t) 0 := h 0
    rw [e.1, e.2.1] at this; exact this
  · match a with
    | ⟨0, _⟩ => show win0_8.index t 0 * win0_8.size 0 ≤ (i 0 : Nat) ∧ (i 0 : Nat) < win0_8.index t 0 * win0_8.size 0 + win0_8.xsize (grid0.coords t) 0
                rw [e.1, e.2.1]; exact h
    | ⟨1, _⟩ => show win0_8.index t 1 * win0_8.size 1 ≤ (i 1 : Nat) ∧ (i 1 : Nat) < win0_8.index t 1 * win0_8.size 1 + win0_8.xsize (grid0.coords t) 1
                rw [e.2.2.1, e.2.2.2]; omega

theorem cover8 (i : S48x1024.Idx) :
    ∃ t : Fin cfg0.N, (cfg0.win 8).flush t = true ∧ i ∈ ((cfg0.win 8).blk t).view.set := by
  have h0 : (i 0 : Nat) < 48 := (i 0).isLt
  have hN : cfg0.N = 1 := N_0
  have ht : (i 0 : Nat) / 48 < cfg0.N := by omega
  refine ⟨⟨(i 0 : Nat) / 48, ht⟩, flush0_8 _, ?_⟩
  rw [mem_blk8]
  dsimp only
  omega

theorem final8 (c : Dev nD) : (dats m 0 c).arrAt 8 cfg0.N = G8 m c :=
  (dats m 0 c).arrAt_eq_of_cover 8 (G8 m c) (fun t _ => flushed8 m c t) cover8

theorem run : θ_run defs (onTc (τ := τ) (main (F := F))) ⟨m, fun _ => 0, g⟩ fun r => ∀ c : Dev nD,
      (r.2.mem ((c : Thread nD τ).loc main_v0_0) = G5 m c
      ∧ r.2.mem ((c : Thread nD τ).loc main_v0_1) = G6 m c
      ∧ r.2.mem ((c : Thread nD τ).loc main_v0_2) = G7 m c
      ∧ r.2.mem ((c : Thread nD τ).loc main_v0_3) = G8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h5, h6, h7, h8, hk⟩ := h c
    exact ⟨⟨h5.trans (final5 m c), h6.trans (final6 m c), h7.trans (final7 m c), h8.trans (final8 m c)⟩, hk⟩)
    (Value.run_blocks m g)

theorem frame_ideal : Cert.quiescent_UpdateSmallIdeal := fun m g _ => Gen.frame m g

theorem frame : Cert.quiescent_UpdateSmall := fun m g _ => Cert.UpdateSmall.Gen.frame m g

theorem frame_ref : Cert.quiescent_UpdateSmallRefIdeal := fun m g _ =>
  (θ_run Cert.UpdateSmallRefIdeal.defs _ _).mono
    (fun r h => ⟨fun c => (h c).2.2.2.2, sem_eq_zero_of_no_sems (by decide) r.2⟩) (Cert.UpdateSmallRefIdeal.Value.run m g)

theorem algebraic : Cert.algebraic_UpdateSmallIdeal_UpdateSmallRefIdeal := by
  intro m g m' g' _ hm
  refine ⟨fun c => G5 m c, fun c => G6 m c, fun c => G7 m c, fun c => G8 m c,
    (θ_run defs _ _).mono (fun r h c => ⟨(h c).1.1, (h c).1.2.1, (h c).1.2.2.1, (h c).1.2.2.2, (h c).2⟩) (run (F := Ideal) m g),
    (θ_run Cert.UpdateSmallRefIdeal.defs _ _).mono (fun r h c => ?_) (Cert.UpdateSmallRefIdeal.Value.run m' g')⟩
  obtain ⟨h5, h6, h7, h8, hk⟩ := h c
  obtain ⟨a0, a1, a2, a3, a4⟩ := hm c
  refine ⟨h5.trans ?_, h6.trans ?_, h7.trans ?_, h8.trans ?_, hk⟩
  · rw [a3, a4]
  · rw [a0, a1, a2, a3, a4, Update.host_sqrt]
    simp only [Update.host_divf]
    rfl
  · rw [a1, a3, a4]
    rfl
  · rw [a2, a3, a4]
    rfl

end Cert.UpdateSmallClaim

end
-- ==== Proof.Rows.lean ====
/-
The functions of one row that the layers are made of.
-/
module

public import Idealize.ShloMosaic.Lib.Pipeline.Value
public import Idealize.ShloMosaic.Lib.Pointwise

@[expose] public section

noncomputable section

namespace Cert.Rows

open Idealize.ShloMosaic

/-- The reciprocal root mean square of a row. -/
def scale (x : Fin 1024 → EReal) : EReal :=
  Ideal.rsqrt (Ideal.div (∑ k, x k * x k) (Ideal.ofBits .f32 0x44800000#32) + Ideal.ofBits .f32 0x358637BD#32)

/-- The normalised row. -/
def norm (x g : Fin 1024 → EReal) (k : Fin 1024) : EReal := x k * scale x * g k

/-- A row times a matrix. -/
def dot {K N : Nat} (x : Fin K → EReal) (w : Fin K → Fin N → EReal) (n : Fin N) : EReal := ∑ k, x k * w k n

/-- The squared positive part. -/
def relu2 {N : Nat} (x : Fin N → EReal) (n : Fin N) : EReal := max (x n) 0 * max (x n) 0

/-- Back through the normalisation: the row's derivative along `u * g`. -/
def back (x g u : Fin 1024 → EReal) (k : Fin 1024) : EReal :=
  scale x * (u k * g k - x k * scale x * Ideal.div (∑ j, u j * g j * (x j * scale x)) (Ideal.ofBits .f32 0x44800000#32))

/-- The projections of one row, the queries scaled. -/
def qkv (q : Fin 1536 → EReal) (n : Fin 1536) : EReal := if n.val < 512 then q n * Ideal.ofBits .f32 0x3E000000#32 else q n

/-- Row `i` of an array, and the array by rows and columns. -/
abbrev row {R C : Nat} (f : (⟨2, ![R, C]⟩ : Shape).Idx → EReal) (i : Fin R) : Fin C → EReal := fun k => f (ix2 i k)
abbrev mat {R C : Nat} (f : (⟨2, ![R, C]⟩ : Shape).Idx → EReal) : Fin R → Fin C → EReal := fun i k => f (ix2 i k)
abbrev tr {R C : Nat} (f : (⟨2, ![R, C]⟩ : Shape).Idx → EReal) : Fin C → Fin R → EReal := fun k i => f (ix2 i k)

end Cert.Rows

end
-- ==== Proof.SumInClaim.lean ====
/-
What is claimed of a sum of exchanged gradients.
-/
module

public import proofs.«01_k».proof.Defs
public import proofs.«01_k».proof.Proof.Update
public import proofs.«01_k».proof.Proof.Rows
public import proofs.«01_k».proof.Proof.Gen.SumIn
public import proofs.«01_k».proof.Proof.Gen.SumIn.Frame
public import proofs.«01_k».proof.Proof.Gen.SumInIdeal
public import proofs.«01_k».proof.Proof.Gen.SumInIdeal.Frame
public import proofs.«01_k».proof.Proof.Gen.SumInRefIdeal
public import proofs.«01_k».proof.Proof.Gen.SumInRefIdeal.Run
public import Idealize.ShloMosaic.Lib.Pipeline.Value
public import Idealize.ShloMosaic.Lib.Quiescent
public import Idealize.ShloMosaic.Lib.Pointwise

@[expose] public section

noncomputable section

namespace Cert.SumInClaim

open Idealize.ShloMosaic Idealize.ShloMosaic.TcCoe Idealize.SL.Sem
open Idealize.ShloMosaic.Pipeline (Dat)
open Cert.SumInIdeal Cert.SumInIdeal.Gen

variable (m : (ℓ : Loc nD τ sig) → Buf (Elt Ideal) ℓ) (g : Dev nD → PrngReg)

/-- No window's place reads the prefetched word. -/
theorem okm : Ok m := trivial

abbrev me (c : Dev nD) : BitVec 32 := (m ((c : Thread nD τ).loc main_arg0) : S1.Idx → BitVec 32) (ix1 0)
abbrev own (c : Dev nD) : S2048x706.Idx → EReal := m ((c : Thread nD τ).loc main_arg1)
abbrev parts (c : Dev nD) : S4x2048x706.Idx → EReal := m ((c : Thread nD τ).loc main_arg2)

theorem at0 : ∀ t : Fin grid0.N, cc0_transform_0 (grid0.coords t) 0 * S512x706.size 0 = t.val * 512 ∧ cc0_transform_0 (grid0.coords t) 1 * S512x706.size 1 = 0 := by
  decide +kernel

theorem at1 : ∀ t : Fin grid0.N, cc0_transform_1 (grid0.coords t) 0 * S4x512x706.size 0 = 0 ∧ cc0_transform_1 (grid0.coords t) 1 * S4x512x706.size 1 = t.val * 512
    ∧ cc0_transform_1 (grid0.coords t) 2 * S4x512x706.size 2 = 0 := by
  decide +kernel

theorem at2 : ∀ t : Fin grid0.N, cc0_transform_2 (grid0.coords t) 0 * S512x706.size 0 = t.val * 512 ∧ cc0_transform_2 (grid0.coords t) 1 * S512x706.size 1 = 0 := by
  decide +kernel

theorem blk0 (c : Dev nD) (t : Fin grid0.N) (i : Fin 512) (k : Fin 706) (r : Fin 2048) (h : r.val = t.val * 512 + i.val) :
    iblk m (okm m) c 0 t (ix2 i k) = own m c (ix2 r k) := by
  show own m c _ = _
  congr 1
  funext a
  apply Fin.ext
  match a with
  | ⟨0, _⟩ =>
    show cc0_transform_0 (grid0.coords t) 0 * S512x706.size 0 + 1 * i.val = r.val
    rw [(at0 t).1]; omega
  | ⟨1, _⟩ =>
    show cc0_transform_0 (grid0.coords t) 1 * S512x706.size 1 + 1 * k.val = k.val
    rw [(at0 t).2]; omega

theorem blk1 (c : Dev nD) (t : Fin grid0.N) (j : Fin 4) (i : Fin 512) (k : Fin 706) (r : Fin 2048) (h : r.val = t.val * 512 + i.val) :
    iblk m (okm m) c 1 t (ix3 j i k) = parts m c (ix3 j r k) := by
  show parts m c _ = _
  congr 1
  funext a
  apply Fin.ext
  match a with
  | ⟨0, _⟩ =>
    show cc0_transform_1 (grid0.coords t) 0 * S4x512x706.size 0 + 1 * j.val = j.val
    rw [(at1 t).1]; omega
  | ⟨1, _⟩ =>
    show cc0_transform_1 (grid0.coords t) 1 * S4x512x706.size 1 + 1 * i.val = r.val
    rw [(at1 t).2.1]; omega
  | ⟨2, _⟩ =>
    show cc0_transform_1 (grid0.coords t) 2 * S4x512x706.size 2 + 1 * k.val = k.val
    rw [(at1 t).2.2]; omega

/-- Its own part and the other devices' parts, its own slot left out. -/
def G2 (c : Dev nD) : S2048x706.Idx → EReal := fun i =>
  own m c i + ∑ j : Fin 4, if me m c = BitVec.ofNat 32 j.val then 0 else parts m c (ix3 j (i 0) (i 1))

theorem one (x y : S1.Idx) : x = y := by
  funext a
  match a with
  | ⟨0, _⟩ => exact Subsingleton.elim (α := Fin 1) _ _

theorem pick (w : BitVec 32) (j : ℕ) (x : EReal) :
    Scalar.select (IntOp.cmpi CmpIPredicate.ne (BitVec.ofNat 32 j) w) x (Ideal.ofBits .f32 0#32) = if w = BitVec.ofNat 32 j then 0 else x := by
  simp only [eq_comm (a := w)]
  simp [IntOp.cmpi, pointwise]

theorem keep (w v : BitVec 32) (x : EReal) :
    Scalar.select (Scalar.cmpi CmpIPredicate.eq w v) (0 : EReal) x = if w = v then 0 else x := by
  simp [Scalar.cmpi, IntOp.cmpi, pointwise]

theorem pay1 (w : BitVec 32) (x : Vec Ideal S512x706 .f32) (v0 v1 v2 v3 : Vec Ideal S1x512x706 .bf16) (i : Fin 512) (k : Fin 706) (o : EReal) (p : Fin 4 → EReal)
    (hx : x (ix2 i k) = o) (h0 : v0 (ix3 0 i k) = p 0) (h1 : v1 (ix3 0 i k) = p 1) (h2 : v2 (ix3 0 i k) = p 2) (h3 : v3 (ix3 0 i k) = p 3) :
    k0_pay1 (F := Ideal) w x v0 v1 v2 v3 (ix2 i k) = o + ∑ j : Fin 4, if w = BitVec.ofNat 32 j.val then 0 else p j := by
  simp only [k0_pay1, pointwise, Fin.sum_univ_four, hx, h0, h1, h2, h3, keep, add_assoc]
  rfl

theorem ld1 (x : Vec Ideal S4x512x706 .bf16) (j : Fin 4) (h : ∀ a, (![j.val, 0, 0] : Fin 3 → ℕ) a + S1x512x706.size a ≤ S4x512x706.size a) (i : Fin 512) (k : Fin 706) :
    View.ld x (Rect.unit (s := S4x512x706) ![j.val, 0, 0] S1x512x706.size h) (ix3 0 i k) = x (ix3 j i k) := by
  show x _ = _
  congr 1
  funext a
  apply Fin.ext
  match a with
  | ⟨0, _⟩ => show j.val + 1 * 0 = j.val; omega
  | ⟨1, _⟩ => show 0 + 1 * i.val = i.val; omega
  | ⟨2, _⟩ => show 0 + 1 * k.val = k.val; omega

theorem emb2 (t : Fin grid0.N) (i : Fin 512) (k : Fin 706) (ht : t.val * 512 + i.val < 2048) :
    (((cfgM m (okm m)).win 2).blk t).view.emb (ix2 i k) = ix2 ⟨t.val * 512 + i.val, ht⟩ k := by
  funext a
  apply Fin.ext
  match a with
  | ⟨0, _⟩ =>
    show cc0_transform_2 (grid0.coords t) 0 * S512x706.size 0 + 1 * i.val = t.val * 512 + i.val
    rw [(at2 t).1]; omega
  | ⟨1, _⟩ =>
    show cc0_transform_2 (grid0.coords t) 1 * S512x706.size 1 + 1 * k.val = k.val
    rw [(at2 t).2]; omega

theorem out (c : Dev nD) (d : grid0.Coords) (arg2 : Memref sig .tc .vmem S512x706 .f32) (harg2 : arg2.IsWhole) (arg3 : Memref sig .tc .vmem S4x512x706 .bf16) (harg3 : arg3.IsWhole)
    (arg4 : Memref sig .tc .vmem S512x706 .f32) (harg4 : arg4.IsWhole) (x0 : Vec Ideal S512x706 .f32) (x1 : Vec Ideal S4x512x706 .bf16) (xt0 : TbBuf0 (F := Ideal) c tbM0_0)
    (w : BitVec 32) (hw : (xt0 : S1.Idx → BitVec 32) (ix1 0) = w) (i : Fin 512) (k : Fin 706) :
    out0_A_2 c d arg2 harg2 arg3 harg3 arg4 harg4 x0 x1 xt0 (ix2 i k) = x0 (ix2 i k) + ∑ j : Fin 4, if w = BitVec.ofNat 32 j.val then 0 else x1 (ix3 j i k) := by
  unfold out0_A_2
  rw [View.read_writes_eq_canon _ _ _ (fun y => cover0_A_2 (y := y) ..)]
  unfold kernelRun0_A; dsimp only; try sl_unfold_words
  rw [View.canon_unit_zero Update.hz]
  simp only [View.readAt_eq_ld, harg2.read_unread, harg3.read_unread]
  try rw [View.ld_unit_zero Update.hz]
  exact (pay1 _ _ _ _ _ _ i k _ (fun j => x1 (ix3 j i k)) (congrFun (View.ld_unit_zero (S := S512x706) Update.hz _ x0) _) (ld1 x1 0 _ i k) (ld1 x1 1 _ i k) (ld1 x1 2 _ i k) (ld1 x1 3 _ i k)).trans
    (congrArg _ (Finset.sum_congr rfl fun j _ => if_congr (iff_of_eq (congrArg (· = _) ((congrArg (xt0 : S1.Idx → BitVec 32) (one _ _)).trans hw))) rfl rfl))

theorem outs (c : Dev nD) (t : Fin grid0.N) (i : Fin 512) (k : Fin 706) (ht : t.val * 512 + i.val < 2048) :
    outsAt0 m (okm m) c t (ix2 i k) = G2 m c (ix2 ⟨t.val * 512 + i.val, ht⟩ k) := by
  obtain rfl : c = 0 := Subsingleton.elim _ _
  refine (out (w := me m 0) (hw := rfl) ..).trans ?_
  have h0 := blk0 m 0 t i k ⟨_, ht⟩ rfl
  have h1 := fun j => blk1 m 0 t j i k ⟨_, ht⟩ rfl
  exact congrArg₂ _ h0 (Finset.sum_congr rfl fun j _ => if_congr Iff.rfl rfl (h1 j))

theorem flushed2 (c : Dev nD) (t : Fin grid0.N) :
    (dats m (okm m) 0 c).flushed 2 t = (((cfgM m (okm m)).win 2).blk t).view.read (Elt Ideal) (G2 m c) := by
  show ((cfgM m (okm m)).win 2).cut (grid0.coords t) ((dats m (okm m) 0 c).after 2 t) = _
  rw [after0_2]
  suffices h : ∀ y : S512x706.Idx, outsAt0 m (okm m) c t y = G2 m c ((((cfgM m (okm m)).win 2).blk t).view.emb y) from funext h
  intro y
  obtain ⟨i, k, rfl⟩ : ∃ (i : Fin 512) (k : Fin 706), y = ix2 i k := ⟨y 0, y 1, eq_ix2 y⟩
  have ht : t.val * 512 + i.val < 2048 := by
    have := t.isLt; have hN : grid0.N = 4 := N_0; have := i.isLt; omega
  rw [emb2 m t i k ht]
  exact outs m c t i k ht

theorem mem_blk2 (t : Fin grid0.N) (i : S2048x706.Idx) :
    i ∈ (((cfgM m (okm m)).win 2).blk t).view.set ↔ t.val * 512 ≤ (i 0 : Nat) ∧ (i 0 : Nat) < t.val * 512 + 512 := by
  show i ∈ ((View.whole main_v0).slice (Rect.block (s := S2048x706) S512x706.size (cc0_transform_2 (grid0.coords t)) (Facts₀.hinb0_2 (grid0.coords t)))).set ↔ _
  rw [View.set_slice_whole, Rect.mem_set_unit]
  have h1 : (i 1 : Nat) < 706 := (i 1).isLt
  have e := at2 t
  refine ⟨fun h => ?_, fun h a => ?_⟩
  · have : cc0_transform_2 (grid0.coords t) 0 * S512x706.size 0 ≤ (i 0 : Nat) ∧ (i 0 : Nat) < cc0_transform_2 (grid0.coords t) 0 * S512x706.size 0 + 512 := h 0
    rw [e.1] at this; exact this
  · match a with
    | ⟨0, _⟩ => show cc0_transform_2 (grid0.coords t) 0 * S512x706.size 0 ≤ (i 0 : Nat) ∧ (i 0 : Nat) < cc0_transform_2 (grid0.coords t) 0 * S512x706.size 0 + 512
                rw [e.1]; exact h
    | ⟨1, _⟩ => show cc0_transform_2 (grid0.coords t) 1 * S512x706.size 1 ≤ (i 1 : Nat) ∧ (i 1 : Nat) < cc0_transform_2 (grid0.coords t) 1 * S512x706.size 1 + 706
                rw [e.2]; omega

theorem cover2 (i : S2048x706.Idx) :
    ∃ t : Fin (cfgM m (okm m)).N, ((cfgM m (okm m)).win 2).flush t = true ∧ i ∈ (((cfgM m (okm m)).win 2).blk t).view.set := by
  have h0 : (i 0 : Nat) < 2048 := (i 0).isLt
  have hN : grid0.N = 4 := N_0
  have ht : (i 0 : Nat) / 512 < grid0.N := by omega
  refine ⟨⟨(i 0 : Nat) / 512, ht⟩, flush0_2 _ _, ?_⟩
  refine (mem_blk2 m ⟨(i 0 : Nat) / 512, ht⟩ i).2 ?_
  dsimp only
  omega

theorem final2 (c : Dev nD) : (dats m (okm m) 0 c).arrAt 2 (cfgM m (okm m)).N = G2 m c :=
  (dats m (okm m) 0 c).arrAt_eq_of_cover 2 (G2 m c) (fun t _ => flushed2 m c t) (cover2 m)

theorem run : θ_run defs (onTc (τ := τ) (main (F := Ideal))) ⟨m, fun _ => 0, g⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final2 m c), h.2 c⟩)
    (θ_run_and (run_main m g (okm m)) (unchanged m g (okm m)))

theorem frame_ideal : Cert.quiescent_SumInIdeal := fun m g _ => Gen.frame m g (okm m)

theorem frame : Cert.quiescent_SumIn := fun m g _ => Cert.SumIn.Gen.frame m g trivial

theorem frame_ref : Cert.quiescent_SumInRefIdeal := fun m g _ =>
  (θ_run Cert.SumInRefIdeal.defs _ _).mono
    (fun r h => ⟨fun c => (h c).2, sem_eq_zero_of_no_sems (by decide) r.2⟩) (Cert.SumInRefIdeal.Value.run m g)

theorem algebraic : Cert.algebraic_SumInIdeal_SumInRefIdeal := by
  intro m g m' g' _ hm
  refine ⟨fun c => G2 m c, run m g,
    (θ_run Cert.SumInRefIdeal.defs _ _).mono (fun r h c => ?_) (Cert.SumInRefIdeal.Value.run m' g')⟩
  obtain ⟨h2, hk⟩ := h c
  obtain ⟨a0, a1, a2⟩ := hm c
  refine ⟨h2.trans ?_, hk⟩
  rw [a0, a1, a2]
  clear hm h hk h2
  funext i
  obtain ⟨r, k, rfl⟩ : ∃ r k, i = ix2 r k := ⟨i 0, i 1, eq_ix2 i⟩
  show _ = G2 m c (ix2 r k)
  simp only [G2, pointwise, zero_add]
  refine congrArg _ (Finset.sum_congr rfl fun j _ => ?_)
  show Scalar.select (IntOp.cmpi CmpIPredicate.ne (BitVec.ofNat 32 j.val) (me m c)) (parts m c (ix3 j r k)) (Ideal.ofBits .f32 0#32) = _
  exact pick _ _ _

end Cert.SumInClaim

end
-- ==== Proof.SumOutClaim.lean ====
/-
What is claimed of a sum of exchanged gradients.
-/
module

public import proofs.«01_k».proof.Defs
public import proofs.«01_k».proof.Proof.Update
public import proofs.«01_k».proof.Proof.Rows
public import proofs.«01_k».proof.Proof.Gen.SumOut
public import proofs.«01_k».proof.Proof.Gen.SumOut.Frame
public import proofs.«01_k».proof.Proof.Gen.SumOutIdeal
public import proofs.«01_k».proof.Proof.Gen.SumOutIdeal.Frame
public import proofs.«01_k».proof.Proof.Gen.SumOutRefIdeal
public import proofs.«01_k».proof.Proof.Gen.SumOutRefIdeal.Run
public import Idealize.ShloMosaic.Lib.Pipeline.Value
public import Idealize.ShloMosaic.Lib.Quiescent
public import Idealize.ShloMosaic.Lib.Pointwise

@[expose] public section

noncomputable section

namespace Cert.SumOutClaim

open Idealize.ShloMosaic Idealize.ShloMosaic.TcCoe Idealize.SL.Sem
open Idealize.ShloMosaic.Pipeline (Dat)
open Cert.SumOutIdeal Cert.SumOutIdeal.Gen

variable (m : (ℓ : Loc nD τ sig) → Buf (Elt Ideal) ℓ) (g : Dev nD → PrngReg)

/-- No window's place reads the prefetched word. -/
theorem okm : Ok m := trivial

abbrev me (c : Dev nD) : BitVec 32 := (m ((c : Thread nD τ).loc main_arg0) : S1.Idx → BitVec 32) (ix1 0)
abbrev own (c : Dev nD) : S512x1024.Idx → EReal := m ((c : Thread nD τ).loc main_arg1)
abbrev parts (c : Dev nD) : S4x512x1024.Idx → EReal := m ((c : Thread nD τ).loc main_arg2)

theorem at0 : ∀ t : Fin grid0.N, cc0_transform_0 (grid0.coords t) 0 * S512x1024.size 0 = t.val * 512 ∧ cc0_transform_0 (grid0.coords t) 1 * S512x1024.size 1 = 0 := by
  decide +kernel

theorem at1 : ∀ t : Fin grid0.N, cc0_transform_1 (grid0.coords t) 0 * S4x512x1024.size 0 = 0 ∧ cc0_transform_1 (grid0.coords t) 1 * S4x512x1024.size 1 = t.val * 512
    ∧ cc0_transform_1 (grid0.coords t) 2 * S4x512x1024.size 2 = 0 := by
  decide +kernel

theorem at2 : ∀ t : Fin grid0.N, cc0_transform_2 (grid0.coords t) 0 * S512x1024.size 0 = t.val * 512 ∧ cc0_transform_2 (grid0.coords t) 1 * S512x1024.size 1 = 0 := by
  decide +kernel

theorem blk0 (c : Dev nD) (t : Fin grid0.N) (i : Fin 512) (k : Fin 1024) (r : Fin 512) (h : r.val = t.val * 512 + i.val) :
    iblk m (okm m) c 0 t (ix2 i k) = own m c (ix2 r k) := by
  show own m c _ = _
  congr 1
  funext a
  apply Fin.ext
  match a with
  | ⟨0, _⟩ =>
    show cc0_transform_0 (grid0.coords t) 0 * S512x1024.size 0 + 1 * i.val = r.val
    rw [(at0 t).1]; omega
  | ⟨1, _⟩ =>
    show cc0_transform_0 (grid0.coords t) 1 * S512x1024.size 1 + 1 * k.val = k.val
    rw [(at0 t).2]; omega

theorem blk1 (c : Dev nD) (t : Fin grid0.N) (j : Fin 4) (i : Fin 512) (k : Fin 1024) (r : Fin 512) (h : r.val = t.val * 512 + i.val) :
    iblk m (okm m) c 1 t (ix3 j i k) = parts m c (ix3 j r k) := by
  show parts m c _ = _
  congr 1
  funext a
  apply Fin.ext
  match a with
  | ⟨0, _⟩ =>
    show cc0_transform_1 (grid0.coords t) 0 * S4x512x1024.size 0 + 1 * j.val = j.val
    rw [(at1 t).1]; omega
  | ⟨1, _⟩ =>
    show cc0_transform_1 (grid0.coords t) 1 * S4x512x1024.size 1 + 1 * i.val = r.val
    rw [(at1 t).2.1]; omega
  | ⟨2, _⟩ =>
    show cc0_transform_1 (grid0.coords t) 2 * S4x512x1024.size 2 + 1 * k.val = k.val
    rw [(at1 t).2.2]; omega

/-- Its own part and the other devices' parts, its own slot left out. -/
def G2 (c : Dev nD) : S512x1024.Idx → EReal := fun i =>
  own m c i + ∑ j : Fin 4, if me m c = BitVec.ofNat 32 j.val then 0 else parts m c (ix3 j (i 0) (i 1))

theorem one (x y : S1.Idx) : x = y := by
  funext a
  match a with
  | ⟨0, _⟩ => exact Subsingleton.elim (α := Fin 1) _ _

theorem pick (w : BitVec 32) (j : ℕ) (x : EReal) :
    Scalar.select (IntOp.cmpi CmpIPredicate.ne (BitVec.ofNat 32 j) w) x (Ideal.ofBits .f32 0#32) = if w = BitVec.ofNat 32 j then 0 else x := by
  simp only [eq_comm (a := w)]
  simp [IntOp.cmpi, pointwise]

theorem keep (w v : BitVec 32) (x : EReal) :
    Scalar.select (Scalar.cmpi CmpIPredicate.eq w v) (0 : EReal) x = if w = v then 0 else x := by
  simp [Scalar.cmpi, IntOp.cmpi, pointwise]

theorem pay1 (w : BitVec 32) (x : Vec Ideal S512x1024 .f32) (v0 v1 v2 v3 : Vec Ideal S1x512x1024 .bf16) (i : Fin 512) (k : Fin 1024) (o : EReal) (p : Fin 4 → EReal)
    (hx : x (ix2 i k) = o) (h0 : v0 (ix3 0 i k) = p 0) (h1 : v1 (ix3 0 i k) = p 1) (h2 : v2 (ix3 0 i k) = p 2) (h3 : v3 (ix3 0 i k) = p 3) :
    k0_pay1 (F := Ideal) w x v0 v1 v2 v3 (ix2 i k) = o + ∑ j : Fin 4, if w = BitVec.ofNat 32 j.val then 0 else p j := by
  simp only [k0_pay1, pointwise, Fin.sum_univ_four, hx, h0, h1, h2, h3, keep, add_assoc]
  rfl

theorem ld1 (x : Vec Ideal S4x512x1024 .bf16) (j : Fin 4) (h : ∀ a, (![j.val, 0, 0] : Fin 3 → ℕ) a + S1x512x1024.size a ≤ S4x512x1024.size a) (i : Fin 512) (k : Fin 1024) :
    View.ld x (Rect.unit (s := S4x512x1024) ![j.val, 0, 0] S1x512x1024.size h) (ix3 0 i k) = x (ix3 j i k) := by
  show x _ = _
  congr 1
  funext a
  apply Fin.ext
  match a with
  | ⟨0, _⟩ => show j.val + 1 * 0 = j.val; omega
  | ⟨1, _⟩ => show 0 + 1 * i.val = i.val; omega
  | ⟨2, _⟩ => show 0 + 1 * k.val = k.val; omega

theorem emb2 (t : Fin grid0.N) (i : Fin 512) (k : Fin 1024) (ht : t.val * 512 + i.val < 512) :
    (((cfgM m (okm m)).win 2).blk t).view.emb (ix2 i k) = ix2 ⟨t.val * 512 + i.val, ht⟩ k := by
  funext a
  apply Fin.ext
  match a with
  | ⟨0, _⟩ =>
    show cc0_transform_2 (grid0.coords t) 0 * S512x1024.size 0 + 1 * i.val = t.val * 512 + i.val
    rw [(at2 t).1]; omega
  | ⟨1, _⟩ =>
    show cc0_transform_2 (grid0.coords t) 1 * S512x1024.size 1 + 1 * k.val = k.val
    rw [(at2 t).2]; omega

theorem out (c : Dev nD) (d : grid0.Coords) (arg2 : Memref sig .tc .vmem S512x1024 .f32) (harg2 : arg2.IsWhole) (arg3 : Memref sig .tc .vmem S4x512x1024 .bf16) (harg3 : arg3.IsWhole)
    (arg4 : Memref sig .tc .vmem S512x1024 .f32) (harg4 : arg4.IsWhole) (x0 : Vec Ideal S512x1024 .f32) (x1 : Vec Ideal S4x512x1024 .bf16) (xt0 : TbBuf0 (F := Ideal) c tbM0_0)
    (w : BitVec 32) (hw : (xt0 : S1.Idx → BitVec 32) (ix1 0) = w) (i : Fin 512) (k : Fin 1024) :
    out0_A_2 c d arg2 harg2 arg3 harg3 arg4 harg4 x0 x1 xt0 (ix2 i k) = x0 (ix2 i k) + ∑ j : Fin 4, if w = BitVec.ofNat 32 j.val then 0 else x1 (ix3 j i k) := by
  unfold out0_A_2
  rw [View.read_writes_eq_canon _ _ _ (fun y => cover0_A_2 (y := y) ..)]
  unfold kernelRun0_A; dsimp only; try sl_unfold_words
  rw [View.canon_unit_zero Update.hz]
  simp only [View.readAt_eq_ld, harg2.read_unread, harg3.read_unread]
  try rw [View.ld_unit_zero Update.hz]
  exact (pay1 _ _ _ _ _ _ i k _ (fun j => x1 (ix3 j i k)) (congrFun (View.ld_unit_zero (S := S512x1024) Update.hz _ x0) _) (ld1 x1 0 _ i k) (ld1 x1 1 _ i k) (ld1 x1 2 _ i k) (ld1 x1 3 _ i k)).trans
    (congrArg _ (Finset.sum_congr rfl fun j _ => if_congr (iff_of_eq (congrArg (· = _) ((congrArg (xt0 : S1.Idx → BitVec 32) (one _ _)).trans hw))) rfl rfl))

theorem outs (c : Dev nD) (t : Fin grid0.N) (i : Fin 512) (k : Fin 1024) (ht : t.val * 512 + i.val < 512) :
    outsAt0 m (okm m) c t (ix2 i k) = G2 m c (ix2 ⟨t.val * 512 + i.val, ht⟩ k) := by
  obtain rfl : c = 0 := Subsingleton.elim _ _
  refine (out (w := me m 0) (hw := rfl) ..).trans ?_
  have h0 := blk0 m 0 t i k ⟨_, ht⟩ rfl
  have h1 := fun j => blk1 m 0 t j i k ⟨_, ht⟩ rfl
  exact congrArg₂ _ h0 (Finset.sum_congr rfl fun j _ => if_congr Iff.rfl rfl (h1 j))

theorem flushed2 (c : Dev nD) (t : Fin grid0.N) :
    (dats m (okm m) 0 c).flushed 2 t = (((cfgM m (okm m)).win 2).blk t).view.read (Elt Ideal) (G2 m c) := by
  show ((cfgM m (okm m)).win 2).cut (grid0.coords t) ((dats m (okm m) 0 c).after 2 t) = _
  rw [after0_2]
  suffices h : ∀ y : S512x1024.Idx, outsAt0 m (okm m) c t y = G2 m c ((((cfgM m (okm m)).win 2).blk t).view.emb y) from funext h
  intro y
  obtain ⟨i, k, rfl⟩ : ∃ (i : Fin 512) (k : Fin 1024), y = ix2 i k := ⟨y 0, y 1, eq_ix2 y⟩
  have ht : t.val * 512 + i.val < 512 := by
    have := t.isLt; have hN : grid0.N = 1 := N_0; have := i.isLt; omega
  rw [emb2 m t i k ht]
  exact outs m c t i k ht

theorem mem_blk2 (t : Fin grid0.N) (i : S512x1024.Idx) :
    i ∈ (((cfgM m (okm m)).win 2).blk t).view.set ↔ t.val * 512 ≤ (i 0 : Nat) ∧ (i 0 : Nat) < t.val * 512 + 512 := by
  show i ∈ ((View.whole main_v0).slice (Rect.block (s := S512x1024) S512x1024.size (cc0_transform_2 (grid0.coords t)) (Facts₀.hinb0_2 (grid0.coords t)))).set ↔ _
  rw [View.set_slice_whole, Rect.mem_set_unit]
  have h1 : (i 1 : Nat) < 1024 := (i 1).isLt
  have e := at2 t
  refine ⟨fun h => ?_, fun h a => ?_⟩
  · have : cc0_transform_2 (grid0.coords t) 0 * S512x1024.size 0 ≤ (i 0 : Nat) ∧ (i 0 : Nat) < cc0_transform_2 (grid0.coords t) 0 * S512x1024.size 0 + 512 := h 0
    rw [e.1] at this; exact this
  · match a with
    | ⟨0, _⟩ => show cc0_transform_2 (grid0.coords t) 0 * S512x1024.size 0 ≤ (i 0 : Nat) ∧ (i 0 : Nat) < cc0_transform_2 (grid0.coords t) 0 * S512x1024.size 0 + 512
                rw [e.1]; exact h
    | ⟨1, _⟩ => show cc0_transform_2 (grid0.coords t) 1 * S512x1024.size 1 ≤ (i 1 : Nat) ∧ (i 1 : Nat) < cc0_transform_2 (grid0.coords t) 1 * S512x1024.size 1 + 1024
                rw [e.2]; omega

theorem cover2 (i : S512x1024.Idx) :
    ∃ t : Fin (cfgM m (okm m)).N, ((cfgM m (okm m)).win 2).flush t = true ∧ i ∈ (((cfgM m (okm m)).win 2).blk t).view.set := by
  have h0 : (i 0 : Nat) < 512 := (i 0).isLt
  have hN : grid0.N = 1 := N_0
  have ht : (i 0 : Nat) / 512 < grid0.N := by omega
  refine ⟨⟨(i 0 : Nat) / 512, ht⟩, flush0_2 _ _, ?_⟩
  refine (mem_blk2 m ⟨(i 0 : Nat) / 512, ht⟩ i).2 ?_
  dsimp only
  omega

theorem final2 (c : Dev nD) : (dats m (okm m) 0 c).arrAt 2 (cfgM m (okm m)).N = G2 m c :=
  (dats m (okm m) 0 c).arrAt_eq_of_cover 2 (G2 m c) (fun t _ => flushed2 m c t) (cover2 m)

theorem run : θ_run defs (onTc (τ := τ) (main (F := Ideal))) ⟨m, fun _ => 0, g⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final2 m c), h.2 c⟩)
    (θ_run_and (run_main m g (okm m)) (unchanged m g (okm m)))

theorem frame_ideal : Cert.quiescent_SumOutIdeal := fun m g _ => Gen.frame m g (okm m)

theorem frame : Cert.quiescent_SumOut := fun m g _ => Cert.SumOut.Gen.frame m g trivial

theorem frame_ref : Cert.quiescent_SumOutRefIdeal := fun m g _ =>
  (θ_run Cert.SumOutRefIdeal.defs _ _).mono
    (fun r h => ⟨fun c => (h c).2, sem_eq_zero_of_no_sems (by decide) r.2⟩) (Cert.SumOutRefIdeal.Value.run m g)

theorem algebraic : Cert.algebraic_SumOutIdeal_SumOutRefIdeal := by
  intro m g m' g' _ hm
  refine ⟨fun c => G2 m c, run m g,
    (θ_run Cert.SumOutRefIdeal.defs _ _).mono (fun r h c => ?_) (Cert.SumOutRefIdeal.Value.run m' g')⟩
  obtain ⟨h2, hk⟩ := h c
  obtain ⟨a0, a1, a2⟩ := hm c
  refine ⟨h2.trans ?_, hk⟩
  rw [a0, a1, a2]
  clear hm h hk h2
  funext i
  obtain ⟨r, k, rfl⟩ : ∃ r k, i = ix2 r k := ⟨i 0, i 1, eq_ix2 i⟩
  show _ = G2 m c (ix2 r k)
  simp only [G2, pointwise, zero_add]
  refine congrArg _ (Finset.sum_congr rfl fun j _ => ?_)
  show Scalar.select (IntOp.cmpi CmpIPredicate.ne (BitVec.ofNat 32 j.val) (me m c)) (parts m c (ix3 j r k)) (Ideal.ofBits .f32 0#32) = _
  exact pick _ _ _

end Cert.SumOutClaim

end
-- ==== Proof.SumMlpClaim.lean ====
/-
What is claimed of a sum of exchanged gradients.
-/
module

public import proofs.«01_k».proof.Defs
public import proofs.«01_k».proof.Proof.Update
public import proofs.«01_k».proof.Proof.Rows
public import proofs.«01_k».proof.Proof.Gen.SumMlp
public import proofs.«01_k».proof.Proof.Gen.SumMlp.Frame
public import proofs.«01_k».proof.Proof.Gen.SumMlpIdeal
public import proofs.«01_k».proof.Proof.Gen.SumMlpIdeal.Frame
public import proofs.«01_k».proof.Proof.Gen.SumMlpRefIdeal
public import proofs.«01_k».proof.Proof.Gen.SumMlpRefIdeal.Run
public import Idealize.ShloMosaic.Lib.Pipeline.Value
public import Idealize.ShloMosaic.Lib.Quiescent
public import Idealize.ShloMosaic.Lib.Pointwise

@[expose] public section

noncomputable section

namespace Cert.SumMlpClaim

open Idealize.ShloMosaic Idealize.ShloMosaic.TcCoe Idealize.SL.Sem
open Idealize.ShloMosaic.Pipeline (Dat)
open Cert.SumMlpIdeal Cert.SumMlpIdeal.Gen

variable (m : (ℓ : Loc nD τ sig) → Buf (Elt Ideal) ℓ) (g : Dev nD → PrngReg)

/-- No window's place reads the prefetched word. -/
theorem okm : Ok m := trivial

abbrev me (c : Dev nD) : BitVec 32 := (m ((c : Thread nD τ).loc main_arg0) : S1.Idx → BitVec 32) (ix1 0)
abbrev own (c : Dev nD) : S2048x1024.Idx → EReal := m ((c : Thread nD τ).loc main_arg1)
abbrev parts (c : Dev nD) : S4x2048x1024.Idx → EReal := m ((c : Thread nD τ).loc main_arg2)

theorem at0 : ∀ t : Fin grid0.N, cc0_transform_0 (grid0.coords t) 0 * S512x1024.size 0 = t.val * 512 ∧ cc0_transform_0 (grid0.coords t) 1 * S512x1024.size 1 = 0 := by
  decide +kernel

theorem at1 : ∀ t : Fin grid0.N, cc0_transform_1 (grid0.coords t) 0 * S4x512x1024.size 0 = 0 ∧ cc0_transform_1 (grid0.coords t) 1 * S4x512x1024.size 1 = t.val * 512
    ∧ cc0_transform_1 (grid0.coords t) 2 * S4x512x1024.size 2 = 0 := by
  decide +kernel

theorem at2 : ∀ t : Fin grid0.N, cc0_transform_2 (grid0.coords t) 0 * S512x1024.size 0 = t.val * 512 ∧ cc0_transform_2 (grid0.coords t) 1 * S512x1024.size 1 = 0 := by
  decide +kernel

theorem blk0 (c : Dev nD) (t : Fin grid0.N) (i : Fin 512) (k : Fin 1024) (r : Fin 2048) (h : r.val = t.val * 512 + i.val) :
    iblk m (okm m) c 0 t (ix2 i k) = own m c (ix2 r k) := by
  show own m c _ = _
  congr 1
  funext a
  apply Fin.ext
  match a with
  | ⟨0, _⟩ =>
    show cc0_transform_0 (grid0.coords t) 0 * S512x1024.size 0 + 1 * i.val = r.val
    rw [(at0 t).1]; omega
  | ⟨1, _⟩ =>
    show cc0_transform_0 (grid0.coords t) 1 * S512x1024.size 1 + 1 * k.val = k.val
    rw [(at0 t).2]; omega

theorem blk1 (c : Dev nD) (t : Fin grid0.N) (j : Fin 4) (i : Fin 512) (k : Fin 1024) (r : Fin 2048) (h : r.val = t.val * 512 + i.val) :
    iblk m (okm m) c 1 t (ix3 j i k) = parts m c (ix3 j r k) := by
  show parts m c _ = _
  congr 1
  funext a
  apply Fin.ext
  match a with
  | ⟨0, _⟩ =>
    show cc0_transform_1 (grid0.coords t) 0 * S4x512x1024.size 0 + 1 * j.val = j.val
    rw [(at1 t).1]; omega
  | ⟨1, _⟩ =>
    show cc0_transform_1 (grid0.coords t) 1 * S4x512x1024.size 1 + 1 * i.val = r.val
    rw [(at1 t).2.1]; omega
  | ⟨2, _⟩ =>
    show cc0_transform_1 (grid0.coords t) 2 * S4x512x1024.size 2 + 1 * k.val = k.val
    rw [(at1 t).2.2]; omega

/-- Its own part and the other devices' parts, its own slot left out. -/
def G2 (c : Dev nD) : S2048x1024.Idx → EReal := fun i =>
  own m c i + ∑ j : Fin 4, if me m c = BitVec.ofNat 32 j.val then 0 else parts m c (ix3 j (i 0) (i 1))

theorem one (x y : S1.Idx) : x = y := by
  funext a
  match a with
  | ⟨0, _⟩ => exact Subsingleton.elim (α := Fin 1) _ _

theorem pick (w : BitVec 32) (j : ℕ) (x : EReal) :
    Scalar.select (IntOp.cmpi CmpIPredicate.ne (BitVec.ofNat 32 j) w) x (Ideal.ofBits .f32 0#32) = if w = BitVec.ofNat 32 j then 0 else x := by
  simp only [eq_comm (a := w)]
  simp [IntOp.cmpi, pointwise]

theorem keep (w v : BitVec 32) (x : EReal) :
    Scalar.select (Scalar.cmpi CmpIPredicate.eq w v) (0 : EReal) x = if w = v then 0 else x := by
  simp [Scalar.cmpi, IntOp.cmpi, pointwise]

theorem pay1 (w : BitVec 32) (x : Vec Ideal S512x1024 .f32) (v0 v1 v2 v3 : Vec Ideal S1x512x1024 .bf16) (i : Fin 512) (k : Fin 1024) (o : EReal) (p : Fin 4 → EReal)
    (hx : x (ix2 i k) = o) (h0 : v0 (ix3 0 i k) = p 0) (h1 : v1 (ix3 0 i k) = p 1) (h2 : v2 (ix3 0 i k) = p 2) (h3 : v3 (ix3 0 i k) = p 3) :
    k0_pay1 (F := Ideal) w x v0 v1 v2 v3 (ix2 i k) = o + ∑ j : Fin 4, if w = BitVec.ofNat 32 j.val then 0 else p j := by
  simp only [k0_pay1, pointwise, Fin.sum_univ_four, hx, h0, h1, h2, h3, keep, add_assoc]
  rfl

theorem ld1 (x : Vec Ideal S4x512x1024 .bf16) (j : Fin 4) (h : ∀ a, (![j.val, 0, 0] : Fin 3 → ℕ) a + S1x512x1024.size a ≤ S4x512x1024.size a) (i : Fin 512) (k : Fin 1024) :
    View.ld x (Rect.unit (s := S4x512x1024) ![j.val, 0, 0] S1x512x1024.size h) (ix3 0 i k) = x (ix3 j i k) := by
  show x _ = _
  congr 1
  funext a
  apply Fin.ext
  match a with
  | ⟨0, _⟩ => show j.val + 1 * 0 = j.val; omega
  | ⟨1, _⟩ => show 0 + 1 * i.val = i.val; omega
  | ⟨2, _⟩ => show 0 + 1 * k.val = k.val; omega

theorem emb2 (t : Fin grid0.N) (i : Fin 512) (k : Fin 1024) (ht : t.val * 512 + i.val < 2048) :
    (((cfgM m (okm m)).win 2).blk t).view.emb (ix2 i k) = ix2 ⟨t.val * 512 + i.val, ht⟩ k := by
  funext a
  apply Fin.ext
  match a with
  | ⟨0, _⟩ =>
    show cc0_transform_2 (grid0.coords t) 0 * S512x1024.size 0 + 1 * i.val = t.val * 512 + i.val
    rw [(at2 t).1]; omega
  | ⟨1, _⟩ =>
    show cc0_transform_2 (grid0.coords t) 1 * S512x1024.size 1 + 1 * k.val = k.val
    rw [(at2 t).2]; omega

theorem out (c : Dev nD) (d : grid0.Coords) (arg2 : Memref sig .tc .vmem S512x1024 .f32) (harg2 : arg2.IsWhole) (arg3 : Memref sig .tc .vmem S4x512x1024 .bf16) (harg3 : arg3.IsWhole)
    (arg4 : Memref sig .tc .vmem S512x1024 .f32) (harg4 : arg4.IsWhole) (x0 : Vec Ideal S512x1024 .f32) (x1 : Vec Ideal S4x512x1024 .bf16) (xt0 : TbBuf0 (F := Ideal) c tbM0_0)
    (w : BitVec 32) (hw : (xt0 : S1.Idx → BitVec 32) (ix1 0) = w) (i : Fin 512) (k : Fin 1024) :
    out0_A_2 c d arg2 harg2 arg3 harg3 arg4 harg4 x0 x1 xt0 (ix2 i k) = x0 (ix2 i k) + ∑ j : Fin 4, if w = BitVec.ofNat 32 j.val then 0 else x1 (ix3 j i k) := by
  unfold out0_A_2
  rw [View.read_writes_eq_canon _ _ _ (fun y => cover0_A_2 (y := y) ..)]
  unfold kernelRun0_A; dsimp only; try sl_unfold_words
  rw [View.canon_unit_zero Update.hz]
  simp only [View.readAt_eq_ld, harg2.read_unread, harg3.read_unread]
  try rw [View.ld_unit_zero Update.hz]
  exact (pay1 _ _ _ _ _ _ i k _ (fun j => x1 (ix3 j i k)) (congrFun (View.ld_unit_zero (S := S512x1024) Update.hz _ x0) _) (ld1 x1 0 _ i k) (ld1 x1 1 _ i k) (ld1 x1 2 _ i k) (ld1 x1 3 _ i k)).trans
    (congrArg _ (Finset.sum_congr rfl fun j _ => if_congr (iff_of_eq (congrArg (· = _) ((congrArg (xt0 : S1.Idx → BitVec 32) (one _ _)).trans hw))) rfl rfl))

theorem outs (c : Dev nD) (t : Fin grid0.N) (i : Fin 512) (k : Fin 1024) (ht : t.val * 512 + i.val < 2048) :
    outsAt0 m (okm m) c t (ix2 i k) = G2 m c (ix2 ⟨t.val * 512 + i.val, ht⟩ k) := by
  obtain rfl : c = 0 := Subsingleton.elim _ _
  refine (out (w := me m 0) (hw := rfl) ..).trans ?_
  have h0 := blk0 m 0 t i k ⟨_, ht⟩ rfl
  have h1 := fun j => blk1 m 0 t j i k ⟨_, ht⟩ rfl
  exact congrArg₂ _ h0 (Finset.sum_congr rfl fun j _ => if_congr Iff.rfl rfl (h1 j))

theorem flushed2 (c : Dev nD) (t : Fin grid0.N) :
    (dats m (okm m) 0 c).flushed 2 t = (((cfgM m (okm m)).win 2).blk t).view.read (Elt Ideal) (G2 m c) := by
  show ((cfgM m (okm m)).win 2).cut (grid0.coords t) ((dats m (okm m) 0 c).after 2 t) = _
  rw [after0_2]
  suffices h : ∀ y : S512x1024.Idx, outsAt0 m (okm m) c t y = G2 m c ((((cfgM m (okm m)).win 2).blk t).view.emb y) from funext h
  intro y
  obtain ⟨i, k, rfl⟩ : ∃ (i : Fin 512) (k : Fin 1024), y = ix2 i k := ⟨y 0, y 1, eq_ix2 y⟩
  have ht : t.val * 512 + i.val < 2048 := by
    have := t.isLt; have hN : grid0.N = 4 := N_0; have := i.isLt; omega
  rw [emb2 m t i k ht]
  exact outs m c t i k ht

theorem mem_blk2 (t : Fin grid0.N) (i : S2048x1024.Idx) :
    i ∈ (((cfgM m (okm m)).win 2).blk t).view.set ↔ t.val * 512 ≤ (i 0 : Nat) ∧ (i 0 : Nat) < t.val * 512 + 512 := by
  show i ∈ ((View.whole main_v0).slice (Rect.block (s := S2048x1024) S512x1024.size (cc0_transform_2 (grid0.coords t)) (Facts₀.hinb0_2 (grid0.coords t)))).set ↔ _
  rw [View.set_slice_whole, Rect.mem_set_unit]
  have h1 : (i 1 : Nat) < 1024 := (i 1).isLt
  have e := at2 t
  refine ⟨fun h => ?_, fun h a => ?_⟩
  · have : cc0_transform_2 (grid0.coords t) 0 * S512x1024.size 0 ≤ (i 0 : Nat) ∧ (i 0 : Nat) < cc0_transform_2 (grid0.coords t) 0 * S512x1024.size 0 + 512 := h 0
    rw [e.1] at this; exact this
  · match a with
    | ⟨0, _⟩ => show cc0_transform_2 (grid0.coords t) 0 * S512x1024.size 0 ≤ (i 0 : Nat) ∧ (i 0 : Nat) < cc0_transform_2 (grid0.coords t) 0 * S512x1024.size 0 + 512
                rw [e.1]; exact h
    | ⟨1, _⟩ => show cc0_transform_2 (grid0.coords t) 1 * S512x1024.size 1 ≤ (i 1 : Nat) ∧ (i 1 : Nat) < cc0_transform_2 (grid0.coords t) 1 * S512x1024.size 1 + 1024
                rw [e.2]; omega

theorem cover2 (i : S2048x1024.Idx) :
    ∃ t : Fin (cfgM m (okm m)).N, ((cfgM m (okm m)).win 2).flush t = true ∧ i ∈ (((cfgM m (okm m)).win 2).blk t).view.set := by
  have h0 : (i 0 : Nat) < 2048 := (i 0).isLt
  have hN : grid0.N = 4 := N_0
  have ht : (i 0 : Nat) / 512 < grid0.N := by omega
  refine ⟨⟨(i 0 : Nat) / 512, ht⟩, flush0_2 _ _, ?_⟩
  refine (mem_blk2 m ⟨(i 0 : Nat) / 512, ht⟩ i).2 ?_
  dsimp only
  omega

theorem final2 (c : Dev nD) : (dats m (okm m) 0 c).arrAt 2 (cfgM m (okm m)).N = G2 m c :=
  (dats m (okm m) 0 c).arrAt_eq_of_cover 2 (G2 m c) (fun t _ => flushed2 m c t) (cover2 m)

theorem run : θ_run defs (onTc (τ := τ) (main (F := Ideal))) ⟨m, fun _ => 0, g⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final2 m c), h.2 c⟩)
    (θ_run_and (run_main m g (okm m)) (unchanged m g (okm m)))

theorem frame_ideal : Cert.quiescent_SumMlpIdeal := fun m g _ => Gen.frame m g (okm m)

theorem frame : Cert.quiescent_SumMlp := fun m g _ => Cert.SumMlp.Gen.frame m g trivial

theorem frame_ref : Cert.quiescent_SumMlpRefIdeal := fun m g _ =>
  (θ_run Cert.SumMlpRefIdeal.defs _ _).mono
    (fun r h => ⟨fun c => (h c).2, sem_eq_zero_of_no_sems (by decide) r.2⟩) (Cert.SumMlpRefIdeal.Value.run m g)

theorem algebraic : Cert.algebraic_SumMlpIdeal_SumMlpRefIdeal := by
  intro m g m' g' _ hm
  refine ⟨fun c => G2 m c, run m g,
    (θ_run Cert.SumMlpRefIdeal.defs _ _).mono (fun r h c => ?_) (Cert.SumMlpRefIdeal.Value.run m' g')⟩
  obtain ⟨h2, hk⟩ := h c
  obtain ⟨a0, a1, a2⟩ := hm c
  refine ⟨h2.trans ?_, hk⟩
  rw [a0, a1, a2]
  clear hm h hk h2
  funext i
  obtain ⟨r, k, rfl⟩ : ∃ r k, i = ix2 r k := ⟨i 0, i 1, eq_ix2 i⟩
  show _ = G2 m c (ix2 r k)
  simp only [G2, pointwise, zero_add]
  refine congrArg _ (Finset.sum_congr rfl fun j _ => ?_)
  show Scalar.select (IntOp.cmpi CmpIPredicate.ne (BitVec.ofNat 32 j.val) (me m c)) (parts m c (ix3 j r k)) (Ideal.ofBits .f32 0#32) = _
  exact pick _ _ _

end Cert.SumMlpClaim

end
-- ==== Proof.SumSmallClaim.lean ====
/-
What is claimed of a sum of exchanged gradients.
-/
module

public import proofs.«01_k».proof.Defs
public import proofs.«01_k».proof.Proof.Update
public import proofs.«01_k».proof.Proof.Rows
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallRefIdeal
public import proofs.«01_k».proof.Proof.Gen.SumSmallRefIdeal.Run
public import Idealize.ShloMosaic.Lib.Pipeline.Value
public import Idealize.ShloMosaic.Lib.Quiescent
public import Idealize.ShloMosaic.Lib.Pointwise

@[expose] public section

noncomputable section

namespace Cert.SumSmallClaim

open Idealize.ShloMosaic Idealize.ShloMosaic.TcCoe Idealize.SL.Sem
open Idealize.ShloMosaic.Pipeline (Dat)
open Cert.SumSmallIdeal Cert.SumSmallIdeal.Gen

variable (m : (ℓ : Loc nD τ sig) → Buf (Elt Ideal) ℓ) (g : Dev nD → PrngReg)

/-- No window's place reads the prefetched word. -/
theorem okm : Ok m := trivial

abbrev me (c : Dev nD) : BitVec 32 := (m ((c : Thread nD τ).loc main_arg0) : S1.Idx → BitVec 32) (ix1 0)
abbrev own (c : Dev nD) : S48x1024.Idx → EReal := m ((c : Thread nD τ).loc main_arg1)
abbrev parts (c : Dev nD) : S4x48x1024.Idx → EReal := m ((c : Thread nD τ).loc main_arg2)

theorem at0 : ∀ t : Fin grid0.N, cc0_transform_0 (grid0.coords t) 0 * S48x1024.size 0 = t.val * 48 ∧ cc0_transform_0 (grid0.coords t) 1 * S48x1024.size 1 = 0 := by
  decide +kernel

theorem at1 : ∀ t : Fin grid0.N, cc0_transform_1 (grid0.coords t) 0 * S4x48x1024.size 0 = 0 ∧ cc0_transform_1 (grid0.coords t) 1 * S4x48x1024.size 1 = t.val * 48
    ∧ cc0_transform_1 (grid0.coords t) 2 * S4x48x1024.size 2 = 0 := by
  decide +kernel

theorem at2 : ∀ t : Fin grid0.N, cc0_transform_2 (grid0.coords t) 0 * S48x1024.size 0 = t.val * 48 ∧ cc0_transform_2 (grid0.coords t) 1 * S48x1024.size 1 = 0 := by
  decide +kernel

theorem blk0 (c : Dev nD) (t : Fin grid0.N) (i : Fin 48) (k : Fin 1024) (r : Fin 48) (h : r.val = t.val * 48 + i.val) :
    iblk m (okm m) c 0 t (ix2 i k) = own m c (ix2 r k) := by
  show own m c _ = _
  congr 1
  funext a
  apply Fin.ext
  match a with
  | ⟨0, _⟩ =>
    show cc0_transform_0 (grid0.coords t) 0 * S48x1024.size 0 + 1 * i.val = r.val
    rw [(at0 t).1]; omega
  | ⟨1, _⟩ =>
    show cc0_transform_0 (grid0.coords t) 1 * S48x1024.size 1 + 1 * k.val = k.val
    rw [(at0 t).2]; omega

theorem blk1 (c : Dev nD) (t : Fin grid0.N) (j : Fin 4) (i : Fin 48) (k : Fin 1024) (r : Fin 48) (h : r.val = t.val * 48 + i.val) :
    iblk m (okm m) c 1 t (ix3 j i k) = parts m c (ix3 j r k) := by
  show parts m c _ = _
  congr 1
  funext a
  apply Fin.ext
  match a with
  | ⟨0, _⟩ =>
    show cc0_transform_1 (grid0.coords t) 0 * S4x48x1024.size 0 + 1 * j.val = j.val
    rw [(at1 t).1]; omega
  | ⟨1, _⟩ =>
    show cc0_transform_1 (grid0.coords t) 1 * S4x48x1024.size 1 + 1 * i.val = r.val
    rw [(at1 t).2.1]; omega
  | ⟨2, _⟩ =>
    show cc0_transform_1 (grid0.coords t) 2 * S4x48x1024.size 2 + 1 * k.val = k.val
    rw [(at1 t).2.2]; omega

/-- The sum of the four parts. -/
def G2 (c : Dev nD) : S48x1024.Idx → EReal := fun i => ∑ j : Fin 4, parts m c (ix3 j (i 0) (i 1))

theorem pay1 (v0 v1 v2 v3 : Vec Ideal S1x48x1024 .f32) (i : Fin 48) (k : Fin 1024) (p : Fin 4 → EReal)
    (h0 : v0 (ix3 0 i k) = p 0) (h1 : v1 (ix3 0 i k) = p 1) (h2 : v2 (ix3 0 i k) = p 2) (h3 : v3 (ix3 0 i k) = p 3) :
    k0_pay1 v0 v1 v2 v3 (ix2 i k) = ∑ j, p j := by
  simp only [k0_pay1, pointwise, Fin.sum_univ_four, h0, h1, h2, h3]

theorem ld1 (x : Vec Ideal S4x48x1024 .f32) (j : Fin 4) (h : ∀ a, (![j.val, 0, 0] : Fin 3 → ℕ) a + S1x48x1024.size a ≤ S4x48x1024.size a) (i : Fin 48) (k : Fin 1024) :
    View.ld x (Rect.unit (s := S4x48x1024) ![j.val, 0, 0] S1x48x1024.size h) (ix3 0 i k) = x (ix3 j i k) := by
  show x _ = _
  congr 1
  funext a
  apply Fin.ext
  match a with
  | ⟨0, _⟩ => show j.val + 1 * 0 = j.val; omega
  | ⟨1, _⟩ => show 0 + 1 * i.val = i.val; omega
  | ⟨2, _⟩ => show 0 + 1 * k.val = k.val; omega

theorem emb2 (t : Fin grid0.N) (i : Fin 48) (k : Fin 1024) (ht : t.val * 48 + i.val < 48) :
    (((cfgM m (okm m)).win 2).blk t).view.emb (ix2 i k) = ix2 ⟨t.val * 48 + i.val, ht⟩ k := by
  funext a
  apply Fin.ext
  match a with
  | ⟨0, _⟩ =>
    show cc0_transform_2 (grid0.coords t) 0 * S48x1024.size 0 + 1 * i.val = t.val * 48 + i.val
    rw [(at2 t).1]; omega
  | ⟨1, _⟩ =>
    show cc0_transform_2 (grid0.coords t) 1 * S48x1024.size 1 + 1 * k.val = k.val
    rw [(at2 t).2]; omega

theorem out (c : Dev nD) (d : grid0.Coords) (arg2 : Memref sig .tc .vmem S48x1024 .f32) (harg2 : arg2.IsWhole) (arg3 : Memref sig .tc .vmem S4x48x1024 .f32) (harg3 : arg3.IsWhole)
    (arg4 : Memref sig .tc .vmem S48x1024 .f32) (harg4 : arg4.IsWhole) (x0 : Vec Ideal S48x1024 .f32) (x1 : Vec Ideal S4x48x1024 .f32) (xt0 : TbBuf0 (F := Ideal) c tbM0_0)
    (i : Fin 48) (k : Fin 1024) :
    out0_A_2 c d arg2 harg2 arg3 harg3 arg4 harg4 x0 x1 xt0 (ix2 i k) = ∑ j : Fin 4, x1 (ix3 j i k) := by
  unfold out0_A_2
  rw [View.read_writes_eq_canon _ _ _ (fun y => cover0_A_2 (y := y) ..)]
  unfold kernelRun0_A; dsimp only; try sl_unfold_words
  rw [View.canon_unit_zero Update.hz]
  simp only [View.readAt_eq_ld, harg2.read_unread, harg3.read_unread]
  try rw [View.ld_unit_zero Update.hz]
  exact pay1 _ _ _ _ i k (fun j => x1 (ix3 j i k)) (ld1 x1 0 _ i k) (ld1 x1 1 _ i k) (ld1 x1 2 _ i k) (ld1 x1 3 _ i k)

theorem outs (c : Dev nD) (t : Fin grid0.N) (i : Fin 48) (k : Fin 1024) (ht : t.val * 48 + i.val < 48) :
    outsAt0 m (okm m) c t (ix2 i k) = G2 m c (ix2 ⟨t.val * 48 + i.val, ht⟩ k) := by
  obtain rfl : c = 0 := Subsingleton.elim _ _
  refine (out ..).trans ?_
  have h0 := blk0 m 0 t i k ⟨_, ht⟩ rfl
  have h1 := fun j => blk1 m 0 t j i k ⟨_, ht⟩ rfl
  exact Finset.sum_congr rfl fun j _ => h1 j

theorem flushed2 (c : Dev nD) (t : Fin grid0.N) :
    (dats m (okm m) 0 c).flushed 2 t = (((cfgM m (okm m)).win 2).blk t).view.read (Elt Ideal) (G2 m c) := by
  show ((cfgM m (okm m)).win 2).cut (grid0.coords t) ((dats m (okm m) 0 c).after 2 t) = _
  rw [after0_2]
  suffices h : ∀ y : S48x1024.Idx, outsAt0 m (okm m) c t y = G2 m c ((((cfgM m (okm m)).win 2).blk t).view.emb y) from funext h
  intro y
  obtain ⟨i, k, rfl⟩ : ∃ (i : Fin 48) (k : Fin 1024), y = ix2 i k := ⟨y 0, y 1, eq_ix2 y⟩
  have ht : t.val * 48 + i.val < 48 := by
    have := t.isLt; have hN : grid0.N = 1 := N_0; have := i.isLt; omega
  rw [emb2 m t i k ht]
  exact outs m c t i k ht

theorem mem_blk2 (t : Fin grid0.N) (i : S48x1024.Idx) :
    i ∈ (((cfgM m (okm m)).win 2).blk t).view.set ↔ t.val * 48 ≤ (i 0 : Nat) ∧ (i 0 : Nat) < t.val * 48 + 48 := by
  show i ∈ ((View.whole main_v0).slice (Rect.block (s := S48x1024) S48x1024.size (cc0_transform_2 (grid0.coords t)) (Facts₀.hinb0_2 (grid0.coords t)))).set ↔ _
  rw [View.set_slice_whole, Rect.mem_set_unit]
  have h1 : (i 1 : Nat) < 1024 := (i 1).isLt
  have e := at2 t
  refine ⟨fun h => ?_, fun h a => ?_⟩
  · have : cc0_transform_2 (grid0.coords t) 0 * S48x1024.size 0 ≤ (i 0 : Nat) ∧ (i 0 : Nat) < cc0_transform_2 (grid0.coords t) 0 * S48x1024.size 0 + 48 := h 0
    rw [e.1] at this; exact this
  · match a with
    | ⟨0, _⟩ => show cc0_transform_2 (grid0.coords t) 0 * S48x1024.size 0 ≤ (i 0 : Nat) ∧ (i 0 : Nat) < cc0_transform_2 (grid0.coords t) 0 * S48x1024.size 0 + 48
                rw [e.1]; exact h
    | ⟨1, _⟩ => show cc0_transform_2 (grid0.coords t) 1 * S48x1024.size 1 ≤ (i 1 : Nat) ∧ (i 1 : Nat) < cc0_transform_2 (grid0.coords t) 1 * S48x1024.size 1 + 1024
                rw [e.2]; omega

theorem cover2 (i : S48x1024.Idx) :
    ∃ t : Fin (cfgM m (okm m)).N, ((cfgM m (okm m)).win 2).flush t = true ∧ i ∈ (((cfgM m (okm m)).win 2).blk t).view.set := by
  have h0 : (i 0 : Nat) < 48 := (i 0).isLt
  have hN : grid0.N = 1 := N_0
  have ht : (i 0 : Nat) / 48 < grid0.N := by omega
  refine ⟨⟨(i 0 : Nat) / 48, ht⟩, flush0_2 _ _, ?_⟩
  refine (mem_blk2 m ⟨(i 0 : Nat) / 48, ht⟩ i).2 ?_
  dsimp only
  omega

theorem final2 (c : Dev nD) : (dats m (okm m) 0 c).arrAt 2 (cfgM m (okm m)).N = G2 m c :=
  (dats m (okm m) 0 c).arrAt_eq_of_cover 2 (G2 m c) (fun t _ => flushed2 m c t) (cover2 m)

theorem run : θ_run defs (onTc (τ := τ) (main (F := Ideal))) ⟨m, fun _ => 0, g⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final2 m c), h.2 c⟩)
    (θ_run_and (run_main m g (okm m)) (unchanged m g (okm m)))

theorem frame_ideal : Cert.quiescent_SumSmallIdeal := fun m g _ => Gen.frame m g (okm m)

theorem frame : Cert.quiescent_SumSmall := fun m g _ => Cert.SumSmall.Gen.frame m g trivial

theorem frame_ref : Cert.quiescent_SumSmallRefIdeal := fun m g _ =>
  (θ_run Cert.SumSmallRefIdeal.defs _ _).mono
    (fun r h => ⟨fun c => (h c).2, sem_eq_zero_of_no_sems (by decide) r.2⟩) (Cert.SumSmallRefIdeal.Value.run m g)

theorem algebraic : Cert.algebraic_SumSmallIdeal_SumSmallRefIdeal := by
  intro m g m' g' _ hm
  refine ⟨fun c => G2 m c, run m g,
    (θ_run Cert.SumSmallRefIdeal.defs _ _).mono (fun r h c => ?_) (Cert.SumSmallRefIdeal.Value.run m' g')⟩
  obtain ⟨h2, hk⟩ := h c
  obtain ⟨a0, a1, a2⟩ := hm c
  refine ⟨h2.trans ?_, hk⟩
  rw [a2]
  clear hm h hk h2
  funext i
  obtain ⟨r, k, rfl⟩ : ∃ r k, i = ix2 r k := ⟨i 0, i 1, eq_ix2 i⟩
  show _ = G2 m c (ix2 r k)
  simp only [G2, pointwise, zero_add]

end Cert.SumSmallClaim

end
-- ==== Proof.LossClaim.lean ====
/-
What is claimed of the loss and its derivative at the last layer.
-/
module

public import proofs.«01_k».proof.Defs
public import proofs.«01_k».proof.Proof.Update
public import proofs.«01_k».proof.Proof.Rows
public import proofs.«01_k».proof.Proof.Gen.Loss
public import proofs.«01_k».proof.Proof.Gen.Loss.Frame
public import proofs.«01_k».proof.Proof.Gen.LossIdeal
public import proofs.«01_k».proof.Proof.Gen.LossIdeal.Value
public import proofs.«01_k».proof.Proof.Gen.LossRefIdeal
public import proofs.«01_k».proof.Proof.Gen.LossRefIdeal.Run
public import Idealize.ShloMosaic.Lib.Pipeline.Value
public import Idealize.ShloMosaic.Lib.Quiescent
public import Idealize.ShloMosaic.Lib.Pointwise

@[expose] public section

noncomputable section

namespace Cert.LossClaim

open Idealize.ShloMosaic Idealize.ShloMosaic.TcCoe Idealize.SL.Sem
open Idealize.ShloMosaic.Pipeline (Dat)
open Cert.LossIdeal Cert.LossIdeal.Gen

variable (m : (ℓ : Loc nD τ sig) → Buf (Elt Ideal) ℓ) (g : Dev nD → PrngReg)

open Cert.Rows

abbrev hin (c : Dev nD) : S8320x1024.Idx → EReal := m ((c : Thread nD τ).loc main_arg0)

theorem at0 : ∀ t : Fin cfg0.N, win0_0.index t 0 * win0_0.size 0 = t.val * 640 ∧ win0_0.index t 1 * win0_0.size 1 = 0 :=
  (by decide +kernel : ∀ t : Fin grid0.N, win0_0.index t 0 * win0_0.size 0 = t.val * 640 ∧ win0_0.index t 1 * win0_0.size 1 = 0)

theorem blk0 (c : Dev nD) (t : Fin cfg0.N) (i : Fin 640) (k : Fin 1024) (r : Fin 8320) (h : r.val = t.val * 640 + i.val) :
    iblk m c 0 t (ix2 i k) = row (hin m c) r k := by
  show hin m c _ = _
  congr 1
  funext a
  apply Fin.ext
  match a with
  | ⟨0, _⟩ =>
    show win0_0.index t 0 * win0_0.size 0 + 1 * i.val = r.val
    rw [(at0 t).1]; omega
  | ⟨1, _⟩ =>
    show win0_0.index t 1 * win0_0.size 1 + 1 * k.val = k.val
    rw [(at0 t).2]; omega

abbrev tgt (c : Dev nD) : S8320x1024.Idx → EReal := m ((c : Thread nD τ).loc main_arg1)

theorem at1 : ∀ t : Fin cfg0.N, win0_1.index t 0 * win0_1.size 0 = t.val * 640 ∧ win0_1.index t 1 * win0_1.size 1 = 0 :=
  (by decide +kernel : ∀ t : Fin grid0.N, win0_1.index t 0 * win0_1.size 0 = t.val * 640 ∧ win0_1.index t 1 * win0_1.size 1 = 0)

theorem blk1 (c : Dev nD) (t : Fin cfg0.N) (i : Fin 640) (k : Fin 1024) (r : Fin 8320) (h : r.val = t.val * 640 + i.val) :
    iblk m c 1 t (ix2 i k) = row (tgt m c) r k := by
  show tgt m c _ = _
  congr 1
  funext a
  apply Fin.ext
  match a with
  | ⟨0, _⟩ =>
    show win0_1.index t 0 * win0_1.size 0 + 1 * i.val = r.val
    rw [(at1 t).1]; omega
  | ⟨1, _⟩ =>
    show win0_1.index t 1 * win0_1.size 1 + 1 * k.val = k.val
    rw [(at1 t).2]; omega

abbrev gn (c : Dev nD) : S1x1024.Idx → EReal := m ((c : Thread nD τ).loc main_arg2)

theorem at2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)

theorem blk2 (c : Dev nD) (t : Fin cfg0.N) (i : Fin 1) (k : Fin 1024) : iblk m c 2 t (ix2 i k) = gn m c (ix2 i k) := by
  show gn m c _ = _
  congr 1
  funext a
  apply Fin.ext
  match a with
  | ⟨0, _⟩ =>
    show win0_2.index t 0 * win0_2.size 0 + 1 * i.val = i.val
    rw [(at2 t).1]; omega
  | ⟨1, _⟩ =>
    show win0_2.index t 1 * win0_2.size 1 + 1 * k.val = k.val
    rw [(at2 t).2]; omega

/-- The error of position `r`, none where the row is no position of the sequence. -/
def err (r : ℕ) (x g y : Fin 1024 → EReal) (k : Fin 1024) : EReal :=
  if 16 ≤ r ∧ r < 8208 then x k * scale x * g k - y k else 0

/-- The derivative of the mean square of the error. -/
def derr (r : ℕ) (x g y : Fin 1024 → EReal) (k : Fin 1024) : EReal := err r x g y k * Ideal.ofBits .f32 0x3A800000#32

/-- The mean square of the error. -/
def sq (r : ℕ) (x g y : Fin 1024 → EReal) : EReal :=
  Ideal.div (∑ k, err r x g y k * err r x g y k) (Ideal.ofBits .f32 0x44800000#32)

/-- The three of row `r` of the arrays. -/
abbrev dn (c : Dev nD) (r : Fin 8320) : Fin 1024 → EReal := derr r.val (row (hin m c) r) (row (gn m c) 0) (row (tgt m c) r)
abbrev ms (c : Dev nD) (r : Fin 8320) : EReal := sq r.val (row (hin m c) r) (row (gn m c) 0) (row (tgt m c) r)

abbrev G3 (c : Dev nD) : Buf (Elt Ideal) ((c : Thread nD τ).loc main_v0_0) := fun i : S8320x1024.Idx =>
  back (row (hin m c) (i 0)) (row (gn m c) 0) (dn m c (i 0)) (i 1)

abbrev G4 (c : Dev nD) : Buf (Elt Ideal) ((c : Thread nD τ).loc main_v0_1) := fun _ : S1x1.Idx =>
  (∑ r : Fin 8320, Ideal.ofBits .f32 0x3F000000#32 * ms m c r : EReal)

abbrev G5 (c : Dev nD) : Buf (Elt Ideal) ((c : Thread nD τ).loc main_v0_2) := fun i : S1x1024.Idx =>
  (∑ r : Fin 8320, dn m c r (i 1) * (row (hin m c) r (i 1) * scale (row (hin m c) r)) : EReal)

theorem pay5 (y : S1x1024.Idx) : (k0_pay5 (F := Ideal)) y = 0 := by
  simp only [k0_pay5, pointwise]

theorem pay6 (y : S1x1.Idx) : (k0_pay6 (F := Ideal)) y = 0 := by
  simp only [k0_pay6, pointwise]

theorem pay7 (v : Vec Ideal S640x1024 .f32) (i : Fin 640) (x : Fin 1024 → EReal) (hx : ∀ k, v (ix2 i k) = x k) :
    k0_pay7 v (ix2 i 0) = scale x := by
  simp only [k0_pay7, pointwise, reduceDIte, Nat.reduceEqDiff, OfNat.ofNat_ne_one, hx, scale]

theorem pay8 (v : Vec Ideal S640x1024 .f32) (i : Fin 640) (n : Fin 1024) (x : Fin 1024 → EReal) (hx : ∀ k, v (ix2 i k) = x k) :
    k0_pay8 v (ix2 i n) = x n * scale x := by
  simp only [k0_pay8, pointwise, reduceDIte, Nat.reduceEqDiff, OfNat.ofNat_ne_one]
  rw [← pay7 v i x hx, ← hx]

/-- The word of row `r`'s number is in the sequence where `r` is. -/
theorem mask_eq {α : Type} (r : ℕ) (hr : r < 8320) (a b : α) :
    Scalar.select (IntOp.andi (IntOp.cmpi .sge (BitVec.ofNat 32 r) 16#32) (IntOp.cmpi .slt (BitVec.ofNat 32 r) 8208#32)) a b
      = if 16 ≤ r ∧ r < 8208 then a else b := by
  have e : (BitVec.ofNat 32 r).toInt = (r : ℤ) := by
    rw [BitVec.toInt_eq_toNat_of_lt] <;> rw [BitVec.toNat_ofNat, Nat.mod_eq_of_lt (by omega)]
    omega
  have e1 : (16#32).toInt = 16 := by decide
  have e2 : (8208#32).toInt = 8208 := by decide
  have c1 : IntOp.cmpi .sge (BitVec.ofNat 32 r) 16#32 = BitVec.ofBool (decide ((16#32).toInt ≤ (BitVec.ofNat 32 r).toInt)) := rfl
  have c2 : IntOp.cmpi .slt (BitVec.ofNat 32 r) 8208#32 = BitVec.ofBool (decide ((BitVec.ofNat 32 r).toInt < (8208#32).toInt)) := rfl
  rw [c1, c2, e, e1, e2]
  by_cases h1 : 16 ≤ r
  · by_cases h2 : r < 8208
    · refine Eq.trans ?_ (if_pos ⟨h1, h2⟩).symm
      rw [decide_eq_true (by omega : (16 : ℤ) ≤ r), decide_eq_true (by omega : (r : ℤ) < 8208)]
      rfl
    · refine Eq.trans ?_ (if_neg (fun h => h2 h.2)).symm
      rw [decide_eq_true (by omega : (16 : ℤ) ≤ r), decide_eq_false (by omega : ¬ (r : ℤ) < 8208)]
      rfl
  · refine Eq.trans ?_ (if_neg (fun h => h1 h.1)).symm
    rw [decide_eq_false (by omega : ¬ (16 : ℤ) ≤ r)]
    by_cases h2 : r < 8208
    · rw [decide_eq_true (by omega : (r : ℤ) < 8208)]; rfl
    · rw [decide_eq_false (by omega : ¬ (r : ℤ) < 8208)]; rfl

theorem half_eq : Ideal.ofBits .f32 0x3F000000#32 = (((1 : ℝ) / 2 : ℝ) : EReal) := by
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

theorem half_sum {ι : Type} (s : Finset ι) (f : ι → EReal) :
    ∑ i ∈ s, Ideal.ofBits .f32 0x3F000000#32 * f i = Ideal.ofBits .f32 0x3F000000#32 * ∑ i ∈ s, f i := by
  classical
  induction s using Finset.induction_on with
  | empty => simp
  | insert a s ha ih =>
    rw [Finset.sum_insert ha, Finset.sum_insert ha, ih, half_eq]
    exact (EReal.left_distrib_of_nonneg_of_ne_top (EReal.coe_nonneg.mpr (by norm_num)) (EReal.coe_ne_top _) _ _).symm

theorem div_zero_width : Ideal.div 0 (Ideal.ofBits .f32 0x44800000#32) = 0 := by
  rw [width_eq, Ideal.div, if_neg (by exact_mod_cast (by norm_num : (1024 : ℝ) ≠ 0)), zero_mul]

/-- A row outside the sequence adds no loss. -/
theorem sq_out (r : ℕ) (h : ¬ (16 ≤ r ∧ r < 8208)) (x g y : Fin 1024 → EReal) : sq r x g y = 0 := by
  have e : ∀ k, err r x g y k = 0 := fun k => if_neg h
  simp only [sq, e, zero_mul, Finset.sum_const_zero, div_zero_width]

/-- The sum over the rows is the sum over the sequence. -/
theorem sum_rows (f : ℕ → EReal) (h : ∀ r, ¬ (16 ≤ r ∧ r < 8208) → f r = 0) :
    ∑ r : Fin 8320, f r.val = ∑ r : Fin 8192, f (16 + r.val) := by
  rw [Fin.sum_univ_two_halves 16 8304 rfl (fun r : Fin 8320 => f r.val)]
  rw [Fin.sum_univ_two_halves 8192 112 rfl (fun r : Fin 8304 => f (16 + r.val))]
  rw [Finset.sum_eq_zero (fun (k : Fin 16) _ => h _ (fun e => by have h1 : 16 ≤ k.val := e.1; have := k.isLt; omega)), zero_add]
  rw [Finset.sum_eq_zero (fun (k : Fin 112) _ => h _ (fun e => by have h1 : 16 + (8192 + k.val) < 8208 := e.2; omega)), add_zero]

theorem pay9 (p : grid0.Coords) (v3 : Vec Ideal S640x1024 .f32) (v4 : Vec Ideal S1x1024 .f32) (v26 : Vec Ideal S640x1024 .f32)
    (i : Fin 640) (n : Fin 1024) (r : ℕ) (hr : r = (p 0).val * 640 + i.val) (hr' : r < 8320) (x g y : Fin 1024 → EReal)
    (hx : ∀ k, v3 (ix2 i k) = x k) (hg : ∀ k, v4 (ix2 0 k) = g k) (hy : ∀ k, v26 (ix2 i k) = y k) :
    k0_pay9 p v3 v4 v26 (ix2 i n) = err r x g y n := by
  simp only [k0_pay9, pointwise, shapeCast_self, reduceDIte, Nat.reduceEqDiff, OfNat.ofNat_ne_one, pay8 v3 i _ x hx, hg, hy, err]
  have e : IntOp.addi (Scalar.muli (BitVec.ofNat 32 (p 0).val) 640#32)
      (BitVec.ofNat 32 (List.foldl (fun n a => n * (![640, 1] : Fin 2 → ℕ) a + (ix2 i (0 : Fin 1) a).val) 0 [0])) = BitVec.ofNat 32 r := by
    rw [hr]
    show BitVec.ofNat 32 (p 0).val * BitVec.ofNat 32 640 + BitVec.ofNat 32 (0 * 640 + i.val) = _
    rw [← BitVec.ofNat_mul, ← BitVec.ofNat_add, zero_mul, zero_add]
  exact (congrArg (fun w => Scalar.select (IntOp.andi (IntOp.cmpi .sge w 16#32) (IntOp.cmpi .slt w 8208#32)) (x n * scale x * g n - y n) 0) e).trans
    (mask_eq r hr' _ _)

theorem pay1 (v32 : Vec Ideal S1x1 .f32) (v38 : FVec Ideal S640x1 .f32) :
    k0_pay1 (k0_pay10 v32) v38 (ix2 0 0) = v32 (ix2 0 0) + Ideal.ofBits .f32 0x3F000000#32 * ∑ i : Fin 640, v38 (ix2 i 0) := by
  simp only [k0_pay1, k0_pay10, pointwise, zero_add, shapeCast_self, reduceDIte, Nat.reduceEqDiff, OfNat.ofNat_ne_one]

theorem pay2 (v31 : FVec Ideal S640x1024 .f32) (y : S640x1024.Idx) : k0_pay2 v31 y = v31 y * Ideal.ofBits .f32 0x3A800000#32 := by
  simp only [k0_pay2, pointwise]

theorem pay3 (v14 v31 : FVec Ideal S640x1024 .f32) (v47 : Vec Ideal S1x1024 .f32) (n : Fin 1024) :
    k0_pay3 v14 v31 v47 (ix2 0 n) = v47 (ix2 0 n) + ∑ i : Fin 640, k0_pay2 v31 (ix2 i n) * v14 (ix2 i n) := by
  simp only [k0_pay3, pointwise, zero_add, shapeCast_self, reduceDIte, Nat.reduceEqDiff, OfNat.ofNat_ne_one]

theorem pay4 (v12 : FVec Ideal S640x1 .f32) (v14 v31 : FVec Ideal S640x1024 .f32)
    (v54 : Vec Ideal S1x1024 .f32) (i : Fin 640) (n : Fin 1024) (x g u : Fin 1024 → EReal) (hu : ∀ k, k0_pay2 v31 (ix2 i k) = u k)
    (hs : v12 (ix2 i 0) = scale x) (hx : ∀ k, v14 (ix2 i k) = x k * scale x) (hg : ∀ k, v54 (ix2 0 k) = g k) :
    k0_pay4 v12 v14 v31 v54 (ix2 i n) = back x g u n := by
  simp only [k0_pay4, pointwise, zero_add, reduceDIte, Nat.reduceEqDiff, OfNat.ofNat_ne_one, hu, hx, hg]
  rw [back, ← hs]

theorem pay11 (p : grid0.Coords) (v3 : Vec Ideal S640x1024 .f32) (v4 : Vec Ideal S1x1024 .f32) (v26 : Vec Ideal S640x1024 .f32)
    (i : Fin 640) (r : ℕ) (hr : r = (p 0).val * 640 + i.val) (hr' : r < 8320) (x g y : Fin 1024 → EReal)
    (hx : ∀ k, v3 (ix2 i k) = x k) (hg : ∀ k, v4 (ix2 0 k) = g k) (hy : ∀ k, v26 (ix2 i k) = y k) :
    k0_pay11 p v3 v4 v26 (ix2 i 0) = sq r x g y := by
  simp only [k0_pay11, pointwise, zero_add, reduceDIte, Nat.reduceEqDiff, OfNat.ofNat_ne_one, pay9 p v3 v4 v26 i _ r hr hr' x g y hx hg hy, sq]

theorem coords_val : ∀ t : Fin cfg0.N, (grid0.coords t 0).val = t.val :=
  (by decide +kernel : ∀ t : Fin grid0.N, (grid0.coords t 0).val = t.val)

abbrev tileE (c : Dev nD) (t : Fin cfg0.N) : FVec Ideal S640x1024 .f32 := k0_pay9 (grid0.coords t) (iblk m c 0 t) (iblk m c 2 t) (iblk m c 1 t)

abbrev tile3 (c : Dev nD) (t : Fin cfg0.N) : FVec Ideal S640x1024 .f32 :=
  k0_pay4 (k0_pay7 (iblk m c 0 t)) (k0_pay8 (iblk m c 0 t)) (tileE m c t) (iblk m c 2 t)

abbrev tile4 (c : Dev nD) (t : Fin cfg0.N) (acc : Vec Ideal S1x1 .f32) : FVec Ideal S1x1 .f32 :=
  k0_pay1 (k0_pay10 acc) (k0_pay11 (grid0.coords t) (iblk m c 0 t) (iblk m c 2 t) (iblk m c 1 t))

abbrev tile5 (c : Dev nD) (t : Fin cfg0.N) (acc : Vec Ideal S1x1024 .f32) : FVec Ideal S1x1024 .f32 :=
  k0_pay3 (k0_pay8 (iblk m c 0 t)) (tileE m c t) acc

theorem outs_A (c : Dev nD) (t : Fin cfg0.N) (h0 : t.val % 13 = 0) :
    outsAt0 m c t.val t.isLt = (tile3 m c t, tile4 m c t (k0_pay6 (F := Ideal)), tile5 m c t (k0_pay5 (F := Ideal))) := by
  rw [outsAt0_A m c t h0]
  unfold out0_A_3 out0_A_4 out0_A_5
  refine Prod.ext ?_ (Prod.ext ?_ ?_) <;> dsimp only
  · rw [View.read_writes_eq_canon _ _ _ (fun y => cover0_A_3 (y := y) ..)]
    unfold kernelRun0_A; dsimp only; try sl_unfold_words
    rw [View.canon_unit_zero Update.hz]
    simp only [View.readAt_eq_ld, (hs0_0 t).read_unread, (hs0_1 t).read_unread, (hs0_2 t).read_unread]
    repeat rw [View.ld_unit_zero Update.hz]
  · rw [View.read_writes_eq_canon _ _ _ (fun y => cover0_A_4 (y := y) ..)]
    unfold kernelRun0_A; dsimp only; try sl_unfold_words
    rw [View.canon_cons_unit_zero (S := S1x1) Update.hz, View.readCov_unit_zero (S := S1x1) _ Update.hz]
    simp only [View.readAt_eq_ld, (hs0_0 t).read_unread, (hs0_1 t).read_unread, (hs0_2 t).read_unread]
    repeat rw [View.ld_unit_zero Update.hz]
  · rw [View.read_writes_eq_canon _ _ _ (fun y => cover0_A_5 (y := y) ..)]
    unfold kernelRun0_A; dsimp only; try sl_unfold_words
    rw [View.canon_cons_unit_zero (S := S1x1024) Update.hz, View.readCov_unit_zero (S := S1x1024) _ Update.hz]
    simp only [View.readAt_eq_ld, (hs0_0 t).read_unread, (hs0_1 t).read_unread, (hs0_2 t).read_unread]
    repeat rw [View.ld_unit_zero Update.hz]

theorem outs_B (c : Dev nD) (t : Fin cfg0.N) (h0 : ¬ t.val % 13 = 0) :
    outsAt0 m c t.val t.isLt = (tile3 m c t, tile4 m c t (outsAt0 m c (t.val - 1) (Nat.lt_of_le_of_lt (Nat.sub_le _ _) t.isLt)).2.1, tile5 m c t (outsAt0 m c (t.val - 1) (Nat.lt_of_le_of_lt (Nat.sub_le _ _) t.isLt)).2.2) := by
  rw [outsAt0_B m c t h0]
  unfold out0_B_3 out0_B_4 out0_B_5
  refine Prod.ext ?_ (Prod.ext ?_ ?_) <;> dsimp only
  · rw [View.read_writes_eq_canon _ _ _ (fun y => cover0_B_3 (y := y) ..)]
    unfold kernelRun0_B; dsimp only; try sl_unfold_words
    rw [View.canon_unit_zero Update.hz]
    simp only [View.readAt_eq_ld, (hs0_0 t).read_unread, (hs0_1 t).read_unread, (hs0_2 t).read_unread]
    repeat rw [View.ld_unit_zero Update.hz]
  · rw [View.read_writes_eq_canon _ _ _ (fun y => cover0_B_4 (y := y) ..)]
    unfold kernelRun0_B; dsimp only; try sl_unfold_words
    rw [View.canon_unit_zero Update.hz]
    simp only [View.readAt_eq_ld, (hs0_0 t).read_unread, (hs0_1 t).read_unread, (hs0_2 t).read_unread, (hs0_4 t).read_unread]
    repeat rw [View.ld_unit_zero Update.hz]
  · rw [View.read_writes_eq_canon _ _ _ (fun y => cover0_B_5 (y := y) ..)]
    unfold kernelRun0_B; dsimp only; try sl_unfold_words
    rw [View.canon_unit_zero Update.hz]
    simp only [View.readAt_eq_ld, (hs0_0 t).read_unread, (hs0_1 t).read_unread, (hs0_2 t).read_unread, (hs0_5 t).read_unread]
    repeat rw [View.ld_unit_zero Update.hz]

theorem at3 : ∀ t : Fin cfg0.N, win0_3.index t 0 * win0_3.size 0 = t.val * 640 ∧ win0_3.index t 1 * win0_3.size 1 = 0 :=
  (by decide +kernel : ∀ t : Fin grid0.N, win0_3.index t 0 * win0_3.size 0 = t.val * 640 ∧ win0_3.index t 1 * win0_3.size 1 = 0)

theorem emb3 (t : Fin cfg0.N) (i : Fin 640) (k : Fin 1024) (h : t.val * 640 + i.val < 8320) :
    (win0_3.blk t).view.emb (ix2 i k) = (ix2 ⟨t.val * 640 + i.val, h⟩ k : S8320x1024.Idx) := by
  funext a
  apply Fin.ext
  match a with
  | ⟨0, _⟩ =>
    show win0_3.index t 0 * win0_3.size 0 + 1 * i.val = t.val * 640 + i.val
    rw [(at3 t).1]; omega
  | ⟨1, _⟩ =>
    show win0_3.index t 1 * win0_3.size 1 + 1 * k.val = k.val
    rw [(at3 t).2]; omega

theorem tileD_apply (c : Dev nD) (t : Fin cfg0.N) (i : Fin 640) (n : Fin 1024) (r : Fin 8320) (h : r.val = t.val * 640 + i.val) :
    k0_pay2 (tileE m c t) (ix2 i n) = dn m c r n := by
  rw [pay2]
  exact congrArg (· * _) (pay9 _ _ _ _ i n r.val (h.trans (by rw [coords_val])) r.isLt _ _ _ (fun k => blk0 m c t i k r h) (fun k => blk2 m c t 0 k)
    (fun k => blk1 m c t i k r h))

theorem flushed3 (c : Dev nD) (t : Fin cfg0.N) :
    (dats m 0 c).flushed 3 t = (win0_3.blk t).view.read (Elt Ideal) (G3 m c) := by
  have key : (outsAt0 m c t.val t.isLt).1 = tile3 m c t := by
    by_cases h0 : t.val % 13 = 0
    · rw [outs_A m c t h0]
    · rw [outs_B m c t h0]
  rw [Value.flushed3, key]
  funext y
  obtain ⟨i, k, rfl⟩ : ∃ (i : Fin 640) (k : Fin 1024), y = ix2 i k := ⟨y 0, y 1, eq_ix2 y⟩
  have ht : t.val * 640 + i.val < 8320 := by
    have := t.isLt; have hN : cfg0.N = 13 := N_0; have := i.isLt; omega
  show tile3 m c t (ix2 i k) = G3 m c ((win0_3.blk t).view.emb (ix2 i k))
  rw [emb3 t i k ht]
  exact pay4 _ _ _ _ i k (row (hin m c) ⟨_, ht⟩) (row (gn m c) 0) (dn m c ⟨_, ht⟩) (fun k => tileD_apply m c t i k ⟨_, ht⟩ rfl)
    (pay7 _ i _ (fun k => blk0 m c t i k ⟨_, ht⟩ rfl)) (fun n => pay8 _ i n _ (fun k => blk0 m c t i k ⟨_, ht⟩ rfl)) (fun k => blk2 m c t 0 k)

theorem mem_blk3 (t : Fin cfg0.N) (i : S8320x1024.Idx) :
    i ∈ ((cfg0.win 3).blk t).view.set ↔ t.val * 640 ≤ (i 0 : Nat) ∧ (i 0 : Nat) < t.val * 640 + 640 := by
  show i ∈ ((View.whole main_v0_0).slice (win0_3.rect t)).set ↔ _
  rw [View.set_slice_whole, Rect.mem_set_unit]
  have h1 : (i 1 : Nat) < 1024 := (i 1).isLt
  have e : win0_3.index t 0 * win0_3.size 0 = t.val * 640 ∧ win0_3.xsize (grid0.coords t) 0 = 640
      ∧ win0_3.index t 1 * win0_3.size 1 = 0 ∧ win0_3.xsize (grid0.coords t) 1 = 1024 := by
    revert t; exact (by decide +kernel : ∀ t : Fin grid0.N, win0_3.index t 0 * win0_3.size 0 = t.val * 640 ∧ win0_3.xsize (grid0.coords t) 0 = 640
      ∧ win0_3.index t 1 * win0_3.size 1 = 0 ∧ win0_3.xsize (grid0.coords t) 1 = 1024)
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e.1, e.2.1] at this; exact this
  · match a with
    | ⟨0, _⟩ => show win0_3.index t 0 * win0_3.size 0 ≤ (i 0 : Nat) ∧ (i 0 : Nat) < win0_3.index t 0 * win0_3.size 0 + win0_3.xsize (grid0.coords t) 0
                rw [e.1, e.2.1]; exact h
    | ⟨1, _⟩ => show win0_3.index t 1 * win0_3.size 1 ≤ (i 1 : Nat) ∧ (i 1 : Nat) < win0_3.index t 1 * win0_3.size 1 + win0_3.xsize (grid0.coords t) 1
                rw [e.2.2.1, e.2.2.2]; omega

theorem cover3 (i : S8320x1024.Idx) :
    ∃ t : Fin cfg0.N, (cfg0.win 3).flush t = true ∧ i ∈ ((cfg0.win 3).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_3 _, ?_⟩
  rw [mem_blk3]
  dsimp only
  omega

theorem final3 (c : Dev nD) : (dats m 0 c).arrAt 3 cfg0.N = G3 m c :=
  (dats m 0 c).arrAt_eq_of_cover 3 (G3 m c) (fun t _ => flushed3 m c t) cover3

/-- The row of the whole array that row `k` of tile `s` is. -/
def at' (s : ℕ) (k : Fin 640) : Fin 8320 := ⟨s % 13 * 640 + k.val, by have := k.isLt; omega⟩

theorem at'_val (t : Fin cfg0.N) (k : Fin 640) : (at' t.val k).val = t.val * 640 + k.val := by
  show t.val % 13 * 640 + k.val = _
  rw [Nat.mod_eq_of_lt (by have := t.isLt; have hN : cfg0.N = 13 := N_0; omega)]

/-- What tile `s` adds to the sum. -/
def part4 (c : Dev nD) (q : Fin 1) (s : ℕ) : EReal :=
  ∑ i : Fin 640, Ideal.ofBits .f32 0x3F000000#32 * ms m c (at' s i)

theorem tile4_apply (c : Dev nD) (t : Fin cfg0.N) (acc : Vec Ideal S1x1 .f32) (q : Fin 1) :
    tile4 m c t acc (ix2 0 q) = acc (ix2 0 q) + part4 m c q t.val := by
  obtain rfl : q = 0 := Subsingleton.elim _ _
  rw [tile4, pay1, ← half_sum]
  refine congrArg _ (Finset.sum_congr rfl fun i _ => congrArg _ ?_)
  have hr := at'_val t i
  exact pay11 _ _ _ _ i (at' t.val i).val (hr.trans (by rw [coords_val])) (at' t.val i).isLt _ _ _ (fun k => blk0 m c t i k _ hr) (fun k => blk2 m c t 0 k)
    (fun k => blk1 m c t i k _ hr)

theorem folds4 (c : Dev nD) (q : Fin 1) : ∀ (n : ℕ) (h : n < cfg0.N),
    (outsAt0 m c n h).2.1 (ix2 0 q) = ∑ s ∈ Finset.range (n + 1), part4 m c q s
  | 0, h => by
    rw [Finset.sum_range_one]
    refine (congrArg (fun z => z.2.1 (ix2 0 q)) (outs_A m c ⟨0, h⟩ rfl)).trans ?_
    refine (tile4_apply m c ⟨0, h⟩ _ q).trans ?_
    rw [pay6, zero_add]
  | n + 1, h => by
    have hN : cfg0.N = 13 := N_0
    rw [Finset.sum_range_succ, ← folds4 c q n (by omega)]
    refine (congrArg (fun z => z.2.1 (ix2 0 q)) (outs_B m c ⟨n + 1, h⟩ (by show ¬ (n + 1) % 13 = 0; omega))).trans ?_
    exact tile4_apply m c ⟨n + 1, h⟩ _ q

theorem total4 (c : Dev nD) (q : Fin 1) :
    ∑ s ∈ Finset.range 13, part4 m c q s = ∑ r : Fin 8320, Ideal.ofBits .f32 0x3F000000#32 * ms m c r := by
  rw [Finset.sum_range]
  refine Eq.trans ?_ (Fin.sum_univ_tiles 13 640 (by decide) fun r : Fin 8320 => Ideal.ofBits .f32 0x3F000000#32 * ms m c r).symm
  refine Finset.sum_congr rfl fun s _ => Finset.sum_congr rfl fun k _ => ?_
  have hs : ∀ h, at' s.val k = ⟨s.val * 640 + k.val, h⟩ := fun h => Fin.ext (by
    show s.val % 13 * 640 + k.val = s.val * 640 + k.val
    rw [Nat.mod_eq_of_lt s.isLt])
  rw [hs]

theorem at4 : ∀ t : Fin cfg0.N, win0_4.index t 0 * win0_4.size 0 = 0 ∧ win0_4.index t 1 * win0_4.size 1 = 0
    ∧ win0_4.xsize (grid0.coords t) 0 = 1 ∧ win0_4.xsize (grid0.coords t) 1 = 1 :=
  (by decide +kernel : ∀ t : Fin grid0.N, win0_4.index t 0 * win0_4.size 0 = 0 ∧ win0_4.index t 1 * win0_4.size 1 = 0
    ∧ win0_4.xsize (grid0.coords t) 0 = 1 ∧ win0_4.xsize (grid0.coords t) 1 = 1)

theorem emb4 (t : Fin cfg0.N) (k : Fin 1) : (win0_4.blk t).view.emb (ix2 0 k) = (ix2 0 k : S1x1.Idx) := by
  funext a
  apply Fin.ext
  match a with
  | ⟨0, _⟩ =>
    show win0_4.index t 0 * win0_4.size 0 + 1 * 0 = 0
    rw [(at4 t).1]
  | ⟨1, _⟩ =>
    show win0_4.index t 1 * win0_4.size 1 + 1 * k.val = k.val
    rw [(at4 t).2.1]; omega

theorem flushed4 (c : Dev nD) (t : Fin cfg0.N) (hf : (cfg0.win 4).flush t = true) :
    (dats m 0 c).flushed 4 t = (win0_4.blk t).view.read (Elt Ideal) (G4 m c) := by
  have hN : cfg0.N = 13 := N_0
  have hl : t.val = 12 := by have := (flush0_4 t).mp hf; have := t.isLt; omega
  rw [Value.flushed4]
  have hx : ∀ k, (outsAt0 m c t.val t.isLt).2.1 (ix2 0 k) = G4 m c (ix2 0 k) := fun k =>
    ((folds4 m c k t.val t.isLt).trans (congrArg (fun n => ∑ s ∈ Finset.range (n + 1), part4 m c k s) hl)).trans (total4 m c k)
  revert hx
  generalize (outsAt0 m c t.val t.isLt).2.1 = X
  generalize G4 m c = G
  intro hx
  funext y
  obtain ⟨k, rfl⟩ : ∃ k : Fin 1, y = ix2 0 k := ⟨y 1, (eq_ix2 y).trans (congrArg (fun z => ix2 z (y 1)) (Subsingleton.elim (α := Fin 1) _ _))⟩
  show X (ix2 0 k) = G ((win0_4.blk t).view.emb (ix2 0 k))
  rw [emb4 t k]
  exact hx k

theorem cover4 (i : S1x1.Idx) :
    ∃ t : Fin cfg0.N, (cfg0.win 4).flush t = true ∧ i ∈ ((cfg0.win 4).blk t).view.set := by
  have hN : cfg0.N = 13 := N_0
  have h0 : (i 0 : Nat) < 1 := (i 0).isLt
  have h1 : (i 1 : Nat) < 1 := (i 1).isLt
  have ht : 12 < cfg0.N := by omega
  refine ⟨⟨12, ht⟩, (flush0_4 _).mpr rfl, ?_⟩
  show i ∈ ((View.whole main_v0_1).slice (win0_4.rect ⟨12, ht⟩)).set
  rw [View.set_slice_whole, Rect.mem_set_unit]
  have e := at4 ⟨12, ht⟩
  intro a
  match a with
  | ⟨0, _⟩ => show win0_4.index _ 0 * win0_4.size 0 ≤ (i 0 : Nat) ∧ (i 0 : Nat) < win0_4.index _ 0 * win0_4.size 0 + win0_4.xsize _ 0
              rw [e.1, e.2.2.1]; omega
  | ⟨1, _⟩ => show win0_4.index _ 1 * win0_4.size 1 ≤ (i 1 : Nat) ∧ (i 1 : Nat) < win0_4.index _ 1 * win0_4.size 1 + win0_4.xsize _ 1
              rw [e.2.1, e.2.2.2]; omega

theorem final4 (c : Dev nD) : (dats m 0 c).arrAt 4 cfg0.N = G4 m c :=
  (dats m 0 c).arrAt_eq_of_cover 4 (G4 m c) (fun t hf => flushed4 m c t hf) cover4

/-- What tile `s` adds to the sum. -/
def part5 (c : Dev nD) (q : Fin 1024) (s : ℕ) : EReal :=
  ∑ i : Fin 640, dn m c (at' s i) q * (row (hin m c) (at' s i) q * scale (row (hin m c) (at' s i)))

theorem tile5_apply (c : Dev nD) (t : Fin cfg0.N) (acc : Vec Ideal S1x1024 .f32) (q : Fin 1024) :
    tile5 m c t acc (ix2 0 q) = acc (ix2 0 q) + part5 m c q t.val := by
  rw [tile5, pay3]
  refine congrArg _ (Finset.sum_congr rfl fun i _ => ?_)
  have hr := at'_val t i
  rw [pay8 _ i q _ (fun k => blk0 m c t i k _ hr)]
  exact congrArg (· * _) (tileD_apply m c t i q _ hr)

theorem folds5 (c : Dev nD) (q : Fin 1024) : ∀ (n : ℕ) (h : n < cfg0.N),
    (outsAt0 m c n h).2.2 (ix2 0 q) = ∑ s ∈ Finset.range (n + 1), part5 m c q s
  | 0, h => by
    rw [Finset.sum_range_one]
    refine (congrArg (fun z => z.2.2 (ix2 0 q)) (outs_A m c ⟨0, h⟩ rfl)).trans ?_
    refine (tile5_apply m c ⟨0, h⟩ _ q).trans ?_
    rw [pay5, zero_add]
  | n + 1, h => by
    have hN : cfg0.N = 13 := N_0
    rw [Finset.sum_range_succ, ← folds5 c q n (by omega)]
    refine (congrArg (fun z => z.2.2 (ix2 0 q)) (outs_B m c ⟨n + 1, h⟩ (by show ¬ (n + 1) % 13 = 0; omega))).trans ?_
    exact tile5_apply m c ⟨n + 1, h⟩ _ q

theorem total5 (c : Dev nD) (q : Fin 1024) :
    ∑ s ∈ Finset.range 13, part5 m c q s = ∑ r : Fin 8320, dn m c r q * (row (hin m c) r q * scale (row (hin m c) r)) := by
  rw [Finset.sum_range]
  refine Eq.trans ?_ (Fin.sum_univ_tiles 13 640 (by decide) fun r : Fin 8320 => dn m c r q * (row (hin m c) r q * scale (row (hin m c) r))).symm
  refine Finset.sum_congr rfl fun s _ => Finset.sum_congr rfl fun k _ => ?_
  have hs : ∀ h, at' s.val k = ⟨s.val * 640 + k.val, h⟩ := fun h => Fin.ext (by
    show s.val % 13 * 640 + k.val = s.val * 640 + k.val
    rw [Nat.mod_eq_of_lt s.isLt])
  rw [hs]

theorem at5 : ∀ t : Fin cfg0.N, win0_5.index t 0 * win0_5.size 0 = 0 ∧ win0_5.index t 1 * win0_5.size 1 = 0
    ∧ win0_5.xsize (grid0.coords t) 0 = 1 ∧ win0_5.xsize (grid0.coords t) 1 = 1024 :=
  (by decide +kernel : ∀ t : Fin grid0.N, win0_5.index t 0 * win0_5.size 0 = 0 ∧ win0_5.index t 1 * win0_5.size 1 = 0
    ∧ win0_5.xsize (grid0.coords t) 0 = 1 ∧ win0_5.xsize (grid0.coords t) 1 = 1024)

theorem emb5 (t : Fin cfg0.N) (k : Fin 1024) : (win0_5.blk t).view.emb (ix2 0 k) = (ix2 0 k : S1x1024.Idx) := by
  funext a
  apply Fin.ext
  match a with
  | ⟨0, _⟩ =>
    show win0_5.index t 0 * win0_5.size 0 + 1 * 0 = 0
    rw [(at5 t).1]
  | ⟨1, _⟩ =>
    show win0_5.index t 1 * win0_5.size 1 + 1 * k.val = k.val
    rw [(at5 t).2.1]; omega

theorem flushed5 (c : Dev nD) (t : Fin cfg0.N) (hf : (cfg0.win 5).flush t = true) :
    (dats m 0 c).flushed 5 t = (win0_5.blk t).view.read (Elt Ideal) (G5 m c) := by
  have hN : cfg0.N = 13 := N_0
  have hl : t.val = 12 := by have := (flush0_5 t).mp hf; have := t.isLt; omega
  rw [Value.flushed5]
  have hx : ∀ k, (outsAt0 m c t.val t.isLt).2.2 (ix2 0 k) = G5 m c (ix2 0 k) := fun k =>
    ((folds5 m c k t.val t.isLt).trans (congrArg (fun n => ∑ s ∈ Finset.range (n + 1), part5 m c k s) hl)).trans (total5 m c k)
  revert hx
  generalize (outsAt0 m c t.val t.isLt).2.2 = X
  generalize G5 m c = G
  intro hx
  funext y
  obtain ⟨k, rfl⟩ : ∃ k : Fin 1024, y = ix2 0 k := ⟨y 1, (eq_ix2 y).trans (congrArg (fun z => ix2 z (y 1)) (Subsingleton.elim (α := Fin 1) _ _))⟩
  show X (ix2 0 k) = G ((win0_5.blk t).view.emb (ix2 0 k))
  rw [emb5 t k]
  exact hx k

theorem cover5 (i : S1x1024.Idx) :
    ∃ t : Fin cfg0.N, (cfg0.win 5).flush t = true ∧ i ∈ ((cfg0.win 5).blk t).view.set := by
  have hN : cfg0.N = 13 := N_0
  have h0 : (i 0 : Nat) < 1 := (i 0).isLt
  have h1 : (i 1 : Nat) < 1024 := (i 1).isLt
  have ht : 12 < cfg0.N := by omega
  refine ⟨⟨12, ht⟩, (flush0_5 _).mpr rfl, ?_⟩
  show i ∈ ((View.whole main_v0_2).slice (win0_5.rect ⟨12, ht⟩)).set
  rw [View.set_slice_whole, Rect.mem_set_unit]
  have e := at5 ⟨12, ht⟩
  intro a
  match a with
  | ⟨0, _⟩ => show win0_5.index _ 0 * win0_5.size 0 ≤ (i 0 : Nat) ∧ (i 0 : Nat) < win0_5.index _ 0 * win0_5.size 0 + win0_5.xsize _ 0
              rw [e.1, e.2.2.1]; omega
  | ⟨1, _⟩ => show win0_5.index _ 1 * win0_5.size 1 ≤ (i 1 : Nat) ∧ (i 1 : Nat) < win0_5.index _ 1 * win0_5.size 1 + win0_5.xsize _ 1
              rw [e.2.1, e.2.2.2]; omega

theorem final5 (c : Dev nD) : (dats m 0 c).arrAt 5 cfg0.N = G5 m c :=
  (dats m 0 c).arrAt_eq_of_cover 5 (G5 m c) (fun t hf => flushed5 m c t hf) cover5

theorem derr_eq (r : ℕ) (x g y : Fin 1024 → EReal) (k : Fin 1024) :
    derr r x g y k = if 16 ≤ r ∧ r < 8208 then (x k * scale x * g k - y k) * Ideal.ofBits .f32 0x3A800000#32 else 0 := by
  unfold derr err
  split
  · rfl
  · exact zero_mul _

/-- The kernel's sum of halves over the rows is the half of the sum over the sequence. -/
theorem loss_eq (c : Dev nD) : G4 m c (ix2 0 0)
    = Ideal.ofBits .f32 0x3F000000#32 * ∑ r : Fin 8192, Ideal.div (∑ k, (row (hin m c) ⟨16 + r.val, by have := r.isLt; omega⟩ k * scale (row (hin m c) ⟨16 + r.val, by have := r.isLt; omega⟩) * row (gn m c) 0 k - row (tgt m c) ⟨16 + r.val, by have := r.isLt; omega⟩ k)
        * (row (hin m c) ⟨16 + r.val, by have := r.isLt; omega⟩ k * scale (row (hin m c) ⟨16 + r.val, by have := r.isLt; omega⟩) * row (gn m c) 0 k - row (tgt m c) ⟨16 + r.val, by have := r.isLt; omega⟩ k)) (Ideal.ofBits .f32 0x44800000#32) := by
  refine (half_sum Finset.univ (ms m c)).trans (congrArg _ ?_)
  have hf : ∀ r : Fin 8320, ms m c r = (fun n : ℕ => if h : n < 8320 then ms m c ⟨n, h⟩ else 0) r.val := fun r => by
    show ms m c r = if h : r.val < 8320 then ms m c ⟨r.val, h⟩ else 0
    rw [dif_pos r.isLt]
  refine (Finset.sum_congr rfl fun r _ => hf r).trans ((sum_rows (fun n => if h : n < 8320 then ms m c ⟨n, h⟩ else 0) ?_).trans ?_)
  rotate_left
  · refine Finset.sum_congr rfl fun r _ => ?_
    have hr := r.isLt
    have hm : 16 ≤ 16 + r.val ∧ 16 + r.val < 8208 := ⟨by omega, by omega⟩
    refine (dif_pos (by omega : 16 + r.val < 8320)).trans ?_
    have he : ∀ x g y k, err (16 + r.val) x g y k = x k * scale x * g k - y k := fun x g y k => if_pos hm
    show sq (16 + r.val) _ _ _ = _
    simp only [sq, he]
  · intro r hr
    by_cases h : r < 8320
    · exact (dif_pos h).trans (sq_out r hr _ _ _)
    · exact dif_neg h

theorem run : θ_run defs (onTc (τ := τ) (main (F := Ideal))) ⟨m, fun _ => 0, g⟩ fun r => ∀ c : Dev nD,
      r.2.mem ((c : Thread nD τ).loc main_v0_0) = G3 m c
      ∧ r.2.mem ((c : Thread nD τ).loc main_v0_1) = G4 m c
      ∧ r.2.mem ((c : Thread nD τ).loc main_v0_2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h3, h4, h5, hk⟩ := h c
    exact ⟨h3.trans (final3 m c), h4.trans (final4 m c), h5.trans (final5 m c), hk⟩)
    (Value.run_blocks m g)

theorem frame_ideal : Cert.quiescent_LossIdeal := fun m g _ => Gen.frame m g

theorem frame : Cert.quiescent_Loss := fun m g _ => Cert.Loss.Gen.frame m g

theorem frame_ref : Cert.quiescent_LossRefIdeal := fun m g _ =>
  (θ_run Cert.LossRefIdeal.defs _ _).mono
    (fun r h => ⟨fun c => (h c).2.2.2, sem_eq_zero_of_no_sems (by decide) r.2⟩) (Cert.LossRefIdeal.Value.run m g)

theorem algebraic : Cert.algebraic_LossIdeal_LossRefIdeal := by
  intro m g m' g' _ hm
  refine ⟨fun c => G3 m c, fun c => G4 m c, fun c => G5 m c,
    (θ_run defs _ _).mono (fun r h c => ⟨(h c).1, (h c).2.1, (h c).2.2.1, (h c).2.2.2⟩) (run m g),
    (θ_run Cert.LossRefIdeal.defs _ _).mono (fun r h c => ?_) (Cert.LossRefIdeal.Value.run m' g')⟩
  obtain ⟨h3, h4, h5, hk⟩ := h c
  obtain ⟨a0, a1, a2⟩ := hm c
  refine ⟨h3.trans ?_, h4.trans ?_, h5.trans ?_, hk⟩
  · unfold Cert.LossRefIdeal.Value.res_main_v41
    rw [a0, a1, a2]
    clear hm h hk h3 h4 h5
    funext i
    obtain ⟨r, k, rfl⟩ : ∃ r k, i = ix2 r k := ⟨i 0, i 1, eq_ix2 i⟩
    show _ = G3 m c (ix2 r k)
    generalize hG : G3 m c (ix2 r k) = Z
    simp only [pointwise, zero_add, reduceDIte, Nat.reduceEqDiff, OfNat.ofNat_ne_one, Matrix.cons_val_zero, Matrix.cons_val_one, id_eq]
    rw [← hG]
    show _ = back (row (hin m c) r) (row (gn m c) 0) (dn m c r) k
    by_cases h : 16 ≤ r.val ∧ r.val < 8208
    · simp only [mask_eq _ r.isLt, if_pos h, Rows.back, scale, derr_eq]
    · simp only [mask_eq _ r.isLt, if_neg h, Rows.back, scale, derr_eq, zero_mul]
  · rw [a0, a1, a2]
    clear hm h hk h3 h4 h5
    funext i
    obtain ⟨r, k, rfl⟩ : ∃ r k, i = ix2 r k := ⟨i 0, i 1, eq_ix2 i⟩
    show _ = G4 m c (ix2 r k)
    obtain rfl : r = 0 := Subsingleton.elim _ _
    obtain rfl : k = 0 := Subsingleton.elim _ _
    rw [loss_eq]
    simp only [pointwise, zero_add, scale, reduceDIte, Nat.reduceEqDiff, OfNat.ofNat_ne_one, Matrix.cons_val_zero, Matrix.cons_val_one, id_eq]
  · rw [a0, a1, a2]
    clear hm h hk h3 h4 h5
    funext i
    obtain ⟨r, k, rfl⟩ : ∃ r k, i = ix2 r k := ⟨i 0, i 1, eq_ix2 i⟩
    show _ = G5 m c (ix2 r k)
    generalize hG : G5 m c (ix2 r k) = Z
    simp only [pointwise, zero_add, reduceDIte, Nat.reduceEqDiff, OfNat.ofNat_ne_one, Matrix.cons_val_zero, Matrix.cons_val_one, id_eq]
    rw [← hG]
    show @Eq EReal _ (∑ x : Fin 8320, dn m c x k * (row (hin m c) x k * scale (row (hin m c) x)))
    refine Finset.sum_congr rfl fun x _ => ?_
    refine (mask_eq x.val x.isLt _ _).trans ?_
    refine Eq.trans ?_ (congrArg (· * _) (derr_eq _ _ _ _ _).symm)
    by_cases h : 16 ≤ x.val ∧ x.val < 8208
    · rw [if_pos h, if_pos h]
      rfl
    · rw [if_neg h, if_neg h, zero_mul]

end Cert.LossClaim

end
-- ==== Proof.Taps.lean ====
/-
Rows read from earlier rows: a tile behind the rows before it turned down, and a running sum.
-/
module

public import Idealize.ShloMosaic.Lib.Pipeline.Value
public import Idealize.ShloMosaic.Lib.Pointwise
public import Idealize.ShloMosaic.Lib.KernelVsHost
public import Idealize.ShloMosaic.Lib.Routing.OpsOne

@[expose] public section

noncomputable section

namespace Cert.Taps

open Idealize.ShloMosaic

abbrev A672 : Shape := ⟨2, ![672, 256]⟩
abbrev A640 : Shape := ⟨2, ![640, 256]⟩
abbrev A32 : Shape := ⟨2, ![32, 256]⟩

/-- The tile whose row `r` is row `r - k` of the tile that follows the first 32 rows. -/
def shifted (X : A672.Idx → EReal) (k : ℕ) : A640.Idx → EReal :=
  fun y => X (ix2 ⟨(32 + (y 0).val - k) % 672, Nat.mod_lt _ (by decide)⟩ (y 1))

theorem turned (X : A672.Idx → EReal) (k : ℕ) (hk : k ≤ 32) (hr : A672.Rotates 0 none) (hs : A672.Slices ![32, 0] A640) :
    extractStridedSlice A640 ![32, 0] (dynamicRotate 0 (BitVec.ofNat 32 k) none X hr) hs = shifted X k := by
  funext y
  have h0 : (y 0).val < 640 := (y 0).isLt
  refine dynamicRotate_apply 0 _ X hr _ _ (fun b => ?_)
  have e : (BitVec.ofNat 32 k).toNat = k := by rw [BitVec.toNat_ofNat]; omega
  match b with
  | ⟨0, _⟩ =>
    refine Eq.trans ?_ (if_pos rfl).symm
    show (32 + (y 0).val - k) % 672 = (32 + (y 0).val + 672 - (BitVec.ofNat 32 k).toNat % 672) % 672
    rw [e]
    omega
  | ⟨1, _⟩ =>
    refine Eq.trans ?_ (if_neg fun h => absurd (congrArg Fin.val h) (by decide : ¬ (1 : ℕ) = 0)).symm
    show (y 1).val = 0 + (y 1).val
    omega

theorem turned0 (X : A672.Idx → EReal) (hs : A672.Slices ![32, 0] A640) :
    extractStridedSlice A640 ![32, 0] X hs = shifted X 0 := by
  funext y
  have h0 : (y 0).val < 640 := (y 0).isLt
  refine congrArg X (funext fun b => Fin.ext ?_)
  match b with
  | ⟨0, _⟩ =>
    show 32 + (y 0).val = (32 + (y 0).val - 0) % 672
    omega
  | ⟨1, _⟩ =>
    show 0 + (y 1).val = (y 1).val
    omega

/-- Column `q` of `k` rows before row `r`, zero before the first. -/
def past (f : Fin 8320 → Fin 256 → EReal) (r : Fin 8320) (k : ℕ) (q : Fin 256) : EReal :=
  if k ≤ r.val then f ⟨r.val - k, by omega⟩ q else 0

/-- The tile of rows, behind the 32 rows before it, turned down by `k`. -/
theorem shifted_apply (H : A32.Idx → EReal) (T : A640.Idx → EReal) (hc : Shape.Concatenates [A32, A640] A672 0)
    (f : Fin 8320 → Fin 256 → EReal) (t : ℕ) (ht : t < 13)
    (hT : ∀ (i : Fin 640) q, T (ix2 i q) = f ⟨t * 640 + i.val, by omega⟩ q)
    (hH : ∀ (i : Fin 32) q, H (ix2 i q) = if h : 0 < t then f ⟨t * 640 + i.val - 32, by omega⟩ q else 0)
    (k : ℕ) (hk : k ≤ 32) (i : Fin 640) (q : Fin 256) (r : Fin 8320) (h : r.val = t * 640 + i.val) :
    shifted (concatenate A672 0 [⟨A32, H⟩, ⟨A640, T⟩] hc) k (ix2 i q) = past f r k q := by
  have hi := i.isLt
  by_cases hki : k ≤ i.val
  · refine (concatenate_pair_apply_right (s₁ := A32) (s₂ := A640) (t := A672) 0 H T hc _ rfl rfl (ix2 ⟨i.val - k, by omega⟩ q : A640.Idx) (fun b hb => ?_) ?_).trans ?_
    · match b with
      | ⟨0, _⟩ => exact absurd rfl hb
      | ⟨1, _⟩ => rfl
    · show i.val - k + 32 = (32 + i.val - k) % 672
      omega
    · rw [hT, past, if_pos (by omega)]
      congr 1
      apply Fin.ext
      show t * 640 + (i.val - k) = r.val - k
      omega
  · refine (concatenate_pair_apply_left (s₁ := A32) (s₂ := A640) (t := A672) 0 H T hc _ rfl (ix2 ⟨32 + i.val - k, by omega⟩ q : A32.Idx) (fun b => ?_)).trans ?_
    · match b with
      | ⟨0, _⟩ =>
        show 32 + i.val - k = (32 + i.val - k) % 672
        omega
      | ⟨1, _⟩ => rfl
    · rw [hH, past]
      by_cases h0 : 0 < t
      · rw [dif_pos h0, if_pos (by omega)]
        congr 1
        apply Fin.ext
        show t * 640 + (32 + i.val - k) - 32 = r.val - k
        omega
      · rw [dif_neg h0, if_neg (by omega)]

/-- Adding a list up. -/
theorem foldl_add {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

/-- The window that ends at row `j` holds the rows up to `j`. -/
theorem window (f : ℕ → EReal) (N j : ℕ) (hj : j ≤ N) :
    ∑ w ∈ Finset.range (N + 1), (if N ≤ j + w then f (j + w - N) else 0) = ∑ i ∈ Finset.range (j + 1), f i := by
  rw [show N + 1 = (N - j) + (j + 1) by omega, Finset.sum_range_add]
  rw [Finset.sum_eq_zero (fun w hw => if_neg (by have := Finset.mem_range.mp hw; omega)), zero_add]
  refine Finset.sum_congr rfl fun i _ => ?_
  rw [if_pos (by omega)]
  congr 1
  omega

abbrev A128 : Shape := ⟨2, ![8320, 128]⟩
abbrev A0 : Shape := ⟨0, ![]⟩

/-- The running sum down the rows. -/
theorem cumsum (x : A128.Idx → EReal) (f : ℕ → Fin 128 → EReal) (hx : ∀ (i : Fin 8320) q, x (ix2 i q) = f i.val q)
    (init : A0.Idx → EReal) (hinit : ∀ i, init i = 0)
    (h : A128.ReduceWindows (![8320, 1] : Fin 2 → Nat) ![1, 1] ![8319, 0] ![0, 0] A128) (hu : 0 < A0.numel) (j : Fin 8320) (q : Fin 128) :
    Host.reduceWindowAdd (F := Ideal) (φ := .f32) ![8320, 1] ![1, 1] ![8319, 0] ![0, 0] x init h hu (ix2 j q)
      = ∑ i ∈ Finset.range (j.val + 1), f i q := by
  have hv : init (Shape.Idx.first hu) = 0 := hinit _
  have hj := j.isLt
  refine Eq.trans ?_ (window (fun i => f i q) 8319 j.val (by omega))
  unfold Host.reduceWindowAdd
  rw [Ideal.hostReduceWindowAdd_def]
  unfold Ideal.hostReduceWindowAdd Host.reduceWindow
  rw [hv]
  refine (foldl_add _ _ _).trans ?_
  rw [zero_add]
  refine Eq.trans (congrArg List.sum (List.map_congr_left (g := fun n => if 8319 ≤ j.val + n.val then f (j.val + n.val - 8319) q else 0) fun n _ => ?_)) ?_
  · have hw0 : ((Routing.shape2 8320 1).rowMajor.symm n 0).val = n.val := by rw [Routing.symm_col]; rfl
    have hw1 : ((Routing.shape2 8320 1).rowMajor.symm n 1).val = 0 := by rw [Routing.symm_col]; rfl
    have hn : n.val < 8320 := (n.cast (Routing.numel_col _)).isLt
    dsimp only
    split
    · next hin =>
      have h0 := hin 0
      change 8319 ≤ j.val * 1 + ((Routing.shape2 8320 1).rowMajor.symm n 0).val
        ∧ j.val * 1 + ((Routing.shape2 8320 1).rowMajor.symm n 0).val - 8319 < 8320 at h0
      rw [hw0] at h0
      rw [if_pos (by omega)]
      refine (congrArg x (funext fun a => Fin.ext ?_)).trans (hx ⟨j.val + n.val - 8319, by omega⟩ q)
      match a with
      | ⟨0, _⟩ =>
        show j.val * 1 + ((Routing.shape2 8320 1).rowMajor.symm n 0).val - 8319 = j.val + n.val - 8319
        rw [hw0, Nat.mul_one]
      | ⟨1, _⟩ =>
        show q.val * 1 + ((Routing.shape2 8320 1).rowMajor.symm n 1).val - 0 = q.val
        rw [hw1]
        omega
    · next hin =>
      rw [if_neg fun hle => hin fun a => by
        match a with
        | ⟨0, _⟩ =>
          show 8319 ≤ j.val * 1 + ((Routing.shape2 8320 1).rowMajor.symm n 0).val
            ∧ j.val * 1 + ((Routing.shape2 8320 1).rowMajor.symm n 0).val - 8319 < 8320
          rw [hw0]
          omega
        | ⟨1, _⟩ =>
          show 0 ≤ q.val * 1 + ((Routing.shape2 8320 1).rowMajor.symm n 1).val ∧ q.val * 1 + ((Routing.shape2 8320 1).rowMajor.symm n 1).val - 0 < 128
          rw [hw1]
          have := q.isLt
          omega]
  · have hM : (⟨2, ![8320, 1]⟩ : Shape).numel = 8320 := Routing.numel_col 8320
    rw [← List.ofFn_eq_map, List.sum_ofFn, Fin.sum_univ_eq_sum_range (fun w => if 8319 ≤ j.val + w then f (j.val + w - 8319) q else 0)]
    exact congrArg (fun M => ∑ w ∈ Finset.range M, if 8319 ≤ j.val + w then f (j.val + w - 8319) q else 0) hM

end Cert.Taps

end
-- ==== Proof.ConvTile.lean ====
/-
The convolution's tile, index by index.
-/
module

public import proofs.«01_k».proof.Defs
public import proofs.«01_k».proof.Proof.Taps
public import proofs.«01_k».proof.Proof.Rows
public import proofs.«01_k».proof.Proof.Gen.ConvFwdIdeal
public import proofs.«01_k».proof.Proof.Gen.ConvFwdIdeal.Skeleton
public import Idealize.ShloMosaic.Lib.Pipeline.Value
public import Idealize.ShloMosaic.Lib.Pointwise

@[expose] public section

noncomputable section

namespace Cert.ConvTile

open Idealize.ShloMosaic Idealize.ShloMosaic.TcCoe Idealize.SL.Sem
open Cert.ConvFwdIdeal Cert.ConvFwdIdeal.Gen
open Cert.Taps

/-- The logistic function. -/
def sg (x : EReal) : EReal := Ideal.div 1 (1 + Ideal.exp (-x))

/-- The row less its mean. -/
def less (d : Fin 256 → EReal) (k : Fin 256) : EReal := d k - Ideal.div (∑ j, d j) (Ideal.ofBits .f32 0x43800000#32)

/-- The row normalised, scaled and moved. -/
def ln (d γ δ : Fin 256 → EReal) (k : Fin 256) : EReal :=
  less d k * Ideal.rsqrt (Ideal.div (∑ j, less d j * less d j) (Ideal.ofBits .f32 0x43800000#32) + Ideal.ofBits .f32 0x358637BD#32) * γ k + δ k

/-- The logarithm of the logistic function. -/
def ls (x : EReal) : EReal := min x 0 - Ideal.log (1 + Ideal.exp (-max x (-x)))

/-- The convolution: the weights along the rows before, and a bias. -/
def taps (n : ℕ) (ω p : ℕ → EReal) : EReal := ∑ k ∈ Finset.range n, ω k * p (n - 1 - k)

theorem taps31 (ω p : ℕ → EReal) (β : EReal) : taps 31 ω p + β = ((((((((((((((((((((((((((((((β + ω 0 * p 30) + ω 1 * p 29) + ω 2 * p 28) + ω 3 * p 27) + ω 4 * p 26) + ω 5 * p 25) + ω 6 * p 24) + ω 7 * p 23) + ω 8 * p 22) + ω 9 * p 21) + ω 10 * p 20) + ω 11 * p 19) + ω 12 * p 18) + ω 13 * p 17) + ω 14 * p 16) + ω 15 * p 15) + ω 16 * p 14) + ω 17 * p 13) + ω 18 * p 12) + ω 19 * p 11) + ω 20 * p 10) + ω 21 * p 9) + ω 22 * p 8) + ω 23 * p 7) + ω 24 * p 6) + ω 25 * p 5) + ω 26 * p 4) + ω 27 * p 3) + ω 28 * p 2) + ω 29 * p 1) + ω 30 * p 0 := by
  rw [add_comm]
  simp only [taps, Finset.sum_range_succ, Finset.sum_range_zero, zero_add, ← add_assoc, Nat.reduceSub]

abbrev dwcTile (i : grid0.Coords) (a g : Vec Ideal S640x256 .f32) (ah gh : Vec Ideal S32x256 .f32) (b w0 w1 w2 w3 w4 w5 w6 w7 w8 w9 w10 w11 w12 w13 w14 w15 w16 w17 w18 w19 w20 w21 w22 w23 w24 w25 w26 w27 w28 w29 w30 : Vec Ideal S1x256 .f32) : FVec Ideal S640x256 .f32 :=
  k0_pay14 (k0_pay4 i a g ah gh) (k0_pay12 (k0_pay4 i a g ah gh) (k0_pay10 (k0_pay4 i a g ah gh) (k0_pay9 (k0_pay4 i a g ah gh) (k0_pay7 (k0_pay4 i a g ah gh) (k0_pay5 b) (k0_pay6 i a g ah gh w0) w1 w2 w3 w4 w5 w6) w7 (k0_pay8 (k0_pay4 i a g ah gh)) w8 w9 w10 w11 w12 w13) w14 w15 w16 w17 w18 w19) (k0_pay11 (k0_pay4 i a g ah gh) w20) w21 w22 w23 w24 w25 w26) w27 (k0_pay13 (k0_pay4 i a g ah gh)) w28 w29 w30

theorem dwc_apply (i : grid0.Coords) (a g : Vec Ideal S640x256 .f32) (ah gh : Vec Ideal S32x256 .f32) (b w0 w1 w2 w3 w4 w5 w6 w7 w8 w9 w10 w11 w12 w13 w14 w15 w16 w17 w18 w19 w20 w21 w22 w23 w24 w25 w26 w27 w28 w29 w30 : Vec Ideal S1x256 .f32)
    (r : Fin 640) (q : Fin 256) (β : EReal) (ω p : ℕ → EReal) (hb : b (ix2 0 q) = β)
    (h0 : w0 (ix2 0 q) = ω 0) (h1 : w1 (ix2 0 q) = ω 1) (h2 : w2 (ix2 0 q) = ω 2) (h3 : w3 (ix2 0 q) = ω 3) (h4 : w4 (ix2 0 q) = ω 4) (h5 : w5 (ix2 0 q) = ω 5) (h6 : w6 (ix2 0 q) = ω 6) (h7 : w7 (ix2 0 q) = ω 7) (h8 : w8 (ix2 0 q) = ω 8) (h9 : w9 (ix2 0 q) = ω 9) (h10 : w10 (ix2 0 q) = ω 10) (h11 : w11 (ix2 0 q) = ω 11) (h12 : w12 (ix2 0 q) = ω 12) (h13 : w13 (ix2 0 q) = ω 13) (h14 : w14 (ix2 0 q) = ω 14) (h15 : w15 (ix2 0 q) = ω 15) (h16 : w16 (ix2 0 q) = ω 16) (h17 : w17 (ix2 0 q) = ω 17) (h18 : w18 (ix2 0 q) = ω 18) (h19 : w19 (ix2 0 q) = ω 19) (h20 : w20 (ix2 0 q) = ω 20) (h21 : w21 (ix2 0 q) = ω 21) (h22 : w22 (ix2 0 q) = ω 22) (h23 : w23 (ix2 0 q) = ω 23) (h24 : w24 (ix2 0 q) = ω 24) (h25 : w25 (ix2 0 q) = ω 25) (h26 : w26 (ix2 0 q) = ω 26) (h27 : w27 (ix2 0 q) = ω 27) (h28 : w28 (ix2 0 q) = ω 28) (h29 : w29 (ix2 0 q) = ω 29) (h30 : w30 (ix2 0 q) = ω 30)
    (hp : ∀ k ≤ 30, shifted (k0_pay4 i a g ah gh) k (ix2 r q) = p k) :
    dwcTile i a g ah gh b w0 w1 w2 w3 w4 w5 w6 w7 w8 w9 w10 w11 w12 w13 w14 w15 w16 w17 w18 w19 w20 w21 w22 w23 w24 w25 w26 w27 w28 w29 w30 (ix2 r q) = taps 31 ω p + β := by
  rw [taps31]
  unfold dwcTile k0_pay6
  generalize k0_pay4 i a g ah gh = X at hp ⊢
  simp only [k0_pay14, k0_pay13, k0_pay12, k0_pay11, k0_pay10, k0_pay9, k0_pay8, k0_pay7, k0_pay5, turned0, turned _ 1 (by decide), turned _ 2 (by decide), turned _ 3 (by decide), turned _ 4 (by decide), turned _ 5 (by decide), turned _ 6 (by decide), turned _ 7 (by decide), turned _ 8 (by decide), turned _ 9 (by decide), turned _ 10 (by decide), turned _ 11 (by decide), turned _ 12 (by decide), turned _ 13 (by decide), turned _ 14 (by decide), turned _ 15 (by decide), turned _ 16 (by decide), turned _ 17 (by decide), turned _ 18 (by decide), turned _ 19 (by decide), turned _ 20 (by decide), turned _ 21 (by decide), turned _ 22 (by decide), turned _ 23 (by decide), turned _ 24 (by decide), turned _ 25 (by decide), turned _ 26 (by decide), turned _ 27 (by decide), turned _ 28 (by decide), turned _ 29 (by decide), turned _ 30 (by decide)]
  simp only [pointwise, zero_add, reduceDIte, Nat.reduceEqDiff, OfNat.ofNat_ne_one]
  simp only [hb, h0, h1, h2, h3, h4, h5, h6, h7, h8, h9, h10, h11, h12, h13, h14, h15, h16, h17, h18, h19, h20, h21, h22, h23, h24, h25, h26, h27, h28, h29, h30, hp 0 (by decide), hp 1 (by decide), hp 2 (by decide), hp 3 (by decide), hp 4 (by decide), hp 5 (by decide), hp 6 (by decide), hp 7 (by decide), hp 8 (by decide), hp 9 (by decide), hp 10 (by decide), hp 11 (by decide), hp 12 (by decide), hp 13 (by decide), hp 14 (by decide), hp 15 (by decide), hp 16 (by decide), hp 17 (by decide), hp 18 (by decide), hp 19 (by decide), hp 20 (by decide), hp 21 (by decide), hp 22 (by decide), hp 23 (by decide), hp 24 (by decide), hp 25 (by decide), hp 26 (by decide), hp 27 (by decide), hp 28 (by decide), hp 29 (by decide), hp 30 (by decide)]

theorem glu (i : grid0.Coords) (t : ℕ) (ht : t < 13) (hi : (i 0).val = t) (a g : Vec Ideal S640x256 .f32) (ah gh : Vec Ideal S32x256 .f32)
    (A G : Fin 8320 → Fin 256 → EReal)
    (ha : ∀ (j : Fin 640) q, a (ix2 j q) = A ⟨t * 640 + j.val, by omega⟩ q)
    (hg : ∀ (j : Fin 640) q, g (ix2 j q) = G ⟨t * 640 + j.val, by omega⟩ q)
    (hah : ∀ (h : 0 < t) (j : Fin 32) q, ah (ix2 j q) = A ⟨t * 640 + j.val - 32, by omega⟩ q)
    (hgh : ∀ (h : 0 < t) (j : Fin 32) q, gh (ix2 j q) = G ⟨t * 640 + j.val - 32, by omega⟩ q)
    (k : ℕ) (hk : k ≤ 32) (j : Fin 640) (q : Fin 256) (r : Fin 8320) (h : r.val = t * 640 + j.val) :
    shifted (k0_pay4 i a g ah gh) k (ix2 j q) = past (fun s n => A s n * sg (G s n)) r k q := by
  unfold k0_pay4
  dsimp only
  refine shifted_apply _ _ _ _ t ht (fun j q => ?_) (fun j q => ?_) k hk j q r h
  · simp only [pointwise, zero_sub, ha, hg, sg]
  · by_cases h0 : 0 < t
    · have hz : Scalar.cmpi .eq (BitVec.ofNat 32 (i 0).val) 0#32 = 0#1 := by
        rw [hi]; interval_cases t <;> first | rfl | omega
      rw [dif_pos h0, hz]
      rw [Scalar.select, if_neg (by decide)]
      simp only [pointwise, zero_sub, hah h0, hgh h0, sg]
    · have hz : Scalar.cmpi .eq (BitVec.ofNat 32 (i 0).val) 0#32 = 1#1 := by
        have : t = 0 := by omega
        rw [hi, this]; rfl
      rw [dif_neg h0, hz]
      rw [Scalar.select, if_pos (by decide)]
      simp only [pointwise]

theorem prod (v0 : BitVec 1) (t : ℕ) (ht : t < 13) (hv : v0 = if t = 0 then 1#1 else 0#1) (a g : Vec Ideal S640x256 .f32) (ah gh : Vec Ideal S32x256 .f32)
    (A G : Fin 8320 → Fin 256 → EReal)
    (ha : ∀ (j : Fin 640) q, a (ix2 j q) = A ⟨t * 640 + j.val, by omega⟩ q)
    (hg : ∀ (j : Fin 640) q, g (ix2 j q) = G ⟨t * 640 + j.val, by omega⟩ q)
    (hah : ∀ (h : 0 < t) (j : Fin 32) q, ah (ix2 j q) = A ⟨t * 640 + j.val - 32, by omega⟩ q)
    (hgh : ∀ (h : 0 < t) (j : Fin 32) q, gh (ix2 j q) = G ⟨t * 640 + j.val - 32, by omega⟩ q)
    (k : ℕ) (hk : k ≤ 32) (j : Fin 640) (q : Fin 256) (r : Fin 8320) (h : r.val = t * 640 + j.val) :
    shifted (k0_pay17 v0 a g ah gh) k (ix2 j q) = past (fun s n => A s n * G s n) r k q := by
  unfold k0_pay17
  dsimp only
  refine shifted_apply _ _ _ _ t ht (fun j q => ?_) (fun j q => ?_) k hk j q r h
  · simp only [pointwise, ha, hg]
  · by_cases h0 : 0 < t
    · rw [dif_pos h0, hv, if_neg (by omega)]
      rw [Scalar.select, if_neg (by decide)]
      simp only [pointwise, hah h0, hgh h0]
    · rw [dif_neg h0, hv, if_pos (by omega)]
      rw [Scalar.select, if_pos (by decide)]
      simp only [pointwise]

abbrev cvTile (v0 : BitVec 1) (a g : Vec Ideal S640x256 .f32) (ah gh : Vec Ideal S32x256 .f32) (w0 w1 w2 : Vec Ideal S1x256 .f32) : FVec Ideal S640x256 .f32 :=
  k0_pay20 (k0_pay17 v0 a g ah gh) (k0_pay18 v0 a g ah gh w0) w1 (k0_pay19 v0 a g ah gh) w2

theorem cv_apply (v0 : BitVec 1) (a g : Vec Ideal S640x256 .f32) (ah gh : Vec Ideal S32x256 .f32) (w0 w1 w2 : Vec Ideal S1x256 .f32)
    (r : Fin 640) (q : Fin 256) (ω p : ℕ → EReal) (h0 : w0 (ix2 0 q) = ω 0) (h1 : w1 (ix2 0 q) = ω 1) (h2 : w2 (ix2 0 q) = ω 2)
    (hp : ∀ k ≤ 2, shifted (k0_pay17 v0 a g ah gh) k (ix2 r q) = p k) :
    cvTile v0 a g ah gh w0 w1 w2 (ix2 r q) = taps 3 ω p := by
  unfold cvTile k0_pay18 k0_pay19
  generalize k0_pay17 v0 a g ah gh = X at hp ⊢
  simp only [k0_pay20, turned0, turned _ 1 (by decide), turned _ 2 (by decide)]
  simp only [pointwise, reduceDIte, Nat.reduceEqDiff, OfNat.ofNat_ne_one, zero_add, h0, h1, h2, hp 0 (by decide), hp 1 (by decide), hp 2 (by decide), taps, Finset.sum_range_succ, Finset.sum_range_zero, Nat.reduceSub]

theorem pay15 (v25 : FVec Ideal S672x256 .f32) (v191 : FVec Ideal S640x256 .f32) (v192 : Vec Ideal S1x256 .f32) (v193 : FVec Ideal S672x256 .f32)
    (v198 v204 v210 v232 : Vec Ideal S1x256 .f32) (r : Fin 640) (q : Fin 256) (d γ : Fin 256 → EReal)
    (hd : ∀ k, k0_pay14 v25 v191 v192 v193 v198 v204 v210 (ix2 r k) = d k) (hγ : v232 (ix2 0 q) = γ q) :
    k0_pay15 v25 v191 v192 v193 v198 v204 v210 v232 (ix2 r q)
      = less d q * Ideal.rsqrt (Ideal.div (∑ j, less d j * less d j) (Ideal.ofBits .f32 0x43800000#32) + Ideal.ofBits .f32 0x358637BD#32) * γ q := by
  unfold k0_pay15
  generalize k0_pay14 v25 v191 v192 v193 v198 v204 v210 = D at hd ⊢
  simp only [pointwise, reduceDIte, Nat.reduceEqDiff, OfNat.ofNat_ne_one, hd, hγ, less]

theorem pay16 (v234 : FVec Ideal S640x256 .f32) (v235 : Vec Ideal S1x256 .f32) (v247 : Vec Ideal S256x256 .bf16) (v249 : Vec Ideal S1x256 .f32)
    (r : Fin 640) (q : Fin 256) (y : Fin 256 → EReal) (w : Fin 256 → Fin 256 → EReal) (β : EReal)
    (hy : ∀ k, v234 (ix2 r k) + v235 (ix2 0 k) = y k) (hw : ∀ k, v247 (ix2 k q) = w k q) (hb : v249 (ix2 0 q) = β) :
    k0_pay16 v234 v235 v247 v249 (ix2 r q) = ∑ k, y k * sg (y k) * w k q + β := by
  simp only [k0_pay16, pointwise, reduceDIte, Nat.reduceEqDiff, OfNat.ofNat_ne_one, zero_add, zero_sub, hy, hw, hb, sg]

theorem pay21 (v : FVec Ideal S640x256 .f32) (y : S640x256.Idx) : k0_pay21 v y = v y := by
  simp only [k0_pay21, pointwise]

theorem pay22 (v260 : FVec Ideal S672x256 .f32) (v267 : FVec Ideal S640x256 .f32) (v268 : Vec Ideal S1x256 .f32) (v269 : FVec Ideal S672x256 .f32)
    (v274 : Vec Ideal S1x256 .f32) (v282 : Vec Ideal S640x256 .f32) (y : S640x256.Idx) :
    k0_pay22 v260 v267 v268 v269 v274 v282 y = v282 y * k0_pay20 v260 v267 v268 v269 v274 y := by
  unfold k0_pay22
  generalize k0_pay20 v260 v267 v268 v269 v274 = Z
  simp only [pointwise]

theorem pay3 (y : S8x128.Idx) : (k0_pay3 (F := Ideal)) y = 0 := by
  simp only [k0_pay3, pointwise]

theorem pay1 (v305 : FVec Ideal S640x128 .f32) (v306 : Vec Ideal S1x128 .f32) (r : Fin 640) (q : Fin 128) :
    k0_pay1 v305 v306 (ix2 r q) = v305 (ix2 r q) + v306 (ix2 0 q) := by
  simp only [k0_pay1, pointwise, reduceDIte, Nat.reduceEqDiff, OfNat.ofNat_ne_one]

theorem pay2 (v305 : FVec Ideal S640x128 .f32) (v306 : Vec Ideal S1x128 .f32) (q : Fin 128) :
    k0_pay2 v305 v306 (ix2 0 q) = v305 (ix2 639 q) + v306 (ix2 0 q) := by
  simp only [k0_pay2, pointwise]
  rw [← pay1]
  exact congrArg _ (funext fun a => Fin.ext (match a with
    | ⟨0, _⟩ => rfl
    | ⟨1, _⟩ => by show _ = q.val; simp))

theorem mask (r k : ℕ) (hr : r < 640) (hk : k < 640) :
    (FloatOps.sitofp .f32 (BitVec.setWidth 32 (IntOp.cmpi .sge (BitVec.ofNat 32 r) (BitVec.ofNat 32 k))) : Ideal .f32) = if k ≤ r then (1 : EReal) else 0 := by
  have e : IntOp.cmpi .sge (BitVec.ofNat 32 r) (BitVec.ofNat 32 k) = BitVec.ofBool (decide (k ≤ r)) := by
    show BitVec.ofBool ((BitVec.ofNat 32 k).sle (BitVec.ofNat 32 r)) = _
    congr 1
    rw [BitVec.sle_eq_decide, BitVec.toInt_ofNat', BitVec.toInt_ofNat']
    refine decide_eq_decide.mpr ?_
    simp only [Int.bmod]
    omega
  rw [e]
  by_cases h : k ≤ r
  · rw [if_pos h, decide_eq_true h]
    show (((BitVec.setWidth 32 (BitVec.ofBool true)).toInt : ℝ) : EReal) = 1
    have : (BitVec.setWidth 32 (BitVec.ofBool true)).toInt = 1 := by decide
    rw [this]; simp
  · rw [if_neg h, decide_eq_false h]
    show (((BitVec.setWidth 32 (BitVec.ofBool false)).toInt : ℝ) : EReal) = 0
    have : (BitVec.setWidth 32 (BitVec.ofBool false)).toInt = 0 := by decide
    rw [this]; simp

theorem pay23 (v286 : Vec Ideal S640x128 .f32) (v287 : Vec Ideal S1x128 .f32) (r : Fin 640) (q : Fin 128) (L : ℕ → EReal)
    (hL : ∀ j : Fin 640, ls (v286 (ix2 j q) + v287 (ix2 0 q)) = L j.val) :
    k0_pay23 v286 v287 (ix2 r q) = ∑ j ∈ Finset.range (r.val + 1), L j := by
  have hr := r.isLt
  have split : ∀ n < 640, ∑ j ∈ Finset.range 640, (if j ≤ n then L j else 0) = ∑ j ∈ Finset.range (n + 1), L j := by
    intro n hn
    rw [show 640 = (n + 1) + (639 - n) by omega, Finset.sum_range_add]
    rw [Finset.sum_congr rfl (fun j hj => if_pos (by have := Finset.mem_range.mp hj; omega)),
      Finset.sum_eq_zero (fun j _ => if_neg (by omega)), add_zero]
  rw [← split r.val hr, Finset.sum_range]
  simp only [k0_pay23, pointwise, reduceDIte, Nat.reduceEqDiff, OfNat.ofNat_ne_one, zero_add, zero_sub]
  refine Finset.sum_congr rfl fun k _ => ?_
  have e0 : List.foldl (fun n a => n * (![640, 640] : Fin 2 → ℕ) a + ((ix2 r k : S640x640.Idx) a).val) 0 [0] = r.val := by
    show 0 * 640 + r.val = r.val; omega
  have e1 : List.foldl (fun n a => n * (![640, 640] : Fin 2 → ℕ) a + ((ix2 r k : S640x640.Idx) a).val) 0 [1] = k.val := by
    show 0 * 640 + k.val = k.val; omega
  refine (congrArg₂ (· * ·) ((congrArg₂ (fun a b => (FloatOps.sitofp .f32 (BitVec.setWidth 32 (IntOp.cmpi .sge (BitVec.ofNat 32 a) (BitVec.ofNat 32 b))) : Ideal .f32)) e0 e1).trans
    (mask r.val k.val hr k.isLt)) (hL k)).trans ?_
  show (if k.val ≤ r.val then (1 : EReal) else 0) * L k.val = _
  split_ifs
  · rw [one_mul]
  · rw [zero_mul]

end Cert.ConvTile

end
-- ==== Proof.ConvFwdVal.lean ====
/-
What the convolution's call leaves in its arrays, block by block.
-/
module

public import proofs.«01_k».proof.Proof.Gen.ConvFwdIdeal.Frame
public import Idealize.ShloMosaic.Lib.Pipeline.Value

@[expose] public section

noncomputable section

namespace Cert.ConvFwdVal

open Cert.ConvFwdIdeal Cert.ConvFwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed14 (c : Dev nD) (t : Fin cfg0.N) :
    (dats m 0 c).flushed 14 t = (cfg0.win 14).cut (grid0.coords t) ((outsAt0 m c t.val t.isLt).1) := by
  show (cfg0.win 14).cut (grid0.coords t) ((dats m 0 c).after 14 t) = _
  rw [after0_14]

theorem flushed15 (c : Dev nD) (t : Fin cfg0.N) :
    (dats m 0 c).flushed 15 t = (cfg0.win 15).cut (grid0.coords t) ((outsAt0 m c t.val t.isLt).2.1) := by
  show (cfg0.win 15).cut (grid0.coords t) ((dats m 0 c).after 15 t) = _
  rw [after0_15]

theorem flushed16 (c : Dev nD) (t : Fin cfg0.N) :
    (dats m 0 c).flushed 16 t = (cfg0.win 16).cut (grid0.coords t) ((outsAt0 m c t.val t.isLt).2.2.1) := by
  show (cfg0.win 16).cut (grid0.coords t) ((dats m 0 c).after 16 t) = _
  rw [after0_16]

theorem flushed17 (c : Dev nD) (t : Fin cfg0.N) :
    (dats m 0 c).flushed 17 t = (cfg0.win 17).cut (grid0.coords t) ((outsAt0 m c t.val t.isLt).2.2.2.1) := by
  show (cfg0.win 17).cut (grid0.coords t) ((dats m 0 c).after 17 t) = _
  rw [after0_17]

theorem post14 (r : PUnit × MemSt nD τ sig (Elt F)) (h : Pipeline.FramePost cfgs (dats m) 0 (V m) r) (c : Dev nD) :
    r.2.mem ((c : Thread nD τ).loc main_v0_0) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v0_1) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v0_2) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v0_3) = (dats m 0 c).arrAt 17 cfg0.N :=
  (h c).1 17

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 9).trans (((dats m 0 c).arrAt_in 9 rfl _).trans ((A_eq m c 9).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 10).trans (((dats m 0 c).arrAt_in 10 rfl _).trans ((A_eq m c 10).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 11).trans (((dats m 0 c).arrAt_in 11 rfl _).trans ((A_eq m c 11).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 12).trans (((dats m 0 c).arrAt_in 12 rfl _).trans ((A_eq m c 12).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 13).trans (((dats m 0 c).arrAt_in 13 rfl _).trans ((A_eq m c 13).trans (V_main_arg4 m c)))

theorem run_blocks : θ_run defs (onTc (τ := τ) (main (F := F))) ⟨m, fun _ => 0, ρ⟩ fun r => ∀ c : Dev nD,
      r.2.mem ((c : Thread nD τ).loc main_v0_0) = (dats m 0 c).arrAt 14 cfg0.N
      ∧ r.2.mem ((c : Thread nD τ).loc main_v0_1) = (dats m 0 c).arrAt 15 cfg0.N
      ∧ r.2.mem ((c : Thread nD τ).loc main_v0_2) = (dats m 0 c).arrAt 16 cfg0.N
      ∧ r.2.mem ((c : Thread nD τ).loc main_v0_3) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post14 m r h c,
      post15 m r h c,
      post16 m r h c,
      post17 m r h c,
      kept_main_arg0 m r h c,
      kept_main_arg1 m r h c,
      kept_main_arg2 m r h c,
      kept_main_arg3 m r h c,
      kept_main_arg4 m r h c⟩)
    (run_main m ρ)

end Cert.ConvFwdVal

end
-- ==== Proof.ConvFwdRef.lean ====
/-
What the plain convolutions and running sum compute, row by row.
-/
module

public import proofs.«01_k».proof.Defs
public import proofs.«01_k».proof.Proof.Rows
public import proofs.«01_k».proof.Proof.ConvTile
public import proofs.«01_k».proof.Proof.Gen.ConvFwdRefIdeal
public import proofs.«01_k».proof.Proof.Gen.ConvFwdRefIdeal.Run
public import Idealize.ShloMosaic.Lib.Pointwise

@[expose] public section

noncomputable section

namespace Cert.ConvFwdRef

open Idealize.ShloMosaic Idealize.ShloMosaic.TcCoe Idealize.SL.Sem
open Cert.ConvFwdRefIdeal Cert.ConvFwdRefIdeal.Gen Cert.ConvFwdRefIdeal.Value
open Cert.Rows Cert.Taps Cert.ConvTile

theorem padded30 (x : S8320x256.Idx → EReal) (v : S_.Idx → EReal) (hv : ∀ i, v i = 0) (h) (hu) (f : Fin 8320 → Fin 256 → EReal)
    (hx : ∀ s n, x (ix2 s n) = f s n) (r : Fin 8320) (q : Fin 256) (j : ℕ) (hj : j ≤ 30) (hs) :
    extractStridedSlice S8320x256 ![j, 0] (pad S8350x256 ![30, 0] ![0, 0] ![0, 0] x v h hu) hs (ix2 r q) = past f r (30 - j) q := by
  have hr := r.isLt
  have e : extractStridedSlice S8320x256 ![j, 0] (pad S8350x256 ![30, 0] ![0, 0] ![0, 0] x v h hu) hs (ix2 r q)
      = pad S8350x256 ![30, 0] ![0, 0] ![0, 0] x v h hu (ix2 ⟨j + r.val, by omega⟩ q : S8350x256.Idx) := by
    refine congrArg (pad S8350x256 ![30, 0] ![0, 0] ![0, 0] x v h hu) (funext fun a => Fin.ext ?_)
    match a with
    | ⟨0, _⟩ => rfl
    | ⟨1, _⟩ => show 0 + q.val = q.val; omega
  rw [e, past]
  by_cases hk : 30 - j ≤ r.val
  · rw [if_pos hk, ← hx]
    refine pad_apply_of_inside _ _ _ x v h hu _ _ (fun a => ?_)
    match a with
    | ⟨0, _⟩ => show j + r.val = 30 + (r.val - (30 - j)) * (0 + 1); omega
    | ⟨1, _⟩ => show q.val = 0 + q.val * (0 + 1); omega
  · rw [if_neg hk]
    refine (pad_apply_of_not_inside _ _ _ x v h hu _ (0 : Fin 2) (fun hh => ?_)).trans (hv _)
    have : 30 ≤ j + r.val := hh.1
    omega

theorem padded2 (x : S8320x256.Idx → EReal) (v : S_.Idx → EReal) (hv : ∀ i, v i = 0) (h) (hu) (f : Fin 8320 → Fin 256 → EReal)
    (hx : ∀ s n, x (ix2 s n) = f s n) (r : Fin 8320) (q : Fin 256) (j : ℕ) (hj : j ≤ 2) (hs) :
    extractStridedSlice S8320x256 ![j, 0] (pad S8322x256 ![2, 0] ![0, 0] ![0, 0] x v h hu) hs (ix2 r q) = past f r (2 - j) q := by
  have hr := r.isLt
  have e : extractStridedSlice S8320x256 ![j, 0] (pad S8322x256 ![2, 0] ![0, 0] ![0, 0] x v h hu) hs (ix2 r q)
      = pad S8322x256 ![2, 0] ![0, 0] ![0, 0] x v h hu (ix2 ⟨j + r.val, by omega⟩ q : S8322x256.Idx) := by
    refine congrArg (pad S8322x256 ![2, 0] ![0, 0] ![0, 0] x v h hu) (funext fun a => Fin.ext ?_)
    match a with
    | ⟨0, _⟩ => rfl
    | ⟨1, _⟩ => show 0 + q.val = q.val; omega
  rw [e, past]
  by_cases hk : 2 - j ≤ r.val
  · rw [if_pos hk, ← hx]
    refine pad_apply_of_inside _ _ _ x v h hu _ _ (fun a => ?_)
    match a with
    | ⟨0, _⟩ => show j + r.val = 2 + (r.val - (2 - j)) * (0 + 1); omega
    | ⟨1, _⟩ => show q.val = 0 + q.val * (0 + 1); omega
  · rw [if_neg hk]
    refine (pad_apply_of_not_inside _ _ _ x v h hu _ (0 : Fin 2) (fun hh => ?_)).trans (hv _)
    have : 2 ≤ j + r.val := hh.1
    omega

theorem wrow32 (W : S32x256.Idx → EReal) (k : ℕ) (hk : k < 32) (hs : S32x256.Slices ![k, 0] S1x256) (hc h1 h2) (r : Fin 8320) (q : Fin 256) :
    broadcastInDim S8320x256 ![0, 1] h2 (broadcastInDim S1x256 ![1] h1 (shapeCast S256 (extractStridedSlice S1x256 ![k, 0] W hs) hc)) (ix2 r q)
      = W (ix2 ⟨k % 32, Nat.mod_lt _ (by decide)⟩ q) := by
  simp only [pointwise, reduceDIte, Nat.reduceEqDiff, OfNat.ofNat_ne_one]
  congr 1
  funext a
  apply Fin.ext
  match a with
  | ⟨0, _⟩ => show k + 0 = k % 32; omega
  | ⟨1, _⟩ => simp

theorem wrow8 (W : S8x256.Idx → EReal) (k : ℕ) (hk : k < 8) (hs : S8x256.Slices ![k, 0] S1x256) (hc h1 h2) (r : Fin 8320) (q : Fin 256) :
    broadcastInDim S8320x256 ![0, 1] h2 (broadcastInDim S1x256 ![1] h1 (shapeCast S256 (extractStridedSlice S1x256 ![k, 0] W hs) hc)) (ix2 r q)
      = W (ix2 ⟨k % 8, Nat.mod_lt _ (by decide)⟩ q) := by
  simp only [pointwise, reduceDIte, Nat.reduceEqDiff, OfNat.ofNat_ne_one]
  congr 1
  funext a
  apply Fin.ext
  match a with
  | ⟨0, _⟩ => show k + 0 = k % 8; omega
  | ⟨1, _⟩ => simp

theorem addT (A B : FVec Ideal S8320x256 .f32) (i : S8320x256.Idx) (a b : EReal) (ha : A i = a) (hb : B i = b) : addf A B i = a + b :=
  congrArg₂ (· + ·) ha hb
theorem addS (A B : FVec Ideal S8320x256 .f32) (i : S8320x256.Idx) (n : ℕ) (f : ℕ → EReal) (ha : A i = ∑ k ∈ Finset.range n, f k) (hb : B i = f n) :
    addf A B i = ∑ k ∈ Finset.range (n + 1), f k := by
  rw [Finset.sum_range_succ]
  exact congrArg₂ (· + ·) ha hb
theorem mulT (A B : FVec Ideal S8320x256 .f32) (i : S8320x256.Idx) (a b : EReal) (ha : A i = a) (hb : B i = b) : mulf A B i = a * b :=
  congrArg₂ (· * ·) ha hb

variable (V0 : Valuation τ sig (Elt Ideal))
variable (x : S8320x1408.Idx → EReal) (w : S32x256.Idx → EReal) (v : S8x256.Idx → EReal) (wp : S256x256.Idx → EReal) (ws : S8x256.Idx → EReal)

abbrev cl (o : ℕ) (ho : o ≤ 1152) (s : Fin 8320) (n : Fin 256) : EReal := x (ix2 s ⟨o + n.val, by omega⟩)
abbrev ω32 (q : Fin 256) (k : ℕ) : EReal := w (ix2 ⟨k % 32, Nat.mod_lt _ (by decide)⟩ q)
abbrev ω8 (q : Fin 256) (k : ℕ) : EReal := ws (ix2 ⟨k % 8, Nat.mod_lt _ (by decide)⟩ q)
abbrev vrow (k : ℕ) (q : Fin 256) : EReal := v (ix2 ⟨k % 8, Nat.mod_lt _ (by decide)⟩ q)
abbrev gated (s : Fin 8320) (n : Fin 256) : EReal := cl x 0 (by decide) s n * sg (cl x 256 (by decide) s n)
abbrev prods (s : Fin 8320) (n : Fin 256) : EReal := cl x 768 (by decide) s n * cl x 1024 (by decide) s n

theorem zrow (i : S8320x256.Idx) : broadcastInDim S8320x256 ![] bcast_S_S8320x256 (constant (F := Ideal) S_ .f32 0x00000000#32) i = 0 := by
  simp only [pointwise]

theorem zpad (i : S_.Idx) : (sitofp (F := Ideal) .f32 (constantI S_ 32 0#32) : S_.Idx → EReal) i = 0 := by
  show ((((0#32 : BitVec 32).toInt : ℝ)) : EReal) = 0
  simp

theorem v18 (hx : V0 (Proc.devRef .tc main_arg0) = x) (r : Fin 8320) (q : Fin 256) (j : ℕ) (hj : j ≤ 30) (hs) :
    extractStridedSlice S8320x256 ![j, 0] (res_main_v18 V0) hs (ix2 r q) = past (gated x) r (30 - j) q := by
  unfold res_main_v18
  refine padded30 _ _ zpad _ _ (gated x) (fun s n => ?_) r q j hj hs
  rw [hx]
  simp only [pointwise, sg, gated, cl]
  simp only [Matrix.cons_val_zero, Matrix.cons_val_one, zero_add, Fin.eta]

theorem v283 (hx : V0 (Proc.devRef .tc main_arg0) = x) (r : Fin 8320) (q : Fin 256) (j : ℕ) (hj : j ≤ 2) (hs) :
    extractStridedSlice S8320x256 ![j, 0] (res_main_v283 V0) hs (ix2 r q) = past (prods x) r (2 - j) q := by
  unfold res_main_v283
  refine padded2 _ _ zpad _ _ (prods x) (fun s n => ?_) r q j hj hs
  rw [hx]
  simp only [pointwise, prods, cl]
  simp only [Matrix.cons_val_zero, Matrix.cons_val_one, zero_add, Fin.eta]

theorem tap (hx : V0 (Proc.devRef .tc main_arg0) = x) (hw : V0 (Proc.devRef .tc main_arg1) = w) (k : ℕ) (hk : k ≤ 30) (h0 h1 h2 h3 h4) (r : Fin 8320) (q : Fin 256) :
    mulf (F := Ideal) (φ := .f32) (broadcastInDim S8320x256 ![0, 1] h0 (broadcastInDim S1x256 ![1] h1 (shapeCast S256 (extractStridedSlice S1x256 ![k, 0] (V0 (Proc.devRef .tc main_arg1)) h2) h3)))
      (extractStridedSlice S8320x256 ![k, 0] (res_main_v18 V0) h4) (ix2 r q) = ω32 w q k * past (gated x) r (30 - k) q :=
  mulT _ _ _ _ _ ((wrow32 _ k (by omega) h2 h3 h1 h0 r q).trans (by rw [hw])) (v18 V0 x hx r q k hk h4)

theorem tap2 (hx : V0 (Proc.devRef .tc main_arg0) = x) (hw : V0 (Proc.devRef .tc main_arg4) = ws) (k : ℕ) (hk : k ≤ 2) (h0 h1 h2 h3 h4) (r : Fin 8320) (q : Fin 256) :
    mulf (F := Ideal) (φ := .f32) (broadcastInDim S8320x256 ![0, 1] h0 (broadcastInDim S1x256 ![1] h1 (shapeCast S256 (extractStridedSlice S1x256 ![k, 0] (V0 (Proc.devRef .tc main_arg4)) h2) h3)))
      (extractStridedSlice S8320x256 ![k, 0] (res_main_v283 V0) h4) (ix2 r q) = ω8 ws q k * past (prods x) r (2 - k) q :=
  mulT _ _ _ _ _ ((wrow8 _ k (by omega) h2 h3 h1 h0 r q).trans (by rw [hw])) (v283 V0 x hx r q k hk h4)

theorem v103 (hx : V0 (Proc.devRef .tc main_arg0) = x) (hw : V0 (Proc.devRef .tc main_arg1) = w) (r : Fin 8320) (q : Fin 256) : res_main_v103 V0 (ix2 r q) = ∑ k ∈ Finset.range 12, ω32 w q k * past (gated x) r (30 - k) q := by
  unfold res_main_v103
  exact (addS _ _ _ 11 _ (addS _ _ _ 10 _ (addS _ _ _ 9 _ (addS _ _ _ 8 _ (addS _ _ _ 7 _ (addS _ _ _ 6 _ (addS _ _ _ 5 _ (addS _ _ _ 4 _ (addS _ _ _ 3 _ (addS _ _ _ 2 _ (addS _ _ _ 1 _ (addS _ _ _ 0 _ ((zrow _).trans (Finset.sum_range_zero _).symm) (tap V0 x w hx hw 0 (by decide) _ _ _ _ _ r q)) (tap V0 x w hx hw 1 (by decide) _ _ _ _ _ r q)) (tap V0 x w hx hw 2 (by decide) _ _ _ _ _ r q)) (tap V0 x w hx hw 3 (by decide) _ _ _ _ _ r q)) (tap V0 x w hx hw 4 (by decide) _ _ _ _ _ r q)) (tap V0 x w hx hw 5 (by decide) _ _ _ _ _ r q)) (tap V0 x w hx hw 6 (by decide) _ _ _ _ _ r q)) (tap V0 x w hx hw 7 (by decide) _ _ _ _ _ r q)) (tap V0 x w hx hw 8 (by decide) _ _ _ _ _ r q)) (tap V0 x w hx hw 9 (by decide) _ _ _ _ _ r q)) (tap V0 x w hx hw 10 (by decide) _ _ _ _ _ r q)) (tap V0 x w hx hw 11 (by decide) _ _ _ _ _ r q))

theorem v187 (hx : V0 (Proc.devRef .tc main_arg0) = x) (hw : V0 (Proc.devRef .tc main_arg1) = w) (r : Fin 8320) (q : Fin 256) : res_main_v187 V0 (ix2 r q) = ∑ k ∈ Finset.range 24, ω32 w q k * past (gated x) r (30 - k) q := by
  unfold res_main_v187
  exact (addS _ _ _ 23 _ (addS _ _ _ 22 _ (addS _ _ _ 21 _ (addS _ _ _ 20 _ (addS _ _ _ 19 _ (addS _ _ _ 18 _ (addS _ _ _ 17 _ (addS _ _ _ 16 _ (addS _ _ _ 15 _ (addS _ _ _ 14 _ (addS _ _ _ 13 _ (addS _ _ _ 12 _ (v103 V0 x w hx hw r q) (tap V0 x w hx hw 12 (by decide) _ _ _ _ _ r q)) (tap V0 x w hx hw 13 (by decide) _ _ _ _ _ r q)) (tap V0 x w hx hw 14 (by decide) _ _ _ _ _ r q)) (tap V0 x w hx hw 15 (by decide) _ _ _ _ _ r q)) (tap V0 x w hx hw 16 (by decide) _ _ _ _ _ r q)) (tap V0 x w hx hw 17 (by decide) _ _ _ _ _ r q)) (tap V0 x w hx hw 18 (by decide) _ _ _ _ _ r q)) (tap V0 x w hx hw 19 (by decide) _ _ _ _ _ r q)) (tap V0 x w hx hw 20 (by decide) _ _ _ _ _ r q)) (tap V0 x w hx hw 21 (by decide) _ _ _ _ _ r q)) (tap V0 x w hx hw 22 (by decide) _ _ _ _ _ r q)) (tap V0 x w hx hw 23 (by decide) _ _ _ _ _ r q))

abbrev dwcr (r : Fin 8320) (q : Fin 256) : EReal := taps 31 (ω32 w q) (fun k => past (gated x) r k q) + vrow v 0 q

theorem v241 (hx : V0 (Proc.devRef .tc main_arg0) = x) (hw : V0 (Proc.devRef .tc main_arg1) = w) (hv : V0 (Proc.devRef .tc main_arg2) = v) (r : Fin 8320) (q : Fin 256) : res_main_v241 V0 (ix2 r q) = dwcr x w v r q := by
  have e : taps 31 (ω32 w q) (fun k => past (gated x) r k q) = ∑ k ∈ Finset.range 31, ω32 w q k * past (gated x) r (30 - k) q := by
    rfl
  rw [dwcr, e]
  unfold res_main_v241
  refine addT _ _ _ _ _ (addS _ _ _ 30 _ (addS _ _ _ 29 _ (addS _ _ _ 28 _ (addS _ _ _ 27 _ (addS _ _ _ 26 _ (addS _ _ _ 25 _ (addS _ _ _ 24 _ (v187 V0 x w hx hw r q) (tap V0 x w hx hw 24 (by decide) _ _ _ _ _ r q)) (tap V0 x w hx hw 25 (by decide) _ _ _ _ _ r q)) (tap V0 x w hx hw 26 (by decide) _ _ _ _ _ r q)) (tap V0 x w hx hw 27 (by decide) _ _ _ _ _ r q)) (tap V0 x w hx hw 28 (by decide) _ _ _ _ _ r q)) (tap V0 x w hx hw 29 (by decide) _ _ _ _ _ r q)) (tap V0 x w hx hw 30 (by decide) _ _ _ _ _ r q)) ((wrow8 _ 0 (by decide) _ _ _ _ r q).trans ?_)
  rw [hv]

abbrev cvr (r : Fin 8320) (q : Fin 256) : EReal := taps 3 (ω8 ws q) (fun k => past (prods x) r k q)

theorem cv (hx : V0 (Proc.devRef .tc main_arg0) = x) (hs : V0 (Proc.devRef .tc main_arg4) = ws) (r : Fin 8320) (q : Fin 256) (a0 a1 a2 a3 a4 b0 b1 b2 b3 b4 c0 c1 c2 c3 c4) :
    addf (addf (addf (broadcastInDim S8320x256 ![] bcast_S_S8320x256 (constant (F := Ideal) S_ .f32 0x00000000#32))
      (mulf (F := Ideal) (φ := .f32) (broadcastInDim S8320x256 ![0, 1] a0 (broadcastInDim S1x256 ![1] a1 (shapeCast S256 (extractStridedSlice S1x256 ![0, 0] (V0 (Proc.devRef .tc main_arg4)) a2) a3))) (extractStridedSlice S8320x256 ![0, 0] (res_main_v283 V0) a4)))
      (mulf (F := Ideal) (φ := .f32) (broadcastInDim S8320x256 ![0, 1] b0 (broadcastInDim S1x256 ![1] b1 (shapeCast S256 (extractStridedSlice S1x256 ![1, 0] (V0 (Proc.devRef .tc main_arg4)) b2) b3))) (extractStridedSlice S8320x256 ![1, 0] (res_main_v283 V0) b4)))
      (mulf (F := Ideal) (φ := .f32) (broadcastInDim S8320x256 ![0, 1] c0 (broadcastInDim S1x256 ![1] c1 (shapeCast S256 (extractStridedSlice S1x256 ![2, 0] (V0 (Proc.devRef .tc main_arg4)) c2) c3))) (extractStridedSlice S8320x256 ![2, 0] (res_main_v283 V0) c4)) (ix2 r q)
      = cvr x ws r q := by
  have e : cvr x ws r q = ∑ k ∈ Finset.range 3, ω8 ws q k * past (prods x) r (2 - k) q := by
    rfl
  rw [e]
  exact (addS _ _ _ 2 _ (addS _ _ _ 1 _ (addS _ _ _ 0 _ ((zrow _).trans (Finset.sum_range_zero _).symm) (tap2 V0 x ws hx hs 0 (by decide) _ _ _ _ _ r q)) (tap2 V0 x ws hx hs 1 (by decide) _ _ _ _ _ r q)) (tap2 V0 x ws hx hs 2 (by decide) _ _ _ _ _ r q))

theorem v247 (r : Fin 8320) (k : Fin 256) : res_main_v247 V0 (ix2 r k) = less (fun k => res_main_v241 V0 (ix2 r k)) k := by
  unfold res_main_v247
  generalize res_main_v241 V0 = D
  simp only [pointwise, zero_add, reduceDIte, Nat.reduceEqDiff, OfNat.ofNat_ne_one, less]

theorem v267 (hv : V0 (Proc.devRef .tc main_arg2) = v) (r : Fin 8320) (k : Fin 256) :
    res_main_v267 V0 (ix2 r k) = ln (fun k => res_main_v241 V0 (ix2 r k)) (vrow v 1) (vrow v 2) k := by
  unfold res_main_v267
  refine addT _ _ _ _ _ (mulT _ _ _ _ _ ?_ ((wrow8 _ 1 (by decide) _ _ _ _ r k).trans (by rw [hv]))) ((wrow8 _ 2 (by decide) _ _ _ _ r k).trans (by rw [hv]))
  have e := v247 V0 r
  generalize res_main_v247 V0 = D at e ⊢
  simp only [pointwise, zero_add, reduceDIte, Nat.reduceEqDiff, OfNat.ofNat_ne_one, e]

theorem v10 (hx : V0 (Proc.devRef .tc main_arg0) = x) (hv : V0 (Proc.devRef .tc main_arg2) = v) (r : Fin 8320) (q : Fin 128) :
    res_main_v10 V0 (ix2 r q) = x (ix2 r ⟨1280 + q.val, by omega⟩) + v (ix2 4 ⟨q.val, by omega⟩) := by
  unfold res_main_v10
  rw [hx, hv]
  simp only [pointwise, reduceDIte, Nat.reduceEqDiff, OfNat.ofNat_ne_one]
  simp only [Matrix.cons_val_zero, Matrix.cons_val_one, zero_add, Fin.eta]

def logr (q : Fin 128) (s : ℕ) : EReal :=
  if h : s < 8320 then ls (x (ix2 ⟨s, h⟩ ⟨1280 + q.val, by omega⟩) + v (ix2 4 ⟨q.val, by omega⟩)) else 0

theorem v318 (hx : V0 (Proc.devRef .tc main_arg0) = x) (hv : V0 (Proc.devRef .tc main_arg2) = v) (r : Fin 8320) (q : Fin 128) :
    Host.reduceWindowAdd ![8320, 1] ![1, 1] ![8319, 0] ![0, 0] (subf (minimumf (res_main_v10 V0) (broadcastInDim S8320x128 ![] bcast_S_S8320x128 (constant (F := Ideal) S_ .f32 0x00000000#32))) (Host.log (addf (broadcastInDim S8320x128 ![] bcast_S_S8320x128 (constant S_ .f32 0x3F800000#32)) (Host.exp (Host.negf (Host.absf (res_main_v10 V0))))))) (broadcastInDim S_ ![] bcast_S_S_ (constant S_ .f32 0x00000000#32)) reduceWindows_S8320x128_S8320x128_w8320s1p8319_0_w1s1p0_0 h_S_ (ix2 r q)
      = ∑ s ∈ Finset.range (r.val + 1), logr x v q s := by
  refine cumsum _ (fun s q => logr x v q s) (fun i q => ?_) _ (fun i => ?_) _ _ r q
  · have e := v10 V0 x v hx hv i q
    generalize res_main_v10 V0 = D at e ⊢
    refine Eq.trans ?_ (dif_pos i.isLt).symm
    simp only [pointwise, e, ls]
    rfl
  · simp only [pointwise]

abbrev yr (r : Fin 8320) : Fin 256 → EReal := ln (dwcr x w v r) (vrow v 1) (vrow v 2)

theorem conf (hx : V0 (Proc.devRef .tc main_arg0) = x) (hw : V0 (Proc.devRef .tc main_arg1) = w) (hv : V0 (Proc.devRef .tc main_arg2) = v)
    (hp : V0 (Proc.devRef .tc main_arg3) = wp) (r : Fin 8320) (q : Fin 256) :
    addf (Host.dotGeneral dot_S8320x256_S256x256_S8320x256_1_0_0_1_n_n none (mulf (res_main_v267 V0) (Host.divf (broadcastInDim S8320x256 ![] bcast_S_S8320x256 (constant (F := Ideal) S_ .f32 0x3F800000#32)) (addf (broadcastInDim S8320x256 ![] bcast_S_S8320x256 (constant S_ .f32 0x3F800000#32)) (Host.exp (Host.negf (res_main_v267 V0)))))) (extf .f32 (V0 (Proc.devRef .tc main_arg3)) bitsLt_bf16_f32)) (broadcastInDim S8320x256 ![0, 1] bcast_S1x256_S8320x256_0_1 (broadcastInDim S1x256 ![1] bcast_S256_S1x256_1 (shapeCast _ (extractStridedSlice S1x256 ![3, 0] (V0 (Proc.devRef .tc main_arg2)) slices_S8x256_S1x256_3_0) shapeCasts_S1x256_S256))) (ix2 r q)
      = ∑ k : Fin 256, yr x w v r k * sg (yr x w v r k) * wp (ix2 k q) + vrow v 3 q := by
  refine addT _ _ _ _ _ ?_ ((wrow8 _ 3 (by decide) _ _ _ _ r q).trans (by rw [hv]))
  have e : ∀ k, res_main_v267 V0 (ix2 r k) = yr x w v r k := fun k =>
    (v267 V0 v hv r k).trans (congrArg (fun d => ln d (vrow v 1) (vrow v 2) k) (funext fun k => v241 V0 x w v hx hw hv r k))
  rw [hp]
  generalize res_main_v267 V0 = D at e ⊢
  simp only [pointwise, zero_add, e, sg]

theorem v317 (A B : S8320x256.Idx → EReal) (h) (h') (r : Fin 8320) (q : Fin 512) :
    truncf (F := Ideal) (φ := .f32) .bf16 (concatenate S8320x512 1 [⟨S8320x256, A⟩, ⟨S8320x256, B⟩] h) h' (ix2 r q)
      = if q.val < 256 then A (ix2 r ⟨q.val % 256, Nat.mod_lt _ (by decide)⟩) else B (ix2 r ⟨q.val % 256, Nat.mod_lt _ (by decide)⟩) := by
  have hq := q.isLt
  show concatenate S8320x512 1 [⟨S8320x256, A⟩, ⟨S8320x256, B⟩] h (ix2 r q) = _
  by_cases hl : q.val < 256
  · rw [if_pos hl]
    refine concatenate_pair_apply_left (s₁ := S8320x256) (s₂ := S8320x256) (t := S8320x512) 1 A B h _ rfl (ix2 r ⟨q.val % 256, Nat.mod_lt _ (by decide)⟩ : S8320x256.Idx) (fun b => ?_)
    match b with
    | ⟨0, _⟩ => rfl
    | ⟨1, _⟩ => show q.val % 256 = q.val; omega
  · rw [if_neg hl]
    refine concatenate_pair_apply_right (s₁ := S8320x256) (s₂ := S8320x256) (t := S8320x512) 1 A B h _ rfl rfl (ix2 r ⟨q.val % 256, Nat.mod_lt _ (by decide)⟩ : S8320x256.Idx) (fun b hb => ?_) ?_
    · match b with
      | ⟨0, _⟩ => rfl
      | ⟨1, _⟩ => exact absurd rfl hb
    · show q.val % 256 + 256 = q.val
      omega

end Cert.ConvFwdRef

end
-- ==== Proof.ConvFwdClaim.lean ====
/-
What is claimed of the convolutions and the running sum.
-/
module

public import proofs.«01_k».proof.Defs
public import proofs.«01_k».proof.Proof.Update
public import proofs.«01_k».proof.Proof.Rows
public import proofs.«01_k».proof.Proof.ConvTile
public import proofs.«01_k».proof.Proof.Gen.ConvFwd
public import proofs.«01_k».proof.Proof.Gen.ConvFwd.Frame
public import proofs.«01_k».proof.Proof.Gen.ConvFwdIdeal
public import proofs.«01_k».proof.Proof.ConvFwdVal
public import proofs.«01_k».proof.Proof.Gen.ConvFwdRefIdeal
public import proofs.«01_k».proof.Proof.Gen.ConvFwdRefIdeal.Run
public import Idealize.ShloMosaic.Lib.Pipeline.Value
public import proofs.«01_k».proof.Proof.ConvFwdRef
public import Idealize.ShloMosaic.Lib.Quiescent
public import Idealize.ShloMosaic.Lib.VecWindow
public import Idealize.ShloMosaic.Lib.Pointwise

@[expose] public section

noncomputable section

namespace Cert.ConvFwdClaim

open Idealize.ShloMosaic Idealize.ShloMosaic.TcCoe Idealize.SL.Sem
open Idealize.ShloMosaic.Pipeline (Dat)
open Cert.ConvFwdIdeal Cert.ConvFwdIdeal.Gen

variable (m : (ℓ : Loc nD τ sig) → Buf (Elt Ideal) ℓ) (g : Dev nD → PrngReg)

open Cert.Rows Cert.Taps Cert.ConvTile

abbrev rest (c : Dev nD) : S8320x1408.Idx → EReal := m ((c : Thread nD τ).loc main_arg0)
abbrev wdw (c : Dev nD) : S32x256.Idx → EReal := m ((c : Thread nD τ).loc main_arg1)
abbrev vec (c : Dev nD) : S8x256.Idx → EReal := m ((c : Thread nD τ).loc main_arg2)
abbrev wpw (c : Dev nD) : S256x256.Idx → EReal := m ((c : Thread nD τ).loc main_arg3)
abbrev wsc (c : Dev nD) : S8x256.Idx → EReal := m ((c : Thread nD τ).loc main_arg4)

abbrev wd (c : Dev nD) (t : Fin cfg0.N) (k : ℕ) (h : ∀ a, (![k, 0] : Fin 2 → ℕ) a + S1x256.size a ≤ S32x256.size a) : Vec Ideal S1x256 .f32 :=
  View.ld (iblk m c 10 t) (Rect.unit (s := S32x256) ![k, 0] S1x256.size h)
abbrev vc (c : Dev nD) (t : Fin cfg0.N) (k : ℕ) (h : ∀ a, (![k, 0] : Fin 2 → ℕ) a + S1x256.size a ≤ S8x256.size a) : Vec Ideal S1x256 .f32 :=
  View.ld (iblk m c 11 t) (Rect.unit (s := S8x256) ![k, 0] S1x256.size h)
abbrev wc (c : Dev nD) (t : Fin cfg0.N) (k : ℕ) (h : ∀ a, (![k, 0] : Fin 2 → ℕ) a + S1x256.size a ≤ S8x256.size a) : Vec Ideal S1x256 .f32 :=
  View.ld (iblk m c 13 t) (Rect.unit (s := S8x256) ![k, 0] S1x256.size h)
abbrev fb (c : Dev nD) (t : Fin cfg0.N) : Vec Ideal S1x128 .f32 :=
  View.ld (iblk m c 11 t) (Rect.unit (s := S8x256) ![4, 0] S1x128.size inb_S8x256_S1x128_4_0)
abbrev one (x : Vec Ideal S8x128 .f32) : Vec Ideal S1x128 .f32 :=
  View.ld x (Rect.unit (s := S8x128) ![0, 0] S1x128.size inb_S8x128_S1x128_0_0)

abbrev tileX (c : Dev nD) (t : Fin cfg0.N) : FVec Ideal S672x256 .f32 :=
  k0_pay4 (grid0.coords t) (X0_0 m c t) (X0_1 m c t) (X0_2 m c t) (X0_3 m c t)

abbrev tile15 (c : Dev nD) (t : Fin cfg0.N) : FVec Ideal S640x256 .f32 :=
  dwcTile (grid0.coords t) (X0_0 m c t) (X0_1 m c t) (X0_2 m c t) (X0_3 m c t) (vc m c t 0 inb_S8x256_S1x256_0_0) (wd m c t 0 inb_S32x256_S1x256_0_0) (wd m c t 1 inb_S32x256_S1x256_1_0) (wd m c t 2 inb_S32x256_S1x256_2_0) (wd m c t 3 inb_S32x256_S1x256_3_0) (wd m c t 4 inb_S32x256_S1x256_4_0) (wd m c t 5 inb_S32x256_S1x256_5_0) (wd m c t 6 inb_S32x256_S1x256_6_0) (wd m c t 7 inb_S32x256_S1x256_7_0) (wd m c t 8 inb_S32x256_S1x256_8_0) (wd m c t 9 inb_S32x256_S1x256_9_0) (wd m c t 10 inb_S32x256_S1x256_10_0) (wd m c t 11 inb_S32x256_S1x256_11_0) (wd m c t 12 inb_S32x256_S1x256_12_0) (wd m c t 13 inb_S32x256_S1x256_13_0) (wd m c t 14 inb_S32x256_S1x256_14_0) (wd m c t 15 inb_S32x256_S1x256_15_0) (wd m c t 16 inb_S32x256_S1x256_16_0) (wd m c t 17 inb_S32x256_S1x256_17_0) (wd m c t 18 inb_S32x256_S1x256_18_0) (wd m c t 19 inb_S32x256_S1x256_19_0) (wd m c t 20 inb_S32x256_S1x256_20_0) (wd m c t 21 inb_S32x256_S1x256_21_0) (wd m c t 22 inb_S32x256_S1x256_22_0) (wd m c t 23 inb_S32x256_S1x256_23_0) (wd m c t 24 inb_S32x256_S1x256_24_0) (wd m c t 25 inb_S32x256_S1x256_25_0) (wd m c t 26 inb_S32x256_S1x256_26_0) (wd m c t 27 inb_S32x256_S1x256_27_0) (wd m c t 28 inb_S32x256_S1x256_28_0) (wd m c t 29 inb_S32x256_S1x256_29_0) (wd m c t 30 inb_S32x256_S1x256_30_0)

abbrev tileConf (c : Dev nD) (t : Fin cfg0.N) : FVec Ideal S640x256 .f32 :=
  k0_pay16 (k0_pay15 (tileX m c t) (k0_pay12 (tileX m c t) (k0_pay10 (tileX m c t) (k0_pay9 (tileX m c t) (k0_pay7 (tileX m c t) (k0_pay5 (vc m c t 0 inb_S8x256_S1x256_0_0)) (k0_pay6 (grid0.coords t) (X0_0 m c t) (X0_1 m c t) (X0_2 m c t) (X0_3 m c t) (wd m c t 0 inb_S32x256_S1x256_0_0)) (wd m c t 1 inb_S32x256_S1x256_1_0) (wd m c t 2 inb_S32x256_S1x256_2_0) (wd m c t 3 inb_S32x256_S1x256_3_0) (wd m c t 4 inb_S32x256_S1x256_4_0) (wd m c t 5 inb_S32x256_S1x256_5_0) (wd m c t 6 inb_S32x256_S1x256_6_0)) (wd m c t 7 inb_S32x256_S1x256_7_0) (k0_pay8 (tileX m c t)) (wd m c t 8 inb_S32x256_S1x256_8_0) (wd m c t 9 inb_S32x256_S1x256_9_0) (wd m c t 10 inb_S32x256_S1x256_10_0) (wd m c t 11 inb_S32x256_S1x256_11_0) (wd m c t 12 inb_S32x256_S1x256_12_0) (wd m c t 13 inb_S32x256_S1x256_13_0)) (wd m c t 14 inb_S32x256_S1x256_14_0) (wd m c t 15 inb_S32x256_S1x256_15_0) (wd m c t 16 inb_S32x256_S1x256_16_0) (wd m c t 17 inb_S32x256_S1x256_17_0) (wd m c t 18 inb_S32x256_S1x256_18_0) (wd m c t 19 inb_S32x256_S1x256_19_0)) (k0_pay11 (tileX m c t) (wd m c t 20 inb_S32x256_S1x256_20_0)) (wd m c t 21 inb_S32x256_S1x256_21_0) (wd m c t 22 inb_S32x256_S1x256_22_0) (wd m c t 23 inb_S32x256_S1x256_23_0) (wd m c t 24 inb_S32x256_S1x256_24_0) (wd m c t 25 inb_S32x256_S1x256_25_0) (wd m c t 26 inb_S32x256_S1x256_26_0)) (wd m c t 27 inb_S32x256_S1x256_27_0) (k0_pay13 (tileX m c t)) (wd m c t 28 inb_S32x256_S1x256_28_0) (wd m c t 29 inb_S32x256_S1x256_29_0) (wd m c t 30 inb_S32x256_S1x256_30_0) (vc m c t 1 inb_S8x256_S1x256_1_0)) (vc m c t 2 inb_S8x256_S1x256_2_0) (iblk m c 12 t) (vc m c t 3 inb_S8x256_S1x256_3_0)

abbrev first (t : Fin cfg0.N) : BitVec 1 := Scalar.cmpi .eq (BitVec.ofNat 32 ((grid0.coords t) 0).val) 0#32

abbrev tile16 (c : Dev nD) (t : Fin cfg0.N) : FVec Ideal S640x256 .f32 :=
  cvTile (first t) (X0_5 m c t) (X0_6 m c t) (X0_7 m c t) (X0_8 m c t) (wc m c t 0 inb_S8x256_S1x256_0_0) (wc m c t 1 inb_S8x256_S1x256_1_0) (wc m c t 2 inb_S8x256_S1x256_2_0)

abbrev tileShort (c : Dev nD) (t : Fin cfg0.N) : FVec Ideal S640x256 .bf16 :=
  k0_pay22 (k0_pay17 (first t) (X0_5 m c t) (X0_6 m c t) (X0_7 m c t) (X0_8 m c t)) (k0_pay18 (first t) (X0_5 m c t) (X0_6 m c t) (X0_7 m c t) (X0_8 m c t) (wc m c t 0 inb_S8x256_S1x256_0_0)) (wc m c t 1 inb_S8x256_S1x256_1_0) (k0_pay19 (first t) (X0_5 m c t) (X0_6 m c t) (X0_7 m c t) (X0_8 m c t)) (wc m c t 2 inb_S8x256_S1x256_2_0) (X0_4 m c t)

abbrev tileF (c : Dev nD) (t : Fin cfg0.N) : FVec Ideal S640x128 .f32 := k0_pay23 (iblk m c 9 t) (fb m c t)

theorem outs15 (c : Dev nD) (t : Fin cfg0.N) : (outsAt0 m c t.val t.isLt).2.1 = tile15 m c t := by
  by_cases h0 : t.val % 13 = 0
  · rw [outsAt0_A m c t h0]
    dsimp only
    unfold out0_A_15
    rw [View.read_writes_eq_canon _ _ _ (fun y => cover0_A_15 (y := y) ..)]
    unfold kernelRun0_A; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    repeat rw [View.ld_unit_zero Update.hz]
    rfl
  · rw [outsAt0_B m c t h0]
    dsimp only
    unfold out0_B_15
    rw [View.read_writes_eq_canon _ _ _ (fun y => cover0_B_15 (y := y) ..)]
    unfold kernelRun0_B; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    repeat rw [View.ld_unit_zero Update.hz]
    rfl

theorem outs16 (c : Dev nD) (t : Fin cfg0.N) : (outsAt0 m c t.val t.isLt).2.2.1 = tile16 m c t := by
  by_cases h0 : t.val % 13 = 0
  · rw [outsAt0_A m c t h0]
    dsimp only
    unfold out0_A_16
    rw [View.read_writes_eq_canon _ _ _ (fun y => cover0_A_16 (y := y) ..)]
    unfold kernelRun0_A; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    repeat rw [View.ld_unit_zero Update.hz]
    rfl
  · rw [outsAt0_B m c t h0]
    dsimp only
    unfold out0_B_16
    rw [View.read_writes_eq_canon _ _ _ (fun y => cover0_B_16 (y := y) ..)]
    unfold kernelRun0_B; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    repeat rw [View.ld_unit_zero Update.hz]
    rfl

theorem hits (v : View sig .tc .vmem S640x512 .bf16) (f : v.ty.Contents (Elt Ideal)) (p1 p2 : FVec Ideal S640x256 .bf16) (h1 h2)
    (i : Fin 640) (q : Fin 512) (a b : EReal)
    (ha : ∀ h : q.val < 256, p1 (ix2 i ⟨q.val, h⟩) = a) (hb : ∀ h : q.val - 256 < 256, p2 (ix2 i ⟨q.val - 256, h⟩) = b) :
    v.read (Elt Ideal) (v.writes (Elt Ideal) f [⟨Rect.unit (s := S640x512) ![0, 256] S640x256.size h2, p2⟩, ⟨Rect.unit (s := S640x512) ![0, 0] S640x256.size h1, p1⟩]) (ix2 i q)
      = if q.val < 256 then a else b := by
  have hq := q.isLt
  by_cases h : q.val < 256
  · rw [if_pos h, View.read_writes_cons_miss_of_axis v f _ _ (ix2 i q) (1 : Fin 2) 256 256 rfl rfl rfl (Or.inl h)]
    refine (View.read_writes_cons_hit_of_coords v f (Rect.unit (s := S640x512) ![0, 0] S640x256.size h1) p1 [] (ix2 i ⟨q.val, h⟩ : S640x256.Idx) (ix2 i q) (fun d => ?_)).trans (ha h)
    match d with
    | ⟨0, _⟩ => show i.val = 0 + 1 * i.val; omega
    | ⟨1, _⟩ => show q.val = 0 + 1 * q.val; omega
  · have h' : q.val - 256 < 256 := by omega
    rw [if_neg h]
    refine (View.read_writes_cons_hit_of_coords v f (Rect.unit (s := S640x512) ![0, 256] S640x256.size h2) p2 _ (ix2 i ⟨q.val - 256, h'⟩ : S640x256.Idx) (ix2 i q) (fun d => ?_)).trans (hb h')
    match d with
    | ⟨0, _⟩ => show i.val = 0 + 1 * i.val; omega
    | ⟨1, _⟩ => show q.val = 256 + 1 * (q.val - 256); omega

theorem outs14 (c : Dev nD) (t : Fin cfg0.N) (i : Fin 640) (q : Fin 512) (a b : EReal)
    (ha : ∀ h : q.val < 256, tileConf m c t (ix2 i ⟨q.val, h⟩) = a) (hb : ∀ h : q.val - 256 < 256, tileShort m c t (ix2 i ⟨q.val - 256, h⟩) = b) :
    (outsAt0 m c t.val t.isLt).1 (ix2 i q) = if q.val < 256 then a else b := by
  have ha' : ∀ h : q.val < 256, k0_pay21 (tileConf m c t) (ix2 i ⟨q.val, h⟩) = a := fun h => (pay21 _ _).trans (ha h)
  by_cases h0 : t.val % 13 = 0
  · rw [outsAt0_A m c t h0]
    dsimp only
    unfold out0_A_14 kernelRun0_A
    dsimp only; try sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    repeat rw [View.ld_unit_zero Update.hz]
    exact hits _ _ _ _ _ _ i q a b ha' hb
  · rw [outsAt0_B m c t h0]
    dsimp only
    unfold out0_B_14 kernelRun0_B
    dsimp only; try sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    repeat rw [View.ld_unit_zero Update.hz]
    exact hits _ _ _ _ _ _ i q a b ha' hb

theorem zeroed (p : Vec Ideal S8x128 .f32) (h h') :
    (View.whole cc0_scratch0).readCov (Val := Elt Ideal) [⟨Rect.unit (s := S8x128) ![0, 0] S8x128.size h, p⟩] (Rect.unit (s := S8x128) ![0, 0] S1x128.size h').toLoadRect = one p := by
  unfold View.readCov
  rw [View.readAt_eq_ld]
  exact congrArg (fun z => View.ld z (Rect.unit (s := S8x128) ![0, 0] S1x128.size h')) (View.read_writes_full (View.whole cc0_scratch0) _ h p [])

theorem outs17A (c : Dev nD) (t : Fin cfg0.N) (h0 : t.val % 13 = 0) :
    (outsAt0 m c t.val t.isLt).2.2.2.1 = k0_pay1 (tileF m c t) (one (k0_pay3 (F := Ideal))) := by
  rw [outsAt0_A m c t h0]
  dsimp only
  unfold out0_A_17
  rw [View.read_writes_eq_canon _ _ _ (fun y => cover0_A_17 (y := y) ..)]
  unfold kernelRun0_A; dsimp only; try sl_unfold_words
  rw [View.canon_unit_zero Update.hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
  repeat rw [View.ld_unit_zero Update.hz]
  try rw [zeroed]
  rfl

theorem outs17B (c : Dev nD) (t : Fin cfg0.N) (h0 : ¬ t.val % 13 = 0) :
    (outsAt0 m c t.val t.isLt).2.2.2.1 = k0_pay1 (tileF m c t) (one (outsAt0 m c (t.val - 1) (Nat.lt_of_le_of_lt (Nat.sub_le _ _) t.isLt)).2.2.2.2) := by
  rw [outsAt0_B m c t h0]
  dsimp only
  unfold out0_B_17
  rw [View.read_writes_eq_canon _ _ _ (fun y => cover0_B_17 (y := y) ..)]
  unfold kernelRun0_B; dsimp only; try sl_unfold_words
  rw [View.canon_unit_zero Update.hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (Memref.isWhole_whole _).read_unread]
  repeat rw [View.ld_unit_zero Update.hz]
  try rw [zeroed]
  rfl

theorem row0 (v : View sig .tc .vmem S8x128 .f32) (f : v.ty.Contents (Elt Ideal)) (L : List (View.Piece (Elt Ideal) S8x128 .f32)) (h1) (p : FVec Ideal S1x128 .f32) (q : Fin 128) :
    v.read (Elt Ideal) (v.writes (Elt Ideal) f (⟨Rect.unit (s := S8x128) ![0, 0] S1x128.size h1, p⟩ :: L)) (ix2 0 q) = p (ix2 0 q) := by
  refine View.read_writes_cons_hit_of_coords v f (Rect.unit (s := S8x128) ![0, 0] S1x128.size h1) p L (ix2 0 q : S1x128.Idx) (ix2 0 q) (fun d => ?_)
  match d with
  | ⟨0, _⟩ => rfl
  | ⟨1, _⟩ => show q.val = 0 + 1 * q.val; omega

theorem carryA (c : Dev nD) (t : Fin cfg0.N) (h0 : t.val % 13 = 0) (q : Fin 128) :
    (outsAt0 m c t.val t.isLt).2.2.2.2 (ix2 0 q) = k0_pay2 (tileF m c t) (one (k0_pay3 (F := Ideal))) (ix2 0 q) := by
  rw [outsAt0_A m c t h0]
  dsimp only
  unfold sout0_A_0 kernelRun0_A
  dsimp only; try sl_unfold_words
  refine (row0 _ _ _ _ _ q).trans ?_
  simp only [View.readAt_eq_ld, (Memref.isWhole_whole cc0_scratch0).read_unread, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
  repeat rw [View.ld_unit_zero Update.hz]
  try rw [(Memref.isWhole_whole cc0_scratch0).read_unread]
  try rw [zeroed]
  rfl

theorem carryB (c : Dev nD) (t : Fin cfg0.N) (h0 : ¬ t.val % 13 = 0) (q : Fin 128) :
    (outsAt0 m c t.val t.isLt).2.2.2.2 (ix2 0 q) = k0_pay2 (tileF m c t) (one (outsAt0 m c (t.val - 1) (Nat.lt_of_le_of_lt (Nat.sub_le _ _) t.isLt)).2.2.2.2) (ix2 0 q) := by
  rw [outsAt0_B m c t h0]
  dsimp only
  unfold sout0_B_0 kernelRun0_B
  dsimp only; try sl_unfold_words
  refine (row0 _ _ _ _ _ q).trans ?_
  simp only [View.readAt_eq_ld, (Memref.isWhole_whole cc0_scratch0).read_unread, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
  repeat rw [View.ld_unit_zero Update.hz]
  try rw [(Memref.isWhole_whole cc0_scratch0).read_unread]
  try rw [zeroed]
  rfl

/-- Column `o + n` of row `s`. -/
abbrev col (c : Dev nD) (o : ℕ) (ho : o ≤ 1152) (s : Fin 8320) (n : Fin 256) : EReal := rest m c (ix2 s ⟨o + n.val, by omega⟩)
abbrev colf (c : Dev nD) (s : Fin 8320) (n : Fin 128) : EReal := rest m c (ix2 s ⟨1280 + n.val, by omega⟩)

theorem pt (t : Fin cfg0.N) : t.val < 13 := by have := t.isLt; have hN : cfg0.N = 13 := N_0; omega

theorem coords : ∀ t : Fin cfg0.N, (grid0.coords t 0).val = t.val :=
  (by decide +kernel : ∀ t : Fin grid0.N, (grid0.coords t 0).val = t.val)

theorem first_eq : ∀ t : Fin cfg0.N, first t = if t.val = 0 then 1#1 else 0#1 :=
  (by decide +kernel : ∀ t : Fin grid0.N, first t = if t.val = 0 then 1#1 else 0#1)

theorem xat0 : ∀ t : Fin cfg0.N, win0_0.index t 0 * win0_0.size 0 = t.val * 640 ∧ win0_0.index t 1 * win0_0.size 1 = 0 :=
  (by decide +kernel : ∀ t : Fin grid0.N, win0_0.index t 0 * win0_0.size 0 = t.val * 640 ∧ win0_0.index t 1 * win0_0.size 1 = 0)

theorem X_0 (c : Dev nD) (t : Fin cfg0.N) (i : Fin 640) (q : Fin 256) (h : t.val * 640 + i.val < 8320) :
    X0_0 m c t (ix2 i q) = col m c 0 (by decide) ⟨t.val * 640 + i.val, h⟩ q := by
  unfold X0_0 Pipeline.Window.fill
  rw [dif_pos (moved0_0 t _)]
  show rest m c _ = rest m c _
  congr 1
  funext a
  apply Fin.ext
  match a with
  | ⟨0, _⟩ =>
    show win0_0.index t 0 * win0_0.size 0 + 1 * i.val = t.val * 640 + i.val
    rw [(xat0 t).1]; omega
  | ⟨1, _⟩ =>
    show win0_0.index t 1 * win0_0.size 1 + 1 * q.val = 0 + q.val
    rw [(xat0 t).2]; omega

theorem xat1 : ∀ t : Fin cfg0.N, win0_1.index t 0 * win0_1.size 0 = t.val * 640 ∧ win0_1.index t 1 * win0_1.size 1 = 256 :=
  (by decide +kernel : ∀ t : Fin grid0.N, win0_1.index t 0 * win0_1.size 0 = t.val * 640 ∧ win0_1.index t 1 * win0_1.size 1 = 256)

theorem X_1 (c : Dev nD) (t : Fin cfg0.N) (i : Fin 640) (q : Fin 256) (h : t.val * 640 + i.val < 8320) :
    X0_1 m c t (ix2 i q) = col m c 256 (by decide) ⟨t.val * 640 + i.val, h⟩ q := by
  unfold X0_1 Pipeline.Window.fill
  rw [dif_pos (moved0_1 t _)]
  show rest m c _ = rest m c _
  congr 1
  funext a
  apply Fin.ext
  match a with
  | ⟨0, _⟩ =>
    show win0_1.index t 0 * win0_1.size 0 + 1 * i.val = t.val * 640 + i.val
    rw [(xat1 t).1]; omega
  | ⟨1, _⟩ =>
    show win0_1.index t 1 * win0_1.size 1 + 1 * q.val = 256 + q.val
    rw [(xat1 t).2]; omega

theorem xat2 : ∀ t : Fin cfg0.N, win0_2.index t 0 * win0_2.size 0 = t.val * 640 - 32 ∧ win0_2.index t 1 * win0_2.size 1 = 0 :=
  (by decide +kernel : ∀ t : Fin grid0.N, win0_2.index t 0 * win0_2.size 0 = t.val * 640 - 32 ∧ win0_2.index t 1 * win0_2.size 1 = 0)

theorem X_2 (c : Dev nD) (t : Fin cfg0.N) (h0 : 0 < t.val) (i : Fin 32) (q : Fin 256) (h : t.val * 640 + i.val - 32 < 8320) :
    X0_2 m c t (ix2 i q) = col m c 0 (by decide) ⟨t.val * 640 + i.val - 32, h⟩ q := by
  unfold X0_2 Pipeline.Window.fill
  rw [dif_pos (moved0_2 t _)]
  show rest m c _ = rest m c _
  congr 1
  funext a
  apply Fin.ext
  match a with
  | ⟨0, _⟩ =>
    show win0_2.index t 0 * win0_2.size 0 + 1 * i.val = t.val * 640 + i.val - 32
    rw [(xat2 t).1]; omega
  | ⟨1, _⟩ =>
    show win0_2.index t 1 * win0_2.size 1 + 1 * q.val = 0 + q.val
    rw [(xat2 t).2]; omega

theorem xat3 : ∀ t : Fin cfg0.N, win0_3.index t 0 * win0_3.size 0 = t.val * 640 - 32 ∧ win0_3.index t 1 * win0_3.size 1 = 256 :=
  (by decide +kernel : ∀ t : Fin grid0.N, win0_3.index t 0 * win0_3.size 0 = t.val * 640 - 32 ∧ win0_3.index t 1 * win0_3.size 1 = 256)

theorem X_3 (c : Dev nD) (t : Fin cfg0.N) (h0 : 0 < t.val) (i : Fin 32) (q : Fin 256) (h : t.val * 640 + i.val - 32 < 8320) :
    X0_3 m c t (ix2 i q) = col m c 256 (by decide) ⟨t.val * 640 + i.val - 32, h⟩ q := by
  unfold X0_3 Pipeline.Window.fill
  rw [dif_pos (moved0_3 t _)]
  show rest m c _ = rest m c _
  congr 1
  funext a
  apply Fin.ext
  match a with
  | ⟨0, _⟩ =>
    show win0_3.index t 0 * win0_3.size 0 + 1 * i.val = t.val * 640 + i.val - 32
    rw [(xat3 t).1]; omega
  | ⟨1, _⟩ =>
    show win0_3.index t 1 * win0_3.size 1 + 1 * q.val = 256 + q.val
    rw [(xat3 t).2]; omega

theorem xat4 : ∀ t : Fin cfg0.N, win0_4.index t 0 * win0_4.size 0 = t.val * 640 ∧ win0_4.index t 1 * win0_4.size 1 = 512 :=
  (by decide +kernel : ∀ t : Fin grid0.N, win0_4.index t 0 * win0_4.size 0 = t.val * 640 ∧ win0_4.index t 1 * win0_4.size 1 = 512)

theorem X_4 (c : Dev nD) (t : Fin cfg0.N) (i : Fin 640) (q : Fin 256) (h : t.val * 640 + i.val < 8320) :
    X0_4 m c t (ix2 i q) = col m c 512 (by decide) ⟨t.val * 640 + i.val, h⟩ q := by
  unfold X0_4 Pipeline.Window.fill
  rw [dif_pos (moved0_4 t _)]
  show rest m c _ = rest m c _
  congr 1
  funext a
  apply Fin.ext
  match a with
  | ⟨0, _⟩ =>
    show win0_4.index t 0 * win0_4.size 0 + 1 * i.val = t.val * 640 + i.val
    rw [(xat4 t).1]; omega
  | ⟨1, _⟩ =>
    show win0_4.index t 1 * win0_4.size 1 + 1 * q.val = 512 + q.val
    rw [(xat4 t).2]; omega

theorem xat5 : ∀ t : Fin cfg0.N, win0_5.index t 0 * win0_5.size 0 = t.val * 640 ∧ win0_5.index t 1 * win0_5.size 1 = 768 :=
  (by decide +kernel : ∀ t : Fin grid0.N, win0_5.index t 0 * win0_5.size 0 = t.val * 640 ∧ win0_5.index t 1 * win0_5.size 1 = 768)

theorem X_5 (c : Dev nD) (t : Fin cfg0.N) (i : Fin 640) (q : Fin 256) (h : t.val * 640 + i.val < 8320) :
    X0_5 m c t (ix2 i q) = col m c 768 (by decide) ⟨t.val * 640 + i.val, h⟩ q := by
  unfold X0_5 Pipeline.Window.fill
  rw [dif_pos (moved0_5 t _)]
  show rest m c _ = rest m c _
  congr 1
  funext a
  apply Fin.ext
  match a with
  | ⟨0, _⟩ =>
    show win0_5.index t 0 * win0_5.size 0 + 1 * i.val = t.val * 640 + i.val
    rw [(xat5 t).1]; omega
  | ⟨1, _⟩ =>
    show win0_5.index t 1 * win0_5.size 1 + 1 * q.val = 768 + q.val
    rw [(xat5 t).2]; omega

theorem xat6 : ∀ t : Fin cfg0.N, win0_6.index t 0 * win0_6.size 0 = t.val * 640 ∧ win0_6.index t 1 * win0_6.size 1 = 1024 :=
  (by decide +kernel : ∀ t : Fin grid0.N, win0_6.index t 0 * win0_6.size 0 = t.val * 640 ∧ win0_6.index t 1 * win0_6.size 1 = 1024)

theorem X_6 (c : Dev nD) (t : Fin cfg0.N) (i : Fin 640) (q : Fin 256) (h : t.val * 640 + i.val < 8320) :
    X0_6 m c t (ix2 i q) = col m c 1024 (by decide) ⟨t.val * 640 + i.val, h⟩ q := by
  unfold X0_6 Pipeline.Window.fill
  rw [dif_pos (moved0_6 t _)]
  show rest m c _ = rest m c _
  congr 1
  funext a
  apply Fin.ext
  match a with
  | ⟨0, _⟩ =>
    show win0_6.index t 0 * win0_6.size 0 + 1 * i.val = t.val * 640 + i.val
    rw [(xat6 t).1]; omega
  | ⟨1, _⟩ =>
    show win0_6.index t 1 * win0_6.size 1 + 1 * q.val = 1024 + q.val
    rw [(xat6 t).2]; omega

theorem xat7 : ∀ t : Fin cfg0.N, win0_7.index t 0 * win0_7.size 0 = t.val * 640 - 32 ∧ win0_7.index t 1 * win0_7.size 1 = 768 :=
  (by decide +kernel : ∀ t : Fin grid0.N, win0_7.index t 0 * win0_7.size 0 = t.val * 640 - 32 ∧ win0_7.index t 1 * win0_7.size 1 = 768)

theorem X_7 (c : Dev nD) (t : Fin cfg0.N) (h0 : 0 < t.val) (i : Fin 32) (q : Fin 256) (h : t.val * 640 + i.val - 32 < 8320) :
    X0_7 m c t (ix2 i q) = col m c 768 (by decide) ⟨t.val * 640 + i.val - 32, h⟩ q := by
  unfold X0_7 Pipeline.Window.fill
  rw [dif_pos (moved0_7 t _)]
  show rest m c _ = rest m c _
  congr 1
  funext a
  apply Fin.ext
  match a with
  | ⟨0, _⟩ =>
    show win0_7.index t 0 * win0_7.size 0 + 1 * i.val = t.val * 640 + i.val - 32
    rw [(xat7 t).1]; omega
  | ⟨1, _⟩ =>
    show win0_7.index t 1 * win0_7.size 1 + 1 * q.val = 768 + q.val
    rw [(xat7 t).2]; omega

theorem xat8 : ∀ t : Fin cfg0.N, win0_8.index t 0 * win0_8.size 0 = t.val * 640 - 32 ∧ win0_8.index t 1 * win0_8.size 1 = 1024 :=
  (by decide +kernel : ∀ t : Fin grid0.N, win0_8.index t 0 * win0_8.size 0 = t.val * 640 - 32 ∧ win0_8.index t 1 * win0_8.size 1 = 1024)

theorem X_8 (c : Dev nD) (t : Fin cfg0.N) (h0 : 0 < t.val) (i : Fin 32) (q : Fin 256) (h : t.val * 640 + i.val - 32 < 8320) :
    X0_8 m c t (ix2 i q) = col m c 1024 (by decide) ⟨t.val * 640 + i.val - 32, h⟩ q := by
  unfold X0_8 Pipeline.Window.fill
  rw [dif_pos (moved0_8 t _)]
  show rest m c _ = rest m c _
  congr 1
  funext a
  apply Fin.ext
  match a with
  | ⟨0, _⟩ =>
    show win0_8.index t 0 * win0_8.size 0 + 1 * i.val = t.val * 640 + i.val - 32
    rw [(xat8 t).1]; omega
  | ⟨1, _⟩ =>
    show win0_8.index t 1 * win0_8.size 1 + 1 * q.val = 1024 + q.val
    rw [(xat8 t).2]; omega

theorem xat9 : ∀ t : Fin cfg0.N, win0_9.index t 0 * win0_9.size 0 = t.val * 640 ∧ win0_9.index t 1 * win0_9.size 1 = 1280 :=
  (by decide +kernel : ∀ t : Fin grid0.N, win0_9.index t 0 * win0_9.size 0 = t.val * 640 ∧ win0_9.index t 1 * win0_9.size 1 = 1280)

theorem X_9 (c : Dev nD) (t : Fin cfg0.N) (i : Fin 640) (q : Fin 128) (h : t.val * 640 + i.val < 8320) :
    iblk m c 9 t (ix2 i q) = colf m c ⟨t.val * 640 + i.val, h⟩ q := by
  show rest m c _ = rest m c _
  congr 1
  funext a
  apply Fin.ext
  match a with
  | ⟨0, _⟩ =>
    show win0_9.index t 0 * win0_9.size 0 + 1 * i.val = t.val * 640 + i.val
    rw [(xat9 t).1]; omega
  | ⟨1, _⟩ =>
    show win0_9.index t 1 * win0_9.size 1 + 1 * q.val = 1280 + q.val
    rw [(xat9 t).2]; omega

theorem at10 : ∀ t : Fin cfg0.N, win0_10.index t 0 * win0_10.size 0 = 0 ∧ win0_10.index t 1 * win0_10.size 1 = 0 :=
  (by decide +kernel : ∀ t : Fin grid0.N, win0_10.index t 0 * win0_10.size 0 = 0 ∧ win0_10.index t 1 * win0_10.size 1 = 0)

theorem blk10 (c : Dev nD) (t : Fin cfg0.N) (i : Fin 32) (k : Fin 256) : iblk m c 10 t (ix2 i k) = wdw m c (ix2 i k) := by
  show wdw m c _ = _
  congr 1
  funext a
  apply Fin.ext
  match a with
  | ⟨0, _⟩ =>
    show win0_10.index t 0 * win0_10.size 0 + 1 * i.val = i.val
    rw [(at10 t).1]; omega
  | ⟨1, _⟩ =>
    show win0_10.index t 1 * win0_10.size 1 + 1 * k.val = k.val
    rw [(at10 t).2]; omega

theorem at11 : ∀ t : Fin cfg0.N, win0_11.index t 0 * win0_11.size 0 = 0 ∧ win0_11.index t 1 * win0_11.size 1 = 0 :=
  (by decide +kernel : ∀ t : Fin grid0.N, win0_11.index t 0 * win0_11.size 0 = 0 ∧ win0_11.index t 1 * win0_11.size 1 = 0)

theorem blk11 (c : Dev nD) (t : Fin cfg0.N) (i : Fin 8) (k : Fin 256) : iblk m c 11 t (ix2 i k) = vec m c (ix2 i k) := by
  show vec m c _ = _
  congr 1
  funext a
  apply Fin.ext
  match a with
  | ⟨0, _⟩ =>
    show win0_11.index t 0 * win0_11.size 0 + 1 * i.val = i.val
    rw [(at11 t).1]; omega
  | ⟨1, _⟩ =>
    show win0_11.index t 1 * win0_11.size 1 + 1 * k.val = k.val
    rw [(at11 t).2]; omega

theorem at12 : ∀ t : Fin cfg0.N, win0_12.index t 0 * win0_12.size 0 = 0 ∧ win0_12.index t 1 * win0_12.size 1 = 0 :=
  (by decide +kernel : ∀ t : Fin grid0.N, win0_12.index t 0 * win0_12.size 0 = 0 ∧ win0_12.index t 1 * win0_12.size 1 = 0)

theorem blk12 (c : Dev nD) (t : Fin cfg0.N) (i : Fin 256) (k : Fin 256) : iblk m c 12 t (ix2 i k) = wpw m c (ix2 i k) := by
  show wpw m c _ = _
  congr 1
  funext a
  apply Fin.ext
  match a with
  | ⟨0, _⟩ =>
    show win0_12.index t 0 * win0_12.size 0 + 1 * i.val = i.val
    rw [(at12 t).1]; omega
  | ⟨1, _⟩ =>
    show win0_12.index t 1 * win0_12.size 1 + 1 * k.val = k.val
    rw [(at12 t).2]; omega

theorem at13 : ∀ t : Fin cfg0.N, win0_13.index t 0 * win0_13.size 0 = 0 ∧ win0_13.index t 1 * win0_13.size 1 = 0 :=
  (by decide +kernel : ∀ t : Fin grid0.N, win0_13.index t 0 * win0_13.size 0 = 0 ∧ win0_13.index t 1 * win0_13.size 1 = 0)

theorem blk13 (c : Dev nD) (t : Fin cfg0.N) (i : Fin 8) (k : Fin 256) : iblk m c 13 t (ix2 i k) = wsc m c (ix2 i k) := by
  show wsc m c _ = _
  congr 1
  funext a
  apply Fin.ext
  match a with
  | ⟨0, _⟩ =>
    show win0_13.index t 0 * win0_13.size 0 + 1 * i.val = i.val
    rw [(at13 t).1]; omega
  | ⟨1, _⟩ =>
    show win0_13.index t 1 * win0_13.size 1 + 1 * k.val = k.val
    rw [(at13 t).2]; omega

theorem ld32 (X : Vec Ideal S32x256 .f32) (k : ℕ) (hk : k < 32) (h) (q : Fin 256) :
    View.ld X (Rect.unit (s := S32x256) ![k, 0] S1x256.size h) (ix2 0 q) = X (ix2 ⟨k % 32, Nat.mod_lt _ (by decide)⟩ q) := by
  show X _ = X _
  congr 1
  funext a
  apply Fin.ext
  match a with
  | ⟨0, _⟩ => show k + 1 * 0 = k % 32; omega
  | ⟨1, _⟩ => show 0 + 1 * q.val = q.val; omega

theorem ld8 (X : Vec Ideal S8x256 .f32) (k : ℕ) (hk : k < 8) (h) (q : Fin 256) :
    View.ld X (Rect.unit (s := S8x256) ![k, 0] S1x256.size h) (ix2 0 q) = X (ix2 ⟨k % 8, Nat.mod_lt _ (by decide)⟩ q) := by
  show X _ = X _
  congr 1
  funext a
  apply Fin.ext
  match a with
  | ⟨0, _⟩ => show k + 1 * 0 = k % 8; omega
  | ⟨1, _⟩ => show 0 + 1 * q.val = q.val; omega

theorem ldone (x : Vec Ideal S8x128 .f32) (q : Fin 128) : one x (ix2 0 q) = x (ix2 0 q) := by
  show x _ = x _
  congr 1
  funext a
  apply Fin.ext
  match a with
  | ⟨0, _⟩ => rfl
  | ⟨1, _⟩ => show 0 + 1 * q.val = q.val; omega

theorem fb_apply (c : Dev nD) (t : Fin cfg0.N) (q : Fin 128) : fb m c t (ix2 0 q) = vec m c (ix2 4 ⟨q.val, by omega⟩) := by
  refine Eq.trans ?_ (blk11 m c t 4 ⟨q.val, by omega⟩)
  show iblk m c 11 t _ = iblk m c 11 t _
  congr 1
  funext a
  apply Fin.ext
  match a with
  | ⟨0, _⟩ => rfl
  | ⟨1, _⟩ => show 0 + 1 * q.val = q.val; omega

/-- The weights of column `q`. -/
abbrev ωd (c : Dev nD) (q : Fin 256) (k : ℕ) : EReal := wdw m c (ix2 ⟨k % 32, Nat.mod_lt _ (by decide)⟩ q)
abbrev ωc (c : Dev nD) (q : Fin 256) (k : ℕ) : EReal := wsc m c (ix2 ⟨k % 8, Nat.mod_lt _ (by decide)⟩ q)
abbrev vr (c : Dev nD) (k : ℕ) (q : Fin 256) : EReal := vec m c (ix2 ⟨k % 8, Nat.mod_lt _ (by decide)⟩ q)

theorem wd_apply (c : Dev nD) (t : Fin cfg0.N) (k : ℕ) (hk : k < 32) (h) (q : Fin 256) : wd m c t k h (ix2 0 q) = ωd m c q k :=
  (ld32 _ k hk h q).trans (blk10 m c t _ q)
theorem wc_apply (c : Dev nD) (t : Fin cfg0.N) (k : ℕ) (hk : k < 8) (h) (q : Fin 256) : wc m c t k h (ix2 0 q) = ωc m c q k :=
  (ld8 _ k hk h q).trans (blk13 m c t _ q)
theorem vc_apply (c : Dev nD) (t : Fin cfg0.N) (k : ℕ) (hk : k < 8) (h) (q : Fin 256) : vc m c t k h (ix2 0 q) = vr m c k q :=
  (ld8 _ k hk h q).trans (blk11 m c t _ q)

/-- The long convolution of the gated rows. -/
abbrev dwcv (c : Dev nD) (r : Fin 8320) (q : Fin 256) : EReal :=
  taps 31 (ωd m c q) (fun k => past (fun s n => col m c 0 (by decide) s n * sg (col m c 256 (by decide) s n)) r k q) + vr m c 0 q

/-- The short convolution of the products. -/
abbrev cvv (c : Dev nD) (r : Fin 8320) (q : Fin 256) : EReal :=
  taps 3 (ωc m c q) (fun k => past (fun s n => col m c 768 (by decide) s n * col m c 1024 (by decide) s n) r k q)

abbrev yln (c : Dev nD) (r : Fin 8320) : Fin 256 → EReal := ln (dwcv m c r) (vr m c 1) (vr m c 2)

abbrev confv (c : Dev nD) (r : Fin 8320) (q : Fin 256) : EReal :=
  ∑ k : Fin 256, yln m c r k * sg (yln m c r k) * wpw m c (ix2 k q) + vr m c 3 q

/-- What row `s` adds to the running sum. -/
def logf (c : Dev nD) (q : Fin 128) (s : ℕ) : EReal :=
  if h : s < 8320 then ls (colf m c ⟨s, h⟩ q + vec m c (ix2 4 ⟨q.val, by omega⟩)) else 0

abbrev G14 (c : Dev nD) : Buf (Elt Ideal) ((c : Thread nD τ).loc main_v0_0) := fun i : S8320x512.Idx =>
  (if (i 1).val < 256 then confv m c (i 0) ⟨(i 1).val % 256, Nat.mod_lt _ (by decide)⟩
    else col m c 512 (by decide) (i 0) ⟨(i 1).val % 256, Nat.mod_lt _ (by decide)⟩ * cvv m c (i 0) ⟨(i 1).val % 256, Nat.mod_lt _ (by decide)⟩ : EReal)
abbrev G15 (c : Dev nD) : Buf (Elt Ideal) ((c : Thread nD τ).loc main_v0_1) := fun i : S8320x256.Idx => dwcv m c (i 0) (i 1)
abbrev G16 (c : Dev nD) : Buf (Elt Ideal) ((c : Thread nD τ).loc main_v0_2) := fun i : S8320x256.Idx => cvv m c (i 0) (i 1)
abbrev G17 (c : Dev nD) : Buf (Elt Ideal) ((c : Thread nD τ).loc main_v0_3) := fun i : S8320x128.Idx =>
  (∑ s ∈ Finset.range ((i 0).val + 1), logf m c (i 1) s : EReal)

theorem tile15_apply (c : Dev nD) (t : Fin cfg0.N) (i : Fin 640) (q : Fin 256) (r : Fin 8320) (h : r.val = t.val * 640 + i.val) :
    tile15 m c t (ix2 i q) = dwcv m c r q :=
  dwc_apply (grid0.coords t) _ _ _ _ _ _ _ _ _ _ _ _ _ _ _ _ _ _ _ _ _ _ _ _ _ _ _ _ _ _ _ _ _ _ _ _ i q _ (ωd m c q) _ (vc_apply m c t 0 (by decide) _ q)
    (wd_apply m c t 0 (by decide) _ q) (wd_apply m c t 1 (by decide) _ q) (wd_apply m c t 2 (by decide) _ q) (wd_apply m c t 3 (by decide) _ q) (wd_apply m c t 4 (by decide) _ q) (wd_apply m c t 5 (by decide) _ q) (wd_apply m c t 6 (by decide) _ q) (wd_apply m c t 7 (by decide) _ q) (wd_apply m c t 8 (by decide) _ q) (wd_apply m c t 9 (by decide) _ q) (wd_apply m c t 10 (by decide) _ q) (wd_apply m c t 11 (by decide) _ q) (wd_apply m c t 12 (by decide) _ q) (wd_apply m c t 13 (by decide) _ q) (wd_apply m c t 14 (by decide) _ q) (wd_apply m c t 15 (by decide) _ q) (wd_apply m c t 16 (by decide) _ q) (wd_apply m c t 17 (by decide) _ q) (wd_apply m c t 18 (by decide) _ q) (wd_apply m c t 19 (by decide) _ q) (wd_apply m c t 20 (by decide) _ q) (wd_apply m c t 21 (by decide) _ q) (wd_apply m c t 22 (by decide) _ q) (wd_apply m c t 23 (by decide) _ q) (wd_apply m c t 24 (by decide) _ q) (wd_apply m c t 25 (by decide) _ q) (wd_apply m c t 26 (by decide) _ q) (wd_apply m c t 27 (by decide) _ q) (wd_apply m c t 28 (by decide) _ q) (wd_apply m c t 29 (by decide) _ q) (wd_apply m c t 30 (by decide) _ q)
    (fun k hk => glu (grid0.coords t) t.val (pt t) (coords t) _ _ _ _ (col m c 0 (by decide)) (col m c 256 (by decide))
      (fun j q => X_0 m c t j q _) (fun j q => X_1 m c t j q _) (fun h j q => X_2 m c t h j q _) (fun h j q => X_3 m c t h j q _)
      k (by omega) i q r h)

theorem tile16_apply (c : Dev nD) (t : Fin cfg0.N) (i : Fin 640) (q : Fin 256) (r : Fin 8320) (h : r.val = t.val * 640 + i.val) :
    tile16 m c t (ix2 i q) = cvv m c r q :=
  cv_apply (first t) _ _ _ _ _ _ _ i q (ωc m c q) _ (wc_apply m c t 0 (by decide) _ q) (wc_apply m c t 1 (by decide) _ q) (wc_apply m c t 2 (by decide) _ q)
    (fun k hk => prod (first t) t.val (pt t) (first_eq t) _ _ _ _ (col m c 768 (by decide)) (col m c 1024 (by decide))
      (fun j q => X_5 m c t j q _) (fun j q => X_6 m c t j q _) (fun h j q => X_7 m c t h j q _) (fun h j q => X_8 m c t h j q _)
      k (by omega) i q r h)

theorem tileConf_apply (c : Dev nD) (t : Fin cfg0.N) (i : Fin 640) (q : Fin 256) (r : Fin 8320) (h : r.val = t.val * 640 + i.val) :
    tileConf m c t (ix2 i q) = confv m c r q := by
  refine pay16 _ _ _ _ i q (yln m c r) (fun k q => wpw m c (ix2 k q)) _ (fun k => ?_) (fun k => blk12 m c t k q) (vc_apply m c t 3 (by decide) _ q)
  refine congrArg₂ (· + ·) (pay15 _ _ _ _ _ _ _ _ i k (dwcv m c r) (vr m c 1) (fun k => tile15_apply m c t i k r h) (vc_apply m c t 1 (by decide) _ k)) ?_
  exact vc_apply m c t 2 (by decide) _ k

theorem tileShort_apply (c : Dev nD) (t : Fin cfg0.N) (i : Fin 640) (q : Fin 256) (r : Fin 8320) (h : r.val = t.val * 640 + i.val) :
    tileShort m c t (ix2 i q) = col m c 512 (by decide) r q * cvv m c r q := by
  refine (pay22 _ _ _ _ _ _ _).trans ?_
  refine congrArg₂ (· * ·) ((X_4 m c t i q (by omega)).trans ?_) (tile16_apply m c t i q r h)
  exact congrArg (fun s => col m c 512 (by decide) s q) (Fin.ext h.symm)

theorem tileF_apply (c : Dev nD) (t : Fin cfg0.N) (i : Fin 640) (q : Fin 128) :
    tileF m c t (ix2 i q) = ∑ j ∈ Finset.range (i.val + 1), logf m c q (t.val * 640 + j) := by
  refine pay23 _ _ i q (fun j => logf m c q (t.val * 640 + j)) (fun j => ?_)
  have hj : t.val * 640 + j.val < 8320 := by have := pt t; omega
  refine Eq.trans ?_ (dif_pos hj).symm
  exact congrArg ls (congrArg₂ (· + ·) (X_9 m c t j q hj) (fb_apply m c t q))

theorem carry (c : Dev nD) (q : Fin 128) : ∀ (n : ℕ) (h : n < cfg0.N),
    (outsAt0 m c n h).2.2.2.2 (ix2 0 q) = ∑ s ∈ Finset.range ((n + 1) * 640), logf m c q s
  | 0, h => by
    refine (carryA m c ⟨0, h⟩ rfl q).trans ?_
    rw [pay2, ldone, pay3, add_zero, tileF_apply]
    refine Finset.sum_congr rfl fun j _ => ?_
    show logf m c q (0 * 640 + j) = _
    rw [Nat.zero_mul, Nat.zero_add]
  | n + 1, h => by
    have hN : cfg0.N = 13 := N_0
    refine (carryB m c ⟨n + 1, h⟩ (by show ¬ (n + 1) % 13 = 0; omega) q).trans ?_
    rw [pay2, ldone, tileF_apply, add_comm]
    refine (congrArg (· + _) (carry c q n (by omega))).trans ?_
    exact ((congrArg (fun k => ∑ s ∈ Finset.range k, logf m c q s) (show (n + 1 + 1) * 640 = (n + 1) * 640 + 640 by omega)).trans
      (Finset.sum_range_add _ _ _)).symm

theorem outs17 (c : Dev nD) (t : Fin cfg0.N) (i : Fin 640) (q : Fin 128) :
    (outsAt0 m c t.val t.isLt).2.2.2.1 (ix2 i q) = ∑ s ∈ Finset.range (t.val * 640 + i.val + 1), logf m c q s := by
  have ht := pt t
  have hs : ∑ s ∈ Finset.range (t.val * 640 + i.val + 1), logf m c q s
      = ∑ s ∈ Finset.range (t.val * 640), logf m c q s + ∑ j ∈ Finset.range (i.val + 1), logf m c q (t.val * 640 + j) := by
    rw [Nat.add_assoc, Finset.sum_range_add]
  rw [hs]
  by_cases h0 : t.val % 13 = 0
  · rw [outs17A m c t h0, pay1, ldone, pay3, add_zero, tileF_apply]
    have e : t.val = 0 := by omega
    rw [e, Nat.zero_mul, Finset.sum_range_zero, zero_add]
  · rw [outs17B m c t h0, pay1, ldone, tileF_apply, add_comm]
    refine congrArg (· + _) ((carry m c q (t.val - 1) _).trans ?_)
    rw [show t.val - 1 + 1 = t.val by omega]

theorem at14 : ∀ t : Fin cfg0.N, win0_14.index t 0 * win0_14.size 0 = t.val * 640 ∧ win0_14.index t 1 * win0_14.size 1 = 0 :=
  (by decide +kernel : ∀ t : Fin grid0.N, win0_14.index t 0 * win0_14.size 0 = t.val * 640 ∧ win0_14.index t 1 * win0_14.size 1 = 0)

theorem emb14 (t : Fin cfg0.N) (i : Fin 640) (k : Fin 512) (h : t.val * 640 + i.val < 8320) :
    (win0_14.blk t).view.emb (ix2 i k) = (ix2 ⟨t.val * 640 + i.val, h⟩ k : S8320x512.Idx) := by
  funext a
  apply Fin.ext
  match a with
  | ⟨0, _⟩ =>
    show win0_14.index t 0 * win0_14.size 0 + 1 * i.val = t.val * 640 + i.val
    rw [(at14 t).1]; omega
  | ⟨1, _⟩ =>
    show win0_14.index t 1 * win0_14.size 1 + 1 * k.val = k.val
    rw [(at14 t).2]; omega

theorem flushed14 (c : Dev nD) (t : Fin cfg0.N) :
    (dats m 0 c).flushed 14 t = (win0_14.blk t).view.read (Elt Ideal) (G14 m c) := by
  rw [ConvFwdVal.flushed14]
  funext y
  obtain ⟨i, k, rfl⟩ : ∃ (i : Fin 640) (k : Fin 512), y = ix2 i k := ⟨y 0, y 1, eq_ix2 y⟩
  have ht : t.val * 640 + i.val < 8320 := by
    have := pt t; have := i.isLt; omega
  show (outsAt0 m c t.val t.isLt).1 (ix2 i k) = G14 m c ((win0_14.blk t).view.emb (ix2 i k))
  rw [emb14 t i k ht]
  have hk := k.isLt
  have e : ∀ h : k.val - 256 < 256, ¬ k.val < 256 → (⟨k.val - 256, h⟩ : Fin 256) = ⟨k.val % 256, Nat.mod_lt _ (by decide)⟩ := fun h h' =>
    Fin.ext (by show k.val - 256 = k.val % 256; omega)
  by_cases hq : k.val < 256
  · refine (outs14 m c t i k (confv m c ⟨_, ht⟩ ⟨k.val % 256, Nat.mod_lt _ (by decide)⟩) (tileShort m c t (ix2 i ⟨k.val - 256, by omega⟩)) (fun h => ?_) (fun h => rfl)).trans ?_
    · refine (tileConf_apply m c t i _ ⟨_, ht⟩ rfl).trans (congrArg (confv m c _) (Fin.ext ?_))
      show k.val = k.val % 256
      omega
    · exact (if_pos hq).trans (if_pos hq).symm
  · refine (outs14 m c t i k 0 (col m c 512 (by decide) ⟨_, ht⟩ ⟨k.val % 256, Nat.mod_lt _ (by decide)⟩ * cvv m c ⟨_, ht⟩ ⟨k.val % 256, Nat.mod_lt _ (by decide)⟩)
      (fun h => absurd h hq) (fun h => ?_)).trans ?_
    · refine (tileShort_apply m c t i _ ⟨_, ht⟩ rfl).trans ?_
      rw [e h hq]
    · exact (if_neg hq).trans (if_neg hq).symm
theorem mem_blk14 (t : Fin cfg0.N) (i : S8320x512.Idx) :
    i ∈ ((cfg0.win 14).blk t).view.set ↔ t.val * 640 ≤ (i 0 : Nat) ∧ (i 0 : Nat) < t.val * 640 + 640 := by
  show i ∈ ((View.whole main_v0_0).slice (win0_14.rect t)).set ↔ _
  rw [View.set_slice_whole, Rect.mem_set_unit]
  have h1 : (i 1 : Nat) < 512 := (i 1).isLt
  have e : win0_14.index t 0 * win0_14.size 0 = t.val * 640 ∧ win0_14.xsize (grid0.coords t) 0 = 640
      ∧ win0_14.index t 1 * win0_14.size 1 = 0 ∧ win0_14.xsize (grid0.coords t) 1 = 512 := by
    revert t; exact (by decide +kernel : ∀ t : Fin grid0.N, win0_14.index t 0 * win0_14.size 0 = t.val * 640 ∧ win0_14.xsize (grid0.coords t) 0 = 640
      ∧ win0_14.index t 1 * win0_14.size 1 = 0 ∧ win0_14.xsize (grid0.coords t) 1 = 512)
  refine ⟨fun h => ?_, fun h a => ?_⟩
  · have : win0_14.index t 0 * win0_14.size 0 ≤ (i 0 : Nat) ∧ (i 0 : Nat) < win0_14.index t 0 * win0_14.size 0 + win0_14.xsize (grid0.coords t) 0 := h 0
    rw [e.1, e.2.1] at this; exact this
  · match a with
    | ⟨0, _⟩ => show win0_14.index t 0 * win0_14.size 0 ≤ (i 0 : Nat) ∧ (i 0 : Nat) < win0_14.index t 0 * win0_14.size 0 + win0_14.xsize (grid0.coords t) 0
                rw [e.1, e.2.1]; exact h
    | ⟨1, _⟩ => show win0_14.index t 1 * win0_14.size 1 ≤ (i 1 : Nat) ∧ (i 1 : Nat) < win0_14.index t 1 * win0_14.size 1 + win0_14.xsize (grid0.coords t) 1
                rw [e.2.2.1, e.2.2.2]; omega

theorem cover14 (i : S8320x512.Idx) :
    ∃ t : Fin cfg0.N, (cfg0.win 14).flush t = true ∧ i ∈ ((cfg0.win 14).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_14 _, ?_⟩
  rw [mem_blk14]
  dsimp only
  omega

theorem final14 (c : Dev nD) : (dats m 0 c).arrAt 14 cfg0.N = G14 m c :=
  (dats m 0 c).arrAt_eq_of_cover 14 (G14 m c) (fun t _ => flushed14 m c t) cover14

theorem at15 : ∀ t : Fin cfg0.N, win0_15.index t 0 * win0_15.size 0 = t.val * 640 ∧ win0_15.index t 1 * win0_15.size 1 = 0 :=
  (by decide +kernel : ∀ t : Fin grid0.N, win0_15.index t 0 * win0_15.size 0 = t.val * 640 ∧ win0_15.index t 1 * win0_15.size 1 = 0)

theorem emb15 (t : Fin cfg0.N) (i : Fin 640) (k : Fin 256) (h : t.val * 640 + i.val < 8320) :
    (win0_15.blk t).view.emb (ix2 i k) = (ix2 ⟨t.val * 640 + i.val, h⟩ k : S8320x256.Idx) := by
  funext a
  apply Fin.ext
  match a with
  | ⟨0, _⟩ =>
    show win0_15.index t 0 * win0_15.size 0 + 1 * i.val = t.val * 640 + i.val
    rw [(at15 t).1]; omega
  | ⟨1, _⟩ =>
    show win0_15.index t 1 * win0_15.size 1 + 1 * k.val = k.val
    rw [(at15 t).2]; omega

theorem flushed15 (c : Dev nD) (t : Fin cfg0.N) :
    (dats m 0 c).flushed 15 t = (win0_15.blk t).view.read (Elt Ideal) (G15 m c) := by
  rw [ConvFwdVal.flushed15]
  funext y
  obtain ⟨i, k, rfl⟩ : ∃ (i : Fin 640) (k : Fin 256), y = ix2 i k := ⟨y 0, y 1, eq_ix2 y⟩
  have ht : t.val * 640 + i.val < 8320 := by
    have := pt t; have := i.isLt; omega
  show (outsAt0 m c t.val t.isLt).2.1 (ix2 i k) = G15 m c ((win0_15.blk t).view.emb (ix2 i k))
  rw [emb15 t i k ht]
  rw [outs15]
  exact tile15_apply m c t i k ⟨_, ht⟩ rfl
theorem mem_blk15 (t : Fin cfg0.N) (i : S8320x256.Idx) :
    i ∈ ((cfg0.win 15).blk t).view.set ↔ t.val * 640 ≤ (i 0 : Nat) ∧ (i 0 : Nat) < t.val * 640 + 640 := by
  show i ∈ ((View.whole main_v0_1).slice (win0_15.rect t)).set ↔ _
  rw [View.set_slice_whole, Rect.mem_set_unit]
  have h1 : (i 1 : Nat) < 256 := (i 1).isLt
  have e : win0_15.index t 0 * win0_15.size 0 = t.val * 640 ∧ win0_15.xsize (grid0.coords t) 0 = 640
      ∧ win0_15.index t 1 * win0_15.size 1 = 0 ∧ win0_15.xsize (grid0.coords t) 1 = 256 := by
    revert t; exact (by decide +kernel : ∀ t : Fin grid0.N, win0_15.index t 0 * win0_15.size 0 = t.val * 640 ∧ win0_15.xsize (grid0.coords t) 0 = 640
      ∧ win0_15.index t 1 * win0_15.size 1 = 0 ∧ win0_15.xsize (grid0.coords t) 1 = 256)
  refine ⟨fun h => ?_, fun h a => ?_⟩
  · have : win0_15.index t 0 * win0_15.size 0 ≤ (i 0 : Nat) ∧ (i 0 : Nat) < win0_15.index t 0 * win0_15.size 0 + win0_15.xsize (grid0.coords t) 0 := h 0
    rw [e.1, e.2.1] at this; exact this
  · match a with
    | ⟨0, _⟩ => show win0_15.index t 0 * win0_15.size 0 ≤ (i 0 : Nat) ∧ (i 0 : Nat) < win0_15.index t 0 * win0_15.size 0 + win0_15.xsize (grid0.coords t) 0
                rw [e.1, e.2.1]; exact h
    | ⟨1, _⟩ => show win0_15.index t 1 * win0_15.size 1 ≤ (i 1 : Nat) ∧ (i 1 : Nat) < win0_15.index t 1 * win0_15.size 1 + win0_15.xsize (grid0.coords t) 1
                rw [e.2.2.1, e.2.2.2]; omega

theorem cover15 (i : S8320x256.Idx) :
    ∃ t : Fin cfg0.N, (cfg0.win 15).flush t = true ∧ i ∈ ((cfg0.win 15).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_15 _, ?_⟩
  rw [mem_blk15]
  dsimp only
  omega

theorem final15 (c : Dev nD) : (dats m 0 c).arrAt 15 cfg0.N = G15 m c :=
  (dats m 0 c).arrAt_eq_of_cover 15 (G15 m c) (fun t _ => flushed15 m c t) cover15

theorem at16 : ∀ t : Fin cfg0.N, win0_16.index t 0 * win0_16.size 0 = t.val * 640 ∧ win0_16.index t 1 * win0_16.size 1 = 0 :=
  (by decide +kernel : ∀ t : Fin grid0.N, win0_16.index t 0 * win0_16.size 0 = t.val * 640 ∧ win0_16.index t 1 * win0_16.size 1 = 0)

theorem emb16 (t : Fin cfg0.N) (i : Fin 640) (k : Fin 256) (h : t.val * 640 + i.val < 8320) :
    (win0_16.blk t).view.emb (ix2 i k) = (ix2 ⟨t.val * 640 + i.val, h⟩ k : S8320x256.Idx) := by
  funext a
  apply Fin.ext
  match a with
  | ⟨0, _⟩ =>
    show win0_16.index t 0 * win0_16.size 0 + 1 * i.val = t.val * 640 + i.val
    rw [(at16 t).1]; omega
  | ⟨1, _⟩ =>
    show win0_16.index t 1 * win0_16.size 1 + 1 * k.val = k.val
    rw [(at16 t).2]; omega

theorem flushed16 (c : Dev nD) (t : Fin cfg0.N) :
    (dats m 0 c).flushed 16 t = (win0_16.blk t).view.read (Elt Ideal) (G16 m c) := by
  rw [ConvFwdVal.flushed16]
  funext y
  obtain ⟨i, k, rfl⟩ : ∃ (i : Fin 640) (k : Fin 256), y = ix2 i k := ⟨y 0, y 1, eq_ix2 y⟩
  have ht : t.val * 640 + i.val < 8320 := by
    have := pt t; have := i.isLt; omega
  show (outsAt0 m c t.val t.isLt).2.2.1 (ix2 i k) = G16 m c ((win0_16.blk t).view.emb (ix2 i k))
  rw [emb16 t i k ht]
  rw [outs16]
  exact tile16_apply m c t i k ⟨_, ht⟩ rfl
theorem mem_blk16 (t : Fin cfg0.N) (i : S8320x256.Idx) :
    i ∈ ((cfg0.win 16).blk t).view.set ↔ t.val * 640 ≤ (i 0 : Nat) ∧ (i 0 : Nat) < t.val * 640 + 640 := by
  show i ∈ ((View.whole main_v0_2).slice (win0_16.rect t)).set ↔ _
  rw [View.set_slice_whole, Rect.mem_set_unit]
  have h1 : (i 1 : Nat) < 256 := (i 1).isLt
  have e : win0_16.index t 0 * win0_16.size 0 = t.val * 640 ∧ win0_16.xsize (grid0.coords t) 0 = 640
      ∧ win0_16.index t 1 * win0_16.size 1 = 0 ∧ win0_16.xsize (grid0.coords t) 1 = 256 := by
    revert t; exact (by decide +kernel : ∀ t : Fin grid0.N, win0_16.index t 0 * win0_16.size 0 = t.val * 640 ∧ win0_16.xsize (grid0.coords t) 0 = 640
      ∧ win0_16.index t 1 * win0_16.size 1 = 0 ∧ win0_16.xsize (grid0.coords t) 1 = 256)
  refine ⟨fun h => ?_, fun h a => ?_⟩
  · have : win0_16.index t 0 * win0_16.size 0 ≤ (i 0 : Nat) ∧ (i 0 : Nat) < win0_16.index t 0 * win0_16.size 0 + win0_16.xsize (grid0.coords t) 0 := h 0
    rw [e.1, e.2.1] at this; exact this
  · match a with
    | ⟨0, _⟩ => show win0_16.index t 0 * win0_16.size 0 ≤ (i 0 : Nat) ∧ (i 0 : Nat) < win0_16.index t 0 * win0_16.size 0 + win0_16.xsize (grid0.coords t) 0
                rw [e.1, e.2.1]; exact h
    | ⟨1, _⟩ => show win0_16.index t 1 * win0_16.size 1 ≤ (i 1 : Nat) ∧ (i 1 : Nat) < win0_16.index t 1 * win0_16.size 1 + win0_16.xsize (grid0.coords t) 1
                rw [e.2.2.1, e.2.2.2]; omega

theorem cover16 (i : S8320x256.Idx) :
    ∃ t : Fin cfg0.N, (cfg0.win 16).flush t = true ∧ i ∈ ((cfg0.win 16).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_16 _, ?_⟩
  rw [mem_blk16]
  dsimp only
  omega

theorem final16 (c : Dev nD) : (dats m 0 c).arrAt 16 cfg0.N = G16 m c :=
  (dats m 0 c).arrAt_eq_of_cover 16 (G16 m c) (fun t _ => flushed16 m c t) cover16

theorem at17 : ∀ t : Fin cfg0.N, win0_17.index t 0 * win0_17.size 0 = t.val * 640 ∧ win0_17.index t 1 * win0_17.size 1 = 0 :=
  (by decide +kernel : ∀ t : Fin grid0.N, win0_17.index t 0 * win0_17.size 0 = t.val * 640 ∧ win0_17.index t 1 * win0_17.size 1 = 0)

theorem emb17 (t : Fin cfg0.N) (i : Fin 640) (k : Fin 128) (h : t.val * 640 + i.val < 8320) :
    (win0_17.blk t).view.emb (ix2 i k) = (ix2 ⟨t.val * 640 + i.val, h⟩ k : S8320x128.Idx) := by
  funext a
  apply Fin.ext
  match a with
  | ⟨0, _⟩ =>
    show win0_17.index t 0 * win0_17.size 0 + 1 * i.val = t.val * 640 + i.val
    rw [(at17 t).1]; omega
  | ⟨1, _⟩ =>
    show win0_17.index t 1 * win0_17.size 1 + 1 * k.val = k.val
    rw [(at17 t).2]; omega

theorem flushed17 (c : Dev nD) (t : Fin cfg0.N) :
    (dats m 0 c).flushed 17 t = (win0_17.blk t).view.read (Elt Ideal) (G17 m c) := by
  rw [ConvFwdVal.flushed17]
  funext y
  obtain ⟨i, k, rfl⟩ : ∃ (i : Fin 640) (k : Fin 128), y = ix2 i k := ⟨y 0, y 1, eq_ix2 y⟩
  have ht : t.val * 640 + i.val < 8320 := by
    have := pt t; have := i.isLt; omega
  show (outsAt0 m c t.val t.isLt).2.2.2.1 (ix2 i k) = G17 m c ((win0_17.blk t).view.emb (ix2 i k))
  rw [emb17 t i k ht]
  exact outs17 m c t i k
theorem mem_blk17 (t : Fin cfg0.N) (i : S8320x128.Idx) :
    i ∈ ((cfg0.win 17).blk t).view.set ↔ t.val * 640 ≤ (i 0 : Nat) ∧ (i 0 : Nat) < t.val * 640 + 640 := by
  show i ∈ ((View.whole main_v0_3).slice (win0_17.rect t)).set ↔ _
  rw [View.set_slice_whole, Rect.mem_set_unit]
  have h1 : (i 1 : Nat) < 128 := (i 1).isLt
  have e : win0_17.index t 0 * win0_17.size 0 = t.val * 640 ∧ win0_17.xsize (grid0.coords t) 0 = 640
      ∧ win0_17.index t 1 * win0_17.size 1 = 0 ∧ win0_17.xsize (grid0.coords t) 1 = 128 := by
    revert t; exact (by decide +kernel : ∀ t : Fin grid0.N, win0_17.index t 0 * win0_17.size 0 = t.val * 640 ∧ win0_17.xsize (grid0.coords t) 0 = 640
      ∧ win0_17.index t 1 * win0_17.size 1 = 0 ∧ win0_17.xsize (grid0.coords t) 1 = 128)
  refine ⟨fun h => ?_, fun h a => ?_⟩
  · have : win0_17.index t 0 * win0_17.size 0 ≤ (i 0 : Nat) ∧ (i 0 : Nat) < win0_17.index t 0 * win0_17.size 0 + win0_17.xsize (grid0.coords t) 0 := h 0
    rw [e.1, e.2.1] at this; exact this
  · match a with
    | ⟨0, _⟩ => show win0_17.index t 0 * win0_17.size 0 ≤ (i 0 : Nat) ∧ (i 0 : Nat) < win0_17.index t 0 * win0_17.size 0 + win0_17.xsize (grid0.coords t) 0
                rw [e.1, e.2.1]; exact h
    | ⟨1, _⟩ => show win0_17.index t 1 * win0_17.size 1 ≤ (i 1 : Nat) ∧ (i 1 : Nat) < win0_17.index t 1 * win0_17.size 1 + win0_17.xsize (grid0.coords t) 1
                rw [e.2.2.1, e.2.2.2]; omega

theorem cover17 (i : S8320x128.Idx) :
    ∃ t : Fin cfg0.N, (cfg0.win 17).flush t = true ∧ i ∈ ((cfg0.win 17).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_17 _, ?_⟩
  rw [mem_blk17]
  dsimp only
  omega

theorem final17 (c : Dev nD) : (dats m 0 c).arrAt 17 cfg0.N = G17 m c :=
  (dats m 0 c).arrAt_eq_of_cover 17 (G17 m c) (fun t _ => flushed17 m c t) cover17

theorem run : θ_run defs (onTc (τ := τ) (main (F := Ideal))) ⟨m, fun _ => 0, g⟩ fun r => ∀ c : Dev nD,
      r.2.mem ((c : Thread nD τ).loc main_v0_0) = G14 m c
      ∧ r.2.mem ((c : Thread nD τ).loc main_v0_1) = G15 m c
      ∧ r.2.mem ((c : Thread nD τ).loc main_v0_2) = G16 m c
      ∧ r.2.mem ((c : Thread nD τ).loc main_v0_3) = G17 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h14, h15, h16, h17, hk⟩ := h c
    exact ⟨h14.trans (final14 m c), h15.trans (final15 m c), h16.trans (final16 m c), h17.trans (final17 m c), hk⟩)
    (ConvFwdVal.run_blocks m g)

theorem frame_ideal : Cert.quiescent_ConvFwdIdeal := fun m g _ => Gen.frame m g

theorem frame : Cert.quiescent_ConvFwd := fun m g _ => Cert.ConvFwd.Gen.frame m g

theorem frame_ref : Cert.quiescent_ConvFwdRefIdeal := fun m g _ =>
  (θ_run Cert.ConvFwdRefIdeal.defs _ _).mono
    (fun r h => ⟨fun c => (h c).2.2.2.2, sem_eq_zero_of_no_sems (by decide) r.2⟩) (Cert.ConvFwdRefIdeal.Value.run m g)

theorem algebraic : Cert.algebraic_ConvFwdIdeal_ConvFwdRefIdeal := by
  intro m g m' g' _ hm
  refine ⟨fun c => G14 m c, fun c => G15 m c, fun c => G16 m c, fun c => G17 m c,
    (θ_run defs _ _).mono (fun r h c => ⟨(h c).1, (h c).2.1, (h c).2.2.1, (h c).2.2.2.1, (h c).2.2.2.2⟩) (run m g),
    (θ_run Cert.ConvFwdRefIdeal.defs _ _).mono (fun r h c => ?_) (Cert.ConvFwdRefIdeal.Value.run m' g')⟩
  obtain ⟨h14, h15, h16, h17, hk⟩ := h c
  obtain ⟨a0, a1, a2, a3, a4⟩ := hm c
  refine ⟨h14.trans ?_, h15.trans ?_, h16.trans ?_, h17.trans ?_, hk⟩
  · clear hm h hk h14 h15 h16 h17
    funext i
    obtain ⟨r, k, rfl⟩ : ∃ (r : Fin 8320) (k : Fin 512), i = ix2 r k := ⟨i 0, i 1, eq_ix2 i⟩
    refine (ConvFwdRef.v317 _ _ _ _ r k).trans ?_
    by_cases hk : k.val < 256
    · refine (if_pos hk).trans (Eq.trans ?_ (if_pos hk).symm)
      exact ConvFwdRef.conf _ (rest m c) (wdw m c) (vec m c) (wpw m c) a0 a1 a2 a3 r _
    · refine (if_neg hk).trans (Eq.trans ?_ (if_neg hk).symm)
      refine ConvFwdRef.mulT _ _ _ _ _ ?_ (ConvFwdRef.cv _ (rest m c) (wsc m c) a0 a4 r _ _ _ _ _ _ _ _ _ _ _ _ _ _ _ _)
      refine (congrFun a0 _).trans (congrArg (rest m c) (funext fun a => Fin.ext ?_))
      match a with
      | ⟨0, _⟩ => show 0 + r.val = r.val; omega
      | ⟨1, _⟩ => rfl
  · clear hm h hk h14 h15 h16 h17
    funext i
    obtain ⟨r, k, rfl⟩ : ∃ (r : Fin 8320) (k : Fin 256), i = ix2 r k := ⟨i 0, i 1, eq_ix2 i⟩
    exact ConvFwdRef.v241 _ (rest m c) (wdw m c) (vec m c) a0 a1 a2 r k
  · clear hm h hk h14 h15 h16 h17
    funext i
    obtain ⟨r, k, rfl⟩ : ∃ (r : Fin 8320) (k : Fin 256), i = ix2 r k := ⟨i 0, i 1, eq_ix2 i⟩
    exact ConvFwdRef.cv _ (rest m c) (wsc m c) a0 a4 r k _ _ _ _ _ _ _ _ _ _ _ _ _ _ _
  · clear hm h hk h14 h15 h16 h17
    funext i
    obtain ⟨r, k, rfl⟩ : ∃ (r : Fin 8320) (k : Fin 128), i = ix2 r k := ⟨i 0, i 1, eq_ix2 i⟩
    exact ConvFwdRef.v318 _ (rest m c) (vec m c) a0 a2 r k

end Cert.ConvFwdClaim

end
-- ==== Proof.MixOutClaim.lean ====
/-
What is claimed of the output projection.
-/
module

public import proofs.«01_k».proof.Defs
public import proofs.«01_k».proof.Proof.Update
public import proofs.«01_k».proof.Proof.Rows
public import proofs.«01_k».proof.Proof.Gen.MixOut
public import proofs.«01_k».proof.Proof.Gen.MixOut.Frame
public import proofs.«01_k».proof.Proof.Gen.MixOutIdeal
public import proofs.«01_k».proof.Proof.Gen.MixOutIdeal.Value
public import proofs.«01_k».proof.Proof.Gen.MixOutRefIdeal
public import proofs.«01_k».proof.Proof.Gen.MixOutRefIdeal.Run
public import Idealize.ShloMosaic.Lib.Pipeline.Value
public import Idealize.ShloMosaic.Lib.Quiescent
public import Idealize.ShloMosaic.Lib.Pointwise

@[expose] public section

noncomputable section

namespace Cert.MixOutClaim

open Idealize.ShloMosaic Idealize.ShloMosaic.TcCoe Idealize.SL.Sem
open Idealize.ShloMosaic.Pipeline (Dat)
open Cert.MixOutIdeal Cert.MixOutIdeal.Gen

variable (m : (ℓ : Loc nD τ sig) → Buf (Elt Ideal) ℓ) (g : Dev nD → PrngReg)

open Cert.Rows

abbrev hin (c : Dev nD) : S8320x1024.Idx → EReal := m ((c : Thread nD τ).loc main_arg0)

theorem at0 : ∀ t : Fin cfg0.N, win0_0.index t 0 * win0_0.size 0 = t.val * 640 ∧ win0_0.index t 1 * win0_0.size 1 = 0 :=
  (by decide +kernel : ∀ t : Fin grid0.N, win0_0.index t 0 * win0_0.size 0 = t.val * 640 ∧ win0_0.index t 1 * win0_0.size 1 = 0)

theorem blk0 (c : Dev nD) (t : Fin cfg0.N) (i : Fin 640) (k : Fin 1024) (r : Fin 8320) (h : r.val = t.val * 640 + i.val) :
    iblk m c 0 t (ix2 i k) = row (hin m c) r k := by
  show hin m c _ = _
  congr 1
  funext a
  apply Fin.ext
  match a with
  | ⟨0, _⟩ =>
    show win0_0.index t 0 * win0_0.size 0 + 1 * i.val = r.val
    rw [(at0 t).1]; omega
  | ⟨1, _⟩ =>
    show win0_0.index t 1 * win0_0.size 1 + 1 * k.val = k.val
    rw [(at0 t).2]; omega

abbrev att (c : Dev nD) : S8320x512.Idx → EReal := m ((c : Thread nD τ).loc main_arg1)

theorem at1 : ∀ t : Fin cfg0.N, win0_1.index t 0 * win0_1.size 0 = t.val * 640 ∧ win0_1.index t 1 * win0_1.size 1 = 0 :=
  (by decide +kernel : ∀ t : Fin grid0.N, win0_1.index t 0 * win0_1.size 0 = t.val * 640 ∧ win0_1.index t 1 * win0_1.size 1 = 0)

theorem blk1 (c : Dev nD) (t : Fin cfg0.N) (i : Fin 640) (k : Fin 512) (r : Fin 8320) (h : r.val = t.val * 640 + i.val) :
    iblk m c 1 t (ix2 i k) = row (att m c) r k := by
  show att m c _ = _
  congr 1
  funext a
  apply Fin.ext
  match a with
  | ⟨0, _⟩ =>
    show win0_1.index t 0 * win0_1.size 0 + 1 * i.val = r.val
    rw [(at1 t).1]; omega
  | ⟨1, _⟩ =>
    show win0_1.index t 1 * win0_1.size 1 + 1 * k.val = k.val
    rw [(at1 t).2]; omega

abbrev cs (c : Dev nD) : S8320x512.Idx → EReal := m ((c : Thread nD τ).loc main_arg2)

theorem at2 : ∀ t : Fin cfg0.N, win0_2.index t 0 * win0_2.size 0 = t.val * 640 ∧ win0_2.index t 1 * win0_2.size 1 = 0 :=
  (by decide +kernel : ∀ t : Fin grid0.N, win0_2.index t 0 * win0_2.size 0 = t.val * 640 ∧ win0_2.index t 1 * win0_2.size 1 = 0)

theorem blk2 (c : Dev nD) (t : Fin cfg0.N) (i : Fin 640) (k : Fin 512) (r : Fin 8320) (h : r.val = t.val * 640 + i.val) :
    iblk m c 2 t (ix2 i k) = row (cs m c) r k := by
  show cs m c _ = _
  congr 1
  funext a
  apply Fin.ext
  match a with
  | ⟨0, _⟩ =>
    show win0_2.index t 0 * win0_2.size 0 + 1 * i.val = r.val
    rw [(at2 t).1]; omega
  | ⟨1, _⟩ =>
    show win0_2.index t 1 * win0_2.size 1 + 1 * k.val = k.val
    rw [(at2 t).2]; omega

abbrev wa (c : Dev nD) : S512x1024.Idx → EReal := m ((c : Thread nD τ).loc main_arg3)

theorem at3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)

theorem blk3 (c : Dev nD) (t : Fin cfg0.N) (i : Fin 512) (k : Fin 1024) : iblk m c 3 t (ix2 i k) = wa m c (ix2 i k) := by
  show wa m c _ = _
  congr 1
  funext a
  apply Fin.ext
  match a with
  | ⟨0, _⟩ =>
    show win0_3.index t 0 * win0_3.size 0 + 1 * i.val = i.val
    rw [(at3 t).1]; omega
  | ⟨1, _⟩ =>
    show win0_3.index t 1 * win0_3.size 1 + 1 * k.val = k.val
    rw [(at3 t).2]; omega

abbrev wc (c : Dev nD) : S512x1024.Idx → EReal := m ((c : Thread nD τ).loc main_arg4)

theorem at4 : ∀ t : Fin cfg0.N, win0_4.index t 0 * win0_4.size 0 = 0 ∧ win0_4.index t 1 * win0_4.size 1 = 0 :=
  (by decide +kernel : ∀ t : Fin grid0.N, win0_4.index t 0 * win0_4.size 0 = 0 ∧ win0_4.index t 1 * win0_4.size 1 = 0)

theorem blk4 (c : Dev nD) (t : Fin cfg0.N) (i : Fin 512) (k : Fin 1024) : iblk m c 4 t (ix2 i k) = wc m c (ix2 i k) := by
  show wc m c _ = _
  congr 1
  funext a
  apply Fin.ext
  match a with
  | ⟨0, _⟩ =>
    show win0_4.index t 0 * win0_4.size 0 + 1 * i.val = i.val
    rw [(at4 t).1]; omega
  | ⟨1, _⟩ =>
    show win0_4.index t 1 * win0_4.size 1 + 1 * k.val = k.val
    rw [(at4 t).2]; omega

abbrev G5 (c : Dev nD) : Buf (Elt Ideal) ((c : Thread nD τ).loc main_v0) := fun i : S8320x1024.Idx => hin m c (ix2 (i 0) (i 1)) + (dot (row (att m c) (i 0)) (mat (wa m c)) (i 1) + dot (row (cs m c) (i 0)) (mat (wc m c)) (i 1))

theorem pay1 (v0 : Vec Ideal S640x1024 .f32) (v1 : Vec Ideal S640x512 .bf16) (v2 : Vec Ideal S512x1024 .bf16)
    (v5 : Vec Ideal S640x512 .bf16) (v6 : Vec Ideal S512x1024 .bf16) (i : Fin 640) (n : Fin 1024) (h : EReal)
    (x : Fin 512 → EReal) (w : Fin 512 → Fin 1024 → EReal) (x' : Fin 512 → EReal) (w' : Fin 512 → Fin 1024 → EReal)
    (hh : v0 (ix2 i n) = h) (hx : ∀ k, v1 (ix2 i k) = x k) (hw : ∀ k n, v2 (ix2 k n) = w k n)
    (hx' : ∀ k, v5 (ix2 i k) = x' k) (hw' : ∀ k n, v6 (ix2 k n) = w' k n) :
    k0_pay1 v0 v1 v2 v5 v6 (ix2 i n) = h + (dot x w n + dot x' w' n) := by
  simp only [k0_pay1, pointwise, zero_add, dot, hh, hx, hw, hx', hw', add_assoc]

theorem at5 : ∀ t : Fin cfg0.N, win0_5.index t 0 * win0_5.size 0 = t.val * 640 ∧ win0_5.index t 1 * win0_5.size 1 = 0 :=
  (by decide +kernel : ∀ t : Fin grid0.N, win0_5.index t 0 * win0_5.size 0 = t.val * 640 ∧ win0_5.index t 1 * win0_5.size 1 = 0)

theorem emb5 (t : Fin cfg0.N) (i : Fin 640) (k : Fin 1024) (h : t.val * 640 + i.val < 8320) :
    (win0_5.blk t).view.emb (ix2 i k) = (ix2 ⟨t.val * 640 + i.val, h⟩ k : S8320x1024.Idx) := by
  funext a
  apply Fin.ext
  match a with
  | ⟨0, _⟩ =>
    show win0_5.index t 0 * win0_5.size 0 + 1 * i.val = t.val * 640 + i.val
    rw [(at5 t).1]; omega
  | ⟨1, _⟩ =>
    show win0_5.index t 1 * win0_5.size 1 + 1 * k.val = k.val
    rw [(at5 t).2]; omega

theorem flushed5 (c : Dev nD) (t : Fin cfg0.N) :
    (dats m 0 c).flushed 5 t = (win0_5.blk t).view.read (Elt Ideal) (G5 m c) := by
  rw [Value.flushed5]
  unfold out0_5
  rw [View.canon_unit_zero Update.hz]
  repeat rw [View.ld_unit_zero Update.hz]
  funext y
  obtain ⟨i, k, rfl⟩ : ∃ (i : Fin 640) (k : Fin 1024), y = ix2 i k := ⟨y 0, y 1, eq_ix2 y⟩
  have ht : t.val * 640 + i.val < 8320 := by
    have := t.isLt; have hN : cfg0.N = 13 := N_0; have := i.isLt; omega
  show k0_pay1 (iblk m c 0 t) (iblk m c 1 t) (iblk m c 3 t) (iblk m c 2 t) (iblk m c 4 t) (ix2 i k) = G5 m c ((win0_5.blk t).view.emb (ix2 i k))
  rw [emb5 t i k ht]
  exact pay1 _ _ _ _ _ _ _ _ _ _ _ _ (blk0 m c t i k ⟨_, ht⟩ rfl) (fun k => blk1 m c t i k ⟨_, ht⟩ rfl) (fun k n => blk3 m c t k n) (fun k => blk2 m c t i k ⟨_, ht⟩ rfl) (fun k n => blk4 m c t k n)

theorem mem_blk5 (t : Fin cfg0.N) (i : S8320x1024.Idx) :
    i ∈ ((cfg0.win 5).blk t).view.set ↔ t.val * 640 ≤ (i 0 : Nat) ∧ (i 0 : Nat) < t.val * 640 + 640 := by
  show i ∈ ((View.whole main_v0).slice (win0_5.rect t)).set ↔ _
  rw [View.set_slice_whole, Rect.mem_set_unit]
  have h1 : (i 1 : Nat) < 1024 := (i 1).isLt
  have e : win0_5.index t 0 * win0_5.size 0 = t.val * 640 ∧ win0_5.xsize (grid0.coords t) 0 = 640
      ∧ win0_5.index t 1 * win0_5.size 1 = 0 ∧ win0_5.xsize (grid0.coords t) 1 = 1024 := by
    revert t; exact (by decide +kernel : ∀ t : Fin grid0.N, win0_5.index t 0 * win0_5.size 0 = t.val * 640 ∧ win0_5.xsize (grid0.coords t) 0 = 640
      ∧ win0_5.index t 1 * win0_5.size 1 = 0 ∧ win0_5.xsize (grid0.coords t) 1 = 1024)
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

theorem cover5 (i : S8320x1024.Idx) :
    ∃ t : Fin cfg0.N, (cfg0.win 5).flush t = true ∧ i ∈ ((cfg0.win 5).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_5 _, ?_⟩
  rw [mem_blk5]
  dsimp only
  omega

theorem final5 (c : Dev nD) : (dats m 0 c).arrAt 5 cfg0.N = G5 m c :=
  (dats m 0 c).arrAt_eq_of_cover 5 (G5 m c) (fun t _ => flushed5 m c t) cover5

theorem run : θ_run defs (onTc (τ := τ) (main (F := Ideal))) ⟨m, fun _ => 0, g⟩ fun r => ∀ c : Dev nD,
      r.2.mem ((c : Thread nD τ).loc main_v0) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h5, hk⟩ := h c
    exact ⟨h5.trans (final5 m c), hk⟩)
    (Value.run_blocks m g)

theorem frame_ideal : Cert.quiescent_MixOutIdeal := fun m g _ => Gen.frame m g

theorem frame : Cert.quiescent_MixOut := fun m g _ => Cert.MixOut.Gen.frame m g

theorem frame_ref : Cert.quiescent_MixOutRefIdeal := fun m g _ =>
  (θ_run Cert.MixOutRefIdeal.defs _ _).mono
    (fun r h => ⟨fun c => (h c).2, sem_eq_zero_of_no_sems (by decide) r.2⟩) (Cert.MixOutRefIdeal.Value.run m g)

theorem algebraic : Cert.algebraic_MixOutIdeal_MixOutRefIdeal := by
  intro m g m' g' _ hm
  refine ⟨fun c => G5 m c,
    (θ_run defs _ _).mono (fun r h c => ⟨(h c).1, (h c).2⟩) (run m g),
    (θ_run Cert.MixOutRefIdeal.defs _ _).mono (fun r h c => ?_) (Cert.MixOutRefIdeal.Value.run m' g')⟩
  obtain ⟨h5, hk⟩ := h c
  obtain ⟨a0, a1, a2, a3, a4⟩ := hm c
  refine ⟨h5.trans ?_, hk⟩
  · rw [a0, a1, a2, a3, a4]
    funext i
    obtain ⟨r, k, rfl⟩ : ∃ r k, i = ix2 r k := ⟨i 0, i 1, eq_ix2 i⟩
    show _ = G5 m c (ix2 r k)
    simp only [G5, pointwise, zero_add, dot, ite_self, Nat.add_sub_cancel_left, dite_eq_ite, if_true, if_false, dite_true, dite_false, Matrix.cons_val_zero, Matrix.cons_val_one]
    rfl

end Cert.MixOutClaim

end
-- ==== Proof.ProjFwdClaim.lean ====
/-
What is claimed of the input projections.
-/
module

public import proofs.«01_k».proof.Defs
public import proofs.«01_k».proof.Proof.Update
public import proofs.«01_k».proof.Proof.Rows
public import proofs.«01_k».proof.Proof.Gen.ProjFwd
public import proofs.«01_k».proof.Proof.Gen.ProjFwd.Frame
public import proofs.«01_k».proof.Proof.Gen.ProjFwdIdeal
public import proofs.«01_k».proof.Proof.Gen.ProjFwdIdeal.Value
public import proofs.«01_k».proof.Proof.Gen.ProjFwdRefIdeal
public import proofs.«01_k».proof.Proof.Gen.ProjFwdRefIdeal.Run
public import Idealize.ShloMosaic.Lib.Pipeline.Value
public import Idealize.ShloMosaic.Lib.Quiescent
public import Idealize.ShloMosaic.Lib.Pointwise

@[expose] public section

noncomputable section

namespace Cert.ProjFwdClaim

open Idealize.ShloMosaic Idealize.ShloMosaic.TcCoe Idealize.SL.Sem
open Idealize.ShloMosaic.Pipeline (Dat)
open Cert.ProjFwdIdeal Cert.ProjFwdIdeal.Gen

variable (m : (ℓ : Loc nD τ sig) → Buf (Elt Ideal) ℓ) (g : Dev nD → PrngReg)

open Cert.Rows

abbrev hin (c : Dev nD) : S8320x1024.Idx → EReal := m ((c : Thread nD τ).loc main_arg0)

theorem at0 : ∀ t : Fin cfg0.N, win0_0.index t 0 * win0_0.size 0 = t.val * 640 ∧ win0_0.index t 1 * win0_0.size 1 = 0 :=
  (by decide +kernel : ∀ t : Fin grid0.N, win0_0.index t 0 * win0_0.size 0 = t.val * 640 ∧ win0_0.index t 1 * win0_0.size 1 = 0)

theorem blk0 (c : Dev nD) (t : Fin cfg0.N) (i : Fin 640) (k : Fin 1024) (r : Fin 8320) (h : r.val = t.val * 640 + i.val) :
    iblk m c 0 t (ix2 i k) = row (hin m c) r k := by
  show hin m c _ = _
  congr 1
  funext a
  apply Fin.ext
  match a with
  | ⟨0, _⟩ =>
    show win0_0.index t 0 * win0_0.size 0 + 1 * i.val = r.val
    rw [(at0 t).1]; omega
  | ⟨1, _⟩ =>
    show win0_0.index t 1 * win0_0.size 1 + 1 * k.val = k.val
    rw [(at0 t).2]; omega

abbrev gn (c : Dev nD) : S1x1024.Idx → EReal := m ((c : Thread nD τ).loc main_arg1)

theorem at1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)

theorem blk1 (c : Dev nD) (t : Fin cfg0.N) (i : Fin 1) (k : Fin 1024) : iblk m c 1 t (ix2 i k) = gn m c (ix2 i k) := by
  show gn m c _ = _
  congr 1
  funext a
  apply Fin.ext
  match a with
  | ⟨0, _⟩ =>
    show win0_1.index t 0 * win0_1.size 0 + 1 * i.val = i.val
    rw [(at1 t).1]; omega
  | ⟨1, _⟩ =>
    show win0_1.index t 1 * win0_1.size 1 + 1 * k.val = k.val
    rw [(at1 t).2]; omega

abbrev wq (c : Dev nD) : S1024x1536.Idx → EReal := m ((c : Thread nD τ).loc main_arg2)

theorem at2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)

theorem blk2 (c : Dev nD) (t : Fin cfg0.N) (i : Fin 1024) (k : Fin 1536) : iblk m c 2 t (ix2 i k) = wq m c (ix2 i k) := by
  show wq m c _ = _
  congr 1
  funext a
  apply Fin.ext
  match a with
  | ⟨0, _⟩ =>
    show win0_2.index t 0 * win0_2.size 0 + 1 * i.val = i.val
    rw [(at2 t).1]; omega
  | ⟨1, _⟩ =>
    show win0_2.index t 1 * win0_2.size 1 + 1 * k.val = k.val
    rw [(at2 t).2]; omega

abbrev wr (c : Dev nD) : S1024x1408.Idx → EReal := m ((c : Thread nD τ).loc main_arg3)

theorem at3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)

theorem blk3 (c : Dev nD) (t : Fin cfg0.N) (i : Fin 1024) (k : Fin 1408) : iblk m c 3 t (ix2 i k) = wr m c (ix2 i k) := by
  show wr m c _ = _
  congr 1
  funext a
  apply Fin.ext
  match a with
  | ⟨0, _⟩ =>
    show win0_3.index t 0 * win0_3.size 0 + 1 * i.val = i.val
    rw [(at3 t).1]; omega
  | ⟨1, _⟩ =>
    show win0_3.index t 1 * win0_3.size 1 + 1 * k.val = k.val
    rw [(at3 t).2]; omega

abbrev G4 (c : Dev nD) : Buf (Elt Ideal) ((c : Thread nD τ).loc main_v0_0) := fun i : S8320x1024.Idx => norm (row (hin m c) (i 0)) (row (gn m c) 0) (i 1)

abbrev G5 (c : Dev nD) : Buf (Elt Ideal) ((c : Thread nD τ).loc main_v0_1) := fun i : S8320x1536.Idx => qkv (dot (norm (row (hin m c) (i 0)) (row (gn m c) 0)) (mat (wq m c))) (i 1)

abbrev G6 (c : Dev nD) : Buf (Elt Ideal) ((c : Thread nD τ).loc main_v0_2) := fun i : S8320x1408.Idx => dot (norm (row (hin m c) (i 0)) (row (gn m c) 0)) (mat (wr m c)) (i 1)

theorem pay1 (v0 : Vec Ideal S640x1024 .f32) (v1 : Vec Ideal S1x1024 .f32) (i : Fin 640) (n : Fin 1024)
    (x g : Fin 1024 → EReal) (hx : ∀ k, v0 (ix2 i k) = x k) (hg : ∀ k, v1 (ix2 0 k) = g k) :
    k0_pay1 v0 v1 (ix2 i n) = norm x g n := by
  simp only [k0_pay1, pointwise, reduceDIte, Nat.reduceEqDiff, OfNat.ofNat_ne_one, hx, hg]
  rfl

theorem pay2 (v0 : Vec Ideal S640x1024 .f32) (v1 : Vec Ideal S1x1024 .f32) (v16 : Vec Ideal S1024x1536 .bf16) (i : Fin 640) (n : Fin 1536)
    (x g : Fin 1024 → EReal) (w : Fin 1024 → Fin 1536 → EReal) (hx : ∀ k, v0 (ix2 i k) = x k) (hg : ∀ k, v1 (ix2 0 k) = g k)
    (hw : ∀ k n, v16 (ix2 k n) = w k n) : k0_pay2 v0 v1 v16 (ix2 i n) = dot (norm x g) w n := by
  simp only [k0_pay2, pointwise, zero_add, pay1 v0 v1 i _ x g hx hg, hw, dot]

theorem pay3 (v0 : Vec Ideal S640x1024 .f32) (v1 : Vec Ideal S1x1024 .f32) (v16 : Vec Ideal S1024x1536 .bf16) (i : Fin 640) (n : Fin 512)
    (n' : Fin 1536) (hn : n'.val = n.val)
    (x g : Fin 1024 → EReal) (w : Fin 1024 → Fin 1536 → EReal) (hx : ∀ k, v0 (ix2 i k) = x k) (hg : ∀ k, v1 (ix2 0 k) = g k)
    (hw : ∀ k n, v16 (ix2 k n) = w k n) : k0_pay3 v0 v1 v16 (ix2 i n) = qkv (dot (norm x g) w) n' := by
  rw [show n' = (⟨n.val, Nat.lt_of_lt_of_le n.isLt (by decide)⟩ : Fin 1536) from Fin.ext hn]
  simp only [k0_pay3, pointwise, zero_add, Matrix.cons_val_zero, Matrix.cons_val_one, Fin.eta, pay2 v0 v1 v16 i _ x g w hx hg hw, qkv, n.isLt, if_true]

theorem pay4 (v0 : Vec Ideal S640x1024 .f32) (v1 : Vec Ideal S1x1024 .f32) (v16 : Vec Ideal S1024x1536 .bf16) (i : Fin 640) (n : Fin 1024)
    (n' : Fin 1536) (hn : n'.val = 512 + n.val)
    (x g : Fin 1024 → EReal) (w : Fin 1024 → Fin 1536 → EReal) (hx : ∀ k, v0 (ix2 i k) = x k) (hg : ∀ k, v1 (ix2 0 k) = g k)
    (hw : ∀ k n, v16 (ix2 k n) = w k n) : k0_pay4 v0 v1 v16 (ix2 i n) = qkv (dot (norm x g) w) n' := by
  rw [show n' = (⟨512 + n.val, by have := n.isLt; omega⟩ : Fin 1536) from Fin.ext hn]
  have h : ¬ (512 + n.val < 512) := by omega
  simp only [k0_pay4, pointwise, zero_add, Matrix.cons_val_zero, Matrix.cons_val_one, Fin.eta, pay2 v0 v1 v16 i _ x g w hx hg hw, qkv, h, if_false]

theorem pay5 (v0 : Vec Ideal S640x1024 .f32) (v1 : Vec Ideal S1x1024 .f32) (v26 : Vec Ideal S1024x1408 .bf16) (i : Fin 640) (n : Fin 1408)
    (x g : Fin 1024 → EReal) (w : Fin 1024 → Fin 1408 → EReal) (hx : ∀ k, v0 (ix2 i k) = x k) (hg : ∀ k, v1 (ix2 0 k) = g k)
    (hw : ∀ k n, v26 (ix2 k n) = w k n) : k0_pay5 v0 v1 v26 (ix2 i n) = dot (norm x g) w n := by
  simp only [k0_pay5, pointwise, zero_add, pay1 v0 v1 i _ x g hx hg, hw, dot]

theorem at4 : ∀ t : Fin cfg0.N, win0_4.index t 0 * win0_4.size 0 = t.val * 640 ∧ win0_4.index t 1 * win0_4.size 1 = 0 :=
  (by decide +kernel : ∀ t : Fin grid0.N, win0_4.index t 0 * win0_4.size 0 = t.val * 640 ∧ win0_4.index t 1 * win0_4.size 1 = 0)

theorem emb4 (t : Fin cfg0.N) (i : Fin 640) (k : Fin 1024) (h : t.val * 640 + i.val < 8320) :
    (win0_4.blk t).view.emb (ix2 i k) = (ix2 ⟨t.val * 640 + i.val, h⟩ k : S8320x1024.Idx) := by
  funext a
  apply Fin.ext
  match a with
  | ⟨0, _⟩ =>
    show win0_4.index t 0 * win0_4.size 0 + 1 * i.val = t.val * 640 + i.val
    rw [(at4 t).1]; omega
  | ⟨1, _⟩ =>
    show win0_4.index t 1 * win0_4.size 1 + 1 * k.val = k.val
    rw [(at4 t).2]; omega

theorem at5 : ∀ t : Fin cfg0.N, win0_5.index t 0 * win0_5.size 0 = t.val * 640 ∧ win0_5.index t 1 * win0_5.size 1 = 0 :=
  (by decide +kernel : ∀ t : Fin grid0.N, win0_5.index t 0 * win0_5.size 0 = t.val * 640 ∧ win0_5.index t 1 * win0_5.size 1 = 0)

theorem emb5 (t : Fin cfg0.N) (i : Fin 640) (k : Fin 1536) (h : t.val * 640 + i.val < 8320) :
    (win0_5.blk t).view.emb (ix2 i k) = (ix2 ⟨t.val * 640 + i.val, h⟩ k : S8320x1536.Idx) := by
  funext a
  apply Fin.ext
  match a with
  | ⟨0, _⟩ =>
    show win0_5.index t 0 * win0_5.size 0 + 1 * i.val = t.val * 640 + i.val
    rw [(at5 t).1]; omega
  | ⟨1, _⟩ =>
    show win0_5.index t 1 * win0_5.size 1 + 1 * k.val = k.val
    rw [(at5 t).2]; omega

theorem at6 : ∀ t : Fin cfg0.N, win0_6.index t 0 * win0_6.size 0 = t.val * 640 ∧ win0_6.index t 1 * win0_6.size 1 = 0 :=
  (by decide +kernel : ∀ t : Fin grid0.N, win0_6.index t 0 * win0_6.size 0 = t.val * 640 ∧ win0_6.index t 1 * win0_6.size 1 = 0)

theorem emb6 (t : Fin cfg0.N) (i : Fin 640) (k : Fin 1408) (h : t.val * 640 + i.val < 8320) :
    (win0_6.blk t).view.emb (ix2 i k) = (ix2 ⟨t.val * 640 + i.val, h⟩ k : S8320x1408.Idx) := by
  funext a
  apply Fin.ext
  match a with
  | ⟨0, _⟩ =>
    show win0_6.index t 0 * win0_6.size 0 + 1 * i.val = t.val * 640 + i.val
    rw [(at6 t).1]; omega
  | ⟨1, _⟩ =>
    show win0_6.index t 1 * win0_6.size 1 + 1 * k.val = k.val
    rw [(at6 t).2]; omega

theorem flushed4 (c : Dev nD) (t : Fin cfg0.N) :
    (dats m 0 c).flushed 4 t = (win0_4.blk t).view.read (Elt Ideal) (G4 m c) := by
  rw [Value.flushed4_A]
  unfold out0_A_4
  rw [View.read_writes_eq_canon _ _ _ (fun y => cover0_A_4 (y := y) ..)]
  unfold kernelRun0_A
  dsimp only
  try sl_unfold_words
  rw [View.canon_unit_zero Update.hz]
  simp only [View.readAt_eq_ld, (hs0_0 t).read_unread, (hs0_1 t).read_unread]
  repeat rw [View.ld_unit_zero Update.hz]
  funext y
  obtain ⟨i, k, rfl⟩ : ∃ (i : Fin 640) (k : Fin 1024), y = ix2 i k := ⟨y 0, y 1, eq_ix2 y⟩
  have ht : t.val * 640 + i.val < 8320 := by
    have := t.isLt; have hN : cfg0.N = 13 := N_0; have := i.isLt; omega
  show k0_pay1 (iblk m c 0 t) (iblk m c 1 t) (ix2 i k) = G4 m c ((win0_4.blk t).view.emb (ix2 i k))
  rw [emb4 t i k ht]
  exact pay1 _ _ _ _ _ _ (fun k => blk0 m c t i k ⟨_, ht⟩ rfl) (fun k => blk1 m c t 0 k)

theorem mem_blk4 (t : Fin cfg0.N) (i : S8320x1024.Idx) :
    i ∈ ((cfg0.win 4).blk t).view.set ↔ t.val * 640 ≤ (i 0 : Nat) ∧ (i 0 : Nat) < t.val * 640 + 640 := by
  show i ∈ ((View.whole main_v0_0).slice (win0_4.rect t)).set ↔ _
  rw [View.set_slice_whole, Rect.mem_set_unit]
  have h1 : (i 1 : Nat) < 1024 := (i 1).isLt
  have e : win0_4.index t 0 * win0_4.size 0 = t.val * 640 ∧ win0_4.xsize (grid0.coords t) 0 = 640
      ∧ win0_4.index t 1 * win0_4.size 1 = 0 ∧ win0_4.xsize (grid0.coords t) 1 = 1024 := by
    revert t; exact (by decide +kernel : ∀ t : Fin grid0.N, win0_4.index t 0 * win0_4.size 0 = t.val * 640 ∧ win0_4.xsize (grid0.coords t) 0 = 640
      ∧ win0_4.index t 1 * win0_4.size 1 = 0 ∧ win0_4.xsize (grid0.coords t) 1 = 1024)
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e.1, e.2.1]; exact h
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

theorem cover4 (i : S8320x1024.Idx) :
    ∃ t : Fin cfg0.N, (cfg0.win 4).flush t = true ∧ i ∈ ((cfg0.win 4).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_4 _, ?_⟩
  rw [mem_blk4]
  dsimp only
  omega

theorem final4 (c : Dev nD) : (dats m 0 c).arrAt 4 cfg0.N = G4 m c :=
  (dats m 0 c).arrAt_eq_of_cover 4 (G4 m c) (fun t _ => flushed4 m c t) cover4

theorem flushed5 (c : Dev nD) (t : Fin cfg0.N) :
    (dats m 0 c).flushed 5 t = (win0_5.blk t).view.read (Elt Ideal) (G5 m c) := by
  rw [Value.flushed5_A]
  unfold out0_A_5
  rw [View.read_writes_eq_canon _ _ _ (fun y => cover0_A_5 (y := y) ..)]
  funext y
  show View.canon _ y = _
  refine View.canon_apply_of_pieces (fun y : S640x1536.Idx => G5 m c ((win0_5.blk t).view.emb y)) _ ?_ y (cover0_A_5 (y := y) ..)
  unfold kernelRun0_A
  dsimp only
  try sl_unfold_words
  intro p hp
  have ht : ∀ i : Fin 640, t.val * 640 + i.val < 8320 := by
    intro i; have := t.isLt; have hN : cfg0.N = 13 := N_0; have := i.isLt; omega
  simp only [List.mem_cons, List.not_mem_nil, or_false] at hp
  rcases hp with rfl | rfl
  · intro y
    obtain ⟨i, k, rfl⟩ : ∃ (i : Fin 640) (k : Fin 1024), y = ix2 i k := ⟨y 0, y 1, eq_ix2 y⟩
    dsimp only
    simp only [View.readAt_eq_ld, (hs0_0 t).read_unread, (hs0_1 t).read_unread, (hs0_2 t).read_unread]
    repeat rw [View.ld_unit_zero Update.hz]
    have he : Rect.emb (Rect.unit (s := S640x1536) ![0, 512] ![640, 1024] inb_S640x1536_S640x1024_0_512) (ix2 i k) = (ix2 i ⟨512 + k.val, by have := k.isLt; omega⟩ : S640x1536.Idx) := by
      funext a
      apply Fin.ext
      match a with
      | ⟨0, _⟩ => show 0 + 1 * i.val = i.val; omega
      | ⟨1, _⟩ => show 512 + 1 * k.val = 512 + k.val; omega
    refine Eq.trans ?_ (congrArg (fun z => G5 m c ((win0_5.blk t).view.emb z)) he.symm)
    dsimp only
    rw [emb5 t i _ (ht i)]
    exact pay4 _ _ _ _ _ _ rfl _ _ _ (fun k => blk0 m c t i k ⟨_, ht i⟩ rfl) (fun k => blk1 m c t 0 k) (fun k n => blk2 m c t k n)
  · intro y
    obtain ⟨i, k, rfl⟩ : ∃ (i : Fin 640) (k : Fin 512), y = ix2 i k := ⟨y 0, y 1, eq_ix2 y⟩
    dsimp only
    simp only [View.readAt_eq_ld, (hs0_0 t).read_unread, (hs0_1 t).read_unread, (hs0_2 t).read_unread]
    repeat rw [View.ld_unit_zero Update.hz]
    have he : Rect.emb (Rect.unit (s := S640x1536) ![0, 0] ![640, 512] inb_S640x1536_S640x512_0_0) (ix2 i k) = (ix2 i ⟨k.val, by have := k.isLt; omega⟩ : S640x1536.Idx) := by
      funext a
      apply Fin.ext
      match a with
      | ⟨0, _⟩ => show 0 + 1 * i.val = i.val; omega
      | ⟨1, _⟩ => show 0 + 1 * k.val = k.val; omega
    refine Eq.trans ?_ (congrArg (fun z => G5 m c ((win0_5.blk t).view.emb z)) he.symm)
    dsimp only
    rw [emb5 t i _ (ht i)]
    exact pay3 _ _ _ _ _ _ rfl _ _ _ (fun k => blk0 m c t i k ⟨_, ht i⟩ rfl) (fun k => blk1 m c t 0 k) (fun k n => blk2 m c t k n)

theorem mem_blk5 (t : Fin cfg0.N) (i : S8320x1536.Idx) :
    i ∈ ((cfg0.win 5).blk t).view.set ↔ t.val * 640 ≤ (i 0 : Nat) ∧ (i 0 : Nat) < t.val * 640 + 640 := by
  show i ∈ ((View.whole main_v0_1).slice (win0_5.rect t)).set ↔ _
  rw [View.set_slice_whole, Rect.mem_set_unit]
  have h1 : (i 1 : Nat) < 1536 := (i 1).isLt
  have e : win0_5.index t 0 * win0_5.size 0 = t.val * 640 ∧ win0_5.xsize (grid0.coords t) 0 = 640
      ∧ win0_5.index t 1 * win0_5.size 1 = 0 ∧ win0_5.xsize (grid0.coords t) 1 = 1536 := by
    revert t; exact (by decide +kernel : ∀ t : Fin grid0.N, win0_5.index t 0 * win0_5.size 0 = t.val * 640 ∧ win0_5.xsize (grid0.coords t) 0 = 640
      ∧ win0_5.index t 1 * win0_5.size 1 = 0 ∧ win0_5.xsize (grid0.coords t) 1 = 1536)
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

theorem cover5 (i : S8320x1536.Idx) :
    ∃ t : Fin cfg0.N, (cfg0.win 5).flush t = true ∧ i ∈ ((cfg0.win 5).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_5 _, ?_⟩
  rw [mem_blk5]
  dsimp only
  omega

theorem final5 (c : Dev nD) : (dats m 0 c).arrAt 5 cfg0.N = G5 m c :=
  (dats m 0 c).arrAt_eq_of_cover 5 (G5 m c) (fun t _ => flushed5 m c t) cover5

theorem flushed6 (c : Dev nD) (t : Fin cfg0.N) :
    (dats m 0 c).flushed 6 t = (win0_6.blk t).view.read (Elt Ideal) (G6 m c) := by
  rw [Value.flushed6_A]
  unfold out0_A_6
  rw [View.read_writes_eq_canon _ _ _ (fun y => cover0_A_6 (y := y) ..)]
  unfold kernelRun0_A
  dsimp only
  try sl_unfold_words
  rw [View.canon_unit_zero Update.hz]
  simp only [View.readAt_eq_ld, (hs0_0 t).read_unread, (hs0_1 t).read_unread, (hs0_3 t).read_unread]
  repeat rw [View.ld_unit_zero Update.hz]
  funext y
  obtain ⟨i, k, rfl⟩ : ∃ (i : Fin 640) (k : Fin 1408), y = ix2 i k := ⟨y 0, y 1, eq_ix2 y⟩
  have ht : t.val * 640 + i.val < 8320 := by
    have := t.isLt; have hN : cfg0.N = 13 := N_0; have := i.isLt; omega
  show k0_pay5 (iblk m c 0 t) (iblk m c 1 t) (iblk m c 3 t) (ix2 i k) = G6 m c ((win0_6.blk t).view.emb (ix2 i k))
  rw [emb6 t i k ht]
  exact pay5 _ _ _ _ _ _ _ _ (fun k => blk0 m c t i k ⟨_, ht⟩ rfl) (fun k => blk1 m c t 0 k) (fun k n => blk3 m c t k n)

theorem mem_blk6 (t : Fin cfg0.N) (i : S8320x1408.Idx) :
    i ∈ ((cfg0.win 6).blk t).view.set ↔ t.val * 640 ≤ (i 0 : Nat) ∧ (i 0 : Nat) < t.val * 640 + 640 := by
  show i ∈ ((View.whole main_v0_2).slice (win0_6.rect t)).set ↔ _
  rw [View.set_slice_whole, Rect.mem_set_unit]
  have h1 : (i 1 : Nat) < 1408 := (i 1).isLt
  have e : win0_6.index t 0 * win0_6.size 0 = t.val * 640 ∧ win0_6.xsize (grid0.coords t) 0 = 640
      ∧ win0_6.index t 1 * win0_6.size 1 = 0 ∧ win0_6.xsize (grid0.coords t) 1 = 1408 := by
    revert t; exact (by decide +kernel : ∀ t : Fin grid0.N, win0_6.index t 0 * win0_6.size 0 = t.val * 640 ∧ win0_6.xsize (grid0.coords t) 0 = 640
      ∧ win0_6.index t 1 * win0_6.size 1 = 0 ∧ win0_6.xsize (grid0.coords t) 1 = 1408)
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

theorem cover6 (i : S8320x1408.Idx) :
    ∃ t : Fin cfg0.N, (cfg0.win 6).flush t = true ∧ i ∈ ((cfg0.win 6).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_6 _, ?_⟩
  rw [mem_blk6]
  dsimp only
  omega

theorem final6 (c : Dev nD) : (dats m 0 c).arrAt 6 cfg0.N = G6 m c :=
  (dats m 0 c).arrAt_eq_of_cover 6 (G6 m c) (fun t _ => flushed6 m c t) cover6

theorem run : θ_run defs (onTc (τ := τ) (main (F := Ideal))) ⟨m, fun _ => 0, g⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h4, h5, h6, hk⟩ := h c
    exact ⟨h4.trans (final4 m c), h5.trans (final5 m c), h6.trans (final6 m c), hk⟩)
    (Value.run_blocks m g)

theorem frame_ideal : Cert.quiescent_ProjFwdIdeal := fun m g _ => Gen.frame m g

theorem frame : Cert.quiescent_ProjFwd := fun m g _ => Cert.ProjFwd.Gen.frame m g

theorem frame_ref : Cert.quiescent_ProjFwdRefIdeal := fun m g _ =>
  (θ_run Cert.ProjFwdRefIdeal.defs _ _).mono
    (fun r h => ⟨fun c => (h c).2.2.2, sem_eq_zero_of_no_sems (by decide) r.2⟩) (Cert.ProjFwdRefIdeal.Value.run m g)

theorem algebraic : Cert.algebraic_ProjFwdIdeal_ProjFwdRefIdeal := by
  intro m g m' g' _ hm
  refine ⟨fun c => G4 m c, fun c => G5 m c, fun c => G6 m c,
    (θ_run defs _ _).mono (fun r h c => ⟨(h c).1, (h c).2.1, (h c).2.2.1, (h c).2.2.2⟩) (run m g),
    (θ_run Cert.ProjFwdRefIdeal.defs _ _).mono (fun r h c => ?_) (Cert.ProjFwdRefIdeal.Value.run m' g')⟩
  obtain ⟨h4, h5, h6, hk⟩ := h c
  obtain ⟨a0, a1, a2, a3⟩ := hm c
  refine ⟨h4.trans ?_, h5.trans ?_, h6.trans ?_, hk⟩
  · rw [a0, a1]
    clear hm h hk h4 h5 h6
    funext i
    obtain ⟨r, k, rfl⟩ : ∃ r k, i = ix2 r k := ⟨i 0, i 1, eq_ix2 i⟩
    show _ = G4 m c (ix2 r k)
    simp only [G4, pointwise, zero_add, dot, Rows.norm, relu2, scale]
    rfl
  · rw [a0, a1, a2]
    clear hm h hk h4 h5 h6
    funext i
    obtain ⟨r, k, rfl⟩ : ∃ r k, i = ix2 r k := ⟨i 0, i 1, eq_ix2 i⟩
    show _ = G5 m c (ix2 r k)
    simp only [G5, pointwise, zero_add, dot, Rows.norm, scale, qkv, reduceDIte, Nat.reduceEqDiff, OfNat.ofNat_ne_one, Matrix.cons_val_zero, Matrix.cons_val_one]
    by_cases hk : k.val < 512
    · rw [dif_pos hk]
      refine Eq.trans ?_ (if_pos hk).symm
      rfl
    · rw [dif_neg hk]
      refine Eq.trans ?_ (if_neg hk).symm
      have e : ∀ p, (⟨512 + (k.val - 512), p⟩ : Fin 1536) = k := fun _ => Fin.ext (by show 512 + (k.val - 512) = k.val; omega)
      simp only [ite_true, e]
      rfl
  · rw [a0, a1, a3]
    clear hm h hk h4 h5 h6
    funext i
    obtain ⟨r, k, rfl⟩ : ∃ r k, i = ix2 r k := ⟨i 0, i 1, eq_ix2 i⟩
    show _ = G6 m c (ix2 r k)
    simp only [G6, pointwise, zero_add, dot, Rows.norm, relu2, scale]
    rfl

end Cert.ProjFwdClaim

end
-- ==== Proof.MlpFwdClaim.lean ====
/-
What is claimed of the two-layer perceptron.
-/
module

public import proofs.«01_k».proof.Defs
public import proofs.«01_k».proof.Proof.Update
public import proofs.«01_k».proof.Proof.Rows
public import proofs.«01_k».proof.Proof.Gen.MlpFwd
public import proofs.«01_k».proof.Proof.Gen.MlpFwd.Frame
public import proofs.«01_k».proof.Proof.Gen.MlpFwdIdeal
public import proofs.«01_k».proof.Proof.Gen.MlpFwdIdeal.Value
public import proofs.«01_k».proof.Proof.Gen.MlpFwdRefIdeal
public import proofs.«01_k».proof.Proof.Gen.MlpFwdRefIdeal.Run
public import Idealize.ShloMosaic.Lib.Pipeline.Value
public import Idealize.ShloMosaic.Lib.Quiescent
public import Idealize.ShloMosaic.Lib.Pointwise

@[expose] public section

noncomputable section

namespace Cert.MlpFwdClaim

open Idealize.ShloMosaic Idealize.ShloMosaic.TcCoe Idealize.SL.Sem
open Idealize.ShloMosaic.Pipeline (Dat)
open Cert.MlpFwdIdeal Cert.MlpFwdIdeal.Gen

variable (m : (ℓ : Loc nD τ sig) → Buf (Elt Ideal) ℓ) (g : Dev nD → PrngReg)

open Cert.Rows

abbrev hin (c : Dev nD) : S8320x1024.Idx → EReal := m ((c : Thread nD τ).loc main_arg0)

theorem at0 : ∀ t : Fin cfg0.N, win0_0.index t 0 * win0_0.size 0 = t.val * 320 ∧ win0_0.index t 1 * win0_0.size 1 = 0 :=
  (by decide +kernel : ∀ t : Fin grid0.N, win0_0.index t 0 * win0_0.size 0 = t.val * 320 ∧ win0_0.index t 1 * win0_0.size 1 = 0)

theorem blk0 (c : Dev nD) (t : Fin cfg0.N) (i : Fin 320) (k : Fin 1024) (r : Fin 8320) (h : r.val = t.val * 320 + i.val) :
    iblk m c 0 t (ix2 i k) = row (hin m c) r k := by
  show hin m c _ = _
  congr 1
  funext a
  apply Fin.ext
  match a with
  | ⟨0, _⟩ =>
    show win0_0.index t 0 * win0_0.size 0 + 1 * i.val = r.val
    rw [(at0 t).1]; omega
  | ⟨1, _⟩ =>
    show win0_0.index t 1 * win0_0.size 1 + 1 * k.val = k.val
    rw [(at0 t).2]; omega

abbrev gn (c : Dev nD) : S1x1024.Idx → EReal := m ((c : Thread nD τ).loc main_arg1)

theorem at1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)

theorem blk1 (c : Dev nD) (t : Fin cfg0.N) (i : Fin 1) (k : Fin 1024) : iblk m c 1 t (ix2 i k) = gn m c (ix2 i k) := by
  show gn m c _ = _
  congr 1
  funext a
  apply Fin.ext
  match a with
  | ⟨0, _⟩ =>
    show win0_1.index t 0 * win0_1.size 0 + 1 * i.val = i.val
    rw [(at1 t).1]; omega
  | ⟨1, _⟩ =>
    show win0_1.index t 1 * win0_1.size 1 + 1 * k.val = k.val
    rw [(at1 t).2]; omega

abbrev w1 (c : Dev nD) : S1024x4096.Idx → EReal := m ((c : Thread nD τ).loc main_arg2)

theorem at2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)

theorem blk2 (c : Dev nD) (t : Fin cfg0.N) (i : Fin 1024) (k : Fin 4096) : iblk m c 2 t (ix2 i k) = w1 m c (ix2 i k) := by
  show w1 m c _ = _
  congr 1
  funext a
  apply Fin.ext
  match a with
  | ⟨0, _⟩ =>
    show win0_2.index t 0 * win0_2.size 0 + 1 * i.val = i.val
    rw [(at2 t).1]; omega
  | ⟨1, _⟩ =>
    show win0_2.index t 1 * win0_2.size 1 + 1 * k.val = k.val
    rw [(at2 t).2]; omega

abbrev w2 (c : Dev nD) : S4096x1024.Idx → EReal := m ((c : Thread nD τ).loc main_arg3)

theorem at3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)

theorem blk3 (c : Dev nD) (t : Fin cfg0.N) (i : Fin 4096) (k : Fin 1024) : iblk m c 3 t (ix2 i k) = w2 m c (ix2 i k) := by
  show w2 m c _ = _
  congr 1
  funext a
  apply Fin.ext
  match a with
  | ⟨0, _⟩ =>
    show win0_3.index t 0 * win0_3.size 0 + 1 * i.val = i.val
    rw [(at3 t).1]; omega
  | ⟨1, _⟩ =>
    show win0_3.index t 1 * win0_3.size 1 + 1 * k.val = k.val
    rw [(at3 t).2]; omega

abbrev G4 (c : Dev nD) : Buf (Elt Ideal) ((c : Thread nD τ).loc main_v0_0) := fun i : S8320x1024.Idx => norm (row (hin m c) (i 0)) (row (gn m c) 0) (i 1)

abbrev G5 (c : Dev nD) : Buf (Elt Ideal) ((c : Thread nD τ).loc main_v0_1) := fun i : S8320x4096.Idx => dot (norm (row (hin m c) (i 0)) (row (gn m c) 0)) (mat (w1 m c)) (i 1)

abbrev G6 (c : Dev nD) : Buf (Elt Ideal) ((c : Thread nD τ).loc main_v0_2) := fun i : S8320x4096.Idx => relu2 (dot (norm (row (hin m c) (i 0)) (row (gn m c) 0)) (mat (w1 m c))) (i 1)

abbrev G7 (c : Dev nD) : Buf (Elt Ideal) ((c : Thread nD τ).loc main_v0_3) := fun i : S8320x1024.Idx => row (hin m c) (i 0) (i 1) + dot (relu2 (dot (norm (row (hin m c) (i 0)) (row (gn m c) 0)) (mat (w1 m c)))) (mat (w2 m c)) (i 1)

theorem pay1 (v0 : Vec Ideal S320x1024 .f32) (v1 : Vec Ideal S1x1024 .f32) (i : Fin 320) (n : Fin 1024)
    (x g : Fin 1024 → EReal) (hx : ∀ k, v0 (ix2 i k) = x k) (hg : ∀ k, v1 (ix2 0 k) = g k) :
    k0_pay1 v0 v1 (ix2 i n) = norm x g n := by
  simp only [k0_pay1, pointwise, reduceDIte, Nat.reduceEqDiff, OfNat.ofNat_ne_one, hx, hg]
  rfl

theorem pay2 (v0 : Vec Ideal S320x1024 .f32) (v1 : Vec Ideal S1x1024 .f32) (v16 : Vec Ideal S1024x4096 .bf16) (i : Fin 320) (n : Fin 4096)
    (x g : Fin 1024 → EReal) (w : Fin 1024 → Fin 4096 → EReal) (hx : ∀ k, v0 (ix2 i k) = x k) (hg : ∀ k, v1 (ix2 0 k) = g k)
    (hw : ∀ k n, v16 (ix2 k n) = w k n) : k0_pay2 v0 v1 v16 (ix2 i n) = dot (norm x g) w n := by
  simp only [k0_pay2, pointwise, zero_add, pay1 v0 v1 i _ x g hx hg, hw, dot]

theorem pay3 (v0 : Vec Ideal S320x1024 .f32) (v1 : Vec Ideal S1x1024 .f32) (v16 : Vec Ideal S1024x4096 .bf16) (i : Fin 320) (n : Fin 4096)
    (x g : Fin 1024 → EReal) (w : Fin 1024 → Fin 4096 → EReal) (hx : ∀ k, v0 (ix2 i k) = x k) (hg : ∀ k, v1 (ix2 0 k) = g k)
    (hw : ∀ k n, v16 (ix2 k n) = w k n) : k0_pay3 v0 v1 v16 (ix2 i n) = relu2 (dot (norm x g) w) n := by
  simp only [k0_pay3, pointwise, pay2 v0 v1 v16 i _ x g w hx hg hw, relu2]

theorem pay4 (v0 : Vec Ideal S320x1024 .f32) (v1 : Vec Ideal S1x1024 .f32) (v16 : Vec Ideal S1024x4096 .bf16)
    (v24 : Vec Ideal S4096x1024 .bf16) (i : Fin 320) (n : Fin 1024)
    (x g : Fin 1024 → EReal) (w : Fin 1024 → Fin 4096 → EReal) (w' : Fin 4096 → Fin 1024 → EReal)
    (hx : ∀ k, v0 (ix2 i k) = x k) (hg : ∀ k, v1 (ix2 0 k) = g k)
    (hw : ∀ k n, v16 (ix2 k n) = w k n) (hw' : ∀ k n, v24 (ix2 k n) = w' k n) :
    k0_pay4 v0 v1 v16 v24 (ix2 i n) = x n + dot (relu2 (dot (norm x g) w)) w' n := by
  simp only [k0_pay4, pointwise, zero_add, pay3 v0 v1 v16 i _ x g w hx hg hw, hw', hx, dot]

theorem at4 : ∀ t : Fin cfg0.N, win0_4.index t 0 * win0_4.size 0 = t.val * 320 ∧ win0_4.index t 1 * win0_4.size 1 = 0 :=
  (by decide +kernel : ∀ t : Fin grid0.N, win0_4.index t 0 * win0_4.size 0 = t.val * 320 ∧ win0_4.index t 1 * win0_4.size 1 = 0)

theorem emb4 (t : Fin cfg0.N) (i : Fin 320) (k : Fin 1024) (h : t.val * 320 + i.val < 8320) :
    (win0_4.blk t).view.emb (ix2 i k) = (ix2 ⟨t.val * 320 + i.val, h⟩ k : S8320x1024.Idx) := by
  funext a
  apply Fin.ext
  match a with
  | ⟨0, _⟩ =>
    show win0_4.index t 0 * win0_4.size 0 + 1 * i.val = t.val * 320 + i.val
    rw [(at4 t).1]; omega
  | ⟨1, _⟩ =>
    show win0_4.index t 1 * win0_4.size 1 + 1 * k.val = k.val
    rw [(at4 t).2]; omega

theorem at5 : ∀ t : Fin cfg0.N, win0_5.index t 0 * win0_5.size 0 = t.val * 320 ∧ win0_5.index t 1 * win0_5.size 1 = 0 :=
  (by decide +kernel : ∀ t : Fin grid0.N, win0_5.index t 0 * win0_5.size 0 = t.val * 320 ∧ win0_5.index t 1 * win0_5.size 1 = 0)

theorem emb5 (t : Fin cfg0.N) (i : Fin 320) (k : Fin 4096) (h : t.val * 320 + i.val < 8320) :
    (win0_5.blk t).view.emb (ix2 i k) = (ix2 ⟨t.val * 320 + i.val, h⟩ k : S8320x4096.Idx) := by
  funext a
  apply Fin.ext
  match a with
  | ⟨0, _⟩ =>
    show win0_5.index t 0 * win0_5.size 0 + 1 * i.val = t.val * 320 + i.val
    rw [(at5 t).1]; omega
  | ⟨1, _⟩ =>
    show win0_5.index t 1 * win0_5.size 1 + 1 * k.val = k.val
    rw [(at5 t).2]; omega

theorem at6 : ∀ t : Fin cfg0.N, win0_6.index t 0 * win0_6.size 0 = t.val * 320 ∧ win0_6.index t 1 * win0_6.size 1 = 0 :=
  (by decide +kernel : ∀ t : Fin grid0.N, win0_6.index t 0 * win0_6.size 0 = t.val * 320 ∧ win0_6.index t 1 * win0_6.size 1 = 0)

theorem emb6 (t : Fin cfg0.N) (i : Fin 320) (k : Fin 4096) (h : t.val * 320 + i.val < 8320) :
    (win0_6.blk t).view.emb (ix2 i k) = (ix2 ⟨t.val * 320 + i.val, h⟩ k : S8320x4096.Idx) := by
  funext a
  apply Fin.ext
  match a with
  | ⟨0, _⟩ =>
    show win0_6.index t 0 * win0_6.size 0 + 1 * i.val = t.val * 320 + i.val
    rw [(at6 t).1]; omega
  | ⟨1, _⟩ =>
    show win0_6.index t 1 * win0_6.size 1 + 1 * k.val = k.val
    rw [(at6 t).2]; omega

theorem at7 : ∀ t : Fin cfg0.N, win0_7.index t 0 * win0_7.size 0 = t.val * 320 ∧ win0_7.index t 1 * win0_7.size 1 = 0 :=
  (by decide +kernel : ∀ t : Fin grid0.N, win0_7.index t 0 * win0_7.size 0 = t.val * 320 ∧ win0_7.index t 1 * win0_7.size 1 = 0)

theorem emb7 (t : Fin cfg0.N) (i : Fin 320) (k : Fin 1024) (h : t.val * 320 + i.val < 8320) :
    (win0_7.blk t).view.emb (ix2 i k) = (ix2 ⟨t.val * 320 + i.val, h⟩ k : S8320x1024.Idx) := by
  funext a
  apply Fin.ext
  match a with
  | ⟨0, _⟩ =>
    show win0_7.index t 0 * win0_7.size 0 + 1 * i.val = t.val * 320 + i.val
    rw [(at7 t).1]; omega
  | ⟨1, _⟩ =>
    show win0_7.index t 1 * win0_7.size 1 + 1 * k.val = k.val
    rw [(at7 t).2]; omega

theorem flushed4 (c : Dev nD) (t : Fin cfg0.N) :
    (dats m 0 c).flushed 4 t = (win0_4.blk t).view.read (Elt Ideal) (G4 m c) := by
  rw [Value.flushed4]
  unfold out0_4
  rw [View.canon_unit_zero Update.hz]
  repeat rw [View.ld_unit_zero Update.hz]
  funext y
  obtain ⟨i, k, rfl⟩ : ∃ (i : Fin 320) (k : Fin 1024), y = ix2 i k := ⟨y 0, y 1, eq_ix2 y⟩
  have ht : t.val * 320 + i.val < 8320 := by
    have := t.isLt; have hN : cfg0.N = 26 := N_0; have := i.isLt; omega
  show k0_pay1 (iblk m c 0 t) (iblk m c 1 t) (ix2 i k) = G4 m c ((win0_4.blk t).view.emb (ix2 i k))
  rw [emb4 t i k ht]
  exact pay1 _ _ _ _ _ _ (fun k => blk0 m c t i k ⟨_, ht⟩ rfl) (fun k => blk1 m c t 0 k)

theorem mem_blk4 (t : Fin cfg0.N) (i : S8320x1024.Idx) :
    i ∈ ((cfg0.win 4).blk t).view.set ↔ t.val * 320 ≤ (i 0 : Nat) ∧ (i 0 : Nat) < t.val * 320 + 320 := by
  show i ∈ ((View.whole main_v0_0).slice (win0_4.rect t)).set ↔ _
  rw [View.set_slice_whole, Rect.mem_set_unit]
  have h1 : (i 1 : Nat) < 1024 := (i 1).isLt
  have e : win0_4.index t 0 * win0_4.size 0 = t.val * 320 ∧ win0_4.xsize (grid0.coords t) 0 = 320
      ∧ win0_4.index t 1 * win0_4.size 1 = 0 ∧ win0_4.xsize (grid0.coords t) 1 = 1024 := by
    revert t; exact (by decide +kernel : ∀ t : Fin grid0.N, win0_4.index t 0 * win0_4.size 0 = t.val * 320 ∧ win0_4.xsize (grid0.coords t) 0 = 320
      ∧ win0_4.index t 1 * win0_4.size 1 = 0 ∧ win0_4.xsize (grid0.coords t) 1 = 1024)
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e.1, e.2.1]; exact h
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

theorem cover4 (i : S8320x1024.Idx) :
    ∃ t : Fin cfg0.N, (cfg0.win 4).flush t = true ∧ i ∈ ((cfg0.win 4).blk t).view.set := by
  have h0 : (i 0 : Nat) < 8320 := (i 0).isLt
  have hN : cfg0.N = 26 := N_0
  have ht : (i 0 : Nat) / 320 < cfg0.N := by omega
  refine ⟨⟨(i 0 : Nat) / 320, ht⟩, flush0_4 _, ?_⟩
  rw [mem_blk4]
  dsimp only
  omega

theorem final4 (c : Dev nD) : (dats m 0 c).arrAt 4 cfg0.N = G4 m c :=
  (dats m 0 c).arrAt_eq_of_cover 4 (G4 m c) (fun t _ => flushed4 m c t) cover4

theorem flushed5 (c : Dev nD) (t : Fin cfg0.N) :
    (dats m 0 c).flushed 5 t = (win0_5.blk t).view.read (Elt Ideal) (G5 m c) := by
  rw [Value.flushed5]
  unfold out0_5
  rw [View.canon_unit_zero Update.hz]
  repeat rw [View.ld_unit_zero Update.hz]
  funext y
  obtain ⟨i, k, rfl⟩ : ∃ (i : Fin 320) (k : Fin 4096), y = ix2 i k := ⟨y 0, y 1, eq_ix2 y⟩
  have ht : t.val * 320 + i.val < 8320 := by
    have := t.isLt; have hN : cfg0.N = 26 := N_0; have := i.isLt; omega
  show k0_pay2 (iblk m c 0 t) (iblk m c 1 t) (iblk m c 2 t) (ix2 i k) = G5 m c ((win0_5.blk t).view.emb (ix2 i k))
  rw [emb5 t i k ht]
  exact pay2 _ _ _ _ _ _ _ _ (fun k => blk0 m c t i k ⟨_, ht⟩ rfl) (fun k => blk1 m c t 0 k) (fun k n => blk2 m c t k n)

theorem mem_blk5 (t : Fin cfg0.N) (i : S8320x4096.Idx) :
    i ∈ ((cfg0.win 5).blk t).view.set ↔ t.val * 320 ≤ (i 0 : Nat) ∧ (i 0 : Nat) < t.val * 320 + 320 := by
  show i ∈ ((View.whole main_v0_1).slice (win0_5.rect t)).set ↔ _
  rw [View.set_slice_whole, Rect.mem_set_unit]
  have h1 : (i 1 : Nat) < 4096 := (i 1).isLt
  have e : win0_5.index t 0 * win0_5.size 0 = t.val * 320 ∧ win0_5.xsize (grid0.coords t) 0 = 320
      ∧ win0_5.index t 1 * win0_5.size 1 = 0 ∧ win0_5.xsize (grid0.coords t) 1 = 4096 := by
    revert t; exact (by decide +kernel : ∀ t : Fin grid0.N, win0_5.index t 0 * win0_5.size 0 = t.val * 320 ∧ win0_5.xsize (grid0.coords t) 0 = 320
      ∧ win0_5.index t 1 * win0_5.size 1 = 0 ∧ win0_5.xsize (grid0.coords t) 1 = 4096)
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

theorem cover5 (i : S8320x4096.Idx) :
    ∃ t : Fin cfg0.N, (cfg0.win 5).flush t = true ∧ i ∈ ((cfg0.win 5).blk t).view.set := by
  have h0 : (i 0 : Nat) < 8320 := (i 0).isLt
  have hN : cfg0.N = 26 := N_0
  have ht : (i 0 : Nat) / 320 < cfg0.N := by omega
  refine ⟨⟨(i 0 : Nat) / 320, ht⟩, flush0_5 _, ?_⟩
  rw [mem_blk5]
  dsimp only
  omega

theorem final5 (c : Dev nD) : (dats m 0 c).arrAt 5 cfg0.N = G5 m c :=
  (dats m 0 c).arrAt_eq_of_cover 5 (G5 m c) (fun t _ => flushed5 m c t) cover5

theorem flushed6 (c : Dev nD) (t : Fin cfg0.N) :
    (dats m 0 c).flushed 6 t = (win0_6.blk t).view.read (Elt Ideal) (G6 m c) := by
  rw [Value.flushed6]
  unfold out0_6
  rw [View.canon_unit_zero Update.hz]
  repeat rw [View.ld_unit_zero Update.hz]
  funext y
  obtain ⟨i, k, rfl⟩ : ∃ (i : Fin 320) (k : Fin 4096), y = ix2 i k := ⟨y 0, y 1, eq_ix2 y⟩
  have ht : t.val * 320 + i.val < 8320 := by
    have := t.isLt; have hN : cfg0.N = 26 := N_0; have := i.isLt; omega
  show k0_pay3 (iblk m c 0 t) (iblk m c 1 t) (iblk m c 2 t) (ix2 i k) = G6 m c ((win0_6.blk t).view.emb (ix2 i k))
  rw [emb6 t i k ht]
  exact pay3 _ _ _ _ _ _ _ _ (fun k => blk0 m c t i k ⟨_, ht⟩ rfl) (fun k => blk1 m c t 0 k) (fun k n => blk2 m c t k n)

theorem mem_blk6 (t : Fin cfg0.N) (i : S8320x4096.Idx) :
    i ∈ ((cfg0.win 6).blk t).view.set ↔ t.val * 320 ≤ (i 0 : Nat) ∧ (i 0 : Nat) < t.val * 320 + 320 := by
  show i ∈ ((View.whole main_v0_2).slice (win0_6.rect t)).set ↔ _
  rw [View.set_slice_whole, Rect.mem_set_unit]
  have h1 : (i 1 : Nat) < 4096 := (i 1).isLt
  have e : win0_6.index t 0 * win0_6.size 0 = t.val * 320 ∧ win0_6.xsize (grid0.coords t) 0 = 320
      ∧ win0_6.index t 1 * win0_6.size 1 = 0 ∧ win0_6.xsize (grid0.coords t) 1 = 4096 := by
    revert t; exact (by decide +kernel : ∀ t : Fin grid0.N, win0_6.index t 0 * win0_6.size 0 = t.val * 320 ∧ win0_6.xsize (grid0.coords t) 0 = 320
      ∧ win0_6.index t 1 * win0_6.size 1 = 0 ∧ win0_6.xsize (grid0.coords t) 1 = 4096)
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

theorem cover6 (i : S8320x4096.Idx) :
    ∃ t : Fin cfg0.N, (cfg0.win 6).flush t = true ∧ i ∈ ((cfg0.win 6).blk t).view.set := by
  have h0 : (i 0 : Nat) < 8320 := (i 0).isLt
  have hN : cfg0.N = 26 := N_0
  have ht : (i 0 : Nat) / 320 < cfg0.N := by omega
  refine ⟨⟨(i 0 : Nat) / 320, ht⟩, flush0_6 _, ?_⟩
  rw [mem_blk6]
  dsimp only
  omega

theorem final6 (c : Dev nD) : (dats m 0 c).arrAt 6 cfg0.N = G6 m c :=
  (dats m 0 c).arrAt_eq_of_cover 6 (G6 m c) (fun t _ => flushed6 m c t) cover6

theorem flushed7 (c : Dev nD) (t : Fin cfg0.N) :
    (dats m 0 c).flushed 7 t = (win0_7.blk t).view.read (Elt Ideal) (G7 m c) := by
  rw [Value.flushed7]
  unfold out0_7
  rw [View.canon_unit_zero Update.hz]
  repeat rw [View.ld_unit_zero Update.hz]
  funext y
  obtain ⟨i, k, rfl⟩ : ∃ (i : Fin 320) (k : Fin 1024), y = ix2 i k := ⟨y 0, y 1, eq_ix2 y⟩
  have ht : t.val * 320 + i.val < 8320 := by
    have := t.isLt; have hN : cfg0.N = 26 := N_0; have := i.isLt; omega
  show k0_pay4 (iblk m c 0 t) (iblk m c 1 t) (iblk m c 2 t) (iblk m c 3 t) (ix2 i k) = G7 m c ((win0_7.blk t).view.emb (ix2 i k))
  rw [emb7 t i k ht]
  exact pay4 _ _ _ _ _ _ _ _ _ _ (fun k => blk0 m c t i k ⟨_, ht⟩ rfl) (fun k => blk1 m c t 0 k) (fun k n => blk2 m c t k n) (fun k n => blk3 m c t k n)

theorem mem_blk7 (t : Fin cfg0.N) (i : S8320x1024.Idx) :
    i ∈ ((cfg0.win 7).blk t).view.set ↔ t.val * 320 ≤ (i 0 : Nat) ∧ (i 0 : Nat) < t.val * 320 + 320 := by
  show i ∈ ((View.whole main_v0_3).slice (win0_7.rect t)).set ↔ _
  rw [View.set_slice_whole, Rect.mem_set_unit]
  have h1 : (i 1 : Nat) < 1024 := (i 1).isLt
  have e : win0_7.index t 0 * win0_7.size 0 = t.val * 320 ∧ win0_7.xsize (grid0.coords t) 0 = 320
      ∧ win0_7.index t 1 * win0_7.size 1 = 0 ∧ win0_7.xsize (grid0.coords t) 1 = 1024 := by
    revert t; exact (by decide +kernel : ∀ t : Fin grid0.N, win0_7.index t 0 * win0_7.size 0 = t.val * 320 ∧ win0_7.xsize (grid0.coords t) 0 = 320
      ∧ win0_7.index t 1 * win0_7.size 1 = 0 ∧ win0_7.xsize (grid0.coords t) 1 = 1024)
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

theorem cover7 (i : S8320x1024.Idx) :
    ∃ t : Fin cfg0.N, (cfg0.win 7).flush t = true ∧ i ∈ ((cfg0.win 7).blk t).view.set := by
  have h0 : (i 0 : Nat) < 8320 := (i 0).isLt
  have hN : cfg0.N = 26 := N_0
  have ht : (i 0 : Nat) / 320 < cfg0.N := by omega
  refine ⟨⟨(i 0 : Nat) / 320, ht⟩, flush0_7 _, ?_⟩
  rw [mem_blk7]
  dsimp only
  omega

theorem final7 (c : Dev nD) : (dats m 0 c).arrAt 7 cfg0.N = G7 m c :=
  (dats m 0 c).arrAt_eq_of_cover 7 (G7 m c) (fun t _ => flushed7 m c t) cover7

theorem run : θ_run defs (onTc (τ := τ) (main (F := Ideal))) ⟨m, fun _ => 0, g⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h4, h5, h6, h7, hk⟩ := h c
    exact ⟨h4.trans (final4 m c), h5.trans (final5 m c), h6.trans (final6 m c), h7.trans (final7 m c), hk⟩)
    (Value.run_blocks m g)

theorem frame_ideal : Cert.quiescent_MlpFwdIdeal := fun m g _ => Gen.frame m g

theorem frame : Cert.quiescent_MlpFwd := fun m g _ => Cert.MlpFwd.Gen.frame m g

theorem frame_ref : Cert.quiescent_MlpFwdRefIdeal := fun m g _ =>
  (θ_run Cert.MlpFwdRefIdeal.defs _ _).mono
    (fun r h => ⟨fun c => (h c).2.2.2.2, sem_eq_zero_of_no_sems (by decide) r.2⟩) (Cert.MlpFwdRefIdeal.Value.run m g)

theorem algebraic : Cert.algebraic_MlpFwdIdeal_MlpFwdRefIdeal := by
  intro m g m' g' _ hm
  refine ⟨fun c => G4 m c, fun c => G5 m c, fun c => G6 m c, fun c => G7 m c,
    (θ_run defs _ _).mono (fun r h c => ⟨(h c).1, (h c).2.1, (h c).2.2.1, (h c).2.2.2.1, (h c).2.2.2.2⟩) (run m g),
    (θ_run Cert.MlpFwdRefIdeal.defs _ _).mono (fun r h c => ?_) (Cert.MlpFwdRefIdeal.Value.run m' g')⟩
  obtain ⟨h4, h5, h6, h7, hk⟩ := h c
  obtain ⟨a0, a1, a2, a3⟩ := hm c
  refine ⟨h4.trans ?_, h5.trans ?_, h6.trans ?_, h7.trans ?_, hk⟩
  · rw [a0, a1]
    funext i
    obtain ⟨r, k, rfl⟩ : ∃ r k, i = ix2 r k := ⟨i 0, i 1, eq_ix2 i⟩
    show _ = G4 m c (ix2 r k)
    simp only [G4, pointwise, zero_add, dot, Rows.norm, relu2, scale]
    rfl
  · rw [a0, a1, a2]
    funext i
    obtain ⟨r, k, rfl⟩ : ∃ r k, i = ix2 r k := ⟨i 0, i 1, eq_ix2 i⟩
    show _ = G5 m c (ix2 r k)
    simp only [G5, pointwise, zero_add, dot, Rows.norm, relu2, scale]
    rfl
  · rw [a0, a1, a2]
    funext i
    obtain ⟨r, k, rfl⟩ : ∃ r k, i = ix2 r k := ⟨i 0, i 1, eq_ix2 i⟩
    show _ = G6 m c (ix2 r k)
    simp only [G6, pointwise, zero_add, dot, Rows.norm, relu2, scale]
    rfl
  · rw [a0, a1, a2, a3]
    funext i
    obtain ⟨r, k, rfl⟩ : ∃ r k, i = ix2 r k := ⟨i 0, i 1, eq_ix2 i⟩
    show _ = G7 m c (ix2 r k)
    simp only [G7, pointwise, zero_add, dot, Rows.norm, relu2, scale]
    rfl

end Cert.MlpFwdClaim

end
-- ==== Proof.MixBwdClaim.lean ====
/-
What is claimed of the way back through the output projection.
-/
module

public import proofs.«01_k».proof.Defs
public import proofs.«01_k».proof.Proof.Update
public import proofs.«01_k».proof.Proof.Rows
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Value
public import proofs.«01_k».proof.Proof.Gen.MixBwdRefIdeal
public import proofs.«01_k».proof.Proof.Gen.MixBwdRefIdeal.Run
public import Idealize.ShloMosaic.Lib.Pipeline.Value
public import Idealize.ShloMosaic.Lib.Quiescent
public import Idealize.ShloMosaic.Lib.Pointwise

@[expose] public section

noncomputable section

namespace Cert.MixBwdClaim

open Idealize.ShloMosaic Idealize.ShloMosaic.TcCoe Idealize.SL.Sem
open Idealize.ShloMosaic.Pipeline (Dat)
open Cert.MixBwdIdeal Cert.MixBwdIdeal.Gen

variable (m : (ℓ : Loc nD τ sig) → Buf (Elt Ideal) ℓ) (g : Dev nD → PrngReg)

open Cert.Rows

abbrev dh (c : Dev nD) : S8320x1024.Idx → EReal := m ((c : Thread nD τ).loc main_arg0)

theorem at0 : ∀ t : Fin cfg0.N, win0_0.index t 0 * win0_0.size 0 = t.val * 640 ∧ win0_0.index t 1 * win0_0.size 1 = 0 :=
  (by decide +kernel : ∀ t : Fin grid0.N, win0_0.index t 0 * win0_0.size 0 = t.val * 640 ∧ win0_0.index t 1 * win0_0.size 1 = 0)

theorem blk0 (c : Dev nD) (t : Fin cfg0.N) (i : Fin 640) (k : Fin 1024) (r : Fin 8320) (h : r.val = t.val * 640 + i.val) :
    iblk m c 0 t (ix2 i k) = row (dh m c) r k := by
  show dh m c _ = _
  congr 1
  funext a
  apply Fin.ext
  match a with
  | ⟨0, _⟩ =>
    show win0_0.index t 0 * win0_0.size 0 + 1 * i.val = r.val
    rw [(at0 t).1]; omega
  | ⟨1, _⟩ =>
    show win0_0.index t 1 * win0_0.size 1 + 1 * k.val = k.val
    rw [(at0 t).2]; omega

abbrev wa (c : Dev nD) : S512x1024.Idx → EReal := m ((c : Thread nD τ).loc main_arg1)

theorem at1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)

theorem blk1 (c : Dev nD) (t : Fin cfg0.N) (i : Fin 512) (k : Fin 1024) : iblk m c 1 t (ix2 i k) = wa m c (ix2 i k) := by
  show wa m c _ = _
  congr 1
  funext a
  apply Fin.ext
  match a with
  | ⟨0, _⟩ =>
    show win0_1.index t 0 * win0_1.size 0 + 1 * i.val = i.val
    rw [(at1 t).1]; omega
  | ⟨1, _⟩ =>
    show win0_1.index t 1 * win0_1.size 1 + 1 * k.val = k.val
    rw [(at1 t).2]; omega

abbrev wc (c : Dev nD) : S512x1024.Idx → EReal := m ((c : Thread nD τ).loc main_arg2)

theorem at2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)

theorem blk2 (c : Dev nD) (t : Fin cfg0.N) (i : Fin 512) (k : Fin 1024) : iblk m c 2 t (ix2 i k) = wc m c (ix2 i k) := by
  show wc m c _ = _
  congr 1
  funext a
  apply Fin.ext
  match a with
  | ⟨0, _⟩ =>
    show win0_2.index t 0 * win0_2.size 0 + 1 * i.val = i.val
    rw [(at2 t).1]; omega
  | ⟨1, _⟩ =>
    show win0_2.index t 1 * win0_2.size 1 + 1 * k.val = k.val
    rw [(at2 t).2]; omega

abbrev G3 (c : Dev nD) : Buf (Elt Ideal) ((c : Thread nD τ).loc main_v0_0) := fun i : S8320x512.Idx => dot (row (dh m c) (i 0)) (tr (wa m c)) (i 1)

abbrev G4 (c : Dev nD) : Buf (Elt Ideal) ((c : Thread nD τ).loc main_v0_1) := fun i : S8320x512.Idx => dot (row (dh m c) (i 0)) (tr (wc m c)) (i 1)

theorem pay2 (v0 : Vec Ideal S640x1024 .f32) (v2 : Vec Ideal S512x1024 .bf16) (i : Fin 640) (n : Fin 512)
    (x : Fin 1024 → EReal) (w : Fin 1024 → Fin 512 → EReal) (hx : ∀ k, v0 (ix2 i k) = x k) (hw : ∀ k n, v2 (ix2 n k) = w k n) :
    k0_pay2 v0 v2 (ix2 i n) = dot x w n := by
  simp only [k0_pay2, k0_pay1, pointwise, zero_add, dot, hx, hw]

theorem pay3 (v0 : Vec Ideal S640x1024 .f32) (v2 : Vec Ideal S512x1024 .bf16) (i : Fin 640) (n : Fin 512)
    (x : Fin 1024 → EReal) (w : Fin 1024 → Fin 512 → EReal) (hx : ∀ k, v0 (ix2 i k) = x k) (hw : ∀ k n, v2 (ix2 n k) = w k n) :
    k0_pay3 v0 v2 (ix2 i n) = dot x w n := by
  simp only [k0_pay3, k0_pay1, pointwise, zero_add, dot, hx, hw]

theorem at3 : ∀ t : Fin cfg0.N, win0_3.index t 0 * win0_3.size 0 = t.val * 640 ∧ win0_3.index t 1 * win0_3.size 1 = 0 :=
  (by decide +kernel : ∀ t : Fin grid0.N, win0_3.index t 0 * win0_3.size 0 = t.val * 640 ∧ win0_3.index t 1 * win0_3.size 1 = 0)

theorem emb3 (t : Fin cfg0.N) (i : Fin 640) (k : Fin 512) (h : t.val * 640 + i.val < 8320) :
    (win0_3.blk t).view.emb (ix2 i k) = (ix2 ⟨t.val * 640 + i.val, h⟩ k : S8320x512.Idx) := by
  funext a
  apply Fin.ext
  match a with
  | ⟨0, _⟩ =>
    show win0_3.index t 0 * win0_3.size 0 + 1 * i.val = t.val * 640 + i.val
    rw [(at3 t).1]; omega
  | ⟨1, _⟩ =>
    show win0_3.index t 1 * win0_3.size 1 + 1 * k.val = k.val
    rw [(at3 t).2]; omega

theorem at4 : ∀ t : Fin cfg0.N, win0_4.index t 0 * win0_4.size 0 = t.val * 640 ∧ win0_4.index t 1 * win0_4.size 1 = 0 :=
  (by decide +kernel : ∀ t : Fin grid0.N, win0_4.index t 0 * win0_4.size 0 = t.val * 640 ∧ win0_4.index t 1 * win0_4.size 1 = 0)

theorem emb4 (t : Fin cfg0.N) (i : Fin 640) (k : Fin 512) (h : t.val * 640 + i.val < 8320) :
    (win0_4.blk t).view.emb (ix2 i k) = (ix2 ⟨t.val * 640 + i.val, h⟩ k : S8320x512.Idx) := by
  funext a
  apply Fin.ext
  match a with
  | ⟨0, _⟩ =>
    show win0_4.index t 0 * win0_4.size 0 + 1 * i.val = t.val * 640 + i.val
    rw [(at4 t).1]; omega
  | ⟨1, _⟩ =>
    show win0_4.index t 1 * win0_4.size 1 + 1 * k.val = k.val
    rw [(at4 t).2]; omega

theorem flushed3 (c : Dev nD) (t : Fin cfg0.N) :
    (dats m 0 c).flushed 3 t = (win0_3.blk t).view.read (Elt Ideal) (G3 m c) := by
  rw [Value.flushed3]
  unfold out0_3
  rw [View.canon_unit_zero Update.hz]
  repeat rw [View.ld_unit_zero Update.hz]
  funext y
  obtain ⟨i, k, rfl⟩ : ∃ (i : Fin 640) (k : Fin 512), y = ix2 i k := ⟨y 0, y 1, eq_ix2 y⟩
  have ht : t.val * 640 + i.val < 8320 := by
    have := t.isLt; have hN : cfg0.N = 13 := N_0; have := i.isLt; omega
  show k0_pay2 (iblk m c 0 t) (iblk m c 1 t) (ix2 i k) = G3 m c ((win0_3.blk t).view.emb (ix2 i k))
  rw [emb3 t i k ht]
  exact pay2 _ _ _ _ _ _ (fun k => blk0 m c t i k ⟨_, ht⟩ rfl) (fun k n => blk1 m c t n k)

theorem mem_blk3 (t : Fin cfg0.N) (i : S8320x512.Idx) :
    i ∈ ((cfg0.win 3).blk t).view.set ↔ t.val * 640 ≤ (i 0 : Nat) ∧ (i 0 : Nat) < t.val * 640 + 640 := by
  show i ∈ ((View.whole main_v0_0).slice (win0_3.rect t)).set ↔ _
  rw [View.set_slice_whole, Rect.mem_set_unit]
  have h1 : (i 1 : Nat) < 512 := (i 1).isLt
  have e : win0_3.index t 0 * win0_3.size 0 = t.val * 640 ∧ win0_3.xsize (grid0.coords t) 0 = 640
      ∧ win0_3.index t 1 * win0_3.size 1 = 0 ∧ win0_3.xsize (grid0.coords t) 1 = 512 := by
    revert t; exact (by decide +kernel : ∀ t : Fin grid0.N, win0_3.index t 0 * win0_3.size 0 = t.val * 640 ∧ win0_3.xsize (grid0.coords t) 0 = 640
      ∧ win0_3.index t 1 * win0_3.size 1 = 0 ∧ win0_3.xsize (grid0.coords t) 1 = 512)
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e.1, e.2.1] at this; exact this
  · match a with
    | ⟨0, _⟩ => show win0_3.index t 0 * win0_3.size 0 ≤ (i 0 : Nat) ∧ (i 0 : Nat) < win0_3.index t 0 * win0_3.size 0 + win0_3.xsize (grid0.coords t) 0
                rw [e.1, e.2.1]; exact h
    | ⟨1, _⟩ => show win0_3.index t 1 * win0_3.size 1 ≤ (i 1 : Nat) ∧ (i 1 : Nat) < win0_3.index t 1 * win0_3.size 1 + win0_3.xsize (grid0.coords t) 1
                rw [e.2.2.1, e.2.2.2]; omega

theorem cover3 (i : S8320x512.Idx) :
    ∃ t : Fin cfg0.N, (cfg0.win 3).flush t = true ∧ i ∈ ((cfg0.win 3).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_3 _, ?_⟩
  rw [mem_blk3]
  dsimp only
  omega

theorem final3 (c : Dev nD) : (dats m 0 c).arrAt 3 cfg0.N = G3 m c :=
  (dats m 0 c).arrAt_eq_of_cover 3 (G3 m c) (fun t _ => flushed3 m c t) cover3

theorem flushed4 (c : Dev nD) (t : Fin cfg0.N) :
    (dats m 0 c).flushed 4 t = (win0_4.blk t).view.read (Elt Ideal) (G4 m c) := by
  rw [Value.flushed4]
  unfold out0_4
  rw [View.canon_unit_zero Update.hz]
  repeat rw [View.ld_unit_zero Update.hz]
  funext y
  obtain ⟨i, k, rfl⟩ : ∃ (i : Fin 640) (k : Fin 512), y = ix2 i k := ⟨y 0, y 1, eq_ix2 y⟩
  have ht : t.val * 640 + i.val < 8320 := by
    have := t.isLt; have hN : cfg0.N = 13 := N_0; have := i.isLt; omega
  show k0_pay3 (iblk m c 0 t) (iblk m c 2 t) (ix2 i k) = G4 m c ((win0_4.blk t).view.emb (ix2 i k))
  rw [emb4 t i k ht]
  exact pay3 _ _ _ _ _ _ (fun k => blk0 m c t i k ⟨_, ht⟩ rfl) (fun k n => blk2 m c t n k)

theorem mem_blk4 (t : Fin cfg0.N) (i : S8320x512.Idx) :
    i ∈ ((cfg0.win 4).blk t).view.set ↔ t.val * 640 ≤ (i 0 : Nat) ∧ (i 0 : Nat) < t.val * 640 + 640 := by
  show i ∈ ((View.whole main_v0_1).slice (win0_4.rect t)).set ↔ _
  rw [View.set_slice_whole, Rect.mem_set_unit]
  have h1 : (i 1 : Nat) < 512 := (i 1).isLt
  have e : win0_4.index t 0 * win0_4.size 0 = t.val * 640 ∧ win0_4.xsize (grid0.coords t) 0 = 640
      ∧ win0_4.index t 1 * win0_4.size 1 = 0 ∧ win0_4.xsize (grid0.coords t) 1 = 512 := by
    revert t; exact (by decide +kernel : ∀ t : Fin grid0.N, win0_4.index t 0 * win0_4.size 0 = t.val * 640 ∧ win0_4.xsize (grid0.coords t) 0 = 640
      ∧ win0_4.index t 1 * win0_4.size 1 = 0 ∧ win0_4.xsize (grid0.coords t) 1 = 512)
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e.1, e.2.1]; exact h
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

theorem cover4 (i : S8320x512.Idx) :
    ∃ t : Fin cfg0.N, (cfg0.win 4).flush t = true ∧ i ∈ ((cfg0.win 4).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_4 _, ?_⟩
  rw [mem_blk4]
  dsimp only
  omega

theorem final4 (c : Dev nD) : (dats m 0 c).arrAt 4 cfg0.N = G4 m c :=
  (dats m 0 c).arrAt_eq_of_cover 4 (G4 m c) (fun t _ => flushed4 m c t) cover4

theorem run : θ_run defs (onTc (τ := τ) (main (F := Ideal))) ⟨m, fun _ => 0, g⟩ fun r => ∀ c : Dev nD,
      r.2.mem ((c : Thread nD τ).loc main_v0_0) = G3 m c
      ∧ r.2.mem ((c : Thread nD τ).loc main_v0_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h3, h4, hk⟩ := h c
    exact ⟨h3.trans (final3 m c), h4.trans (final4 m c), hk⟩)
    (Value.run_blocks m g)

theorem frame_ideal : Cert.quiescent_MixBwdIdeal := fun m g _ => Gen.frame m g

theorem frame : Cert.quiescent_MixBwd := fun m g _ => Cert.MixBwd.Gen.frame m g

theorem frame_ref : Cert.quiescent_MixBwdRefIdeal := fun m g _ =>
  (θ_run Cert.MixBwdRefIdeal.defs _ _).mono
    (fun r h => ⟨fun c => (h c).2.2, sem_eq_zero_of_no_sems (by decide) r.2⟩) (Cert.MixBwdRefIdeal.Value.run m g)

theorem algebraic : Cert.algebraic_MixBwdIdeal_MixBwdRefIdeal := by
  intro m g m' g' _ hm
  refine ⟨fun c => G3 m c, fun c => G4 m c,
    (θ_run defs _ _).mono (fun r h c => ⟨(h c).1, (h c).2.1, (h c).2.2⟩) (run m g),
    (θ_run Cert.MixBwdRefIdeal.defs _ _).mono (fun r h c => ?_) (Cert.MixBwdRefIdeal.Value.run m' g')⟩
  obtain ⟨h3, h4, hk⟩ := h c
  obtain ⟨a0, a1, a2⟩ := hm c
  refine ⟨h3.trans ?_, h4.trans ?_, hk⟩
  · rw [a0, a1]
    funext i
    obtain ⟨r, k, rfl⟩ : ∃ r k, i = ix2 r k := ⟨i 0, i 1, eq_ix2 i⟩
    show _ = G3 m c (ix2 r k)
    simp only [G3, pointwise, zero_add, dot]
  · rw [a0, a2]
    funext i
    obtain ⟨r, k, rfl⟩ : ∃ r k, i = ix2 r k := ⟨i 0, i 1, eq_ix2 i⟩
    show _ = G4 m c (ix2 r k)
    simp only [G4, pointwise, zero_add, dot]

end Cert.MixBwdClaim

end
-- ==== Proof.InBwdClaim.lean ====
/-
What is claimed of the way back through the input projections.
-/
module

public import proofs.«01_k».proof.Defs
public import proofs.«01_k».proof.Proof.Update
public import proofs.«01_k».proof.Proof.Rows
public import proofs.«01_k».proof.Proof.Gen.InBwd
public import proofs.«01_k».proof.Proof.Gen.InBwd.Frame
public import proofs.«01_k».proof.Proof.Gen.InBwdIdeal
public import proofs.«01_k».proof.Proof.Gen.InBwdIdeal.Value
public import proofs.«01_k».proof.Proof.Gen.InBwdRefIdeal
public import proofs.«01_k».proof.Proof.Gen.InBwdRefIdeal.Run
public import Idealize.ShloMosaic.Lib.Pipeline.Value
public import Idealize.ShloMosaic.Lib.Quiescent
public import Idealize.ShloMosaic.Lib.Pointwise

@[expose] public section

noncomputable section

namespace Cert.InBwdClaim

open Idealize.ShloMosaic Idealize.ShloMosaic.TcCoe Idealize.SL.Sem
open Idealize.ShloMosaic.Pipeline (Dat)
open Cert.InBwdIdeal Cert.InBwdIdeal.Gen

variable (m : (ℓ : Loc nD τ sig) → Buf (Elt Ideal) ℓ) (g : Dev nD → PrngReg)

open Cert.Rows

abbrev dh1 (c : Dev nD) : S8320x1024.Idx → EReal := m ((c : Thread nD τ).loc main_arg0)

theorem at0 : ∀ t : Fin cfg0.N, win0_0.index t 0 * win0_0.size 0 = t.val * 640 ∧ win0_0.index t 1 * win0_0.size 1 = 0 :=
  (by decide +kernel : ∀ t : Fin grid0.N, win0_0.index t 0 * win0_0.size 0 = t.val * 640 ∧ win0_0.index t 1 * win0_0.size 1 = 0)

theorem blk0 (c : Dev nD) (t : Fin cfg0.N) (i : Fin 640) (k : Fin 1024) (r : Fin 8320) (h : r.val = t.val * 640 + i.val) :
    iblk m c 0 t (ix2 i k) = row (dh1 m c) r k := by
  show dh1 m c _ = _
  congr 1
  funext a
  apply Fin.ext
  match a with
  | ⟨0, _⟩ =>
    show win0_0.index t 0 * win0_0.size 0 + 1 * i.val = r.val
    rw [(at0 t).1]; omega
  | ⟨1, _⟩ =>
    show win0_0.index t 1 * win0_0.size 1 + 1 * k.val = k.val
    rw [(at0 t).2]; omega

abbrev hin (c : Dev nD) : S8320x1024.Idx → EReal := m ((c : Thread nD τ).loc main_arg1)

theorem at1 : ∀ t : Fin cfg0.N, win0_1.index t 0 * win0_1.size 0 = t.val * 640 ∧ win0_1.index t 1 * win0_1.size 1 = 0 :=
  (by decide +kernel : ∀ t : Fin grid0.N, win0_1.index t 0 * win0_1.size 0 = t.val * 640 ∧ win0_1.index t 1 * win0_1.size 1 = 0)

theorem blk1 (c : Dev nD) (t : Fin cfg0.N) (i : Fin 640) (k : Fin 1024) (r : Fin 8320) (h : r.val = t.val * 640 + i.val) :
    iblk m c 1 t (ix2 i k) = row (hin m c) r k := by
  show hin m c _ = _
  congr 1
  funext a
  apply Fin.ext
  match a with
  | ⟨0, _⟩ =>
    show win0_1.index t 0 * win0_1.size 0 + 1 * i.val = r.val
    rw [(at1 t).1]; omega
  | ⟨1, _⟩ =>
    show win0_1.index t 1 * win0_1.size 1 + 1 * k.val = k.val
    rw [(at1 t).2]; omega

abbrev gn (c : Dev nD) : S1x1024.Idx → EReal := m ((c : Thread nD τ).loc main_arg2)

theorem at2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)

theorem blk2 (c : Dev nD) (t : Fin cfg0.N) (i : Fin 1) (k : Fin 1024) : iblk m c 2 t (ix2 i k) = gn m c (ix2 i k) := by
  show gn m c _ = _
  congr 1
  funext a
  apply Fin.ext
  match a with
  | ⟨0, _⟩ =>
    show win0_2.index t 0 * win0_2.size 0 + 1 * i.val = i.val
    rw [(at2 t).1]; omega
  | ⟨1, _⟩ =>
    show win0_2.index t 1 * win0_2.size 1 + 1 * k.val = k.val
    rw [(at2 t).2]; omega

abbrev dq (c : Dev nD) : S8320x512.Idx → EReal := m ((c : Thread nD τ).loc main_arg3)

theorem at3 : ∀ t : Fin cfg0.N, win0_3.index t 0 * win0_3.size 0 = t.val * 640 ∧ win0_3.index t 1 * win0_3.size 1 = 0 :=
  (by decide +kernel : ∀ t : Fin grid0.N, win0_3.index t 0 * win0_3.size 0 = t.val * 640 ∧ win0_3.index t 1 * win0_3.size 1 = 0)

theorem blk3 (c : Dev nD) (t : Fin cfg0.N) (i : Fin 640) (k : Fin 512) (r : Fin 8320) (h : r.val = t.val * 640 + i.val) :
    iblk m c 3 t (ix2 i k) = row (dq m c) r k := by
  show dq m c _ = _
  congr 1
  funext a
  apply Fin.ext
  match a with
  | ⟨0, _⟩ =>
    show win0_3.index t 0 * win0_3.size 0 + 1 * i.val = r.val
    rw [(at3 t).1]; omega
  | ⟨1, _⟩ =>
    show win0_3.index t 1 * win0_3.size 1 + 1 * k.val = k.val
    rw [(at3 t).2]; omega

abbrev dk (c : Dev nD) : S8320x512.Idx → EReal := m ((c : Thread nD τ).loc main_arg4)

theorem at4 : ∀ t : Fin cfg0.N, win0_4.index t 0 * win0_4.size 0 = t.val * 640 ∧ win0_4.index t 1 * win0_4.size 1 = 0 :=
  (by decide +kernel : ∀ t : Fin grid0.N, win0_4.index t 0 * win0_4.size 0 = t.val * 640 ∧ win0_4.index t 1 * win0_4.size 1 = 0)

theorem blk4 (c : Dev nD) (t : Fin cfg0.N) (i : Fin 640) (k : Fin 512) (r : Fin 8320) (h : r.val = t.val * 640 + i.val) :
    iblk m c 4 t (ix2 i k) = row (dk m c) r k := by
  show dk m c _ = _
  congr 1
  funext a
  apply Fin.ext
  match a with
  | ⟨0, _⟩ =>
    show win0_4.index t 0 * win0_4.size 0 + 1 * i.val = r.val
    rw [(at4 t).1]; omega
  | ⟨1, _⟩ =>
    show win0_4.index t 1 * win0_4.size 1 + 1 * k.val = k.val
    rw [(at4 t).2]; omega

abbrev dv (c : Dev nD) : S8320x512.Idx → EReal := m ((c : Thread nD τ).loc main_arg5)

theorem at5 : ∀ t : Fin cfg0.N, win0_5.index t 0 * win0_5.size 0 = t.val * 640 ∧ win0_5.index t 1 * win0_5.size 1 = 0 :=
  (by decide +kernel : ∀ t : Fin grid0.N, win0_5.index t 0 * win0_5.size 0 = t.val * 640 ∧ win0_5.index t 1 * win0_5.size 1 = 0)

theorem blk5 (c : Dev nD) (t : Fin cfg0.N) (i : Fin 640) (k : Fin 512) (r : Fin 8320) (h : r.val = t.val * 640 + i.val) :
    iblk m c 5 t (ix2 i k) = row (dv m c) r k := by
  show dv m c _ = _
  congr 1
  funext a
  apply Fin.ext
  match a with
  | ⟨0, _⟩ =>
    show win0_5.index t 0 * win0_5.size 0 + 1 * i.val = r.val
    rw [(at5 t).1]; omega
  | ⟨1, _⟩ =>
    show win0_5.index t 1 * win0_5.size 1 + 1 * k.val = k.val
    rw [(at5 t).2]; omega

abbrev dr (c : Dev nD) : S8320x1408.Idx → EReal := m ((c : Thread nD τ).loc main_arg6)

theorem at6 : ∀ t : Fin cfg0.N, win0_6.index t 0 * win0_6.size 0 = t.val * 640 ∧ win0_6.index t 1 * win0_6.size 1 = 0 :=
  (by decide +kernel : ∀ t : Fin grid0.N, win0_6.index t 0 * win0_6.size 0 = t.val * 640 ∧ win0_6.index t 1 * win0_6.size 1 = 0)

theorem blk6 (c : Dev nD) (t : Fin cfg0.N) (i : Fin 640) (k : Fin 1408) (r : Fin 8320) (h : r.val = t.val * 640 + i.val) :
    iblk m c 6 t (ix2 i k) = row (dr m c) r k := by
  show dr m c _ = _
  congr 1
  funext a
  apply Fin.ext
  match a with
  | ⟨0, _⟩ =>
    show win0_6.index t 0 * win0_6.size 0 + 1 * i.val = r.val
    rw [(at6 t).1]; omega
  | ⟨1, _⟩ =>
    show win0_6.index t 1 * win0_6.size 1 + 1 * k.val = k.val
    rw [(at6 t).2]; omega

abbrev wq (c : Dev nD) : S1024x1536.Idx → EReal := m ((c : Thread nD τ).loc main_arg7)

theorem at7 : ∀ t : Fin cfg0.N, win0_7.index t 0 * win0_7.size 0 = 0 ∧ win0_7.index t 1 * win0_7.size 1 = 0 :=
  (by decide +kernel : ∀ t : Fin grid0.N, win0_7.index t 0 * win0_7.size 0 = 0 ∧ win0_7.index t 1 * win0_7.size 1 = 0)

theorem blk7 (c : Dev nD) (t : Fin cfg0.N) (i : Fin 1024) (k : Fin 1536) : iblk m c 7 t (ix2 i k) = wq m c (ix2 i k) := by
  show wq m c _ = _
  congr 1
  funext a
  apply Fin.ext
  match a with
  | ⟨0, _⟩ =>
    show win0_7.index t 0 * win0_7.size 0 + 1 * i.val = i.val
    rw [(at7 t).1]; omega
  | ⟨1, _⟩ =>
    show win0_7.index t 1 * win0_7.size 1 + 1 * k.val = k.val
    rw [(at7 t).2]; omega

abbrev wr (c : Dev nD) : S1024x1408.Idx → EReal := m ((c : Thread nD τ).loc main_arg8)

theorem at8 : ∀ t : Fin cfg0.N, win0_8.index t 0 * win0_8.size 0 = 0 ∧ win0_8.index t 1 * win0_8.size 1 = 0 :=
  (by decide +kernel : ∀ t : Fin grid0.N, win0_8.index t 0 * win0_8.size 0 = 0 ∧ win0_8.index t 1 * win0_8.size 1 = 0)

theorem blk8 (c : Dev nD) (t : Fin cfg0.N) (i : Fin 1024) (k : Fin 1408) : iblk m c 8 t (ix2 i k) = wr m c (ix2 i k) := by
  show wr m c _ = _
  congr 1
  funext a
  apply Fin.ext
  match a with
  | ⟨0, _⟩ =>
    show win0_8.index t 0 * win0_8.size 0 + 1 * i.val = i.val
    rw [(at8 t).1]; omega
  | ⟨1, _⟩ =>
    show win0_8.index t 1 * win0_8.size 1 + 1 * k.val = k.val
    rw [(at8 t).2]; omega

/-- The derivative of one normalised row, from the derivatives of its projections. -/
def proj (q k v : Fin 512 → EReal) (r : Fin 1408 → EReal) (w : Fin 1024 → Fin 1536 → EReal) (w' : Fin 1024 → Fin 1408 → EReal) (n : Fin 1024) : EReal :=
  ((∑ j : Fin 512, q j * w n ⟨0 + j.val, by omega⟩ + ∑ j : Fin 512, k j * w n ⟨512 + j.val, by omega⟩)
    + ∑ j : Fin 512, v j * w n ⟨1024 + j.val, by omega⟩) + ∑ j, r j * w' n j

/-- The derivative of row `r` of the normalised rows. -/
abbrev dn (c : Dev nD) (r : Fin 8320) : Fin 1024 → EReal :=
  proj (row (dq m c) r) (row (dk m c) r) (row (dv m c) r) (row (dr m c) r) (mat (wq m c)) (mat (wr m c))

abbrev G9 (c : Dev nD) : Buf (Elt Ideal) ((c : Thread nD τ).loc main_v0_0) := fun i : S8320x1024.Idx =>
  dh1 m c (ix2 (i 0) (i 1)) + back (row (hin m c) (i 0)) (row (gn m c) 0) (dn m c (i 0)) (i 1)

abbrev G10 (c : Dev nD) : Buf (Elt Ideal) ((c : Thread nD τ).loc main_v0_1) := fun i : S1x1024.Idx =>
  (∑ r : Fin 8320, dn m c r (i 1) * (row (hin m c) r (i 1) * scale (row (hin m c) r)) : EReal)

theorem ldq (X : Vec Ideal S1024x1536 .bf16) (o : ℕ) (hi) (n : Fin 1024) (k : Fin 512) (h : o + k.val < 1536) :
    View.ld X (Rect.unit (s := S1024x1536) ![0, o] S1024x512.size hi) (ix2 n k) = X (ix2 n ⟨o + k.val, h⟩) := by
  show X _ = X _
  congr 1
  funext a
  apply Fin.ext
  match a with
  | ⟨0, _⟩ => show 0 + 1 * n.val = n.val; omega
  | ⟨1, _⟩ => show o + 1 * k.val = o + k.val; omega

theorem pay3 (y : S1x1024.Idx) : (k0_pay3 (F := Ideal)) y = 0 := by
  simp only [k0_pay3, pointwise]

theorem pay4 (v3 : Vec Ideal S640x512 .bf16) (v4 : Vec Ideal S1024x512 .bf16) (v6 : Vec Ideal S640x512 .bf16) (v7 : Vec Ideal S1024x512 .bf16)
    (v10 : Vec Ideal S640x512 .bf16) (v11 : Vec Ideal S1024x512 .bf16) (v14 : Vec Ideal S640x1408 .bf16) (v15 : Vec Ideal S1024x1408 .bf16)
    (i : Fin 640) (n : Fin 1024) (q k v : Fin 512 → EReal) (r : Fin 1408 → EReal) (w : Fin 1024 → Fin 1536 → EReal) (w' : Fin 1024 → Fin 1408 → EReal)
    (hq : ∀ j, v3 (ix2 i j) = q j) (hk : ∀ j, v6 (ix2 i j) = k j) (hv : ∀ j, v10 (ix2 i j) = v j) (hr : ∀ j, v14 (ix2 i j) = r j)
    (h4 : ∀ n (j : Fin 512), v4 (ix2 n j) = w n ⟨0 + j.val, by omega⟩) (h7 : ∀ n (j : Fin 512), v7 (ix2 n j) = w n ⟨512 + j.val, by omega⟩)
    (h11 : ∀ n (j : Fin 512), v11 (ix2 n j) = w n ⟨1024 + j.val, by omega⟩) (h15 : ∀ n j, v15 (ix2 n j) = w' n j) :
    k0_pay4 v3 v4 v6 v7 v10 v11 v14 v15 (ix2 i n) = proj q k v r w w' n := by
  simp only [k0_pay4, pointwise, zero_add, hq, hk, hv, hr, h4, h7, h11, h15, proj]

theorem pay5 (v18 : Vec Ideal S640x1024 .f32) (i : Fin 640) (x : Fin 1024 → EReal) (hx : ∀ k, v18 (ix2 i k) = x k) :
    k0_pay5 v18 (ix2 i 0) = scale x := by
  simp only [k0_pay5, pointwise, reduceDIte, Nat.reduceEqDiff, OfNat.ofNat_ne_one, hx, scale]

theorem pay6 (v18 : Vec Ideal S640x1024 .f32) (i : Fin 640) (n : Fin 1024) (x : Fin 1024 → EReal) (hx : ∀ k, v18 (ix2 i k) = x k) :
    k0_pay6 v18 (ix2 i n) = x n * scale x := by
  simp only [k0_pay6, pointwise, reduceDIte, Nat.reduceEqDiff, OfNat.ofNat_ne_one]
  rw [← pay5 v18 i x hx, ← hx]

theorem pay1 (v17 v28 : FVec Ideal S640x1024 .f32) (v29 : Vec Ideal S1x1024 .f32) (n : Fin 1024) :
    k0_pay1 v17 v28 v29 (ix2 0 n) = v29 (ix2 0 n) + ∑ i : Fin 640, v17 (ix2 i n) * v28 (ix2 i n) := by
  simp only [k0_pay1, pointwise, zero_add, shapeCast_self, reduceDIte, Nat.reduceEqDiff, OfNat.ofNat_ne_one]

theorem pay2 (v17 : FVec Ideal S640x1024 .f32) (v26 : FVec Ideal S640x1 .f32) (v28 : FVec Ideal S640x1024 .f32) (v36 : Vec Ideal S640x1024 .f32)
    (v37 : Vec Ideal S1x1024 .f32) (i : Fin 640) (n : Fin 1024) (x g u : Fin 1024 → EReal) (hu : ∀ k, v17 (ix2 i k) = u k)
    (hs : v26 (ix2 i 0) = scale x) (hx : ∀ k, v28 (ix2 i k) = x k * scale x) (hg : ∀ k, v37 (ix2 0 k) = g k) :
    k0_pay2 v17 v26 v28 v36 v37 (ix2 i n) = v36 (ix2 i n) + back x g u n := by
  simp only [k0_pay2, pointwise, zero_add, reduceDIte, Nat.reduceEqDiff, OfNat.ofNat_ne_one, hu, hx, hg]
  rw [back, ← hs]

abbrev tileU (c : Dev nD) (t : Fin cfg0.N) : FVec Ideal S640x1024 .f32 :=
  k0_pay4 (iblk m c 3 t) (View.ld (iblk m c 7 t) (Rect.unit (s := S1024x1536) ![0, 0] S1024x512.size inb_S1024x1536_S1024x512_0_0)) (iblk m c 4 t) (View.ld (iblk m c 7 t) (Rect.unit (s := S1024x1536) ![0, 512] S1024x512.size inb_S1024x1536_S1024x512_0_512)) (iblk m c 5 t) (View.ld (iblk m c 7 t) (Rect.unit (s := S1024x1536) ![0, 1024] S1024x512.size inb_S1024x1536_S1024x512_0_1024)) (iblk m c 6 t) (iblk m c 8 t)

abbrev tile9 (c : Dev nD) (t : Fin cfg0.N) : FVec Ideal S640x1024 .f32 :=
  k0_pay2 (tileU m c t) (k0_pay5 (iblk m c 1 t)) (k0_pay6 (iblk m c 1 t)) (iblk m c 0 t) (iblk m c 2 t)

abbrev tile10 (c : Dev nD) (t : Fin cfg0.N) (acc : Vec Ideal S1x1024 .f32) : FVec Ideal S1x1024 .f32 :=
  k0_pay1 (tileU m c t) (k0_pay6 (iblk m c 1 t)) acc

theorem outs_A (c : Dev nD) (t : Fin cfg0.N) (h0 : t.val % 13 = 0) :
    outsAt0 m c t.val t.isLt = (tile9 m c t, tile10 m c t (k0_pay3 (F := Ideal))) := by
  rw [outsAt0_A m c t h0]
  unfold out0_A_9 out0_A_10
  refine Prod.ext ?_ ?_ <;> dsimp only
  · rw [View.read_writes_eq_canon _ _ _ (fun y => cover0_A_9 (y := y) ..)]
    unfold kernelRun0_A; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
    repeat rw [View.ld_unit_zero Update.hz]
    rfl
  · rw [View.read_writes_eq_canon _ _ _ (fun y => cover0_A_10 (y := y) ..)]
    unfold kernelRun0_A; dsimp only; try sl_unfold_words
    rw [View.canon_cons_unit_zero (S := S1x1024) Update.hz, View.readCov_unit_zero (S := S1x1024) _ Update.hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
    repeat rw [View.ld_unit_zero Update.hz]
    rfl

theorem outs_B (c : Dev nD) (t : Fin cfg0.N) (h0 : ¬ t.val % 13 = 0) :
    outsAt0 m c t.val t.isLt = (tile9 m c t, tile10 m c t (outsAt0 m c (t.val - 1) (Nat.lt_of_le_of_lt (Nat.sub_le _ _) t.isLt)).2) := by
  rw [outsAt0_B m c t h0]
  unfold out0_B_9 out0_B_10
  refine Prod.ext ?_ ?_ <;> dsimp only
  · rw [View.read_writes_eq_canon _ _ _ (fun y => cover0_B_9 (y := y) ..)]
    unfold kernelRun0_B; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
    repeat rw [View.ld_unit_zero Update.hz]
    rfl
  · rw [View.read_writes_eq_canon _ _ _ (fun y => cover0_B_10 (y := y) ..)]
    unfold kernelRun0_B; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread]
    repeat rw [View.ld_unit_zero Update.hz]
    rfl

theorem at9 : ∀ t : Fin cfg0.N, win0_9.index t 0 * win0_9.size 0 = t.val * 640 ∧ win0_9.index t 1 * win0_9.size 1 = 0 :=
  (by decide +kernel : ∀ t : Fin grid0.N, win0_9.index t 0 * win0_9.size 0 = t.val * 640 ∧ win0_9.index t 1 * win0_9.size 1 = 0)

theorem emb9 (t : Fin cfg0.N) (i : Fin 640) (k : Fin 1024) (h : t.val * 640 + i.val < 8320) :
    (win0_9.blk t).view.emb (ix2 i k) = (ix2 ⟨t.val * 640 + i.val, h⟩ k : S8320x1024.Idx) := by
  funext a
  apply Fin.ext
  match a with
  | ⟨0, _⟩ =>
    show win0_9.index t 0 * win0_9.size 0 + 1 * i.val = t.val * 640 + i.val
    rw [(at9 t).1]; omega
  | ⟨1, _⟩ =>
    show win0_9.index t 1 * win0_9.size 1 + 1 * k.val = k.val
    rw [(at9 t).2]; omega

theorem tileU_apply (c : Dev nD) (t : Fin cfg0.N) (i : Fin 640) (n : Fin 1024) (r : Fin 8320) (h : r.val = t.val * 640 + i.val) :
    tileU m c t (ix2 i n) = dn m c r n :=
  pay4 _ _ _ _ _ _ _ _ i n _ _ _ _ _ _ (fun j => blk3 m c t i j r h) (fun j => blk4 m c t i j r h) (fun j => blk5 m c t i j r h) (fun j => blk6 m c t i j r h)
    (fun n j => (ldq _ 0 _ n j _).trans (blk7 m c t n _)) (fun n j => (ldq _ 512 _ n j _).trans (blk7 m c t n _))
    (fun n j => (ldq _ 1024 _ n j _).trans (blk7 m c t n _)) (fun n j => blk8 m c t n j)

theorem flushed9 (c : Dev nD) (t : Fin cfg0.N) :
    (dats m 0 c).flushed 9 t = (win0_9.blk t).view.read (Elt Ideal) (G9 m c) := by
  have key : (outsAt0 m c t.val t.isLt).1 = tile9 m c t := by
    by_cases h0 : t.val % 13 = 0
    · rw [outs_A m c t h0]
    · rw [outs_B m c t h0]
  rw [Value.flushed9, key]
  funext y
  obtain ⟨i, k, rfl⟩ : ∃ (i : Fin 640) (k : Fin 1024), y = ix2 i k := ⟨y 0, y 1, eq_ix2 y⟩
  have ht : t.val * 640 + i.val < 8320 := by
    have := t.isLt; have hN : cfg0.N = 13 := N_0; have := i.isLt; omega
  show tile9 m c t (ix2 i k) = G9 m c ((win0_9.blk t).view.emb (ix2 i k))
  rw [emb9 t i k ht]
  refine (pay2 _ _ _ _ _ i k (row (hin m c) ⟨_, ht⟩) (row (gn m c) 0) (dn m c ⟨_, ht⟩) (fun k => tileU_apply m c t i k ⟨_, ht⟩ rfl)
    (pay5 _ i _ (fun k => blk1 m c t i k ⟨_, ht⟩ rfl)) (fun n => pay6 _ i n _ (fun k => blk1 m c t i k ⟨_, ht⟩ rfl)) (fun k => blk2 m c t 0 k)).trans ?_
  exact congrArg (· + _) (blk0 m c t i k ⟨_, ht⟩ rfl)

theorem mem_blk9 (t : Fin cfg0.N) (i : S8320x1024.Idx) :
    i ∈ ((cfg0.win 9).blk t).view.set ↔ t.val * 640 ≤ (i 0 : Nat) ∧ (i 0 : Nat) < t.val * 640 + 640 := by
  show i ∈ ((View.whole main_v0_0).slice (win0_9.rect t)).set ↔ _
  rw [View.set_slice_whole, Rect.mem_set_unit]
  have h1 : (i 1 : Nat) < 1024 := (i 1).isLt
  have e : win0_9.index t 0 * win0_9.size 0 = t.val * 640 ∧ win0_9.xsize (grid0.coords t) 0 = 640
      ∧ win0_9.index t 1 * win0_9.size 1 = 0 ∧ win0_9.xsize (grid0.coords t) 1 = 1024 := by
    revert t; exact (by decide +kernel : ∀ t : Fin grid0.N, win0_9.index t 0 * win0_9.size 0 = t.val * 640 ∧ win0_9.xsize (grid0.coords t) 0 = 640
      ∧ win0_9.index t 1 * win0_9.size 1 = 0 ∧ win0_9.xsize (grid0.coords t) 1 = 1024)
  refine ⟨fun h => ?_, fun h a => ?_⟩
  · have : win0_9.index t 0 * win0_9.size 0 ≤ (i 0 : Nat) ∧ (i 0 : Nat) < win0_9.index t 0 * win0_9.size 0 + win0_9.xsize (grid0.coords t) 0 := h 0
    rw [e.1, e.2.1] at this; exact this
  · match a with
    | ⟨0, _⟩ => show win0_9.index t 0 * win0_9.size 0 ≤ (i 0 : Nat) ∧ (i 0 : Nat) < win0_9.index t 0 * win0_9.size 0 + win0_9.xsize (grid0.coords t) 0
                rw [e.1, e.2.1]; exact h
    | ⟨1, _⟩ => show win0_9.index t 1 * win0_9.size 1 ≤ (i 1 : Nat) ∧ (i 1 : Nat) < win0_9.index t 1 * win0_9.size 1 + win0_9.xsize (grid0.coords t) 1
                rw [e.2.2.1, e.2.2.2]; omega

theorem cover9 (i : S8320x1024.Idx) :
    ∃ t : Fin cfg0.N, (cfg0.win 9).flush t = true ∧ i ∈ ((cfg0.win 9).blk t).view.set := by
  have h0 : (i 0 : Nat) < 8320 := (i 0).isLt
  have hN : cfg0.N = 13 := N_0
  have ht : (i 0 : Nat) / 640 < cfg0.N := by omega
  refine ⟨⟨(i 0 : Nat) / 640, ht⟩, flush0_9 _, ?_⟩
  rw [mem_blk9]
  dsimp only
  omega

theorem final9 (c : Dev nD) : (dats m 0 c).arrAt 9 cfg0.N = G9 m c :=
  (dats m 0 c).arrAt_eq_of_cover 9 (G9 m c) (fun t _ => flushed9 m c t) cover9

/-- The row of the whole array that row `k` of tile `s` is. -/
def at' (s : ℕ) (k : Fin 640) : Fin 8320 := ⟨s % 13 * 640 + k.val, by have := k.isLt; omega⟩

/-- What tile `s` adds to the gain's derivative. -/
def part (c : Dev nD) (q : Fin 1024) (s : ℕ) : EReal :=
  ∑ i : Fin 640, dn m c (at' s i) q * (row (hin m c) (at' s i) q * scale (row (hin m c) (at' s i)))

theorem tile10_apply (c : Dev nD) (t : Fin cfg0.N) (acc : Vec Ideal S1x1024 .f32) (q : Fin 1024) :
    tile10 m c t acc (ix2 0 q) = acc (ix2 0 q) + part m c q t.val := by
  rw [tile10, pay1]
  refine congrArg _ (Finset.sum_congr rfl fun i _ => ?_)
  have hr : (at' t.val i).val = t.val * 640 + i.val := by
    show t.val % 13 * 640 + i.val = _
    rw [Nat.mod_eq_of_lt (by have := t.isLt; have hN : cfg0.N = 13 := N_0; omega)]
  rw [tileU_apply m c t i q _ hr, pay6 _ i q _ (fun k => blk1 m c t i k _ hr)]

theorem folds (c : Dev nD) (q : Fin 1024) : ∀ (n : ℕ) (h : n < cfg0.N),
    (outsAt0 m c n h).2 (ix2 0 q) = ∑ s ∈ Finset.range (n + 1), part m c q s
  | 0, h => by
    rw [Finset.sum_range_one]
    refine (congrArg (fun z => z.2 (ix2 0 q)) (outs_A m c ⟨0, h⟩ rfl)).trans ?_
    refine (tile10_apply m c ⟨0, h⟩ _ q).trans ?_
    rw [pay3, zero_add]
  | n + 1, h => by
    have hN : cfg0.N = 13 := N_0
    rw [Finset.sum_range_succ, ← folds c q n (by omega)]
    refine (congrArg (fun z => z.2 (ix2 0 q)) (outs_B m c ⟨n + 1, h⟩ (by show ¬ (n + 1) % 13 = 0; omega))).trans ?_
    exact tile10_apply m c ⟨n + 1, h⟩ _ q

theorem total (c : Dev nD) (q : Fin 1024) :
    ∑ s ∈ Finset.range 13, part m c q s = ∑ r : Fin 8320, dn m c r q * (row (hin m c) r q * scale (row (hin m c) r)) := by
  rw [Finset.sum_range]
  refine Eq.trans ?_ (Fin.sum_univ_tiles 13 640 (by decide) fun r : Fin 8320 => dn m c r q * (row (hin m c) r q * scale (row (hin m c) r))).symm
  refine Finset.sum_congr rfl fun s _ => Finset.sum_congr rfl fun k _ => ?_
  have hs : ∀ h, at' s.val k = ⟨s.val * 640 + k.val, h⟩ := fun h => Fin.ext (by
    show s.val % 13 * 640 + k.val = s.val * 640 + k.val
    rw [Nat.mod_eq_of_lt s.isLt])
  rw [hs]

theorem at10 : ∀ t : Fin cfg0.N, win0_10.index t 0 * win0_10.size 0 = 0 ∧ win0_10.index t 1 * win0_10.size 1 = 0
    ∧ win0_10.xsize (grid0.coords t) 0 = 1 ∧ win0_10.xsize (grid0.coords t) 1 = 1024 :=
  (by decide +kernel : ∀ t : Fin grid0.N, win0_10.index t 0 * win0_10.size 0 = 0 ∧ win0_10.index t 1 * win0_10.size 1 = 0
    ∧ win0_10.xsize (grid0.coords t) 0 = 1 ∧ win0_10.xsize (grid0.coords t) 1 = 1024)

theorem emb10 (t : Fin cfg0.N) (k : Fin 1024) : (win0_10.blk t).view.emb (ix2 0 k) = (ix2 0 k : S1x1024.Idx) := by
  funext a
  apply Fin.ext
  match a with
  | ⟨0, _⟩ =>
    show win0_10.index t 0 * win0_10.size 0 + 1 * 0 = 0
    rw [(at10 t).1]
  | ⟨1, _⟩ =>
    show win0_10.index t 1 * win0_10.size 1 + 1 * k.val = k.val
    rw [(at10 t).2.1]; omega

theorem flushed10 (c : Dev nD) (t : Fin cfg0.N) (hf : (cfg0.win 10).flush t = true) :
    (dats m 0 c).flushed 10 t = (win0_10.blk t).view.read (Elt Ideal) (G10 m c) := by
  have hN : cfg0.N = 13 := N_0
  have h12 : t.val = 12 := by have := (flush0_10 t).mp hf; have := t.isLt; omega
  rw [Value.flushed10]
  have hx : ∀ k, (outsAt0 m c t.val t.isLt).2 (ix2 0 k) = G10 m c (ix2 0 k) := fun k =>
    ((folds m c k t.val t.isLt).trans (congrArg (fun n => ∑ s ∈ Finset.range (n + 1), part m c k s) h12)).trans (total m c k)
  revert hx
  generalize (outsAt0 m c t.val t.isLt).2 = X
  generalize G10 m c = G
  intro hx
  funext y
  obtain ⟨k, rfl⟩ : ∃ k : Fin 1024, y = ix2 0 k := ⟨y 1, (eq_ix2 y).trans (congrArg (fun z => ix2 z (y 1)) (Subsingleton.elim (α := Fin 1) _ _))⟩
  show X (ix2 0 k) = G ((win0_10.blk t).view.emb (ix2 0 k))
  rw [emb10 t k]
  exact hx k

theorem cover10 (i : S1x1024.Idx) :
    ∃ t : Fin cfg0.N, (cfg0.win 10).flush t = true ∧ i ∈ ((cfg0.win 10).blk t).view.set := by
  have hN : cfg0.N = 13 := N_0
  have h0 : (i 0 : Nat) < 1 := (i 0).isLt
  have h1 : (i 1 : Nat) < 1024 := (i 1).isLt
  have ht : 12 < cfg0.N := by omega
  refine ⟨⟨12, ht⟩, (flush0_10 _).mpr rfl, ?_⟩
  show i ∈ ((View.whole main_v0_1).slice (win0_10.rect ⟨12, ht⟩)).set
  rw [View.set_slice_whole, Rect.mem_set_unit]
  have e := at10 ⟨12, ht⟩
  intro a
  match a with
  | ⟨0, _⟩ => show win0_10.index _ 0 * win0_10.size 0 ≤ (i 0 : Nat) ∧ (i 0 : Nat) < win0_10.index _ 0 * win0_10.size 0 + win0_10.xsize _ 0
              rw [e.1, e.2.2.1]; omega
  | ⟨1, _⟩ => show win0_10.index _ 1 * win0_10.size 1 ≤ (i 1 : Nat) ∧ (i 1 : Nat) < win0_10.index _ 1 * win0_10.size 1 + win0_10.xsize _ 1
              rw [e.2.1, e.2.2.2]; omega

theorem final10 (c : Dev nD) : (dats m 0 c).arrAt 10 cfg0.N = G10 m c :=
  (dats m 0 c).arrAt_eq_of_cover 10 (G10 m c) (fun t hf => flushed10 m c t hf) cover10

/-- The reference's one product is the kernel's four. -/
theorem refdn (q k v : S8320x512.Idx → EReal) (s : S8320x1408.Idx → EReal) (w : S1024x1536.Idx → EReal) (w' : S1024x1408.Idx → EReal)
    (r : Fin 8320) (n : Fin 1024) :
    (Host.dotGeneral (F := Ideal) Cert.InBwdRefIdeal.dot_S8320x2944_S2944x1024_S8320x1024_1_0_0_1_n_n none
            (extf .f32
              (concatenate (α := EReal) Cert.InBwdRefIdeal.S8320x2944 1
                [⟨Cert.InBwdRefIdeal.S8320x512, q⟩, ⟨Cert.InBwdRefIdeal.S8320x512, k⟩, ⟨Cert.InBwdRefIdeal.S8320x512, v⟩,
                  ⟨Cert.InBwdRefIdeal.S8320x1408, s⟩]
                Cert.InBwdRefIdeal.Gen.concatenates_S8320x512_S8320x512_S8320x512_S8320x1408_S8320x2944_d1)
              Cert.InBwdRefIdeal.Gen.bitsLt_bf16_f32)
            (transpose Cert.InBwdRefIdeal.S2944x1024 [1, 0]
              (extf .f32
                (concatenate Cert.InBwdRefIdeal.S1024x2944 1
                  [⟨Cert.InBwdRefIdeal.S1024x1536, w⟩, ⟨Cert.InBwdRefIdeal.S1024x1408, w'⟩]
                  Cert.InBwdRefIdeal.Gen.concatenates_S1024x1536_S1024x1408_S1024x2944_d1)
                Cert.InBwdRefIdeal.Gen.bitsLt_bf16_f32)
              Cert.InBwdRefIdeal.Gen.transposes_S1024x2944_S2944x1024_1_0)) (ix2 r n)
      = proj (row q r) (row k r) (row v r) (row s r) (mat w) (mat w') n := by
  simp only [pointwise, zero_add]
  rw [Fin.sum_univ_two_halves 512 2432 rfl, Fin.sum_univ_two_halves 512 1920 rfl, Fin.sum_univ_two_halves 512 1408 rfl, proj, add_assoc, add_assoc]
  refine congrArg₂ (· + ·) (Finset.sum_congr rfl fun x _ => ?_) (congrArg₂ (· + ·) (Finset.sum_congr rfl fun x _ => ?_)
    (congrArg₂ (· + ·) (Finset.sum_congr rfl fun x _ => ?_) (Finset.sum_congr rfl fun x _ => ?_)))
  · have hx := x.isLt
    rw [dif_pos (by show x.val < 512; omega), dif_pos (by show x.val < 1536; omega)]
    show q (ix2 r ⟨x.val, _⟩) * w (ix2 n ⟨x.val, _⟩) = _
    simp only [row, mat, zero_add]
  · have hx := x.isLt
    rw [dif_neg (by show ¬ 512 + x.val < 512; omega), dif_pos (by show 512 + x.val - 512 < 512; omega), dif_pos (by show 512 + x.val < 1536; omega)]
    show k (ix2 r ⟨512 + x.val - 512, _⟩) * w (ix2 n ⟨512 + x.val, _⟩) = _
    simp only [row, mat, Nat.add_sub_cancel_left]
  · have hx := x.isLt
    rw [dif_neg (by show ¬ 512 + (512 + x.val) < 512; omega), dif_neg (by show ¬ 512 + (512 + x.val) - 512 < 512; omega),
      dif_pos (by show 512 + (512 + x.val) - 512 - 512 < 512; omega), dif_pos (by show 512 + (512 + x.val) < 1536; omega)]
    show v (ix2 r ⟨512 + (512 + x.val) - 512 - 512, _⟩) * w (ix2 n ⟨512 + (512 + x.val), _⟩) = _
    simp only [row, mat, Nat.add_sub_cancel_left]
    simp only [← Nat.add_assoc, Nat.reduceAdd]
  · have hx := x.isLt
    have e : ∀ p, (⟨512 + (512 + (512 + x.val)) - 1536, p⟩ : Fin 1408) = x := fun _ => Fin.ext (by
      show 512 + (512 + (512 + x.val)) - 1536 = x.val; omega)
    rw [dif_neg (by show ¬ 512 + (512 + (512 + x.val)) < 512; omega), dif_neg (by show ¬ 512 + (512 + (512 + x.val)) - 512 < 512; omega),
      dif_neg (by show ¬ 512 + (512 + (512 + x.val)) - 512 - 512 < 512; omega), dif_neg (by show ¬ 512 + (512 + (512 + x.val)) < 1536; omega)]
    show s (ix2 r ⟨512 + (512 + (512 + x.val)) - 512 - 512 - 512, _⟩) * w' (ix2 n ⟨512 + (512 + (512 + x.val)) - 1536, _⟩) = _
    exact congrArg₂ (· * ·) (congrArg s (congrArg (ix2 r) (Fin.ext (by show 512 + (512 + (512 + x.val)) - 512 - 512 - 512 = x.val; omega))))
      (congrArg w' (congrArg (ix2 n) (e _)))

theorem run : θ_run defs (onTc (τ := τ) (main (F := Ideal))) ⟨m, fun _ => 0, g⟩ fun r => ∀ c : Dev nD,
      r.2.mem ((c : Thread nD τ).loc main_v0_0) = G9 m c
      ∧ r.2.mem ((c : Thread nD τ).loc main_v0_1) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => by
    obtain ⟨h9, h10, hk⟩ := h c
    exact ⟨h9.trans (final9 m c), h10.trans (final10 m c), hk⟩)
    (Value.run_blocks m g)

theorem frame_ideal : Cert.quiescent_InBwdIdeal := fun m g _ => Gen.frame m g

theorem frame : Cert.quiescent_InBwd := fun m g _ => Cert.InBwd.Gen.frame m g

theorem frame_ref : Cert.quiescent_InBwdRefIdeal := fun m g _ =>
  (θ_run Cert.InBwdRefIdeal.defs _ _).mono
    (fun r h => ⟨fun c => (h c).2.2, sem_eq_zero_of_no_sems (by decide) r.2⟩) (Cert.InBwdRefIdeal.Value.run m g)

theorem algebraic : Cert.algebraic_InBwdIdeal_InBwdRefIdeal := by
  intro m g m' g' _ hm
  refine ⟨fun c => G9 m c, fun c => G10 m c,
    (θ_run defs _ _).mono (fun r h c => ⟨(h c).1, (h c).2.1, (h c).2.2⟩) (run m g),
    (θ_run Cert.InBwdRefIdeal.defs _ _).mono (fun r h c => ?_) (Cert.InBwdRefIdeal.Value.run m' g')⟩
  obtain ⟨h9, h10, hk⟩ := h c
  obtain ⟨a0, a1, a2, a3, a4, a5, a6, a7, a8⟩ := hm c
  refine ⟨h9.trans ?_, h10.trans ?_, hk⟩
  · unfold Cert.InBwdRefIdeal.Value.res_main_v28
    rw [a0, a1, a2, a3, a4, a5, a6, a7, a8]
    clear hm h hk h9 h10
    funext i
    obtain ⟨r, k, rfl⟩ : ∃ r k, i = ix2 r k := ⟨i 0, i 1, eq_ix2 i⟩
    show _ = G9 m c (ix2 r k)
    have hd := refdn (dq m c) (dk m c) (dv m c) (dr m c) (wq m c) (wr m c)
    generalize Host.dotGeneral (F := Ideal) (φ₁ := .f32) (φ₂ := .f32) _ _ _ _ = D at hd ⊢
    simp only [hd, G9, pointwise, zero_add, Rows.back, scale, reduceDIte, Nat.reduceEqDiff, OfNat.ofNat_ne_one, Matrix.cons_val_zero, Matrix.cons_val_one]
  · rw [a1, a3, a4, a5, a6, a7, a8]
    clear hm h hk h9 h10
    funext i
    obtain ⟨r, k, rfl⟩ : ∃ r k, i = ix2 r k := ⟨i 0, i 1, eq_ix2 i⟩
    show _ = G10 m c (ix2 r k)
    have hd := refdn (dq m c) (dk m c) (dv m c) (dr m c) (wq m c) (wr m c)
    generalize Host.dotGeneral (F := Ideal) (φ₁ := .f32) (φ₂ := .f32) _ _ _ _ = D at hd ⊢
    simp only [hd, G10, pointwise, zero_add, scale, reduceDIte, Nat.reduceEqDiff, OfNat.ofNat_ne_one, Matrix.cons_val_zero, Matrix.cons_val_one]

end Cert.InBwdClaim

end
-- ==== Proof.MlpBwdClaim.lean ====
/-
What is claimed of the way back through the two-layer perceptron.
-/
module

public import proofs.«01_k».proof.Defs
public import proofs.«01_k».proof.Proof.Update
public import proofs.«01_k».proof.Proof.Rows
public import proofs.«01_k».proof.Proof.Gen.MlpBwd
public import proofs.«01_k».proof.Proof.Gen.MlpBwd.Frame
public import proofs.«01_k».proof.Proof.Gen.MlpBwdIdeal
public import proofs.«01_k».proof.Proof.Gen.MlpBwdIdeal.Value
public import proofs.«01_k».proof.Proof.Gen.MlpBwdRefIdeal
public import proofs.«01_k».proof.Proof.Gen.MlpBwdRefIdeal.Run
public import Idealize.ShloMosaic.Lib.Pipeline.Value
public import Idealize.ShloMosaic.Lib.Quiescent
public import Idealize.ShloMosaic.Lib.Pointwise

@[expose] public section

noncomputable section

namespace Cert.MlpBwdClaim

open Idealize.ShloMosaic Idealize.ShloMosaic.TcCoe Idealize.SL.Sem
open Idealize.ShloMosaic.Pipeline (Dat)
open Cert.MlpBwdIdeal Cert.MlpBwdIdeal.Gen

variable (m : (ℓ : Loc nD τ sig) → Buf (Elt Ideal) ℓ) (g : Dev nD → PrngReg)

open Cert.Rows

abbrev dy (c : Dev nD) : S8320x1024.Idx → EReal := m ((c : Thread nD τ).loc main_arg0)

theorem at0 : ∀ t : Fin cfg0.N, win0_0.index t 0 * win0_0.size 0 = t.val * 320 ∧ win0_0.index t 1 * win0_0.size 1 = 0 :=
  (by decide +kernel : ∀ t : Fin grid0.N, win0_0.index t 0 * win0_0.size 0 = t.val * 320 ∧ win0_0.index t 1 * win0_0.size 1 = 0)

theorem blk0 (c : Dev nD) (t : Fin cfg0.N) (i : Fin 320) (k : Fin 1024) (r : Fin 8320) (h : r.val = t.val * 320 + i.val) :
    iblk m c 0 t (ix2 i k) = row (dy m c) r k := by
  show dy m c _ = _
  congr 1
  funext a
  apply Fin.ext
  match a with
  | ⟨0, _⟩ =>
    show win0_0.index t 0 * win0_0.size 0 + 1 * i.val = r.val
    rw [(at0 t).1]; omega
  | ⟨1, _⟩ =>
    show win0_0.index t 1 * win0_0.size 1 + 1 * k.val = k.val
    rw [(at0 t).2]; omega

abbrev hin (c : Dev nD) : S8320x1024.Idx → EReal := m ((c : Thread nD τ).loc main_arg1)

theorem at1 : ∀ t : Fin cfg0.N, win0_1.index t 0 * win0_1.size 0 = t.val * 320 ∧ win0_1.index t 1 * win0_1.size 1 = 0 :=
  (by decide +kernel : ∀ t : Fin grid0.N, win0_1.index t 0 * win0_1.size 0 = t.val * 320 ∧ win0_1.index t 1 * win0_1.size 1 = 0)

theorem blk1 (c : Dev nD) (t : Fin cfg0.N) (i : Fin 320) (k : Fin 1024) (r : Fin 8320) (h : r.val = t.val * 320 + i.val) :
    iblk m c 1 t (ix2 i k) = row (hin m c) r k := by
  show hin m c _ = _
  congr 1
  funext a
  apply Fin.ext
  match a with
  | ⟨0, _⟩ =>
    show win0_1.index t 0 * win0_1.size 0 + 1 * i.val = r.val
    rw [(at1 t).1]; omega
  | ⟨1, _⟩ =>
    show win0_1.index t 1 * win0_1.size 1 + 1 * k.val = k.val
    rw [(at1 t).2]; omega

abbrev gn (c : Dev nD) : S1x1024.Idx → EReal := m ((c : Thread nD τ).loc main_arg2)

theorem at2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)

theorem blk2 (c : Dev nD) (t : Fin cfg0.N) (i : Fin 1) (k : Fin 1024) : iblk m c 2 t (ix2 i k) = gn m c (ix2 i k) := by
  show gn m c _ = _
  congr 1
  funext a
  apply Fin.ext
  match a with
  | ⟨0, _⟩ =>
    show win0_2.index t 0 * win0_2.size 0 + 1 * i.val = i.val
    rw [(at2 t).1]; omega
  | ⟨1, _⟩ =>
    show win0_2.index t 1 * win0_2.size 1 + 1 * k.val = k.val
    rw [(at2 t).2]; omega

abbrev act (c : Dev nD) : S8320x4096.Idx → EReal := m ((c : Thread nD τ).loc main_arg3)

theorem at3 : ∀ t : Fin cfg0.N, win0_3.index t 0 * win0_3.size 0 = t.val * 320 ∧ win0_3.index t 1 * win0_3.size 1 = 0 :=
  (by decide +kernel : ∀ t : Fin grid0.N, win0_3.index t 0 * win0_3.size 0 = t.val * 320 ∧ win0_3.index t 1 * win0_3.size 1 = 0)

theorem blk3 (c : Dev nD) (t : Fin cfg0.N) (i : Fin 320) (k : Fin 4096) (r : Fin 8320) (h : r.val = t.val * 320 + i.val) :
    iblk m c 3 t (ix2 i k) = row (act m c) r k := by
  show act m c _ = _
  congr 1
  funext a
  apply Fin.ext
  match a with
  | ⟨0, _⟩ =>
    show win0_3.index t 0 * win0_3.size 0 + 1 * i.val = r.val
    rw [(at3 t).1]; omega
  | ⟨1, _⟩ =>
    show win0_3.index t 1 * win0_3.size 1 + 1 * k.val = k.val
    rw [(at3 t).2]; omega

abbrev w1 (c : Dev nD) : S1024x4096.Idx → EReal := m ((c : Thread nD τ).loc main_arg4)

theorem at4 : ∀ t : Fin cfg0.N, win0_4.index t 0 * win0_4.size 0 = 0 ∧ win0_4.index t 1 * win0_4.size 1 = 0 :=
  (by decide +kernel : ∀ t : Fin grid0.N, win0_4.index t 0 * win0_4.size 0 = 0 ∧ win0_4.index t 1 * win0_4.size 1 = 0)

theorem blk4 (c : Dev nD) (t : Fin cfg0.N) (i : Fin 1024) (k : Fin 4096) : iblk m c 4 t (ix2 i k) = w1 m c (ix2 i k) := by
  show w1 m c _ = _
  congr 1
  funext a
  apply Fin.ext
  match a with
  | ⟨0, _⟩ =>
    show win0_4.index t 0 * win0_4.size 0 + 1 * i.val = i.val
    rw [(at4 t).1]; omega
  | ⟨1, _⟩ =>
    show win0_4.index t 1 * win0_4.size 1 + 1 * k.val = k.val
    rw [(at4 t).2]; omega

abbrev w2 (c : Dev nD) : S4096x1024.Idx → EReal := m ((c : Thread nD τ).loc main_arg5)

theorem at5 : ∀ t : Fin cfg0.N, win0_5.index t 0 * win0_5.size 0 = 0 ∧ win0_5.index t 1 * win0_5.size 1 = 0 :=
  (by decide +kernel : ∀ t : Fin grid0.N, win0_5.index t 0 * win0_5.size 0 = 0 ∧ win0_5.index t 1 * win0_5.size 1 = 0)

theorem blk5 (c : Dev nD) (t : Fin cfg0.N) (i : Fin 4096) (k : Fin 1024) : iblk m c 5 t (ix2 i k) = w2 m c (ix2 i k) := by
  show w2 m c _ = _
  congr 1
  funext a
  apply Fin.ext
  match a with
  | ⟨0, _⟩ =>
    show win0_5.index t 0 * win0_5.size 0 + 1 * i.val = i.val
    rw [(at5 t).1]; omega
  | ⟨1, _⟩ =>
    show win0_5.index t 1 * win0_5.size 1 + 1 * k.val = k.val
    rw [(at5 t).2]; omega

/-- The derivative of one row of activations. -/
def dact (d : Fin 1024 → EReal) (a : Fin 4096 → EReal) (w : Fin 1024 → Fin 4096 → EReal) (n : Fin 4096) : EReal :=
  dot d w n * (Ideal.ofBits .f32 0x40000000#32 * max (a n) 0)

/-- The derivative of row `r` of the activations, and of the normalised rows. -/
abbrev da (c : Dev nD) (r : Fin 8320) : Fin 4096 → EReal := dact (row (dy m c) r) (row (act m c) r) (tr (w2 m c))
abbrev dn (c : Dev nD) (r : Fin 8320) : Fin 1024 → EReal := dot (da m c r) (tr (w1 m c))

abbrev G6 (c : Dev nD) : Buf (Elt Ideal) ((c : Thread nD τ).loc main_v0_0) := fun i : S8320x4096.Idx => da m c (i 0) (i 1)

abbrev G7 (c : Dev nD) : Buf (Elt Ideal) ((c : Thread nD τ).loc main_v0_1) := fun i : S8320x1024.Idx =>
  dy m c (ix2 (i 0) (i 1)) + back (row (hin m c) (i 0)) (row (gn m c) 0) (dn m c (i 0)) (i 1)

abbrev G8 (c : Dev nD) : Buf (Elt Ideal) ((c : Thread nD τ).loc main_v0_2) := fun i : S1x1024.Idx =>
  (∑ r : Fin 8320, dn m c r (i 1) * (row (hin m c) r (i 1) * scale (row (hin m c) r)) : EReal)

theorem pay3 (y : S1x1024.Idx) : (k0_pay3 (F := Ideal)) y = 0 := by
  simp only [k0_pay3, pointwise]

theorem pay4 (v3 : Vec Ideal S320x1024 .f32) (v5 : Vec Ideal S4096x1024 .bf16) (v7 : Vec Ideal S320x4096 .f32) (i : Fin 320) (n : Fin 4096)
    (d : Fin 1024 → EReal) (a : Fin 4096 → EReal) (w : Fin 1024 → Fin 4096 → EReal)
    (hd : ∀ k, v3 (ix2 i k) = d k) (ha : ∀ k, v7 (ix2 i k) = a k) (hw : ∀ k n, v5 (ix2 n k) = w k n) :
    k0_pay4 v3 v5 v7 (ix2 i n) = dact d a w n := by
  simp only [k0_pay4, pointwise, zero_add, hd, ha, hw, dact, dot]

theorem pay5 (v3 : Vec Ideal S320x1024 .f32) (v5 : Vec Ideal S4096x1024 .bf16) (v7 : Vec Ideal S320x4096 .f32) (v15 : Vec Ideal S1024x4096 .bf16)
    (i : Fin 320) (n : Fin 1024)
    (d : Fin 1024 → EReal) (a : Fin 4096 → EReal) (w : Fin 1024 → Fin 4096 → EReal) (w' : Fin 4096 → Fin 1024 → EReal)
    (hd : ∀ k, v3 (ix2 i k) = d k) (ha : ∀ k, v7 (ix2 i k) = a k) (hw : ∀ k n, v5 (ix2 n k) = w k n) (hw' : ∀ k n, v15 (ix2 n k) = w' k n) :
    k0_pay5 v3 v5 v7 v15 (ix2 i n) = dot (dact d a w) w' n := by
  simp only [k0_pay5, pointwise, zero_add, pay4 v3 v5 v7 i _ d a w hd ha hw, hw', dot]

theorem pay6 (v : Vec Ideal S320x1024 .f32) (i : Fin 320) (x : Fin 1024 → EReal) (hx : ∀ k, v (ix2 i k) = x k) :
    k0_pay6 v (ix2 i 0) = scale x := by
  simp only [k0_pay6, pointwise, reduceDIte, Nat.reduceEqDiff, OfNat.ofNat_ne_one, hx, scale]

theorem pay7 (v : Vec Ideal S320x1024 .f32) (i : Fin 320) (n : Fin 1024) (x : Fin 1024 → EReal) (hx : ∀ k, v (ix2 i k) = x k) :
    k0_pay7 v (ix2 i n) = x n * scale x := by
  simp only [k0_pay7, pointwise, reduceDIte, Nat.reduceEqDiff, OfNat.ofNat_ne_one]
  rw [← pay6 v i x hx, ← hx]

theorem pay1 (v3 : Vec Ideal S320x1024 .f32) (v5 : Vec Ideal S4096x1024 .bf16) (v7 : Vec Ideal S320x4096 .f32) (v15 : Vec Ideal S1024x4096 .bf16)
    (v17 : Vec Ideal S320x1024 .f32) (v29 : Vec Ideal S1x1024 .f32) (n : Fin 1024) :
    k0_pay1 (k0_pay8 v29) (k0_pay9 v3 v5 v7 v15 v17) (ix2 0 n)
      = v29 (ix2 0 n) + ∑ i : Fin 320, k0_pay5 v3 v5 v7 v15 (ix2 i n) * k0_pay7 v17 (ix2 i n) := by
  simp only [k0_pay1, k0_pay8, k0_pay9, pointwise, zero_add, shapeCast_self, reduceDIte, Nat.reduceEqDiff, OfNat.ofNat_ne_one]

theorem pay2 (v3 : Vec Ideal S320x1024 .f32) (v16 : FVec Ideal S320x1024 .f32) (v25 : FVec Ideal S320x1 .f32) (v27 : FVec Ideal S320x1024 .f32)
    (v35 : Vec Ideal S1x1024 .f32) (i : Fin 320) (n : Fin 1024) (x g u : Fin 1024 → EReal) (hu : ∀ k, v16 (ix2 i k) = u k)
    (hs : v25 (ix2 i 0) = scale x) (hx : ∀ k, v27 (ix2 i k) = x k * scale x) (hg : ∀ k, v35 (ix2 0 k) = g k) :
    k0_pay2 v3 v16 v25 v27 v35 (ix2 i n) = v3 (ix2 i n) + back x g u n := by
  simp only [k0_pay2, pointwise, zero_add, reduceDIte, Nat.reduceEqDiff, OfNat.ofNat_ne_one, hu, hx, hg]
  rw [back, ← hs]

abbrev tile6 (c : Dev nD) (t : Fin cfg0.N) : FVec Ideal S320x4096 .bf16 := k0_pay4 (iblk m c 0 t) (iblk m c 5 t) (iblk m c 3 t)

abbrev tileU (c : Dev nD) (t : Fin cfg0.N) : FVec Ideal S320x1024 .f32 := k0_pay5 (iblk m c 0 t) (iblk m c 5 t) (iblk m c 3 t) (iblk m c 4 t)

abbrev tile7 (c : Dev nD) (t : Fin cfg0.N) : FVec Ideal S320x1024 .f32 :=
  k0_pay2 (iblk m c 0 t) (tileU m c t) (k0_pay6 (iblk m c 1 t)) (k0_pay7 (iblk m c 1 t)) (iblk m c 2 t)

abbrev tile8 (c : Dev nD) (t : Fin cfg0.N) (acc : Vec Ideal S1x1024 .f32) : FVec Ideal S1x1024 .f32 :=
  k0_pay1 (k0_pay8 acc) (k0_pay9 (iblk m c 0 t) (iblk m c 5 t) (iblk m c 3 t) (iblk m c 4 t) (iblk m c 1 t))

theorem outs_A (c : Dev nD) (t : Fin cfg0.N) (h0 : t.val % 26 = 0) :
    outsAt0 m c t.val t.isLt = (tile6 m c t, tile7 m c t, tile8 m c t (k0_pay3 (F := Ideal))) := by
  rw [outsAt0_A m c t h0]
  unfold out0_A_6 out0_A_7 out0_A_8
  refine Prod.ext ?_ (Prod.ext ?_ ?_) <;> dsimp only
  · rw [View.read_writes_eq_canon _ _ _ (fun y => cover0_A_6 (y := y) ..)]
    unfold kernelRun0_A; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread]
    repeat rw [View.ld_unit_zero Update.hz]
  · rw [View.read_writes_eq_canon _ _ _ (fun y => cover0_A_7 (y := y) ..)]
    unfold kernelRun0_A; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread]
    repeat rw [View.ld_unit_zero Update.hz]
  · rw [View.read_writes_eq_canon _ _ _ (fun y => cover0_A_8 (y := y) ..)]
    unfold kernelRun0_A; dsimp only; try sl_unfold_words
    rw [View.canon_cons_unit_zero (S := S1x1024) Update.hz, View.readCov_unit_zero (S := S1x1024) _ Update.hz]
    simp only [View.readAt_eq_ld, (hs0_0 t).read_unread, (hs0_1 t).read_unread, (hs0_2 t).read_unread, (hs0_3 t).read_unread, (hs0_4 t).read_unread, (hs0_5 t).read_unread]
    repeat rw [View.ld_unit_zero Update.hz]

theorem outs_B (c : Dev nD) (t : Fin cfg0.N) (h0 : ¬ t.val % 26 = 0) :
    outsAt0 m c t.val t.isLt = (tile6 m c t, tile7 m c t, tile8 m c t (outsAt0 m c (t.val - 1) (Nat.lt_of_le_of_lt (Nat.sub_le _ _) t.isLt)).2.2) := by
  rw [outsAt0_B m c t h0]
  unfold out0_B_6 out0_B_7 out0_B_8
  refine Prod.ext ?_ (Prod.ext ?_ ?_) <;> dsimp only
  · rw [View.read_writes_eq_canon _ _ _ (fun y => cover0_B_6 (y := y) ..)]
    unfold kernelRun0_B; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread]
    repeat rw [View.ld_unit_zero Update.hz]
  · rw [View.read_writes_eq_canon _ _ _ (fun y => cover0_B_7 (y := y) ..)]
    unfold kernelRun0_B; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread]
    repeat rw [View.ld_unit_zero Update.hz]
  · rw [View.read_writes_eq_canon _ _ _ (fun y => cover0_B_8 (y := y) ..)]
    unfold kernelRun0_B; dsimp only; try sl_unfold_words
    rw [View.canon_unit_zero Update.hz]
    simp only [View.readAt_eq_ld, (hs0_0 t).read_unread, (hs0_1 t).read_unread, (hs0_2 t).read_unread, (hs0_3 t).read_unread, (hs0_4 t).read_unread, (hs0_5 t).read_unread, (hs0_8 t).read_unread]
    repeat rw [View.ld_unit_zero Update.hz]

theorem at6 : ∀ t : Fin cfg0.N, win0_6.index t 0 * win0_6.size 0 = t.val * 320 ∧ win0_6.index t 1 * win0_6.size 1 = 0 :=
  (by decide +kernel : ∀ t : Fin grid0.N, win0_6.index t 0 * win0_6.size 0 = t.val * 320 ∧ win0_6.index t 1 * win0_6.size 1 = 0)

theorem emb6 (t : Fin cfg0.N) (i : Fin 320) (k : Fin 4096) (h : t.val * 320 + i.val < 8320) :
    (win0_6.blk t).view.emb (ix2 i k) = (ix2 ⟨t.val * 320 + i.val, h⟩ k : S8320x4096.Idx) := by
  funext a
  apply Fin.ext
  match a with
  | ⟨0, _⟩ =>
    show win0_6.index t 0 * win0_6.size 0 + 1 * i.val = t.val * 320 + i.val
    rw [(at6 t).1]; omega
  | ⟨1, _⟩ =>
    show win0_6.index t 1 * win0_6.size 1 + 1 * k.val = k.val
    rw [(at6 t).2]; omega

theorem at7 : ∀ t : Fin cfg0.N, win0_7.index t 0 * win0_7.size 0 = t.val * 320 ∧ win0_7.index t 1 * win0_7.size 1 = 0 :=
  (by decide +kernel : ∀ t : Fin grid0.N, win0_7.index t 0 * win0_7.size 0 = t.val * 320 ∧ win0_7.index t 1 * win0_7.size 1 = 0)

theorem emb7 (t : Fin cfg0.N) (i : Fin 320) (k : Fin 1024) (h : t.val * 320 + i.val < 8320) :
    (win0_7.blk t).view.emb (ix2 i k) = (ix2 ⟨t.val * 320 + i.val, h⟩ k : S8320x1024.Idx) := by
  funext a
  apply Fin.ext
  match a with
  | ⟨0, _⟩ =>
    show win0_7.index t 0 * win0_7.size 0 + 1 * i.val = t.val * 320 + i.val
    rw [(at7 t).1]; omega
  | ⟨1, _⟩ =>
    show win0_7.index t 1 * win0_7.size 1 + 1 * k.val = k.val
    rw [(at7 t).2]; omega

theorem tileU_apply (c : Dev nD) (t : Fin cfg0.N) (i : Fin 320) (n : Fin 1024) (r : Fin 8320) (h : r.val = t.val * 320 + i.val) :
    tileU m c t (ix2 i n) = dn m c r n :=
  pay5 _ _ _ _ i n _ _ _ _ (fun j => blk0 m c t i j r h) (fun j => blk3 m c t i j r h) (fun k n => blk5 m c t n k) (fun k n => blk4 m c t n k)

theorem flushed6 (c : Dev nD) (t : Fin cfg0.N) :
    (dats m 0 c).flushed 6 t = (win0_6.blk t).view.read (Elt Ideal) (G6 m c) := by
  have key : (outsAt0 m c t.val t.isLt).1 = tile6 m c t := by
    by_cases h0 : t.val % 26 = 0
    · rw [outs_A m c t h0]
    · rw [outs_B m c t h0]
  rw [Value.flushed6, key]
  funext y
  obtain ⟨i, k, rfl⟩ : ∃ (i : Fin 320) (k : Fin 4096), y = ix2 i k := ⟨y 0, y 1, eq_ix2 y⟩
  have ht : t.val * 320 + i.val < 8320 := by
    have := t.isLt; have hN : cfg0.N = 26 := N_0; have := i.isLt; omega
  show tile6 m c t (ix2 i k) = G6 m c ((win0_6.blk t).view.emb (ix2 i k))
  rw [emb6 t i k ht]
  exact pay4 _ _ _ i k _ _ _ (fun j => blk0 m c t i j ⟨_, ht⟩ rfl) (fun j => blk3 m c t i j ⟨_, ht⟩ rfl) (fun k n => blk5 m c t n k)

theorem mem_blk6 (t : Fin cfg0.N) (i : S8320x4096.Idx) :
    i ∈ ((cfg0.win 6).blk t).view.set ↔ t.val * 320 ≤ (i 0 : Nat) ∧ (i 0 : Nat) < t.val * 320 + 320 := by
  show i ∈ ((View.whole main_v0_0).slice (win0_6.rect t)).set ↔ _
  rw [View.set_slice_whole, Rect.mem_set_unit]
  have h1 : (i 1 : Nat) < 4096 := (i 1).isLt
  have e : win0_6.index t 0 * win0_6.size 0 = t.val * 320 ∧ win0_6.xsize (grid0.coords t) 0 = 320
      ∧ win0_6.index t 1 * win0_6.size 1 = 0 ∧ win0_6.xsize (grid0.coords t) 1 = 4096 := by
    revert t; exact (by decide +kernel : ∀ t : Fin grid0.N, win0_6.index t 0 * win0_6.size 0 = t.val * 320 ∧ win0_6.xsize (grid0.coords t) 0 = 320
      ∧ win0_6.index t 1 * win0_6.size 1 = 0 ∧ win0_6.xsize (grid0.coords t) 1 = 4096)
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

theorem cover6 (i : S8320x4096.Idx) :
    ∃ t : Fin cfg0.N, (cfg0.win 6).flush t = true ∧ i ∈ ((cfg0.win 6).blk t).view.set := by
  have h0 : (i 0 : Nat) < 8320 := (i 0).isLt
  have hN : cfg0.N = 26 := N_0
  have ht : (i 0 : Nat) / 320 < cfg0.N := by omega
  refine ⟨⟨(i 0 : Nat) / 320, ht⟩, flush0_6 _, ?_⟩
  rw [mem_blk6]
  dsimp only
  omega

theorem final6 (c : Dev nD) : (dats m 0 c).arrAt 6 cfg0.N = G6 m c :=
  (dats m 0 c).arrAt_eq_of_cover 6 (G6 m c) (fun t _ => flushed6 m c t) cover6

theorem flushed7 (c : Dev nD) (t : Fin cfg0.N) :
    (dats m 0 c).flushed 7 t = (win0_7.blk t).view.read (Elt Ideal) (G7 m c) := by
  have key : (outsAt0 m c t.val t.isLt).2.1 = tile7 m c t := by
    by_cases h0 : t.val % 26 = 0
    · rw [outs_A m c t h0]
    · rw [outs_B m c t h0]
  rw [Value.flushed7, key]
  funext y
  obtain ⟨i, k, rfl⟩ : ∃ (i : Fin 320) (k : Fin 1024), y = ix2 i k := ⟨y 0, y 1, eq_ix2 y⟩
  have ht : t.val * 320 + i.val < 8320 := by
    have := t.isLt; have hN : cfg0.N = 26 := N_0; have := i.isLt; omega
  show tile7 m c t (ix2 i k) = G7 m c ((win0_7.blk t).view.emb (ix2 i k))
  rw [emb7 t i k ht]
  refine (pay2 _ _ _ _ _ i k (row (hin m c) ⟨_, ht⟩) (row (gn m c) 0) (dn m c ⟨_, ht⟩) (fun k => tileU_apply m c t i k ⟨_, ht⟩ rfl)
    (pay6 _ i _ (fun k => blk1 m c t i k ⟨_, ht⟩ rfl)) (fun n => pay7 _ i n _ (fun k => blk1 m c t i k ⟨_, ht⟩ rfl)) (fun k => blk2 m c t 0 k)).trans ?_
  exact congrArg (· + _) (blk0 m c t i k ⟨_, ht⟩ rfl)

theorem mem_blk7 (t : Fin cfg0.N) (i : S8320x1024.Idx) :
    i ∈ ((cfg0.win 7).blk t).view.set ↔ t.val * 320 ≤ (i 0 : Nat) ∧ (i 0 : Nat) < t.val * 320 + 320 := by
  show i ∈ ((View.whole main_v0_1).slice (win0_7.rect t)).set ↔ _
  rw [View.set_slice_whole, Rect.mem_set_unit]
  have h1 : (i 1 : Nat) < 1024 := (i 1).isLt
  have e : win0_7.index t 0 * win0_7.size 0 = t.val * 320 ∧ win0_7.xsize (grid0.coords t) 0 = 320
      ∧ win0_7.index t 1 * win0_7.size 1 = 0 ∧ win0_7.xsize (grid0.coords t) 1 = 1024 := by
    revert t; exact (by decide +kernel : ∀ t : Fin grid0.N, win0_7.index t 0 * win0_7.size 0 = t.val * 320 ∧ win0_7.xsize (grid0.coords t) 0 = 320
      ∧ win0_7.index t 1 * win0_7.size 1 = 0 ∧ win0_7.xsize (grid0.coords t) 1 = 1024)
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

theorem cover7 (i : S8320x1024.Idx) :
    ∃ t : Fin cfg0.N, (cfg0.win 7).flush t = true ∧ i ∈ ((cfg0.win 7).blk t).view.set := by
  have h0 : (i 0 : Nat) < 8320 := (i 0).isLt
  have hN : cfg0.N = 26 := N_0
  have ht : (i 0 : Nat) / 320 < cfg0.N := by omega
  refine ⟨⟨(i 0 : Nat) / 320, ht⟩, flush0_7 _, ?_⟩
  rw [mem_blk7]
  dsimp only
  omega

theorem final7 (c : Dev nD) : (dats m 0 c).arrAt 7 cfg0.N = G7 m c :=
  (dats m 0 c).arrAt_eq_of_cover 7 (G7 m c) (fun t _ => flushed7 m c t) cover7

/-- The row of the whole array that row `k` of tile `s` is. -/
def at' (s : ℕ) (k : Fin 320) : Fin 8320 := ⟨s % 26 * 320 + k.val, by have := k.isLt; omega⟩

theorem at'_val (t : Fin cfg0.N) (k : Fin 320) : (at' t.val k).val = t.val * 320 + k.val := by
  show t.val % 26 * 320 + k.val = _
  rw [Nat.mod_eq_of_lt (by have := t.isLt; have hN : cfg0.N = 26 := N_0; omega)]

/-- What tile `s` adds to the sum. -/
def part8 (c : Dev nD) (q : Fin 1024) (s : ℕ) : EReal :=
  ∑ i : Fin 320, dn m c (at' s i) q * (row (hin m c) (at' s i) q * scale (row (hin m c) (at' s i)))

theorem tile8_apply (c : Dev nD) (t : Fin cfg0.N) (acc : Vec Ideal S1x1024 .f32) (q : Fin 1024) :
    tile8 m c t acc (ix2 0 q) = acc (ix2 0 q) + part8 m c q t.val := by
  rw [tile8, pay1]
  refine congrArg _ (Finset.sum_congr rfl fun i _ => ?_)
  have hr := at'_val t i
  rw [pay7 _ i q _ (fun k => blk1 m c t i k _ hr)]
  exact congrArg (· * _) (tileU_apply m c t i q _ hr)

theorem folds8 (c : Dev nD) (q : Fin 1024) : ∀ (n : ℕ) (h : n < cfg0.N),
    (outsAt0 m c n h).2.2 (ix2 0 q) = ∑ s ∈ Finset.range (n + 1), part8 m c q s
  | 0, h => by
    rw [Finset.sum_range_one]
    refine (congrArg (fun z => z.2.2 (ix2 0 q)) (outs_A m c ⟨0, h⟩ rfl)).trans ?_
    refine (tile8_apply m c ⟨0, h⟩ _ q).trans ?_
    rw [pay3, zero_add]
  | n + 1, h => by
    have hN : cfg0.N = 26 := N_0
    rw [Finset.sum_range_succ, ← folds8 c q n (by omega)]
    refine (congrArg (fun z => z.2.2 (ix2 0 q)) (outs_B m c ⟨n + 1, h⟩ (by show ¬ (n + 1) % 26 = 0; omega))).trans ?_
    exact tile8_apply m c ⟨n + 1, h⟩ _ q

theorem total8 (c : Dev nD) (q : Fin 1024) :
    ∑ s ∈ Finset.range 26, part8 m c q s = ∑ r : Fin 8320, dn m c r q * (row (hin m c) r q * scale (row (hin m c) r)) := by
  rw [Finset.sum_range]
  refine Eq.trans ?_ (Fin.sum_univ_tiles 26 320 (by decide) fun r : Fin 8320 => dn m c r q * (row (hin m c) r q * scale (row (hin m c) r))).symm
  refine Finset.sum_congr rfl fun s _ => Finset.sum_congr rfl fun k _ => ?_
  have hs : ∀ h, at' s.val k = ⟨s.val * 320 + k.val, h⟩ := fun h => Fin.ext (by
    show s.val % 26 * 320 + k.val = s.val * 320 + k.val
    rw [Nat.mod_eq_of_lt s.isLt])
  rw [hs]

theorem at8 : ∀ t : Fin cfg0.N, win0_8.index t 0 * win0_8.size 0 = 0 ∧ win0_8.index t 1 * win0_8.size 1 = 0
    ∧ win0_8.xsize (grid0.coords t) 0 = 1 ∧ win0_8.xsize (grid0.coords t) 1 = 1024 :=
  (by decide +kernel : ∀ t : Fin grid0.N, win0_8.index t 0 * win0_8.size 0 = 0 ∧ win0_8.index t 1 * win0_8.size 1 = 0
    ∧ win0_8.xsize (grid0.coords t) 0 = 1 ∧ win0_8.xsize (grid0.coords t) 1 = 1024)

theorem emb8 (t : Fin cfg0.N) (k : Fin 1024) : (win0_8.blk t).view.emb (ix2 0 k) = (ix2 0 k : S1x1024.Idx) := by
  funext a
  apply Fin.ext
  match a with
  | ⟨0, _⟩ =>
    show win0_8.index t 0 * win0_8.size 0 + 1 * 0 = 0
    rw [(at8 t).1]
  | ⟨1, _⟩ =>
    show win0_8.index t 1 * win0_8.size 1 + 1 * k.val = k.val
    rw [(at8 t).2.1]; omega

theorem flushed8 (c : Dev nD) (t : Fin cfg0.N) (hf : (cfg0.win 8).flush t = true) :
    (dats m 0 c).flushed 8 t = (win0_8.blk t).view.read (Elt Ideal) (G8 m c) := by
  have hN : cfg0.N = 26 := N_0
  have hl : t.val = 25 := by have := (flush0_8 t).mp hf; have := t.isLt; omega
  rw [Value.flushed8]
  have hx : ∀ k, (outsAt0 m c t.val t.isLt).2.2 (ix2 0 k) = G8 m c (ix2 0 k) := fun k =>
    ((folds8 m c k t.val t.isLt).trans (congrArg (fun n => ∑ s ∈ Finset.range (n + 1), part8 m c k s) hl)).trans (total8 m c k)
  revert hx
  generalize (outsAt0 m c t.val t.isLt).2.2 = X
  generalize G8 m c = G
  intro hx
  funext y
  obtain ⟨k, rfl⟩ : ∃ k : Fin 1024, y = ix2 0 k := ⟨y 1, (eq_ix2 y).trans (congrArg (fun z => ix2 z (y 1)) (Subsingleton.elim (α := Fin 1) _ _))⟩
  show X (ix2 0 k) = G ((win0_8.blk t).view.emb (ix2 0 k))
  rw [emb8 t k]
  exact hx k

theorem cover8 (i : S1x1024.Idx) :
    ∃ t : Fin cfg0.N, (cfg0.win 8).flush t = true ∧ i ∈ ((cfg0.win 8).blk t).view.set := by
  have hN : cfg0.N = 26 := N_0
  have h0 : (i 0 : Nat) < 1 := (i 0).isLt
  have h1 : (i 1 : Nat) < 1024 := (i 1).isLt
  have ht : 25 < cfg0.N := by omega
  refine ⟨⟨25, ht⟩, (flush0_8 _).mpr rfl, ?_⟩
  show i ∈ ((View.whole main_v0_2).slice (win0_8.rect ⟨25, ht⟩)).set
  rw [View.set_slice_whole, Rect.mem_set_unit]
  have e := at8 ⟨25, ht⟩
  intro a
  match a with
  | ⟨0, _⟩ => show win0_8.index _ 0 * win0_8.size 0 ≤ (i 0 : Nat) ∧ (i 0 : Nat) < win0_8.index _ 0 * win0_8.size 0 + win0_8.xsize _ 0
              rw [e.1, e.2.2.1]; omega
  | ⟨1, _⟩ => show win0_8.index _ 1 * win0_8.size 1 ≤ (i 1 : Nat) ∧ (i 1 : Nat) < win0_8.index _ 1 * win0_8.size 1 + win0_8.xsize _ 1
              rw [e.2.1, e.2.2.2]; omega

theorem final8 (c : Dev nD) : (dats m 0 c).arrAt 8 cfg0.N = G8 m c :=
  (dats m 0 c).arrAt_eq_of_cover 8 (G8 m c) (fun t hf => flushed8 m c t hf) cover8

theorem run : θ_run defs (onTc (τ := τ) (main (F := Ideal))) ⟨m, fun _ => 0, g⟩ fun r => ∀ c : Dev nD,
      r.2.mem ((c : Thread nD τ).loc main_v0_0) = G6 m c
      ∧ r.2.mem ((c : Thread nD τ).loc main_v0_1) = G7 m c
      ∧ r.2.mem ((c : Thread nD τ).loc main_v0_2) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
    obtain ⟨h6, h7, h8, hk⟩ := h c
    exact ⟨h6.trans (final6 m c), h7.trans (final7 m c), h8.trans (final8 m c), hk⟩)
    (Value.run_blocks m g)

theorem frame_ideal : Cert.quiescent_MlpBwdIdeal := fun m g _ => Gen.frame m g

theorem frame : Cert.quiescent_MlpBwd := fun m g _ => Cert.MlpBwd.Gen.frame m g

theorem frame_ref : Cert.quiescent_MlpBwdRefIdeal := fun m g _ =>
  (θ_run Cert.MlpBwdRefIdeal.defs _ _).mono
    (fun r h => ⟨fun c => (h c).2.2.2, sem_eq_zero_of_no_sems (by decide) r.2⟩) (Cert.MlpBwdRefIdeal.Value.run m g)

theorem algebraic : Cert.algebraic_MlpBwdIdeal_MlpBwdRefIdeal := by
  intro m g m' g' _ hm
  refine ⟨fun c => G6 m c, fun c => G7 m c, fun c => G8 m c,
    (θ_run defs _ _).mono (fun r h c => ⟨(h c).1, (h c).2.1, (h c).2.2.1, (h c).2.2.2⟩) (run m g),
    (θ_run Cert.MlpBwdRefIdeal.defs _ _).mono (fun r h c => ?_) (Cert.MlpBwdRefIdeal.Value.run m' g')⟩
  obtain ⟨h6, h7, h8, hk⟩ := h c
  obtain ⟨a0, a1, a2, a3, a4, a5⟩ := hm c
  refine ⟨h6.trans ?_, h7.trans ?_, h8.trans ?_, hk⟩
  · rw [a0, a3, a5]
    clear hm h hk h6 h7 h8
    funext i
    obtain ⟨r, k, rfl⟩ : ∃ r k, i = ix2 r k := ⟨i 0, i 1, eq_ix2 i⟩
    show _ = G6 m c (ix2 r k)
    simp only [G6, pointwise, zero_add, dact, dot, reduceDIte, Nat.reduceEqDiff, OfNat.ofNat_ne_one, Matrix.cons_val_zero, Matrix.cons_val_one]
  · rw [a0, a1, a2, a3, a4, a5]
    clear hm h hk h6 h7 h8
    funext i
    obtain ⟨r, k, rfl⟩ : ∃ r k, i = ix2 r k := ⟨i 0, i 1, eq_ix2 i⟩
    show _ = G7 m c (ix2 r k)
    simp only [G7, pointwise, zero_add, Rows.back, scale, dact, dot, reduceDIte, Nat.reduceEqDiff, OfNat.ofNat_ne_one, Matrix.cons_val_zero, Matrix.cons_val_one]
  · rw [a0, a1, a3, a4, a5]
    clear hm h hk h6 h7 h8
    funext i
    obtain ⟨r, k, rfl⟩ : ∃ r k, i = ix2 r k := ⟨i 0, i 1, eq_ix2 i⟩
    show _ = G8 m c (ix2 r k)
    simp only [G8, pointwise, zero_add, scale, dact, dot, reduceDIte, Nat.reduceEqDiff, OfNat.ofNat_ne_one, Matrix.cons_val_zero, Matrix.cons_val_one]

end Cert.MlpBwdClaim

end
-- ==== Proof.ProductDownClaim.lean ====
/-
What is claimed of a product of the weight gradients.
-/
module

public import proofs.«01_k».proof.Defs
public import proofs.«01_k».proof.Proof.Update
public import proofs.«01_k».proof.Proof.Rows
public import proofs.«01_k».proof.Proof.Gen.ProductDown
public import proofs.«01_k».proof.Proof.Gen.ProductDown.Frame
public import proofs.«01_k».proof.Proof.Gen.ProductDownIdeal
public import proofs.«01_k».proof.Proof.Gen.ProductDownIdeal.Value
public import proofs.«01_k».proof.Proof.Gen.ProductDownRefIdeal
public import proofs.«01_k».proof.Proof.Gen.ProductDownRefIdeal.Run
public import Idealize.ShloMosaic.Lib.Pipeline.Value
public import Idealize.ShloMosaic.Lib.Quiescent
public import Idealize.ShloMosaic.Lib.Pointwise

@[expose] public section

noncomputable section

namespace Cert.ProductDownClaim

open Idealize.ShloMosaic Idealize.ShloMosaic.TcCoe Idealize.SL.Sem
open Idealize.ShloMosaic.Pipeline (Dat)
open Cert.ProductDownIdeal Cert.ProductDownIdeal.Gen

variable (m : (ℓ : Loc nD τ sig) → Buf (Elt Ideal) ℓ) (g : Dev nD → PrngReg)

open Cert.Rows
open Pipeline (accAt)

abbrev a (c : Dev nD) : S8320x4096.Idx → EReal := m ((c : Thread nD τ).loc main_arg0)
abbrev b (c : Dev nD) : S8320x1024.Idx → EReal := m ((c : Thread nD τ).loc main_arg1)

theorem at0 : ∀ t : Fin cfg0.N, win0_0.index t 0 * win0_0.size 0 = t.val % 13 * 640 ∧ win0_0.index t 1 * win0_0.size 1 = t.val / 13 / 1 * 1024 :=
  (by decide +kernel : ∀ t : Fin grid0.N, win0_0.index t 0 * win0_0.size 0 = t.val % 13 * 640 ∧ win0_0.index t 1 * win0_0.size 1 = t.val / 13 / 1 * 1024)

theorem at1 : ∀ t : Fin cfg0.N, win0_1.index t 0 * win0_1.size 0 = t.val % 13 * 640 ∧ win0_1.index t 1 * win0_1.size 1 = t.val / 13 % 1 * 1024 :=
  (by decide +kernel : ∀ t : Fin grid0.N, win0_1.index t 0 * win0_1.size 0 = t.val % 13 * 640 ∧ win0_1.index t 1 * win0_1.size 1 = t.val / 13 % 1 * 1024)

/-- The row of the whole array that row `k` of tile `s` is. -/
def at' (s : ℕ) (k : Fin 640) : Fin 8320 := ⟨s % 13 * 640 + k.val, by have := k.isLt; omega⟩

theorem blk0 (c : Dev nD) (t : Fin cfg0.N) (k : Fin 640) (p : Fin 1024) (p' : Fin 4096) (h : p'.val = t.val / 13 / 1 * 1024 + p.val) :
    iblk m c 0 t (ix2 k p) = a m c (ix2 (at' t.val k) p') := by
  show a m c _ = _
  congr 1
  funext x
  apply Fin.ext
  match x with
  | ⟨0, _⟩ =>
    show win0_0.index t 0 * win0_0.size 0 + 1 * k.val = t.val % 13 * 640 + k.val
    rw [(at0 t).1]; omega
  | ⟨1, _⟩ =>
    show win0_0.index t 1 * win0_0.size 1 + 1 * p.val = p'.val
    rw [(at0 t).2]; omega

theorem blk1 (c : Dev nD) (t : Fin cfg0.N) (k : Fin 640) (q : Fin 1024) (q' : Fin 1024) (h : q'.val = t.val / 13 % 1 * 1024 + q.val) :
    iblk m c 1 t (ix2 k q) = b m c (ix2 (at' t.val k) q') := by
  show b m c _ = _
  congr 1
  funext x
  apply Fin.ext
  match x with
  | ⟨0, _⟩ =>
    show win0_1.index t 0 * win0_1.size 0 + 1 * k.val = t.val % 13 * 640 + k.val
    rw [(at1 t).1]; omega
  | ⟨1, _⟩ =>
    show win0_1.index t 1 * win0_1.size 1 + 1 * q.val = q'.val
    rw [(at1 t).2]; omega

theorem pay1 (y : S1024x1024.Idx) : (k0_pay1 (F := Ideal)) y = 0 := by
  simp only [k0_pay1, pointwise]

theorem pay2 (v3 : Vec Ideal S1024x1024 .f32) (v5 : Vec Ideal S640x1024 .bf16) (v6 : Vec Ideal S640x1024 .f32) (p : Fin 1024) (q : Fin 1024) :
    k0_pay2 v3 v5 v6 (ix2 p q) = v3 (ix2 p q) + ∑ k : Fin 640, v5 (ix2 k p) * v6 (ix2 k q) := by
  simp only [k0_pay2, pointwise, zero_add, shapeCast_self]

/-- What tile `s` adds at row `p` and column `q` of the product. -/
def part (c : Dev nD) (p : Fin 4096) (q : Fin 1024) (s : ℕ) : EReal := ∑ k : Fin 640, a m c (ix2 (at' s k) p) * b m c (ix2 (at' s k) q)

theorem adds (c : Dev nD) (i : S4096x1024.Idx) (j n : ℕ) (h : n < cfg0.N) (hn : n = 13 * Value.run2Of i + j) (hj : j < 13)
    (acc : Vec Ideal S1024x1024 .f32) :
    k0_pay2 acc (iblk m c 0 ⟨n, h⟩) (iblk m c 1 ⟨n, h⟩) (Value.loc2Of i) = acc (Value.loc2Of i) + part m c (i 0) (i 1) j := by
  have h0 : (i 0).val < 4096 := (i 0).isLt
  have h1 : (i 1).val < 1024 := (i 1).isLt
  have e : n = 13 * (1 * ((i 0).val / 1024 - 0) + 1 * ((i 1).val / 1024 - 0)) + j := hn
  have hd : n / 13 = 1 * ((i 0).val / 1024) + (i 1).val / 1024 := by omega
  have hm : n % 13 = j := by omega
  have hs : ∀ k, at' n k = at' j k := fun k => Fin.ext (by show n % 13 * 640 + k.val = j % 13 * 640 + k.val; omega)
  obtain ⟨p, q, hy⟩ : ∃ (p : Fin 1024) (q : Fin 1024), Value.loc2Of i = ix2 p q := ⟨_, _, eq_ix2 _⟩
  have hp : p.val = (i 0).val % 1024 := (congrArg (fun z => (z 0).val) hy).symm
  have hq : q.val = (i 1).val % 1024 := (congrArg (fun z => (z 1).val) hy).symm
  rw [hy, pay2]
  refine congrArg _ (Finset.sum_congr rfl fun k _ => ?_)
  rw [blk0 m c ⟨n, h⟩ k p (i 0) (by show (i 0).val = n / 13 / 1 * 1024 + p.val; omega),
    blk1 m c ⟨n, h⟩ k q (i 1) (by show (i 1).val = n / 13 % 1 * 1024 + q.val; omega)]
  show a m c (ix2 (at' n k) (i 0)) * b m c (ix2 (at' n k) (i 1)) = _
  rw [hs]

theorem folds (c : Dev nD) (i : S4096x1024.Idx) : ∀ (j : ℕ) (_ : j < 13) (h : 13 * Value.run2Of i + j < cfg0.N),
    accAt (Value.reset2 m c) (Value.step2 m c) (13 * Value.run2Of i) j h (Value.loc2Of i)
      = ∑ s ∈ Finset.range (j + 1), part m c (i 0) (i 1) s
  | 0, hj, h => by
    rw [Pipeline.accAt_zero, Finset.sum_range_one]
    refine (adds m c i 0 _ h rfl hj _).trans ?_
    rw [pay1, zero_add]
  | j + 1, hj, h => by
    rw [Pipeline.accAt_succ, Finset.sum_range_succ, ← folds c i j (by omega) (by omega)]
    exact adds m c i (j + 1) _ h rfl hj _

theorem total (c : Dev nD) (p : Fin 4096) (q : Fin 1024) :
    ∑ s ∈ Finset.range 13, part m c p q s = ∑ k : Fin 8320, a m c (ix2 k p) * b m c (ix2 k q) := by
  rw [Finset.sum_range]
  refine Eq.trans ?_ (Fin.sum_univ_tiles 13 640 (by decide) fun k : Fin 8320 => a m c (ix2 k p) * b m c (ix2 k q)).symm
  refine Finset.sum_congr rfl fun s _ => Finset.sum_congr rfl fun k _ => ?_
  have hs : ∀ h, at' s.val k = ⟨s.val * 640 + k.val, h⟩ := fun h => Fin.ext (by
    show s.val % 13 * 640 + k.val = s.val * 640 + k.val
    rw [Nat.mod_eq_of_lt s.isLt])
  rw [hs]

theorem value (c : Dev nD) (i : S4096x1024.Idx) :
    Value.G2 m c i = ∑ k : Fin 8320, a m c (ix2 k (i 0)) * b m c (ix2 k (i 1)) := by
  have h0 : (i 0).val < 4096 := (i 0).isLt
  have h1 : (i 1).val < 1024 := (i 1).isLt
  have hN : cfg0.N = 52 := N_0
  have e : Value.run2Of i = 1 * ((i 0).val / 1024 - 0) + 1 * ((i 1).val / 1024 - 0) := rfl
  unfold Value.G2
  rw [dif_pos (by omega), folds m c i 12 (by decide)]
  exact total m c (i 0) (i 1)

theorem frame_ideal : Cert.quiescent_ProductDownIdeal := fun m g _ => Gen.frame m g

theorem frame : Cert.quiescent_ProductDown := fun m g _ => Cert.ProductDown.Gen.frame m g

theorem frame_ref : Cert.quiescent_ProductDownRefIdeal := fun m g _ =>
  (θ_run Cert.ProductDownRefIdeal.defs _ _).mono
    (fun r h => ⟨fun c => (h c).2, sem_eq_zero_of_no_sems (by decide) r.2⟩) (Cert.ProductDownRefIdeal.Value.run m g)

theorem algebraic : Cert.algebraic_ProductDownIdeal_ProductDownRefIdeal := by
  intro m g m' g' _ hm
  refine ⟨fun c => Value.G2 m c, Value.run m g,
    (θ_run Cert.ProductDownRefIdeal.defs _ _).mono (fun r h c => ?_) (Cert.ProductDownRefIdeal.Value.run m' g')⟩
  obtain ⟨h2, hk⟩ := h c
  obtain ⟨a0, a1⟩ := hm c
  refine ⟨h2.trans ?_, hk⟩
  rw [a0, a1]
  clear hm h hk h2
  funext i
  refine Eq.trans ?_ (value m c i).symm
  simp only [pointwise, zero_add]

end Cert.ProductDownClaim

end
-- ==== Proof.ProductUpClaim.lean ====
/-
What is claimed of a product of the weight gradients.
-/
module

public import proofs.«01_k».proof.Defs
public import proofs.«01_k».proof.Proof.Update
public import proofs.«01_k».proof.Proof.Rows
public import proofs.«01_k».proof.Proof.Gen.ProductUp
public import proofs.«01_k».proof.Proof.Gen.ProductUp.Frame
public import proofs.«01_k».proof.Proof.Gen.ProductUpIdeal
public import proofs.«01_k».proof.Proof.Gen.ProductUpIdeal.Value
public import proofs.«01_k».proof.Proof.Gen.ProductUpRefIdeal
public import proofs.«01_k».proof.Proof.Gen.ProductUpRefIdeal.Run
public import Idealize.ShloMosaic.Lib.Pipeline.Value
public import Idealize.ShloMosaic.Lib.Quiescent
public import Idealize.ShloMosaic.Lib.Pointwise

@[expose] public section

noncomputable section

namespace Cert.ProductUpClaim

open Idealize.ShloMosaic Idealize.ShloMosaic.TcCoe Idealize.SL.Sem
open Idealize.ShloMosaic.Pipeline (Dat)
open Cert.ProductUpIdeal Cert.ProductUpIdeal.Gen

variable (m : (ℓ : Loc nD τ sig) → Buf (Elt Ideal) ℓ) (g : Dev nD → PrngReg)

open Cert.Rows
open Pipeline (accAt)

abbrev a (c : Dev nD) : S8320x1024.Idx → EReal := m ((c : Thread nD τ).loc main_arg0)
abbrev b (c : Dev nD) : S8320x4096.Idx → EReal := m ((c : Thread nD τ).loc main_arg1)

theorem at0 : ∀ t : Fin cfg0.N, win0_0.index t 0 * win0_0.size 0 = t.val % 13 * 640 ∧ win0_0.index t 1 * win0_0.size 1 = t.val / 13 / 4 * 1024 :=
  (by decide +kernel : ∀ t : Fin grid0.N, win0_0.index t 0 * win0_0.size 0 = t.val % 13 * 640 ∧ win0_0.index t 1 * win0_0.size 1 = t.val / 13 / 4 * 1024)

theorem at1 : ∀ t : Fin cfg0.N, win0_1.index t 0 * win0_1.size 0 = t.val % 13 * 640 ∧ win0_1.index t 1 * win0_1.size 1 = t.val / 13 % 4 * 1024 :=
  (by decide +kernel : ∀ t : Fin grid0.N, win0_1.index t 0 * win0_1.size 0 = t.val % 13 * 640 ∧ win0_1.index t 1 * win0_1.size 1 = t.val / 13 % 4 * 1024)

/-- The row of the whole array that row `k` of tile `s` is. -/
def at' (s : ℕ) (k : Fin 640) : Fin 8320 := ⟨s % 13 * 640 + k.val, by have := k.isLt; omega⟩

theorem blk0 (c : Dev nD) (t : Fin cfg0.N) (k : Fin 640) (p : Fin 1024) (p' : Fin 1024) (h : p'.val = t.val / 13 / 4 * 1024 + p.val) :
    iblk m c 0 t (ix2 k p) = a m c (ix2 (at' t.val k) p') := by
  show a m c _ = _
  congr 1
  funext x
  apply Fin.ext
  match x with
  | ⟨0, _⟩ =>
    show win0_0.index t 0 * win0_0.size 0 + 1 * k.val = t.val % 13 * 640 + k.val
    rw [(at0 t).1]; omega
  | ⟨1, _⟩ =>
    show win0_0.index t 1 * win0_0.size 1 + 1 * p.val = p'.val
    rw [(at0 t).2]; omega

theorem blk1 (c : Dev nD) (t : Fin cfg0.N) (k : Fin 640) (q : Fin 1024) (q' : Fin 4096) (h : q'.val = t.val / 13 % 4 * 1024 + q.val) :
    iblk m c 1 t (ix2 k q) = b m c (ix2 (at' t.val k) q') := by
  show b m c _ = _
  congr 1
  funext x
  apply Fin.ext
  match x with
  | ⟨0, _⟩ =>
    show win0_1.index t 0 * win0_1.size 0 + 1 * k.val = t.val % 13 * 640 + k.val
    rw [(at1 t).1]; omega
  | ⟨1, _⟩ =>
    show win0_1.index t 1 * win0_1.size 1 + 1 * q.val = q'.val
    rw [(at1 t).2]; omega

theorem pay1 (y : S1024x1024.Idx) : (k0_pay1 (F := Ideal)) y = 0 := by
  simp only [k0_pay1, pointwise]

theorem pay2 (v3 : Vec Ideal S1024x1024 .f32) (v5 : Vec Ideal S640x1024 .bf16) (v6 : Vec Ideal S640x1024 .bf16) (p : Fin 1024) (q : Fin 1024) :
    k0_pay2 v3 v5 v6 (ix2 p q) = v3 (ix2 p q) + ∑ k : Fin 640, v5 (ix2 k p) * v6 (ix2 k q) := by
  simp only [k0_pay2, pointwise, zero_add, shapeCast_self]

/-- What tile `s` adds at row `p` and column `q` of the product. -/
def part (c : Dev nD) (p : Fin 1024) (q : Fin 4096) (s : ℕ) : EReal := ∑ k : Fin 640, a m c (ix2 (at' s k) p) * b m c (ix2 (at' s k) q)

theorem adds (c : Dev nD) (i : S1024x4096.Idx) (j n : ℕ) (h : n < cfg0.N) (hn : n = 13 * Value.run2Of i + j) (hj : j < 13)
    (acc : Vec Ideal S1024x1024 .f32) :
    k0_pay2 acc (iblk m c 0 ⟨n, h⟩) (iblk m c 1 ⟨n, h⟩) (Value.loc2Of i) = acc (Value.loc2Of i) + part m c (i 0) (i 1) j := by
  have h0 : (i 0).val < 1024 := (i 0).isLt
  have h1 : (i 1).val < 4096 := (i 1).isLt
  have e : n = 13 * (4 * ((i 0).val / 1024 - 0) + 1 * ((i 1).val / 1024 - 0)) + j := hn
  have hd : n / 13 = 4 * ((i 0).val / 1024) + (i 1).val / 1024 := by omega
  have hm : n % 13 = j := by omega
  have hs : ∀ k, at' n k = at' j k := fun k => Fin.ext (by show n % 13 * 640 + k.val = j % 13 * 640 + k.val; omega)
  obtain ⟨p, q, hy⟩ : ∃ (p : Fin 1024) (q : Fin 1024), Value.loc2Of i = ix2 p q := ⟨_, _, eq_ix2 _⟩
  have hp : p.val = (i 0).val % 1024 := (congrArg (fun z => (z 0).val) hy).symm
  have hq : q.val = (i 1).val % 1024 := (congrArg (fun z => (z 1).val) hy).symm
  rw [hy, pay2]
  refine congrArg _ (Finset.sum_congr rfl fun k _ => ?_)
  rw [blk0 m c ⟨n, h⟩ k p (i 0) (by show (i 0).val = n / 13 / 4 * 1024 + p.val; omega),
    blk1 m c ⟨n, h⟩ k q (i 1) (by show (i 1).val = n / 13 % 4 * 1024 + q.val; omega)]
  show a m c (ix2 (at' n k) (i 0)) * b m c (ix2 (at' n k) (i 1)) = _
  rw [hs]

theorem folds (c : Dev nD) (i : S1024x4096.Idx) : ∀ (j : ℕ) (_ : j < 13) (h : 13 * Value.run2Of i + j < cfg0.N),
    accAt (Value.reset2 m c) (Value.step2 m c) (13 * Value.run2Of i) j h (Value.loc2Of i)
      = ∑ s ∈ Finset.range (j + 1), part m c (i 0) (i 1) s
  | 0, hj, h => by
    rw [Pipeline.accAt_zero, Finset.sum_range_one]
    refine (adds m c i 0 _ h rfl hj _).trans ?_
    rw [pay1, zero_add]
  | j + 1, hj, h => by
    rw [Pipeline.accAt_succ, Finset.sum_range_succ, ← folds c i j (by omega) (by omega)]
    exact adds m c i (j + 1) _ h rfl hj _

theorem total (c : Dev nD) (p : Fin 1024) (q : Fin 4096) :
    ∑ s ∈ Finset.range 13, part m c p q s = ∑ k : Fin 8320, a m c (ix2 k p) * b m c (ix2 k q) := by
  rw [Finset.sum_range]
  refine Eq.trans ?_ (Fin.sum_univ_tiles 13 640 (by decide) fun k : Fin 8320 => a m c (ix2 k p) * b m c (ix2 k q)).symm
  refine Finset.sum_congr rfl fun s _ => Finset.sum_congr rfl fun k _ => ?_
  have hs : ∀ h, at' s.val k = ⟨s.val * 640 + k.val, h⟩ := fun h => Fin.ext (by
    show s.val % 13 * 640 + k.val = s.val * 640 + k.val
    rw [Nat.mod_eq_of_lt s.isLt])
  rw [hs]

theorem value (c : Dev nD) (i : S1024x4096.Idx) :
    Value.G2 m c i = ∑ k : Fin 8320, a m c (ix2 k (i 0)) * b m c (ix2 k (i 1)) := by
  have h0 : (i 0).val < 1024 := (i 0).isLt
  have h1 : (i 1).val < 4096 := (i 1).isLt
  have hN : cfg0.N = 52 := N_0
  have e : Value.run2Of i = 4 * ((i 0).val / 1024 - 0) + 1 * ((i 1).val / 1024 - 0) := rfl
  unfold Value.G2
  rw [dif_pos (by omega), folds m c i 12 (by decide)]
  exact total m c (i 0) (i 1)

theorem frame_ideal : Cert.quiescent_ProductUpIdeal := fun m g _ => Gen.frame m g

theorem frame : Cert.quiescent_ProductUp := fun m g _ => Cert.ProductUp.Gen.frame m g

theorem frame_ref : Cert.quiescent_ProductUpRefIdeal := fun m g _ =>
  (θ_run Cert.ProductUpRefIdeal.defs _ _).mono
    (fun r h => ⟨fun c => (h c).2, sem_eq_zero_of_no_sems (by decide) r.2⟩) (Cert.ProductUpRefIdeal.Value.run m g)

theorem algebraic : Cert.algebraic_ProductUpIdeal_ProductUpRefIdeal := by
  intro m g m' g' _ hm
  refine ⟨fun c => Value.G2 m c, Value.run m g,
    (θ_run Cert.ProductUpRefIdeal.defs _ _).mono (fun r h c => ?_) (Cert.ProductUpRefIdeal.Value.run m' g')⟩
  obtain ⟨h2, hk⟩ := h c
  obtain ⟨a0, a1⟩ := hm c
  refine ⟨h2.trans ?_, hk⟩
  rw [a0, a1]
  clear hm h hk h2
  funext i
  refine Eq.trans ?_ (value m c i).symm
  simp only [pointwise, zero_add]

end Cert.ProductUpClaim

end
-- ==== Proof.ProductOutClaim.lean ====
/-
What is claimed of a product of the weight gradients.
-/
module

public import proofs.«01_k».proof.Defs
public import proofs.«01_k».proof.Proof.Update
public import proofs.«01_k».proof.Proof.Rows
public import proofs.«01_k».proof.Proof.Gen.ProductOut
public import proofs.«01_k».proof.Proof.Gen.ProductOut.Frame
public import proofs.«01_k».proof.Proof.Gen.ProductOutIdeal
public import proofs.«01_k».proof.Proof.Gen.ProductOutIdeal.Value
public import proofs.«01_k».proof.Proof.Gen.ProductOutRefIdeal
public import proofs.«01_k».proof.Proof.Gen.ProductOutRefIdeal.Run
public import Idealize.ShloMosaic.Lib.Pipeline.Value
public import Idealize.ShloMosaic.Lib.Quiescent
public import Idealize.ShloMosaic.Lib.Pointwise

@[expose] public section

noncomputable section

namespace Cert.ProductOutClaim

open Idealize.ShloMosaic Idealize.ShloMosaic.TcCoe Idealize.SL.Sem
open Idealize.ShloMosaic.Pipeline (Dat)
open Cert.ProductOutIdeal Cert.ProductOutIdeal.Gen

variable (m : (ℓ : Loc nD τ sig) → Buf (Elt Ideal) ℓ) (g : Dev nD → PrngReg)

open Cert.Rows
open Pipeline (accAt)

abbrev a (c : Dev nD) : S8320x512.Idx → EReal := m ((c : Thread nD τ).loc main_arg0)
abbrev b (c : Dev nD) : S8320x1024.Idx → EReal := m ((c : Thread nD τ).loc main_arg1)

theorem at0 : ∀ t : Fin cfg0.N, win0_0.index t 0 * win0_0.size 0 = t.val % 13 * 640 ∧ win0_0.index t 1 * win0_0.size 1 = t.val / 13 / 1 * 512 :=
  (by decide +kernel : ∀ t : Fin grid0.N, win0_0.index t 0 * win0_0.size 0 = t.val % 13 * 640 ∧ win0_0.index t 1 * win0_0.size 1 = t.val / 13 / 1 * 512)

theorem at1 : ∀ t : Fin cfg0.N, win0_1.index t 0 * win0_1.size 0 = t.val % 13 * 640 ∧ win0_1.index t 1 * win0_1.size 1 = t.val / 13 % 1 * 1024 :=
  (by decide +kernel : ∀ t : Fin grid0.N, win0_1.index t 0 * win0_1.size 0 = t.val % 13 * 640 ∧ win0_1.index t 1 * win0_1.size 1 = t.val / 13 % 1 * 1024)

/-- The row of the whole array that row `k` of tile `s` is. -/
def at' (s : ℕ) (k : Fin 640) : Fin 8320 := ⟨s % 13 * 640 + k.val, by have := k.isLt; omega⟩

theorem blk0 (c : Dev nD) (t : Fin cfg0.N) (k : Fin 640) (p : Fin 512) (p' : Fin 512) (h : p'.val = t.val / 13 / 1 * 512 + p.val) :
    iblk m c 0 t (ix2 k p) = a m c (ix2 (at' t.val k) p') := by
  show a m c _ = _
  congr 1
  funext x
  apply Fin.ext
  match x with
  | ⟨0, _⟩ =>
    show win0_0.index t 0 * win0_0.size 0 + 1 * k.val = t.val % 13 * 640 + k.val
    rw [(at0 t).1]; omega
  | ⟨1, _⟩ =>
    show win0_0.index t 1 * win0_0.size 1 + 1 * p.val = p'.val
    rw [(at0 t).2]; omega

theorem blk1 (c : Dev nD) (t : Fin cfg0.N) (k : Fin 640) (q : Fin 1024) (q' : Fin 1024) (h : q'.val = t.val / 13 % 1 * 1024 + q.val) :
    iblk m c 1 t (ix2 k q) = b m c (ix2 (at' t.val k) q') := by
  show b m c _ = _
  congr 1
  funext x
  apply Fin.ext
  match x with
  | ⟨0, _⟩ =>
    show win0_1.index t 0 * win0_1.size 0 + 1 * k.val = t.val % 13 * 640 + k.val
    rw [(at1 t).1]; omega
  | ⟨1, _⟩ =>
    show win0_1.index t 1 * win0_1.size 1 + 1 * q.val = q'.val
    rw [(at1 t).2]; omega

theorem pay1 (y : S512x1024.Idx) : (k0_pay1 (F := Ideal)) y = 0 := by
  simp only [k0_pay1, pointwise]

theorem pay2 (v3 : Vec Ideal S512x1024 .f32) (v5 : Vec Ideal S640x512 .bf16) (v6 : Vec Ideal S640x1024 .f32) (p : Fin 512) (q : Fin 1024) :
    k0_pay2 v3 v5 v6 (ix2 p q) = v3 (ix2 p q) + ∑ k : Fin 640, v5 (ix2 k p) * v6 (ix2 k q) := by
  simp only [k0_pay2, pointwise, zero_add, shapeCast_self]

/-- What tile `s` adds at row `p` and column `q` of the product. -/
def part (c : Dev nD) (p : Fin 512) (q : Fin 1024) (s : ℕ) : EReal := ∑ k : Fin 640, a m c (ix2 (at' s k) p) * b m c (ix2 (at' s k) q)

theorem adds (c : Dev nD) (i : S512x1024.Idx) (j n : ℕ) (h : n < cfg0.N) (hn : n = 13 * Value.run2Of i + j) (hj : j < 13)
    (acc : Vec Ideal S512x1024 .f32) :
    k0_pay2 acc (iblk m c 0 ⟨n, h⟩) (iblk m c 1 ⟨n, h⟩) (Value.loc2Of i) = acc (Value.loc2Of i) + part m c (i 0) (i 1) j := by
  have h0 : (i 0).val < 512 := (i 0).isLt
  have h1 : (i 1).val < 1024 := (i 1).isLt
  have e : n = 13 * (1 * ((i 0).val / 512 - 0) + 1 * ((i 1).val / 1024 - 0)) + j := hn
  have hd : n / 13 = 1 * ((i 0).val / 512) + (i 1).val / 1024 := by omega
  have hm : n % 13 = j := by omega
  have hs : ∀ k, at' n k = at' j k := fun k => Fin.ext (by show n % 13 * 640 + k.val = j % 13 * 640 + k.val; omega)
  obtain ⟨p, q, hy⟩ : ∃ (p : Fin 512) (q : Fin 1024), Value.loc2Of i = ix2 p q := ⟨_, _, eq_ix2 _⟩
  have hp : p.val = (i 0).val % 512 := (congrArg (fun z => (z 0).val) hy).symm
  have hq : q.val = (i 1).val % 1024 := (congrArg (fun z => (z 1).val) hy).symm
  rw [hy, pay2]
  refine congrArg _ (Finset.sum_congr rfl fun k _ => ?_)
  rw [blk0 m c ⟨n, h⟩ k p (i 0) (by show (i 0).val = n / 13 / 1 * 512 + p.val; omega),
    blk1 m c ⟨n, h⟩ k q (i 1) (by show (i 1).val = n / 13 % 1 * 1024 + q.val; omega)]
  show a m c (ix2 (at' n k) (i 0)) * b m c (ix2 (at' n k) (i 1)) = _
  rw [hs]

theorem folds (c : Dev nD) (i : S512x1024.Idx) : ∀ (j : ℕ) (_ : j < 13) (h : 13 * Value.run2Of i + j < cfg0.N),
    accAt (Value.reset2 m c) (Value.step2 m c) (13 * Value.run2Of i) j h (Value.loc2Of i)
      = ∑ s ∈ Finset.range (j + 1), part m c (i 0) (i 1) s
  | 0, hj, h => by
    rw [Pipeline.accAt_zero, Finset.sum_range_one]
    refine (adds m c i 0 _ h rfl hj _).trans ?_
    rw [pay1, zero_add]
  | j + 1, hj, h => by
    rw [Pipeline.accAt_succ, Finset.sum_range_succ, ← folds c i j (by omega) (by omega)]
    exact adds m c i (j + 1) _ h rfl hj _

theorem total (c : Dev nD) (p : Fin 512) (q : Fin 1024) :
    ∑ s ∈ Finset.range 13, part m c p q s = ∑ k : Fin 8320, a m c (ix2 k p) * b m c (ix2 k q) := by
  rw [Finset.sum_range]
  refine Eq.trans ?_ (Fin.sum_univ_tiles 13 640 (by decide) fun k : Fin 8320 => a m c (ix2 k p) * b m c (ix2 k q)).symm
  refine Finset.sum_congr rfl fun s _ => Finset.sum_congr rfl fun k _ => ?_
  have hs : ∀ h, at' s.val k = ⟨s.val * 640 + k.val, h⟩ := fun h => Fin.ext (by
    show s.val % 13 * 640 + k.val = s.val * 640 + k.val
    rw [Nat.mod_eq_of_lt s.isLt])
  rw [hs]

theorem value (c : Dev nD) (i : S512x1024.Idx) :
    Value.G2 m c i = ∑ k : Fin 8320, a m c (ix2 k (i 0)) * b m c (ix2 k (i 1)) := by
  have h0 : (i 0).val < 512 := (i 0).isLt
  have h1 : (i 1).val < 1024 := (i 1).isLt
  have hN : cfg0.N = 13 := N_0
  have e : Value.run2Of i = 1 * ((i 0).val / 512 - 0) + 1 * ((i 1).val / 1024 - 0) := rfl
  unfold Value.G2
  rw [dif_pos (by omega), folds m c i 12 (by decide)]
  exact total m c (i 0) (i 1)

theorem frame_ideal : Cert.quiescent_ProductOutIdeal := fun m g _ => Gen.frame m g

theorem frame : Cert.quiescent_ProductOut := fun m g _ => Cert.ProductOut.Gen.frame m g

theorem frame_ref : Cert.quiescent_ProductOutRefIdeal := fun m g _ =>
  (θ_run Cert.ProductOutRefIdeal.defs _ _).mono
    (fun r h => ⟨fun c => (h c).2, sem_eq_zero_of_no_sems (by decide) r.2⟩) (Cert.ProductOutRefIdeal.Value.run m g)

theorem algebraic : Cert.algebraic_ProductOutIdeal_ProductOutRefIdeal := by
  intro m g m' g' _ hm
  refine ⟨fun c => Value.G2 m c, Value.run m g,
    (θ_run Cert.ProductOutRefIdeal.defs _ _).mono (fun r h c => ?_) (Cert.ProductOutRefIdeal.Value.run m' g')⟩
  obtain ⟨h2, hk⟩ := h c
  obtain ⟨a0, a1⟩ := hm c
  refine ⟨h2.trans ?_, hk⟩
  rw [a0, a1]
  clear hm h hk h2
  funext i
  refine Eq.trans ?_ (value m c i).symm
  simp only [pointwise, zero_add]

end Cert.ProductOutClaim

end
-- ==== Proof.ProductHeadClaim.lean ====
/-
What is claimed of a product of the weight gradients.
-/
module

public import proofs.«01_k».proof.Defs
public import proofs.«01_k».proof.Proof.Update
public import proofs.«01_k».proof.Proof.Rows
public import proofs.«01_k».proof.Proof.Gen.ProductHead
public import proofs.«01_k».proof.Proof.Gen.ProductHead.Frame
public import proofs.«01_k».proof.Proof.Gen.ProductHeadIdeal
public import proofs.«01_k».proof.Proof.Gen.ProductHeadIdeal.Value
public import proofs.«01_k».proof.Proof.Gen.ProductHeadRefIdeal
public import proofs.«01_k».proof.Proof.Gen.ProductHeadRefIdeal.Run
public import Idealize.ShloMosaic.Lib.Pipeline.Value
public import Idealize.ShloMosaic.Lib.Quiescent
public import Idealize.ShloMosaic.Lib.Pointwise

@[expose] public section

noncomputable section

namespace Cert.ProductHeadClaim

open Idealize.ShloMosaic Idealize.ShloMosaic.TcCoe Idealize.SL.Sem
open Idealize.ShloMosaic.Pipeline (Dat)
open Cert.ProductHeadIdeal Cert.ProductHeadIdeal.Gen

variable (m : (ℓ : Loc nD τ sig) → Buf (Elt Ideal) ℓ) (g : Dev nD → PrngReg)

open Cert.Rows
open Pipeline (accAt)

abbrev a (c : Dev nD) : S8320x1024.Idx → EReal := m ((c : Thread nD τ).loc main_arg0)
abbrev b (c : Dev nD) : S8320x512.Idx → EReal := m ((c : Thread nD τ).loc main_arg1)

theorem at0 : ∀ t : Fin cfg0.N, win0_0.index t 0 * win0_0.size 0 = t.val % 13 * 640 ∧ win0_0.index t 1 * win0_0.size 1 = t.val / 13 / 1 * 1024 :=
  (by decide +kernel : ∀ t : Fin grid0.N, win0_0.index t 0 * win0_0.size 0 = t.val % 13 * 640 ∧ win0_0.index t 1 * win0_0.size 1 = t.val / 13 / 1 * 1024)

theorem at1 : ∀ t : Fin cfg0.N, win0_1.index t 0 * win0_1.size 0 = t.val % 13 * 640 ∧ win0_1.index t 1 * win0_1.size 1 = t.val / 13 % 1 * 512 :=
  (by decide +kernel : ∀ t : Fin grid0.N, win0_1.index t 0 * win0_1.size 0 = t.val % 13 * 640 ∧ win0_1.index t 1 * win0_1.size 1 = t.val / 13 % 1 * 512)

/-- The row of the whole array that row `k` of tile `s` is. -/
def at' (s : ℕ) (k : Fin 640) : Fin 8320 := ⟨s % 13 * 640 + k.val, by have := k.isLt; omega⟩

theorem blk0 (c : Dev nD) (t : Fin cfg0.N) (k : Fin 640) (p : Fin 1024) (p' : Fin 1024) (h : p'.val = t.val / 13 / 1 * 1024 + p.val) :
    iblk m c 0 t (ix2 k p) = a m c (ix2 (at' t.val k) p') := by
  show a m c _ = _
  congr 1
  funext x
  apply Fin.ext
  match x with
  | ⟨0, _⟩ =>
    show win0_0.index t 0 * win0_0.size 0 + 1 * k.val = t.val % 13 * 640 + k.val
    rw [(at0 t).1]; omega
  | ⟨1, _⟩ =>
    show win0_0.index t 1 * win0_0.size 1 + 1 * p.val = p'.val
    rw [(at0 t).2]; omega

theorem blk1 (c : Dev nD) (t : Fin cfg0.N) (k : Fin 640) (q : Fin 512) (q' : Fin 512) (h : q'.val = t.val / 13 % 1 * 512 + q.val) :
    iblk m c 1 t (ix2 k q) = b m c (ix2 (at' t.val k) q') := by
  show b m c _ = _
  congr 1
  funext x
  apply Fin.ext
  match x with
  | ⟨0, _⟩ =>
    show win0_1.index t 0 * win0_1.size 0 + 1 * k.val = t.val % 13 * 640 + k.val
    rw [(at1 t).1]; omega
  | ⟨1, _⟩ =>
    show win0_1.index t 1 * win0_1.size 1 + 1 * q.val = q'.val
    rw [(at1 t).2]; omega

theorem pay1 (y : S1024x512.Idx) : (k0_pay1 (F := Ideal)) y = 0 := by
  simp only [k0_pay1, pointwise]

theorem pay2 (v3 : Vec Ideal S1024x512 .f32) (v5 : Vec Ideal S640x1024 .bf16) (v6 : Vec Ideal S640x512 .bf16) (p : Fin 1024) (q : Fin 512) :
    k0_pay2 v3 v5 v6 (ix2 p q) = v3 (ix2 p q) + ∑ k : Fin 640, v5 (ix2 k p) * v6 (ix2 k q) := by
  simp only [k0_pay2, pointwise, zero_add, shapeCast_self]

/-- What tile `s` adds at row `p` and column `q` of the product. -/
def part (c : Dev nD) (p : Fin 1024) (q : Fin 512) (s : ℕ) : EReal := ∑ k : Fin 640, a m c (ix2 (at' s k) p) * b m c (ix2 (at' s k) q)

theorem adds (c : Dev nD) (i : S1024x512.Idx) (j n : ℕ) (h : n < cfg0.N) (hn : n = 13 * Value.run2Of i + j) (hj : j < 13)
    (acc : Vec Ideal S1024x512 .f32) :
    k0_pay2 acc (iblk m c 0 ⟨n, h⟩) (iblk m c 1 ⟨n, h⟩) (Value.loc2Of i) = acc (Value.loc2Of i) + part m c (i 0) (i 1) j := by
  have h0 : (i 0).val < 1024 := (i 0).isLt
  have h1 : (i 1).val < 512 := (i 1).isLt
  have e : n = 13 * (1 * ((i 0).val / 1024 - 0) + 1 * ((i 1).val / 512 - 0)) + j := hn
  have hd : n / 13 = 1 * ((i 0).val / 1024) + (i 1).val / 512 := by omega
  have hm : n % 13 = j := by omega
  have hs : ∀ k, at' n k = at' j k := fun k => Fin.ext (by show n % 13 * 640 + k.val = j % 13 * 640 + k.val; omega)
  obtain ⟨p, q, hy⟩ : ∃ (p : Fin 1024) (q : Fin 512), Value.loc2Of i = ix2 p q := ⟨_, _, eq_ix2 _⟩
  have hp : p.val = (i 0).val % 1024 := (congrArg (fun z => (z 0).val) hy).symm
  have hq : q.val = (i 1).val % 512 := (congrArg (fun z => (z 1).val) hy).symm
  rw [hy, pay2]
  refine congrArg _ (Finset.sum_congr rfl fun k _ => ?_)
  rw [blk0 m c ⟨n, h⟩ k p (i 0) (by show (i 0).val = n / 13 / 1 * 1024 + p.val; omega),
    blk1 m c ⟨n, h⟩ k q (i 1) (by show (i 1).val = n / 13 % 1 * 512 + q.val; omega)]
  show a m c (ix2 (at' n k) (i 0)) * b m c (ix2 (at' n k) (i 1)) = _
  rw [hs]

theorem folds (c : Dev nD) (i : S1024x512.Idx) : ∀ (j : ℕ) (_ : j < 13) (h : 13 * Value.run2Of i + j < cfg0.N),
    accAt (Value.reset2 m c) (Value.step2 m c) (13 * Value.run2Of i) j h (Value.loc2Of i)
      = ∑ s ∈ Finset.range (j + 1), part m c (i 0) (i 1) s
  | 0, hj, h => by
    rw [Pipeline.accAt_zero, Finset.sum_range_one]
    refine (adds m c i 0 _ h rfl hj _).trans ?_
    rw [pay1, zero_add]
  | j + 1, hj, h => by
    rw [Pipeline.accAt_succ, Finset.sum_range_succ, ← folds c i j (by omega) (by omega)]
    exact adds m c i (j + 1) _ h rfl hj _

theorem total (c : Dev nD) (p : Fin 1024) (q : Fin 512) :
    ∑ s ∈ Finset.range 13, part m c p q s = ∑ k : Fin 8320, a m c (ix2 k p) * b m c (ix2 k q) := by
  rw [Finset.sum_range]
  refine Eq.trans ?_ (Fin.sum_univ_tiles 13 640 (by decide) fun k : Fin 8320 => a m c (ix2 k p) * b m c (ix2 k q)).symm
  refine Finset.sum_congr rfl fun s _ => Finset.sum_congr rfl fun k _ => ?_
  have hs : ∀ h, at' s.val k = ⟨s.val * 640 + k.val, h⟩ := fun h => Fin.ext (by
    show s.val % 13 * 640 + k.val = s.val * 640 + k.val
    rw [Nat.mod_eq_of_lt s.isLt])
  rw [hs]

theorem value (c : Dev nD) (i : S1024x512.Idx) :
    Value.G2 m c i = ∑ k : Fin 8320, a m c (ix2 k (i 0)) * b m c (ix2 k (i 1)) := by
  have h0 : (i 0).val < 1024 := (i 0).isLt
  have h1 : (i 1).val < 512 := (i 1).isLt
  have hN : cfg0.N = 13 := N_0
  have e : Value.run2Of i = 1 * ((i 0).val / 1024 - 0) + 1 * ((i 1).val / 512 - 0) := rfl
  unfold Value.G2
  rw [dif_pos (by omega), folds m c i 12 (by decide)]
  exact total m c (i 0) (i 1)

theorem frame_ideal : Cert.quiescent_ProductHeadIdeal := fun m g _ => Gen.frame m g

theorem frame : Cert.quiescent_ProductHead := fun m g _ => Cert.ProductHead.Gen.frame m g

theorem frame_ref : Cert.quiescent_ProductHeadRefIdeal := fun m g _ =>
  (θ_run Cert.ProductHeadRefIdeal.defs _ _).mono
    (fun r h => ⟨fun c => (h c).2, sem_eq_zero_of_no_sems (by decide) r.2⟩) (Cert.ProductHeadRefIdeal.Value.run m g)

theorem algebraic : Cert.algebraic_ProductHeadIdeal_ProductHeadRefIdeal := by
  intro m g m' g' _ hm
  refine ⟨fun c => Value.G2 m c, Value.run m g,
    (θ_run Cert.ProductHeadRefIdeal.defs _ _).mono (fun r h c => ?_) (Cert.ProductHeadRefIdeal.Value.run m' g')⟩
  obtain ⟨h2, hk⟩ := h c
  obtain ⟨a0, a1⟩ := hm c
  refine ⟨h2.trans ?_, hk⟩
  rw [a0, a1]
  clear hm h hk h2
  funext i
  refine Eq.trans ?_ (value m c i).symm
  simp only [pointwise, zero_add]

end Cert.ProductHeadClaim

end
-- ==== Proof.ProductRestClaim.lean ====
/-
What is claimed of a product of the weight gradients.
-/
module

public import proofs.«01_k».proof.Defs
public import proofs.«01_k».proof.Proof.Update
public import proofs.«01_k».proof.Proof.Rows
public import proofs.«01_k».proof.Proof.Gen.ProductRest
public import proofs.«01_k».proof.Proof.Gen.ProductRest.Frame
public import proofs.«01_k».proof.Proof.Gen.ProductRestIdeal
public import proofs.«01_k».proof.Proof.Gen.ProductRestIdeal.Value
public import proofs.«01_k».proof.Proof.Gen.ProductRestRefIdeal
public import proofs.«01_k».proof.Proof.Gen.ProductRestRefIdeal.Run
public import Idealize.ShloMosaic.Lib.Pipeline.Value
public import Idealize.ShloMosaic.Lib.Quiescent
public import Idealize.ShloMosaic.Lib.Pointwise

@[expose] public section

noncomputable section

namespace Cert.ProductRestClaim

open Idealize.ShloMosaic Idealize.ShloMosaic.TcCoe Idealize.SL.Sem
open Idealize.ShloMosaic.Pipeline (Dat)
open Cert.ProductRestIdeal Cert.ProductRestIdeal.Gen

variable (m : (ℓ : Loc nD τ sig) → Buf (Elt Ideal) ℓ) (g : Dev nD → PrngReg)

open Cert.Rows
open Pipeline (accAt)

abbrev a (c : Dev nD) : S8320x1024.Idx → EReal := m ((c : Thread nD τ).loc main_arg0)
abbrev b (c : Dev nD) : S8320x1408.Idx → EReal := m ((c : Thread nD τ).loc main_arg1)

theorem at0 : ∀ t : Fin cfg0.N, win0_0.index t 0 * win0_0.size 0 = t.val % 13 * 640 ∧ win0_0.index t 1 * win0_0.size 1 = t.val / 13 / 1 * 1024 :=
  (by decide +kernel : ∀ t : Fin grid0.N, win0_0.index t 0 * win0_0.size 0 = t.val % 13 * 640 ∧ win0_0.index t 1 * win0_0.size 1 = t.val / 13 / 1 * 1024)

theorem at1 : ∀ t : Fin cfg0.N, win0_1.index t 0 * win0_1.size 0 = t.val % 13 * 640 ∧ win0_1.index t 1 * win0_1.size 1 = t.val / 13 % 1 * 1408 :=
  (by decide +kernel : ∀ t : Fin grid0.N, win0_1.index t 0 * win0_1.size 0 = t.val % 13 * 640 ∧ win0_1.index t 1 * win0_1.size 1 = t.val / 13 % 1 * 1408)

/-- The row of the whole array that row `k` of tile `s` is. -/
def at' (s : ℕ) (k : Fin 640) : Fin 8320 := ⟨s % 13 * 640 + k.val, by have := k.isLt; omega⟩

theorem blk0 (c : Dev nD) (t : Fin cfg0.N) (k : Fin 640) (p : Fin 1024) (p' : Fin 1024) (h : p'.val = t.val / 13 / 1 * 1024 + p.val) :
    iblk m c 0 t (ix2 k p) = a m c (ix2 (at' t.val k) p') := by
  show a m c _ = _
  congr 1
  funext x
  apply Fin.ext
  match x with
  | ⟨0, _⟩ =>
    show win0_0.index t 0 * win0_0.size 0 + 1 * k.val = t.val % 13 * 640 + k.val
    rw [(at0 t).1]; omega
  | ⟨1, _⟩ =>
    show win0_0.index t 1 * win0_0.size 1 + 1 * p.val = p'.val
    rw [(at0 t).2]; omega

theorem blk1 (c : Dev nD) (t : Fin cfg0.N) (k : Fin 640) (q : Fin 1408) (q' : Fin 1408) (h : q'.val = t.val / 13 % 1 * 1408 + q.val) :
    iblk m c 1 t (ix2 k q) = b m c (ix2 (at' t.val k) q') := by
  show b m c _ = _
  congr 1
  funext x
  apply Fin.ext
  match x with
  | ⟨0, _⟩ =>
    show win0_1.index t 0 * win0_1.size 0 + 1 * k.val = t.val % 13 * 640 + k.val
    rw [(at1 t).1]; omega
  | ⟨1, _⟩ =>
    show win0_1.index t 1 * win0_1.size 1 + 1 * q.val = q'.val
    rw [(at1 t).2]; omega

theorem pay1 (y : S1024x1408.Idx) : (k0_pay1 (F := Ideal)) y = 0 := by
  simp only [k0_pay1, pointwise]

theorem pay2 (v3 : Vec Ideal S1024x1408 .f32) (v5 : Vec Ideal S640x1024 .bf16) (v6 : Vec Ideal S640x1408 .bf16) (p : Fin 1024) (q : Fin 1408) :
    k0_pay2 v3 v5 v6 (ix2 p q) = v3 (ix2 p q) + ∑ k : Fin 640, v5 (ix2 k p) * v6 (ix2 k q) := by
  simp only [k0_pay2, pointwise, zero_add, shapeCast_self]

/-- What tile `s` adds at row `p` and column `q` of the product. -/
def part (c : Dev nD) (p : Fin 1024) (q : Fin 1408) (s : ℕ) : EReal := ∑ k : Fin 640, a m c (ix2 (at' s k) p) * b m c (ix2 (at' s k) q)

theorem adds (c : Dev nD) (i : S1024x1408.Idx) (j n : ℕ) (h : n < cfg0.N) (hn : n = 13 * Value.run2Of i + j) (hj : j < 13)
    (acc : Vec Ideal S1024x1408 .f32) :
    k0_pay2 acc (iblk m c 0 ⟨n, h⟩) (iblk m c 1 ⟨n, h⟩) (Value.loc2Of i) = acc (Value.loc2Of i) + part m c (i 0) (i 1) j := by
  have h0 : (i 0).val < 1024 := (i 0).isLt
  have h1 : (i 1).val < 1408 := (i 1).isLt
  have e : n = 13 * (1 * ((i 0).val / 1024 - 0) + 1 * ((i 1).val / 1408 - 0)) + j := hn
  have hd : n / 13 = 1 * ((i 0).val / 1024) + (i 1).val / 1408 := by omega
  have hm : n % 13 = j := by omega
  have hs : ∀ k, at' n k = at' j k := fun k => Fin.ext (by show n % 13 * 640 + k.val = j % 13 * 640 + k.val; omega)
  obtain ⟨p, q, hy⟩ : ∃ (p : Fin 1024) (q : Fin 1408), Value.loc2Of i = ix2 p q := ⟨_, _, eq_ix2 _⟩
  have hp : p.val = (i 0).val % 1024 := (congrArg (fun z => (z 0).val) hy).symm
  have hq : q.val = (i 1).val % 1408 := (congrArg (fun z => (z 1).val) hy).symm
  rw [hy, pay2]
  refine congrArg _ (Finset.sum_congr rfl fun k _ => ?_)
  rw [blk0 m c ⟨n, h⟩ k p (i 0) (by show (i 0).val = n / 13 / 1 * 1024 + p.val; omega),
    blk1 m c ⟨n, h⟩ k q (i 1) (by show (i 1).val = n / 13 % 1 * 1408 + q.val; omega)]
  show a m c (ix2 (at' n k) (i 0)) * b m c (ix2 (at' n k) (i 1)) = _
  rw [hs]

theorem folds (c : Dev nD) (i : S1024x1408.Idx) : ∀ (j : ℕ) (_ : j < 13) (h : 13 * Value.run2Of i + j < cfg0.N),
    accAt (Value.reset2 m c) (Value.step2 m c) (13 * Value.run2Of i) j h (Value.loc2Of i)
      = ∑ s ∈ Finset.range (j + 1), part m c (i 0) (i 1) s
  | 0, hj, h => by
    rw [Pipeline.accAt_zero, Finset.sum_range_one]
    refine (adds m c i 0 _ h rfl hj _).trans ?_
    rw [pay1, zero_add]
  | j + 1, hj, h => by
    rw [Pipeline.accAt_succ, Finset.sum_range_succ, ← folds c i j (by omega) (by omega)]
    exact adds m c i (j + 1) _ h rfl hj _

theorem total (c : Dev nD) (p : Fin 1024) (q : Fin 1408) :
    ∑ s ∈ Finset.range 13, part m c p q s = ∑ k : Fin 8320, a m c (ix2 k p) * b m c (ix2 k q) := by
  rw [Finset.sum_range]
  refine Eq.trans ?_ (Fin.sum_univ_tiles 13 640 (by decide) fun k : Fin 8320 => a m c (ix2 k p) * b m c (ix2 k q)).symm
  refine Finset.sum_congr rfl fun s _ => Finset.sum_congr rfl fun k _ => ?_
  have hs : ∀ h, at' s.val k = ⟨s.val * 640 + k.val, h⟩ := fun h => Fin.ext (by
    show s.val % 13 * 640 + k.val = s.val * 640 + k.val
    rw [Nat.mod_eq_of_lt s.isLt])
  rw [hs]

theorem value (c : Dev nD) (i : S1024x1408.Idx) :
    Value.G2 m c i = ∑ k : Fin 8320, a m c (ix2 k (i 0)) * b m c (ix2 k (i 1)) := by
  have h0 : (i 0).val < 1024 := (i 0).isLt
  have h1 : (i 1).val < 1408 := (i 1).isLt
  have hN : cfg0.N = 13 := N_0
  have e : Value.run2Of i = 1 * ((i 0).val / 1024 - 0) + 1 * ((i 1).val / 1408 - 0) := rfl
  unfold Value.G2
  rw [dif_pos (by omega), folds m c i 12 (by decide)]
  exact total m c (i 0) (i 1)

theorem frame_ideal : Cert.quiescent_ProductRestIdeal := fun m g _ => Gen.frame m g

theorem frame : Cert.quiescent_ProductRest := fun m g _ => Cert.ProductRest.Gen.frame m g

theorem frame_ref : Cert.quiescent_ProductRestRefIdeal := fun m g _ =>
  (θ_run Cert.ProductRestRefIdeal.defs _ _).mono
    (fun r h => ⟨fun c => (h c).2, sem_eq_zero_of_no_sems (by decide) r.2⟩) (Cert.ProductRestRefIdeal.Value.run m g)

theorem algebraic : Cert.algebraic_ProductRestIdeal_ProductRestRefIdeal := by
  intro m g m' g' _ hm
  refine ⟨fun c => Value.G2 m c, Value.run m g,
    (θ_run Cert.ProductRestRefIdeal.defs _ _).mono (fun r h c => ?_) (Cert.ProductRestRefIdeal.Value.run m' g')⟩
  obtain ⟨h2, hk⟩ := h c
  obtain ⟨a0, a1⟩ := hm c
  refine ⟨h2.trans ?_, hk⟩
  rw [a0, a1]
  clear hm h hk h2
  funext i
  refine Eq.trans ?_ (value m c i).symm
  simp only [pointwise, zero_add]

end Cert.ProductRestClaim

end
-- ==== Proof.lean ====
module

public import proofs.«01_k».proof.Defs
public import proofs.«01_k».proof.Proof.GatherClaim
public import proofs.«01_k».proof.Proof.GradsClaim
public import proofs.«01_k».proof.Proof.SiblingClaim
public import proofs.«01_k».proof.Proof.UpdateInClaim
public import proofs.«01_k».proof.Proof.UpdateOutClaim
public import proofs.«01_k».proof.Proof.UpdateMlpClaim
public import proofs.«01_k».proof.Proof.UpdateSmallClaim
public import proofs.«01_k».proof.Proof.SumInClaim
public import proofs.«01_k».proof.Proof.SumOutClaim
public import proofs.«01_k».proof.Proof.SumMlpClaim
public import proofs.«01_k».proof.Proof.SumSmallClaim
public import proofs.«01_k».proof.Proof.LossClaim
public import proofs.«01_k».proof.Proof.ConvFwdClaim
public import proofs.«01_k».proof.Proof.MixOutClaim
public import proofs.«01_k».proof.Proof.ProjFwdClaim
public import proofs.«01_k».proof.Proof.MlpFwdClaim
public import proofs.«01_k».proof.Proof.MixBwdClaim
public import proofs.«01_k».proof.Proof.InBwdClaim
public import proofs.«01_k».proof.Proof.MlpBwdClaim
public import proofs.«01_k».proof.Proof.ProductDownClaim
public import proofs.«01_k».proof.Proof.ProductUpClaim
public import proofs.«01_k».proof.Proof.ProductOutClaim
public import proofs.«01_k».proof.Proof.ProductHeadClaim
public import proofs.«01_k».proof.Proof.ProductRestClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Grads.Gen.facts, Cert.GradsIdeal.Gen.facts, Cert.GradsRefIdeal.Gen.facts,
    Cert.Sibling.Gen.facts, Cert.SiblingIdeal.Gen.facts, Cert.SiblingRefIdeal.Gen.facts,
    Cert.UpdateIn.Gen.facts, Cert.UpdateInIdeal.Gen.facts, Cert.UpdateInRefIdeal.Gen.facts,
    Cert.UpdateOut.Gen.facts, Cert.UpdateOutIdeal.Gen.facts, Cert.UpdateOutRefIdeal.Gen.facts,
    Cert.UpdateMlp.Gen.facts, Cert.UpdateMlpIdeal.Gen.facts, Cert.UpdateMlpRefIdeal.Gen.facts,
    Cert.UpdateSmall.Gen.facts, Cert.UpdateSmallIdeal.Gen.facts, Cert.UpdateSmallRefIdeal.Gen.facts,
    Cert.SumIn.Gen.facts, Cert.SumInIdeal.Gen.facts, Cert.SumInRefIdeal.Gen.facts,
    Cert.SumOut.Gen.facts, Cert.SumOutIdeal.Gen.facts, Cert.SumOutRefIdeal.Gen.facts,
    Cert.SumMlp.Gen.facts, Cert.SumMlpIdeal.Gen.facts, Cert.SumMlpRefIdeal.Gen.facts,
    Cert.SumSmall.Gen.facts, Cert.SumSmallIdeal.Gen.facts, Cert.SumSmallRefIdeal.Gen.facts,
    Cert.Loss.Gen.facts, Cert.LossIdeal.Gen.facts, Cert.LossRefIdeal.Gen.facts,
    Cert.ConvFwd.Gen.facts, Cert.ConvFwdIdeal.Gen.facts, Cert.ConvFwdRefIdeal.Gen.facts,
    Cert.MixOut.Gen.facts, Cert.MixOutIdeal.Gen.facts, Cert.MixOutRefIdeal.Gen.facts,
    Cert.ProjFwd.Gen.facts, Cert.ProjFwdIdeal.Gen.facts, Cert.ProjFwdRefIdeal.Gen.facts,
    Cert.MlpFwd.Gen.facts, Cert.MlpFwdIdeal.Gen.facts, Cert.MlpFwdRefIdeal.Gen.facts,
    Cert.MixBwd.Gen.facts, Cert.MixBwdIdeal.Gen.facts, Cert.MixBwdRefIdeal.Gen.facts,
    Cert.InBwd.Gen.facts, Cert.InBwdIdeal.Gen.facts, Cert.InBwdRefIdeal.Gen.facts,
    Cert.MlpBwd.Gen.facts, Cert.MlpBwdIdeal.Gen.facts, Cert.MlpBwdRefIdeal.Gen.facts,
    Cert.ProductDown.Gen.facts, Cert.ProductDownIdeal.Gen.facts, Cert.ProductDownRefIdeal.Gen.facts,
    Cert.ProductUp.Gen.facts, Cert.ProductUpIdeal.Gen.facts, Cert.ProductUpRefIdeal.Gen.facts,
    Cert.ProductOut.Gen.facts, Cert.ProductOutIdeal.Gen.facts, Cert.ProductOutRefIdeal.Gen.facts,
    Cert.ProductHead.Gen.facts, Cert.ProductHeadIdeal.Gen.facts, Cert.ProductHeadRefIdeal.Gen.facts,
    Cert.ProductRest.Gen.facts, Cert.ProductRestIdeal.Gen.facts, Cert.ProductRestRefIdeal.Gen.facts,
    GatherClaim.frame, GatherClaim.frame_ideal, GatherClaim.frame_ref,
    GradsClaim.frame, GradsClaim.frame_ideal, GradsClaim.frame_ref,
    SiblingClaim.frame, SiblingClaim.frame_ideal, SiblingClaim.frame_ref,
    UpdateInClaim.frame, UpdateInClaim.frame_ideal, UpdateInClaim.frame_ref,
    UpdateOutClaim.frame, UpdateOutClaim.frame_ideal, UpdateOutClaim.frame_ref,
    UpdateMlpClaim.frame, UpdateMlpClaim.frame_ideal, UpdateMlpClaim.frame_ref,
    UpdateSmallClaim.frame, UpdateSmallClaim.frame_ideal, UpdateSmallClaim.frame_ref,
    SumInClaim.frame, SumInClaim.frame_ideal, SumInClaim.frame_ref,
    SumOutClaim.frame, SumOutClaim.frame_ideal, SumOutClaim.frame_ref,
    SumMlpClaim.frame, SumMlpClaim.frame_ideal, SumMlpClaim.frame_ref,
    SumSmallClaim.frame, SumSmallClaim.frame_ideal, SumSmallClaim.frame_ref,
    LossClaim.frame, LossClaim.frame_ideal, LossClaim.frame_ref,
    ConvFwdClaim.frame, ConvFwdClaim.frame_ideal, ConvFwdClaim.frame_ref,
    MixOutClaim.frame, MixOutClaim.frame_ideal, MixOutClaim.frame_ref,
    ProjFwdClaim.frame, ProjFwdClaim.frame_ideal, ProjFwdClaim.frame_ref,
    MlpFwdClaim.frame, MlpFwdClaim.frame_ideal, MlpFwdClaim.frame_ref,
    MixBwdClaim.frame, MixBwdClaim.frame_ideal, MixBwdClaim.frame_ref,
    InBwdClaim.frame, InBwdClaim.frame_ideal, InBwdClaim.frame_ref,
    MlpBwdClaim.frame, MlpBwdClaim.frame_ideal, MlpBwdClaim.frame_ref,
    ProductDownClaim.frame, ProductDownClaim.frame_ideal, ProductDownClaim.frame_ref,
    ProductUpClaim.frame, ProductUpClaim.frame_ideal, ProductUpClaim.frame_ref,
    ProductOutClaim.frame, ProductOutClaim.frame_ideal, ProductOutClaim.frame_ref,
    ProductHeadClaim.frame, ProductHeadClaim.frame_ideal, ProductHeadClaim.frame_ref,
    ProductRestClaim.frame, ProductRestClaim.frame_ideal, ProductRestClaim.frame_ref,
    trivial, GatherClaim.algebraic,
    trivial, GradsClaim.algebraic,
    trivial, SiblingClaim.algebraic,
    trivial, UpdateInClaim.algebraic,
    trivial, UpdateOutClaim.algebraic,
    trivial, UpdateMlpClaim.algebraic,
    trivial, UpdateSmallClaim.algebraic,
    trivial, SumInClaim.algebraic,
    trivial, SumOutClaim.algebraic,
    trivial, SumMlpClaim.algebraic,
    trivial, SumSmallClaim.algebraic,
    trivial, LossClaim.algebraic,
    trivial, ConvFwdClaim.algebraic,
    trivial, MixOutClaim.algebraic,
    trivial, ProjFwdClaim.algebraic,
    trivial, MlpFwdClaim.algebraic,
    trivial, MixBwdClaim.algebraic,
    trivial, InBwdClaim.algebraic,
    trivial, MlpBwdClaim.algebraic,
    trivial, ProductDownClaim.algebraic,
    trivial, ProductUpClaim.algebraic,
    trivial, ProductOutClaim.algebraic,
    trivial, ProductHeadClaim.algebraic,
    trivial, ProductRestClaim.algebraic⟩

end Cert.Proof

end
